-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardIdeal_finite_scores [hPre_finite_scores : Cert.Pre_finite_scores.Facts] (m : (ℓ : Loc Cert.ForwardIdeal.nD Cert.ForwardIdeal.τ Cert.ForwardIdeal.sig) → Buf (Elt Ideal) ℓ) : Prop :=
  ∀ c : Dev Cert.ForwardIdeal.nD,
    (Cert.Pre_finite_scores.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2))) = (fun _ => 1#1)

def Pre_ForwardReferenceIdeal (m : (ℓ : Loc Cert.ForwardReferenceIdeal.nD Cert.ForwardReferenceIdeal.τ Cert.ForwardReferenceIdeal.sig) → Buf (Elt Ideal) ℓ) : Prop :=
  True

def Pre_ForwardReferenceIdeal_finite_scores [hPre_finite_scores : Cert.Pre_finite_scores.Facts] (m : (ℓ : Loc Cert.ForwardReferenceIdeal.nD Cert.ForwardReferenceIdeal.τ Cert.ForwardReferenceIdeal.sig) → Buf (Elt Ideal) ℓ) : Prop :=
  ∀ c : Dev Cert.ForwardReferenceIdeal.nD,
    (Cert.Pre_finite_scores.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2))) = (fun _ => 1#1)

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpReferenceIdeal (m : (ℓ : Loc Cert.DwUpReferenceIdeal.nD Cert.DwUpReferenceIdeal.τ Cert.DwUpReferenceIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownReferenceIdeal (m : (ℓ : Loc Cert.DwDownReferenceIdeal.nD Cert.DwDownReferenceIdeal.τ Cert.DwDownReferenceIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactReferenceIdeal (m : (ℓ : Loc Cert.DactReferenceIdeal.nD Cert.DactReferenceIdeal.τ Cert.DactReferenceIdeal.sig) → Buf (Elt Ideal) ℓ) : Prop :=
  True

def Pre_DhGate (m : (ℓ : Loc Cert.DhGate.nD Cert.DhGate.τ Cert.DhGate.sig) → Buf (Elt Bits) ℓ) : Prop :=
  True

def Pre_DhGateIdeal (m : (ℓ : Loc Cert.DhGateIdeal.nD Cert.DhGateIdeal.τ Cert.DhGateIdeal.sig) → Buf (Elt Ideal) ℓ) : Prop :=
  True

def Pre_DhGateReferenceIdeal (m : (ℓ : Loc Cert.DhGateReferenceIdeal.nD Cert.DhGateReferenceIdeal.τ Cert.DhGateReferenceIdeal.sig) → Buf (Elt Ideal) ℓ) : Prop :=
  True

def Pre_DhValue (m : (ℓ : Loc Cert.DhValue.nD Cert.DhValue.τ Cert.DhValue.sig) → Buf (Elt Bits) ℓ) : Prop :=
  True

def Pre_DhValueIdeal (m : (ℓ : Loc Cert.DhValueIdeal.nD Cert.DhValueIdeal.τ Cert.DhValueIdeal.sig) → Buf (Elt Ideal) ℓ) : Prop :=
  True

def Pre_DhValueReferenceIdeal (m : (ℓ : Loc Cert.DhValueReferenceIdeal.nD Cert.DhValueReferenceIdeal.τ Cert.DhValueReferenceIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_DhIn (m : (ℓ : Loc Cert.DhIn.nD Cert.DhIn.τ Cert.DhIn.sig) → Buf (Elt Bits) ℓ) : Prop :=
  True

def Pre_DhInIdeal (m : (ℓ : Loc Cert.DhInIdeal.nD Cert.DhInIdeal.τ Cert.DhInIdeal.sig) → Buf (Elt Ideal) ℓ) : Prop :=
  True

def Pre_DhInReferenceIdeal (m : (ℓ : Loc Cert.DhInReferenceIdeal.nD Cert.DhInReferenceIdeal.τ Cert.DhInReferenceIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_Dycat (m : (ℓ : Loc Cert.Dycat.nD Cert.Dycat.τ Cert.Dycat.sig) → Buf (Elt Bits) ℓ) : Prop :=
  True

def Pre_DycatIdeal (m : (ℓ : Loc Cert.DycatIdeal.nD Cert.DycatIdeal.τ Cert.DycatIdeal.sig) → Buf (Elt Ideal) ℓ) : Prop :=
  True

def Pre_DycatReferenceIdeal (m : (ℓ : Loc Cert.DycatReferenceIdeal.nD Cert.DycatReferenceIdeal.τ Cert.DycatReferenceIdeal.sig) → Buf (Elt Ideal) ℓ) : Prop :=
  True

def Pre_MulIn (m : (ℓ : Loc Cert.MulIn.nD Cert.MulIn.τ Cert.MulIn.sig) → Buf (Elt Bits) ℓ) : Prop :=
  True

def Pre_MulInIdeal (m : (ℓ : Loc Cert.MulInIdeal.nD Cert.MulInIdeal.τ Cert.MulInIdeal.sig) → Buf (Elt Ideal) ℓ) : Prop :=
  True

def Pre_MulInReferenceIdeal (m : (ℓ : Loc Cert.MulInReferenceIdeal.nD Cert.MulInReferenceIdeal.τ Cert.MulInReferenceIdeal.sig) → Buf (Elt Ideal) ℓ) : Prop :=
  True

def Pre_MulOut (m : (ℓ : Loc Cert.MulOut.nD Cert.MulOut.τ Cert.MulOut.sig) → Buf (Elt Bits) ℓ) : Prop :=
  True

def Pre_MulOutIdeal (m : (ℓ : Loc Cert.MulOutIdeal.nD Cert.MulOutIdeal.τ Cert.MulOutIdeal.sig) → Buf (Elt Ideal) ℓ) : Prop :=
  True

def Pre_MulOutReferenceIdeal (m : (ℓ : Loc Cert.MulOutReferenceIdeal.nD Cert.MulOutReferenceIdeal.τ Cert.MulOutReferenceIdeal.sig) → Buf (Elt Ideal) ℓ) : Prop :=
  True

def Pre_MulUp (m : (ℓ : Loc Cert.MulUp.nD Cert.MulUp.τ Cert.MulUp.sig) → Buf (Elt Bits) ℓ) : Prop :=
  True

def Pre_MulUpIdeal (m : (ℓ : Loc Cert.MulUpIdeal.nD Cert.MulUpIdeal.τ Cert.MulUpIdeal.sig) → Buf (Elt Ideal) ℓ) : Prop :=
  True

def Pre_MulUpReferenceIdeal (m : (ℓ : Loc Cert.MulUpReferenceIdeal.nD Cert.MulUpReferenceIdeal.τ Cert.MulUpReferenceIdeal.sig) → Buf (Elt Ideal) ℓ) : Prop :=
  True

def Pre_MulDown (m : (ℓ : Loc Cert.MulDown.nD Cert.MulDown.τ Cert.MulDown.sig) → Buf (Elt Bits) ℓ) : Prop :=
  True

def Pre_MulDownIdeal (m : (ℓ : Loc Cert.MulDownIdeal.nD Cert.MulDownIdeal.τ Cert.MulDownIdeal.sig) → Buf (Elt Ideal) ℓ) : Prop :=
  True

def Pre_MulDownReferenceIdeal (m : (ℓ : Loc Cert.MulDownReferenceIdeal.nD Cert.MulDownReferenceIdeal.τ Cert.MulDownReferenceIdeal.sig) → Buf (Elt Ideal) ℓ) : Prop :=
  True

def Pre_MulUq (m : (ℓ : Loc Cert.MulUq.nD Cert.MulUq.τ Cert.MulUq.sig) → Buf (Elt Bits) ℓ) : Prop :=
  True

def Pre_MulUqIdeal (m : (ℓ : Loc Cert.MulUqIdeal.nD Cert.MulUqIdeal.τ Cert.MulUqIdeal.sig) → Buf (Elt Ideal) ℓ) : Prop :=
  True

def Pre_MulUqReferenceIdeal (m : (ℓ : Loc Cert.MulUqReferenceIdeal.nD Cert.MulUqReferenceIdeal.τ Cert.MulUqReferenceIdeal.sig) → Buf (Elt Ideal) ℓ) : Prop :=
  True

def Pre_MulUkv (m : (ℓ : Loc Cert.MulUkv.nD Cert.MulUkv.τ Cert.MulUkv.sig) → Buf (Elt Bits) ℓ) : Prop :=
  True

def Pre_MulUkvIdeal (m : (ℓ : Loc Cert.MulUkvIdeal.nD Cert.MulUkvIdeal.τ Cert.MulUkvIdeal.sig) → Buf (Elt Ideal) ℓ) : Prop :=
  True

def Pre_MulUkvReferenceIdeal (m : (ℓ : Loc Cert.MulUkvReferenceIdeal.nD Cert.MulUkvReferenceIdeal.τ Cert.MulUkvReferenceIdeal.sig) → Buf (Elt Ideal) ℓ) : Prop :=
  True

def Pre_DwUk (m : (ℓ : Loc Cert.DwUk.nD Cert.DwUk.τ Cert.DwUk.sig) → Buf (Elt Bits) ℓ) : Prop :=
  True

def Pre_DwUkIdeal (m : (ℓ : Loc Cert.DwUkIdeal.nD Cert.DwUkIdeal.τ Cert.DwUkIdeal.sig) → Buf (Elt Ideal) ℓ) : Prop :=
  True

def Pre_DwUkReferenceIdeal (m : (ℓ : Loc Cert.DwUkReferenceIdeal.nD Cert.DwUkReferenceIdeal.τ Cert.DwUkReferenceIdeal.sig) → Buf (Elt Ideal) ℓ) : Prop :=
  True

def Pre_DkvnKey (m : (ℓ : Loc Cert.DkvnKey.nD Cert.DkvnKey.τ Cert.DkvnKey.sig) → Buf (Elt Bits) ℓ) : Prop :=
  True

def Pre_DkvnKeyIdeal (m : (ℓ : Loc Cert.DkvnKeyIdeal.nD Cert.DkvnKeyIdeal.τ Cert.DkvnKeyIdeal.sig) → Buf (Elt Ideal) ℓ) : Prop :=
  True

def Pre_DkvnKeyReferenceIdeal (m : (ℓ : Loc Cert.DkvnKeyReferenceIdeal.nD Cert.DkvnKeyReferenceIdeal.τ Cert.DkvnKeyReferenceIdeal.sig) → Buf (Elt Ideal) ℓ) : Prop :=
  True

def Pre_DkvnValue (m : (ℓ : Loc Cert.DkvnValue.nD Cert.DkvnValue.τ Cert.DkvnValue.sig) → Buf (Elt Bits) ℓ) : Prop :=
  True

def Pre_DkvnValueIdeal (m : (ℓ : Loc Cert.DkvnValueIdeal.nD Cert.DkvnValueIdeal.τ Cert.DkvnValueIdeal.sig) → Buf (Elt Ideal) ℓ) : Prop :=
  True

def Pre_DkvnValueReferenceIdeal (m : (ℓ : Loc Cert.DkvnValueReferenceIdeal.nD Cert.DkvnValueReferenceIdeal.τ Cert.DkvnValueReferenceIdeal.sig) → Buf (Elt Ideal) ℓ) : Prop :=
  True

def Pre_DwUq (m : (ℓ : Loc Cert.DwUq.nD Cert.DwUq.τ Cert.DwUq.sig) → Buf (Elt Bits) ℓ) : Prop :=
  True

def Pre_DwUqIdeal (m : (ℓ : Loc Cert.DwUqIdeal.nD Cert.DwUqIdeal.τ Cert.DwUqIdeal.sig) → Buf (Elt Ideal) ℓ) : Prop :=
  True

def Pre_DwUqReferenceIdeal (m : (ℓ : Loc Cert.DwUqReferenceIdeal.nD Cert.DwUqReferenceIdeal.τ Cert.DwUqReferenceIdeal.sig) → Buf (Elt Ideal) ℓ) : Prop :=
  True

def Pre_Dqn (m : (ℓ : Loc Cert.Dqn.nD Cert.Dqn.τ Cert.Dqn.sig) → Buf (Elt Bits) ℓ) : Prop :=
  True

def Pre_DqnIdeal (m : (ℓ : Loc Cert.DqnIdeal.nD Cert.DqnIdeal.τ Cert.DqnIdeal.sig) → Buf (Elt Ideal) ℓ) : Prop :=
  True

def Pre_DqnReferenceIdeal (m : (ℓ : Loc Cert.DqnReferenceIdeal.nD Cert.DqnReferenceIdeal.τ Cert.DqnReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Dgate (m : (ℓ : Loc Cert.Dgate.nD Cert.Dgate.τ Cert.Dgate.sig) → Buf (Elt Bits) ℓ) : Prop :=
  True

def Pre_DgateIdeal (m : (ℓ : Loc Cert.DgateIdeal.nD Cert.DgateIdeal.τ Cert.DgateIdeal.sig) → Buf (Elt Ideal) ℓ) : Prop :=
  True

def Pre_DgateIdeal_finite_gate [hPre_finite_gate : Cert.Pre_finite_gate.Facts] (m : (ℓ : Loc Cert.DgateIdeal.nD Cert.DgateIdeal.τ Cert.DgateIdeal.sig) → Buf (Elt Ideal) ℓ) : Prop :=
  ∀ c : Dev Cert.DgateIdeal.nD,
    (Cert.Pre_finite_gate.fn (F := Ideal) (m ((c.tc : Thread Cert.DgateIdeal.nD Cert.DgateIdeal.τ).loc Cert.DgateIdeal.main_arg0)) (m ((c.tc : Thread Cert.DgateIdeal.nD Cert.DgateIdeal.τ).loc Cert.DgateIdeal.main_arg1)) (m ((c.tc : Thread Cert.DgateIdeal.nD Cert.DgateIdeal.τ).loc Cert.DgateIdeal.main_arg2)) (m ((c.tc : Thread Cert.DgateIdeal.nD Cert.DgateIdeal.τ).loc Cert.DgateIdeal.main_arg3))) = (fun _ => 1#1)

def Pre_DgateReferenceIdeal (m : (ℓ : Loc Cert.DgateReferenceIdeal.nD Cert.DgateReferenceIdeal.τ Cert.DgateReferenceIdeal.sig) → Buf (Elt Ideal) ℓ) : Prop :=
  True

def Pre_DgateReferenceIdeal_finite_gate [hPre_finite_gate : Cert.Pre_finite_gate.Facts] (m : (ℓ : Loc Cert.DgateReferenceIdeal.nD Cert.DgateReferenceIdeal.τ Cert.DgateReferenceIdeal.sig) → Buf (Elt Ideal) ℓ) : Prop :=
  ∀ c : Dev Cert.DgateReferenceIdeal.nD,
    (Cert.Pre_finite_gate.fn (F := Ideal) (m ((c.tc : Thread Cert.DgateReferenceIdeal.nD Cert.DgateReferenceIdeal.τ).loc Cert.DgateReferenceIdeal.main_arg0)) (m ((c.tc : Thread Cert.DgateReferenceIdeal.nD Cert.DgateReferenceIdeal.τ).loc Cert.DgateReferenceIdeal.main_arg1)) (m ((c.tc : Thread Cert.DgateReferenceIdeal.nD Cert.DgateReferenceIdeal.τ).loc Cert.DgateReferenceIdeal.main_arg2)) (m ((c.tc : Thread Cert.DgateReferenceIdeal.nD Cert.DgateReferenceIdeal.τ).loc Cert.DgateReferenceIdeal.main_arg3))) = (fun _ => 1#1)

def Pre_Dcq (m : (ℓ : Loc Cert.Dcq.nD Cert.Dcq.τ Cert.Dcq.sig) → Buf (Elt Bits) ℓ) : Prop :=
  True

def Pre_DcqIdeal (m : (ℓ : Loc Cert.DcqIdeal.nD Cert.DcqIdeal.τ Cert.DcqIdeal.sig) → Buf (Elt Ideal) ℓ) : Prop :=
  True

def Pre_DcqReferenceIdeal (m : (ℓ : Loc Cert.DcqReferenceIdeal.nD Cert.DcqReferenceIdeal.τ Cert.DcqReferenceIdeal.sig) → Buf (Elt Ideal) ℓ) : Prop :=
  True

def Pre_Dckv (m : (ℓ : Loc Cert.Dckv.nD Cert.Dckv.τ Cert.Dckv.sig) → Buf (Elt Bits) ℓ) : Prop :=
  True

def Pre_DckvIdeal (m : (ℓ : Loc Cert.DckvIdeal.nD Cert.DckvIdeal.τ Cert.DckvIdeal.sig) → Buf (Elt Ideal) ℓ) : Prop :=
  True

def Pre_DckvReferenceIdeal (m : (ℓ : Loc Cert.DckvReferenceIdeal.nD Cert.DckvReferenceIdeal.τ Cert.DckvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ r.2.sem = fun _ => 0)

def quiescent_ForwardIdeal_pre_finite_scores [hForwardIdeal : Cert.ForwardIdeal.Facts] [hPre_finite_scores : Cert.Pre_finite_scores.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal_finite_scores m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ r.2.sem = fun _ => 0)

def quiescent_ForwardReferenceIdeal [hForwardReferenceIdeal : Cert.ForwardReferenceIdeal.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2))
      ∧ r.2.sem = fun _ => 0)

def quiescent_ForwardReferenceIdeal_pre_finite_scores [hForwardReferenceIdeal : Cert.ForwardReferenceIdeal.Facts] [hPre_finite_scores : Cert.Pre_finite_scores.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal_finite_scores m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpReferenceIdeal [hDwUpReferenceIdeal : Cert.DwUpReferenceIdeal.Facts] : Prop :=
  ∀ (m : (ℓ : Loc Cert.DwUpReferenceIdeal.nD Cert.DwUpReferenceIdeal.τ Cert.DwUpReferenceIdeal.sig) → Buf (Elt Ideal) ℓ) (g : Dev Cert.DwUpReferenceIdeal.nD → PrngReg), Pre_DwUpReferenceIdeal m →
    θ_run (Cert.DwUpReferenceIdeal.defs (F := Ideal)) (onTc (τ := Cert.DwUpReferenceIdeal.τ) (Cert.DwUpReferenceIdeal.main (F := Ideal))) ⟨m, fun _ => 0, g⟩ (fun r => (∀ c : Dev Cert.DwUpReferenceIdeal.nD,
      r.2.mem ((c.tc : Thread Cert.DwUpReferenceIdeal.nD Cert.DwUpReferenceIdeal.τ).loc Cert.DwUpReferenceIdeal.main_arg0) = m ((c.tc : Thread Cert.DwUpReferenceIdeal.nD Cert.DwUpReferenceIdeal.τ).loc Cert.DwUpReferenceIdeal.main_arg0)
      ∧ r.2.mem ((c.tc : Thread Cert.DwUpReferenceIdeal.nD Cert.DwUpReferenceIdeal.τ).loc Cert.DwUpReferenceIdeal.main_arg1) = m ((c.tc : Thread Cert.DwUpReferenceIdeal.nD Cert.DwUpReferenceIdeal.τ).loc Cert.DwUpReferenceIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownReferenceIdeal [hDwDownReferenceIdeal : Cert.DwDownReferenceIdeal.Facts] : Prop :=
  ∀ (m : (ℓ : Loc Cert.DwDownReferenceIdeal.nD Cert.DwDownReferenceIdeal.τ Cert.DwDownReferenceIdeal.sig) → Buf (Elt Ideal) ℓ) (g : Dev Cert.DwDownReferenceIdeal.nD → PrngReg), Pre_DwDownReferenceIdeal m →
    θ_run (Cert.DwDownReferenceIdeal.defs (F := Ideal)) (onTc (τ := Cert.DwDownReferenceIdeal.τ) (Cert.DwDownReferenceIdeal.main (F := Ideal))) ⟨m, fun _ => 0, g⟩ (fun r => (∀ c : Dev Cert.DwDownReferenceIdeal.nD,
      r.2.mem ((c.tc : Thread Cert.DwDownReferenceIdeal.nD Cert.DwDownReferenceIdeal.τ).loc Cert.DwDownReferenceIdeal.main_arg0) = m ((c.tc : Thread Cert.DwDownReferenceIdeal.nD Cert.DwDownReferenceIdeal.τ).loc Cert.DwDownReferenceIdeal.main_arg0)
      ∧ r.2.mem ((c.tc : Thread Cert.DwDownReferenceIdeal.nD Cert.DwDownReferenceIdeal.τ).loc Cert.DwDownReferenceIdeal.main_arg1) = m ((c.tc : Thread Cert.DwDownReferenceIdeal.nD Cert.DwDownReferenceIdeal.τ).loc Cert.DwDownReferenceIdeal.main_arg1))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactReferenceIdeal [hDactReferenceIdeal : Cert.DactReferenceIdeal.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1))
      ∧ r.2.sem = fun _ => 0)

def quiescent_DhGate [hDhGate : Cert.DhGate.Facts] : Prop :=
  ∀ (m : (ℓ : Loc Cert.DhGate.nD Cert.DhGate.τ Cert.DhGate.sig) → Buf (Elt Bits) ℓ) (g : Dev Cert.DhGate.nD → PrngReg), Pre_DhGate m →
    θ_run (Cert.DhGate.defs (F := Bits)) (onTc (τ := Cert.DhGate.τ) (Cert.DhGate.main (F := Bits))) ⟨m, fun _ => 0, g⟩ (fun r => (∀ c : Dev Cert.DhGate.nD,
      r.2.mem ((c.tc : Thread Cert.DhGate.nD Cert.DhGate.τ).loc Cert.DhGate.main_arg0) = m ((c.tc : Thread Cert.DhGate.nD Cert.DhGate.τ).loc Cert.DhGate.main_arg0)
      ∧ r.2.mem ((c.tc : Thread Cert.DhGate.nD Cert.DhGate.τ).loc Cert.DhGate.main_arg1) = m ((c.tc : Thread Cert.DhGate.nD Cert.DhGate.τ).loc Cert.DhGate.main_arg1))
      ∧ r.2.sem = fun _ => 0)

def quiescent_DhGateIdeal [hDhGateIdeal : Cert.DhGateIdeal.Facts] : Prop :=
  ∀ (m : (ℓ : Loc Cert.DhGateIdeal.nD Cert.DhGateIdeal.τ Cert.DhGateIdeal.sig) → Buf (Elt Ideal) ℓ) (g : Dev Cert.DhGateIdeal.nD → PrngReg), Pre_DhGateIdeal m →
    θ_run (Cert.DhGateIdeal.defs (F := Ideal)) (onTc (τ := Cert.DhGateIdeal.τ) (Cert.DhGateIdeal.main (F := Ideal))) ⟨m, fun _ => 0, g⟩ (fun r => (∀ c : Dev Cert.DhGateIdeal.nD,
      r.2.mem ((c.tc : Thread Cert.DhGateIdeal.nD Cert.DhGateIdeal.τ).loc Cert.DhGateIdeal.main_arg0) = m ((c.tc : Thread Cert.DhGateIdeal.nD Cert.DhGateIdeal.τ).loc Cert.DhGateIdeal.main_arg0)
      ∧ r.2.mem ((c.tc : Thread Cert.DhGateIdeal.nD Cert.DhGateIdeal.τ).loc Cert.DhGateIdeal.main_arg1) = m ((c.tc : Thread Cert.DhGateIdeal.nD Cert.DhGateIdeal.τ).loc Cert.DhGateIdeal.main_arg1))
      ∧ r.2.sem = fun _ => 0)

def quiescent_DhGateReferenceIdeal [hDhGateReferenceIdeal : Cert.DhGateReferenceIdeal.Facts] : Prop :=
  ∀ (m : (ℓ : Loc Cert.DhGateReferenceIdeal.nD Cert.DhGateReferenceIdeal.τ Cert.DhGateReferenceIdeal.sig) → Buf (Elt Ideal) ℓ) (g : Dev Cert.DhGateReferenceIdeal.nD → PrngReg), Pre_DhGateReferenceIdeal m →
    θ_run (Cert.DhGateReferenceIdeal.defs (F := Ideal)) (onTc (τ := Cert.DhGateReferenceIdeal.τ) (Cert.DhGateReferenceIdeal.main (F := Ideal))) ⟨m, fun _ => 0, g⟩ (fun r => (∀ c : Dev Cert.DhGateReferenceIdeal.nD,
      r.2.mem ((c.tc : Thread Cert.DhGateReferenceIdeal.nD Cert.DhGateReferenceIdeal.τ).loc Cert.DhGateReferenceIdeal.main_arg0) = m ((c.tc : Thread Cert.DhGateReferenceIdeal.nD Cert.DhGateReferenceIdeal.τ).loc Cert.DhGateReferenceIdeal.main_arg0)
      ∧ r.2.mem ((c.tc : Thread Cert.DhGateReferenceIdeal.nD Cert.DhGateReferenceIdeal.τ).loc Cert.DhGateReferenceIdeal.main_arg1) = m ((c.tc : Thread Cert.DhGateReferenceIdeal.nD Cert.DhGateReferenceIdeal.τ).loc Cert.DhGateReferenceIdeal.main_arg1))
      ∧ r.2.sem = fun _ => 0)

def quiescent_DhValue [hDhValue : Cert.DhValue.Facts] : Prop :=
  ∀ (m : (ℓ : Loc Cert.DhValue.nD Cert.DhValue.τ Cert.DhValue.sig) → Buf (Elt Bits) ℓ) (g : Dev Cert.DhValue.nD → PrngReg), Pre_DhValue m →
    θ_run (Cert.DhValue.defs (F := Bits)) (onTc (τ := Cert.DhValue.τ) (Cert.DhValue.main (F := Bits))) ⟨m, fun _ => 0, g⟩ (fun r => (∀ c : Dev Cert.DhValue.nD,
      r.2.mem ((c.tc : Thread Cert.DhValue.nD Cert.DhValue.τ).loc Cert.DhValue.main_arg0) = m ((c.tc : Thread Cert.DhValue.nD Cert.DhValue.τ).loc Cert.DhValue.main_arg0)
      ∧ r.2.mem ((c.tc : Thread Cert.DhValue.nD Cert.DhValue.τ).loc Cert.DhValue.main_arg1) = m ((c.tc : Thread Cert.DhValue.nD Cert.DhValue.τ).loc Cert.DhValue.main_arg1)
      ∧ r.2.mem ((c.tc : Thread Cert.DhValue.nD Cert.DhValue.τ).loc Cert.DhValue.main_arg2) = m ((c.tc : Thread Cert.DhValue.nD Cert.DhValue.τ).loc Cert.DhValue.main_arg2))
      ∧ r.2.sem = fun _ => 0)

def quiescent_DhValueIdeal [hDhValueIdeal : Cert.DhValueIdeal.Facts] : Prop :=
  ∀ (m : (ℓ : Loc Cert.DhValueIdeal.nD Cert.DhValueIdeal.τ Cert.DhValueIdeal.sig) → Buf (Elt Ideal) ℓ) (g : Dev Cert.DhValueIdeal.nD → PrngReg), Pre_DhValueIdeal m →
    θ_run (Cert.DhValueIdeal.defs (F := Ideal)) (onTc (τ := Cert.DhValueIdeal.τ) (Cert.DhValueIdeal.main (F := Ideal))) ⟨m, fun _ => 0, g⟩ (fun r => (∀ c : Dev Cert.DhValueIdeal.nD,
      r.2.mem ((c.tc : Thread Cert.DhValueIdeal.nD Cert.DhValueIdeal.τ).loc Cert.DhValueIdeal.main_arg0) = m ((c.tc : Thread Cert.DhValueIdeal.nD Cert.DhValueIdeal.τ).loc Cert.DhValueIdeal.main_arg0)
      ∧ r.2.mem ((c.tc : Thread Cert.DhValueIdeal.nD Cert.DhValueIdeal.τ).loc Cert.DhValueIdeal.main_arg1) = m ((c.tc : Thread Cert.DhValueIdeal.nD Cert.DhValueIdeal.τ).loc Cert.DhValueIdeal.main_arg1)
      ∧ r.2.mem ((c.tc : Thread Cert.DhValueIdeal.nD Cert.DhValueIdeal.τ).loc Cert.DhValueIdeal.main_arg2) = m ((c.tc : Thread Cert.DhValueIdeal.nD Cert.DhValueIdeal.τ).loc Cert.DhValueIdeal.main_arg2))
      ∧ r.2.sem = fun _ => 0)

def quiescent_DhValueReferenceIdeal [hDhValueReferenceIdeal : Cert.DhValueReferenceIdeal.Facts] : Prop :=
  ∀ (m : (ℓ : Loc Cert.DhValueReferenceIdeal.nD Cert.DhValueReferenceIdeal.τ Cert.DhValueReferenceIdeal.sig) → Buf (Elt Ideal) ℓ) (g : Dev Cert.DhValueReferenceIdeal.nD → PrngReg), Pre_DhValueReferenceIdeal m →
    θ_run (Cert.DhValueReferenceIdeal.defs (F := Ideal)) (onTc (τ := Cert.DhValueReferenceIdeal.τ) (Cert.DhValueReferenceIdeal.main (F := Ideal))) ⟨m, fun _ => 0, g⟩ (fun r => (∀ c : Dev Cert.DhValueReferenceIdeal.nD,
      r.2.mem ((c.tc : Thread Cert.DhValueReferenceIdeal.nD Cert.DhValueReferenceIdeal.τ).loc Cert.DhValueReferenceIdeal.main_arg0) = m ((c.tc : Thread Cert.DhValueReferenceIdeal.nD Cert.DhValueReferenceIdeal.τ).loc Cert.DhValueReferenceIdeal.main_arg0)
      ∧ r.2.mem ((c.tc : Thread Cert.DhValueReferenceIdeal.nD Cert.DhValueReferenceIdeal.τ).loc Cert.DhValueReferenceIdeal.main_arg1) = m ((c.tc : Thread Cert.DhValueReferenceIdeal.nD Cert.DhValueReferenceIdeal.τ).loc Cert.DhValueReferenceIdeal.main_arg1)
      ∧ r.2.mem ((c.tc : Thread Cert.DhValueReferenceIdeal.nD Cert.DhValueReferenceIdeal.τ).loc Cert.DhValueReferenceIdeal.main_arg2) = m ((c.tc : Thread Cert.DhValueReferenceIdeal.nD Cert.DhValueReferenceIdeal.τ).loc Cert.DhValueReferenceIdeal.main_arg2))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1))
      ∧ r.2.sem = fun _ => 0)

def quiescent_DhIn [hDhIn : Cert.DhIn.Facts] : Prop :=
  ∀ (m : (ℓ : Loc Cert.DhIn.nD Cert.DhIn.τ Cert.DhIn.sig) → Buf (Elt Bits) ℓ) (g : Dev Cert.DhIn.nD → PrngReg), Pre_DhIn m →
    θ_run (Cert.DhIn.defs (F := Bits)) (onTc (τ := Cert.DhIn.τ) (Cert.DhIn.main (F := Bits))) ⟨m, fun _ => 0, g⟩ (fun r => (∀ c : Dev Cert.DhIn.nD,
      r.2.mem ((c.tc : Thread Cert.DhIn.nD Cert.DhIn.τ).loc Cert.DhIn.main_arg0) = m ((c.tc : Thread Cert.DhIn.nD Cert.DhIn.τ).loc Cert.DhIn.main_arg0)
      ∧ r.2.mem ((c.tc : Thread Cert.DhIn.nD Cert.DhIn.τ).loc Cert.DhIn.main_arg1) = m ((c.tc : Thread Cert.DhIn.nD Cert.DhIn.τ).loc Cert.DhIn.main_arg1))
      ∧ r.2.sem = fun _ => 0)

def quiescent_DhInIdeal [hDhInIdeal : Cert.DhInIdeal.Facts] : Prop :=
  ∀ (m : (ℓ : Loc Cert.DhInIdeal.nD Cert.DhInIdeal.τ Cert.DhInIdeal.sig) → Buf (Elt Ideal) ℓ) (g : Dev Cert.DhInIdeal.nD → PrngReg), Pre_DhInIdeal m →
    θ_run (Cert.DhInIdeal.defs (F := Ideal)) (onTc (τ := Cert.DhInIdeal.τ) (Cert.DhInIdeal.main (F := Ideal))) ⟨m, fun _ => 0, g⟩ (fun r => (∀ c : Dev Cert.DhInIdeal.nD,
      r.2.mem ((c.tc : Thread Cert.DhInIdeal.nD Cert.DhInIdeal.τ).loc Cert.DhInIdeal.main_arg0) = m ((c.tc : Thread Cert.DhInIdeal.nD Cert.DhInIdeal.τ).loc Cert.DhInIdeal.main_arg0)
      ∧ r.2.mem ((c.tc : Thread Cert.DhInIdeal.nD Cert.DhInIdeal.τ).loc Cert.DhInIdeal.main_arg1) = m ((c.tc : Thread Cert.DhInIdeal.nD Cert.DhInIdeal.τ).loc Cert.DhInIdeal.main_arg1))
      ∧ r.2.sem = fun _ => 0)

def quiescent_DhInReferenceIdeal [hDhInReferenceIdeal : Cert.DhInReferenceIdeal.Facts] : Prop :=
  ∀ (m : (ℓ : Loc Cert.DhInReferenceIdeal.nD Cert.DhInReferenceIdeal.τ Cert.DhInReferenceIdeal.sig) → Buf (Elt Ideal) ℓ) (g : Dev Cert.DhInReferenceIdeal.nD → PrngReg), Pre_DhInReferenceIdeal m →
    θ_run (Cert.DhInReferenceIdeal.defs (F := Ideal)) (onTc (τ := Cert.DhInReferenceIdeal.τ) (Cert.DhInReferenceIdeal.main (F := Ideal))) ⟨m, fun _ => 0, g⟩ (fun r => (∀ c : Dev Cert.DhInReferenceIdeal.nD,
      r.2.mem ((c.tc : Thread Cert.DhInReferenceIdeal.nD Cert.DhInReferenceIdeal.τ).loc Cert.DhInReferenceIdeal.main_arg0) = m ((c.tc : Thread Cert.DhInReferenceIdeal.nD Cert.DhInReferenceIdeal.τ).loc Cert.DhInReferenceIdeal.main_arg0)
      ∧ r.2.mem ((c.tc : Thread Cert.DhInReferenceIdeal.nD Cert.DhInReferenceIdeal.τ).loc Cert.DhInReferenceIdeal.main_arg1) = m ((c.tc : Thread Cert.DhInReferenceIdeal.nD Cert.DhInReferenceIdeal.τ).loc Cert.DhInReferenceIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_Dycat [hDycat : Cert.Dycat.Facts] : Prop :=
  ∀ (m : (ℓ : Loc Cert.Dycat.nD Cert.Dycat.τ Cert.Dycat.sig) → Buf (Elt Bits) ℓ) (g : Dev Cert.Dycat.nD → PrngReg), Pre_Dycat m →
    θ_run (Cert.Dycat.defs (F := Bits)) (onTc (τ := Cert.Dycat.τ) (Cert.Dycat.main (F := Bits))) ⟨m, fun _ => 0, g⟩ (fun r => (∀ c : Dev Cert.Dycat.nD,
      r.2.mem ((c.tc : Thread Cert.Dycat.nD Cert.Dycat.τ).loc Cert.Dycat.main_arg0) = m ((c.tc : Thread Cert.Dycat.nD Cert.Dycat.τ).loc Cert.Dycat.main_arg0)
      ∧ r.2.mem ((c.tc : Thread Cert.Dycat.nD Cert.Dycat.τ).loc Cert.Dycat.main_arg1) = m ((c.tc : Thread Cert.Dycat.nD Cert.Dycat.τ).loc Cert.Dycat.main_arg1))
      ∧ r.2.sem = fun _ => 0)

def quiescent_DycatIdeal [hDycatIdeal : Cert.DycatIdeal.Facts] : Prop :=
  ∀ (m : (ℓ : Loc Cert.DycatIdeal.nD Cert.DycatIdeal.τ Cert.DycatIdeal.sig) → Buf (Elt Ideal) ℓ) (g : Dev Cert.DycatIdeal.nD → PrngReg), Pre_DycatIdeal m →
    θ_run (Cert.DycatIdeal.defs (F := Ideal)) (onTc (τ := Cert.DycatIdeal.τ) (Cert.DycatIdeal.main (F := Ideal))) ⟨m, fun _ => 0, g⟩ (fun r => (∀ c : Dev Cert.DycatIdeal.nD,
      r.2.mem ((c.tc : Thread Cert.DycatIdeal.nD Cert.DycatIdeal.τ).loc Cert.DycatIdeal.main_arg0) = m ((c.tc : Thread Cert.DycatIdeal.nD Cert.DycatIdeal.τ).loc Cert.DycatIdeal.main_arg0)
      ∧ r.2.mem ((c.tc : Thread Cert.DycatIdeal.nD Cert.DycatIdeal.τ).loc Cert.DycatIdeal.main_arg1) = m ((c.tc : Thread Cert.DycatIdeal.nD Cert.DycatIdeal.τ).loc Cert.DycatIdeal.main_arg1))
      ∧ r.2.sem = fun _ => 0)

def quiescent_DycatReferenceIdeal [hDycatReferenceIdeal : Cert.DycatReferenceIdeal.Facts] : Prop :=
  ∀ (m : (ℓ : Loc Cert.DycatReferenceIdeal.nD Cert.DycatReferenceIdeal.τ Cert.DycatReferenceIdeal.sig) → Buf (Elt Ideal) ℓ) (g : Dev Cert.DycatReferenceIdeal.nD → PrngReg), Pre_DycatReferenceIdeal m →
    θ_run (Cert.DycatReferenceIdeal.defs (F := Ideal)) (onTc (τ := Cert.DycatReferenceIdeal.τ) (Cert.DycatReferenceIdeal.main (F := Ideal))) ⟨m, fun _ => 0, g⟩ (fun r => (∀ c : Dev Cert.DycatReferenceIdeal.nD,
      r.2.mem ((c.tc : Thread Cert.DycatReferenceIdeal.nD Cert.DycatReferenceIdeal.τ).loc Cert.DycatReferenceIdeal.main_arg0) = m ((c.tc : Thread Cert.DycatReferenceIdeal.nD Cert.DycatReferenceIdeal.τ).loc Cert.DycatReferenceIdeal.main_arg0)
      ∧ r.2.mem ((c.tc : Thread Cert.DycatReferenceIdeal.nD Cert.DycatReferenceIdeal.τ).loc Cert.DycatReferenceIdeal.main_arg1) = m ((c.tc : Thread Cert.DycatReferenceIdeal.nD Cert.DycatReferenceIdeal.τ).loc Cert.DycatReferenceIdeal.main_arg1))
      ∧ r.2.sem = fun _ => 0)

def quiescent_MulIn [hMulIn : Cert.MulIn.Facts] : Prop :=
  ∀ (m : (ℓ : Loc Cert.MulIn.nD Cert.MulIn.τ Cert.MulIn.sig) → Buf (Elt Bits) ℓ) (g : Dev Cert.MulIn.nD → PrngReg), Pre_MulIn m →
    θ_run (Cert.MulIn.defs (F := Bits)) (onTc (τ := Cert.MulIn.τ) (Cert.MulIn.main (F := Bits))) ⟨m, fun _ => 0, g⟩ (fun r => (∀ c : Dev Cert.MulIn.nD,
      r.2.mem ((c.tc : Thread Cert.MulIn.nD Cert.MulIn.τ).loc Cert.MulIn.main_arg0) = m ((c.tc : Thread Cert.MulIn.nD Cert.MulIn.τ).loc Cert.MulIn.main_arg0)
      ∧ r.2.mem ((c.tc : Thread Cert.MulIn.nD Cert.MulIn.τ).loc Cert.MulIn.main_arg1) = m ((c.tc : Thread Cert.MulIn.nD Cert.MulIn.τ).loc Cert.MulIn.main_arg1))
      ∧ r.2.sem = fun _ => 0)

def quiescent_MulInIdeal [hMulInIdeal : Cert.MulInIdeal.Facts] : Prop :=
  ∀ (m : (ℓ : Loc Cert.MulInIdeal.nD Cert.MulInIdeal.τ Cert.MulInIdeal.sig) → Buf (Elt Ideal) ℓ) (g : Dev Cert.MulInIdeal.nD → PrngReg), Pre_MulInIdeal m →
    θ_run (Cert.MulInIdeal.defs (F := Ideal)) (onTc (τ := Cert.MulInIdeal.τ) (Cert.MulInIdeal.main (F := Ideal))) ⟨m, fun _ => 0, g⟩ (fun r => (∀ c : Dev Cert.MulInIdeal.nD,
      r.2.mem ((c.tc : Thread Cert.MulInIdeal.nD Cert.MulInIdeal.τ).loc Cert.MulInIdeal.main_arg0) = m ((c.tc : Thread Cert.MulInIdeal.nD Cert.MulInIdeal.τ).loc Cert.MulInIdeal.main_arg0)
      ∧ r.2.mem ((c.tc : Thread Cert.MulInIdeal.nD Cert.MulInIdeal.τ).loc Cert.MulInIdeal.main_arg1) = m ((c.tc : Thread Cert.MulInIdeal.nD Cert.MulInIdeal.τ).loc Cert.MulInIdeal.main_arg1))
      ∧ r.2.sem = fun _ => 0)

def quiescent_MulInReferenceIdeal [hMulInReferenceIdeal : Cert.MulInReferenceIdeal.Facts] : Prop :=
  ∀ (m : (ℓ : Loc Cert.MulInReferenceIdeal.nD Cert.MulInReferenceIdeal.τ Cert.MulInReferenceIdeal.sig) → Buf (Elt Ideal) ℓ) (g : Dev Cert.MulInReferenceIdeal.nD → PrngReg), Pre_MulInReferenceIdeal m →
    θ_run (Cert.MulInReferenceIdeal.defs (F := Ideal)) (onTc (τ := Cert.MulInReferenceIdeal.τ) (Cert.MulInReferenceIdeal.main (F := Ideal))) ⟨m, fun _ => 0, g⟩ (fun r => (∀ c : Dev Cert.MulInReferenceIdeal.nD,
      r.2.mem ((c.tc : Thread Cert.MulInReferenceIdeal.nD Cert.MulInReferenceIdeal.τ).loc Cert.MulInReferenceIdeal.main_arg0) = m ((c.tc : Thread Cert.MulInReferenceIdeal.nD Cert.MulInReferenceIdeal.τ).loc Cert.MulInReferenceIdeal.main_arg0)
      ∧ r.2.mem ((c.tc : Thread Cert.MulInReferenceIdeal.nD Cert.MulInReferenceIdeal.τ).loc Cert.MulInReferenceIdeal.main_arg1) = m ((c.tc : Thread Cert.MulInReferenceIdeal.nD Cert.MulInReferenceIdeal.τ).loc Cert.MulInReferenceIdeal.main_arg1))
      ∧ r.2.sem = fun _ => 0)

def quiescent_MulOut [hMulOut : Cert.MulOut.Facts] : Prop :=
  ∀ (m : (ℓ : Loc Cert.MulOut.nD Cert.MulOut.τ Cert.MulOut.sig) → Buf (Elt Bits) ℓ) (g : Dev Cert.MulOut.nD → PrngReg), Pre_MulOut m →
    θ_run (Cert.MulOut.defs (F := Bits)) (onTc (τ := Cert.MulOut.τ) (Cert.MulOut.main (F := Bits))) ⟨m, fun _ => 0, g⟩ (fun r => (∀ c : Dev Cert.MulOut.nD,
      r.2.mem ((c.tc : Thread Cert.MulOut.nD Cert.MulOut.τ).loc Cert.MulOut.main_arg0) = m ((c.tc : Thread Cert.MulOut.nD Cert.MulOut.τ).loc Cert.MulOut.main_arg0)
      ∧ r.2.mem ((c.tc : Thread Cert.MulOut.nD Cert.MulOut.τ).loc Cert.MulOut.main_arg1) = m ((c.tc : Thread Cert.MulOut.nD Cert.MulOut.τ).loc Cert.MulOut.main_arg1)
      ∧ r.2.mem ((c.tc : Thread Cert.MulOut.nD Cert.MulOut.τ).loc Cert.MulOut.main_arg2) = m ((c.tc : Thread Cert.MulOut.nD Cert.MulOut.τ).loc Cert.MulOut.main_arg2))
      ∧ r.2.sem = fun _ => 0)

def quiescent_MulOutIdeal [hMulOutIdeal : Cert.MulOutIdeal.Facts] : Prop :=
  ∀ (m : (ℓ : Loc Cert.MulOutIdeal.nD Cert.MulOutIdeal.τ Cert.MulOutIdeal.sig) → Buf (Elt Ideal) ℓ) (g : Dev Cert.MulOutIdeal.nD → PrngReg), Pre_MulOutIdeal m →
    θ_run (Cert.MulOutIdeal.defs (F := Ideal)) (onTc (τ := Cert.MulOutIdeal.τ) (Cert.MulOutIdeal.main (F := Ideal))) ⟨m, fun _ => 0, g⟩ (fun r => (∀ c : Dev Cert.MulOutIdeal.nD,
      r.2.mem ((c.tc : Thread Cert.MulOutIdeal.nD Cert.MulOutIdeal.τ).loc Cert.MulOutIdeal.main_arg0) = m ((c.tc : Thread Cert.MulOutIdeal.nD Cert.MulOutIdeal.τ).loc Cert.MulOutIdeal.main_arg0)
      ∧ r.2.mem ((c.tc : Thread Cert.MulOutIdeal.nD Cert.MulOutIdeal.τ).loc Cert.MulOutIdeal.main_arg1) = m ((c.tc : Thread Cert.MulOutIdeal.nD Cert.MulOutIdeal.τ).loc Cert.MulOutIdeal.main_arg1)
      ∧ r.2.mem ((c.tc : Thread Cert.MulOutIdeal.nD Cert.MulOutIdeal.τ).loc Cert.MulOutIdeal.main_arg2) = m ((c.tc : Thread Cert.MulOutIdeal.nD Cert.MulOutIdeal.τ).loc Cert.MulOutIdeal.main_arg2))
      ∧ r.2.sem = fun _ => 0)

def quiescent_MulOutReferenceIdeal [hMulOutReferenceIdeal : Cert.MulOutReferenceIdeal.Facts] : Prop :=
  ∀ (m : (ℓ : Loc Cert.MulOutReferenceIdeal.nD Cert.MulOutReferenceIdeal.τ Cert.MulOutReferenceIdeal.sig) → Buf (Elt Ideal) ℓ) (g : Dev Cert.MulOutReferenceIdeal.nD → PrngReg), Pre_MulOutReferenceIdeal m →
    θ_run (Cert.MulOutReferenceIdeal.defs (F := Ideal)) (onTc (τ := Cert.MulOutReferenceIdeal.τ) (Cert.MulOutReferenceIdeal.main (F := Ideal))) ⟨m, fun _ => 0, g⟩ (fun r => (∀ c : Dev Cert.MulOutReferenceIdeal.nD,
      r.2.mem ((c.tc : Thread Cert.MulOutReferenceIdeal.nD Cert.MulOutReferenceIdeal.τ).loc Cert.MulOutReferenceIdeal.main_arg0) = m ((c.tc : Thread Cert.MulOutReferenceIdeal.nD Cert.MulOutReferenceIdeal.τ).loc Cert.MulOutReferenceIdeal.main_arg0)
      ∧ r.2.mem ((c.tc : Thread Cert.MulOutReferenceIdeal.nD Cert.MulOutReferenceIdeal.τ).loc Cert.MulOutReferenceIdeal.main_arg1) = m ((c.tc : Thread Cert.MulOutReferenceIdeal.nD Cert.MulOutReferenceIdeal.τ).loc Cert.MulOutReferenceIdeal.main_arg1)
      ∧ r.2.mem ((c.tc : Thread Cert.MulOutReferenceIdeal.nD Cert.MulOutReferenceIdeal.τ).loc Cert.MulOutReferenceIdeal.main_arg2) = m ((c.tc : Thread Cert.MulOutReferenceIdeal.nD Cert.MulOutReferenceIdeal.τ).loc Cert.MulOutReferenceIdeal.main_arg2))
      ∧ r.2.sem = fun _ => 0)

def quiescent_MulUp [hMulUp : Cert.MulUp.Facts] : Prop :=
  ∀ (m : (ℓ : Loc Cert.MulUp.nD Cert.MulUp.τ Cert.MulUp.sig) → Buf (Elt Bits) ℓ) (g : Dev Cert.MulUp.nD → PrngReg), Pre_MulUp m →
    θ_run (Cert.MulUp.defs (F := Bits)) (onTc (τ := Cert.MulUp.τ) (Cert.MulUp.main (F := Bits))) ⟨m, fun _ => 0, g⟩ (fun r => (∀ c : Dev Cert.MulUp.nD,
      r.2.mem ((c.tc : Thread Cert.MulUp.nD Cert.MulUp.τ).loc Cert.MulUp.main_arg0) = m ((c.tc : Thread Cert.MulUp.nD Cert.MulUp.τ).loc Cert.MulUp.main_arg0)
      ∧ r.2.mem ((c.tc : Thread Cert.MulUp.nD Cert.MulUp.τ).loc Cert.MulUp.main_arg1) = m ((c.tc : Thread Cert.MulUp.nD Cert.MulUp.τ).loc Cert.MulUp.main_arg1))
      ∧ r.2.sem = fun _ => 0)

def quiescent_MulUpIdeal [hMulUpIdeal : Cert.MulUpIdeal.Facts] : Prop :=
  ∀ (m : (ℓ : Loc Cert.MulUpIdeal.nD Cert.MulUpIdeal.τ Cert.MulUpIdeal.sig) → Buf (Elt Ideal) ℓ) (g : Dev Cert.MulUpIdeal.nD → PrngReg), Pre_MulUpIdeal m →
    θ_run (Cert.MulUpIdeal.defs (F := Ideal)) (onTc (τ := Cert.MulUpIdeal.τ) (Cert.MulUpIdeal.main (F := Ideal))) ⟨m, fun _ => 0, g⟩ (fun r => (∀ c : Dev Cert.MulUpIdeal.nD,
      r.2.mem ((c.tc : Thread Cert.MulUpIdeal.nD Cert.MulUpIdeal.τ).loc Cert.MulUpIdeal.main_arg0) = m ((c.tc : Thread Cert.MulUpIdeal.nD Cert.MulUpIdeal.τ).loc Cert.MulUpIdeal.main_arg0)
      ∧ r.2.mem ((c.tc : Thread Cert.MulUpIdeal.nD Cert.MulUpIdeal.τ).loc Cert.MulUpIdeal.main_arg1) = m ((c.tc : Thread Cert.MulUpIdeal.nD Cert.MulUpIdeal.τ).loc Cert.MulUpIdeal.main_arg1))
      ∧ r.2.sem = fun _ => 0)

def quiescent_MulUpReferenceIdeal [hMulUpReferenceIdeal : Cert.MulUpReferenceIdeal.Facts] : Prop :=
  ∀ (m : (ℓ : Loc Cert.MulUpReferenceIdeal.nD Cert.MulUpReferenceIdeal.τ Cert.MulUpReferenceIdeal.sig) → Buf (Elt Ideal) ℓ) (g : Dev Cert.MulUpReferenceIdeal.nD → PrngReg), Pre_MulUpReferenceIdeal m →
    θ_run (Cert.MulUpReferenceIdeal.defs (F := Ideal)) (onTc (τ := Cert.MulUpReferenceIdeal.τ) (Cert.MulUpReferenceIdeal.main (F := Ideal))) ⟨m, fun _ => 0, g⟩ (fun r => (∀ c : Dev Cert.MulUpReferenceIdeal.nD,
      r.2.mem ((c.tc : Thread Cert.MulUpReferenceIdeal.nD Cert.MulUpReferenceIdeal.τ).loc Cert.MulUpReferenceIdeal.main_arg0) = m ((c.tc : Thread Cert.MulUpReferenceIdeal.nD Cert.MulUpReferenceIdeal.τ).loc Cert.MulUpReferenceIdeal.main_arg0)
      ∧ r.2.mem ((c.tc : Thread Cert.MulUpReferenceIdeal.nD Cert.MulUpReferenceIdeal.τ).loc Cert.MulUpReferenceIdeal.main_arg1) = m ((c.tc : Thread Cert.MulUpReferenceIdeal.nD Cert.MulUpReferenceIdeal.τ).loc Cert.MulUpReferenceIdeal.main_arg1))
      ∧ r.2.sem = fun _ => 0)

def quiescent_MulDown [hMulDown : Cert.MulDown.Facts] : Prop :=
  ∀ (m : (ℓ : Loc Cert.MulDown.nD Cert.MulDown.τ Cert.MulDown.sig) → Buf (Elt Bits) ℓ) (g : Dev Cert.MulDown.nD → PrngReg), Pre_MulDown m →
    θ_run (Cert.MulDown.defs (F := Bits)) (onTc (τ := Cert.MulDown.τ) (Cert.MulDown.main (F := Bits))) ⟨m, fun _ => 0, g⟩ (fun r => (∀ c : Dev Cert.MulDown.nD,
      r.2.mem ((c.tc : Thread Cert.MulDown.nD Cert.MulDown.τ).loc Cert.MulDown.main_arg0) = m ((c.tc : Thread Cert.MulDown.nD Cert.MulDown.τ).loc Cert.MulDown.main_arg0)
      ∧ r.2.mem ((c.tc : Thread Cert.MulDown.nD Cert.MulDown.τ).loc Cert.MulDown.main_arg1) = m ((c.tc : Thread Cert.MulDown.nD Cert.MulDown.τ).loc Cert.MulDown.main_arg1)
      ∧ r.2.mem ((c.tc : Thread Cert.MulDown.nD Cert.MulDown.τ).loc Cert.MulDown.main_arg2) = m ((c.tc : Thread Cert.MulDown.nD Cert.MulDown.τ).loc Cert.MulDown.main_arg2))
      ∧ r.2.sem = fun _ => 0)

def quiescent_MulDownIdeal [hMulDownIdeal : Cert.MulDownIdeal.Facts] : Prop :=
  ∀ (m : (ℓ : Loc Cert.MulDownIdeal.nD Cert.MulDownIdeal.τ Cert.MulDownIdeal.sig) → Buf (Elt Ideal) ℓ) (g : Dev Cert.MulDownIdeal.nD → PrngReg), Pre_MulDownIdeal m →
    θ_run (Cert.MulDownIdeal.defs (F := Ideal)) (onTc (τ := Cert.MulDownIdeal.τ) (Cert.MulDownIdeal.main (F := Ideal))) ⟨m, fun _ => 0, g⟩ (fun r => (∀ c : Dev Cert.MulDownIdeal.nD,
      r.2.mem ((c.tc : Thread Cert.MulDownIdeal.nD Cert.MulDownIdeal.τ).loc Cert.MulDownIdeal.main_arg0) = m ((c.tc : Thread Cert.MulDownIdeal.nD Cert.MulDownIdeal.τ).loc Cert.MulDownIdeal.main_arg0)
      ∧ r.2.mem ((c.tc : Thread Cert.MulDownIdeal.nD Cert.MulDownIdeal.τ).loc Cert.MulDownIdeal.main_arg1) = m ((c.tc : Thread Cert.MulDownIdeal.nD Cert.MulDownIdeal.τ).loc Cert.MulDownIdeal.main_arg1)
      ∧ r.2.mem ((c.tc : Thread Cert.MulDownIdeal.nD Cert.MulDownIdeal.τ).loc Cert.MulDownIdeal.main_arg2) = m ((c.tc : Thread Cert.MulDownIdeal.nD Cert.MulDownIdeal.τ).loc Cert.MulDownIdeal.main_arg2))
      ∧ r.2.sem = fun _ => 0)

def quiescent_MulDownReferenceIdeal [hMulDownReferenceIdeal : Cert.MulDownReferenceIdeal.Facts] : Prop :=
  ∀ (m : (ℓ : Loc Cert.MulDownReferenceIdeal.nD Cert.MulDownReferenceIdeal.τ Cert.MulDownReferenceIdeal.sig) → Buf (Elt Ideal) ℓ) (g : Dev Cert.MulDownReferenceIdeal.nD → PrngReg), Pre_MulDownReferenceIdeal m →
    θ_run (Cert.MulDownReferenceIdeal.defs (F := Ideal)) (onTc (τ := Cert.MulDownReferenceIdeal.τ) (Cert.MulDownReferenceIdeal.main (F := Ideal))) ⟨m, fun _ => 0, g⟩ (fun r => (∀ c : Dev Cert.MulDownReferenceIdeal.nD,
      r.2.mem ((c.tc : Thread Cert.MulDownReferenceIdeal.nD Cert.MulDownReferenceIdeal.τ).loc Cert.MulDownReferenceIdeal.main_arg0) = m ((c.tc : Thread Cert.MulDownReferenceIdeal.nD Cert.MulDownReferenceIdeal.τ).loc Cert.MulDownReferenceIdeal.main_arg0)
      ∧ r.2.mem ((c.tc : Thread Cert.MulDownReferenceIdeal.nD Cert.MulDownReferenceIdeal.τ).loc Cert.MulDownReferenceIdeal.main_arg1) = m ((c.tc : Thread Cert.MulDownReferenceIdeal.nD Cert.MulDownReferenceIdeal.τ).loc Cert.MulDownReferenceIdeal.main_arg1)
      ∧ r.2.mem ((c.tc : Thread Cert.MulDownReferenceIdeal.nD Cert.MulDownReferenceIdeal.τ).loc Cert.MulDownReferenceIdeal.main_arg2) = m ((c.tc : Thread Cert.MulDownReferenceIdeal.nD Cert.MulDownReferenceIdeal.τ).loc Cert.MulDownReferenceIdeal.main_arg2))
      ∧ r.2.sem = fun _ => 0)

def quiescent_MulUq [hMulUq : Cert.MulUq.Facts] : Prop :=
  ∀ (m : (ℓ : Loc Cert.MulUq.nD Cert.MulUq.τ Cert.MulUq.sig) → Buf (Elt Bits) ℓ) (g : Dev Cert.MulUq.nD → PrngReg), Pre_MulUq m →
    θ_run (Cert.MulUq.defs (F := Bits)) (onTc (τ := Cert.MulUq.τ) (Cert.MulUq.main (F := Bits))) ⟨m, fun _ => 0, g⟩ (fun r => (∀ c : Dev Cert.MulUq.nD,
      r.2.mem ((c.tc : Thread Cert.MulUq.nD Cert.MulUq.τ).loc Cert.MulUq.main_arg0) = m ((c.tc : Thread Cert.MulUq.nD Cert.MulUq.τ).loc Cert.MulUq.main_arg0)
      ∧ r.2.mem ((c.tc : Thread Cert.MulUq.nD Cert.MulUq.τ).loc Cert.MulUq.main_arg1) = m ((c.tc : Thread Cert.MulUq.nD Cert.MulUq.τ).loc Cert.MulUq.main_arg1))
      ∧ r.2.sem = fun _ => 0)

def quiescent_MulUqIdeal [hMulUqIdeal : Cert.MulUqIdeal.Facts] : Prop :=
  ∀ (m : (ℓ : Loc Cert.MulUqIdeal.nD Cert.MulUqIdeal.τ Cert.MulUqIdeal.sig) → Buf (Elt Ideal) ℓ) (g : Dev Cert.MulUqIdeal.nD → PrngReg), Pre_MulUqIdeal m →
    θ_run (Cert.MulUqIdeal.defs (F := Ideal)) (onTc (τ := Cert.MulUqIdeal.τ) (Cert.MulUqIdeal.main (F := Ideal))) ⟨m, fun _ => 0, g⟩ (fun r => (∀ c : Dev Cert.MulUqIdeal.nD,
      r.2.mem ((c.tc : Thread Cert.MulUqIdeal.nD Cert.MulUqIdeal.τ).loc Cert.MulUqIdeal.main_arg0) = m ((c.tc : Thread Cert.MulUqIdeal.nD Cert.MulUqIdeal.τ).loc Cert.MulUqIdeal.main_arg0)
      ∧ r.2.mem ((c.tc : Thread Cert.MulUqIdeal.nD Cert.MulUqIdeal.τ).loc Cert.MulUqIdeal.main_arg1) = m ((c.tc : Thread Cert.MulUqIdeal.nD Cert.MulUqIdeal.τ).loc Cert.MulUqIdeal.main_arg1))
      ∧ r.2.sem = fun _ => 0)

def quiescent_MulUqReferenceIdeal [hMulUqReferenceIdeal : Cert.MulUqReferenceIdeal.Facts] : Prop :=
  ∀ (m : (ℓ : Loc Cert.MulUqReferenceIdeal.nD Cert.MulUqReferenceIdeal.τ Cert.MulUqReferenceIdeal.sig) → Buf (Elt Ideal) ℓ) (g : Dev Cert.MulUqReferenceIdeal.nD → PrngReg), Pre_MulUqReferenceIdeal m →
    θ_run (Cert.MulUqReferenceIdeal.defs (F := Ideal)) (onTc (τ := Cert.MulUqReferenceIdeal.τ) (Cert.MulUqReferenceIdeal.main (F := Ideal))) ⟨m, fun _ => 0, g⟩ (fun r => (∀ c : Dev Cert.MulUqReferenceIdeal.nD,
      r.2.mem ((c.tc : Thread Cert.MulUqReferenceIdeal.nD Cert.MulUqReferenceIdeal.τ).loc Cert.MulUqReferenceIdeal.main_arg0) = m ((c.tc : Thread Cert.MulUqReferenceIdeal.nD Cert.MulUqReferenceIdeal.τ).loc Cert.MulUqReferenceIdeal.main_arg0)
      ∧ r.2.mem ((c.tc : Thread Cert.MulUqReferenceIdeal.nD Cert.MulUqReferenceIdeal.τ).loc Cert.MulUqReferenceIdeal.main_arg1) = m ((c.tc : Thread Cert.MulUqReferenceIdeal.nD Cert.MulUqReferenceIdeal.τ).loc Cert.MulUqReferenceIdeal.main_arg1))
      ∧ r.2.sem = fun _ => 0)

def quiescent_MulUkv [hMulUkv : Cert.MulUkv.Facts] : Prop :=
  ∀ (m : (ℓ : Loc Cert.MulUkv.nD Cert.MulUkv.τ Cert.MulUkv.sig) → Buf (Elt Bits) ℓ) (g : Dev Cert.MulUkv.nD → PrngReg), Pre_MulUkv m →
    θ_run (Cert.MulUkv.defs (F := Bits)) (onTc (τ := Cert.MulUkv.τ) (Cert.MulUkv.main (F := Bits))) ⟨m, fun _ => 0, g⟩ (fun r => (∀ c : Dev Cert.MulUkv.nD,
      r.2.mem ((c.tc : Thread Cert.MulUkv.nD Cert.MulUkv.τ).loc Cert.MulUkv.main_arg0) = m ((c.tc : Thread Cert.MulUkv.nD Cert.MulUkv.τ).loc Cert.MulUkv.main_arg0)
      ∧ r.2.mem ((c.tc : Thread Cert.MulUkv.nD Cert.MulUkv.τ).loc Cert.MulUkv.main_arg1) = m ((c.tc : Thread Cert.MulUkv.nD Cert.MulUkv.τ).loc Cert.MulUkv.main_arg1))
      ∧ r.2.sem = fun _ => 0)

def quiescent_MulUkvIdeal [hMulUkvIdeal : Cert.MulUkvIdeal.Facts] : Prop :=
  ∀ (m : (ℓ : Loc Cert.MulUkvIdeal.nD Cert.MulUkvIdeal.τ Cert.MulUkvIdeal.sig) → Buf (Elt Ideal) ℓ) (g : Dev Cert.MulUkvIdeal.nD → PrngReg), Pre_MulUkvIdeal m →
    θ_run (Cert.MulUkvIdeal.defs (F := Ideal)) (onTc (τ := Cert.MulUkvIdeal.τ) (Cert.MulUkvIdeal.main (F := Ideal))) ⟨m, fun _ => 0, g⟩ (fun r => (∀ c : Dev Cert.MulUkvIdeal.nD,
      r.2.mem ((c.tc : Thread Cert.MulUkvIdeal.nD Cert.MulUkvIdeal.τ).loc Cert.MulUkvIdeal.main_arg0) = m ((c.tc : Thread Cert.MulUkvIdeal.nD Cert.MulUkvIdeal.τ).loc Cert.MulUkvIdeal.main_arg0)
      ∧ r.2.mem ((c.tc : Thread Cert.MulUkvIdeal.nD Cert.MulUkvIdeal.τ).loc Cert.MulUkvIdeal.main_arg1) = m ((c.tc : Thread Cert.MulUkvIdeal.nD Cert.MulUkvIdeal.τ).loc Cert.MulUkvIdeal.main_arg1))
      ∧ r.2.sem = fun _ => 0)

def quiescent_MulUkvReferenceIdeal [hMulUkvReferenceIdeal : Cert.MulUkvReferenceIdeal.Facts] : Prop :=
  ∀ (m : (ℓ : Loc Cert.MulUkvReferenceIdeal.nD Cert.MulUkvReferenceIdeal.τ Cert.MulUkvReferenceIdeal.sig) → Buf (Elt Ideal) ℓ) (g : Dev Cert.MulUkvReferenceIdeal.nD → PrngReg), Pre_MulUkvReferenceIdeal m →
    θ_run (Cert.MulUkvReferenceIdeal.defs (F := Ideal)) (onTc (τ := Cert.MulUkvReferenceIdeal.τ) (Cert.MulUkvReferenceIdeal.main (F := Ideal))) ⟨m, fun _ => 0, g⟩ (fun r => (∀ c : Dev Cert.MulUkvReferenceIdeal.nD,
      r.2.mem ((c.tc : Thread Cert.MulUkvReferenceIdeal.nD Cert.MulUkvReferenceIdeal.τ).loc Cert.MulUkvReferenceIdeal.main_arg0) = m ((c.tc : Thread Cert.MulUkvReferenceIdeal.nD Cert.MulUkvReferenceIdeal.τ).loc Cert.MulUkvReferenceIdeal.main_arg0)
      ∧ r.2.mem ((c.tc : Thread Cert.MulUkvReferenceIdeal.nD Cert.MulUkvReferenceIdeal.τ).loc Cert.MulUkvReferenceIdeal.main_arg1) = m ((c.tc : Thread Cert.MulUkvReferenceIdeal.nD Cert.MulUkvReferenceIdeal.τ).loc Cert.MulUkvReferenceIdeal.main_arg1))
      ∧ r.2.sem = fun _ => 0)

def quiescent_DwUk [hDwUk : Cert.DwUk.Facts] : Prop :=
  ∀ (m : (ℓ : Loc Cert.DwUk.nD Cert.DwUk.τ Cert.DwUk.sig) → Buf (Elt Bits) ℓ) (g : Dev Cert.DwUk.nD → PrngReg), Pre_DwUk m →
    θ_run (Cert.DwUk.defs (F := Bits)) (onTc (τ := Cert.DwUk.τ) (Cert.DwUk.main (F := Bits))) ⟨m, fun _ => 0, g⟩ (fun r => (∀ c : Dev Cert.DwUk.nD,
      r.2.mem ((c.tc : Thread Cert.DwUk.nD Cert.DwUk.τ).loc Cert.DwUk.main_arg0) = m ((c.tc : Thread Cert.DwUk.nD Cert.DwUk.τ).loc Cert.DwUk.main_arg0)
      ∧ r.2.mem ((c.tc : Thread Cert.DwUk.nD Cert.DwUk.τ).loc Cert.DwUk.main_arg1) = m ((c.tc : Thread Cert.DwUk.nD Cert.DwUk.τ).loc Cert.DwUk.main_arg1))
      ∧ r.2.sem = fun _ => 0)

def quiescent_DwUkIdeal [hDwUkIdeal : Cert.DwUkIdeal.Facts] : Prop :=
  ∀ (m : (ℓ : Loc Cert.DwUkIdeal.nD Cert.DwUkIdeal.τ Cert.DwUkIdeal.sig) → Buf (Elt Ideal) ℓ) (g : Dev Cert.DwUkIdeal.nD → PrngReg), Pre_DwUkIdeal m →
    θ_run (Cert.DwUkIdeal.defs (F := Ideal)) (onTc (τ := Cert.DwUkIdeal.τ) (Cert.DwUkIdeal.main (F := Ideal))) ⟨m, fun _ => 0, g⟩ (fun r => (∀ c : Dev Cert.DwUkIdeal.nD,
      r.2.mem ((c.tc : Thread Cert.DwUkIdeal.nD Cert.DwUkIdeal.τ).loc Cert.DwUkIdeal.main_arg0) = m ((c.tc : Thread Cert.DwUkIdeal.nD Cert.DwUkIdeal.τ).loc Cert.DwUkIdeal.main_arg0)
      ∧ r.2.mem ((c.tc : Thread Cert.DwUkIdeal.nD Cert.DwUkIdeal.τ).loc Cert.DwUkIdeal.main_arg1) = m ((c.tc : Thread Cert.DwUkIdeal.nD Cert.DwUkIdeal.τ).loc Cert.DwUkIdeal.main_arg1))
      ∧ r.2.sem = fun _ => 0)

def quiescent_DwUkReferenceIdeal [hDwUkReferenceIdeal : Cert.DwUkReferenceIdeal.Facts] : Prop :=
  ∀ (m : (ℓ : Loc Cert.DwUkReferenceIdeal.nD Cert.DwUkReferenceIdeal.τ Cert.DwUkReferenceIdeal.sig) → Buf (Elt Ideal) ℓ) (g : Dev Cert.DwUkReferenceIdeal.nD → PrngReg), Pre_DwUkReferenceIdeal m →
    θ_run (Cert.DwUkReferenceIdeal.defs (F := Ideal)) (onTc (τ := Cert.DwUkReferenceIdeal.τ) (Cert.DwUkReferenceIdeal.main (F := Ideal))) ⟨m, fun _ => 0, g⟩ (fun r => (∀ c : Dev Cert.DwUkReferenceIdeal.nD,
      r.2.mem ((c.tc : Thread Cert.DwUkReferenceIdeal.nD Cert.DwUkReferenceIdeal.τ).loc Cert.DwUkReferenceIdeal.main_arg0) = m ((c.tc : Thread Cert.DwUkReferenceIdeal.nD Cert.DwUkReferenceIdeal.τ).loc Cert.DwUkReferenceIdeal.main_arg0)
      ∧ r.2.mem ((c.tc : Thread Cert.DwUkReferenceIdeal.nD Cert.DwUkReferenceIdeal.τ).loc Cert.DwUkReferenceIdeal.main_arg1) = m ((c.tc : Thread Cert.DwUkReferenceIdeal.nD Cert.DwUkReferenceIdeal.τ).loc Cert.DwUkReferenceIdeal.main_arg1))
      ∧ r.2.sem = fun _ => 0)

def quiescent_DkvnKey [hDkvnKey : Cert.DkvnKey.Facts] : Prop :=
  ∀ (m : (ℓ : Loc Cert.DkvnKey.nD Cert.DkvnKey.τ Cert.DkvnKey.sig) → Buf (Elt Bits) ℓ) (g : Dev Cert.DkvnKey.nD → PrngReg), Pre_DkvnKey m →
    θ_run (Cert.DkvnKey.defs (F := Bits)) (onTc (τ := Cert.DkvnKey.τ) (Cert.DkvnKey.main (F := Bits))) ⟨m, fun _ => 0, g⟩ (fun r => (∀ c : Dev Cert.DkvnKey.nD,
      r.2.mem ((c.tc : Thread Cert.DkvnKey.nD Cert.DkvnKey.τ).loc Cert.DkvnKey.main_arg0) = m ((c.tc : Thread Cert.DkvnKey.nD Cert.DkvnKey.τ).loc Cert.DkvnKey.main_arg0)
      ∧ r.2.mem ((c.tc : Thread Cert.DkvnKey.nD Cert.DkvnKey.τ).loc Cert.DkvnKey.main_arg1) = m ((c.tc : Thread Cert.DkvnKey.nD Cert.DkvnKey.τ).loc Cert.DkvnKey.main_arg1))
      ∧ r.2.sem = fun _ => 0)

def quiescent_DkvnKeyIdeal [hDkvnKeyIdeal : Cert.DkvnKeyIdeal.Facts] : Prop :=
  ∀ (m : (ℓ : Loc Cert.DkvnKeyIdeal.nD Cert.DkvnKeyIdeal.τ Cert.DkvnKeyIdeal.sig) → Buf (Elt Ideal) ℓ) (g : Dev Cert.DkvnKeyIdeal.nD → PrngReg), Pre_DkvnKeyIdeal m →
    θ_run (Cert.DkvnKeyIdeal.defs (F := Ideal)) (onTc (τ := Cert.DkvnKeyIdeal.τ) (Cert.DkvnKeyIdeal.main (F := Ideal))) ⟨m, fun _ => 0, g⟩ (fun r => (∀ c : Dev Cert.DkvnKeyIdeal.nD,
      r.2.mem ((c.tc : Thread Cert.DkvnKeyIdeal.nD Cert.DkvnKeyIdeal.τ).loc Cert.DkvnKeyIdeal.main_arg0) = m ((c.tc : Thread Cert.DkvnKeyIdeal.nD Cert.DkvnKeyIdeal.τ).loc Cert.DkvnKeyIdeal.main_arg0)
      ∧ r.2.mem ((c.tc : Thread Cert.DkvnKeyIdeal.nD Cert.DkvnKeyIdeal.τ).loc Cert.DkvnKeyIdeal.main_arg1) = m ((c.tc : Thread Cert.DkvnKeyIdeal.nD Cert.DkvnKeyIdeal.τ).loc Cert.DkvnKeyIdeal.main_arg1))
      ∧ r.2.sem = fun _ => 0)

def quiescent_DkvnKeyReferenceIdeal [hDkvnKeyReferenceIdeal : Cert.DkvnKeyReferenceIdeal.Facts] : Prop :=
  ∀ (m : (ℓ : Loc Cert.DkvnKeyReferenceIdeal.nD Cert.DkvnKeyReferenceIdeal.τ Cert.DkvnKeyReferenceIdeal.sig) → Buf (Elt Ideal) ℓ) (g : Dev Cert.DkvnKeyReferenceIdeal.nD → PrngReg), Pre_DkvnKeyReferenceIdeal m →
    θ_run (Cert.DkvnKeyReferenceIdeal.defs (F := Ideal)) (onTc (τ := Cert.DkvnKeyReferenceIdeal.τ) (Cert.DkvnKeyReferenceIdeal.main (F := Ideal))) ⟨m, fun _ => 0, g⟩ (fun r => (∀ c : Dev Cert.DkvnKeyReferenceIdeal.nD,
      r.2.mem ((c.tc : Thread Cert.DkvnKeyReferenceIdeal.nD Cert.DkvnKeyReferenceIdeal.τ).loc Cert.DkvnKeyReferenceIdeal.main_arg0) = m ((c.tc : Thread Cert.DkvnKeyReferenceIdeal.nD Cert.DkvnKeyReferenceIdeal.τ).loc Cert.DkvnKeyReferenceIdeal.main_arg0)
      ∧ r.2.mem ((c.tc : Thread Cert.DkvnKeyReferenceIdeal.nD Cert.DkvnKeyReferenceIdeal.τ).loc Cert.DkvnKeyReferenceIdeal.main_arg1) = m ((c.tc : Thread Cert.DkvnKeyReferenceIdeal.nD Cert.DkvnKeyReferenceIdeal.τ).loc Cert.DkvnKeyReferenceIdeal.main_arg1))
      ∧ r.2.sem = fun _ => 0)

def quiescent_DkvnValue [hDkvnValue : Cert.DkvnValue.Facts] : Prop :=
  ∀ (m : (ℓ : Loc Cert.DkvnValue.nD Cert.DkvnValue.τ Cert.DkvnValue.sig) → Buf (Elt Bits) ℓ) (g : Dev Cert.DkvnValue.nD → PrngReg), Pre_DkvnValue m →
    θ_run (Cert.DkvnValue.defs (F := Bits)) (onTc (τ := Cert.DkvnValue.τ) (Cert.DkvnValue.main (F := Bits))) ⟨m, fun _ => 0, g⟩ (fun r => (∀ c : Dev Cert.DkvnValue.nD,
      r.2.mem ((c.tc : Thread Cert.DkvnValue.nD Cert.DkvnValue.τ).loc Cert.DkvnValue.main_arg0) = m ((c.tc : Thread Cert.DkvnValue.nD Cert.DkvnValue.τ).loc Cert.DkvnValue.main_arg0)
      ∧ r.2.mem ((c.tc : Thread Cert.DkvnValue.nD Cert.DkvnValue.τ).loc Cert.DkvnValue.main_arg1) = m ((c.tc : Thread Cert.DkvnValue.nD Cert.DkvnValue.τ).loc Cert.DkvnValue.main_arg1)
      ∧ r.2.mem ((c.tc : Thread Cert.DkvnValue.nD Cert.DkvnValue.τ).loc Cert.DkvnValue.main_arg2) = m ((c.tc : Thread Cert.DkvnValue.nD Cert.DkvnValue.τ).loc Cert.DkvnValue.main_arg2))
      ∧ r.2.sem = fun _ => 0)

def quiescent_DkvnValueIdeal [hDkvnValueIdeal : Cert.DkvnValueIdeal.Facts] : Prop :=
  ∀ (m : (ℓ : Loc Cert.DkvnValueIdeal.nD Cert.DkvnValueIdeal.τ Cert.DkvnValueIdeal.sig) → Buf (Elt Ideal) ℓ) (g : Dev Cert.DkvnValueIdeal.nD → PrngReg), Pre_DkvnValueIdeal m →
    θ_run (Cert.DkvnValueIdeal.defs (F := Ideal)) (onTc (τ := Cert.DkvnValueIdeal.τ) (Cert.DkvnValueIdeal.main (F := Ideal))) ⟨m, fun _ => 0, g⟩ (fun r => (∀ c : Dev Cert.DkvnValueIdeal.nD,
      r.2.mem ((c.tc : Thread Cert.DkvnValueIdeal.nD Cert.DkvnValueIdeal.τ).loc Cert.DkvnValueIdeal.main_arg0) = m ((c.tc : Thread Cert.DkvnValueIdeal.nD Cert.DkvnValueIdeal.τ).loc Cert.DkvnValueIdeal.main_arg0)
      ∧ r.2.mem ((c.tc : Thread Cert.DkvnValueIdeal.nD Cert.DkvnValueIdeal.τ).loc Cert.DkvnValueIdeal.main_arg1) = m ((c.tc : Thread Cert.DkvnValueIdeal.nD Cert.DkvnValueIdeal.τ).loc Cert.DkvnValueIdeal.main_arg1)
      ∧ r.2.mem ((c.tc : Thread Cert.DkvnValueIdeal.nD Cert.DkvnValueIdeal.τ).loc Cert.DkvnValueIdeal.main_arg2) = m ((c.tc : Thread Cert.DkvnValueIdeal.nD Cert.DkvnValueIdeal.τ).loc Cert.DkvnValueIdeal.main_arg2))
      ∧ r.2.sem = fun _ => 0)

def quiescent_DkvnValueReferenceIdeal [hDkvnValueReferenceIdeal : Cert.DkvnValueReferenceIdeal.Facts] : Prop :=
  ∀ (m : (ℓ : Loc Cert.DkvnValueReferenceIdeal.nD Cert.DkvnValueReferenceIdeal.τ Cert.DkvnValueReferenceIdeal.sig) → Buf (Elt Ideal) ℓ) (g : Dev Cert.DkvnValueReferenceIdeal.nD → PrngReg), Pre_DkvnValueReferenceIdeal m →
    θ_run (Cert.DkvnValueReferenceIdeal.defs (F := Ideal)) (onTc (τ := Cert.DkvnValueReferenceIdeal.τ) (Cert.DkvnValueReferenceIdeal.main (F := Ideal))) ⟨m, fun _ => 0, g⟩ (fun r => (∀ c : Dev Cert.DkvnValueReferenceIdeal.nD,
      r.2.mem ((c.tc : Thread Cert.DkvnValueReferenceIdeal.nD Cert.DkvnValueReferenceIdeal.τ).loc Cert.DkvnValueReferenceIdeal.main_arg0) = m ((c.tc : Thread Cert.DkvnValueReferenceIdeal.nD Cert.DkvnValueReferenceIdeal.τ).loc Cert.DkvnValueReferenceIdeal.main_arg0)
      ∧ r.2.mem ((c.tc : Thread Cert.DkvnValueReferenceIdeal.nD Cert.DkvnValueReferenceIdeal.τ).loc Cert.DkvnValueReferenceIdeal.main_arg1) = m ((c.tc : Thread Cert.DkvnValueReferenceIdeal.nD Cert.DkvnValueReferenceIdeal.τ).loc Cert.DkvnValueReferenceIdeal.main_arg1)
      ∧ r.2.mem ((c.tc : Thread Cert.DkvnValueReferenceIdeal.nD Cert.DkvnValueReferenceIdeal.τ).loc Cert.DkvnValueReferenceIdeal.main_arg2) = m ((c.tc : Thread Cert.DkvnValueReferenceIdeal.nD Cert.DkvnValueReferenceIdeal.τ).loc Cert.DkvnValueReferenceIdeal.main_arg2))
      ∧ r.2.sem = fun _ => 0)

def quiescent_DwUq [hDwUq : Cert.DwUq.Facts] : Prop :=
  ∀ (m : (ℓ : Loc Cert.DwUq.nD Cert.DwUq.τ Cert.DwUq.sig) → Buf (Elt Bits) ℓ) (g : Dev Cert.DwUq.nD → PrngReg), Pre_DwUq m →
    θ_run (Cert.DwUq.defs (F := Bits)) (onTc (τ := Cert.DwUq.τ) (Cert.DwUq.main (F := Bits))) ⟨m, fun _ => 0, g⟩ (fun r => (∀ c : Dev Cert.DwUq.nD,
      r.2.mem ((c.tc : Thread Cert.DwUq.nD Cert.DwUq.τ).loc Cert.DwUq.main_arg0) = m ((c.tc : Thread Cert.DwUq.nD Cert.DwUq.τ).loc Cert.DwUq.main_arg0)
      ∧ r.2.mem ((c.tc : Thread Cert.DwUq.nD Cert.DwUq.τ).loc Cert.DwUq.main_arg1) = m ((c.tc : Thread Cert.DwUq.nD Cert.DwUq.τ).loc Cert.DwUq.main_arg1))
      ∧ r.2.sem = fun _ => 0)

def quiescent_DwUqIdeal [hDwUqIdeal : Cert.DwUqIdeal.Facts] : Prop :=
  ∀ (m : (ℓ : Loc Cert.DwUqIdeal.nD Cert.DwUqIdeal.τ Cert.DwUqIdeal.sig) → Buf (Elt Ideal) ℓ) (g : Dev Cert.DwUqIdeal.nD → PrngReg), Pre_DwUqIdeal m →
    θ_run (Cert.DwUqIdeal.defs (F := Ideal)) (onTc (τ := Cert.DwUqIdeal.τ) (Cert.DwUqIdeal.main (F := Ideal))) ⟨m, fun _ => 0, g⟩ (fun r => (∀ c : Dev Cert.DwUqIdeal.nD,
      r.2.mem ((c.tc : Thread Cert.DwUqIdeal.nD Cert.DwUqIdeal.τ).loc Cert.DwUqIdeal.main_arg0) = m ((c.tc : Thread Cert.DwUqIdeal.nD Cert.DwUqIdeal.τ).loc Cert.DwUqIdeal.main_arg0)
      ∧ r.2.mem ((c.tc : Thread Cert.DwUqIdeal.nD Cert.DwUqIdeal.τ).loc Cert.DwUqIdeal.main_arg1) = m ((c.tc : Thread Cert.DwUqIdeal.nD Cert.DwUqIdeal.τ).loc Cert.DwUqIdeal.main_arg1))
      ∧ r.2.sem = fun _ => 0)

def quiescent_DwUqReferenceIdeal [hDwUqReferenceIdeal : Cert.DwUqReferenceIdeal.Facts] : Prop :=
  ∀ (m : (ℓ : Loc Cert.DwUqReferenceIdeal.nD Cert.DwUqReferenceIdeal.τ Cert.DwUqReferenceIdeal.sig) → Buf (Elt Ideal) ℓ) (g : Dev Cert.DwUqReferenceIdeal.nD → PrngReg), Pre_DwUqReferenceIdeal m →
    θ_run (Cert.DwUqReferenceIdeal.defs (F := Ideal)) (onTc (τ := Cert.DwUqReferenceIdeal.τ) (Cert.DwUqReferenceIdeal.main (F := Ideal))) ⟨m, fun _ => 0, g⟩ (fun r => (∀ c : Dev Cert.DwUqReferenceIdeal.nD,
      r.2.mem ((c.tc : Thread Cert.DwUqReferenceIdeal.nD Cert.DwUqReferenceIdeal.τ).loc Cert.DwUqReferenceIdeal.main_arg0) = m ((c.tc : Thread Cert.DwUqReferenceIdeal.nD Cert.DwUqReferenceIdeal.τ).loc Cert.DwUqReferenceIdeal.main_arg0)
      ∧ r.2.mem ((c.tc : Thread Cert.DwUqReferenceIdeal.nD Cert.DwUqReferenceIdeal.τ).loc Cert.DwUqReferenceIdeal.main_arg1) = m ((c.tc : Thread Cert.DwUqReferenceIdeal.nD Cert.DwUqReferenceIdeal.τ).loc Cert.DwUqReferenceIdeal.main_arg1))
      ∧ r.2.sem = fun _ => 0)

def quiescent_Dqn [hDqn : Cert.Dqn.Facts] : Prop :=
  ∀ (m : (ℓ : Loc Cert.Dqn.nD Cert.Dqn.τ Cert.Dqn.sig) → Buf (Elt Bits) ℓ) (g : Dev Cert.Dqn.nD → PrngReg), Pre_Dqn m →
    θ_run (Cert.Dqn.defs (F := Bits)) (onTc (τ := Cert.Dqn.τ) (Cert.Dqn.main (F := Bits))) ⟨m, fun _ => 0, g⟩ (fun r => (∀ c : Dev Cert.Dqn.nD,
      r.2.mem ((c.tc : Thread Cert.Dqn.nD Cert.Dqn.τ).loc Cert.Dqn.main_arg0) = m ((c.tc : Thread Cert.Dqn.nD Cert.Dqn.τ).loc Cert.Dqn.main_arg0)
      ∧ r.2.mem ((c.tc : Thread Cert.Dqn.nD Cert.Dqn.τ).loc Cert.Dqn.main_arg1) = m ((c.tc : Thread Cert.Dqn.nD Cert.Dqn.τ).loc Cert.Dqn.main_arg1))
      ∧ r.2.sem = fun _ => 0)

def quiescent_DqnIdeal [hDqnIdeal : Cert.DqnIdeal.Facts] : Prop :=
  ∀ (m : (ℓ : Loc Cert.DqnIdeal.nD Cert.DqnIdeal.τ Cert.DqnIdeal.sig) → Buf (Elt Ideal) ℓ) (g : Dev Cert.DqnIdeal.nD → PrngReg), Pre_DqnIdeal m →
    θ_run (Cert.DqnIdeal.defs (F := Ideal)) (onTc (τ := Cert.DqnIdeal.τ) (Cert.DqnIdeal.main (F := Ideal))) ⟨m, fun _ => 0, g⟩ (fun r => (∀ c : Dev Cert.DqnIdeal.nD,
      r.2.mem ((c.tc : Thread Cert.DqnIdeal.nD Cert.DqnIdeal.τ).loc Cert.DqnIdeal.main_arg0) = m ((c.tc : Thread Cert.DqnIdeal.nD Cert.DqnIdeal.τ).loc Cert.DqnIdeal.main_arg0)
      ∧ r.2.mem ((c.tc : Thread Cert.DqnIdeal.nD Cert.DqnIdeal.τ).loc Cert.DqnIdeal.main_arg1) = m ((c.tc : Thread Cert.DqnIdeal.nD Cert.DqnIdeal.τ).loc Cert.DqnIdeal.main_arg1))
      ∧ r.2.sem = fun _ => 0)

def quiescent_DqnReferenceIdeal [hDqnReferenceIdeal : Cert.DqnReferenceIdeal.Facts] : Prop :=
  ∀ (m : (ℓ : Loc Cert.DqnReferenceIdeal.nD Cert.DqnReferenceIdeal.τ Cert.DqnReferenceIdeal.sig) → Buf (Elt Ideal) ℓ) (g : Dev Cert.DqnReferenceIdeal.nD → PrngReg), Pre_DqnReferenceIdeal m →
    θ_run (Cert.DqnReferenceIdeal.defs (F := Ideal)) (onTc (τ := Cert.DqnReferenceIdeal.τ) (Cert.DqnReferenceIdeal.main (F := Ideal))) ⟨m, fun _ => 0, g⟩ (fun r => (∀ c : Dev Cert.DqnReferenceIdeal.nD,
      r.2.mem ((c.tc : Thread Cert.DqnReferenceIdeal.nD Cert.DqnReferenceIdeal.τ).loc Cert.DqnReferenceIdeal.main_arg0) = m ((c.tc : Thread Cert.DqnReferenceIdeal.nD Cert.DqnReferenceIdeal.τ).loc Cert.DqnReferenceIdeal.main_arg0)
      ∧ r.2.mem ((c.tc : Thread Cert.DqnReferenceIdeal.nD Cert.DqnReferenceIdeal.τ).loc Cert.DqnReferenceIdeal.main_arg1) = m ((c.tc : Thread Cert.DqnReferenceIdeal.nD Cert.DqnReferenceIdeal.τ).loc Cert.DqnReferenceIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_Dgate [hDgate : Cert.Dgate.Facts] : Prop :=
  ∀ (m : (ℓ : Loc Cert.Dgate.nD Cert.Dgate.τ Cert.Dgate.sig) → Buf (Elt Bits) ℓ) (g : Dev Cert.Dgate.nD → PrngReg), Pre_Dgate m →
    θ_run (Cert.Dgate.defs (F := Bits)) (onTc (τ := Cert.Dgate.τ) (Cert.Dgate.main (F := Bits))) ⟨m, fun _ => 0, g⟩ (fun r => (∀ c : Dev Cert.Dgate.nD,
      r.2.mem ((c.tc : Thread Cert.Dgate.nD Cert.Dgate.τ).loc Cert.Dgate.main_arg0) = m ((c.tc : Thread Cert.Dgate.nD Cert.Dgate.τ).loc Cert.Dgate.main_arg0)
      ∧ r.2.mem ((c.tc : Thread Cert.Dgate.nD Cert.Dgate.τ).loc Cert.Dgate.main_arg1) = m ((c.tc : Thread Cert.Dgate.nD Cert.Dgate.τ).loc Cert.Dgate.main_arg1)
      ∧ r.2.mem ((c.tc : Thread Cert.Dgate.nD Cert.Dgate.τ).loc Cert.Dgate.main_arg2) = m ((c.tc : Thread Cert.Dgate.nD Cert.Dgate.τ).loc Cert.Dgate.main_arg2)
      ∧ r.2.mem ((c.tc : Thread Cert.Dgate.nD Cert.Dgate.τ).loc Cert.Dgate.main_arg3) = m ((c.tc : Thread Cert.Dgate.nD Cert.Dgate.τ).loc Cert.Dgate.main_arg3))
      ∧ r.2.sem = fun _ => 0)

def quiescent_DgateIdeal [hDgateIdeal : Cert.DgateIdeal.Facts] : Prop :=
  ∀ (m : (ℓ : Loc Cert.DgateIdeal.nD Cert.DgateIdeal.τ Cert.DgateIdeal.sig) → Buf (Elt Ideal) ℓ) (g : Dev Cert.DgateIdeal.nD → PrngReg), Pre_DgateIdeal m →
    θ_run (Cert.DgateIdeal.defs (F := Ideal)) (onTc (τ := Cert.DgateIdeal.τ) (Cert.DgateIdeal.main (F := Ideal))) ⟨m, fun _ => 0, g⟩ (fun r => (∀ c : Dev Cert.DgateIdeal.nD,
      r.2.mem ((c.tc : Thread Cert.DgateIdeal.nD Cert.DgateIdeal.τ).loc Cert.DgateIdeal.main_arg0) = m ((c.tc : Thread Cert.DgateIdeal.nD Cert.DgateIdeal.τ).loc Cert.DgateIdeal.main_arg0)
      ∧ r.2.mem ((c.tc : Thread Cert.DgateIdeal.nD Cert.DgateIdeal.τ).loc Cert.DgateIdeal.main_arg1) = m ((c.tc : Thread Cert.DgateIdeal.nD Cert.DgateIdeal.τ).loc Cert.DgateIdeal.main_arg1)
      ∧ r.2.mem ((c.tc : Thread Cert.DgateIdeal.nD Cert.DgateIdeal.τ).loc Cert.DgateIdeal.main_arg2) = m ((c.tc : Thread Cert.DgateIdeal.nD Cert.DgateIdeal.τ).loc Cert.DgateIdeal.main_arg2)
      ∧ r.2.mem ((c.tc : Thread Cert.DgateIdeal.nD Cert.DgateIdeal.τ).loc Cert.DgateIdeal.main_arg3) = m ((c.tc : Thread Cert.DgateIdeal.nD Cert.DgateIdeal.τ).loc Cert.DgateIdeal.main_arg3))
      ∧ r.2.sem = fun _ => 0)

def quiescent_DgateIdeal_pre_finite_gate [hDgateIdeal : Cert.DgateIdeal.Facts] [hPre_finite_gate : Cert.Pre_finite_gate.Facts] : Prop :=
  ∀ (m : (ℓ : Loc Cert.DgateIdeal.nD Cert.DgateIdeal.τ Cert.DgateIdeal.sig) → Buf (Elt Ideal) ℓ) (g : Dev Cert.DgateIdeal.nD → PrngReg), Pre_DgateIdeal_finite_gate m →
    θ_run (Cert.DgateIdeal.defs (F := Ideal)) (onTc (τ := Cert.DgateIdeal.τ) (Cert.DgateIdeal.main (F := Ideal))) ⟨m, fun _ => 0, g⟩ (fun r => (∀ c : Dev Cert.DgateIdeal.nD,
      r.2.mem ((c.tc : Thread Cert.DgateIdeal.nD Cert.DgateIdeal.τ).loc Cert.DgateIdeal.main_arg0) = m ((c.tc : Thread Cert.DgateIdeal.nD Cert.DgateIdeal.τ).loc Cert.DgateIdeal.main_arg0)
      ∧ r.2.mem ((c.tc : Thread Cert.DgateIdeal.nD Cert.DgateIdeal.τ).loc Cert.DgateIdeal.main_arg1) = m ((c.tc : Thread Cert.DgateIdeal.nD Cert.DgateIdeal.τ).loc Cert.DgateIdeal.main_arg1)
      ∧ r.2.mem ((c.tc : Thread Cert.DgateIdeal.nD Cert.DgateIdeal.τ).loc Cert.DgateIdeal.main_arg2) = m ((c.tc : Thread Cert.DgateIdeal.nD Cert.DgateIdeal.τ).loc Cert.DgateIdeal.main_arg2)
      ∧ r.2.mem ((c.tc : Thread Cert.DgateIdeal.nD Cert.DgateIdeal.τ).loc Cert.DgateIdeal.main_arg3) = m ((c.tc : Thread Cert.DgateIdeal.nD Cert.DgateIdeal.τ).loc Cert.DgateIdeal.main_arg3))
      ∧ r.2.sem = fun _ => 0)

def quiescent_DgateReferenceIdeal [hDgateReferenceIdeal : Cert.DgateReferenceIdeal.Facts] : Prop :=
  ∀ (m : (ℓ : Loc Cert.DgateReferenceIdeal.nD Cert.DgateReferenceIdeal.τ Cert.DgateReferenceIdeal.sig) → Buf (Elt Ideal) ℓ) (g : Dev Cert.DgateReferenceIdeal.nD → PrngReg), Pre_DgateReferenceIdeal m →
    θ_run (Cert.DgateReferenceIdeal.defs (F := Ideal)) (onTc (τ := Cert.DgateReferenceIdeal.τ) (Cert.DgateReferenceIdeal.main (F := Ideal))) ⟨m, fun _ => 0, g⟩ (fun r => (∀ c : Dev Cert.DgateReferenceIdeal.nD,
      r.2.mem ((c.tc : Thread Cert.DgateReferenceIdeal.nD Cert.DgateReferenceIdeal.τ).loc Cert.DgateReferenceIdeal.main_arg0) = m ((c.tc : Thread Cert.DgateReferenceIdeal.nD Cert.DgateReferenceIdeal.τ).loc Cert.DgateReferenceIdeal.main_arg0)
      ∧ r.2.mem ((c.tc : Thread Cert.DgateReferenceIdeal.nD Cert.DgateReferenceIdeal.τ).loc Cert.DgateReferenceIdeal.main_arg1) = m ((c.tc : Thread Cert.DgateReferenceIdeal.nD Cert.DgateReferenceIdeal.τ).loc Cert.DgateReferenceIdeal.main_arg1)
      ∧ r.2.mem ((c.tc : Thread Cert.DgateReferenceIdeal.nD Cert.DgateReferenceIdeal.τ).loc Cert.DgateReferenceIdeal.main_arg2) = m ((c.tc : Thread Cert.DgateReferenceIdeal.nD Cert.DgateReferenceIdeal.τ).loc Cert.DgateReferenceIdeal.main_arg2)
      ∧ r.2.mem ((c.tc : Thread Cert.DgateReferenceIdeal.nD Cert.DgateReferenceIdeal.τ).loc Cert.DgateReferenceIdeal.main_arg3) = m ((c.tc : Thread Cert.DgateReferenceIdeal.nD Cert.DgateReferenceIdeal.τ).loc Cert.DgateReferenceIdeal.main_arg3))
      ∧ r.2.sem = fun _ => 0)

def quiescent_DgateReferenceIdeal_pre_finite_gate [hDgateReferenceIdeal : Cert.DgateReferenceIdeal.Facts] [hPre_finite_gate : Cert.Pre_finite_gate.Facts] : Prop :=
  ∀ (m : (ℓ : Loc Cert.DgateReferenceIdeal.nD Cert.DgateReferenceIdeal.τ Cert.DgateReferenceIdeal.sig) → Buf (Elt Ideal) ℓ) (g : Dev Cert.DgateReferenceIdeal.nD → PrngReg), Pre_DgateReferenceIdeal_finite_gate m →
    θ_run (Cert.DgateReferenceIdeal.defs (F := Ideal)) (onTc (τ := Cert.DgateReferenceIdeal.τ) (Cert.DgateReferenceIdeal.main (F := Ideal))) ⟨m, fun _ => 0, g⟩ (fun r => (∀ c : Dev Cert.DgateReferenceIdeal.nD,
      r.2.mem ((c.tc : Thread Cert.DgateReferenceIdeal.nD Cert.DgateReferenceIdeal.τ).loc Cert.DgateReferenceIdeal.main_arg0) = m ((c.tc : Thread Cert.DgateReferenceIdeal.nD Cert.DgateReferenceIdeal.τ).loc Cert.DgateReferenceIdeal.main_arg0)
      ∧ r.2.mem ((c.tc : Thread Cert.DgateReferenceIdeal.nD Cert.DgateReferenceIdeal.τ).loc Cert.DgateReferenceIdeal.main_arg1) = m ((c.tc : Thread Cert.DgateReferenceIdeal.nD Cert.DgateReferenceIdeal.τ).loc Cert.DgateReferenceIdeal.main_arg1)
      ∧ r.2.mem ((c.tc : Thread Cert.DgateReferenceIdeal.nD Cert.DgateReferenceIdeal.τ).loc Cert.DgateReferenceIdeal.main_arg2) = m ((c.tc : Thread Cert.DgateReferenceIdeal.nD Cert.DgateReferenceIdeal.τ).loc Cert.DgateReferenceIdeal.main_arg2)
      ∧ r.2.mem ((c.tc : Thread Cert.DgateReferenceIdeal.nD Cert.DgateReferenceIdeal.τ).loc Cert.DgateReferenceIdeal.main_arg3) = m ((c.tc : Thread Cert.DgateReferenceIdeal.nD Cert.DgateReferenceIdeal.τ).loc Cert.DgateReferenceIdeal.main_arg3))
      ∧ r.2.sem = fun _ => 0)

def quiescent_Dcq [hDcq : Cert.Dcq.Facts] : Prop :=
  ∀ (m : (ℓ : Loc Cert.Dcq.nD Cert.Dcq.τ Cert.Dcq.sig) → Buf (Elt Bits) ℓ) (g : Dev Cert.Dcq.nD → PrngReg), Pre_Dcq m →
    θ_run (Cert.Dcq.defs (F := Bits)) (onTc (τ := Cert.Dcq.τ) (Cert.Dcq.main (F := Bits))) ⟨m, fun _ => 0, g⟩ (fun r => (∀ c : Dev Cert.Dcq.nD,
      r.2.mem ((c.tc : Thread Cert.Dcq.nD Cert.Dcq.τ).loc Cert.Dcq.main_arg0) = m ((c.tc : Thread Cert.Dcq.nD Cert.Dcq.τ).loc Cert.Dcq.main_arg0)
      ∧ r.2.mem ((c.tc : Thread Cert.Dcq.nD Cert.Dcq.τ).loc Cert.Dcq.main_arg1) = m ((c.tc : Thread Cert.Dcq.nD Cert.Dcq.τ).loc Cert.Dcq.main_arg1)
      ∧ r.2.mem ((c.tc : Thread Cert.Dcq.nD Cert.Dcq.τ).loc Cert.Dcq.main_arg2) = m ((c.tc : Thread Cert.Dcq.nD Cert.Dcq.τ).loc Cert.Dcq.main_arg2))
      ∧ r.2.sem = fun _ => 0)

def quiescent_DcqIdeal [hDcqIdeal : Cert.DcqIdeal.Facts] : Prop :=
  ∀ (m : (ℓ : Loc Cert.DcqIdeal.nD Cert.DcqIdeal.τ Cert.DcqIdeal.sig) → Buf (Elt Ideal) ℓ) (g : Dev Cert.DcqIdeal.nD → PrngReg), Pre_DcqIdeal m →
    θ_run (Cert.DcqIdeal.defs (F := Ideal)) (onTc (τ := Cert.DcqIdeal.τ) (Cert.DcqIdeal.main (F := Ideal))) ⟨m, fun _ => 0, g⟩ (fun r => (∀ c : Dev Cert.DcqIdeal.nD,
      r.2.mem ((c.tc : Thread Cert.DcqIdeal.nD Cert.DcqIdeal.τ).loc Cert.DcqIdeal.main_arg0) = m ((c.tc : Thread Cert.DcqIdeal.nD Cert.DcqIdeal.τ).loc Cert.DcqIdeal.main_arg0)
      ∧ r.2.mem ((c.tc : Thread Cert.DcqIdeal.nD Cert.DcqIdeal.τ).loc Cert.DcqIdeal.main_arg1) = m ((c.tc : Thread Cert.DcqIdeal.nD Cert.DcqIdeal.τ).loc Cert.DcqIdeal.main_arg1)
      ∧ r.2.mem ((c.tc : Thread Cert.DcqIdeal.nD Cert.DcqIdeal.τ).loc Cert.DcqIdeal.main_arg2) = m ((c.tc : Thread Cert.DcqIdeal.nD Cert.DcqIdeal.τ).loc Cert.DcqIdeal.main_arg2))
      ∧ r.2.sem = fun _ => 0)

def quiescent_DcqReferenceIdeal [hDcqReferenceIdeal : Cert.DcqReferenceIdeal.Facts] : Prop :=
  ∀ (m : (ℓ : Loc Cert.DcqReferenceIdeal.nD Cert.DcqReferenceIdeal.τ Cert.DcqReferenceIdeal.sig) → Buf (Elt Ideal) ℓ) (g : Dev Cert.DcqReferenceIdeal.nD → PrngReg), Pre_DcqReferenceIdeal m →
    θ_run (Cert.DcqReferenceIdeal.defs (F := Ideal)) (onTc (τ := Cert.DcqReferenceIdeal.τ) (Cert.DcqReferenceIdeal.main (F := Ideal))) ⟨m, fun _ => 0, g⟩ (fun r => (∀ c : Dev Cert.DcqReferenceIdeal.nD,
      r.2.mem ((c.tc : Thread Cert.DcqReferenceIdeal.nD Cert.DcqReferenceIdeal.τ).loc Cert.DcqReferenceIdeal.main_arg0) = m ((c.tc : Thread Cert.DcqReferenceIdeal.nD Cert.DcqReferenceIdeal.τ).loc Cert.DcqReferenceIdeal.main_arg0)
      ∧ r.2.mem ((c.tc : Thread Cert.DcqReferenceIdeal.nD Cert.DcqReferenceIdeal.τ).loc Cert.DcqReferenceIdeal.main_arg1) = m ((c.tc : Thread Cert.DcqReferenceIdeal.nD Cert.DcqReferenceIdeal.τ).loc Cert.DcqReferenceIdeal.main_arg1)
      ∧ r.2.mem ((c.tc : Thread Cert.DcqReferenceIdeal.nD Cert.DcqReferenceIdeal.τ).loc Cert.DcqReferenceIdeal.main_arg2) = m ((c.tc : Thread Cert.DcqReferenceIdeal.nD Cert.DcqReferenceIdeal.τ).loc Cert.DcqReferenceIdeal.main_arg2))
      ∧ r.2.sem = fun _ => 0)

def quiescent_Dckv [hDckv : Cert.Dckv.Facts] : Prop :=
  ∀ (m : (ℓ : Loc Cert.Dckv.nD Cert.Dckv.τ Cert.Dckv.sig) → Buf (Elt Bits) ℓ) (g : Dev Cert.Dckv.nD → PrngReg), Pre_Dckv m →
    θ_run (Cert.Dckv.defs (F := Bits)) (onTc (τ := Cert.Dckv.τ) (Cert.Dckv.main (F := Bits))) ⟨m, fun _ => 0, g⟩ (fun r => (∀ c : Dev Cert.Dckv.nD,
      r.2.mem ((c.tc : Thread Cert.Dckv.nD Cert.Dckv.τ).loc Cert.Dckv.main_arg0) = m ((c.tc : Thread Cert.Dckv.nD Cert.Dckv.τ).loc Cert.Dckv.main_arg0)
      ∧ r.2.mem ((c.tc : Thread Cert.Dckv.nD Cert.Dckv.τ).loc Cert.Dckv.main_arg1) = m ((c.tc : Thread Cert.Dckv.nD Cert.Dckv.τ).loc Cert.Dckv.main_arg1)
      ∧ r.2.mem ((c.tc : Thread Cert.Dckv.nD Cert.Dckv.τ).loc Cert.Dckv.main_arg2) = m ((c.tc : Thread Cert.Dckv.nD Cert.Dckv.τ).loc Cert.Dckv.main_arg2))
      ∧ r.2.sem = fun _ => 0)

def quiescent_DckvIdeal [hDckvIdeal : Cert.DckvIdeal.Facts] : Prop :=
  ∀ (m : (ℓ : Loc Cert.DckvIdeal.nD Cert.DckvIdeal.τ Cert.DckvIdeal.sig) → Buf (Elt Ideal) ℓ) (g : Dev Cert.DckvIdeal.nD → PrngReg), Pre_DckvIdeal m →
    θ_run (Cert.DckvIdeal.defs (F := Ideal)) (onTc (τ := Cert.DckvIdeal.τ) (Cert.DckvIdeal.main (F := Ideal))) ⟨m, fun _ => 0, g⟩ (fun r => (∀ c : Dev Cert.DckvIdeal.nD,
      r.2.mem ((c.tc : Thread Cert.DckvIdeal.nD Cert.DckvIdeal.τ).loc Cert.DckvIdeal.main_arg0) = m ((c.tc : Thread Cert.DckvIdeal.nD Cert.DckvIdeal.τ).loc Cert.DckvIdeal.main_arg0)
      ∧ r.2.mem ((c.tc : Thread Cert.DckvIdeal.nD Cert.DckvIdeal.τ).loc Cert.DckvIdeal.main_arg1) = m ((c.tc : Thread Cert.DckvIdeal.nD Cert.DckvIdeal.τ).loc Cert.DckvIdeal.main_arg1)
      ∧ r.2.mem ((c.tc : Thread Cert.DckvIdeal.nD Cert.DckvIdeal.τ).loc Cert.DckvIdeal.main_arg2) = m ((c.tc : Thread Cert.DckvIdeal.nD Cert.DckvIdeal.τ).loc Cert.DckvIdeal.main_arg2))
      ∧ r.2.sem = fun _ => 0)

def quiescent_DckvReferenceIdeal [hDckvReferenceIdeal : Cert.DckvReferenceIdeal.Facts] : Prop :=
  ∀ (m : (ℓ : Loc Cert.DckvReferenceIdeal.nD Cert.DckvReferenceIdeal.τ Cert.DckvReferenceIdeal.sig) → Buf (Elt Ideal) ℓ) (g : Dev Cert.DckvReferenceIdeal.nD → PrngReg), Pre_DckvReferenceIdeal m →
    θ_run (Cert.DckvReferenceIdeal.defs (F := Ideal)) (onTc (τ := Cert.DckvReferenceIdeal.τ) (Cert.DckvReferenceIdeal.main (F := Ideal))) ⟨m, fun _ => 0, g⟩ (fun r => (∀ c : Dev Cert.DckvReferenceIdeal.nD,
      r.2.mem ((c.tc : Thread Cert.DckvReferenceIdeal.nD Cert.DckvReferenceIdeal.τ).loc Cert.DckvReferenceIdeal.main_arg0) = m ((c.tc : Thread Cert.DckvReferenceIdeal.nD Cert.DckvReferenceIdeal.τ).loc Cert.DckvReferenceIdeal.main_arg0)
      ∧ r.2.mem ((c.tc : Thread Cert.DckvReferenceIdeal.nD Cert.DckvReferenceIdeal.τ).loc Cert.DckvReferenceIdeal.main_arg1) = m ((c.tc : Thread Cert.DckvReferenceIdeal.nD Cert.DckvReferenceIdeal.τ).loc Cert.DckvReferenceIdeal.main_arg1)
      ∧ r.2.mem ((c.tc : Thread Cert.DckvReferenceIdeal.nD Cert.DckvReferenceIdeal.τ).loc Cert.DckvReferenceIdeal.main_arg2) = m ((c.tc : Thread Cert.DckvReferenceIdeal.nD Cert.DckvReferenceIdeal.τ).loc Cert.DckvReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v62)) (v2 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v62) = v1 c
          ∧ r.2.mem ((c.tc : Thread Cert.KernelIdeal.nD Cert.KernelIdeal.τ).loc Cert.KernelIdeal.main_v64) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Forward_ForwardIdeal : Prop :=
  IdealRules.named_const.Statement Cert.ForwardIdeal.κ "mask" .f32 0xF149F2CA#32 ⊥

def algebraic_ForwardIdeal_ForwardReferenceIdeal_pre_finite_scores [hForwardIdeal : Cert.ForwardIdeal.Facts] [hForwardReferenceIdeal : Cert.ForwardReferenceIdeal.Facts] [hPre_finite_scores : Cert.Pre_finite_scores.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardIdeal_finite_scores m →
    (∀ c : Dev Cert.ForwardIdeal.nD,
      m' ((c.tc : Thread Cert.ForwardReferenceIdeal.nD Cert.ForwardReferenceIdeal.τ).loc Cert.ForwardReferenceIdeal.main_arg0) = m ((c.tc : Thread Cert.ForwardIdeal.nD Cert.ForwardIdeal.τ).loc Cert.ForwardIdeal.main_arg0)
      ∧ m' ((c.tc : Thread Cert.ForwardReferenceIdeal.nD Cert.ForwardReferenceIdeal.τ).loc Cert.ForwardReferenceIdeal.main_arg1) = m ((c.tc : Thread Cert.ForwardIdeal.nD Cert.ForwardIdeal.τ).loc Cert.ForwardIdeal.main_arg1)
      ∧ m' ((c.tc : Thread Cert.ForwardReferenceIdeal.nD Cert.ForwardReferenceIdeal.τ).loc Cert.ForwardReferenceIdeal.main_arg2) = m ((c.tc : Thread Cert.ForwardIdeal.nD Cert.ForwardIdeal.τ).loc Cert.ForwardIdeal.main_arg2)) →
    ∃ (v0 : (c : Dev Cert.ForwardIdeal.nD) → Buf (Elt Ideal) ((c.tc : Thread Cert.ForwardIdeal.nD Cert.ForwardIdeal.τ).loc Cert.ForwardIdeal.main_v16_0)) (v1 : (c : Dev Cert.ForwardIdeal.nD) → Buf (Elt Ideal) ((c.tc : Thread Cert.ForwardIdeal.nD Cert.ForwardIdeal.τ).loc Cert.ForwardIdeal.main_v16_1)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v16_0) = v0 c
          ∧ r.2.mem ((c.tc : Thread Cert.ForwardIdeal.nD Cert.ForwardIdeal.τ).loc Cert.ForwardIdeal.main_v16_1) = v1 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v32) = v0 c
          ∧ r.2.mem ((c.tc : Thread Cert.ForwardReferenceIdeal.nD Cert.ForwardReferenceIdeal.τ).loc Cert.ForwardReferenceIdeal.main_v33) = v1 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1)
          ∧ r.2.mem ((c.tc : Thread Cert.ForwardReferenceIdeal.nD Cert.ForwardReferenceIdeal.τ).loc Cert.ForwardReferenceIdeal.main_arg2) = m' ((c.tc : Thread Cert.ForwardReferenceIdeal.nD Cert.ForwardReferenceIdeal.τ).loc Cert.ForwardReferenceIdeal.main_arg2))

def preserves_DwUp_DwUpIdeal : Prop :=
  True

def algebraic_DwUpIdeal_DwUpReferenceIdeal [hDwUpIdeal : Cert.DwUpIdeal.Facts] [hDwUpReferenceIdeal : Cert.DwUpReferenceIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpReferenceIdeal.nD Cert.DwUpReferenceIdeal.τ Cert.DwUpReferenceIdeal.sig) → Buf (Elt Ideal) ℓ) (g' : Dev Cert.DwUpReferenceIdeal.nD → PrngReg), Pre_DwUpIdeal m →
    (∀ c : Dev Cert.DwUpIdeal.nD,
      m' ((c.tc : Thread Cert.DwUpReferenceIdeal.nD Cert.DwUpReferenceIdeal.τ).loc Cert.DwUpReferenceIdeal.main_arg0) = m ((c.tc : Thread Cert.DwUpIdeal.nD Cert.DwUpIdeal.τ).loc Cert.DwUpIdeal.main_arg0)
      ∧ m' ((c.tc : Thread Cert.DwUpReferenceIdeal.nD Cert.DwUpReferenceIdeal.τ).loc Cert.DwUpReferenceIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v2)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v2) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpReferenceIdeal.defs (F := Ideal)) (onTc (τ := Cert.DwUpReferenceIdeal.τ) (Cert.DwUpReferenceIdeal.main (F := Ideal))) ⟨m', fun _ => 0, g'⟩ (fun r => ∀ c : Dev Cert.DwUpReferenceIdeal.nD,
          r.2.mem ((c.tc : Thread Cert.DwUpReferenceIdeal.nD Cert.DwUpReferenceIdeal.τ).loc Cert.DwUpReferenceIdeal.main_v3) = v0 c
          ∧ r.2.mem ((c.tc : Thread Cert.DwUpReferenceIdeal.nD Cert.DwUpReferenceIdeal.τ).loc Cert.DwUpReferenceIdeal.main_arg0) = m' ((c.tc : Thread Cert.DwUpReferenceIdeal.nD Cert.DwUpReferenceIdeal.τ).loc Cert.DwUpReferenceIdeal.main_arg0)
          ∧ r.2.mem ((c.tc : Thread Cert.DwUpReferenceIdeal.nD Cert.DwUpReferenceIdeal.τ).loc Cert.DwUpReferenceIdeal.main_arg1) = m' ((c.tc : Thread Cert.DwUpReferenceIdeal.nD Cert.DwUpReferenceIdeal.τ).loc Cert.DwUpReferenceIdeal.main_arg1))

def preserves_DwDown_DwDownIdeal : Prop :=
  True

def algebraic_DwDownIdeal_DwDownReferenceIdeal [hDwDownIdeal : Cert.DwDownIdeal.Facts] [hDwDownReferenceIdeal : Cert.DwDownReferenceIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownReferenceIdeal.nD Cert.DwDownReferenceIdeal.τ Cert.DwDownReferenceIdeal.sig) → Buf (Elt Ideal) ℓ) (g' : Dev Cert.DwDownReferenceIdeal.nD → PrngReg), Pre_DwDownIdeal m →
    (∀ c : Dev Cert.DwDownIdeal.nD,
      m' ((c.tc : Thread Cert.DwDownReferenceIdeal.nD Cert.DwDownReferenceIdeal.τ).loc Cert.DwDownReferenceIdeal.main_arg0) = m ((c.tc : Thread Cert.DwDownIdeal.nD Cert.DwDownIdeal.τ).loc Cert.DwDownIdeal.main_arg0)
      ∧ m' ((c.tc : Thread Cert.DwDownReferenceIdeal.nD Cert.DwDownReferenceIdeal.τ).loc Cert.DwDownReferenceIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v2)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v2) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownReferenceIdeal.defs (F := Ideal)) (onTc (τ := Cert.DwDownReferenceIdeal.τ) (Cert.DwDownReferenceIdeal.main (F := Ideal))) ⟨m', fun _ => 0, g'⟩ (fun r => ∀ c : Dev Cert.DwDownReferenceIdeal.nD,
          r.2.mem ((c.tc : Thread Cert.DwDownReferenceIdeal.nD Cert.DwDownReferenceIdeal.τ).loc Cert.DwDownReferenceIdeal.main_v3) = v0 c
          ∧ r.2.mem ((c.tc : Thread Cert.DwDownReferenceIdeal.nD Cert.DwDownReferenceIdeal.τ).loc Cert.DwDownReferenceIdeal.main_arg0) = m' ((c.tc : Thread Cert.DwDownReferenceIdeal.nD Cert.DwDownReferenceIdeal.τ).loc Cert.DwDownReferenceIdeal.main_arg0)
          ∧ r.2.mem ((c.tc : Thread Cert.DwDownReferenceIdeal.nD Cert.DwDownReferenceIdeal.τ).loc Cert.DwDownReferenceIdeal.main_arg1) = m' ((c.tc : Thread Cert.DwDownReferenceIdeal.nD Cert.DwDownReferenceIdeal.τ).loc Cert.DwDownReferenceIdeal.main_arg1))

def preserves_Dact_DactIdeal : Prop :=
  True

def algebraic_DactIdeal_DactReferenceIdeal [hDactIdeal : Cert.DactIdeal.Facts] [hDactReferenceIdeal : Cert.DactReferenceIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactReferenceIdeal.nD Cert.DactReferenceIdeal.τ Cert.DactReferenceIdeal.sig) → Buf (Elt Ideal) ℓ) (g' : Dev Cert.DactReferenceIdeal.nD → PrngReg), Pre_DactIdeal m →
    (∀ c : Dev Cert.DactIdeal.nD,
      m' ((c.tc : Thread Cert.DactReferenceIdeal.nD Cert.DactReferenceIdeal.τ).loc Cert.DactReferenceIdeal.main_arg0) = m ((c.tc : Thread Cert.DactIdeal.nD Cert.DactIdeal.τ).loc Cert.DactIdeal.main_arg0)
      ∧ m' ((c.tc : Thread Cert.DactReferenceIdeal.nD Cert.DactReferenceIdeal.τ).loc Cert.DactReferenceIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v2)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v2) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactReferenceIdeal.defs (F := Ideal)) (onTc (τ := Cert.DactReferenceIdeal.τ) (Cert.DactReferenceIdeal.main (F := Ideal))) ⟨m', fun _ => 0, g'⟩ (fun r => ∀ c : Dev Cert.DactReferenceIdeal.nD,
          r.2.mem ((c.tc : Thread Cert.DactReferenceIdeal.nD Cert.DactReferenceIdeal.τ).loc Cert.DactReferenceIdeal.main_v2) = v0 c
          ∧ r.2.mem ((c.tc : Thread Cert.DactReferenceIdeal.nD Cert.DactReferenceIdeal.τ).loc Cert.DactReferenceIdeal.main_arg0) = m' ((c.tc : Thread Cert.DactReferenceIdeal.nD Cert.DactReferenceIdeal.τ).loc Cert.DactReferenceIdeal.main_arg0)
          ∧ r.2.mem ((c.tc : Thread Cert.DactReferenceIdeal.nD Cert.DactReferenceIdeal.τ).loc Cert.DactReferenceIdeal.main_arg1) = m' ((c.tc : Thread Cert.DactReferenceIdeal.nD Cert.DactReferenceIdeal.τ).loc Cert.DactReferenceIdeal.main_arg1))

def preserves_DhGate_DhGateIdeal : Prop :=
  True

def algebraic_DhGateIdeal_DhGateReferenceIdeal [hDhGateIdeal : Cert.DhGateIdeal.Facts] [hDhGateReferenceIdeal : Cert.DhGateReferenceIdeal.Facts] : Prop :=
  ∀ (m : (ℓ : Loc Cert.DhGateIdeal.nD Cert.DhGateIdeal.τ Cert.DhGateIdeal.sig) → Buf (Elt Ideal) ℓ) (g : Dev Cert.DhGateIdeal.nD → PrngReg)
    (m' : (ℓ : Loc Cert.DhGateReferenceIdeal.nD Cert.DhGateReferenceIdeal.τ Cert.DhGateReferenceIdeal.sig) → Buf (Elt Ideal) ℓ) (g' : Dev Cert.DhGateReferenceIdeal.nD → PrngReg), Pre_DhGateIdeal m →
    (∀ c : Dev Cert.DhGateIdeal.nD,
      m' ((c.tc : Thread Cert.DhGateReferenceIdeal.nD Cert.DhGateReferenceIdeal.τ).loc Cert.DhGateReferenceIdeal.main_arg0) = m ((c.tc : Thread Cert.DhGateIdeal.nD Cert.DhGateIdeal.τ).loc Cert.DhGateIdeal.main_arg0)
      ∧ m' ((c.tc : Thread Cert.DhGateReferenceIdeal.nD Cert.DhGateReferenceIdeal.τ).loc Cert.DhGateReferenceIdeal.main_arg1) = m ((c.tc : Thread Cert.DhGateIdeal.nD Cert.DhGateIdeal.τ).loc Cert.DhGateIdeal.main_arg1)) →
    ∃ (v0 : (c : Dev Cert.DhGateIdeal.nD) → Buf (Elt Ideal) ((c.tc : Thread Cert.DhGateIdeal.nD Cert.DhGateIdeal.τ).loc Cert.DhGateIdeal.main_v2)),
      θ_run (Cert.DhGateIdeal.defs (F := Ideal)) (onTc (τ := Cert.DhGateIdeal.τ) (Cert.DhGateIdeal.main (F := Ideal))) ⟨m, fun _ => 0, g⟩ (fun r => ∀ c : Dev Cert.DhGateIdeal.nD,
          r.2.mem ((c.tc : Thread Cert.DhGateIdeal.nD Cert.DhGateIdeal.τ).loc Cert.DhGateIdeal.main_v2) = v0 c
          ∧ r.2.mem ((c.tc : Thread Cert.DhGateIdeal.nD Cert.DhGateIdeal.τ).loc Cert.DhGateIdeal.main_arg0) = m ((c.tc : Thread Cert.DhGateIdeal.nD Cert.DhGateIdeal.τ).loc Cert.DhGateIdeal.main_arg0)
          ∧ r.2.mem ((c.tc : Thread Cert.DhGateIdeal.nD Cert.DhGateIdeal.τ).loc Cert.DhGateIdeal.main_arg1) = m ((c.tc : Thread Cert.DhGateIdeal.nD Cert.DhGateIdeal.τ).loc Cert.DhGateIdeal.main_arg1))
      ∧ θ_run (Cert.DhGateReferenceIdeal.defs (F := Ideal)) (onTc (τ := Cert.DhGateReferenceIdeal.τ) (Cert.DhGateReferenceIdeal.main (F := Ideal))) ⟨m', fun _ => 0, g'⟩ (fun r => ∀ c : Dev Cert.DhGateReferenceIdeal.nD,
          r.2.mem ((c.tc : Thread Cert.DhGateReferenceIdeal.nD Cert.DhGateReferenceIdeal.τ).loc Cert.DhGateReferenceIdeal.main_v3) = v0 c
          ∧ r.2.mem ((c.tc : Thread Cert.DhGateReferenceIdeal.nD Cert.DhGateReferenceIdeal.τ).loc Cert.DhGateReferenceIdeal.main_arg0) = m' ((c.tc : Thread Cert.DhGateReferenceIdeal.nD Cert.DhGateReferenceIdeal.τ).loc Cert.DhGateReferenceIdeal.main_arg0)
          ∧ r.2.mem ((c.tc : Thread Cert.DhGateReferenceIdeal.nD Cert.DhGateReferenceIdeal.τ).loc Cert.DhGateReferenceIdeal.main_arg1) = m' ((c.tc : Thread Cert.DhGateReferenceIdeal.nD Cert.DhGateReferenceIdeal.τ).loc Cert.DhGateReferenceIdeal.main_arg1))

def preserves_DhValue_DhValueIdeal : Prop :=
  True

def algebraic_DhValueIdeal_DhValueReferenceIdeal [hDhValueIdeal : Cert.DhValueIdeal.Facts] [hDhValueReferenceIdeal : Cert.DhValueReferenceIdeal.Facts] : Prop :=
  ∀ (m : (ℓ : Loc Cert.DhValueIdeal.nD Cert.DhValueIdeal.τ Cert.DhValueIdeal.sig) → Buf (Elt Ideal) ℓ) (g : Dev Cert.DhValueIdeal.nD → PrngReg)
    (m' : (ℓ : Loc Cert.DhValueReferenceIdeal.nD Cert.DhValueReferenceIdeal.τ Cert.DhValueReferenceIdeal.sig) → Buf (Elt Ideal) ℓ) (g' : Dev Cert.DhValueReferenceIdeal.nD → PrngReg), Pre_DhValueIdeal m →
    (∀ c : Dev Cert.DhValueIdeal.nD,
      m' ((c.tc : Thread Cert.DhValueReferenceIdeal.nD Cert.DhValueReferenceIdeal.τ).loc Cert.DhValueReferenceIdeal.main_arg0) = m ((c.tc : Thread Cert.DhValueIdeal.nD Cert.DhValueIdeal.τ).loc Cert.DhValueIdeal.main_arg0)
      ∧ m' ((c.tc : Thread Cert.DhValueReferenceIdeal.nD Cert.DhValueReferenceIdeal.τ).loc Cert.DhValueReferenceIdeal.main_arg1) = m ((c.tc : Thread Cert.DhValueIdeal.nD Cert.DhValueIdeal.τ).loc Cert.DhValueIdeal.main_arg1)
      ∧ m' ((c.tc : Thread Cert.DhValueReferenceIdeal.nD Cert.DhValueReferenceIdeal.τ).loc Cert.DhValueReferenceIdeal.main_arg2) = m ((c.tc : Thread Cert.DhValueIdeal.nD Cert.DhValueIdeal.τ).loc Cert.DhValueIdeal.main_arg2)) →
    ∃ (v0 : (c : Dev Cert.DhValueIdeal.nD) → Buf (Elt Ideal) ((c.tc : Thread Cert.DhValueIdeal.nD Cert.DhValueIdeal.τ).loc Cert.DhValueIdeal.main_v2)),
      θ_run (Cert.DhValueIdeal.defs (F := Ideal)) (onTc (τ := Cert.DhValueIdeal.τ) (Cert.DhValueIdeal.main (F := Ideal))) ⟨m, fun _ => 0, g⟩ (fun r => ∀ c : Dev Cert.DhValueIdeal.nD,
          r.2.mem ((c.tc : Thread Cert.DhValueIdeal.nD Cert.DhValueIdeal.τ).loc Cert.DhValueIdeal.main_v2) = v0 c
          ∧ r.2.mem ((c.tc : Thread Cert.DhValueIdeal.nD Cert.DhValueIdeal.τ).loc Cert.DhValueIdeal.main_arg0) = m ((c.tc : Thread Cert.DhValueIdeal.nD Cert.DhValueIdeal.τ).loc Cert.DhValueIdeal.main_arg0)
          ∧ r.2.mem ((c.tc : Thread Cert.DhValueIdeal.nD Cert.DhValueIdeal.τ).loc Cert.DhValueIdeal.main_arg1) = m ((c.tc : Thread Cert.DhValueIdeal.nD Cert.DhValueIdeal.τ).loc Cert.DhValueIdeal.main_arg1)
          ∧ r.2.mem ((c.tc : Thread Cert.DhValueIdeal.nD Cert.DhValueIdeal.τ).loc Cert.DhValueIdeal.main_arg2) = m ((c.tc : Thread Cert.DhValueIdeal.nD Cert.DhValueIdeal.τ).loc Cert.DhValueIdeal.main_arg2))
      ∧ θ_run (Cert.DhValueReferenceIdeal.defs (F := Ideal)) (onTc (τ := Cert.DhValueReferenceIdeal.τ) (Cert.DhValueReferenceIdeal.main (F := Ideal))) ⟨m', fun _ => 0, g'⟩ (fun r => ∀ c : Dev Cert.DhValueReferenceIdeal.nD,
          r.2.mem ((c.tc : Thread Cert.DhValueReferenceIdeal.nD Cert.DhValueReferenceIdeal.τ).loc Cert.DhValueReferenceIdeal.main_v5) = v0 c
          ∧ r.2.mem ((c.tc : Thread Cert.DhValueReferenceIdeal.nD Cert.DhValueReferenceIdeal.τ).loc Cert.DhValueReferenceIdeal.main_arg0) = m' ((c.tc : Thread Cert.DhValueReferenceIdeal.nD Cert.DhValueReferenceIdeal.τ).loc Cert.DhValueReferenceIdeal.main_arg0)
          ∧ r.2.mem ((c.tc : Thread Cert.DhValueReferenceIdeal.nD Cert.DhValueReferenceIdeal.τ).loc Cert.DhValueReferenceIdeal.main_arg1) = m' ((c.tc : Thread Cert.DhValueReferenceIdeal.nD Cert.DhValueReferenceIdeal.τ).loc Cert.DhValueReferenceIdeal.main_arg1)
          ∧ r.2.mem ((c.tc : Thread Cert.DhValueReferenceIdeal.nD Cert.DhValueReferenceIdeal.τ).loc Cert.DhValueReferenceIdeal.main_arg2) = m' ((c.tc : Thread Cert.DhValueReferenceIdeal.nD Cert.DhValueReferenceIdeal.τ).loc Cert.DhValueReferenceIdeal.main_arg2))

def preserves_DwIn_DwInIdeal : Prop :=
  True

def algebraic_DwInIdeal_DwInReferenceIdeal [hDwInIdeal : Cert.DwInIdeal.Facts] [hDwInReferenceIdeal : Cert.DwInReferenceIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInIdeal m →
    (∀ c : Dev Cert.DwInIdeal.nD,
      m' ((c.tc : Thread Cert.DwInReferenceIdeal.nD Cert.DwInReferenceIdeal.τ).loc Cert.DwInReferenceIdeal.main_arg0) = m ((c.tc : Thread Cert.DwInIdeal.nD Cert.DwInIdeal.τ).loc Cert.DwInIdeal.main_arg0)
      ∧ m' ((c.tc : Thread Cert.DwInReferenceIdeal.nD Cert.DwInReferenceIdeal.τ).loc Cert.DwInReferenceIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v2)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v2) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v3) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1))

def preserves_DhIn_DhInIdeal : Prop :=
  True

def algebraic_DhInIdeal_DhInReferenceIdeal [hDhInIdeal : Cert.DhInIdeal.Facts] [hDhInReferenceIdeal : Cert.DhInReferenceIdeal.Facts] : Prop :=
  ∀ (m : (ℓ : Loc Cert.DhInIdeal.nD Cert.DhInIdeal.τ Cert.DhInIdeal.sig) → Buf (Elt Ideal) ℓ) (g : Dev Cert.DhInIdeal.nD → PrngReg)
    (m' : (ℓ : Loc Cert.DhInReferenceIdeal.nD Cert.DhInReferenceIdeal.τ Cert.DhInReferenceIdeal.sig) → Buf (Elt Ideal) ℓ) (g' : Dev Cert.DhInReferenceIdeal.nD → PrngReg), Pre_DhInIdeal m →
    (∀ c : Dev Cert.DhInIdeal.nD,
      m' ((c.tc : Thread Cert.DhInReferenceIdeal.nD Cert.DhInReferenceIdeal.τ).loc Cert.DhInReferenceIdeal.main_arg0) = m ((c.tc : Thread Cert.DhInIdeal.nD Cert.DhInIdeal.τ).loc Cert.DhInIdeal.main_arg0)
      ∧ m' ((c.tc : Thread Cert.DhInReferenceIdeal.nD Cert.DhInReferenceIdeal.τ).loc Cert.DhInReferenceIdeal.main_arg1) = m ((c.tc : Thread Cert.DhInIdeal.nD Cert.DhInIdeal.τ).loc Cert.DhInIdeal.main_arg1)) →
    ∃ (v0 : (c : Dev Cert.DhInIdeal.nD) → Buf (Elt Ideal) ((c.tc : Thread Cert.DhInIdeal.nD Cert.DhInIdeal.τ).loc Cert.DhInIdeal.main_v2)),
      θ_run (Cert.DhInIdeal.defs (F := Ideal)) (onTc (τ := Cert.DhInIdeal.τ) (Cert.DhInIdeal.main (F := Ideal))) ⟨m, fun _ => 0, g⟩ (fun r => ∀ c : Dev Cert.DhInIdeal.nD,
          r.2.mem ((c.tc : Thread Cert.DhInIdeal.nD Cert.DhInIdeal.τ).loc Cert.DhInIdeal.main_v2) = v0 c
          ∧ r.2.mem ((c.tc : Thread Cert.DhInIdeal.nD Cert.DhInIdeal.τ).loc Cert.DhInIdeal.main_arg0) = m ((c.tc : Thread Cert.DhInIdeal.nD Cert.DhInIdeal.τ).loc Cert.DhInIdeal.main_arg0)
          ∧ r.2.mem ((c.tc : Thread Cert.DhInIdeal.nD Cert.DhInIdeal.τ).loc Cert.DhInIdeal.main_arg1) = m ((c.tc : Thread Cert.DhInIdeal.nD Cert.DhInIdeal.τ).loc Cert.DhInIdeal.main_arg1))
      ∧ θ_run (Cert.DhInReferenceIdeal.defs (F := Ideal)) (onTc (τ := Cert.DhInReferenceIdeal.τ) (Cert.DhInReferenceIdeal.main (F := Ideal))) ⟨m', fun _ => 0, g'⟩ (fun r => ∀ c : Dev Cert.DhInReferenceIdeal.nD,
          r.2.mem ((c.tc : Thread Cert.DhInReferenceIdeal.nD Cert.DhInReferenceIdeal.τ).loc Cert.DhInReferenceIdeal.main_v3) = v0 c
          ∧ r.2.mem ((c.tc : Thread Cert.DhInReferenceIdeal.nD Cert.DhInReferenceIdeal.τ).loc Cert.DhInReferenceIdeal.main_arg0) = m' ((c.tc : Thread Cert.DhInReferenceIdeal.nD Cert.DhInReferenceIdeal.τ).loc Cert.DhInReferenceIdeal.main_arg0)
          ∧ r.2.mem ((c.tc : Thread Cert.DhInReferenceIdeal.nD Cert.DhInReferenceIdeal.τ).loc Cert.DhInReferenceIdeal.main_arg1) = m' ((c.tc : Thread Cert.DhInReferenceIdeal.nD Cert.DhInReferenceIdeal.τ).loc Cert.DhInReferenceIdeal.main_arg1))

def preserves_DwOut_DwOutIdeal : Prop :=
  True

def algebraic_DwOutIdeal_DwOutReferenceIdeal [hDwOutIdeal : Cert.DwOutIdeal.Facts] [hDwOutReferenceIdeal : Cert.DwOutReferenceIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutIdeal m →
    (∀ c : Dev Cert.DwOutIdeal.nD,
      m' ((c.tc : Thread Cert.DwOutReferenceIdeal.nD Cert.DwOutReferenceIdeal.τ).loc Cert.DwOutReferenceIdeal.main_arg0) = m ((c.tc : Thread Cert.DwOutIdeal.nD Cert.DwOutIdeal.τ).loc Cert.DwOutIdeal.main_arg0)
      ∧ m' ((c.tc : Thread Cert.DwOutReferenceIdeal.nD Cert.DwOutReferenceIdeal.τ).loc Cert.DwOutReferenceIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v2) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v3) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_Dycat_DycatIdeal : Prop :=
  True

def algebraic_DycatIdeal_DycatReferenceIdeal [hDycatIdeal : Cert.DycatIdeal.Facts] [hDycatReferenceIdeal : Cert.DycatReferenceIdeal.Facts] : Prop :=
  ∀ (m : (ℓ : Loc Cert.DycatIdeal.nD Cert.DycatIdeal.τ Cert.DycatIdeal.sig) → Buf (Elt Ideal) ℓ) (g : Dev Cert.DycatIdeal.nD → PrngReg)
    (m' : (ℓ : Loc Cert.DycatReferenceIdeal.nD Cert.DycatReferenceIdeal.τ Cert.DycatReferenceIdeal.sig) → Buf (Elt Ideal) ℓ) (g' : Dev Cert.DycatReferenceIdeal.nD → PrngReg), Pre_DycatIdeal m →
    (∀ c : Dev Cert.DycatIdeal.nD,
      m' ((c.tc : Thread Cert.DycatReferenceIdeal.nD Cert.DycatReferenceIdeal.τ).loc Cert.DycatReferenceIdeal.main_arg0) = m ((c.tc : Thread Cert.DycatIdeal.nD Cert.DycatIdeal.τ).loc Cert.DycatIdeal.main_arg0)
      ∧ m' ((c.tc : Thread Cert.DycatReferenceIdeal.nD Cert.DycatReferenceIdeal.τ).loc Cert.DycatReferenceIdeal.main_arg1) = m ((c.tc : Thread Cert.DycatIdeal.nD Cert.DycatIdeal.τ).loc Cert.DycatIdeal.main_arg1)) →
    ∃ (v0 : (c : Dev Cert.DycatIdeal.nD) → Buf (Elt Ideal) ((c.tc : Thread Cert.DycatIdeal.nD Cert.DycatIdeal.τ).loc Cert.DycatIdeal.main_v2)),
      θ_run (Cert.DycatIdeal.defs (F := Ideal)) (onTc (τ := Cert.DycatIdeal.τ) (Cert.DycatIdeal.main (F := Ideal))) ⟨m, fun _ => 0, g⟩ (fun r => ∀ c : Dev Cert.DycatIdeal.nD,
          r.2.mem ((c.tc : Thread Cert.DycatIdeal.nD Cert.DycatIdeal.τ).loc Cert.DycatIdeal.main_v2) = v0 c
          ∧ r.2.mem ((c.tc : Thread Cert.DycatIdeal.nD Cert.DycatIdeal.τ).loc Cert.DycatIdeal.main_arg0) = m ((c.tc : Thread Cert.DycatIdeal.nD Cert.DycatIdeal.τ).loc Cert.DycatIdeal.main_arg0)
          ∧ r.2.mem ((c.tc : Thread Cert.DycatIdeal.nD Cert.DycatIdeal.τ).loc Cert.DycatIdeal.main_arg1) = m ((c.tc : Thread Cert.DycatIdeal.nD Cert.DycatIdeal.τ).loc Cert.DycatIdeal.main_arg1))
      ∧ θ_run (Cert.DycatReferenceIdeal.defs (F := Ideal)) (onTc (τ := Cert.DycatReferenceIdeal.τ) (Cert.DycatReferenceIdeal.main (F := Ideal))) ⟨m', fun _ => 0, g'⟩ (fun r => ∀ c : Dev Cert.DycatReferenceIdeal.nD,
          r.2.mem ((c.tc : Thread Cert.DycatReferenceIdeal.nD Cert.DycatReferenceIdeal.τ).loc Cert.DycatReferenceIdeal.main_v3) = v0 c
          ∧ r.2.mem ((c.tc : Thread Cert.DycatReferenceIdeal.nD Cert.DycatReferenceIdeal.τ).loc Cert.DycatReferenceIdeal.main_arg0) = m' ((c.tc : Thread Cert.DycatReferenceIdeal.nD Cert.DycatReferenceIdeal.τ).loc Cert.DycatReferenceIdeal.main_arg0)
          ∧ r.2.mem ((c.tc : Thread Cert.DycatReferenceIdeal.nD Cert.DycatReferenceIdeal.τ).loc Cert.DycatReferenceIdeal.main_arg1) = m' ((c.tc : Thread Cert.DycatReferenceIdeal.nD Cert.DycatReferenceIdeal.τ).loc Cert.DycatReferenceIdeal.main_arg1))

def preserves_MulIn_MulInIdeal : Prop :=
  True

def algebraic_MulInIdeal_MulInReferenceIdeal [hMulInIdeal : Cert.MulInIdeal.Facts] [hMulInReferenceIdeal : Cert.MulInReferenceIdeal.Facts] : Prop :=
  ∀ (m : (ℓ : Loc Cert.MulInIdeal.nD Cert.MulInIdeal.τ Cert.MulInIdeal.sig) → Buf (Elt Ideal) ℓ) (g : Dev Cert.MulInIdeal.nD → PrngReg)
    (m' : (ℓ : Loc Cert.MulInReferenceIdeal.nD Cert.MulInReferenceIdeal.τ Cert.MulInReferenceIdeal.sig) → Buf (Elt Ideal) ℓ) (g' : Dev Cert.MulInReferenceIdeal.nD → PrngReg), Pre_MulInIdeal m →
    (∀ c : Dev Cert.MulInIdeal.nD,
      m' ((c.tc : Thread Cert.MulInReferenceIdeal.nD Cert.MulInReferenceIdeal.τ).loc Cert.MulInReferenceIdeal.main_arg0) = m ((c.tc : Thread Cert.MulInIdeal.nD Cert.MulInIdeal.τ).loc Cert.MulInIdeal.main_arg0)
      ∧ m' ((c.tc : Thread Cert.MulInReferenceIdeal.nD Cert.MulInReferenceIdeal.τ).loc Cert.MulInReferenceIdeal.main_arg1) = m ((c.tc : Thread Cert.MulInIdeal.nD Cert.MulInIdeal.τ).loc Cert.MulInIdeal.main_arg1)) →
    ∃ (v0 : (c : Dev Cert.MulInIdeal.nD) → Buf (Elt Ideal) ((c.tc : Thread Cert.MulInIdeal.nD Cert.MulInIdeal.τ).loc Cert.MulInIdeal.main_v2)),
      θ_run (Cert.MulInIdeal.defs (F := Ideal)) (onTc (τ := Cert.MulInIdeal.τ) (Cert.MulInIdeal.main (F := Ideal))) ⟨m, fun _ => 0, g⟩ (fun r => ∀ c : Dev Cert.MulInIdeal.nD,
          r.2.mem ((c.tc : Thread Cert.MulInIdeal.nD Cert.MulInIdeal.τ).loc Cert.MulInIdeal.main_v2) = v0 c
          ∧ r.2.mem ((c.tc : Thread Cert.MulInIdeal.nD Cert.MulInIdeal.τ).loc Cert.MulInIdeal.main_arg0) = m ((c.tc : Thread Cert.MulInIdeal.nD Cert.MulInIdeal.τ).loc Cert.MulInIdeal.main_arg0)
          ∧ r.2.mem ((c.tc : Thread Cert.MulInIdeal.nD Cert.MulInIdeal.τ).loc Cert.MulInIdeal.main_arg1) = m ((c.tc : Thread Cert.MulInIdeal.nD Cert.MulInIdeal.τ).loc Cert.MulInIdeal.main_arg1))
      ∧ θ_run (Cert.MulInReferenceIdeal.defs (F := Ideal)) (onTc (τ := Cert.MulInReferenceIdeal.τ) (Cert.MulInReferenceIdeal.main (F := Ideal))) ⟨m', fun _ => 0, g'⟩ (fun r => ∀ c : Dev Cert.MulInReferenceIdeal.nD,
          r.2.mem ((c.tc : Thread Cert.MulInReferenceIdeal.nD Cert.MulInReferenceIdeal.τ).loc Cert.MulInReferenceIdeal.main_v0) = v0 c
          ∧ r.2.mem ((c.tc : Thread Cert.MulInReferenceIdeal.nD Cert.MulInReferenceIdeal.τ).loc Cert.MulInReferenceIdeal.main_arg0) = m' ((c.tc : Thread Cert.MulInReferenceIdeal.nD Cert.MulInReferenceIdeal.τ).loc Cert.MulInReferenceIdeal.main_arg0)
          ∧ r.2.mem ((c.tc : Thread Cert.MulInReferenceIdeal.nD Cert.MulInReferenceIdeal.τ).loc Cert.MulInReferenceIdeal.main_arg1) = m' ((c.tc : Thread Cert.MulInReferenceIdeal.nD Cert.MulInReferenceIdeal.τ).loc Cert.MulInReferenceIdeal.main_arg1))

def preserves_MulOut_MulOutIdeal : Prop :=
  True

def algebraic_MulOutIdeal_MulOutReferenceIdeal [hMulOutIdeal : Cert.MulOutIdeal.Facts] [hMulOutReferenceIdeal : Cert.MulOutReferenceIdeal.Facts] : Prop :=
  ∀ (m : (ℓ : Loc Cert.MulOutIdeal.nD Cert.MulOutIdeal.τ Cert.MulOutIdeal.sig) → Buf (Elt Ideal) ℓ) (g : Dev Cert.MulOutIdeal.nD → PrngReg)
    (m' : (ℓ : Loc Cert.MulOutReferenceIdeal.nD Cert.MulOutReferenceIdeal.τ Cert.MulOutReferenceIdeal.sig) → Buf (Elt Ideal) ℓ) (g' : Dev Cert.MulOutReferenceIdeal.nD → PrngReg), Pre_MulOutIdeal m →
    (∀ c : Dev Cert.MulOutIdeal.nD,
      m' ((c.tc : Thread Cert.MulOutReferenceIdeal.nD Cert.MulOutReferenceIdeal.τ).loc Cert.MulOutReferenceIdeal.main_arg0) = m ((c.tc : Thread Cert.MulOutIdeal.nD Cert.MulOutIdeal.τ).loc Cert.MulOutIdeal.main_arg0)
      ∧ m' ((c.tc : Thread Cert.MulOutReferenceIdeal.nD Cert.MulOutReferenceIdeal.τ).loc Cert.MulOutReferenceIdeal.main_arg1) = m ((c.tc : Thread Cert.MulOutIdeal.nD Cert.MulOutIdeal.τ).loc Cert.MulOutIdeal.main_arg1)
      ∧ m' ((c.tc : Thread Cert.MulOutReferenceIdeal.nD Cert.MulOutReferenceIdeal.τ).loc Cert.MulOutReferenceIdeal.main_arg2) = m ((c.tc : Thread Cert.MulOutIdeal.nD Cert.MulOutIdeal.τ).loc Cert.MulOutIdeal.main_arg2)) →
    ∃ (v0 : (c : Dev Cert.MulOutIdeal.nD) → Buf (Elt Ideal) ((c.tc : Thread Cert.MulOutIdeal.nD Cert.MulOutIdeal.τ).loc Cert.MulOutIdeal.main_v2)),
      θ_run (Cert.MulOutIdeal.defs (F := Ideal)) (onTc (τ := Cert.MulOutIdeal.τ) (Cert.MulOutIdeal.main (F := Ideal))) ⟨m, fun _ => 0, g⟩ (fun r => ∀ c : Dev Cert.MulOutIdeal.nD,
          r.2.mem ((c.tc : Thread Cert.MulOutIdeal.nD Cert.MulOutIdeal.τ).loc Cert.MulOutIdeal.main_v2) = v0 c
          ∧ r.2.mem ((c.tc : Thread Cert.MulOutIdeal.nD Cert.MulOutIdeal.τ).loc Cert.MulOutIdeal.main_arg0) = m ((c.tc : Thread Cert.MulOutIdeal.nD Cert.MulOutIdeal.τ).loc Cert.MulOutIdeal.main_arg0)
          ∧ r.2.mem ((c.tc : Thread Cert.MulOutIdeal.nD Cert.MulOutIdeal.τ).loc Cert.MulOutIdeal.main_arg1) = m ((c.tc : Thread Cert.MulOutIdeal.nD Cert.MulOutIdeal.τ).loc Cert.MulOutIdeal.main_arg1)
          ∧ r.2.mem ((c.tc : Thread Cert.MulOutIdeal.nD Cert.MulOutIdeal.τ).loc Cert.MulOutIdeal.main_arg2) = m ((c.tc : Thread Cert.MulOutIdeal.nD Cert.MulOutIdeal.τ).loc Cert.MulOutIdeal.main_arg2))
      ∧ θ_run (Cert.MulOutReferenceIdeal.defs (F := Ideal)) (onTc (τ := Cert.MulOutReferenceIdeal.τ) (Cert.MulOutReferenceIdeal.main (F := Ideal))) ⟨m', fun _ => 0, g'⟩ (fun r => ∀ c : Dev Cert.MulOutReferenceIdeal.nD,
          r.2.mem ((c.tc : Thread Cert.MulOutReferenceIdeal.nD Cert.MulOutReferenceIdeal.τ).loc Cert.MulOutReferenceIdeal.main_v1) = v0 c
          ∧ r.2.mem ((c.tc : Thread Cert.MulOutReferenceIdeal.nD Cert.MulOutReferenceIdeal.τ).loc Cert.MulOutReferenceIdeal.main_arg0) = m' ((c.tc : Thread Cert.MulOutReferenceIdeal.nD Cert.MulOutReferenceIdeal.τ).loc Cert.MulOutReferenceIdeal.main_arg0)
          ∧ r.2.mem ((c.tc : Thread Cert.MulOutReferenceIdeal.nD Cert.MulOutReferenceIdeal.τ).loc Cert.MulOutReferenceIdeal.main_arg1) = m' ((c.tc : Thread Cert.MulOutReferenceIdeal.nD Cert.MulOutReferenceIdeal.τ).loc Cert.MulOutReferenceIdeal.main_arg1)
          ∧ r.2.mem ((c.tc : Thread Cert.MulOutReferenceIdeal.nD Cert.MulOutReferenceIdeal.τ).loc Cert.MulOutReferenceIdeal.main_arg2) = m' ((c.tc : Thread Cert.MulOutReferenceIdeal.nD Cert.MulOutReferenceIdeal.τ).loc Cert.MulOutReferenceIdeal.main_arg2))

def preserves_MulUp_MulUpIdeal : Prop :=
  True

def algebraic_MulUpIdeal_MulUpReferenceIdeal [hMulUpIdeal : Cert.MulUpIdeal.Facts] [hMulUpReferenceIdeal : Cert.MulUpReferenceIdeal.Facts] : Prop :=
  ∀ (m : (ℓ : Loc Cert.MulUpIdeal.nD Cert.MulUpIdeal.τ Cert.MulUpIdeal.sig) → Buf (Elt Ideal) ℓ) (g : Dev Cert.MulUpIdeal.nD → PrngReg)
    (m' : (ℓ : Loc Cert.MulUpReferenceIdeal.nD Cert.MulUpReferenceIdeal.τ Cert.MulUpReferenceIdeal.sig) → Buf (Elt Ideal) ℓ) (g' : Dev Cert.MulUpReferenceIdeal.nD → PrngReg), Pre_MulUpIdeal m →
    (∀ c : Dev Cert.MulUpIdeal.nD,
      m' ((c.tc : Thread Cert.MulUpReferenceIdeal.nD Cert.MulUpReferenceIdeal.τ).loc Cert.MulUpReferenceIdeal.main_arg0) = m ((c.tc : Thread Cert.MulUpIdeal.nD Cert.MulUpIdeal.τ).loc Cert.MulUpIdeal.main_arg0)
      ∧ m' ((c.tc : Thread Cert.MulUpReferenceIdeal.nD Cert.MulUpReferenceIdeal.τ).loc Cert.MulUpReferenceIdeal.main_arg1) = m ((c.tc : Thread Cert.MulUpIdeal.nD Cert.MulUpIdeal.τ).loc Cert.MulUpIdeal.main_arg1)) →
    ∃ (v0 : (c : Dev Cert.MulUpIdeal.nD) → Buf (Elt Ideal) ((c.tc : Thread Cert.MulUpIdeal.nD Cert.MulUpIdeal.τ).loc Cert.MulUpIdeal.main_v2)),
      θ_run (Cert.MulUpIdeal.defs (F := Ideal)) (onTc (τ := Cert.MulUpIdeal.τ) (Cert.MulUpIdeal.main (F := Ideal))) ⟨m, fun _ => 0, g⟩ (fun r => ∀ c : Dev Cert.MulUpIdeal.nD,
          r.2.mem ((c.tc : Thread Cert.MulUpIdeal.nD Cert.MulUpIdeal.τ).loc Cert.MulUpIdeal.main_v2) = v0 c
          ∧ r.2.mem ((c.tc : Thread Cert.MulUpIdeal.nD Cert.MulUpIdeal.τ).loc Cert.MulUpIdeal.main_arg0) = m ((c.tc : Thread Cert.MulUpIdeal.nD Cert.MulUpIdeal.τ).loc Cert.MulUpIdeal.main_arg0)
          ∧ r.2.mem ((c.tc : Thread Cert.MulUpIdeal.nD Cert.MulUpIdeal.τ).loc Cert.MulUpIdeal.main_arg1) = m ((c.tc : Thread Cert.MulUpIdeal.nD Cert.MulUpIdeal.τ).loc Cert.MulUpIdeal.main_arg1))
      ∧ θ_run (Cert.MulUpReferenceIdeal.defs (F := Ideal)) (onTc (τ := Cert.MulUpReferenceIdeal.τ) (Cert.MulUpReferenceIdeal.main (F := Ideal))) ⟨m', fun _ => 0, g'⟩ (fun r => ∀ c : Dev Cert.MulUpReferenceIdeal.nD,
          r.2.mem ((c.tc : Thread Cert.MulUpReferenceIdeal.nD Cert.MulUpReferenceIdeal.τ).loc Cert.MulUpReferenceIdeal.main_v0) = v0 c
          ∧ r.2.mem ((c.tc : Thread Cert.MulUpReferenceIdeal.nD Cert.MulUpReferenceIdeal.τ).loc Cert.MulUpReferenceIdeal.main_arg0) = m' ((c.tc : Thread Cert.MulUpReferenceIdeal.nD Cert.MulUpReferenceIdeal.τ).loc Cert.MulUpReferenceIdeal.main_arg0)
          ∧ r.2.mem ((c.tc : Thread Cert.MulUpReferenceIdeal.nD Cert.MulUpReferenceIdeal.τ).loc Cert.MulUpReferenceIdeal.main_arg1) = m' ((c.tc : Thread Cert.MulUpReferenceIdeal.nD Cert.MulUpReferenceIdeal.τ).loc Cert.MulUpReferenceIdeal.main_arg1))

def preserves_MulDown_MulDownIdeal : Prop :=
  True

def algebraic_MulDownIdeal_MulDownReferenceIdeal [hMulDownIdeal : Cert.MulDownIdeal.Facts] [hMulDownReferenceIdeal : Cert.MulDownReferenceIdeal.Facts] : Prop :=
  ∀ (m : (ℓ : Loc Cert.MulDownIdeal.nD Cert.MulDownIdeal.τ Cert.MulDownIdeal.sig) → Buf (Elt Ideal) ℓ) (g : Dev Cert.MulDownIdeal.nD → PrngReg)
    (m' : (ℓ : Loc Cert.MulDownReferenceIdeal.nD Cert.MulDownReferenceIdeal.τ Cert.MulDownReferenceIdeal.sig) → Buf (Elt Ideal) ℓ) (g' : Dev Cert.MulDownReferenceIdeal.nD → PrngReg), Pre_MulDownIdeal m →
    (∀ c : Dev Cert.MulDownIdeal.nD,
      m' ((c.tc : Thread Cert.MulDownReferenceIdeal.nD Cert.MulDownReferenceIdeal.τ).loc Cert.MulDownReferenceIdeal.main_arg0) = m ((c.tc : Thread Cert.MulDownIdeal.nD Cert.MulDownIdeal.τ).loc Cert.MulDownIdeal.main_arg0)
      ∧ m' ((c.tc : Thread Cert.MulDownReferenceIdeal.nD Cert.MulDownReferenceIdeal.τ).loc Cert.MulDownReferenceIdeal.main_arg1) = m ((c.tc : Thread Cert.MulDownIdeal.nD Cert.MulDownIdeal.τ).loc Cert.MulDownIdeal.main_arg1)
      ∧ m' ((c.tc : Thread Cert.MulDownReferenceIdeal.nD Cert.MulDownReferenceIdeal.τ).loc Cert.MulDownReferenceIdeal.main_arg2) = m ((c.tc : Thread Cert.MulDownIdeal.nD Cert.MulDownIdeal.τ).loc Cert.MulDownIdeal.main_arg2)) →
    ∃ (v0 : (c : Dev Cert.MulDownIdeal.nD) → Buf (Elt Ideal) ((c.tc : Thread Cert.MulDownIdeal.nD Cert.MulDownIdeal.τ).loc Cert.MulDownIdeal.main_v2)),
      θ_run (Cert.MulDownIdeal.defs (F := Ideal)) (onTc (τ := Cert.MulDownIdeal.τ) (Cert.MulDownIdeal.main (F := Ideal))) ⟨m, fun _ => 0, g⟩ (fun r => ∀ c : Dev Cert.MulDownIdeal.nD,
          r.2.mem ((c.tc : Thread Cert.MulDownIdeal.nD Cert.MulDownIdeal.τ).loc Cert.MulDownIdeal.main_v2) = v0 c
          ∧ r.2.mem ((c.tc : Thread Cert.MulDownIdeal.nD Cert.MulDownIdeal.τ).loc Cert.MulDownIdeal.main_arg0) = m ((c.tc : Thread Cert.MulDownIdeal.nD Cert.MulDownIdeal.τ).loc Cert.MulDownIdeal.main_arg0)
          ∧ r.2.mem ((c.tc : Thread Cert.MulDownIdeal.nD Cert.MulDownIdeal.τ).loc Cert.MulDownIdeal.main_arg1) = m ((c.tc : Thread Cert.MulDownIdeal.nD Cert.MulDownIdeal.τ).loc Cert.MulDownIdeal.main_arg1)
          ∧ r.2.mem ((c.tc : Thread Cert.MulDownIdeal.nD Cert.MulDownIdeal.τ).loc Cert.MulDownIdeal.main_arg2) = m ((c.tc : Thread Cert.MulDownIdeal.nD Cert.MulDownIdeal.τ).loc Cert.MulDownIdeal.main_arg2))
      ∧ θ_run (Cert.MulDownReferenceIdeal.defs (F := Ideal)) (onTc (τ := Cert.MulDownReferenceIdeal.τ) (Cert.MulDownReferenceIdeal.main (F := Ideal))) ⟨m', fun _ => 0, g'⟩ (fun r => ∀ c : Dev Cert.MulDownReferenceIdeal.nD,
          r.2.mem ((c.tc : Thread Cert.MulDownReferenceIdeal.nD Cert.MulDownReferenceIdeal.τ).loc Cert.MulDownReferenceIdeal.main_v1) = v0 c
          ∧ r.2.mem ((c.tc : Thread Cert.MulDownReferenceIdeal.nD Cert.MulDownReferenceIdeal.τ).loc Cert.MulDownReferenceIdeal.main_arg0) = m' ((c.tc : Thread Cert.MulDownReferenceIdeal.nD Cert.MulDownReferenceIdeal.τ).loc Cert.MulDownReferenceIdeal.main_arg0)
          ∧ r.2.mem ((c.tc : Thread Cert.MulDownReferenceIdeal.nD Cert.MulDownReferenceIdeal.τ).loc Cert.MulDownReferenceIdeal.main_arg1) = m' ((c.tc : Thread Cert.MulDownReferenceIdeal.nD Cert.MulDownReferenceIdeal.τ).loc Cert.MulDownReferenceIdeal.main_arg1)
          ∧ r.2.mem ((c.tc : Thread Cert.MulDownReferenceIdeal.nD Cert.MulDownReferenceIdeal.τ).loc Cert.MulDownReferenceIdeal.main_arg2) = m' ((c.tc : Thread Cert.MulDownReferenceIdeal.nD Cert.MulDownReferenceIdeal.τ).loc Cert.MulDownReferenceIdeal.main_arg2))

def preserves_MulUq_MulUqIdeal : Prop :=
  True

def algebraic_MulUqIdeal_MulUqReferenceIdeal [hMulUqIdeal : Cert.MulUqIdeal.Facts] [hMulUqReferenceIdeal : Cert.MulUqReferenceIdeal.Facts] : Prop :=
  ∀ (m : (ℓ : Loc Cert.MulUqIdeal.nD Cert.MulUqIdeal.τ Cert.MulUqIdeal.sig) → Buf (Elt Ideal) ℓ) (g : Dev Cert.MulUqIdeal.nD → PrngReg)
    (m' : (ℓ : Loc Cert.MulUqReferenceIdeal.nD Cert.MulUqReferenceIdeal.τ Cert.MulUqReferenceIdeal.sig) → Buf (Elt Ideal) ℓ) (g' : Dev Cert.MulUqReferenceIdeal.nD → PrngReg), Pre_MulUqIdeal m →
    (∀ c : Dev Cert.MulUqIdeal.nD,
      m' ((c.tc : Thread Cert.MulUqReferenceIdeal.nD Cert.MulUqReferenceIdeal.τ).loc Cert.MulUqReferenceIdeal.main_arg0) = m ((c.tc : Thread Cert.MulUqIdeal.nD Cert.MulUqIdeal.τ).loc Cert.MulUqIdeal.main_arg0)
      ∧ m' ((c.tc : Thread Cert.MulUqReferenceIdeal.nD Cert.MulUqReferenceIdeal.τ).loc Cert.MulUqReferenceIdeal.main_arg1) = m ((c.tc : Thread Cert.MulUqIdeal.nD Cert.MulUqIdeal.τ).loc Cert.MulUqIdeal.main_arg1)) →
    ∃ (v0 : (c : Dev Cert.MulUqIdeal.nD) → Buf (Elt Ideal) ((c.tc : Thread Cert.MulUqIdeal.nD Cert.MulUqIdeal.τ).loc Cert.MulUqIdeal.main_v2)),
      θ_run (Cert.MulUqIdeal.defs (F := Ideal)) (onTc (τ := Cert.MulUqIdeal.τ) (Cert.MulUqIdeal.main (F := Ideal))) ⟨m, fun _ => 0, g⟩ (fun r => ∀ c : Dev Cert.MulUqIdeal.nD,
          r.2.mem ((c.tc : Thread Cert.MulUqIdeal.nD Cert.MulUqIdeal.τ).loc Cert.MulUqIdeal.main_v2) = v0 c
          ∧ r.2.mem ((c.tc : Thread Cert.MulUqIdeal.nD Cert.MulUqIdeal.τ).loc Cert.MulUqIdeal.main_arg0) = m ((c.tc : Thread Cert.MulUqIdeal.nD Cert.MulUqIdeal.τ).loc Cert.MulUqIdeal.main_arg0)
          ∧ r.2.mem ((c.tc : Thread Cert.MulUqIdeal.nD Cert.MulUqIdeal.τ).loc Cert.MulUqIdeal.main_arg1) = m ((c.tc : Thread Cert.MulUqIdeal.nD Cert.MulUqIdeal.τ).loc Cert.MulUqIdeal.main_arg1))
      ∧ θ_run (Cert.MulUqReferenceIdeal.defs (F := Ideal)) (onTc (τ := Cert.MulUqReferenceIdeal.τ) (Cert.MulUqReferenceIdeal.main (F := Ideal))) ⟨m', fun _ => 0, g'⟩ (fun r => ∀ c : Dev Cert.MulUqReferenceIdeal.nD,
          r.2.mem ((c.tc : Thread Cert.MulUqReferenceIdeal.nD Cert.MulUqReferenceIdeal.τ).loc Cert.MulUqReferenceIdeal.main_v1) = v0 c
          ∧ r.2.mem ((c.tc : Thread Cert.MulUqReferenceIdeal.nD Cert.MulUqReferenceIdeal.τ).loc Cert.MulUqReferenceIdeal.main_arg0) = m' ((c.tc : Thread Cert.MulUqReferenceIdeal.nD Cert.MulUqReferenceIdeal.τ).loc Cert.MulUqReferenceIdeal.main_arg0)
          ∧ r.2.mem ((c.tc : Thread Cert.MulUqReferenceIdeal.nD Cert.MulUqReferenceIdeal.τ).loc Cert.MulUqReferenceIdeal.main_arg1) = m' ((c.tc : Thread Cert.MulUqReferenceIdeal.nD Cert.MulUqReferenceIdeal.τ).loc Cert.MulUqReferenceIdeal.main_arg1))

def preserves_MulUkv_MulUkvIdeal : Prop :=
  True

def algebraic_MulUkvIdeal_MulUkvReferenceIdeal [hMulUkvIdeal : Cert.MulUkvIdeal.Facts] [hMulUkvReferenceIdeal : Cert.MulUkvReferenceIdeal.Facts] : Prop :=
  ∀ (m : (ℓ : Loc Cert.MulUkvIdeal.nD Cert.MulUkvIdeal.τ Cert.MulUkvIdeal.sig) → Buf (Elt Ideal) ℓ) (g : Dev Cert.MulUkvIdeal.nD → PrngReg)
    (m' : (ℓ : Loc Cert.MulUkvReferenceIdeal.nD Cert.MulUkvReferenceIdeal.τ Cert.MulUkvReferenceIdeal.sig) → Buf (Elt Ideal) ℓ) (g' : Dev Cert.MulUkvReferenceIdeal.nD → PrngReg), Pre_MulUkvIdeal m →
    (∀ c : Dev Cert.MulUkvIdeal.nD,
      m' ((c.tc : Thread Cert.MulUkvReferenceIdeal.nD Cert.MulUkvReferenceIdeal.τ).loc Cert.MulUkvReferenceIdeal.main_arg0) = m ((c.tc : Thread Cert.MulUkvIdeal.nD Cert.MulUkvIdeal.τ).loc Cert.MulUkvIdeal.main_arg0)
      ∧ m' ((c.tc : Thread Cert.MulUkvReferenceIdeal.nD Cert.MulUkvReferenceIdeal.τ).loc Cert.MulUkvReferenceIdeal.main_arg1) = m ((c.tc : Thread Cert.MulUkvIdeal.nD Cert.MulUkvIdeal.τ).loc Cert.MulUkvIdeal.main_arg1)) →
    ∃ (v0 : (c : Dev Cert.MulUkvIdeal.nD) → Buf (Elt Ideal) ((c.tc : Thread Cert.MulUkvIdeal.nD Cert.MulUkvIdeal.τ).loc Cert.MulUkvIdeal.main_v2)),
      θ_run (Cert.MulUkvIdeal.defs (F := Ideal)) (onTc (τ := Cert.MulUkvIdeal.τ) (Cert.MulUkvIdeal.main (F := Ideal))) ⟨m, fun _ => 0, g⟩ (fun r => ∀ c : Dev Cert.MulUkvIdeal.nD,
          r.2.mem ((c.tc : Thread Cert.MulUkvIdeal.nD Cert.MulUkvIdeal.τ).loc Cert.MulUkvIdeal.main_v2) = v0 c
          ∧ r.2.mem ((c.tc : Thread Cert.MulUkvIdeal.nD Cert.MulUkvIdeal.τ).loc Cert.MulUkvIdeal.main_arg0) = m ((c.tc : Thread Cert.MulUkvIdeal.nD Cert.MulUkvIdeal.τ).loc Cert.MulUkvIdeal.main_arg0)
          ∧ r.2.mem ((c.tc : Thread Cert.MulUkvIdeal.nD Cert.MulUkvIdeal.τ).loc Cert.MulUkvIdeal.main_arg1) = m ((c.tc : Thread Cert.MulUkvIdeal.nD Cert.MulUkvIdeal.τ).loc Cert.MulUkvIdeal.main_arg1))
      ∧ θ_run (Cert.MulUkvReferenceIdeal.defs (F := Ideal)) (onTc (τ := Cert.MulUkvReferenceIdeal.τ) (Cert.MulUkvReferenceIdeal.main (F := Ideal))) ⟨m', fun _ => 0, g'⟩ (fun r => ∀ c : Dev Cert.MulUkvReferenceIdeal.nD,
          r.2.mem ((c.tc : Thread Cert.MulUkvReferenceIdeal.nD Cert.MulUkvReferenceIdeal.τ).loc Cert.MulUkvReferenceIdeal.main_v1) = v0 c
          ∧ r.2.mem ((c.tc : Thread Cert.MulUkvReferenceIdeal.nD Cert.MulUkvReferenceIdeal.τ).loc Cert.MulUkvReferenceIdeal.main_arg0) = m' ((c.tc : Thread Cert.MulUkvReferenceIdeal.nD Cert.MulUkvReferenceIdeal.τ).loc Cert.MulUkvReferenceIdeal.main_arg0)
          ∧ r.2.mem ((c.tc : Thread Cert.MulUkvReferenceIdeal.nD Cert.MulUkvReferenceIdeal.τ).loc Cert.MulUkvReferenceIdeal.main_arg1) = m' ((c.tc : Thread Cert.MulUkvReferenceIdeal.nD Cert.MulUkvReferenceIdeal.τ).loc Cert.MulUkvReferenceIdeal.main_arg1))

def preserves_DwUk_DwUkIdeal : Prop :=
  True

def algebraic_DwUkIdeal_DwUkReferenceIdeal [hDwUkIdeal : Cert.DwUkIdeal.Facts] [hDwUkReferenceIdeal : Cert.DwUkReferenceIdeal.Facts] : Prop :=
  ∀ (m : (ℓ : Loc Cert.DwUkIdeal.nD Cert.DwUkIdeal.τ Cert.DwUkIdeal.sig) → Buf (Elt Ideal) ℓ) (g : Dev Cert.DwUkIdeal.nD → PrngReg)
    (m' : (ℓ : Loc Cert.DwUkReferenceIdeal.nD Cert.DwUkReferenceIdeal.τ Cert.DwUkReferenceIdeal.sig) → Buf (Elt Ideal) ℓ) (g' : Dev Cert.DwUkReferenceIdeal.nD → PrngReg), Pre_DwUkIdeal m →
    (∀ c : Dev Cert.DwUkIdeal.nD,
      m' ((c.tc : Thread Cert.DwUkReferenceIdeal.nD Cert.DwUkReferenceIdeal.τ).loc Cert.DwUkReferenceIdeal.main_arg0) = m ((c.tc : Thread Cert.DwUkIdeal.nD Cert.DwUkIdeal.τ).loc Cert.DwUkIdeal.main_arg0)
      ∧ m' ((c.tc : Thread Cert.DwUkReferenceIdeal.nD Cert.DwUkReferenceIdeal.τ).loc Cert.DwUkReferenceIdeal.main_arg1) = m ((c.tc : Thread Cert.DwUkIdeal.nD Cert.DwUkIdeal.τ).loc Cert.DwUkIdeal.main_arg1)) →
    ∃ (v0 : (c : Dev Cert.DwUkIdeal.nD) → Buf (Elt Ideal) ((c.tc : Thread Cert.DwUkIdeal.nD Cert.DwUkIdeal.τ).loc Cert.DwUkIdeal.main_v2)),
      θ_run (Cert.DwUkIdeal.defs (F := Ideal)) (onTc (τ := Cert.DwUkIdeal.τ) (Cert.DwUkIdeal.main (F := Ideal))) ⟨m, fun _ => 0, g⟩ (fun r => ∀ c : Dev Cert.DwUkIdeal.nD,
          r.2.mem ((c.tc : Thread Cert.DwUkIdeal.nD Cert.DwUkIdeal.τ).loc Cert.DwUkIdeal.main_v2) = v0 c
          ∧ r.2.mem ((c.tc : Thread Cert.DwUkIdeal.nD Cert.DwUkIdeal.τ).loc Cert.DwUkIdeal.main_arg0) = m ((c.tc : Thread Cert.DwUkIdeal.nD Cert.DwUkIdeal.τ).loc Cert.DwUkIdeal.main_arg0)
          ∧ r.2.mem ((c.tc : Thread Cert.DwUkIdeal.nD Cert.DwUkIdeal.τ).loc Cert.DwUkIdeal.main_arg1) = m ((c.tc : Thread Cert.DwUkIdeal.nD Cert.DwUkIdeal.τ).loc Cert.DwUkIdeal.main_arg1))
      ∧ θ_run (Cert.DwUkReferenceIdeal.defs (F := Ideal)) (onTc (τ := Cert.DwUkReferenceIdeal.τ) (Cert.DwUkReferenceIdeal.main (F := Ideal))) ⟨m', fun _ => 0, g'⟩ (fun r => ∀ c : Dev Cert.DwUkReferenceIdeal.nD,
          r.2.mem ((c.tc : Thread Cert.DwUkReferenceIdeal.nD Cert.DwUkReferenceIdeal.τ).loc Cert.DwUkReferenceIdeal.main_v3) = v0 c
          ∧ r.2.mem ((c.tc : Thread Cert.DwUkReferenceIdeal.nD Cert.DwUkReferenceIdeal.τ).loc Cert.DwUkReferenceIdeal.main_arg0) = m' ((c.tc : Thread Cert.DwUkReferenceIdeal.nD Cert.DwUkReferenceIdeal.τ).loc Cert.DwUkReferenceIdeal.main_arg0)
          ∧ r.2.mem ((c.tc : Thread Cert.DwUkReferenceIdeal.nD Cert.DwUkReferenceIdeal.τ).loc Cert.DwUkReferenceIdeal.main_arg1) = m' ((c.tc : Thread Cert.DwUkReferenceIdeal.nD Cert.DwUkReferenceIdeal.τ).loc Cert.DwUkReferenceIdeal.main_arg1))

def preserves_DkvnKey_DkvnKeyIdeal : Prop :=
  True

def algebraic_DkvnKeyIdeal_DkvnKeyReferenceIdeal [hDkvnKeyIdeal : Cert.DkvnKeyIdeal.Facts] [hDkvnKeyReferenceIdeal : Cert.DkvnKeyReferenceIdeal.Facts] : Prop :=
  ∀ (m : (ℓ : Loc Cert.DkvnKeyIdeal.nD Cert.DkvnKeyIdeal.τ Cert.DkvnKeyIdeal.sig) → Buf (Elt Ideal) ℓ) (g : Dev Cert.DkvnKeyIdeal.nD → PrngReg)
    (m' : (ℓ : Loc Cert.DkvnKeyReferenceIdeal.nD Cert.DkvnKeyReferenceIdeal.τ Cert.DkvnKeyReferenceIdeal.sig) → Buf (Elt Ideal) ℓ) (g' : Dev Cert.DkvnKeyReferenceIdeal.nD → PrngReg), Pre_DkvnKeyIdeal m →
    (∀ c : Dev Cert.DkvnKeyIdeal.nD,
      m' ((c.tc : Thread Cert.DkvnKeyReferenceIdeal.nD Cert.DkvnKeyReferenceIdeal.τ).loc Cert.DkvnKeyReferenceIdeal.main_arg0) = m ((c.tc : Thread Cert.DkvnKeyIdeal.nD Cert.DkvnKeyIdeal.τ).loc Cert.DkvnKeyIdeal.main_arg0)
      ∧ m' ((c.tc : Thread Cert.DkvnKeyReferenceIdeal.nD Cert.DkvnKeyReferenceIdeal.τ).loc Cert.DkvnKeyReferenceIdeal.main_arg1) = m ((c.tc : Thread Cert.DkvnKeyIdeal.nD Cert.DkvnKeyIdeal.τ).loc Cert.DkvnKeyIdeal.main_arg1)) →
    ∃ (v0 : (c : Dev Cert.DkvnKeyIdeal.nD) → Buf (Elt Ideal) ((c.tc : Thread Cert.DkvnKeyIdeal.nD Cert.DkvnKeyIdeal.τ).loc Cert.DkvnKeyIdeal.main_v2)),
      θ_run (Cert.DkvnKeyIdeal.defs (F := Ideal)) (onTc (τ := Cert.DkvnKeyIdeal.τ) (Cert.DkvnKeyIdeal.main (F := Ideal))) ⟨m, fun _ => 0, g⟩ (fun r => ∀ c : Dev Cert.DkvnKeyIdeal.nD,
          r.2.mem ((c.tc : Thread Cert.DkvnKeyIdeal.nD Cert.DkvnKeyIdeal.τ).loc Cert.DkvnKeyIdeal.main_v2) = v0 c
          ∧ r.2.mem ((c.tc : Thread Cert.DkvnKeyIdeal.nD Cert.DkvnKeyIdeal.τ).loc Cert.DkvnKeyIdeal.main_arg0) = m ((c.tc : Thread Cert.DkvnKeyIdeal.nD Cert.DkvnKeyIdeal.τ).loc Cert.DkvnKeyIdeal.main_arg0)
          ∧ r.2.mem ((c.tc : Thread Cert.DkvnKeyIdeal.nD Cert.DkvnKeyIdeal.τ).loc Cert.DkvnKeyIdeal.main_arg1) = m ((c.tc : Thread Cert.DkvnKeyIdeal.nD Cert.DkvnKeyIdeal.τ).loc Cert.DkvnKeyIdeal.main_arg1))
      ∧ θ_run (Cert.DkvnKeyReferenceIdeal.defs (F := Ideal)) (onTc (τ := Cert.DkvnKeyReferenceIdeal.τ) (Cert.DkvnKeyReferenceIdeal.main (F := Ideal))) ⟨m', fun _ => 0, g'⟩ (fun r => ∀ c : Dev Cert.DkvnKeyReferenceIdeal.nD,
          r.2.mem ((c.tc : Thread Cert.DkvnKeyReferenceIdeal.nD Cert.DkvnKeyReferenceIdeal.τ).loc Cert.DkvnKeyReferenceIdeal.main_v3) = v0 c
          ∧ r.2.mem ((c.tc : Thread Cert.DkvnKeyReferenceIdeal.nD Cert.DkvnKeyReferenceIdeal.τ).loc Cert.DkvnKeyReferenceIdeal.main_arg0) = m' ((c.tc : Thread Cert.DkvnKeyReferenceIdeal.nD Cert.DkvnKeyReferenceIdeal.τ).loc Cert.DkvnKeyReferenceIdeal.main_arg0)
          ∧ r.2.mem ((c.tc : Thread Cert.DkvnKeyReferenceIdeal.nD Cert.DkvnKeyReferenceIdeal.τ).loc Cert.DkvnKeyReferenceIdeal.main_arg1) = m' ((c.tc : Thread Cert.DkvnKeyReferenceIdeal.nD Cert.DkvnKeyReferenceIdeal.τ).loc Cert.DkvnKeyReferenceIdeal.main_arg1))

def preserves_DkvnValue_DkvnValueIdeal : Prop :=
  True

def algebraic_DkvnValueIdeal_DkvnValueReferenceIdeal [hDkvnValueIdeal : Cert.DkvnValueIdeal.Facts] [hDkvnValueReferenceIdeal : Cert.DkvnValueReferenceIdeal.Facts] : Prop :=
  ∀ (m : (ℓ : Loc Cert.DkvnValueIdeal.nD Cert.DkvnValueIdeal.τ Cert.DkvnValueIdeal.sig) → Buf (Elt Ideal) ℓ) (g : Dev Cert.DkvnValueIdeal.nD → PrngReg)
    (m' : (ℓ : Loc Cert.DkvnValueReferenceIdeal.nD Cert.DkvnValueReferenceIdeal.τ Cert.DkvnValueReferenceIdeal.sig) → Buf (Elt Ideal) ℓ) (g' : Dev Cert.DkvnValueReferenceIdeal.nD → PrngReg), Pre_DkvnValueIdeal m →
    (∀ c : Dev Cert.DkvnValueIdeal.nD,
      m' ((c.tc : Thread Cert.DkvnValueReferenceIdeal.nD Cert.DkvnValueReferenceIdeal.τ).loc Cert.DkvnValueReferenceIdeal.main_arg0) = m ((c.tc : Thread Cert.DkvnValueIdeal.nD Cert.DkvnValueIdeal.τ).loc Cert.DkvnValueIdeal.main_arg0)
      ∧ m' ((c.tc : Thread Cert.DkvnValueReferenceIdeal.nD Cert.DkvnValueReferenceIdeal.τ).loc Cert.DkvnValueReferenceIdeal.main_arg1) = m ((c.tc : Thread Cert.DkvnValueIdeal.nD Cert.DkvnValueIdeal.τ).loc Cert.DkvnValueIdeal.main_arg1)
      ∧ m' ((c.tc : Thread Cert.DkvnValueReferenceIdeal.nD Cert.DkvnValueReferenceIdeal.τ).loc Cert.DkvnValueReferenceIdeal.main_arg2) = m ((c.tc : Thread Cert.DkvnValueIdeal.nD Cert.DkvnValueIdeal.τ).loc Cert.DkvnValueIdeal.main_arg2)) →
    ∃ (v0 : (c : Dev Cert.DkvnValueIdeal.nD) → Buf (Elt Ideal) ((c.tc : Thread Cert.DkvnValueIdeal.nD Cert.DkvnValueIdeal.τ).loc Cert.DkvnValueIdeal.main_v2)),
      θ_run (Cert.DkvnValueIdeal.defs (F := Ideal)) (onTc (τ := Cert.DkvnValueIdeal.τ) (Cert.DkvnValueIdeal.main (F := Ideal))) ⟨m, fun _ => 0, g⟩ (fun r => ∀ c : Dev Cert.DkvnValueIdeal.nD,
          r.2.mem ((c.tc : Thread Cert.DkvnValueIdeal.nD Cert.DkvnValueIdeal.τ).loc Cert.DkvnValueIdeal.main_v2) = v0 c
          ∧ r.2.mem ((c.tc : Thread Cert.DkvnValueIdeal.nD Cert.DkvnValueIdeal.τ).loc Cert.DkvnValueIdeal.main_arg0) = m ((c.tc : Thread Cert.DkvnValueIdeal.nD Cert.DkvnValueIdeal.τ).loc Cert.DkvnValueIdeal.main_arg0)
          ∧ r.2.mem ((c.tc : Thread Cert.DkvnValueIdeal.nD Cert.DkvnValueIdeal.τ).loc Cert.DkvnValueIdeal.main_arg1) = m ((c.tc : Thread Cert.DkvnValueIdeal.nD Cert.DkvnValueIdeal.τ).loc Cert.DkvnValueIdeal.main_arg1)
          ∧ r.2.mem ((c.tc : Thread Cert.DkvnValueIdeal.nD Cert.DkvnValueIdeal.τ).loc Cert.DkvnValueIdeal.main_arg2) = m ((c.tc : Thread Cert.DkvnValueIdeal.nD Cert.DkvnValueIdeal.τ).loc Cert.DkvnValueIdeal.main_arg2))
      ∧ θ_run (Cert.DkvnValueReferenceIdeal.defs (F := Ideal)) (onTc (τ := Cert.DkvnValueReferenceIdeal.τ) (Cert.DkvnValueReferenceIdeal.main (F := Ideal))) ⟨m', fun _ => 0, g'⟩ (fun r => ∀ c : Dev Cert.DkvnValueReferenceIdeal.nD,
          r.2.mem ((c.tc : Thread Cert.DkvnValueReferenceIdeal.nD Cert.DkvnValueReferenceIdeal.τ).loc Cert.DkvnValueReferenceIdeal.main_v4) = v0 c
          ∧ r.2.mem ((c.tc : Thread Cert.DkvnValueReferenceIdeal.nD Cert.DkvnValueReferenceIdeal.τ).loc Cert.DkvnValueReferenceIdeal.main_arg0) = m' ((c.tc : Thread Cert.DkvnValueReferenceIdeal.nD Cert.DkvnValueReferenceIdeal.τ).loc Cert.DkvnValueReferenceIdeal.main_arg0)
          ∧ r.2.mem ((c.tc : Thread Cert.DkvnValueReferenceIdeal.nD Cert.DkvnValueReferenceIdeal.τ).loc Cert.DkvnValueReferenceIdeal.main_arg1) = m' ((c.tc : Thread Cert.DkvnValueReferenceIdeal.nD Cert.DkvnValueReferenceIdeal.τ).loc Cert.DkvnValueReferenceIdeal.main_arg1)
          ∧ r.2.mem ((c.tc : Thread Cert.DkvnValueReferenceIdeal.nD Cert.DkvnValueReferenceIdeal.τ).loc Cert.DkvnValueReferenceIdeal.main_arg2) = m' ((c.tc : Thread Cert.DkvnValueReferenceIdeal.nD Cert.DkvnValueReferenceIdeal.τ).loc Cert.DkvnValueReferenceIdeal.main_arg2))

def preserves_DwUq_DwUqIdeal : Prop :=
  True

def algebraic_DwUqIdeal_DwUqReferenceIdeal [hDwUqIdeal : Cert.DwUqIdeal.Facts] [hDwUqReferenceIdeal : Cert.DwUqReferenceIdeal.Facts] : Prop :=
  ∀ (m : (ℓ : Loc Cert.DwUqIdeal.nD Cert.DwUqIdeal.τ Cert.DwUqIdeal.sig) → Buf (Elt Ideal) ℓ) (g : Dev Cert.DwUqIdeal.nD → PrngReg)
    (m' : (ℓ : Loc Cert.DwUqReferenceIdeal.nD Cert.DwUqReferenceIdeal.τ Cert.DwUqReferenceIdeal.sig) → Buf (Elt Ideal) ℓ) (g' : Dev Cert.DwUqReferenceIdeal.nD → PrngReg), Pre_DwUqIdeal m →
    (∀ c : Dev Cert.DwUqIdeal.nD,
      m' ((c.tc : Thread Cert.DwUqReferenceIdeal.nD Cert.DwUqReferenceIdeal.τ).loc Cert.DwUqReferenceIdeal.main_arg0) = m ((c.tc : Thread Cert.DwUqIdeal.nD Cert.DwUqIdeal.τ).loc Cert.DwUqIdeal.main_arg0)
      ∧ m' ((c.tc : Thread Cert.DwUqReferenceIdeal.nD Cert.DwUqReferenceIdeal.τ).loc Cert.DwUqReferenceIdeal.main_arg1) = m ((c.tc : Thread Cert.DwUqIdeal.nD Cert.DwUqIdeal.τ).loc Cert.DwUqIdeal.main_arg1)) →
    ∃ (v0 : (c : Dev Cert.DwUqIdeal.nD) → Buf (Elt Ideal) ((c.tc : Thread Cert.DwUqIdeal.nD Cert.DwUqIdeal.τ).loc Cert.DwUqIdeal.main_v2)),
      θ_run (Cert.DwUqIdeal.defs (F := Ideal)) (onTc (τ := Cert.DwUqIdeal.τ) (Cert.DwUqIdeal.main (F := Ideal))) ⟨m, fun _ => 0, g⟩ (fun r => ∀ c : Dev Cert.DwUqIdeal.nD,
          r.2.mem ((c.tc : Thread Cert.DwUqIdeal.nD Cert.DwUqIdeal.τ).loc Cert.DwUqIdeal.main_v2) = v0 c
          ∧ r.2.mem ((c.tc : Thread Cert.DwUqIdeal.nD Cert.DwUqIdeal.τ).loc Cert.DwUqIdeal.main_arg0) = m ((c.tc : Thread Cert.DwUqIdeal.nD Cert.DwUqIdeal.τ).loc Cert.DwUqIdeal.main_arg0)
          ∧ r.2.mem ((c.tc : Thread Cert.DwUqIdeal.nD Cert.DwUqIdeal.τ).loc Cert.DwUqIdeal.main_arg1) = m ((c.tc : Thread Cert.DwUqIdeal.nD Cert.DwUqIdeal.τ).loc Cert.DwUqIdeal.main_arg1))
      ∧ θ_run (Cert.DwUqReferenceIdeal.defs (F := Ideal)) (onTc (τ := Cert.DwUqReferenceIdeal.τ) (Cert.DwUqReferenceIdeal.main (F := Ideal))) ⟨m', fun _ => 0, g'⟩ (fun r => ∀ c : Dev Cert.DwUqReferenceIdeal.nD,
          r.2.mem ((c.tc : Thread Cert.DwUqReferenceIdeal.nD Cert.DwUqReferenceIdeal.τ).loc Cert.DwUqReferenceIdeal.main_v3) = v0 c
          ∧ r.2.mem ((c.tc : Thread Cert.DwUqReferenceIdeal.nD Cert.DwUqReferenceIdeal.τ).loc Cert.DwUqReferenceIdeal.main_arg0) = m' ((c.tc : Thread Cert.DwUqReferenceIdeal.nD Cert.DwUqReferenceIdeal.τ).loc Cert.DwUqReferenceIdeal.main_arg0)
          ∧ r.2.mem ((c.tc : Thread Cert.DwUqReferenceIdeal.nD Cert.DwUqReferenceIdeal.τ).loc Cert.DwUqReferenceIdeal.main_arg1) = m' ((c.tc : Thread Cert.DwUqReferenceIdeal.nD Cert.DwUqReferenceIdeal.τ).loc Cert.DwUqReferenceIdeal.main_arg1))

def preserves_Dqn_DqnIdeal : Prop :=
  True

def algebraic_DqnIdeal_DqnReferenceIdeal [hDqnIdeal : Cert.DqnIdeal.Facts] [hDqnReferenceIdeal : Cert.DqnReferenceIdeal.Facts] : Prop :=
  ∀ (m : (ℓ : Loc Cert.DqnIdeal.nD Cert.DqnIdeal.τ Cert.DqnIdeal.sig) → Buf (Elt Ideal) ℓ) (g : Dev Cert.DqnIdeal.nD → PrngReg)
    (m' : (ℓ : Loc Cert.DqnReferenceIdeal.nD Cert.DqnReferenceIdeal.τ Cert.DqnReferenceIdeal.sig) → Buf (Elt Ideal) ℓ) (g' : Dev Cert.DqnReferenceIdeal.nD → PrngReg), Pre_DqnIdeal m →
    (∀ c : Dev Cert.DqnIdeal.nD,
      m' ((c.tc : Thread Cert.DqnReferenceIdeal.nD Cert.DqnReferenceIdeal.τ).loc Cert.DqnReferenceIdeal.main_arg0) = m ((c.tc : Thread Cert.DqnIdeal.nD Cert.DqnIdeal.τ).loc Cert.DqnIdeal.main_arg0)
      ∧ m' ((c.tc : Thread Cert.DqnReferenceIdeal.nD Cert.DqnReferenceIdeal.τ).loc Cert.DqnReferenceIdeal.main_arg1) = m ((c.tc : Thread Cert.DqnIdeal.nD Cert.DqnIdeal.τ).loc Cert.DqnIdeal.main_arg1)) →
    ∃ (v0 : (c : Dev Cert.DqnIdeal.nD) → Buf (Elt Ideal) ((c.tc : Thread Cert.DqnIdeal.nD Cert.DqnIdeal.τ).loc Cert.DqnIdeal.main_v2)),
      θ_run (Cert.DqnIdeal.defs (F := Ideal)) (onTc (τ := Cert.DqnIdeal.τ) (Cert.DqnIdeal.main (F := Ideal))) ⟨m, fun _ => 0, g⟩ (fun r => ∀ c : Dev Cert.DqnIdeal.nD,
          r.2.mem ((c.tc : Thread Cert.DqnIdeal.nD Cert.DqnIdeal.τ).loc Cert.DqnIdeal.main_v2) = v0 c
          ∧ r.2.mem ((c.tc : Thread Cert.DqnIdeal.nD Cert.DqnIdeal.τ).loc Cert.DqnIdeal.main_arg0) = m ((c.tc : Thread Cert.DqnIdeal.nD Cert.DqnIdeal.τ).loc Cert.DqnIdeal.main_arg0)
          ∧ r.2.mem ((c.tc : Thread Cert.DqnIdeal.nD Cert.DqnIdeal.τ).loc Cert.DqnIdeal.main_arg1) = m ((c.tc : Thread Cert.DqnIdeal.nD Cert.DqnIdeal.τ).loc Cert.DqnIdeal.main_arg1))
      ∧ θ_run (Cert.DqnReferenceIdeal.defs (F := Ideal)) (onTc (τ := Cert.DqnReferenceIdeal.τ) (Cert.DqnReferenceIdeal.main (F := Ideal))) ⟨m', fun _ => 0, g'⟩ (fun r => ∀ c : Dev Cert.DqnReferenceIdeal.nD,
          r.2.mem ((c.tc : Thread Cert.DqnReferenceIdeal.nD Cert.DqnReferenceIdeal.τ).loc Cert.DqnReferenceIdeal.main_v2) = v0 c
          ∧ r.2.mem ((c.tc : Thread Cert.DqnReferenceIdeal.nD Cert.DqnReferenceIdeal.τ).loc Cert.DqnReferenceIdeal.main_arg0) = m' ((c.tc : Thread Cert.DqnReferenceIdeal.nD Cert.DqnReferenceIdeal.τ).loc Cert.DqnReferenceIdeal.main_arg0)
          ∧ r.2.mem ((c.tc : Thread Cert.DqnReferenceIdeal.nD Cert.DqnReferenceIdeal.τ).loc Cert.DqnReferenceIdeal.main_arg1) = m' ((c.tc : Thread Cert.DqnReferenceIdeal.nD Cert.DqnReferenceIdeal.τ).loc Cert.DqnReferenceIdeal.main_arg1))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)) (v2 : (c : Dev Cert.NormIdeal.nD) → Buf (Elt Ideal) ((c.tc : Thread Cert.NormIdeal.nD Cert.NormIdeal.τ).loc Cert.NormIdeal.main_v1_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_v1_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v34) = v0 c
          ∧ r.2.mem ((c.tc : Thread Cert.NormReferenceIdeal.nD Cert.NormReferenceIdeal.τ).loc Cert.NormReferenceIdeal.main_v36) = v1 c
          ∧ r.2.mem ((c.tc : Thread Cert.NormReferenceIdeal.nD Cert.NormReferenceIdeal.τ).loc Cert.NormReferenceIdeal.main_v17) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_Dgate_DgateIdeal : Prop :=
  True

def algebraic_DgateIdeal_DgateReferenceIdeal_pre_finite_gate [hDgateIdeal : Cert.DgateIdeal.Facts] [hDgateReferenceIdeal : Cert.DgateReferenceIdeal.Facts] [hPre_finite_gate : Cert.Pre_finite_gate.Facts] : Prop :=
  ∀ (m : (ℓ : Loc Cert.DgateIdeal.nD Cert.DgateIdeal.τ Cert.DgateIdeal.sig) → Buf (Elt Ideal) ℓ) (g : Dev Cert.DgateIdeal.nD → PrngReg)
    (m' : (ℓ : Loc Cert.DgateReferenceIdeal.nD Cert.DgateReferenceIdeal.τ Cert.DgateReferenceIdeal.sig) → Buf (Elt Ideal) ℓ) (g' : Dev Cert.DgateReferenceIdeal.nD → PrngReg), Pre_DgateIdeal_finite_gate m →
    (∀ c : Dev Cert.DgateIdeal.nD,
      m' ((c.tc : Thread Cert.DgateReferenceIdeal.nD Cert.DgateReferenceIdeal.τ).loc Cert.DgateReferenceIdeal.main_arg0) = m ((c.tc : Thread Cert.DgateIdeal.nD Cert.DgateIdeal.τ).loc Cert.DgateIdeal.main_arg0)
      ∧ m' ((c.tc : Thread Cert.DgateReferenceIdeal.nD Cert.DgateReferenceIdeal.τ).loc Cert.DgateReferenceIdeal.main_arg1) = m ((c.tc : Thread Cert.DgateIdeal.nD Cert.DgateIdeal.τ).loc Cert.DgateIdeal.main_arg1)
      ∧ m' ((c.tc : Thread Cert.DgateReferenceIdeal.nD Cert.DgateReferenceIdeal.τ).loc Cert.DgateReferenceIdeal.main_arg2) = m ((c.tc : Thread Cert.DgateIdeal.nD Cert.DgateIdeal.τ).loc Cert.DgateIdeal.main_arg2)
      ∧ m' ((c.tc : Thread Cert.DgateReferenceIdeal.nD Cert.DgateReferenceIdeal.τ).loc Cert.DgateReferenceIdeal.main_arg3) = m ((c.tc : Thread Cert.DgateIdeal.nD Cert.DgateIdeal.τ).loc Cert.DgateIdeal.main_arg3)) →
    ∃ (v0 : (c : Dev Cert.DgateIdeal.nD) → Buf (Elt Ideal) ((c.tc : Thread Cert.DgateIdeal.nD Cert.DgateIdeal.τ).loc Cert.DgateIdeal.main_v1_0)) (v1 : (c : Dev Cert.DgateIdeal.nD) → Buf (Elt Ideal) ((c.tc : Thread Cert.DgateIdeal.nD Cert.DgateIdeal.τ).loc Cert.DgateIdeal.main_v1_1)) (v2 : (c : Dev Cert.DgateIdeal.nD) → Buf (Elt Ideal) ((c.tc : Thread Cert.DgateIdeal.nD Cert.DgateIdeal.τ).loc Cert.DgateIdeal.main_v1_2)),
      θ_run (Cert.DgateIdeal.defs (F := Ideal)) (onTc (τ := Cert.DgateIdeal.τ) (Cert.DgateIdeal.main (F := Ideal))) ⟨m, fun _ => 0, g⟩ (fun r => ∀ c : Dev Cert.DgateIdeal.nD,
          r.2.mem ((c.tc : Thread Cert.DgateIdeal.nD Cert.DgateIdeal.τ).loc Cert.DgateIdeal.main_v1_0) = v0 c
          ∧ r.2.mem ((c.tc : Thread Cert.DgateIdeal.nD Cert.DgateIdeal.τ).loc Cert.DgateIdeal.main_v1_1) = v1 c
          ∧ r.2.mem ((c.tc : Thread Cert.DgateIdeal.nD Cert.DgateIdeal.τ).loc Cert.DgateIdeal.main_v1_2) = v2 c
          ∧ r.2.mem ((c.tc : Thread Cert.DgateIdeal.nD Cert.DgateIdeal.τ).loc Cert.DgateIdeal.main_arg0) = m ((c.tc : Thread Cert.DgateIdeal.nD Cert.DgateIdeal.τ).loc Cert.DgateIdeal.main_arg0)
          ∧ r.2.mem ((c.tc : Thread Cert.DgateIdeal.nD Cert.DgateIdeal.τ).loc Cert.DgateIdeal.main_arg1) = m ((c.tc : Thread Cert.DgateIdeal.nD Cert.DgateIdeal.τ).loc Cert.DgateIdeal.main_arg1)
          ∧ r.2.mem ((c.tc : Thread Cert.DgateIdeal.nD Cert.DgateIdeal.τ).loc Cert.DgateIdeal.main_arg2) = m ((c.tc : Thread Cert.DgateIdeal.nD Cert.DgateIdeal.τ).loc Cert.DgateIdeal.main_arg2)
          ∧ r.2.mem ((c.tc : Thread Cert.DgateIdeal.nD Cert.DgateIdeal.τ).loc Cert.DgateIdeal.main_arg3) = m ((c.tc : Thread Cert.DgateIdeal.nD Cert.DgateIdeal.τ).loc Cert.DgateIdeal.main_arg3))
      ∧ θ_run (Cert.DgateReferenceIdeal.defs (F := Ideal)) (onTc (τ := Cert.DgateReferenceIdeal.τ) (Cert.DgateReferenceIdeal.main (F := Ideal))) ⟨m', fun _ => 0, g'⟩ (fun r => ∀ c : Dev Cert.DgateReferenceIdeal.nD,
          r.2.mem ((c.tc : Thread Cert.DgateReferenceIdeal.nD Cert.DgateReferenceIdeal.τ).loc Cert.DgateReferenceIdeal.main_v39) = v0 c
          ∧ r.2.mem ((c.tc : Thread Cert.DgateReferenceIdeal.nD Cert.DgateReferenceIdeal.τ).loc Cert.DgateReferenceIdeal.main_v41) = v1 c
          ∧ r.2.mem ((c.tc : Thread Cert.DgateReferenceIdeal.nD Cert.DgateReferenceIdeal.τ).loc Cert.DgateReferenceIdeal.main_v21) = v2 c
          ∧ r.2.mem ((c.tc : Thread Cert.DgateReferenceIdeal.nD Cert.DgateReferenceIdeal.τ).loc Cert.DgateReferenceIdeal.main_arg0) = m' ((c.tc : Thread Cert.DgateReferenceIdeal.nD Cert.DgateReferenceIdeal.τ).loc Cert.DgateReferenceIdeal.main_arg0)
          ∧ r.2.mem ((c.tc : Thread Cert.DgateReferenceIdeal.nD Cert.DgateReferenceIdeal.τ).loc Cert.DgateReferenceIdeal.main_arg1) = m' ((c.tc : Thread Cert.DgateReferenceIdeal.nD Cert.DgateReferenceIdeal.τ).loc Cert.DgateReferenceIdeal.main_arg1)
          ∧ r.2.mem ((c.tc : Thread Cert.DgateReferenceIdeal.nD Cert.DgateReferenceIdeal.τ).loc Cert.DgateReferenceIdeal.main_arg2) = m' ((c.tc : Thread Cert.DgateReferenceIdeal.nD Cert.DgateReferenceIdeal.τ).loc Cert.DgateReferenceIdeal.main_arg2)
          ∧ r.2.mem ((c.tc : Thread Cert.DgateReferenceIdeal.nD Cert.DgateReferenceIdeal.τ).loc Cert.DgateReferenceIdeal.main_arg3) = m' ((c.tc : Thread Cert.DgateReferenceIdeal.nD Cert.DgateReferenceIdeal.τ).loc Cert.DgateReferenceIdeal.main_arg3))

def preserves_Dcq_DcqIdeal : Prop :=
  True

def algebraic_DcqIdeal_DcqReferenceIdeal [hDcqIdeal : Cert.DcqIdeal.Facts] [hDcqReferenceIdeal : Cert.DcqReferenceIdeal.Facts] : Prop :=
  ∀ (m : (ℓ : Loc Cert.DcqIdeal.nD Cert.DcqIdeal.τ Cert.DcqIdeal.sig) → Buf (Elt Ideal) ℓ) (g : Dev Cert.DcqIdeal.nD → PrngReg)
    (m' : (ℓ : Loc Cert.DcqReferenceIdeal.nD Cert.DcqReferenceIdeal.τ Cert.DcqReferenceIdeal.sig) → Buf (Elt Ideal) ℓ) (g' : Dev Cert.DcqReferenceIdeal.nD → PrngReg), Pre_DcqIdeal m →
    (∀ c : Dev Cert.DcqIdeal.nD,
      m' ((c.tc : Thread Cert.DcqReferenceIdeal.nD Cert.DcqReferenceIdeal.τ).loc Cert.DcqReferenceIdeal.main_arg0) = m ((c.tc : Thread Cert.DcqIdeal.nD Cert.DcqIdeal.τ).loc Cert.DcqIdeal.main_arg0)
      ∧ m' ((c.tc : Thread Cert.DcqReferenceIdeal.nD Cert.DcqReferenceIdeal.τ).loc Cert.DcqReferenceIdeal.main_arg1) = m ((c.tc : Thread Cert.DcqIdeal.nD Cert.DcqIdeal.τ).loc Cert.DcqIdeal.main_arg1)
      ∧ m' ((c.tc : Thread Cert.DcqReferenceIdeal.nD Cert.DcqReferenceIdeal.τ).loc Cert.DcqReferenceIdeal.main_arg2) = m ((c.tc : Thread Cert.DcqIdeal.nD Cert.DcqIdeal.τ).loc Cert.DcqIdeal.main_arg2)) →
    ∃ (v0 : (c : Dev Cert.DcqIdeal.nD) → Buf (Elt Ideal) ((c.tc : Thread Cert.DcqIdeal.nD Cert.DcqIdeal.τ).loc Cert.DcqIdeal.main_v0_0)) (v1 : (c : Dev Cert.DcqIdeal.nD) → Buf (Elt Ideal) ((c.tc : Thread Cert.DcqIdeal.nD Cert.DcqIdeal.τ).loc Cert.DcqIdeal.main_v0_1)),
      θ_run (Cert.DcqIdeal.defs (F := Ideal)) (onTc (τ := Cert.DcqIdeal.τ) (Cert.DcqIdeal.main (F := Ideal))) ⟨m, fun _ => 0, g⟩ (fun r => ∀ c : Dev Cert.DcqIdeal.nD,
          r.2.mem ((c.tc : Thread Cert.DcqIdeal.nD Cert.DcqIdeal.τ).loc Cert.DcqIdeal.main_v0_0) = v0 c
          ∧ r.2.mem ((c.tc : Thread Cert.DcqIdeal.nD Cert.DcqIdeal.τ).loc Cert.DcqIdeal.main_v0_1) = v1 c
          ∧ r.2.mem ((c.tc : Thread Cert.DcqIdeal.nD Cert.DcqIdeal.τ).loc Cert.DcqIdeal.main_arg0) = m ((c.tc : Thread Cert.DcqIdeal.nD Cert.DcqIdeal.τ).loc Cert.DcqIdeal.main_arg0)
          ∧ r.2.mem ((c.tc : Thread Cert.DcqIdeal.nD Cert.DcqIdeal.τ).loc Cert.DcqIdeal.main_arg1) = m ((c.tc : Thread Cert.DcqIdeal.nD Cert.DcqIdeal.τ).loc Cert.DcqIdeal.main_arg1)
          ∧ r.2.mem ((c.tc : Thread Cert.DcqIdeal.nD Cert.DcqIdeal.τ).loc Cert.DcqIdeal.main_arg2) = m ((c.tc : Thread Cert.DcqIdeal.nD Cert.DcqIdeal.τ).loc Cert.DcqIdeal.main_arg2))
      ∧ θ_run (Cert.DcqReferenceIdeal.defs (F := Ideal)) (onTc (τ := Cert.DcqReferenceIdeal.τ) (Cert.DcqReferenceIdeal.main (F := Ideal))) ⟨m', fun _ => 0, g'⟩ (fun r => ∀ c : Dev Cert.DcqReferenceIdeal.nD,
          r.2.mem ((c.tc : Thread Cert.DcqReferenceIdeal.nD Cert.DcqReferenceIdeal.τ).loc Cert.DcqReferenceIdeal.main_v35) = v0 c
          ∧ r.2.mem ((c.tc : Thread Cert.DcqReferenceIdeal.nD Cert.DcqReferenceIdeal.τ).loc Cert.DcqReferenceIdeal.main_v18) = v1 c
          ∧ r.2.mem ((c.tc : Thread Cert.DcqReferenceIdeal.nD Cert.DcqReferenceIdeal.τ).loc Cert.DcqReferenceIdeal.main_arg0) = m' ((c.tc : Thread Cert.DcqReferenceIdeal.nD Cert.DcqReferenceIdeal.τ).loc Cert.DcqReferenceIdeal.main_arg0)
          ∧ r.2.mem ((c.tc : Thread Cert.DcqReferenceIdeal.nD Cert.DcqReferenceIdeal.τ).loc Cert.DcqReferenceIdeal.main_arg1) = m' ((c.tc : Thread Cert.DcqReferenceIdeal.nD Cert.DcqReferenceIdeal.τ).loc Cert.DcqReferenceIdeal.main_arg1)
          ∧ r.2.mem ((c.tc : Thread Cert.DcqReferenceIdeal.nD Cert.DcqReferenceIdeal.τ).loc Cert.DcqReferenceIdeal.main_arg2) = m' ((c.tc : Thread Cert.DcqReferenceIdeal.nD Cert.DcqReferenceIdeal.τ).loc Cert.DcqReferenceIdeal.main_arg2))

def preserves_Dckv_DckvIdeal : Prop :=
  True

def algebraic_DckvIdeal_DckvReferenceIdeal [hDckvIdeal : Cert.DckvIdeal.Facts] [hDckvReferenceIdeal : Cert.DckvReferenceIdeal.Facts] : Prop :=
  ∀ (m : (ℓ : Loc Cert.DckvIdeal.nD Cert.DckvIdeal.τ Cert.DckvIdeal.sig) → Buf (Elt Ideal) ℓ) (g : Dev Cert.DckvIdeal.nD → PrngReg)
    (m' : (ℓ : Loc Cert.DckvReferenceIdeal.nD Cert.DckvReferenceIdeal.τ Cert.DckvReferenceIdeal.sig) → Buf (Elt Ideal) ℓ) (g' : Dev Cert.DckvReferenceIdeal.nD → PrngReg), Pre_DckvIdeal m →
    (∀ c : Dev Cert.DckvIdeal.nD,
      m' ((c.tc : Thread Cert.DckvReferenceIdeal.nD Cert.DckvReferenceIdeal.τ).loc Cert.DckvReferenceIdeal.main_arg0) = m ((c.tc : Thread Cert.DckvIdeal.nD Cert.DckvIdeal.τ).loc Cert.DckvIdeal.main_arg0)
      ∧ m' ((c.tc : Thread Cert.DckvReferenceIdeal.nD Cert.DckvReferenceIdeal.τ).loc Cert.DckvReferenceIdeal.main_arg1) = m ((c.tc : Thread Cert.DckvIdeal.nD Cert.DckvIdeal.τ).loc Cert.DckvIdeal.main_arg1)
      ∧ m' ((c.tc : Thread Cert.DckvReferenceIdeal.nD Cert.DckvReferenceIdeal.τ).loc Cert.DckvReferenceIdeal.main_arg2) = m ((c.tc : Thread Cert.DckvIdeal.nD Cert.DckvIdeal.τ).loc Cert.DckvIdeal.main_arg2)) →
    ∃ (v0 : (c : Dev Cert.DckvIdeal.nD) → Buf (Elt Ideal) ((c.tc : Thread Cert.DckvIdeal.nD Cert.DckvIdeal.τ).loc Cert.DckvIdeal.main_v0_0)) (v1 : (c : Dev Cert.DckvIdeal.nD) → Buf (Elt Ideal) ((c.tc : Thread Cert.DckvIdeal.nD Cert.DckvIdeal.τ).loc Cert.DckvIdeal.main_v0_1)),
      θ_run (Cert.DckvIdeal.defs (F := Ideal)) (onTc (τ := Cert.DckvIdeal.τ) (Cert.DckvIdeal.main (F := Ideal))) ⟨m, fun _ => 0, g⟩ (fun r => ∀ c : Dev Cert.DckvIdeal.nD,
          r.2.mem ((c.tc : Thread Cert.DckvIdeal.nD Cert.DckvIdeal.τ).loc Cert.DckvIdeal.main_v0_0) = v0 c
          ∧ r.2.mem ((c.tc : Thread Cert.DckvIdeal.nD Cert.DckvIdeal.τ).loc Cert.DckvIdeal.main_v0_1) = v1 c
          ∧ r.2.mem ((c.tc : Thread Cert.DckvIdeal.nD Cert.DckvIdeal.τ).loc Cert.DckvIdeal.main_arg0) = m ((c.tc : Thread Cert.DckvIdeal.nD Cert.DckvIdeal.τ).loc Cert.DckvIdeal.main_arg0)
          ∧ r.2.mem ((c.tc : Thread Cert.DckvIdeal.nD Cert.DckvIdeal.τ).loc Cert.DckvIdeal.main_arg1) = m ((c.tc : Thread Cert.DckvIdeal.nD Cert.DckvIdeal.τ).loc Cert.DckvIdeal.main_arg1)
          ∧ r.2.mem ((c.tc : Thread Cert.DckvIdeal.nD Cert.DckvIdeal.τ).loc Cert.DckvIdeal.main_arg2) = m ((c.tc : Thread Cert.DckvIdeal.nD Cert.DckvIdeal.τ).loc Cert.DckvIdeal.main_arg2))
      ∧ θ_run (Cert.DckvReferenceIdeal.defs (F := Ideal)) (onTc (τ := Cert.DckvReferenceIdeal.τ) (Cert.DckvReferenceIdeal.main (F := Ideal))) ⟨m', fun _ => 0, g'⟩ (fun r => ∀ c : Dev Cert.DckvReferenceIdeal.nD,
          r.2.mem ((c.tc : Thread Cert.DckvReferenceIdeal.nD Cert.DckvReferenceIdeal.τ).loc Cert.DckvReferenceIdeal.main_v35) = v0 c
          ∧ r.2.mem ((c.tc : Thread Cert.DckvReferenceIdeal.nD Cert.DckvReferenceIdeal.τ).loc Cert.DckvReferenceIdeal.main_v18) = v1 c
          ∧ r.2.mem ((c.tc : Thread Cert.DckvReferenceIdeal.nD Cert.DckvReferenceIdeal.τ).loc Cert.DckvReferenceIdeal.main_arg0) = m' ((c.tc : Thread Cert.DckvReferenceIdeal.nD Cert.DckvReferenceIdeal.τ).loc Cert.DckvReferenceIdeal.main_arg0)
          ∧ r.2.mem ((c.tc : Thread Cert.DckvReferenceIdeal.nD Cert.DckvReferenceIdeal.τ).loc Cert.DckvReferenceIdeal.main_arg1) = m' ((c.tc : Thread Cert.DckvReferenceIdeal.nD Cert.DckvReferenceIdeal.τ).loc Cert.DckvReferenceIdeal.main_arg1)
          ∧ r.2.mem ((c.tc : Thread Cert.DckvReferenceIdeal.nD Cert.DckvReferenceIdeal.τ).loc Cert.DckvReferenceIdeal.main_arg2) = m' ((c.tc : Thread Cert.DckvReferenceIdeal.nD Cert.DckvReferenceIdeal.τ).loc Cert.DckvReferenceIdeal.main_arg2))

def Claim : Prop :=
  ∃ (hKernel : Cert.Kernel.Facts) (hKernelIdeal : Cert.KernelIdeal.Facts) (hReferenceIdeal : Cert.ReferenceIdeal.Facts) (hForward : Cert.Forward.Facts) (hForwardIdeal : Cert.ForwardIdeal.Facts) (hForwardReferenceIdeal : Cert.ForwardReferenceIdeal.Facts) (hDwUp : Cert.DwUp.Facts) (hDwUpIdeal : Cert.DwUpIdeal.Facts) (hDwUpReferenceIdeal : Cert.DwUpReferenceIdeal.Facts) (hDwDown : Cert.DwDown.Facts) (hDwDownIdeal : Cert.DwDownIdeal.Facts) (hDwDownReferenceIdeal : Cert.DwDownReferenceIdeal.Facts) (hDact : Cert.Dact.Facts) (hDactIdeal : Cert.DactIdeal.Facts) (hDactReferenceIdeal : Cert.DactReferenceIdeal.Facts) (hDhGate : Cert.DhGate.Facts) (hDhGateIdeal : Cert.DhGateIdeal.Facts) (hDhGateReferenceIdeal : Cert.DhGateReferenceIdeal.Facts) (hDhValue : Cert.DhValue.Facts) (hDhValueIdeal : Cert.DhValueIdeal.Facts) (hDhValueReferenceIdeal : Cert.DhValueReferenceIdeal.Facts) (hDwIn : Cert.DwIn.Facts) (hDwInIdeal : Cert.DwInIdeal.Facts) (hDwInReferenceIdeal : Cert.DwInReferenceIdeal.Facts) (hDhIn : Cert.DhIn.Facts) (hDhInIdeal : Cert.DhInIdeal.Facts) (hDhInReferenceIdeal : Cert.DhInReferenceIdeal.Facts) (hDwOut : Cert.DwOut.Facts) (hDwOutIdeal : Cert.DwOutIdeal.Facts) (hDwOutReferenceIdeal : Cert.DwOutReferenceIdeal.Facts) (hDycat : Cert.Dycat.Facts) (hDycatIdeal : Cert.DycatIdeal.Facts) (hDycatReferenceIdeal : Cert.DycatReferenceIdeal.Facts) (hMulIn : Cert.MulIn.Facts) (hMulInIdeal : Cert.MulInIdeal.Facts) (hMulInReferenceIdeal : Cert.MulInReferenceIdeal.Facts) (hMulOut : Cert.MulOut.Facts) (hMulOutIdeal : Cert.MulOutIdeal.Facts) (hMulOutReferenceIdeal : Cert.MulOutReferenceIdeal.Facts) (hMulUp : Cert.MulUp.Facts) (hMulUpIdeal : Cert.MulUpIdeal.Facts) (hMulUpReferenceIdeal : Cert.MulUpReferenceIdeal.Facts) (hMulDown : Cert.MulDown.Facts) (hMulDownIdeal : Cert.MulDownIdeal.Facts) (hMulDownReferenceIdeal : Cert.MulDownReferenceIdeal.Facts) (hMulUq : Cert.MulUq.Facts) (hMulUqIdeal : Cert.MulUqIdeal.Facts) (hMulUqReferenceIdeal : Cert.MulUqReferenceIdeal.Facts) (hMulUkv : Cert.MulUkv.Facts) (hMulUkvIdeal : Cert.MulUkvIdeal.Facts) (hMulUkvReferenceIdeal : Cert.MulUkvReferenceIdeal.Facts) (hDwUk : Cert.DwUk.Facts) (hDwUkIdeal : Cert.DwUkIdeal.Facts) (hDwUkReferenceIdeal : Cert.DwUkReferenceIdeal.Facts) (hDkvnKey : Cert.DkvnKey.Facts) (hDkvnKeyIdeal : Cert.DkvnKeyIdeal.Facts) (hDkvnKeyReferenceIdeal : Cert.DkvnKeyReferenceIdeal.Facts) (hDkvnValue : Cert.DkvnValue.Facts) (hDkvnValueIdeal : Cert.DkvnValueIdeal.Facts) (hDkvnValueReferenceIdeal : Cert.DkvnValueReferenceIdeal.Facts) (hDwUq : Cert.DwUq.Facts) (hDwUqIdeal : Cert.DwUqIdeal.Facts) (hDwUqReferenceIdeal : Cert.DwUqReferenceIdeal.Facts) (hDqn : Cert.Dqn.Facts) (hDqnIdeal : Cert.DqnIdeal.Facts) (hDqnReferenceIdeal : Cert.DqnReferenceIdeal.Facts) (hNorm : Cert.Norm.Facts) (hNormIdeal : Cert.NormIdeal.Facts) (hNormReferenceIdeal : Cert.NormReferenceIdeal.Facts) (hDgate : Cert.Dgate.Facts) (hDgateIdeal : Cert.DgateIdeal.Facts) (hDgateReferenceIdeal : Cert.DgateReferenceIdeal.Facts) (hDcq : Cert.Dcq.Facts) (hDcqIdeal : Cert.DcqIdeal.Facts) (hDcqReferenceIdeal : Cert.DcqReferenceIdeal.Facts) (hDckv : Cert.Dckv.Facts) (hDckvIdeal : Cert.DckvIdeal.Facts) (hDckvReferenceIdeal : Cert.DckvReferenceIdeal.Facts) (hPre_finite : Cert.Pre_finite.Facts) (hPre_finite_scores : Cert.Pre_finite_scores.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Forward (hForward := hForward)
    ∧ quiescent_ForwardIdeal (hForwardIdeal := hForwardIdeal)
    ∧ quiescent_ForwardIdeal_pre_finite_scores (hForwardIdeal := hForwardIdeal) (hPre_finite_scores := hPre_finite_scores)
    ∧ quiescent_ForwardReferenceIdeal (hForwardReferenceIdeal := hForwardReferenceIdeal)
    ∧ quiescent_ForwardReferenceIdeal_pre_finite_scores (hForwardReferenceIdeal := hForwardReferenceIdeal) (hPre_finite_scores := hPre_finite_scores)
    ∧ quiescent_DwUp (hDwUp := hDwUp)
    ∧ quiescent_DwUpIdeal (hDwUpIdeal := hDwUpIdeal)
    ∧ quiescent_DwUpReferenceIdeal (hDwUpReferenceIdeal := hDwUpReferenceIdeal)
    ∧ quiescent_DwDown (hDwDown := hDwDown)
    ∧ quiescent_DwDownIdeal (hDwDownIdeal := hDwDownIdeal)
    ∧ quiescent_DwDownReferenceIdeal (hDwDownReferenceIdeal := hDwDownReferenceIdeal)
    ∧ quiescent_Dact (hDact := hDact)
    ∧ quiescent_DactIdeal (hDactIdeal := hDactIdeal)
    ∧ quiescent_DactReferenceIdeal (hDactReferenceIdeal := hDactReferenceIdeal)
    ∧ quiescent_DhGate (hDhGate := hDhGate)
    ∧ quiescent_DhGateIdeal (hDhGateIdeal := hDhGateIdeal)
    ∧ quiescent_DhGateReferenceIdeal (hDhGateReferenceIdeal := hDhGateReferenceIdeal)
    ∧ quiescent_DhValue (hDhValue := hDhValue)
    ∧ quiescent_DhValueIdeal (hDhValueIdeal := hDhValueIdeal)
    ∧ quiescent_DhValueReferenceIdeal (hDhValueReferenceIdeal := hDhValueReferenceIdeal)
    ∧ quiescent_DwIn (hDwIn := hDwIn)
    ∧ quiescent_DwInIdeal (hDwInIdeal := hDwInIdeal)
    ∧ quiescent_DwInReferenceIdeal (hDwInReferenceIdeal := hDwInReferenceIdeal)
    ∧ quiescent_DhIn (hDhIn := hDhIn)
    ∧ quiescent_DhInIdeal (hDhInIdeal := hDhInIdeal)
    ∧ quiescent_DhInReferenceIdeal (hDhInReferenceIdeal := hDhInReferenceIdeal)
    ∧ quiescent_DwOut (hDwOut := hDwOut)
    ∧ quiescent_DwOutIdeal (hDwOutIdeal := hDwOutIdeal)
    ∧ quiescent_DwOutReferenceIdeal (hDwOutReferenceIdeal := hDwOutReferenceIdeal)
    ∧ quiescent_Dycat (hDycat := hDycat)
    ∧ quiescent_DycatIdeal (hDycatIdeal := hDycatIdeal)
    ∧ quiescent_DycatReferenceIdeal (hDycatReferenceIdeal := hDycatReferenceIdeal)
    ∧ quiescent_MulIn (hMulIn := hMulIn)
    ∧ quiescent_MulInIdeal (hMulInIdeal := hMulInIdeal)
    ∧ quiescent_MulInReferenceIdeal (hMulInReferenceIdeal := hMulInReferenceIdeal)
    ∧ quiescent_MulOut (hMulOut := hMulOut)
    ∧ quiescent_MulOutIdeal (hMulOutIdeal := hMulOutIdeal)
    ∧ quiescent_MulOutReferenceIdeal (hMulOutReferenceIdeal := hMulOutReferenceIdeal)
    ∧ quiescent_MulUp (hMulUp := hMulUp)
    ∧ quiescent_MulUpIdeal (hMulUpIdeal := hMulUpIdeal)
    ∧ quiescent_MulUpReferenceIdeal (hMulUpReferenceIdeal := hMulUpReferenceIdeal)
    ∧ quiescent_MulDown (hMulDown := hMulDown)
    ∧ quiescent_MulDownIdeal (hMulDownIdeal := hMulDownIdeal)
    ∧ quiescent_MulDownReferenceIdeal (hMulDownReferenceIdeal := hMulDownReferenceIdeal)
    ∧ quiescent_MulUq (hMulUq := hMulUq)
    ∧ quiescent_MulUqIdeal (hMulUqIdeal := hMulUqIdeal)
    ∧ quiescent_MulUqReferenceIdeal (hMulUqReferenceIdeal := hMulUqReferenceIdeal)
    ∧ quiescent_MulUkv (hMulUkv := hMulUkv)
    ∧ quiescent_MulUkvIdeal (hMulUkvIdeal := hMulUkvIdeal)
    ∧ quiescent_MulUkvReferenceIdeal (hMulUkvReferenceIdeal := hMulUkvReferenceIdeal)
    ∧ quiescent_DwUk (hDwUk := hDwUk)
    ∧ quiescent_DwUkIdeal (hDwUkIdeal := hDwUkIdeal)
    ∧ quiescent_DwUkReferenceIdeal (hDwUkReferenceIdeal := hDwUkReferenceIdeal)
    ∧ quiescent_DkvnKey (hDkvnKey := hDkvnKey)
    ∧ quiescent_DkvnKeyIdeal (hDkvnKeyIdeal := hDkvnKeyIdeal)
    ∧ quiescent_DkvnKeyReferenceIdeal (hDkvnKeyReferenceIdeal := hDkvnKeyReferenceIdeal)
    ∧ quiescent_DkvnValue (hDkvnValue := hDkvnValue)
    ∧ quiescent_DkvnValueIdeal (hDkvnValueIdeal := hDkvnValueIdeal)
    ∧ quiescent_DkvnValueReferenceIdeal (hDkvnValueReferenceIdeal := hDkvnValueReferenceIdeal)
    ∧ quiescent_DwUq (hDwUq := hDwUq)
    ∧ quiescent_DwUqIdeal (hDwUqIdeal := hDwUqIdeal)
    ∧ quiescent_DwUqReferenceIdeal (hDwUqReferenceIdeal := hDwUqReferenceIdeal)
    ∧ quiescent_Dqn (hDqn := hDqn)
    ∧ quiescent_DqnIdeal (hDqnIdeal := hDqnIdeal)
    ∧ quiescent_DqnReferenceIdeal (hDqnReferenceIdeal := hDqnReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Dgate (hDgate := hDgate)
    ∧ quiescent_DgateIdeal (hDgateIdeal := hDgateIdeal)
    ∧ quiescent_DgateIdeal_pre_finite_gate (hDgateIdeal := hDgateIdeal) (hPre_finite_gate := hPre_finite_gate)
    ∧ quiescent_DgateReferenceIdeal (hDgateReferenceIdeal := hDgateReferenceIdeal)
    ∧ quiescent_DgateReferenceIdeal_pre_finite_gate (hDgateReferenceIdeal := hDgateReferenceIdeal) (hPre_finite_gate := hPre_finite_gate)
    ∧ quiescent_Dcq (hDcq := hDcq)
    ∧ quiescent_DcqIdeal (hDcqIdeal := hDcqIdeal)
    ∧ quiescent_DcqReferenceIdeal (hDcqReferenceIdeal := hDcqReferenceIdeal)
    ∧ quiescent_Dckv (hDckv := hDckv)
    ∧ quiescent_DckvIdeal (hDckvIdeal := hDckvIdeal)
    ∧ quiescent_DckvReferenceIdeal (hDckvReferenceIdeal := hDckvReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Forward_ForwardIdeal
    ∧ algebraic_ForwardIdeal_ForwardReferenceIdeal_pre_finite_scores (hForwardIdeal := hForwardIdeal) (hForwardReferenceIdeal := hForwardReferenceIdeal) (hPre_finite_scores := hPre_finite_scores)
    ∧ preserves_DwUp_DwUpIdeal
    ∧ algebraic_DwUpIdeal_DwUpReferenceIdeal (hDwUpIdeal := hDwUpIdeal) (hDwUpReferenceIdeal := hDwUpReferenceIdeal)
    ∧ preserves_DwDown_DwDownIdeal
    ∧ algebraic_DwDownIdeal_DwDownReferenceIdeal (hDwDownIdeal := hDwDownIdeal) (hDwDownReferenceIdeal := hDwDownReferenceIdeal)
    ∧ preserves_Dact_DactIdeal
    ∧ algebraic_DactIdeal_DactReferenceIdeal (hDactIdeal := hDactIdeal) (hDactReferenceIdeal := hDactReferenceIdeal)
    ∧ preserves_DhGate_DhGateIdeal
    ∧ algebraic_DhGateIdeal_DhGateReferenceIdeal (hDhGateIdeal := hDhGateIdeal) (hDhGateReferenceIdeal := hDhGateReferenceIdeal)
    ∧ preserves_DhValue_DhValueIdeal
    ∧ algebraic_DhValueIdeal_DhValueReferenceIdeal (hDhValueIdeal := hDhValueIdeal) (hDhValueReferenceIdeal := hDhValueReferenceIdeal)
    ∧ preserves_DwIn_DwInIdeal
    ∧ algebraic_DwInIdeal_DwInReferenceIdeal (hDwInIdeal := hDwInIdeal) (hDwInReferenceIdeal := hDwInReferenceIdeal)
    ∧ preserves_DhIn_DhInIdeal
    ∧ algebraic_DhInIdeal_DhInReferenceIdeal (hDhInIdeal := hDhInIdeal) (hDhInReferenceIdeal := hDhInReferenceIdeal)
    ∧ preserves_DwOut_DwOutIdeal
    ∧ algebraic_DwOutIdeal_DwOutReferenceIdeal (hDwOutIdeal := hDwOutIdeal) (hDwOutReferenceIdeal := hDwOutReferenceIdeal)
    ∧ preserves_Dycat_DycatIdeal
    ∧ algebraic_DycatIdeal_DycatReferenceIdeal (hDycatIdeal := hDycatIdeal) (hDycatReferenceIdeal := hDycatReferenceIdeal)
    ∧ preserves_MulIn_MulInIdeal
    ∧ algebraic_MulInIdeal_MulInReferenceIdeal (hMulInIdeal := hMulInIdeal) (hMulInReferenceIdeal := hMulInReferenceIdeal)
    ∧ preserves_MulOut_MulOutIdeal
    ∧ algebraic_MulOutIdeal_MulOutReferenceIdeal (hMulOutIdeal := hMulOutIdeal) (hMulOutReferenceIdeal := hMulOutReferenceIdeal)
    ∧ preserves_MulUp_MulUpIdeal
    ∧ algebraic_MulUpIdeal_MulUpReferenceIdeal (hMulUpIdeal := hMulUpIdeal) (hMulUpReferenceIdeal := hMulUpReferenceIdeal)
    ∧ preserves_MulDown_MulDownIdeal
    ∧ algebraic_MulDownIdeal_MulDownReferenceIdeal (hMulDownIdeal := hMulDownIdeal) (hMulDownReferenceIdeal := hMulDownReferenceIdeal)
    ∧ preserves_MulUq_MulUqIdeal
    ∧ algebraic_MulUqIdeal_MulUqReferenceIdeal (hMulUqIdeal := hMulUqIdeal) (hMulUqReferenceIdeal := hMulUqReferenceIdeal)
    ∧ preserves_MulUkv_MulUkvIdeal
    ∧ algebraic_MulUkvIdeal_MulUkvReferenceIdeal (hMulUkvIdeal := hMulUkvIdeal) (hMulUkvReferenceIdeal := hMulUkvReferenceIdeal)
    ∧ preserves_DwUk_DwUkIdeal
    ∧ algebraic_DwUkIdeal_DwUkReferenceIdeal (hDwUkIdeal := hDwUkIdeal) (hDwUkReferenceIdeal := hDwUkReferenceIdeal)
    ∧ preserves_DkvnKey_DkvnKeyIdeal
    ∧ algebraic_DkvnKeyIdeal_DkvnKeyReferenceIdeal (hDkvnKeyIdeal := hDkvnKeyIdeal) (hDkvnKeyReferenceIdeal := hDkvnKeyReferenceIdeal)
    ∧ preserves_DkvnValue_DkvnValueIdeal
    ∧ algebraic_DkvnValueIdeal_DkvnValueReferenceIdeal (hDkvnValueIdeal := hDkvnValueIdeal) (hDkvnValueReferenceIdeal := hDkvnValueReferenceIdeal)
    ∧ preserves_DwUq_DwUqIdeal
    ∧ algebraic_DwUqIdeal_DwUqReferenceIdeal (hDwUqIdeal := hDwUqIdeal) (hDwUqReferenceIdeal := hDwUqReferenceIdeal)
    ∧ preserves_Dqn_DqnIdeal
    ∧ algebraic_DqnIdeal_DqnReferenceIdeal (hDqnIdeal := hDqnIdeal) (hDqnReferenceIdeal := hDqnReferenceIdeal)
    ∧ preserves_Norm_NormIdeal
    ∧ algebraic_NormIdeal_NormReferenceIdeal (hNormIdeal := hNormIdeal) (hNormReferenceIdeal := hNormReferenceIdeal)
    ∧ preserves_Dgate_DgateIdeal
    ∧ algebraic_DgateIdeal_DgateReferenceIdeal_pre_finite_gate (hDgateIdeal := hDgateIdeal) (hDgateReferenceIdeal := hDgateReferenceIdeal) (hPre_finite_gate := hPre_finite_gate)
    ∧ preserves_Dcq_DcqIdeal
    ∧ algebraic_DcqIdeal_DcqReferenceIdeal (hDcqIdeal := hDcqIdeal) (hDcqReferenceIdeal := hDcqReferenceIdeal)
    ∧ preserves_Dckv_DckvIdeal
    ∧ algebraic_DckvIdeal_DckvReferenceIdeal (hDckvIdeal := hDckvIdeal) (hDckvReferenceIdeal := hDckvReferenceIdeal)
-- ==== Pre_finite.lean ====
abbrev S2x4096x8x96 : Shape := ⟨4, ![2, 4096, 8, 96]⟩
abbrev S2x4096x8x64 : Shape := ⟨4, ![2, 4096, 8, 64]⟩
abbrev S2x4096x8x320 : Shape := ⟨4, ![2, 4096, 8, 320]⟩
abbrev S_ : Shape := ⟨0, ![]⟩

class Facts : Prop where
  concatenates_S2x4096x8x96_S2x4096x8x96_S2x4096x8x64_S2x4096x8x64_S2x4096x8x320_d3 : Shape.Concatenates [S2x4096x8x96, S2x4096x8x96, S2x4096x8x64, S2x4096x8x64] S2x4096x8x320 3
  bcast_S_S2x4096x8x320 : S_.BroadcastsInDim S2x4096x8x320 (![] : Fin 0 → Fin S2x4096x8x320.rank)

variable [Facts]

def fn {F : FTy → Type} [FloatOps F] (main_arg0 : FVec F S2x4096x8x96 .f32) (main_arg1 : FVec F S2x4096x8x96 .f32) (main_arg2 : FVec F S2x4096x8x64 .f32) (main_arg3 : FVec F S2x4096x8x64 .f32) : IVec S2x4096x8x320 1 :=
  let main_v0 : FVec F S2x4096x8x320 .f32 := concatenate S2x4096x8x320 3 [⟨S2x4096x8x96, main_arg0⟩, ⟨S2x4096x8x96, main_arg1⟩, ⟨S2x4096x8x64, main_arg2⟩, ⟨S2x4096x8x64, main_arg3⟩] concatenates_S2x4096x8x96_S2x4096x8x96_S2x4096x8x64_S2x4096x8x64_S2x4096x8x320_d3
  let main_v1 : FVec F S2x4096x8x320 .f32 := Host.absf main_v0
  let main_cst : FVec F S_ .f32 := constant S_ .f32 0x7F800000#32
  let main_v2 : FVec F S2x4096x8x320 .f32 := broadcastInDim S2x4096x8x320 ![] bcast_S_S2x4096x8x320 main_cst
  let main_v3 : IVec S2x4096x8x320 1 := cmpf .olt main_v1 main_v2
  main_v3
-- ==== Pre_finite_gate.lean ====
abbrev S8192x1024 : Shape := ⟨2, ![8192, 1024]⟩
abbrev S8192x4096 : Shape := ⟨2, ![8192, 4096]⟩
abbrev S1x1024 : Shape := ⟨2, ![1, 1024]⟩
abbrev S8192x2560 : Shape := ⟨2, ![8192, 2560]⟩
abbrev S_ : Shape := ⟨0, ![]⟩

class Facts : Prop where
  bcast_S_S1x1024 : S_.BroadcastsInDim S1x1024 (![] : Fin 0 → Fin S1x1024.rank)
  slices_S8192x2560_S8192x1024_0_0 : S8192x2560.Slices ![0, 0] S8192x1024
  bcast_S_S8192x1024 : S_.BroadcastsInDim S8192x1024 (![] : Fin 0 → Fin S8192x1024.rank)
  bcast_S1x1024_S8192x1024_0_1 : S1x1024.BroadcastsInDim S8192x1024 (![0, 1] : Fin 2 → Fin S8192x1024.rank)

variable [Facts]

def fn {F : FTy → Type} [FloatOps F] (main_arg0 : FVec F S8192x1024 .f32) (main_arg1 : FVec F S8192x4096 .f32) (main_arg2 : FVec F S1x1024 .f32) (main_arg3 : FVec F S8192x2560 .f32) : IVec S8192x1024 1 :=
  let main_v0 : FVec F S1x1024 .f32 := Host.absf main_arg2
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S8192x1024 .f32 := (extractStridedSlice S8192x1024 ![0, 0] · slices_S8192x2560_S8192x1024_0_0) main_arg3
  let main_v4 : FVec F S8192x1024 .f32 := Host.absf main_v3
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : IVec S8192x1024 1 := broadcastInDim S8192x1024 ![0, 1] bcast_S1x1024_S8192x1024_0_1 main_v2
  let main_v8 : IVec S8192x1024 1 := andi main_v7 main_v6
  main_v8
-- ==== Pre_finite_scores.lean ====
abbrev S2x4096x8x96 : Shape := ⟨4, ![2, 4096, 8, 96]⟩
abbrev S2x4096x8x64 : Shape := ⟨4, ![2, 4096, 8, 64]⟩
abbrev S_ : Shape := ⟨0, ![]⟩

class Facts : Prop where
  bcast_S_S2x4096x8x96 : S_.BroadcastsInDim S2x4096x8x96 (![] : Fin 0 → Fin S2x4096x8x96.rank)

variable [Facts]

def fn {F : FTy → Type} [FloatOps F] (main_arg0 : FVec F S2x4096x8x96 .f32) (main_arg1 : FVec F S2x4096x8x96 .f32) (main_arg2 : FVec F S2x4096x8x64 .f32) : IVec S2x4096x8x96 1 :=
  let main_v0 : FVec F S2x4096x8x96 .f32 := Host.absf main_arg0
  let main_cst : FVec F S_ .f32 := constant S_ .f32 0x7F800000#32
  let main_v1 : FVec F S2x4096x8x96 .f32 := broadcastInDim S2x4096x8x96 ![] bcast_S_S2x4096x8x96 main_cst
  let main_v2 : IVec S2x4096x8x96 1 := cmpf .olt main_v0 main_v1
  let main_v3 : FVec F S2x4096x8x96 .f32 := Host.absf main_arg1
  let main_cst_0 : FVec F S_ .f32 := constant S_ .f32 0x7F800000#32
  let main_v4 : FVec F S2x4096x8x96 .f32 := broadcastInDim S2x4096x8x96 ![] bcast_S_S2x4096x8x96 main_cst_0
  let main_v5 : IVec S2x4096x8x96 1 := cmpf .olt main_v3 main_v4
  let main_v6 : IVec S2x4096x8x96 1 := andi main_v2 main_v5
  main_v6
-- ==== Kernel.lean ====
abbrev S2x4096x8x96 : Shape := ⟨4, ![2, 4096, 8, 96]⟩
abbrev S2x4096x8x64 : Shape := ⟨4, ![2, 4096, 8, 64]⟩
abbrev S_ : Shape := ⟨0, ![]⟩
abbrev S2x4096x8x32 : Shape := ⟨4, ![2, 4096, 8, 32]⟩
abbrev S2x4096x8x128 : Shape := ⟨4, ![2, 4096, 8, 128]⟩
abbrev S8192x1024 : Shape := ⟨2, ![8192, 1024]⟩
abbrev S2x4096x8x1 : Shape := ⟨4, ![2, 4096, 8, 1]⟩
abbrev S2x4096x8x65 : Shape := ⟨4, ![2, 4096, 8, 65]⟩
abbrev S2x4096x8x63 : Shape := ⟨4, ![2, 4096, 8, 63]⟩
abbrev S2x8x4096x4096 : Shape := ⟨4, ![2, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x8x4096 : Shape := ⟨3, ![2, 8, 4096]⟩
abbrev S2x8x4096x1 : Shape := ⟨4, ![2, 8, 4096, 1]⟩
abbrev S2x8x64x4096 : Shape := ⟨4, ![2, 8, 64, 4096]⟩
abbrev S2x8x1x4096 : Shape := ⟨4, ![2, 8, 1, 4096]⟩
abbrev S2x8x8x4096 : Shape := ⟨4, ![2, 8, 8, 4096]⟩
abbrev S128x4096 : Shape := ⟨2, ![128, 4096]⟩
abbrev S8192x1536 : Shape := ⟨2, ![8192, 1536]⟩
abbrev S8192x2560 : Shape := ⟨2, ![8192, 2560]⟩
abbrev S4096x128 : Shape := ⟨2, ![4096, 128]⟩
abbrev S512x128 : Shape := ⟨2, ![512, 128]⟩
abbrev S8x4096 : Shape := ⟨2, ![8, 4096]⟩
abbrev S512 : Shape := ⟨1, ![512]⟩
abbrev S512x1 : Shape := ⟨2, ![512, 1]⟩
abbrev S128x512 : Shape := ⟨2, ![128, 512]⟩
abbrev S8x512 : Shape := ⟨2, ![8, 512]⟩
abbrev S512x512 : Shape := ⟨2, ![512, 512]⟩
abbrev S1x512 : Shape := ⟨2, ![1, 512]⟩

abbrev nBuf : Space → Nat
  | .hbm => 87
  | .vmem => 21
  | .smem => 0
  | _ => 0

abbrev bufTy : (tb : Table) → Fin (tcTables nBuf tb) → BufTy
  | .hbm, ⟨0, _⟩ => ⟨S2x4096x8x96, .f32⟩
  | .hbm, ⟨1, _⟩ => ⟨S2x4096x8x96, .f32⟩
  | .hbm, ⟨2, _⟩ => ⟨S2x4096x8x64, .f32⟩
  | .hbm, ⟨3, _⟩ => ⟨S2x4096x8x64, .f32⟩
  | .hbm, ⟨4, _⟩ => ⟨S_, .f32⟩
  | .hbm, ⟨5, _⟩ => ⟨S2x4096x8x96, .f32⟩
  | .hbm, ⟨6, _⟩ => ⟨S2x4096x8x96, .f32⟩
  | .hbm, ⟨7, _⟩ => ⟨S_, .f32⟩
  | .hbm, ⟨8, _⟩ => ⟨S2x4096x8x32, .f32⟩
  | .hbm, ⟨9, _⟩ => ⟨S2x4096x8x128, .f32⟩
  | .hbm, ⟨10, _⟩ => ⟨S8192x1024, .f32⟩
  | .hbm, ⟨11, _⟩ => ⟨S8192x1024, .bf16⟩
  | .hbm, ⟨12, _⟩ => ⟨S_, .f32⟩
  | .hbm, ⟨13, _⟩ => ⟨S2x4096x8x32, .f32⟩
  | .hbm, ⟨14, _⟩ => ⟨S2x4096x8x128, .f32⟩
  | .hbm, ⟨15, _⟩ => ⟨S8192x1024, .f32⟩
  | .hbm, ⟨16, _⟩ => ⟨S8192x1024, .bf16⟩
  | .hbm, ⟨17, _⟩ => ⟨S_, .f32⟩
  | .hbm, ⟨18, _⟩ => ⟨S2x4096x8x1, .f32⟩
  | .hbm, ⟨19, _⟩ => ⟨S2x4096x8x65, .f32⟩
  | .hbm, ⟨20, _⟩ => ⟨S_, .f32⟩
  | .hbm, ⟨21, _⟩ => ⟨S2x4096x8x63, .f32⟩
  | .hbm, ⟨22, _⟩ => ⟨S2x4096x8x128, .f32⟩
  | .hbm, ⟨23, _⟩ => ⟨S8192x1024, .f32⟩
  | .hbm, ⟨24, _⟩ => ⟨S8192x1024, .bf16⟩
  | .hbm, ⟨25, _⟩ => ⟨S2x8x4096x4096, .f32⟩
  | .hbm, ⟨26, _⟩ => ⟨S_, .f32⟩
  | .hbm, ⟨27, _⟩ => ⟨S2x8x4096x4096, .f32⟩
  | .hbm, ⟨28, _⟩ => ⟨S2x8x4096x4096, .f32⟩
  | .hbm, ⟨29, _⟩ => ⟨S4096, .i32⟩
  | .hbm, ⟨30, _⟩ => ⟨S1x4096, .i32⟩
  | .hbm, ⟨31, _⟩ => ⟨S4096x1, .i32⟩
  | .hbm, ⟨32, _⟩ => ⟨S4096x4096, .i32⟩
  | .hbm, ⟨33, _⟩ => ⟨S4096x4096, .i32⟩
  | .hbm, ⟨34, _⟩ => ⟨S4096x4096, .i1⟩
  | .hbm, ⟨35, _⟩ => ⟨S_, .f32⟩
  | .hbm, ⟨36, _⟩ => ⟨S_, .f32⟩
  | .hbm, ⟨37, _⟩ => ⟨S2x8x4096x4096, .i1⟩
  | .hbm, ⟨38, _⟩ => ⟨S2x8x4096x4096, .f32⟩
  | .hbm, ⟨39, _⟩ => ⟨S2x8x4096x4096, .f32⟩
  | .hbm, ⟨40, _⟩ => ⟨S_, .f32⟩
  | .hbm, ⟨41, _⟩ => ⟨S2x8x4096, .f32⟩
  | .hbm, ⟨42, _⟩ => ⟨S2x8x4096x1, .f32⟩
  | .hbm, ⟨43, _⟩ => ⟨S2x8x4096x4096, .f32⟩
  | .hbm, ⟨44, _⟩ => ⟨S2x8x4096x4096, .f32⟩
  | .hbm, ⟨45, _⟩ => ⟨S2x8x4096x4096, .f32⟩
  | .hbm, ⟨46, _⟩ => ⟨S_, .f32⟩
  | .hbm, ⟨47, _⟩ => ⟨S2x8x4096, .f32⟩
  | .hbm, ⟨48, _⟩ => ⟨S2x8x4096x1, .f32⟩
  | .hbm, ⟨49, _⟩ => ⟨S2x8x4096x4096, .f32⟩
  | .hbm, ⟨50, _⟩ => ⟨S2x8x4096x4096, .f32⟩
  | .hbm, ⟨51, _⟩ => ⟨S2x8x4096x4096, .f32⟩
  | .hbm, ⟨52, _⟩ => ⟨S2x8x4096x4096, .f32⟩
  | .hbm, ⟨53, _⟩ => ⟨S2x8x4096x4096, .f32⟩
  | .hbm, ⟨54, _⟩ => ⟨S2x8x64x4096, .f32⟩
  | .hbm, ⟨55, _⟩ => ⟨S2x4096x8x64, .f32⟩
  | .hbm, ⟨56, _⟩ => ⟨S2x8x4096x1, .f32⟩
  | .hbm, ⟨57, _⟩ => ⟨S2x8x4096x1, .f32⟩
  | .hbm, ⟨58, _⟩ => ⟨S2x8x4096, .f32⟩
  | .hbm, ⟨59, _⟩ => ⟨S_, .f32⟩
  | .hbm, ⟨60, _⟩ => ⟨S2x4096x8x64, .f32⟩
  | .hbm, ⟨61, _⟩ => ⟨S2x4096x8x128, .f32⟩
  | .hbm, ⟨62, _⟩ => ⟨S8192x1024, .f32⟩
  | .hbm, ⟨63, _⟩ => ⟨S8192x1024, .bf16⟩
  | .hbm, ⟨64, _⟩ => ⟨S2x8x1x4096, .f32⟩
  | .hbm, ⟨65, _⟩ => ⟨S2x8x8x4096, .f32⟩
  | .hbm, ⟨66, _⟩ => ⟨S128x4096, .f32⟩
  | .hbm, ⟨67, _⟩ => ⟨S_, .f32⟩
  | .hbm, ⟨68, _⟩ => ⟨S8192x1536, .f32⟩
  | .hbm, ⟨69, _⟩ => ⟨S_, .f32⟩
  | .hbm, ⟨70, _⟩ => ⟨S2x4096x8x64, .f32⟩
  | .hbm, ⟨71, _⟩ => ⟨S2x4096x8x128, .f32⟩
  | .hbm, ⟨72, _⟩ => ⟨S8192x1024, .f32⟩
  | .hbm, ⟨73, _⟩ => ⟨S8192x2560, .f32⟩
  | .hbm, ⟨74, _⟩ => ⟨S8192x2560, .bf16⟩
  | .hbm, ⟨75, _⟩ => ⟨S8192x1024, .f32⟩
  | .hbm, ⟨76, _⟩ => ⟨S8192x1024, .f32⟩
  | .hbm, ⟨77, _⟩ => ⟨S8192x1024, .bf16⟩
  | .hbm, ⟨78, _⟩ => ⟨S2x4096x8x128, .f32⟩
  | .hbm, ⟨79, _⟩ => ⟨S2x4096x8x96, .f32⟩
  | .hbm, ⟨80, _⟩ => ⟨S_, .f32⟩
  | .hbm, ⟨81, _⟩ => ⟨S2x4096x8x96, .f32⟩
  | .hbm, ⟨82, _⟩ => ⟨S2x4096x8x96, .f32⟩
  | .hbm, ⟨83, _⟩ => ⟨S2x4096x8x128, .f32⟩
  | .hbm, ⟨84, _⟩ => ⟨S2x4096x8x96, .f32⟩
  | .hbm, ⟨85, _⟩ => ⟨S2x4096x8x128, .bf16⟩
  | .hbm, ⟨86, _⟩ => ⟨S2x4096x8x64, .bf16⟩
  | .local _ .vmem, ⟨0, _⟩ => ⟨S4096x128, .bf16⟩
  | .local _ .vmem, ⟨1, _⟩ => ⟨S4096x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S4096x128, .bf16⟩
  | .local _ .vmem, ⟨7, _⟩ => ⟨S4096x128, .bf16⟩
  | .local _ .vmem, ⟨8, _⟩ => ⟨S8x4096, .f32⟩
  | .local _ .vmem, ⟨9, _⟩ => ⟨S8x4096, .f32⟩
  | .local _ .vmem, ⟨10, _⟩ => ⟨S4096x128, .bf16⟩
  | .local _ .vmem, ⟨11, _⟩ => ⟨S4096x128, .bf16⟩
  | .local _ .vmem, ⟨12, _⟩ => ⟨S4096x128, .f32⟩
  | .local _ .vmem, ⟨13, _⟩ => ⟨S4096x128, .f32⟩
  | .local _ .vmem, ⟨14, _⟩ => ⟨S512x128, .f32⟩
  | .local _ .vmem, ⟨15, _⟩ => ⟨S512x128, .f32⟩
  | .local _ .vmem, ⟨16, _⟩ => ⟨S512x128, .bf16⟩
  | .local _ .vmem, ⟨17, _⟩ => ⟨S512x128, .bf16⟩
  | .local _ .vmem, ⟨18, _⟩ => ⟨S512x128, .f32⟩
  | .local _ .vmem, ⟨19, _⟩ => ⟨S512x128, .f32⟩
  | .local _ .vmem, ⟨20, _⟩ => ⟨S8x4096, .f32⟩
  | _, _ => ⟨S2x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56_0 : Ref sig .tc := ⟨.hbm, 75, rfl⟩
abbrev main_v56_1 : Ref sig .tc := ⟨.hbm, 76, rfl⟩
abbrev main_v56_2 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 8, 8], ![false, false, false]⟩

def k0_mult1 (i : grid0.Coords) : BitVec 32 :=
  let arg2 : BitVec 32 := BitVec.ofNat 32 (i 2).val
  let c512_i32 : BitVec 32 := 512#32
  let v15 : BitVec 32 := Scalar.muli arg2 c512_i32
  v15
def k0_off1 (i : grid0.Coords) : Fin 2 → Nat :=
  let arg2 : BitVec 32 := BitVec.ofNat 32 (i 2).val
  let c512_i32 : BitVec 32 := 512#32
  let v15 : BitVec 32 := Scalar.muli arg2 c512_i32
  let v16 : BitVec 32 := v15
  let v17 : Index := Scalar.indexCast v16
  let c0_9 : Index := 0#32
  ![v17.toNat, 0]
def k0_off2 (i : grid0.Coords) : Fin 2 → Nat :=
  let c0_13 : Index := 0#32
  let arg2 : BitVec 32 := BitVec.ofNat 32 (i 2).val
  let c512_i32 : BitVec 32 := 512#32
  let v15 : BitVec 32 := Scalar.muli arg2 c512_i32
  let v16 : BitVec 32 := v15
  let v29 : Index := Scalar.indexCast v16
  ![0, v29.toNat]
@[reducible] def k0_t1_loop (i : grid0.Coords) : Scf.Loop 32 :=
  let arg2 : BitVec 32 := BitVec.ofNat 32 (i 2).val
  let c1_i32 : BitVec 32 := 1#32
  let v64 : BitVec 32 := Scalar.addi arg2 c1_i32
  let c8_i32 : BitVec 32 := 8#32
  let v65 : BitVec 32 := Scalar.subi c8_i32 v64
  let c1_i32_30 : BitVec 32 := 1#32
  let v67 : BitVec 32 := Scalar.divsi v65 c1_i32_30
  let v68 : BitVec 32 := Scalar.muli v67 c1_i32_30
  let v69 : BitVec 32 := Scalar.addi v64 v68
  let c1_i32_31 : BitVec 32 := 1#32
  ⟨v64, v69, c1_i32_31⟩
def k0_mult2 (i : grid0.Coords) (k0_t1 : Fin (k0_t1_loop i).trips) : BitVec 32 :=
  let arg2 : BitVec 32 := BitVec.ofNat 32 (i 2).val
  let c1_i32 : BitVec 32 := 1#32
  let v64 : BitVec 32 := Scalar.addi arg2 c1_i32
  let c1_i32_31 : BitVec 32 := 1#32
  let arg15 : BitVec 32 := Scf.iv v64 c1_i32_31 k0_t1
  let c512_i32_41 : BitVec 32 := 512#32
  let v75 : BitVec 32 := Scalar.muli arg15 c512_i32_41
  v75
def k0_off3 (i : grid0.Coords) (k0_t1 : Fin (k0_t1_loop i).trips) : Fin 2 → Nat :=
  let arg2 : BitVec 32 := BitVec.ofNat 32 (i 2).val
  let c1_i32 : BitVec 32 := 1#32
  let v64 : BitVec 32 := Scalar.addi arg2 c1_i32
  let c1_i32_31 : BitVec 32 := 1#32
  let arg15 : BitVec 32 := Scf.iv v64 c1_i32_31 k0_t1
  let c512_i32_41 : BitVec 32 := 512#32
  let v75 : BitVec 32 := Scalar.muli arg15 c512_i32_41
  let v76 : BitVec 32 := v75
  let v77 : Index := Scalar.indexCast v76
  let c0_42 : Index := 0#32
  ![v77.toNat, 0]
def k0_off4 (i : grid0.Coords) (k0_t1 : Fin (k0_t1_loop i).trips) : Fin 2 → Nat :=
  let c0_45 : Index := 0#32
  let arg2 : BitVec 32 := BitVec.ofNat 32 (i 2).val
  let c1_i32 : BitVec 32 := 1#32
  let v64 : BitVec 32 := Scalar.addi arg2 c1_i32
  let c1_i32_31 : BitVec 32 := 1#32
  let arg15 : BitVec 32 := Scf.iv v64 c1_i32_31 k0_t1
  let c512_i32_41 : BitVec 32 := 512#32
  let v75 : BitVec 32 := Scalar.muli arg15 c512_i32_41
  let v76 : BitVec 32 := v75
  let v84 : Index := Scalar.indexCast v76
  ![0, v84.toNat]
@[reducible] def k0_t2_loop (i : grid0.Coords) : Scf.Loop 32 :=
  let arg2 : BitVec 32 := BitVec.ofNat 32 (i 2).val
  let c1_i32 : BitVec 32 := 1#32
  let v64 : BitVec 32 := Scalar.addi arg2 c1_i32
  let c8_i32 : BitVec 32 := 8#32
  let v65 : BitVec 32 := Scalar.subi c8_i32 v64
  let c1_i32_30 : BitVec 32 := 1#32
  let v67 : BitVec 32 := Scalar.divsi v65 c1_i32_30
  let v68 : BitVec 32 := Scalar.muli v67 c1_i32_30
  let v69 : BitVec 32 := Scalar.addi v64 v68
  let v66 : BitVec 32 := Scalar.addi v64 v65
  let c1_i32_32 : BitVec 32 := 1#32
  ⟨v69, v66, c1_i32_32⟩
def k0_mult3 (i : grid0.Coords) (k0_t2 : Fin (k0_t2_loop i).trips) : BitVec 32 :=
  let arg2 : BitVec 32 := BitVec.ofNat 32 (i 2).val
  let c1_i32 : BitVec 32 := 1#32
  let v64 : BitVec 32 := Scalar.addi arg2 c1_i32
  let c8_i32 : BitVec 32 := 8#32
  let v65 : BitVec 32 := Scalar.subi c8_i32 v64
  let c1_i32_30 : BitVec 32 := 1#32
  let v67 : BitVec 32 := Scalar.divsi v65 c1_i32_30
  let v68 : BitVec 32 := Scalar.muli v67 c1_i32_30
  let v69 : BitVec 32 := Scalar.addi v64 v68
  let c1_i32_32 : BitVec 32 := 1#32
  let arg15 : BitVec 32 := Scf.iv v69 c1_i32_32 k0_t2
  let c512_i32_41 : BitVec 32 := 512#32
  let v75 : BitVec 32 := Scalar.muli arg15 c512_i32_41
  v75
def k0_off5 (i : grid0.Coords) (k0_t2 : Fin (k0_t2_loop i).trips) : Fin 2 → Nat :=
  let arg2 : BitVec 32 := BitVec.ofNat 32 (i 2).val
  let c1_i32 : BitVec 32 := 1#32
  let v64 : BitVec 32 := Scalar.addi arg2 c1_i32
  let c8_i32 : BitVec 32 := 8#32
  let v65 : BitVec 32 := Scalar.subi c8_i32 v64
  let c1_i32_30 : BitVec 32 := 1#32
  let v67 : BitVec 32 := Scalar.divsi v65 c1_i32_30
  let v68 : BitVec 32 := Scalar.muli v67 c1_i32_30
  let v69 : BitVec 32 := Scalar.addi v64 v68
  let c1_i32_32 : BitVec 32 := 1#32
  let arg15 : BitVec 32 := Scf.iv v69 c1_i32_32 k0_t2
  let c512_i32_41 : BitVec 32 := 512#32
  let v75 : BitVec 32 := Scalar.muli arg15 c512_i32_41
  let v76 : BitVec 32 := v75
  let v77 : Index := Scalar.indexCast v76
  let c0_42 : Index := 0#32
  ![v77.toNat, 0]
def k0_off6 (i : grid0.Coords) (k0_t2 : Fin (k0_t2_loop i).trips) : Fin 2 → Nat :=
  let c0_45 : Index := 0#32
  let arg2 : BitVec 32 := BitVec.ofNat 32 (i 2).val
  let c1_i32 : BitVec 32 := 1#32
  let v64 : BitVec 32 := Scalar.addi arg2 c1_i32
  let c8_i32 : BitVec 32 := 8#32
  let v65 : BitVec 32 := Scalar.subi c8_i32 v64
  let c1_i32_30 : BitVec 32 := 1#32
  let v67 : BitVec 32 := Scalar.divsi v65 c1_i32_30
  let v68 : BitVec 32 := Scalar.muli v67 c1_i32_30
  let v69 : BitVec 32 := Scalar.addi v64 v68
  let c1_i32_32 : BitVec 32 := 1#32
  let arg15 : BitVec 32 := Scf.iv v69 c1_i32_32 k0_t2
  let c512_i32_41 : BitVec 32 := 512#32
  let v75 : BitVec 32 := Scalar.muli arg15 c512_i32_41
  let v76 : BitVec 32 := v75
  let v84 : Index := Scalar.indexCast v76
  ![0, v84.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x4096x8x96 : Shape := ⟨4, ![2, 4096, 8, 96]⟩
abbrev S2x4096x8x64 : Shape := ⟨4, ![2, 4096, 8, 64]⟩
abbrev S2x8x4096x4096 : Shape := ⟨4, ![2, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x8x4096 : Shape := ⟨3, ![2, 8, 4096]⟩
abbrev S2x8x4096x1 : Shape := ⟨4, ![2, 8, 4096, 1]⟩
abbrev S2x8x64x4096 : Shape := ⟨4, ![2, 8, 64, 4096]⟩
abbrev S2x8x4096x96 : Shape := ⟨4, ![2, 8, 4096, 96]⟩

abbrev nBuf : Space → Nat
  | .hbm => 90
  | .vmem => 0
  | .smem => 0
  | _ => 0

abbrev bufTy : (tb : Table) → Fin (tcTables nBuf tb) → BufTy
  | .hbm, ⟨0, _⟩ => ⟨S2x4096x8x96, .f32⟩
  | .hbm, ⟨1, _⟩ => ⟨S2x4096x8x96, .f32⟩
  | .hbm, ⟨2, _⟩ => ⟨S2x4096x8x64, .f32⟩
  | .hbm, ⟨3, _⟩ => ⟨S2x4096x8x64, .f32⟩
  | .hbm, ⟨4, _⟩ => ⟨S2x8x4096x4096, .f32⟩
  | .hbm, ⟨5, _⟩ => ⟨S_, .f32⟩
  | .hbm, ⟨6, _⟩ => ⟨S2x8x4096x4096, .f32⟩
  | .hbm, ⟨7, _⟩ => ⟨S2x8x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S2x8x4096x4096, .i1⟩
  | .hbm, ⟨17, _⟩ => ⟨S2x8x4096x4096, .f32⟩
  | .hbm, ⟨18, _⟩ => ⟨S2x8x4096x4096, .f32⟩
  | .hbm, ⟨19, _⟩ => ⟨S_, .f32⟩
  | .hbm, ⟨20, _⟩ => ⟨S2x8x4096x4096, .f32⟩
  | .hbm, ⟨21, _⟩ => ⟨S_, .f32⟩
  | .hbm, ⟨22, _⟩ => ⟨S2x8x4096, .f32⟩
  | .hbm, ⟨23, _⟩ => ⟨S2x8x4096x1, .f32⟩
  | .hbm, ⟨24, _⟩ => ⟨S2x8x4096x4096, .f32⟩
  | .hbm, ⟨25, _⟩ => ⟨S2x8x4096x4096, .i1⟩
  | .hbm, ⟨26, _⟩ => ⟨S2x8x4096x4096, .f32⟩
  | .hbm, ⟨27, _⟩ => ⟨S_, .f32⟩
  | .hbm, ⟨28, _⟩ => ⟨S2x8x4096, .f32⟩
  | .hbm, ⟨29, _⟩ => ⟨S_, .f32⟩
  | .hbm, ⟨30, _⟩ => ⟨S2x8x4096, .f32⟩
  | .hbm, ⟨31, _⟩ => ⟨S2x8x4096, .f32⟩
  | .hbm, ⟨32, _⟩ => ⟨S_, .f32⟩
  | .hbm, ⟨33, _⟩ => ⟨S2x8x4096, .f32⟩
  | .hbm, ⟨34, _⟩ => ⟨S2x8x4096, .i1⟩
  | .hbm, ⟨35, _⟩ => ⟨S_, .f32⟩
  | .hbm, ⟨36, _⟩ => ⟨S2x8x4096, .f32⟩
  | .hbm, ⟨37, _⟩ => ⟨S2x8x4096, .i1⟩
  | .hbm, ⟨38, _⟩ => ⟨S_, .f32⟩
  | .hbm, ⟨39, _⟩ => ⟨S2x8x4096, .f32⟩
  | .hbm, ⟨40, _⟩ => ⟨S_, .f32⟩
  | .hbm, ⟨41, _⟩ => ⟨S2x8x4096, .f32⟩
  | .hbm, ⟨42, _⟩ => ⟨S_, .f32⟩
  | .hbm, ⟨43, _⟩ => ⟨S2x8x4096, .f32⟩
  | .hbm, ⟨44, _⟩ => ⟨S2x8x4096, .f32⟩
  | .hbm, ⟨45, _⟩ => ⟨S2x8x4096, .f32⟩
  | .hbm, ⟨46, _⟩ => ⟨S2x8x4096x1, .f32⟩
  | .hbm, ⟨47, _⟩ => ⟨S2x8x4096x4096, .f32⟩
  | .hbm, ⟨48, _⟩ => ⟨S2x8x4096x4096, .f32⟩
  | .hbm, ⟨49, _⟩ => ⟨S2x8x4096x4096, .f32⟩
  | .hbm, ⟨50, _⟩ => ⟨S_, .f32⟩
  | .hbm, ⟨51, _⟩ => ⟨S2x8x4096, .f32⟩
  | .hbm, ⟨52, _⟩ => ⟨S2x8x4096x1, .f32⟩
  | .hbm, ⟨53, _⟩ => ⟨S2x8x4096x4096, .f32⟩
  | .hbm, ⟨54, _⟩ => ⟨S2x8x4096x4096, .f32⟩
  | .hbm, ⟨55, _⟩ => ⟨S2x8x4096x1, .f32⟩
  | .hbm, ⟨56, _⟩ => ⟨S_, .f32⟩
  | .hbm, ⟨57, _⟩ => ⟨S2x8x4096x1, .f32⟩
  | .hbm, ⟨58, _⟩ => ⟨S2x8x4096x1, .f32⟩
  | .hbm, ⟨59, _⟩ => ⟨S2x8x64x4096, .f32⟩
  | .hbm, ⟨60, _⟩ => ⟨S2x4096x8x64, .f32⟩
  | .hbm, ⟨61, _⟩ => ⟨S2x8x64x4096, .f32⟩
  | .hbm, ⟨62, _⟩ => ⟨S2x8x4096x4096, .f32⟩
  | .hbm, ⟨63, _⟩ => ⟨S2x8x64x4096, .f32⟩
  | .hbm, ⟨64, _⟩ => ⟨S2x4096x8x64, .f32⟩
  | .hbm, ⟨65, _⟩ => ⟨S2x8x4096x4096, .f32⟩
  | .hbm, ⟨66, _⟩ => ⟨S2x8x4096x4096, .f32⟩
  | .hbm, ⟨67, _⟩ => ⟨S2x8x4096x4096, .f32⟩
  | .hbm, ⟨68, _⟩ => ⟨S_, .f32⟩
  | .hbm, ⟨69, _⟩ => ⟨S2x8x4096, .f32⟩
  | .hbm, ⟨70, _⟩ => ⟨S2x8x4096x1, .f32⟩
  | .hbm, ⟨71, _⟩ => ⟨S2x8x4096x1, .f32⟩
  | .hbm, ⟨72, _⟩ => ⟨S2x8x4096x4096, .f32⟩
  | .hbm, ⟨73, _⟩ => ⟨S2x8x4096x4096, .f32⟩
  | .hbm, ⟨74, _⟩ => ⟨S_, .f32⟩
  | .hbm, ⟨75, _⟩ => ⟨S2x8x4096, .f32⟩
  | .hbm, ⟨76, _⟩ => ⟨S2x8x4096x4096, .f32⟩
  | .hbm, ⟨77, _⟩ => ⟨S2x8x4096x4096, .f32⟩
  | .hbm, ⟨78, _⟩ => ⟨S2x8x4096x4096, .f32⟩
  | .hbm, ⟨79, _⟩ => ⟨S_, .f32⟩
  | .hbm, ⟨80, _⟩ => ⟨S2x8x4096x4096, .f32⟩
  | .hbm, ⟨81, _⟩ => ⟨S2x8x4096x4096, .f32⟩
  | .hbm, ⟨82, _⟩ => ⟨S_, .f32⟩
  | .hbm, ⟨83, _⟩ => ⟨S2x8x4096x4096, .f32⟩
  | .hbm, ⟨84, _⟩ => ⟨S2x8x4096x4096, .f32⟩
  | .hbm, ⟨85, _⟩ => ⟨S2x8x4096x96, .f32⟩
  | .hbm, ⟨86, _⟩ => ⟨S2x4096x8x96, .f32⟩
  | .hbm, ⟨87, _⟩ => ⟨S2x8x4096x96, .f32⟩
  | .hbm, ⟨88, _⟩ => ⟨S2x4096x8x96, .f32⟩
  | .hbm, ⟨89, _⟩ => ⟨S2x4096x8x64, .bf16⟩
  | _, _ => ⟨S2x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== Forward.lean ====
abbrev S2x4096x8x96 : Shape := ⟨4, ![2, 4096, 8, 96]⟩
abbrev S2x4096x8x64 : Shape := ⟨4, ![2, 4096, 8, 64]⟩
abbrev S_ : Shape := ⟨0, ![]⟩
abbrev S2x4096x8x32 : Shape := ⟨4, ![2, 4096, 8, 32]⟩
abbrev S2x4096x8x128 : Shape := ⟨4, ![2, 4096, 8, 128]⟩
abbrev S8192x1024 : Shape := ⟨2, ![8192, 1024]⟩
abbrev S2x4096x8x1 : Shape := ⟨4, ![2, 4096, 8, 1]⟩
abbrev S2x4096x8x65 : Shape := ⟨4, ![2, 4096, 8, 65]⟩
abbrev S2x4096x8x63 : Shape := ⟨4, ![2, 4096, 8, 63]⟩
abbrev S128x4096 : Shape := ⟨2, ![128, 4096]⟩
abbrev S512x128 : Shape := ⟨2, ![512, 128]⟩
abbrev S4096x128 : Shape := ⟨2, ![4096, 128]⟩
abbrev S8x512 : Shape := ⟨2, ![8, 512]⟩
abbrev S512x512 : Shape := ⟨2, ![512, 512]⟩
abbrev S512 : Shape := ⟨1, ![512]⟩
abbrev S512x1 : Shape := ⟨2, ![512, 1]⟩
abbrev S1x128 : Shape := ⟨2, ![1, 128]⟩
abbrev S128x512 : Shape := ⟨2, ![128, 512]⟩

abbrev nBuf : Space → Nat
  | .hbm => 26
  | .vmem => 12
  | .smem => 0
  | _ => 0

abbrev bufTy : (tb : Table) → Fin (tcTables nBuf tb) → BufTy
  | .hbm, ⟨0, _⟩ => ⟨S2x4096x8x96, .f32⟩
  | .hbm, ⟨1, _⟩ => ⟨S2x4096x8x96, .f32⟩
  | .hbm, ⟨2, _⟩ => ⟨S2x4096x8x64, .f32⟩
  | .hbm, ⟨3, _⟩ => ⟨S_, .f32⟩
  | .hbm, ⟨4, _⟩ => ⟨S2x4096x8x96, .f32⟩
  | .hbm, ⟨5, _⟩ => ⟨S2x4096x8x96, .f32⟩
  | .hbm, ⟨6, _⟩ => ⟨S_, .f32⟩
  | .hbm, ⟨7, _⟩ => ⟨S2x4096x8x32, .f32⟩
  | .hbm, ⟨8, _⟩ => ⟨S2x4096x8x128, .f32⟩
  | .hbm, ⟨9, _⟩ => ⟨S8192x1024, .f32⟩
  | .hbm, ⟨10, _⟩ => ⟨S8192x1024, .bf16⟩
  | .hbm, ⟨11, _⟩ => ⟨S_, .f32⟩
  | .hbm, ⟨12, _⟩ => ⟨S2x4096x8x32, .f32⟩
  | .hbm, ⟨13, _⟩ => ⟨S2x4096x8x128, .f32⟩
  | .hbm, ⟨14, _⟩ => ⟨S8192x1024, .f32⟩
  | .hbm, ⟨15, _⟩ => ⟨S8192x1024, .bf16⟩
  | .hbm, ⟨16, _⟩ => ⟨S_, .f32⟩
  | .hbm, ⟨17, _⟩ => ⟨S2x4096x8x1, .f32⟩
  | .hbm, ⟨18, _⟩ => ⟨S2x4096x8x65, .f32⟩
  | .hbm, ⟨19, _⟩ => ⟨S_, .f32⟩
  | .hbm, ⟨20, _⟩ => ⟨S2x4096x8x63, .f32⟩
  | .hbm, ⟨21, _⟩ => ⟨S2x4096x8x128, .f32⟩
  | .hbm, ⟨22, _⟩ => ⟨S8192x1024, .f32⟩
  | .hbm, ⟨23, _⟩ => ⟨S8192x1024, .bf16⟩
  | .hbm, ⟨24, _⟩ => ⟨S8192x1024, .bf16⟩
  | .hbm, ⟨25, _⟩ => ⟨S128x4096, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .bf16⟩
  | .local _ .vmem, ⟨7, _⟩ => ⟨S512x128, .bf16⟩
  | .local _ .vmem, ⟨8, _⟩ => ⟨S8x512, .f32⟩
  | .local _ .vmem, ⟨9, _⟩ => ⟨S8x512, .f32⟩
  | .local _ .vmem, ⟨10, _⟩ => ⟨S512x128, .f32⟩
  | .local _ .vmem, ⟨11, _⟩ => ⟨S512x128, .f32⟩
  | _, _ => ⟨S2x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 8], ![false, false, false]⟩

@[reducible] def k0_t1_loop (i : grid0.Coords) : Scf.Loop 32 :=
  let c0_i32_6 : BitVec 32 := 0#32
  let arg2 : BitVec 32 := BitVec.ofNat 32 (i 2).val
  let v10 : BitVec 32 := Scalar.subi arg2 c0_i32_6
  let c1_i32 : BitVec 32 := 1#32
  let v12 : BitVec 32 := Scalar.divsi v10 c1_i32
  let v13 : BitVec 32 := Scalar.muli v12 c1_i32
  let v14 : BitVec 32 := Scalar.addi c0_i32_6 v13
  let c1_i32_7 : BitVec 32 := 1#32
  ⟨c0_i32_6, v14, c1_i32_7⟩
def k0_mult1 (i : grid0.Coords) (k0_t1 : Fin (k0_t1_loop i).trips) : BitVec 32 :=
  let c0_i32_6 : BitVec 32 := 0#32
  let c1_i32_7 : BitVec 32 := 1#32
  let arg10 : BitVec 32 := Scf.iv c0_i32_6 c1_i32_7 k0_t1
  let c512_i32_33 : BitVec 32 := 512#32
  let v73 : BitVec 32 := Scalar.muli arg10 c512_i32_33
  v73
def k0_off1 (i : grid0.Coords) (k0_t1 : Fin (k0_t1_loop i).trips) : Fin 2 → Nat :=
  let c0_i32_6 : BitVec 32 := 0#32
  let c1_i32_7 : BitVec 32 := 1#32
  let arg10 : BitVec 32 := Scf.iv c0_i32_6 c1_i32_7 k0_t1
  let c512_i32_33 : BitVec 32 := 512#32
  let v73 : BitVec 32 := Scalar.muli arg10 c512_i32_33
  let v74 : BitVec 32 := v73
  let v75 : Index := Scalar.indexCast v74
  let c0_34 : Index := 0#32
  ![v75.toNat, 0]
@[reducible] def k0_t2_loop (i : grid0.Coords) : Scf.Loop 32 :=
  let c0_i32_6 : BitVec 32 := 0#32
  let arg2 : BitVec 32 := BitVec.ofNat 32 (i 2).val
  let v10 : BitVec 32 := Scalar.subi arg2 c0_i32_6
  let c1_i32 : BitVec 32 := 1#32
  let v12 : BitVec 32 := Scalar.divsi v10 c1_i32
  let v13 : BitVec 32 := Scalar.muli v12 c1_i32
  let v14 : BitVec 32 := Scalar.addi c0_i32_6 v13
  let v11 : BitVec 32 := Scalar.addi c0_i32_6 v10
  let c1_i32_8 : BitVec 32 := 1#32
  ⟨v14, v11, c1_i32_8⟩
def k0_mult2 (i : grid0.Coords) (k0_t2 : Fin (k0_t2_loop i).trips) : BitVec 32 :=
  let c0_i32_6 : BitVec 32 := 0#32
  let arg2 : BitVec 32 := BitVec.ofNat 32 (i 2).val
  let v10 : BitVec 32 := Scalar.subi arg2 c0_i32_6
  let c1_i32 : BitVec 32 := 1#32
  let v12 : BitVec 32 := Scalar.divsi v10 c1_i32
  let v13 : BitVec 32 := Scalar.muli v12 c1_i32
  let v14 : BitVec 32 := Scalar.addi c0_i32_6 v13
  let c1_i32_8 : BitVec 32 := 1#32
  let arg10 : BitVec 32 := Scf.iv v14 c1_i32_8 k0_t2
  let c512_i32_33 : BitVec 32 := 512#32
  let v73 : BitVec 32 := Scalar.muli arg10 c512_i32_33
  v73
def k0_off2 (i : grid0.Coords) (k0_t2 : Fin (k0_t2_loop i).trips) : Fin 2 → Nat :=
  let c0_i32_6 : BitVec 32 := 0#32
  let arg2 : BitVec 32 := BitVec.ofNat 32 (i 2).val
  let v10 : BitVec 32 := Scalar.subi arg2 c0_i32_6
  let c1_i32 : BitVec 32 := 1#32
  let v12 : BitVec 32 := Scalar.divsi v10 c1_i32
  let v13 : BitVec 32 := Scalar.muli v12 c1_i32
  let v14 : BitVec 32 := Scalar.addi c0_i32_6 v13
  let c1_i32_8 : BitVec 32 := 1#32
  let arg10 : BitVec 32 := Scf.iv v14 c1_i32_8 k0_t2
  let c512_i32_33 : BitVec 32 := 512#32
  let v73 : BitVec 32 := Scalar.muli arg10 c512_i32_33
  let v74 : BitVec 32 := v73
  let v75 : Index := Scalar.indexCast v74
  let c0_34 : Index := 0#32
  ![v75.toNat, 0]
def k0_mult3 (i : grid0.Coords) : BitVec 32 :=
  let arg2 : BitVec 32 := BitVec.ofNat 32 (i 2).val
  let c512_i32 : BitVec 32 := 512#32
  let v15 : BitVec 32 := Scalar.muli arg2 c512_i32
  v15
def k0_off3 (i : grid0.Coords) : Fin 2 → Nat :=
  let arg2 : BitVec 32 := BitVec.ofNat 32 (i 2).val
  let c512_i32 : BitVec 32 := 512#32
  let v15 : BitVec 32 := Scalar.muli arg2 c512_i32
  let v16 : BitVec 32 := v15
  let v17 : Index := Scalar.indexCast v16
  let c0_9 : Index := 0#32
  ![v17.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ForwardIdeal.lean ====
variable {F : FTy → Type} [FloatOps F] [Named F]
def κ : String → Option EReal := fun
  | "mask" => some ⊥
  | _ => none
-- ==== ForwardReferenceIdeal.lean ====
abbrev S2x4096x8x96 : Shape := ⟨4, ![2, 4096, 8, 96]⟩
abbrev S2x4096x8x64 : Shape := ⟨4, ![2, 4096, 8, 64]⟩
abbrev S2x8x4096x4096 : Shape := ⟨4, ![2, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x8x4096 : Shape := ⟨3, ![2, 8, 4096]⟩
abbrev S2x8x4096x1 : Shape := ⟨4, ![2, 8, 4096, 1]⟩
abbrev S2x8x64x4096 : Shape := ⟨4, ![2, 8, 64, 4096]⟩
abbrev S2x4096x8x128 : Shape := ⟨4, ![2, 4096, 8, 128]⟩
abbrev S2x8x1x4096 : Shape := ⟨4, ![2, 8, 1, 4096]⟩
abbrev S2x8x8x4096 : Shape := ⟨4, ![2, 8, 8, 4096]⟩
abbrev S8192x1024 : Shape := ⟨2, ![8192, 1024]⟩
abbrev S128x4096 : Shape := ⟨2, ![128, 4096]⟩

abbrev nBuf : Space → Nat
  | .hbm => 45
  | .vmem => 0
  | .smem => 0
  | _ => 0

abbrev bufTy : (tb : Table) → Fin (tcTables nBuf tb) → BufTy
  | .hbm, ⟨0, _⟩ => ⟨S2x4096x8x96, .f32⟩
  | .hbm, ⟨1, _⟩ => ⟨S2x4096x8x96, .f32⟩
  | .hbm, ⟨2, _⟩ => ⟨S2x4096x8x64, .f32⟩
  | .hbm, ⟨3, _⟩ => ⟨S2x8x4096x4096, .f32⟩
  | .hbm, ⟨4, _⟩ => ⟨S_, .f32⟩
  | .hbm, ⟨5, _⟩ => ⟨S2x8x4096x4096, .f32⟩
  | .hbm, ⟨6, _⟩ => ⟨S2x8x4096x4096, .f32⟩
  | .hbm, ⟨7, _⟩ => ⟨S4096, .i32⟩
  | .hbm, ⟨8, _⟩ => ⟨S1x4096, .i32⟩
  | .hbm, ⟨9, _⟩ => ⟨S4096x1, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S_, .f32⟩
  | .hbm, ⟨14, _⟩ => ⟨S_, .f32⟩
  | .hbm, ⟨15, _⟩ => ⟨S2x8x4096x4096, .i1⟩
  | .hbm, ⟨16, _⟩ => ⟨S2x8x4096x4096, .f32⟩
  | .hbm, ⟨17, _⟩ => ⟨S2x8x4096x4096, .f32⟩
  | .hbm, ⟨18, _⟩ => ⟨S_, .f32⟩
  | .hbm, ⟨19, _⟩ => ⟨S2x8x4096, .f32⟩
  | .hbm, ⟨20, _⟩ => ⟨S2x8x4096x1, .f32⟩
  | .hbm, ⟨21, _⟩ => ⟨S2x8x4096x4096, .f32⟩
  | .hbm, ⟨22, _⟩ => ⟨S2x8x4096x4096, .f32⟩
  | .hbm, ⟨23, _⟩ => ⟨S2x8x4096x4096, .f32⟩
  | .hbm, ⟨24, _⟩ => ⟨S_, .f32⟩
  | .hbm, ⟨25, _⟩ => ⟨S2x8x4096, .f32⟩
  | .hbm, ⟨26, _⟩ => ⟨S2x8x4096x1, .f32⟩
  | .hbm, ⟨27, _⟩ => ⟨S2x8x4096x4096, .f32⟩
  | .hbm, ⟨28, _⟩ => ⟨S2x8x4096x4096, .f32⟩
  | .hbm, ⟨29, _⟩ => ⟨S2x8x4096x4096, .f32⟩
  | .hbm, ⟨30, _⟩ => ⟨S2x8x4096x4096, .f32⟩
  | .hbm, ⟨31, _⟩ => ⟨S2x8x4096x4096, .f32⟩
  | .hbm, ⟨32, _⟩ => ⟨S2x8x64x4096, .f32⟩
  | .hbm, ⟨33, _⟩ => ⟨S2x4096x8x64, .f32⟩
  | .hbm, ⟨34, _⟩ => ⟨S2x8x4096x1, .f32⟩
  | .hbm, ⟨35, _⟩ => ⟨S2x8x4096x1, .f32⟩
  | .hbm, ⟨36, _⟩ => ⟨S2x8x4096, .f32⟩
  | .hbm, ⟨37, _⟩ => ⟨S_, .f32⟩
  | .hbm, ⟨38, _⟩ => ⟨S2x4096x8x64, .f32⟩
  | .hbm, ⟨39, _⟩ => ⟨S2x4096x8x128, .f32⟩
  | .hbm, ⟨40, _⟩ => ⟨S2x8x1x4096, .f32⟩
  | .hbm, ⟨41, _⟩ => ⟨S2x8x8x4096, .f32⟩
  | .hbm, ⟨42, _⟩ => ⟨S8192x1024, .f32⟩
  | .hbm, ⟨43, _⟩ => ⟨S8192x1024, .bf16⟩
  | .hbm, ⟨44, _⟩ => ⟨S128x4096, .f32⟩
  | _, _ => ⟨S2x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== DwUp.lean ====
abbrev S8192x1024 : Shape := ⟨2, ![8192, 1024]⟩
abbrev S8192x2816 : Shape := ⟨2, ![8192, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x1024, .bf16⟩
  | .hbm, ⟨3, _⟩ => ⟨S8192x2816, .bf16⟩
  | .hbm, ⟨4, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpReferenceIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwDown.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dact.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x1024, .bf16⟩
  | .hbm, ⟨3, _⟩ => ⟨S2816x1024, .bf16⟩
  | .hbm, ⟨4, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactReferenceIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DhGate.lean ====
abbrev S8192x2816 : Shape := ⟨2, ![8192, 2816]⟩
abbrev S1024x5632 : Shape := ⟨2, ![1024, 5632]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x2816, .f32⟩
  | .hbm, ⟨1, _⟩ => ⟨S1024x5632, .f32⟩
  | .hbm, ⟨2, _⟩ => ⟨S8192x2816, .bf16⟩
  | .hbm, ⟨3, _⟩ => ⟨S1024x5632, .bf16⟩
  | .hbm, ⟨4, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x1024, .f32⟩
  | .local _ .vmem, ⟨4, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhGateReferenceIdeal.lean ====
abbrev S8192x2816 : Shape := ⟨2, ![8192, 2816]⟩
abbrev S1024x5632 : Shape := ⟨2, ![1024, 5632]⟩
abbrev S_ : Shape := ⟨0, ![]⟩
abbrev S8192x1024 : Shape := ⟨2, ![8192, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S1024x5632, .f32⟩
  | .hbm, ⟨2, _⟩ => ⟨S_, .f32⟩
  | .hbm, ⟨3, _⟩ => ⟨S8192x1024, .f32⟩
  | .hbm, ⟨4, _⟩ => ⟨S1024x2816, .f32⟩
  | .hbm, ⟨5, _⟩ => ⟨S8192x2816, .f32⟩
  | .hbm, ⟨6, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DhValue.lean ====
abbrev S8192x2816 : Shape := ⟨2, ![8192, 2816]⟩
abbrev S1024x5632 : Shape := ⟨2, ![1024, 5632]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S1024x5632, .f32⟩
  | .hbm, ⟨2, _⟩ => ⟨S8192x1024, .f32⟩
  | .hbm, ⟨3, _⟩ => ⟨S8192x2816, .bf16⟩
  | .hbm, ⟨4, _⟩ => ⟨S1024x5632, .bf16⟩
  | .hbm, ⟨5, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhValueReferenceIdeal.lean ====
abbrev S8192x2816 : Shape := ⟨2, ![8192, 2816]⟩
abbrev S1024x5632 : Shape := ⟨2, ![1024, 5632]⟩
abbrev S8192x1024 : Shape := ⟨2, ![8192, 1024]⟩
abbrev S_ : Shape := ⟨0, ![]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S1024x5632, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S8192x1024, .f32⟩
  | .hbm, ⟨8, _⟩ => ⟨S8192x1024, .f32⟩
  | .hbm, ⟨9, _⟩ => ⟨S8192x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DwIn.lean ====
abbrev S8192x1024 : Shape := ⟨2, ![8192, 1024]⟩
abbrev S8192x4096 : Shape := ⟨2, ![8192, 4096]⟩
abbrev S1024x4096 : Shape := ⟨2, ![1024, 4096]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInReferenceIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DhIn.lean ====
abbrev S8192x4096 : Shape := ⟨2, ![8192, 4096]⟩
abbrev S1024x4096 : Shape := ⟨2, ![1024, 4096]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x4096, .bf16⟩
  | .hbm, ⟨3, _⟩ => ⟨S1024x4096, .bf16⟩
  | .hbm, ⟨4, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhInReferenceIdeal.lean ====
abbrev S8192x4096 : Shape := ⟨2, ![8192, 4096]⟩
abbrev S1024x4096 : Shape := ⟨2, ![1024, 4096]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S_, .f32⟩
  | .hbm, ⟨3, _⟩ => ⟨S8192x1024, .f32⟩
  | .hbm, ⟨4, _⟩ => ⟨S8192x4096, .f32⟩
  | .hbm, ⟨5, _⟩ => ⟨S8192x1024, .f32⟩
  | .hbm, ⟨6, _⟩ => ⟨S8192x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwOut.lean ====
abbrev S8192x2560 : Shape := ⟨2, ![8192, 2560]⟩
abbrev S8192x1024 : Shape := ⟨2, ![8192, 1024]⟩
abbrev S2560x1024 : Shape := ⟨2, ![2560, 1024]⟩
abbrev S1024x1280 : Shape := ⟨2, ![1024, 1280]⟩
abbrev S1024x1024 : Shape := ⟨2, ![1024, 1024]⟩
abbrev S1280x1024 : Shape := ⟨2, ![1280, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2560, .f32⟩
  | .hbm, ⟨1, _⟩ => ⟨S8192x1024, .f32⟩
  | .hbm, ⟨2, _⟩ => ⟨S8192x2560, .bf16⟩
  | .hbm, ⟨3, _⟩ => ⟨S8192x1024, .bf16⟩
  | .hbm, ⟨4, _⟩ => ⟨S2560x1024, .f32⟩
  | .local _ .vmem, ⟨0, _⟩ => ⟨S1024x1280, .bf16⟩
  | .local _ .vmem, ⟨1, _⟩ => ⟨S1024x1280, .bf16⟩
  | .local _ .vmem, ⟨2, _⟩ => ⟨S1024x1024, .bf16⟩
  | .local _ .vmem, ⟨3, _⟩ => ⟨S1024x1024, .bf16⟩
  | .local _ .vmem, ⟨4, _⟩ => ⟨S1280x1024, .f32⟩
  | .local _ .vmem, ⟨5, _⟩ => ⟨S1280x1024, .f32⟩
  | .local _ .vmem, ⟨6, _⟩ => ⟨S1280x1024, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutReferenceIdeal.lean ====
abbrev S8192x2560 : Shape := ⟨2, ![8192, 2560]⟩
abbrev S8192x1024 : Shape := ⟨2, ![8192, 1024]⟩
abbrev S_ : Shape := ⟨0, ![]⟩
abbrev S2560x1024 : Shape := ⟨2, ![2560, 1024]⟩
abbrev S1024x2560 : Shape := ⟨2, ![1024, 2560]⟩

abbrev nBuf : Space → Nat
  | .hbm => 7
  | .vmem => 0
  | .smem => 0
  | _ => 0

abbrev bufTy : (tb : Table) → Fin (tcTables nBuf tb) → BufTy
  | .hbm, ⟨0, _⟩ => ⟨S8192x2560, .f32⟩
  | .hbm, ⟨1, _⟩ => ⟨S8192x1024, .f32⟩
  | .hbm, ⟨2, _⟩ => ⟨S_, .f32⟩
  | .hbm, ⟨3, _⟩ => ⟨S2560x1024, .f32⟩
  | .hbm, ⟨4, _⟩ => ⟨S8192x1024, .f32⟩
  | .hbm, ⟨5, _⟩ => ⟨S1024x2560, .f32⟩
  | .hbm, ⟨6, _⟩ => ⟨S2560x1024, .f32⟩
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dycat.lean ====
abbrev S8192x1024 : Shape := ⟨2, ![8192, 1024]⟩
abbrev S2560x1024 : Shape := ⟨2, ![2560, 1024]⟩
abbrev S8192x2560 : Shape := ⟨2, ![8192, 2560]⟩
abbrev S1024x1024 : Shape := ⟨2, ![1024, 1024]⟩
abbrev S1280x1024 : Shape := ⟨2, ![1280, 1024]⟩
abbrev S1024x1280 : Shape := ⟨2, ![1024, 1280]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2560x1024, .f32⟩
  | .hbm, ⟨2, _⟩ => ⟨S8192x1024, .bf16⟩
  | .hbm, ⟨3, _⟩ => ⟨S2560x1024, .bf16⟩
  | .hbm, ⟨4, _⟩ => ⟨S8192x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1280x1024, .bf16⟩
  | .local _ .vmem, ⟨4, _⟩ => ⟨S1024x1280, .bf16⟩
  | .local _ .vmem, ⟨5, _⟩ => ⟨S1024x1280, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DycatReferenceIdeal.lean ====
abbrev S8192x1024 : Shape := ⟨2, ![8192, 1024]⟩
abbrev S2560x1024 : Shape := ⟨2, ![2560, 1024]⟩
abbrev S_ : Shape := ⟨0, ![]⟩
abbrev S8192x2560 : Shape := ⟨2, ![8192, 2560]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2560x1024, .f32⟩
  | .hbm, ⟨2, _⟩ => ⟨S_, .f32⟩
  | .hbm, ⟨3, _⟩ => ⟨S8192x2560, .f32⟩
  | .hbm, ⟨4, _⟩ => ⟨S8192x1024, .f32⟩
  | .hbm, ⟨5, _⟩ => ⟨S8192x2560, .f32⟩
  | .hbm, ⟨6, _⟩ => ⟨S8192x2560, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MulIn.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulInReferenceIdeal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MulOut.lean ====
abbrev S8192x2560 : Shape := ⟨2, ![8192, 2560]⟩
abbrev S2560x1024 : Shape := ⟨2, ![2560, 1024]⟩
abbrev S8192x1024 : Shape := ⟨2, ![8192, 1024]⟩
abbrev S1024x2560 : Shape := ⟨2, ![1024, 2560]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2560, .f32⟩
  | .hbm, ⟨1, _⟩ => ⟨S2560x1024, .f32⟩
  | .hbm, ⟨2, _⟩ => ⟨S8192x1024, .f32⟩
  | .hbm, ⟨3, _⟩ => ⟨S8192x2560, .bf16⟩
  | .hbm, ⟨4, _⟩ => ⟨S2560x1024, .bf16⟩
  | .hbm, ⟨5, _⟩ => ⟨S8192x1024, .f32⟩
  | .local _ .vmem, ⟨0, _⟩ => ⟨S1024x2560, .bf16⟩
  | .local _ .vmem, ⟨1, _⟩ => ⟨S1024x2560, .bf16⟩
  | .local _ .vmem, ⟨2, _⟩ => ⟨S2560x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MulOutReferenceIdeal.lean ====
abbrev S8192x2560 : Shape := ⟨2, ![8192, 2560]⟩
abbrev S2560x1024 : Shape := ⟨2, ![2560, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2560, .f32⟩
  | .hbm, ⟨1, _⟩ => ⟨S2560x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MulUp.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x5632, .bf16⟩
  | .hbm, ⟨4, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulUpReferenceIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MulDown.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S2816x1024, .bf16⟩
  | .hbm, ⟨5, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MulDownReferenceIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MulUq.lean ====
abbrev S8192x384 : Shape := ⟨2, ![8192, 384]⟩
abbrev S384x1024 : Shape := ⟨2, ![384, 1024]⟩
abbrev S8192x1024 : Shape := ⟨2, ![8192, 1024]⟩
abbrev S1024x384 : Shape := ⟨2, ![1024, 384]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x384, .bf16⟩
  | .hbm, ⟨3, _⟩ => ⟨S384x1024, .bf16⟩
  | .hbm, ⟨4, _⟩ => ⟨S8192x1024, .bf16⟩
  | .local _ .vmem, ⟨0, _⟩ => ⟨S1024x384, .bf16⟩
  | .local _ .vmem, ⟨1, _⟩ => ⟨S1024x384, .bf16⟩
  | .local _ .vmem, ⟨2, _⟩ => ⟨S384x1024, .bf16⟩
  | .local _ .vmem, ⟨3, _⟩ => ⟨S1024x1024, .bf16⟩
  | .local _ .vmem, ⟨4, _⟩ => ⟨S1024x1024, .bf16⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulUqReferenceIdeal.lean ====
abbrev S8192x384 : Shape := ⟨2, ![8192, 384]⟩
abbrev S384x1024 : Shape := ⟨2, ![384, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x1024, .f32⟩
  | .hbm, ⟨3, _⟩ => ⟨S8192x1024, .bf16⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MulUkv.lean ====
abbrev S8192x256 : Shape := ⟨2, ![8192, 256]⟩
abbrev S256x2048 : Shape := ⟨2, ![256, 2048]⟩
abbrev S8192x2048 : Shape := ⟨2, ![8192, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x256, .bf16⟩
  | .hbm, ⟨3, _⟩ => ⟨S256x2048, .bf16⟩
  | .hbm, ⟨4, _⟩ => ⟨S8192x2048, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulUkvReferenceIdeal.lean ====
abbrev S8192x256 : Shape := ⟨2, ![8192, 256]⟩
abbrev S256x2048 : Shape := ⟨2, ![256, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x2048, .f32⟩
  | .hbm, ⟨3, _⟩ => ⟨S8192x2048, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DwUk.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x256, .bf16⟩
  | .hbm, ⟨3, _⟩ => ⟨S8192x1024, .bf16⟩
  | .hbm, ⟨4, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwUkReferenceIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S1024x256, .f32⟩
  | .hbm, ⟨6, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DkvnKey.lean ====
abbrev S8192x1024 : Shape := ⟨2, ![8192, 1024]⟩
abbrev S256x2048 : Shape := ⟨2, ![256, 2048]⟩
abbrev S8192x256 : Shape := ⟨2, ![8192, 256]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S8192x1024, .bf16⟩
  | .hbm, ⟨3, _⟩ => ⟨S256x2048, .bf16⟩
  | .hbm, ⟨4, _⟩ => ⟨S8192x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DkvnKeyReferenceIdeal.lean ====
abbrev S8192x1024 : Shape := ⟨2, ![8192, 1024]⟩
abbrev S256x2048 : Shape := ⟨2, ![256, 2048]⟩
abbrev S_ : Shape := ⟨0, ![]⟩
abbrev S8192x256 : Shape := ⟨2, ![8192, 256]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S_, .f32⟩
  | .hbm, ⟨3, _⟩ => ⟨S8192x256, .f32⟩
  | .hbm, ⟨4, _⟩ => ⟨S256x1024, .f32⟩
  | .hbm, ⟨5, _⟩ => ⟨S8192x1024, .f32⟩
  | .hbm, ⟨6, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DkvnValue.lean ====
abbrev S8192x1024 : Shape := ⟨2, ![8192, 1024]⟩
abbrev S256x2048 : Shape := ⟨2, ![256, 2048]⟩
abbrev S8192x256 : Shape := ⟨2, ![8192, 256]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S8192x256, .f32⟩
  | .hbm, ⟨3, _⟩ => ⟨S8192x1024, .bf16⟩
  | .hbm, ⟨4, _⟩ => ⟨S256x2048, .bf16⟩
  | .hbm, ⟨5, _⟩ => ⟨S8192x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DkvnValueReferenceIdeal.lean ====
abbrev S8192x1024 : Shape := ⟨2, ![8192, 1024]⟩
abbrev S256x2048 : Shape := ⟨2, ![256, 2048]⟩
abbrev S8192x256 : Shape := ⟨2, ![8192, 256]⟩
abbrev S_ : Shape := ⟨0, ![]⟩
abbrev S256x1024 : Shape := ⟨2, ![256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S8192x256, .f32⟩
  | .hbm, ⟨3, _⟩ => ⟨S_, .f32⟩
  | .hbm, ⟨4, _⟩ => ⟨S8192x256, .f32⟩
  | .hbm, ⟨5, _⟩ => ⟨S256x1024, .f32⟩
  | .hbm, ⟨6, _⟩ => ⟨S8192x1024, .f32⟩
  | .hbm, ⟨7, _⟩ => ⟨S8192x256, .f32⟩
  | .hbm, ⟨8, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== DwUq.lean ====
abbrev S8192x384 : Shape := ⟨2, ![8192, 384]⟩
abbrev S8192x1024 : Shape := ⟨2, ![8192, 1024]⟩
abbrev S384x1024 : Shape := ⟨2, ![384, 1024]⟩
abbrev S1024x384 : Shape := ⟨2, ![1024, 384]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x384, .f32⟩
  | .hbm, ⟨1, _⟩ => ⟨S8192x1024, .f32⟩
  | .hbm, ⟨2, _⟩ => ⟨S8192x384, .bf16⟩
  | .hbm, ⟨3, _⟩ => ⟨S8192x1024, .bf16⟩
  | .hbm, ⟨4, _⟩ => ⟨S384x1024, .f32⟩
  | .local _ .vmem, ⟨0, _⟩ => ⟨S1024x384, .bf16⟩
  | .local _ .vmem, ⟨1, _⟩ => ⟨S1024x384, .bf16⟩
  | .local _ .vmem, ⟨2, _⟩ => ⟨S1024x1024, .bf16⟩
  | .local _ .vmem, ⟨3, _⟩ => ⟨S1024x1024, .bf16⟩
  | .local _ .vmem, ⟨4, _⟩ => ⟨S384x1024, .f32⟩
  | .local _ .vmem, ⟨5, _⟩ => ⟨S384x1024, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwUqReferenceIdeal.lean ====
abbrev S8192x384 : Shape := ⟨2, ![8192, 384]⟩
abbrev S8192x1024 : Shape := ⟨2, ![8192, 1024]⟩
abbrev S_ : Shape := ⟨0, ![]⟩
abbrev S384x1024 : Shape := ⟨2, ![384, 1024]⟩
abbrev S1024x384 : Shape := ⟨2, ![1024, 384]⟩

abbrev nBuf : Space → Nat
  | .hbm => 7
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S8192x1024, .f32⟩
  | .hbm, ⟨2, _⟩ => ⟨S_, .f32⟩
  | .hbm, ⟨3, _⟩ => ⟨S384x1024, .f32⟩
  | .hbm, ⟨4, _⟩ => ⟨S8192x1024, .f32⟩
  | .hbm, ⟨5, _⟩ => ⟨S1024x384, .f32⟩
  | .hbm, ⟨6, _⟩ => ⟨S384x1024, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dqn.lean ====
abbrev S8192x1024 : Shape := ⟨2, ![8192, 1024]⟩
abbrev S384x1024 : Shape := ⟨2, ![384, 1024]⟩
abbrev S8192x384 : Shape := ⟨2, ![8192, 384]⟩
abbrev S1024x1024 : Shape := ⟨2, ![1024, 1024]⟩
abbrev S1024x384 : Shape := ⟨2, ![1024, 384]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S384x1024, .f32⟩
  | .hbm, ⟨2, _⟩ => ⟨S8192x1024, .bf16⟩
  | .hbm, ⟨3, _⟩ => ⟨S384x1024, .bf16⟩
  | .hbm, ⟨4, _⟩ => ⟨S8192x384, .f32⟩
  | .local _ .vmem, ⟨0, _⟩ => ⟨S1024x1024, .bf16⟩
  | .local _ .vmem, ⟨1, _⟩ => ⟨S1024x1024, .bf16⟩
  | .local _ .vmem, ⟨2, _⟩ => ⟨S384x1024, .bf16⟩
  | .local _ .vmem, ⟨3, _⟩ => ⟨S1024x384, .f32⟩
  | .local _ .vmem, ⟨4, _⟩ => ⟨S1024x384, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DqnReferenceIdeal.lean ====
abbrev S8192x1024 : Shape := ⟨2, ![8192, 1024]⟩
abbrev S384x1024 : Shape := ⟨2, ![384, 1024]⟩
abbrev S_ : Shape := ⟨0, ![]⟩
abbrev S8192x384 : Shape := ⟨2, ![8192, 384]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S384x1024, .f32⟩
  | .hbm, ⟨2, _⟩ => ⟨S_, .f32⟩
  | .hbm, ⟨3, _⟩ => ⟨S8192x384, .f32⟩
  | .hbm, ⟨4, _⟩ => ⟨S8192x1024, .f32⟩
  | .hbm, ⟨5, _⟩ => ⟨S8192x384, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .bf16⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Dgate.lean ====
abbrev S8192x1024 : Shape := ⟨2, ![8192, 1024]⟩
abbrev S8192x4096 : Shape := ⟨2, ![8192, 4096]⟩
abbrev S1x1024 : Shape := ⟨2, ![1, 1024]⟩
abbrev S8192x2560 : Shape := ⟨2, ![8192, 2560]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S1x1024, .f32⟩
  | .hbm, ⟨3, _⟩ => ⟨S8192x2560, .f32⟩
  | .hbm, ⟨4, _⟩ => ⟨S8192x2560, .bf16⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DgateReferenceIdeal.lean ====
abbrev S8192x1024 : Shape := ⟨2, ![8192, 1024]⟩
abbrev S8192x4096 : Shape := ⟨2, ![8192, 4096]⟩
abbrev S1x1024 : Shape := ⟨2, ![1, 1024]⟩
abbrev S8192x2560 : Shape := ⟨2, ![8192, 2560]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S1x1024, .f32⟩
  | .hbm, ⟨3, _⟩ => ⟨S8192x2560, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v40 : Ref sig .tc := ⟨.hbm, 67, rfl⟩
abbrev main_v41 : Ref sig .tc := ⟨.hbm, 68, rfl⟩

abbrev nD : Nat := 1
abbrev τ : Topo := Topo.v7x

variable {F : FTy → Type} [FloatOps F]
-- ==== Dcq.lean ====
abbrev S8192x4096 : Shape := ⟨2, ![8192, 4096]⟩
abbrev S1x384 : Shape := ⟨2, ![1, 384]⟩
abbrev S8192x384 : Shape := ⟨2, ![8192, 384]⟩
abbrev S512x384 : Shape := ⟨2, ![512, 384]⟩
abbrev S512 : Shape := ⟨1, ![512]⟩
abbrev S512x1 : Shape := ⟨2, ![512, 1]⟩
abbrev S384 : Shape := ⟨1, ![384]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S1x384, .f32⟩
  | .hbm, ⟨2, _⟩ => ⟨S8192x384, .f32⟩
  | .hbm, ⟨3, _⟩ => ⟨S8192x384, .bf16⟩
  | .hbm, ⟨4, _⟩ => ⟨S1x384, .f32⟩
  | .local _ .vmem, ⟨0, _⟩ => ⟨S512x384, .f32⟩
  | .local _ .vmem, ⟨1, _⟩ => ⟨S512x384, .f32⟩
  | .local _ .vmem, ⟨2, _⟩ => ⟨S1x384, .f32⟩
  | .local _ .vmem, ⟨3, _⟩ => ⟨S512x384, .f32⟩
  | .local _ .vmem, ⟨4, _⟩ => ⟨S512x384, .f32⟩
  | .local _ .vmem, ⟨5, _⟩ => ⟨S512x384, .bf16⟩
  | .local _ .vmem, ⟨6, _⟩ => ⟨S512x384, .bf16⟩
  | .local _ .vmem, ⟨7, _⟩ => ⟨S1x384, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DcqReferenceIdeal.lean ====
abbrev S8192x4096 : Shape := ⟨2, ![8192, 4096]⟩
abbrev S1x384 : Shape := ⟨2, ![1, 384]⟩
abbrev S8192x384 : Shape := ⟨2, ![8192, 384]⟩
abbrev S_ : Shape := ⟨0, ![]⟩
abbrev S8192 : Shape := ⟨1, ![8192]⟩
abbrev S8192x1 : Shape := ⟨2, ![8192, 1]⟩
abbrev S384 : Shape := ⟨1, ![384]⟩

abbrev nBuf : Space → Nat
  | .hbm => 47
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x384, .f32⟩
  | .hbm, ⟨2, _⟩ => ⟨S8192x384, .f32⟩
  | .hbm, ⟨3, _⟩ => ⟨S8192x384, .f32⟩
  | .hbm, ⟨4, _⟩ => ⟨S8192x384, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x384, .f32⟩
  | .hbm, ⟨20, _⟩ => ⟨S8192x384, .f32⟩
  | .hbm, ⟨21, _⟩ => ⟨S8192x384, .f32⟩
  | .hbm, ⟨22, _⟩ => ⟨S8192x384, .f32⟩
  | .hbm, ⟨23, _⟩ => ⟨S8192x384, .f32⟩
  | .hbm, ⟨24, _⟩ => ⟨S_, .f32⟩
  | .hbm, ⟨25, _⟩ => ⟨S384, .f32⟩
  | .hbm, ⟨26, _⟩ => ⟨S1x384, .f32⟩
  | .hbm, ⟨27, _⟩ => ⟨S8192x384, .f32⟩
  | .hbm, ⟨28, _⟩ => ⟨S8192x384, .f32⟩
  | .hbm, ⟨29, _⟩ => ⟨S8192x384, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x384, .f32⟩
  | .hbm, ⟨34, _⟩ => ⟨S8192x384, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x384, .f32⟩
  | .hbm, ⟨42, _⟩ => ⟨S8192x384, .f32⟩
  | .hbm, ⟨43, _⟩ => ⟨S8192x384, .f32⟩
  | .hbm, ⟨44, _⟩ => ⟨S8192x384, .f32⟩
  | .hbm, ⟨45, _⟩ => ⟨S8192x384, .f32⟩
  | .hbm, ⟨46, _⟩ => ⟨S8192x384, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Dckv.lean ====
abbrev S8192x4096 : Shape := ⟨2, ![8192, 4096]⟩
abbrev S1x256 : Shape := ⟨2, ![1, 256]⟩
abbrev S8192x256 : Shape := ⟨2, ![8192, 256]⟩
abbrev S512x256 : Shape := ⟨2, ![512, 256]⟩
abbrev S512 : Shape := ⟨1, ![512]⟩
abbrev S512x1 : Shape := ⟨2, ![512, 1]⟩
abbrev S256 : Shape := ⟨1, ![256]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S1x256, .f32⟩
  | .hbm, ⟨2, _⟩ => ⟨S8192x256, .f32⟩
  | .hbm, ⟨3, _⟩ => ⟨S8192x256, .bf16⟩
  | .hbm, ⟨4, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S512x256, .f32⟩
  | .local _ .vmem, ⟨4, _⟩ => ⟨S512x256, .f32⟩
  | .local _ .vmem, ⟨5, _⟩ => ⟨S512x256, .bf16⟩
  | .local _ .vmem, ⟨6, _⟩ => ⟨S512x256, .bf16⟩
  | .local _ .vmem, ⟨7, _⟩ => ⟨S1x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DckvReferenceIdeal.lean ====
abbrev S8192x4096 : Shape := ⟨2, ![8192, 4096]⟩
abbrev S1x256 : Shape := ⟨2, ![1, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256 : Shape := ⟨1, ![256]⟩

abbrev nBuf : Space → Nat
  | .hbm => 47
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x256, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S_, .f32⟩
  | .hbm, ⟨25, _⟩ => ⟨S256, .f32⟩
  | .hbm, ⟨26, _⟩ => ⟨S1x256, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x256, .f32⟩
  | .hbm, ⟨34, _⟩ => ⟨S8192x256, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x256, .f32⟩
  | .hbm, ⟨42, _⟩ => ⟨S8192x256, .f32⟩
  | .hbm, ⟨43, _⟩ => ⟨S8192x256, .f32⟩
  | .hbm, ⟨44, _⟩ => ⟨S8192x256, .f32⟩
  | .hbm, ⟨45, _⟩ => ⟨S8192x256, .f32⟩
  | .hbm, ⟨46, _⟩ => ⟨S8192x256, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.FwdBody.lean ====
/-
  What one grid point of the forward kernel leaves, in terms of the block contents it reads.

  The generated run lists the stores of the body; here they are read back: the running maximum and the accumulator after
  `k` trips of the loop over the earlier key tiles are a plain recursion (`steps`), the diagonal tile is one step more,
  and the two outputs are functions of the state it leaves.
-/
module

public import proofs.«01_k».proof.Proof.Gen.ForwardIdeal.Value
public import Idealize.ShloMosaic.Lib.Tactic
public import Idealize.ShloMosaic.Lib.VecWindow
public import Idealize.ShloMosaic.Lib.Pointwise

@[expose] public section

noncomputable section

open Idealize.ShloMosaic Idealize.ShloMosaic.TcCoe Idealize.SL.Sem

namespace Cert.ForwardIdeal.Body

open Cert.ForwardIdeal Cert.ForwardIdeal.Gen

variable {F : FTy → Type} [FloatOps F] [Named F]

theorem hz : (![0, 0] : Fin 2 → Nat) = fun _ => 0 := funext fun a => by fin_cases a <;> rfl

/-- A load of a whole tile buffer reads its contents. -/
theorem readAt_whole {e : EltTy} (a : Memref sig .tc .vmem S512x128 e)
    (inb : ∀ d, (![0, 0] : Fin 2 → Nat) d + S512x128.size d ≤ S512x128.size d) (f : a.view.ty.Contents (Elt F)) :
    View.readAt (Elt F) a.view (Rect.unit (s := S512x128) ![0, 0] S512x128.size inb).toLoadRect f = a.view.read (Elt F) f := by
  rw [View.readAt_eq_ld, View.ld_unit_zero (S := S512x128) hz]

/-- The tile of 512 rows of a sequence that starts at row `512 j`. -/
def tile (X : Vec F S4096x128 .bf16) (j : ℕ) (hj : j < 8) : Vec F S512x128 .bf16 := fun y =>
  X (ix2 ⟨512 * j + (y 0).val, by have h : (y 0).val < 512 := (y 0).isLt; omega⟩ (y 1))

/-- A load of 512 rows at row `512 j` of a sequence reads that tile. -/
theorem readAt_tile (a : Memref sig .tc .vmem S4096x128 .bf16) (ha : a.IsWhole) (X : Vec F S4096x128 .bf16) (j : ℕ)
    (hj : j < 8) (off : Fin 2 → Nat) (hoff : off = ![512 * j, 0])
    (inb : ∀ d, off d + S512x128.size d ≤ S4096x128.size d) :
    View.readAt (Elt F) a.view (Rect.unit (s := S4096x128) off S512x128.size inb).toLoadRect (ha.unread X) = tile X j hj := by
  subst hoff
  rw [View.readAt_eq_ld, ha.read_unread]
  funext y
  show X _ = X _
  congr 1
  funext d
  apply Fin.ext
  match d with
  | ⟨0, _⟩ => show 512 * j + 1 * (y 0).val = 512 * j + (y 0).val; omega
  | ⟨1, _⟩ => show 0 + 1 * (y 1).val = (y 1).val; omega

/-- The state carried over the key tiles: the running maximum and the accumulator. -/
abbrev St (F : FTy → Type) := Vec F S512x128 .f32 × Vec F S512x128 .f32

/-- One unmasked key tile. -/
def step (q k v : Vec F S512x128 .bf16) (s : St F) : St F := (k0_pay7 q k s.1, k0_pay6 q k s.1 s.2 v)

/-- The masked key tile on the diagonal. -/
def last (q k v : Vec F S512x128 .bf16) (s : St F) : St F :=
  (k0_pay16 (k0_pay13 q k s.1), k0_pay15 s.1 (k0_pay13 q k s.1) (k0_pay14 q k s.1) s.2 v)

/-- The state after the first `j` key tiles. -/
def steps (q : Vec F S512x128 .bf16) (K V : Vec F S4096x128 .bf16) : (j : ℕ) → j ≤ 8 → St F
  | 0, _ => (k0_pay2, k0_pay3)
  | j + 1, h => step q (tile K j h) (tile V j h) (steps q K V j (Nat.le_of_succ_le h))

section Point

variable (c : Dev nD) (i : grid0.Coords) (arg3 : Memref sig .tc .vmem S512x128 .bf16) (harg3 : arg3.IsWhole)
  (arg4 : Memref sig .tc .vmem S4096x128 .bf16) (harg4 : arg4.IsWhole) (arg5 : Memref sig .tc .vmem S4096x128 .bf16) (harg5 : arg5.IsWhole)
  (arg6 : Memref sig .tc .vmem S512x128 .bf16) (harg6 : arg6.IsWhole) (arg7 : Memref sig .tc .vmem S8x512 .f32) (harg7 : arg7.IsWhole)
  (arg8 : Memref sig .tc .vmem S512x128 .f32) (harg8 : arg8.IsWhole) (arg9 : Memref sig .tc .vmem S512x128 .f32) (harg9 : arg9.IsWhole)

theorem trips1 : (k0_t1_loop i).trips = (i 2).val := by
  have h : ∀ n : Fin 8, (⟨0#32, Scalar.addi 0#32 (Scalar.muli (Scalar.divsi (Scalar.subi (BitVec.ofNat 32 n.val) 0#32) 1#32) 1#32), 1#32⟩ : Scf.Loop 32).trips = n.val := by decide
  exact h (i 2)

theorem trips2 : (k0_t2_loop i).trips = 0 := Nat.le_zero.mp (k0_t2_abs i).2.1

theorem lt8 (i : grid0.Coords) : (i 2).val < 8 := (i 2).isLt

/-- One trip's stores, read back: the step at its key tile. -/
theorem trip_read (v0 : Vec F S512x128 .bf16) (x1 x2 : Vec F S4096x128 .bf16) (k : Fin (k0_t1_loop i).trips) (hk : k.val < 8)
    (f8 : BufTy.Contents (Elt F) arg8.view.ty) (f9 : BufTy.Contents (Elt F) arg9.view.ty) :
    (∀ g L, arg8.view.read (Elt F) (arg8.view.writes (Elt F) g ((tripL_k0_t1 (F := F) Variants.none c none i arg3 harg3 arg4 harg4 arg5 harg5 arg6 harg6 arg7 harg7 arg8 harg8 arg9 harg9 v0 (harg4.unread x1) (harg5.unread x2) k f8 f9).1 ++ L)) = (step v0 (tile x1 k hk) (tile x2 k hk) (arg8.view.read (Elt F) f8, arg9.view.read (Elt F) f9)).1)
    ∧ (∀ g L, arg9.view.read (Elt F) (arg9.view.writes (Elt F) g ((tripL_k0_t1 (F := F) Variants.none c none i arg3 harg3 arg4 harg4 arg5 harg5 arg6 harg6 arg7 harg7 arg8 harg8 arg9 harg9 v0 (harg4.unread x1) (harg5.unread x2) k f8 f9).2 ++ L)) = (step v0 (tile x1 k hk) (tile x2 k hk) (arg8.view.read (Elt F) f8, arg9.view.read (Elt F) f9)).2) := by
  unfold tripL_k0_t1 trip_k0_t1
  refine ⟨fun g L => ?_, fun g L => ?_⟩
  · dsimp only
    rw [List.singleton_append]
    refine (View.read_writes_full _ _ _ _ _).trans ?_
    unfold step
    rw [readAt_whole, readAt_tile arg4 harg4 x1 k hk _ (k0_off1_eq i k)]
  · dsimp only
    rw [List.singleton_append]
    refine (View.read_writes_full _ _ _ _ _).trans ?_
    unfold step
    rw [readAt_whole, readAt_whole, readAt_tile arg4 harg4 x1 k hk _ (k0_off1_eq i k), readAt_tile arg5 harg5 x2 k hk _ (k0_off1_eq i k)]

/-- The loop's stores read back over any start: the state after `j` trips. -/
theorem loop_read (v0 : Vec F S512x128 .bf16) (x1 x2 : Vec F S4096x128 .bf16)
    (G8 : BufTy.Contents (Elt F) arg8.view.ty) (G9 : BufTy.Contents (Elt F) arg9.view.ty)
    (h8 : arg8.view.read (Elt F) G8 = k0_pay2) (h9 : arg9.view.read (Elt F) G9 = k0_pay3) :
    ∀ (j : ℕ) (hj : j ≤ (i 2).val),
      (arg8.view.read (Elt F) (arg8.view.writes (Elt F) G8 (pb_k0_t1 (F := F) Variants.none c none i arg3 harg3 arg4 harg4 arg5 harg5 arg6 harg6 arg7 harg7 arg8 harg8 arg9 harg9 v0 (harg4.unread x1) (harg5.unread x2) G8 G9 j).1),
       arg9.view.read (Elt F) (arg9.view.writes (Elt F) G9 (pb_k0_t1 (F := F) Variants.none c none i arg3 harg3 arg4 harg4 arg5 harg5 arg6 harg6 arg7 harg7 arg8 harg8 arg9 harg9 v0 (harg4.unread x1) (harg5.unread x2) G8 G9 j).2))
        = steps v0 x1 x2 j (hj.trans (lt8 i).le)
  | 0, _ => by
    rw [pb_k0_t1.eq_1]
    show (arg8.view.read (Elt F) G8, arg9.view.read (Elt F) G9) = (k0_pay2, k0_pay3)
    rw [h8, h9]
  | j + 1, hj => by
    have ih := loop_read v0 x1 x2 G8 G9 h8 h9 j (Nat.le_of_succ_le hj)
    have hk : j < (k0_t1_loop i).trips := by rw [trips1]; exact hj
    have hs := pb_k0_t1_succ (F := F) Variants.none c none i arg3 harg3 arg4 harg4 arg5 harg5 arg6 harg6 arg7 harg7 arg8 harg8 arg9 harg9 v0 (harg4.unread x1) (harg5.unread x2) G8 G9 ⟨j, hk⟩
    have hr := trip_read c i arg3 harg3 arg4 harg4 arg5 harg5 arg6 harg6 arg7 harg7 arg8 harg8 arg9 harg9 v0 x1 x2 ⟨j, hk⟩ (lt_of_lt_of_le hj (lt8 i).le)
    exact Prod.ext
      ((congrArg (fun z => arg8.view.read (Elt F) (arg8.view.writes (Elt F) G8 z.1)) hs).trans
        (((hr _ _).1 _ _).trans (congrArg (fun s => (step v0 (tile x1 j _) (tile x2 j _) s).1) ih)))
      ((congrArg (fun z => arg9.view.read (Elt F) (arg9.view.writes (Elt F) G9 z.2)) hs).trans
        (((hr _ _).2 _ _).trans (congrArg (fun s => (step v0 (tile x1 j _) (tile x2 j _) s).2) ih)))

/-- A load of a whole tile buffer after a store to the whole of it reads what was stored. -/
theorem readCov_cons (a : Memref sig .tc .vmem S512x128 .f32)
    (inb : ∀ d, (![0, 0] : Fin 2 → Nat) d + S512x128.size d ≤ S512x128.size d) (w : Vec F S512x128 .f32) (L : List (View.Piece (Elt F) S512x128 .f32)) :
    a.view.readCov (⟨Rect.unit (s := S512x128) ![0, 0] S512x128.size inb, w⟩ :: L) (Rect.unit (s := S512x128) ![0, 0] S512x128.size inb).toLoadRect = w := by
  unfold View.readCov
  rw [readAt_whole]
  exact View.read_writes_full _ _ _ _ _

/-- The second loop (what is left after whole strides of the first) makes no trip, so stores nothing. -/
theorem loop2_none (v0 : Vec F S512x128 .bf16) (X4 : BufTy.Contents (Elt F) arg4.view.ty) (X5 : BufTy.Contents (Elt F) arg5.view.ty)
    (G8 : BufTy.Contents (Elt F) arg8.view.ty) (G9 : BufTy.Contents (Elt F) arg9.view.ty) :
    pb_k0_t2 (F := F) Variants.none c none i arg3 harg3 arg4 harg4 arg5 harg5 arg6 harg6 arg7 harg7 arg8 harg8 arg9 harg9 v0 X4 X5 G8 G9
      (Scf.trips (k0_t2_loop i).lb (k0_t2_loop i).ub (k0_t2_loop i).st) = ([], []) := by
  rw [show Scf.trips (k0_t2_loop i).lb (k0_t2_loop i).ub (k0_t2_loop i).st = 0 from trips2 i]
  exact pb_k0_t2.eq_1 ..

/-- What the loop stores in the two running buffers. -/
abbrev loop1 (v0 : Vec F S512x128 .bf16) (x1 x2 : Vec F S4096x128 .bf16) :=
  pb_k0_t1 (F := F) Variants.none c none i arg3 harg3 arg4 harg4 arg5 harg5 arg6 harg6 arg7 harg7 arg8 harg8 arg9 harg9 v0 (harg4.unread x1) (harg5.unread x2) (arg8.view.writes (Elt F) arg8.view.junk [⟨Rect.unit (s := S512x128) ![0, 0] S512x128.size inb_S512x128_S512x128_0_0, k0_pay2⟩]) (arg9.view.writes (Elt F) arg9.view.junk [⟨Rect.unit (s := S512x128) ![0, 0] S512x128.size inb_S512x128_S512x128_0_0, k0_pay3⟩]) (Scf.trips (k0_t1_loop i).lb (k0_t1_loop i).ub (k0_t1_loop i).st)

/-- What the second loop stores in them. -/
abbrev loop2 (v0 : Vec F S512x128 .bf16) (x1 x2 : Vec F S4096x128 .bf16) :=
  pb_k0_t2 (F := F) Variants.none c none i arg3 harg3 arg4 harg4 arg5 harg5 arg6 harg6 arg7 harg7 arg8 harg8 arg9 harg9 v0 (harg4.unread x1) (harg5.unread x2)
    (arg8.view.writes (Elt F) arg8.view.junk ((loop1 c i arg3 harg3 arg4 harg4 arg5 harg5 arg6 harg6 arg7 harg7 arg8 harg8 arg9 harg9 v0 x1 x2).1 ++ [⟨Rect.unit (s := S512x128) ![0, 0] S512x128.size inb_S512x128_S512x128_0_0, k0_pay2⟩])) (arg9.view.writes (Elt F) arg9.view.junk ((loop1 c i arg3 harg3 arg4 harg4 arg5 harg5 arg6 harg6 arg7 harg7 arg8 harg8 arg9 harg9 v0 x1 x2).2 ++ [⟨Rect.unit (s := S512x128) ![0, 0] S512x128.size inb_S512x128_S512x128_0_0, k0_pay3⟩]))
    (Scf.trips (k0_t2_loop i).lb (k0_t2_loop i).ub (k0_t2_loop i).st)

/-- The running maximum the diagonal tile starts from. -/
theorem end_m (v0 : Vec F S512x128 .bf16) (x1 x2 : Vec F S4096x128 .bf16) :
    arg8.view.readCov ((loop2 c i arg3 harg3 arg4 harg4 arg5 harg5 arg6 harg6 arg7 harg7 arg8 harg8 arg9 harg9 v0 x1 x2).1 ++ ((loop1 c i arg3 harg3 arg4 harg4 arg5 harg5 arg6 harg6 arg7 harg7 arg8 harg8 arg9 harg9 v0 x1 x2).1 ++ [⟨Rect.unit (s := S512x128) ![0, 0] S512x128.size inb_S512x128_S512x128_0_0, k0_pay2⟩])) (Rect.unit (s := S512x128) ![0, 0] S512x128.size inb_S512x128_S512x128_0_0).toLoadRect = (steps v0 x1 x2 (i 2).val (lt8 i).le).1 := by
  rw [show (loop2 c i arg3 harg3 arg4 harg4 arg5 harg5 arg6 harg6 arg7 harg7 arg8 harg8 arg9 harg9 v0 x1 x2).1 = [] from congrArg Prod.fst (loop2_none ..), List.nil_append]
  unfold View.readCov
  rw [readAt_whole, View.writes_append]
  unfold loop1
  rw [show (Scf.trips (k0_t1_loop i).lb (k0_t1_loop i).ub (k0_t1_loop i).st) = (i 2).val from trips1 i]
  exact congrArg Prod.fst (loop_read c i arg3 harg3 arg4 harg4 arg5 harg5 arg6 harg6 arg7 harg7 arg8 harg8 arg9 harg9 v0 x1 x2 (arg8.view.writes (Elt F) arg8.view.junk [⟨Rect.unit (s := S512x128) ![0, 0] S512x128.size inb_S512x128_S512x128_0_0, k0_pay2⟩]) (arg9.view.writes (Elt F) arg9.view.junk [⟨Rect.unit (s := S512x128) ![0, 0] S512x128.size inb_S512x128_S512x128_0_0, k0_pay3⟩])
    (View.read_writes_full _ _ _ _ _) (View.read_writes_full _ _ _ _ _) (i 2).val le_rfl)

/-- The running weighted sums the diagonal tile starts from. -/
theorem end_acc (v0 : Vec F S512x128 .bf16) (x1 x2 : Vec F S4096x128 .bf16) :
    arg9.view.readCov ((loop2 c i arg3 harg3 arg4 harg4 arg5 harg5 arg6 harg6 arg7 harg7 arg8 harg8 arg9 harg9 v0 x1 x2).2 ++ ((loop1 c i arg3 harg3 arg4 harg4 arg5 harg5 arg6 harg6 arg7 harg7 arg8 harg8 arg9 harg9 v0 x1 x2).2 ++ [⟨Rect.unit (s := S512x128) ![0, 0] S512x128.size inb_S512x128_S512x128_0_0, k0_pay3⟩])) (Rect.unit (s := S512x128) ![0, 0] S512x128.size inb_S512x128_S512x128_0_0).toLoadRect = (steps v0 x1 x2 (i 2).val (lt8 i).le).2 := by
  rw [show (loop2 c i arg3 harg3 arg4 harg4 arg5 harg5 arg6 harg6 arg7 harg7 arg8 harg8 arg9 harg9 v0 x1 x2).2 = [] from congrArg Prod.snd (loop2_none ..), List.nil_append]
  unfold View.readCov
  rw [readAt_whole, View.writes_append]
  unfold loop1
  rw [show (Scf.trips (k0_t1_loop i).lb (k0_t1_loop i).ub (k0_t1_loop i).st) = (i 2).val from trips1 i]
  exact congrArg Prod.snd (loop_read c i arg3 harg3 arg4 harg4 arg5 harg5 arg6 harg6 arg7 harg7 arg8 harg8 arg9 harg9 v0 x1 x2 (arg8.view.writes (Elt F) arg8.view.junk [⟨Rect.unit (s := S512x128) ![0, 0] S512x128.size inb_S512x128_S512x128_0_0, k0_pay2⟩]) (arg9.view.writes (Elt F) arg9.view.junk [⟨Rect.unit (s := S512x128) ![0, 0] S512x128.size inb_S512x128_S512x128_0_0, k0_pay3⟩])
    (View.read_writes_full _ _ _ _ _) (View.read_writes_full _ _ _ _ _) (i 2).val le_rfl)

/-- The output block a point leaves: its rows' weighted sums over their totals, after the diagonal tile. -/
theorem out_o (x0 : Vec F S512x128 .bf16) (x1 x2 : Vec F S4096x128 .bf16) :
    out0_A_3 c i arg3 harg3 arg4 harg4 arg5 harg5 arg6 harg6 arg7 harg7 arg8 harg8 arg9 harg9 x0 x1 x2 = k0_pay18 (last x0 (tile x1 _ (lt8 i)) (tile x2 _ (lt8 i)) (steps x0 x1 x2 (i 2).val (lt8 i).le)).2 := by
  have hq : View.readAt (Elt F) arg3.view (Rect.unit (s := S512x128) ![0, 0] S512x128.size inb_S512x128_S512x128_0_0).toLoadRect (harg3.unread x0) = x0 := (readAt_whole ..).trans (harg3.read_unread x0)
  unfold out0_A_3 kernelRun0_A
  dsimp only
  refine (View.read_writes_full _ _ _ _ _).trans ?_
  sl_unfold_run_names
  refine congrArg k0_pay18 ((readCov_cons _ _ _ _).trans ?_)
  have hm := end_m c i arg3 harg3 arg4 harg4 arg5 harg5 arg6 harg6 arg7 harg7 arg8 harg8 arg9 harg9 (View.readAt (Elt F) arg3.view (Rect.unit (s := S512x128) ![0, 0] S512x128.size inb_S512x128_S512x128_0_0).toLoadRect (harg3.unread x0)) x1 x2
  have ha := end_acc c i arg3 harg3 arg4 harg4 arg5 harg5 arg6 harg6 arg7 harg7 arg8 harg8 arg9 harg9 (View.readAt (Elt F) arg3.view (Rect.unit (s := S512x128) ![0, 0] S512x128.size inb_S512x128_S512x128_0_0).toLoadRect (harg3.unread x0)) x1 x2
  rw [congrArg (fun z => (steps z x1 x2 (i 2).val (lt8 i).le).1) hq] at hm
  rw [congrArg (fun z => (steps z x1 x2 (i 2).val (lt8 i).le).2) hq] at ha
  have hk := readAt_tile arg4 harg4 x1 (i 2).val (lt8 i) _ (k0_off3_eq i) (k0_off3_inb i)
  have hv := readAt_tile arg5 harg5 x2 (i 2).val (lt8 i) _ (k0_off3_eq i) (k0_off3_inb i)
  exact congr (congr (congr (congr (congrArg k0_pay15 hm) (congr (congr (congrArg k0_pay13 hq) hk) hm)) (congr (congr (congrArg k0_pay14 hq) hk) hm)) ha) hv
set_option maxHeartbeats 1000000 in
/-- The block of row totals a point leaves: each row's logarithm of its sum of exponentials, on eight rows. -/
theorem out_lse (x0 : Vec F S512x128 .bf16) (x1 x2 : Vec F S4096x128 .bf16) :
    out0_A_4 c i arg3 harg3 arg4 harg4 arg5 harg5 arg6 harg6 arg7 harg7 arg8 harg8 arg9 harg9 x0 x1 x2 = k0_pay19 (last x0 (tile x1 _ (lt8 i)) (tile x2 _ (lt8 i)) (steps x0 x1 x2 (i 2).val (lt8 i).le)).2
      (last x0 (tile x1 _ (lt8 i)) (tile x2 _ (lt8 i)) (steps x0 x1 x2 (i 2).val (lt8 i).le)).1 := by
  have hq : View.readAt (Elt F) arg3.view (Rect.unit (s := S512x128) ![0, 0] S512x128.size inb_S512x128_S512x128_0_0).toLoadRect (harg3.unread x0) = x0 := (readAt_whole ..).trans (harg3.read_unread x0)
  unfold out0_A_4 kernelRun0_A
  dsimp only
  refine (View.read_writes_full _ _ _ _ _).trans ?_
  sl_unfold_run_names
  have hm := end_m c i arg3 harg3 arg4 harg4 arg5 harg5 arg6 harg6 arg7 harg7 arg8 harg8 arg9 harg9 (View.readAt (Elt F) arg3.view (Rect.unit (s := S512x128) ![0, 0] S512x128.size inb_S512x128_S512x128_0_0).toLoadRect (harg3.unread x0)) x1 x2
  have ha := end_acc c i arg3 harg3 arg4 harg4 arg5 harg5 arg6 harg6 arg7 harg7 arg8 harg8 arg9 harg9 (View.readAt (Elt F) arg3.view (Rect.unit (s := S512x128) ![0, 0] S512x128.size inb_S512x128_S512x128_0_0).toLoadRect (harg3.unread x0)) x1 x2
  rw [congrArg (fun z => (steps z x1 x2 (i 2).val (lt8 i).le).1) hq] at hm
  rw [congrArg (fun z => (steps z x1 x2 (i 2).val (lt8 i).le).2) hq] at ha
  have hk := readAt_tile arg4 harg4 x1 (i 2).val (lt8 i) _ (k0_off3_eq i) (k0_off3_inb i)
  have hv := readAt_tile arg5 harg5 x2 (i 2).val (lt8 i) _ (k0_off3_eq i) (k0_off3_inb i)
  refine congrArg₂ k0_pay19 ?_ ?_
  · refine (readCov_cons arg9 inb_S512x128_S512x128_0_0 _ _).trans ?_
    exact congr (congr (congr (congr (congrArg k0_pay15 hm) (congr (congr (congrArg k0_pay13 hq) hk) hm)) (congr (congr (congrArg k0_pay14 hq) hk) hm)) ha) hv
  · refine (readCov_cons arg8 inb_S512x128_S512x128_0_0 _ _).trans ?_
    have e := congr (congr (congrArg (k0_pay13 (F := F)) hq) hk) hm
    refine (congrArg (k0_pay16 (F := F)) e).trans ?_
    rfl

end Point

end Cert.ForwardIdeal.Body
-- ==== Proof.Softmax.lean ====
/-
  The arithmetic of a softmax row over the extended reals, away from any program.

  A row's scores are reals, or `⊥` where they are masked. The kernel walks the row in tiles and keeps a running maximum
  beside sums scaled by its exponential (`Online`); the reference subtracts the row's maximum at once. Both come down to
  the unscaled sums `∑ exp s * v`, with a real factor in front that cancels in the quotient and becomes the maximum again
  under the logarithm.
-/
module

public import Idealize.ShloMosaic.Lib.Pointwise
public import Mathlib.Analysis.SpecialFunctions.Log.Basic

@[expose] public section

noncomputable section

open Idealize.ShloMosaic

namespace Cert.Softmax

/-- The fold of `max` over a nonempty finite family of values, none of them `⊤`, one of them not `⊥`, is a real. -/
theorem fold_max_real {K : Type} [Fintype K] (s : K → EReal) (m : EReal) (hm : m ≠ ⊤) (ht : ∀ k, s k ≠ ⊤) (hb : m ≠ ⊥ ∨ ∃ k, s k ≠ ⊥) :
    ∃ M : ℝ, max m (Finset.univ.fold max ⊥ s) = (M : EReal) := by
  have h1 : Finset.univ.fold max ⊥ s ≠ ⊤ := by
    intro h
    rcases (Finset.le_fold_max (s := Finset.univ) (f := s) (b := (⊥ : EReal)) (c := ⊤)).1 h.ge with h | ⟨x, _, h⟩
    · exact absurd h (by simp)
    · exact ht x (top_le_iff.1 h)
  have h2 : max m (Finset.univ.fold max ⊥ s) ≠ ⊤ := by
    intro h
    rcases max_choice m (Finset.univ.fold max ⊥ s) with e | e <;> rw [e] at h <;> contradiction
  have h3 : max m (Finset.univ.fold max ⊥ s) ≠ ⊥ := by
    intro h
    rw [max_eq_bot] at h
    rcases hb with hb | ⟨k, hk⟩
    · exact hb h.1
    · have : s k ≤ Finset.univ.fold max ⊥ s := (Finset.le_fold_max (s := Finset.univ) (f := s) (b := (⊥ : EReal)) (c := s k)).2 (.inr ⟨k, Finset.mem_univ _, le_rfl⟩)
      rw [h.2] at this
      exact hk (le_bot_iff.1 this)
  exact ⟨_, (EReal.coe_toReal h2 h3).symm⟩

/-- `exp` of a score from which a real was subtracted is a real multiple of the score's own `exp`. -/
theorem exp_sub (s : EReal) (M : ℝ) (hs : s ≠ ⊤) : Ideal.exp (s - (M : EReal)) = ((Real.exp (-M) : ℝ) : EReal) * Ideal.exp s := by
  induction s using EReal.rec with
  | bot => rw [EReal.bot_sub]; show (0 : EReal) = _ * (0 : EReal); rw [mul_zero]
  | coe x =>
    rw [← EReal.coe_sub]
    show ((Real.exp (x - M) : ℝ) : EReal) = ((Real.exp (-M) : ℝ) : EReal) * ((Real.exp x : ℝ) : EReal)
    rw [← EReal.coe_mul, ← Real.exp_add, sub_eq_neg_add]
  | top => exact absurd rfl hs

/-- A nonnegative real factor goes through a finite sum. -/
theorem mul_sum {K : Type} (S : Finset K) (c : ℝ) (hc : 0 ≤ c) (f : K → EReal) : (c : EReal) * ∑ k ∈ S, f k = ∑ k ∈ S, (c : EReal) * f k := by
  classical
  induction S using Finset.induction_on with
  | empty => simp
  | insert a S ha ih =>
    rw [Finset.sum_insert ha, Finset.sum_insert ha, EReal.left_distrib_of_nonneg_of_ne_top (EReal.coe_nonneg.2 hc) (EReal.coe_ne_top c), ih]

/-- A running maximum `m` and a sum `a` scaled by its exponential, whose unscaled value is `A`; before any key all are at rest. -/
def Online (m a A : EReal) : Prop :=
  (m = ⊥ ∧ a = 0 ∧ A = 0) ∨ ∃ M : ℝ, m = (M : EReal) ∧ a = ((Real.exp (-M) : ℝ) : EReal) * A

/-- One tile of keys: the state rescales to the new maximum and takes the tile's terms. -/
theorem Online.step {K : Type} [Fintype K] {m a A : EReal} (h : Online m a A) (s v : K → EReal) (ht : ∀ k, s k ≠ ⊤) (hb : ∃ k, s k ≠ ⊥)
    (m' : EReal) (hm' : m' = max m (Finset.univ.fold max ⊥ s)) :
    ∃ M' : ℝ, m' = (M' : EReal) ∧
      Ideal.exp (m - m') * a + ∑ k, Ideal.exp (s k - m') * v k = ((Real.exp (-M') : ℝ) : EReal) * (A + ∑ k, Ideal.exp (s k) * v k) := by
  have hmt : m ≠ ⊤ := by
    rcases h with ⟨h, _⟩ | ⟨M, h, _⟩
    · rw [h]; simp
    · rw [h]; simp
  obtain ⟨M', e⟩ := fold_max_real s m hmt ht (.inr hb)
  refine ⟨M', hm'.trans e, ?_⟩
  have e' := hm'.trans e
  subst hm'
  rw [e', exp_sub m M' hmt, EReal.left_distrib_of_nonneg_of_ne_top (EReal.coe_nonneg.2 (Real.exp_pos _).le) (EReal.coe_ne_top _),
    mul_sum _ _ (Real.exp_pos _).le]
  congr 1
  · rcases h with ⟨h1, h2, h3⟩ | ⟨M, h1, h2⟩
    · rw [h2, h3, mul_zero, mul_zero]
    · rw [h1, h2, mul_assoc]
      show _ * (((Real.exp M : ℝ) : EReal) * _) = _
      rw [← mul_assoc ((Real.exp M : ℝ) : EReal), ← EReal.coe_mul, ← Real.exp_add, add_neg_cancel, Real.exp_zero, EReal.coe_one, one_mul]
  · refine Finset.sum_congr rfl fun k _ => ?_
    rw [exp_sub _ _ (ht k), mul_assoc]

/-- The scale cancels in a quotient of two sums kept under the same maximum, the lower one a positive real. -/
theorem div_scaled (M L : ℝ) (hL : 0 < L) (A : EReal) :
    Ideal.div (((Real.exp (-M) : ℝ) : EReal) * A) (((Real.exp (-M) : ℝ) : EReal) * (L : EReal)) = A * ((L⁻¹ : ℝ) : EReal) := by
  have hp := Real.exp_pos (-M)
  have h0 : ((Real.exp (-M) : ℝ) : EReal) * (L : EReal) ≠ 0 := by
    rw [← EReal.coe_mul]; exact EReal.coe_ne_zero.2 (mul_pos hp hL).ne'
  unfold Ideal.div
  rw [if_neg h0, ← EReal.coe_mul, ← EReal.coe_inv, mul_comm _ A, mul_assoc, ← EReal.coe_mul]
  congr 2
  field_simp

/-- The maximum comes back under the logarithm. -/
theorem add_log_scaled (M L : ℝ) (hL : 0 < L) :
    (M : EReal) + Ideal.log (((Real.exp (-M) : ℝ) : EReal) * (L : EReal)) = ((Real.log L : ℝ) : EReal) := by
  have hp := Real.exp_pos (-M)
  rw [← EReal.coe_mul]
  show (M : EReal) + (if Real.exp (-M) * L ≤ 0 then ⊥ else ((Real.log (Real.exp (-M) * L) : ℝ) : EReal)) = _
  rw [if_neg (not_le.2 (mul_pos hp hL)), ← EReal.coe_add, Real.log_mul hp.ne' hL.ne', Real.log_exp]
  congr 1
  ring

/-- Coercion of a finite sum of reals. -/
theorem coe_sum {K : Type} (S : Finset K) (f : K → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- Row `r`'s key `x` after the causal mask: the score, or `⊥` past the diagonal. -/
def masked (σ : ℕ → ℝ) (r x : ℕ) : EReal := if x ≤ r then (σ x : EReal) else ⊥

/-- Row `r`'s weight of key `x`, unscaled. -/
def weight (σ : ℕ → ℝ) (r x : ℕ) : ℝ := if x ≤ r then Real.exp (σ x) else 0

theorem exp_masked (σ : ℕ → ℝ) (r x : ℕ) : Ideal.exp (masked σ r x) = (weight σ r x : EReal) := by
  unfold masked weight
  split <;> rfl

theorem masked_ne_top (σ : ℕ → ℝ) (r x : ℕ) : masked σ r x ≠ ⊤ := by
  unfold masked
  split <;> simp

theorem weight_nonneg (σ : ℕ → ℝ) (r x : ℕ) : 0 ≤ weight σ r x := by
  unfold weight; split
  · exact (Real.exp_pos _).le
  · exact le_rfl

/-- Row `r`'s total weight over `n` keys. -/
def total (σ : ℕ → ℝ) (r n : ℕ) : ℝ := ∑ x ∈ Finset.range n, weight σ r x

theorem total_pos (σ : ℕ → ℝ) (r n : ℕ) (hn : 0 < n) : 0 < total σ r n := by
  refine Finset.sum_pos' (fun x _ => weight_nonneg σ r x) ⟨0, Finset.mem_range.2 hn, ?_⟩
  rw [weight, if_pos (Nat.zero_le r)]
  exact Real.exp_pos _

/-- Row `r`'s weighted sum of `v` over `n` keys. -/
def wsum (σ : ℕ → ℝ) (v : ℕ → EReal) (r n : ℕ) : EReal := ∑ x ∈ Finset.range n, (weight σ r x : EReal) * v x

theorem wsum_one (σ : ℕ → ℝ) (r n : ℕ) : wsum σ (fun _ => 1) r n = (total σ r n : EReal) := by
  unfold wsum total
  rw [coe_sum]
  exact Finset.sum_congr rfl fun x _ => mul_one _

/-- The sums over `n` keys and the next `w` are those over `n + w`. -/
theorem wsum_add (σ : ℕ → ℝ) (v : ℕ → EReal) (r n w : ℕ) :
    wsum σ v r n + ∑ c : Fin w, Ideal.exp (masked σ r (n + c.val)) * v (n + c.val) = wsum σ v r (n + w) := by
  unfold wsum
  rw [Finset.sum_range_add, Finset.sum_range (fun x => (weight σ r (n + x) : EReal) * v (n + x))]
  simp only [exp_masked]

/-- Keys past the diagonal add nothing. -/
theorem wsum_ext (σ : ℕ → ℝ) (v : ℕ → EReal) (r n N : ℕ) (hr : r < n) (hN : n ≤ N) : wsum σ v r n = wsum σ v r N := by
  unfold wsum
  refine Finset.sum_subset (Finset.range_subset_range.2 hN) fun x _ hx => ?_
  have : ¬ x ≤ r := by simp only [Finset.mem_range] at hx; omega
  rw [weight, if_neg this, EReal.coe_zero, zero_mul]

theorem total_ext (σ : ℕ → ℝ) (r n N : ℕ) (hr : r < n) (hN : n ≤ N) : total σ r n = total σ r N := by
  have := wsum_ext σ (fun _ => 1) r n N hr hN
  rw [wsum_one, wsum_one] at this
  exact EReal.coe_eq_coe_iff.1 this

/-- The reference's row: scores less their maximum, exponentials over their sum. -/
theorem plain_row (σ : ℕ → ℝ) (r N : ℕ) (hN : 0 < N) :
    ∃ M : ℝ, max ⊥ (Finset.univ.fold max ⊥ fun x : Fin N => masked σ r x.val) = (M : EReal) ∧
      (∑ x : Fin N, Ideal.exp (masked σ r x.val - (M : EReal)) = ((Real.exp (-M) : ℝ) : EReal) * (total σ r N : EReal)) ∧
      (∀ x : Fin N, Ideal.div (Ideal.exp (masked σ r x.val - (M : EReal))) (((Real.exp (-M) : ℝ) : EReal) * (total σ r N : EReal)) = ((weight σ r x.val * (total σ r N)⁻¹ : ℝ) : EReal)) := by
  obtain ⟨M, e⟩ := fold_max_real (fun x : Fin N => masked σ r x.val) ⊥ (by simp) (fun k => masked_ne_top σ r _)
    (.inr ⟨⟨0, hN⟩, by unfold masked; rw [if_pos (Nat.zero_le r)]; simp⟩)
  refine ⟨M, e, ?_, fun x => ?_⟩
  · unfold total
    rw [coe_sum, Finset.sum_range (fun x => (weight σ r x : EReal)), mul_sum _ _ (Real.exp_pos _).le]
    exact Finset.sum_congr rfl fun x _ => by rw [exp_sub _ _ (masked_ne_top σ r _), exp_masked]
  · rw [exp_sub _ _ (masked_ne_top σ r _), exp_masked, div_scaled _ _ (total_pos σ r N hN), EReal.coe_mul]

end Cert.Softmax
-- ==== Proof.FwdTile.lean ====
/-
  The forward kernel's payloads on the extended reals: one tile of keys, and the block of rows they end in.

  A block's scores against key `x` are the reals `σ r x`; the loop's tiles lie wholly under the diagonal, the last one is
  masked along it. Each row's maximum stands in every lane, and lane 64 of the value tile holds ones, so that lane of the
  accumulator is the row's total weight.
-/
module

public import proofs.«01_k».proof.Proof.FwdBody
public import proofs.«01_k».proof.Proof.Softmax

@[expose] public section

noncomputable section

open Idealize.ShloMosaic Idealize.ShloMosaic.TcCoe Idealize.SL.Sem

namespace Cert.ForwardIdeal.Body

open Cert.ForwardIdeal Cert.ForwardIdeal.Gen Cert.Softmax

/-- The constant the maximum is folded from. -/
theorem minus_inf : Ideal.ofBits .f32 4286578688#32 = (⊥ : EReal) := by
  show Ideal.ofBits .f32 0xFF800000#32 = ⊥
  simp [Ideal.ofBits, Ideal.ieee]

/-- The mask constant is named `⊥`. -/
theorem mask_bot : Named.named (F := Ideal) κ "mask" (φ := .f32) 0xF149F2CA#32 = (⊥ : EReal) :=
  IdealRules.named_const.ideal_named_scalar _ _ _ _ rfl

/-- One row's score against one key of a tile. -/
def dotp (q k : Vec Ideal S512x128 .bf16) (r c : Fin 512) : EReal := ∑ d : Fin 128, q (ix2 r d) * k (ix2 c d)

/-- A row's score against one key of the tile on the diagonal. -/
theorem pay12_at (q k : Vec Ideal S512x128 .bf16) (r c : Fin 512) :
    k0_pay12 q k (ix2 r c) = if c.val ≤ r.val then dotp q k r c else ⊥ := by
  pointwise [k0_pay12, k0_pay1]
  have hc : (IntOp.cmpi CmpIPredicate.sle (BitVec.ofNat 32 c.val) (BitVec.ofNat 32 r.val)) = if c.val ≤ r.val then 1#1 else 0#1 := by
    have h1 : (BitVec.ofNat 32 c.val).toInt = c.val := by
      rw [BitVec.toInt_ofNat']; have := c.isLt; simp [Int.bmod]; omega
    have h2 : (BitVec.ofNat 32 r.val).toInt = r.val := by
      rw [BitVec.toInt_ofNat']; have := r.isLt; simp [Int.bmod]; omega
    simp only [IntOp.cmpi, BitVec.sle, h1, h2]
    by_cases h : c.val ≤ r.val <;> simp [h]
  rw [hc, mask_bot]
  unfold dotp
  split <;> rfl

/-- The maximum after the diagonal tile. -/
theorem pay13_at (q k : Vec Ideal S512x128 .bf16) (m : Vec Ideal S512x128 .f32) (r : Fin 512) (l : Fin 128) :
    k0_pay13 q k m (ix2 r l) = max (m (ix2 r l)) (Finset.univ.fold max ⊥ fun c => k0_pay12 q k (ix2 r c)) := by
  pointwise [k0_pay13]
  rw [minus_inf]

theorem pay16_at (m : Vec Ideal S512x128 .f32) (r : Fin 512) (l : Fin 128) : k0_pay16 (F := Ideal) m (ix2 r l) = m (ix2 r l) := by
  pointwise [k0_pay16]

/-- The maximum after a tile under the diagonal. -/
theorem pay5_at (q k : Vec Ideal S512x128 .bf16) (m : Vec Ideal S512x128 .f32) (r : Fin 512) (l : Fin 128) :
    k0_pay5 q k m (ix2 r l) = max (m (ix2 r l)) (Finset.univ.fold max ⊥ (dotp q k r)) := by
  pointwise [k0_pay5, k0_pay4, k0_pay1]
  rw [minus_inf]
  rfl

theorem pay7_at (q k : Vec Ideal S512x128 .bf16) (m : Vec Ideal S512x128 .f32) (r : Fin 512) (l : Fin 128) :
    k0_pay7 q k m (ix2 r l) = k0_pay5 q k m (ix2 r l) := by
  pointwise [k0_pay7]

theorem pay4_at (q k : Vec Ideal S512x128 .bf16) (r c : Fin 512) : k0_pay4 q k (ix2 r c) = dotp q k r c := by
  pointwise [k0_pay4, k0_pay1]
  rfl

/-- The sums after a tile under the diagonal, where the new maximum is `M` in every lane. -/
theorem pay6_at (q k : Vec Ideal S512x128 .bf16) (m a : Vec Ideal S512x128 .f32) (v : Vec Ideal S512x128 .bf16) (r : Fin 512) (l : Fin 128)
    (M : EReal) (hM : ∀ l, k0_pay5 q k m (ix2 r l) = M) :
    k0_pay6 q k m a v (ix2 r l) = Ideal.exp (m (ix2 r l) - M) * a (ix2 r l) + ∑ c : Fin 512, Ideal.exp (dotp q k r c - M) * v (ix2 c l) := by
  pointwise [k0_pay6]
  simp only [pay4_at, hM, dite_eq_ite, ite_self]

/-- The sums after the diagonal tile, where the new maximum is `M` in every lane. -/
theorem pay15_at (q k : Vec Ideal S512x128 .bf16) (m a : Vec Ideal S512x128 .f32) (v : Vec Ideal S512x128 .bf16) (r : Fin 512) (l : Fin 128)
    (M : EReal) (hM : ∀ l, k0_pay13 q k m (ix2 r l) = M) :
    k0_pay15 m (k0_pay13 q k m) (k0_pay14 q k m) a v (ix2 r l)
      = Ideal.exp (m (ix2 r l) - M) * a (ix2 r l) + ∑ c : Fin 512, Ideal.exp (k0_pay12 q k (ix2 r c) - M) * v (ix2 c l) := by
  pointwise [k0_pay15, k0_pay14]
  simp only [hM, dite_eq_ite, ite_self]

/-- The output's lanes: the quotient by lane 64 in the first 64, zeros behind. -/
theorem pay18_at (a : Vec Ideal S512x128 .f32) (r : Fin 512) (l : Fin 128) :
    k0_pay18 a (ix2 r l) = if l.val < 64 then Ideal.div (a (ix2 r l)) (a (ix2 r 64)) else 0 := by
  pointwise [k0_pay17, k0_pay18]
  have hc : IntOp.andi (IntOp.cmpi CmpIPredicate.sge (BitVec.ofNat 32 l.val) 0#32)
        (IntOp.cmpi CmpIPredicate.slt (BitVec.ofNat 32 l.val) 64#32) = if l.val < 64 then 1#1 else 0#1 := by
    revert l; decide
  rw [hc]
  split <;> rfl

/-- The row totals' block: each row's maximum and the logarithm of its lane 64. -/
theorem pay19_at (a m : Vec Ideal S512x128 .f32) (e : Fin 8) (r : Fin 512) :
    k0_pay19 a m (ix2 e r) = m (ix2 r ⟨e.val, by omega⟩) + Ideal.log (a (ix2 r 64)) := by
  pointwise [k0_pay17, k0_pay19]

section Block

variable (q : Vec Ideal S512x128 .bf16) (K V : Vec Ideal S4096x128 .bf16) (σ : Fin 512 → ℕ → ℝ)
  (hσ : ∀ r x (hx : x < 4096), ∑ d : Fin 128, q (ix2 r d) * K (ix2 ⟨x, hx⟩ d) = (σ r x : EReal))

/-- The value array by key number. -/
def vcol (V : Vec Ideal S4096x128 .bf16) (l : Fin 128) (x : ℕ) : EReal := if h : x < 4096 then V (ix2 ⟨x, h⟩ l) else 0

theorem vcol_tile (j : ℕ) (hj : j < 8) (c : Fin 512) (l : Fin 128) : tile V j hj (ix2 c l) = vcol V l (512 * j + c.val) := by
  unfold vcol
  rw [dif_pos (by omega)]
  rfl

include hσ in
theorem dotp_tile (j : ℕ) (hj : j < 8) (r c : Fin 512) : dotp q (tile K j hj) r c = (σ r (512 * j + c.val) : EReal) :=
  hσ r (512 * j + c.val) (by omega)

/-- What the state of a block holds for row `r` after the keys before `n`. -/
def RowState (s : St (F := Ideal)) (r : Fin 512) (ρ n : ℕ) : Prop :=
  ∃ m : EReal, (∀ l, s.1 (ix2 r l) = m) ∧ ∀ l, Online m (s.2 (ix2 r l)) (wsum (σ r) (vcol V l) ρ n)

include hσ in
/-- After the loop's tiles, all under the diagonal. -/
theorem steps_at (r : Fin 512) (ρ : ℕ) : ∀ (j : ℕ) (hj : j ≤ 8) (_ : 512 * j ≤ ρ), RowState V σ (steps q K V j hj) r ρ (512 * j)
  | 0, _, _ => by
    refine ⟨⊥, fun l => ?_, fun l => .inl ⟨rfl, ?_, ?_⟩⟩
    · show k0_pay2 (F := Ideal) (ix2 r l) = ⊥
      pointwise [k0_pay2]
      exact mask_bot
    · show k0_pay3 (F := Ideal) (ix2 r l) = 0
      pointwise [k0_pay3]
    · unfold wsum; simp
  | j + 1, hj, hρ => by
    obtain ⟨m, hm, ha⟩ := steps_at r ρ j (Nat.le_of_succ_le hj) (by omega)
    have hj' : j < 8 := hj
    have hs : ∀ c : Fin 512, dotp q (tile K j hj') r c = masked (σ r) ρ (512 * j + c.val) := fun c => by
      rw [dotp_tile q K σ hσ, masked, if_pos (by omega)]
    set s := steps q K V j (Nat.le_of_succ_le hj) with hs_def
    have h5 : ∀ l, k0_pay5 q (tile K j hj') s.1 (ix2 r l) = max m (Finset.univ.fold max ⊥ fun c : Fin 512 => masked (σ r) ρ (512 * j + c.val)) := fun l => by
      rw [pay5_at, hm, show dotp q (tile K j hj') r = _ from funext hs]
    have hb : ∃ c : Fin 512, masked (σ r) ρ (512 * j + c.val) ≠ ⊥ := ⟨0, by rw [masked, if_pos (by simp; omega)]; simp⟩
    refine ⟨_, fun l => (pay7_at q (tile K j hj') s.1 r l).trans (h5 l), fun l => ?_⟩
    obtain ⟨M', e, h⟩ := (ha l).step (fun c : Fin 512 => masked (σ r) ρ (512 * j + c.val)) (fun c => vcol V l (512 * j + c.val))
      (fun c => masked_ne_top _ _ _) hb _ rfl
    refine .inr ⟨M', e, ?_⟩
    show k0_pay6 q (tile K j hj') s.1 s.2 (tile V j hj') (ix2 r l) = _
    rw [pay6_at _ _ _ _ _ _ _ _ h5, hm]
    simp only [hs, vcol_tile]
    rw [h, wsum_add, Nat.mul_succ]

include hσ in
/-- After the diagonal tile: the whole row. -/
theorem last_at (j : ℕ) (hj : j < 8) (r : Fin 512) :
    ∃ M : ℝ, (∀ l, (last q (tile K j hj) (tile V j hj) (steps q K V j hj.le)).1 (ix2 r l) = (M : EReal)) ∧
      ∀ l, (last q (tile K j hj) (tile V j hj) (steps q K V j hj.le)).2 (ix2 r l) = ((Real.exp (-M) : ℝ) : EReal) * wsum (σ r) (vcol V l) (512 * j + r.val) 4096 := by
  obtain ⟨m, hm, ha⟩ := steps_at q K V σ hσ r (512 * j + r.val) j hj.le (by omega)
  have hs : ∀ c : Fin 512, k0_pay12 q (tile K j hj) (ix2 r c) = masked (σ r) (512 * j + r.val) (512 * j + c.val) := fun c => by
    rw [pay12_at, dotp_tile q K σ hσ, masked]
    simp
  set s := steps q K V j hj.le with hs_def
  have h13 : ∀ l, k0_pay13 q (tile K j hj) s.1 (ix2 r l) = max m (Finset.univ.fold max ⊥ fun c : Fin 512 => masked (σ r) (512 * j + r.val) (512 * j + c.val)) := fun l => by
    rw [pay13_at, hm]
    simp only [hs]
  have hb : ∃ c : Fin 512, masked (σ r) (512 * j + r.val) (512 * j + c.val) ≠ ⊥ := ⟨0, by rw [masked, if_pos (by simp)]; simp⟩
  have key := fun l => (ha l).step (fun c : Fin 512 => masked (σ r) (512 * j + r.val) (512 * j + c.val)) (fun c => vcol V l (512 * j + c.val))
      (fun c => masked_ne_top _ _ _) hb _ rfl
  obtain ⟨M, e, -⟩ := key 0
  refine ⟨M, fun l => (pay16_at _ r l).trans ((h13 l).trans e), fun l => ?_⟩
  obtain ⟨M', e', h⟩ := key l
  obtain rfl : M = M' := EReal.coe_eq_coe_iff.1 (e.symm.trans e')
  show k0_pay15 s.1 (k0_pay13 q (tile K j hj) s.1) (k0_pay14 q (tile K j hj) s.1) s.2 (tile V j hj) (ix2 r l) = _
  rw [pay15_at _ _ _ _ _ _ _ _ h13, hm]
  simp only [hs, vcol_tile]
  rw [h, wsum_add, wsum_ext (σ r) (vcol V l) (512 * j + r.val) (512 * j + 512) 4096 (by omega) (by omega)]

variable (h1 : ∀ x : Fin 4096, V (ix2 x 64) = 1)

include h1 in
theorem wsum_ones (r : Fin 512) (ρ : ℕ) : wsum (σ r) (vcol V 64) ρ 4096 = (total (σ r) ρ 4096 : EReal) := by
  rw [← wsum_one]
  unfold wsum
  refine Finset.sum_congr rfl fun x hx => ?_
  rw [vcol, dif_pos (Finset.mem_range.1 hx), h1]

include hσ h1 in
/-- The output block: the weighted sum of the values over the total weight. -/
theorem block_o (j : ℕ) (hj : j < 8) (r : Fin 512) (l : Fin 128) :
    k0_pay18 (last q (tile K j hj) (tile V j hj) (steps q K V j hj.le)).2 (ix2 r l)
      = if l.val < 64 then wsum (σ r) (vcol V l) (512 * j + r.val) 4096 * (((total (σ r) (512 * j + r.val) 4096)⁻¹ : ℝ) : EReal) else 0 := by
  obtain ⟨M, -, ha⟩ := last_at q K V σ hσ j hj r
  rw [pay18_at, ha, ha, wsum_ones V σ h1, div_scaled _ _ (total_pos _ _ _ (by norm_num))]

include hσ h1 in
/-- The block of row totals: the logarithm of the total weight. -/
theorem block_lse (j : ℕ) (hj : j < 8) (e : Fin 8) (r : Fin 512) :
    k0_pay19 (last q (tile K j hj) (tile V j hj) (steps q K V j hj.le)).2 (last q (tile K j hj) (tile V j hj) (steps q K V j hj.le)).1 (ix2 e r)
      = ((Real.log (total (σ r) (512 * j + r.val) 4096) : ℝ) : EReal) := by
  obtain ⟨M, hm, ha⟩ := last_at q K V σ hσ j hj r
  rw [pay19_at, hm, ha, wsum_ones V σ h1, add_log_scaled _ _ (total_pos _ _ _ (by norm_num))]

end Block

end Cert.ForwardIdeal.Body
-- ==== Proof.Rows.lean ====
/-
  The rows of causal attention as functions of the argument arrays, away from any program.

  Arrays are `[batch, position, head, lane]`. A score is the product of a query row and a key row times the scale, as a
  real; the two ways of writing it (scaling the product, or scaling the query and padding both rows to 128 lanes) agree
  where the arrays hold reals.
-/
module

public import proofs.«01_k».proof.Proof.Softmax

@[expose] public section

noncomputable section

open Idealize.ShloMosaic

namespace Cert.Rows

open Cert.Softmax

/-- An array over batch, position, head and lane. -/
abbrev Arr (n : ℕ) : Type := Vec Ideal ⟨4, ![2, 4096, 8, n]⟩ .f32

/-- An entry by position number, zero past the end. -/
def at4 {n : ℕ} (X : Arr n) (b : Fin 2) (s : ℕ) (h : Fin 8) (d : Fin n) : EReal := if hs : s < 4096 then X (ix4 b ⟨s, hs⟩ h d) else 0

theorem at4_of {n : ℕ} (X : Arr n) (b : Fin 2) (s : ℕ) (hs : s < 4096) (h : Fin 8) (d : Fin n) : at4 X b s h d = X (ix4 b ⟨s, hs⟩ h d) := dif_pos hs

/-- An array holds reals alone. -/
def Reals {n : ℕ} (X : Arr n) : Prop := ∀ i, (((X i : EReal).toReal : ℝ) : EReal) = X i

/-- The real part of an entry. -/
def re {n : ℕ} (X : Arr n) (b : Fin 2) (s : ℕ) (h : Fin 8) (d : Fin n) : ℝ := (at4 X b s h d).toReal

theorem coe_re {n : ℕ} {X : Arr n} (hX : Reals X) (b : Fin 2) (s : ℕ) (h : Fin 8) (d : Fin n) : (re X b s h d : EReal) = at4 X b s h d := by
  unfold re at4
  split
  · exact hX _
  · simp

/-- The scale, as the real its literal denotes. -/
def scl : ℝ := (Ideal.ofBits .f32 1037108716#32 : EReal).toReal

theorem coe_scl : (scl : EReal) = Ideal.ofBits .f32 1037108716#32 := by
  obtain ⟨x, hx⟩ : ∃ x : ℝ, (Ideal.ofBits .f32 1037108716#32 : EReal) = (x : EReal) :=
    ⟨13698540 * (2 ^ 27)⁻¹, by simp [Ideal.ofBits, Ideal.ieee]⟩
  unfold scl
  rw [hx]
  rfl

/-- The literal an unmasked maximum starts from. -/
theorem neg_inf : (Ideal.ofBits .f32 4286578688#32 : EReal) = ⊥ := by
  simp [Ideal.ofBits, Ideal.ieee]

/-- The causal mask's bit, of positions below 4096. -/
theorem causal_bit (x r : ℕ) (hx : x < 4096) (hr : r < 4096) :
    IntOp.cmpi CmpIPredicate.sle (BitVec.ofNat 32 x) (BitVec.ofNat 32 r) = if x ≤ r then 1#1 else 0#1 := by
  have h1 : (BitVec.ofNat 32 x).toInt = x := by
    rw [BitVec.toInt_ofNat']; simp [Int.bmod]; omega
  have h2 : (BitVec.ofNat 32 r).toInt = r := by
    rw [BitVec.toInt_ofNat']; simp [Int.bmod]; omega
  simp only [IntOp.cmpi, BitVec.sle, h1, h2]
  by_cases h : x ≤ r <;> simp [h]

/-- Row `r`'s score against key `x`. -/
def score (q k : Arr 96) (b : Fin 2) (h : Fin 8) (r x : ℕ) : ℝ := (∑ d : Fin 96, re q b r h d * re k b x h d) * scl

/-- The score as the product scaled. -/
theorem score_scaled {q k : Arr 96} (hq : Reals q) (hk : Reals k) (b : Fin 2) (h : Fin 8) (r x : ℕ) :
    (∑ d : Fin 96, at4 q b r h d * at4 k b x h d) * Ideal.ofBits .f32 1037108716#32 = (score q k b h r x : EReal) := by
  unfold score
  rw [EReal.coe_mul, coe_sum, coe_scl]
  congr 1
  exact Finset.sum_congr rfl fun d _ => by rw [EReal.coe_mul, coe_re hq, coe_re hk]

/-- A sum over 128 lanes whose terms vanish from lane `n` on. -/
theorem sum_lanes (f : Fin 128 → EReal) (n w : ℕ) (hn : n + w = 128) (hf : ∀ d : Fin 128, n ≤ d.val → f d = 0) :
    ∑ d : Fin 128, f d = ∑ d : Fin n, f ⟨d.val, by omega⟩ := by
  have e : ∑ d : Fin 128, f d = ∑ d : Fin (n + w), f ⟨d.val, by omega⟩ := by
    subst_vars
    exact (Fintype.sum_equiv (finCongr hn) _ _ fun d => rfl).symm
  rw [e, Fin.sum_univ_add]
  rw [show (∑ i : Fin w, f ⟨(Fin.natAdd n i).val, by have := i.isLt; simp; omega⟩) = 0 from Finset.sum_eq_zero fun i _ => hf _ (by simp), add_zero]
  rfl

/-- A head's lane of a padded row: the entry in the first `n` lanes, zero behind. -/
def padRow {n : ℕ} (X : Arr n) (b : Fin 2) (s : ℕ) (h : Fin 8) (d : Fin 128) : EReal := if hd : d.val < n then at4 X b s h ⟨d.val, hd⟩ else 0

/-- The score as the product of a scaled padded query row and a padded key row. -/
theorem score_padded {q k : Arr 96} (hq : Reals q) (hk : Reals k) (b : Fin 2) (h : Fin 8) (r x : ℕ) :
    ∑ d : Fin 128, (if d.val < 96 then padRow q b r h d * Ideal.ofBits .f32 1037108716#32 else 0) * padRow k b x h d = (score q k b h r x : EReal) := by
  rw [sum_lanes _ 96 32 rfl fun d hd => by rw [if_neg (by omega), zero_mul]]
  unfold score
  rw [Finset.sum_mul, coe_sum]
  refine Finset.sum_congr rfl fun d _ => ?_
  rw [if_pos d.isLt, padRow, padRow, dif_pos d.isLt, dif_pos d.isLt, ← coe_re hq, ← coe_re hk, ← coe_scl, ← EReal.coe_mul, ← EReal.coe_mul]
  congr 1
  ring

/-- A value lane by key number. -/
def vrow (v : Arr 64) (b : Fin 2) (h : Fin 8) (d : Fin 64) (x : ℕ) : EReal := at4 v b x h d

/-- What attention's output holds: the weighted sum of the values over the row's total weight. -/
def outv (q k : Arr 96) (v : Arr 64) (b : Fin 2) (h : Fin 8) (r : ℕ) (d : Fin 64) : EReal :=
  wsum (score q k b h r) (vrow v b h d) r 4096 * (((total (score q k b h r) r 4096)⁻¹ : ℝ) : EReal)

/-- What the row totals hold: the logarithm of the row's total weight. -/
def lsev (q k : Arr 96) (b : Fin 2) (h : Fin 8) (r : ℕ) : EReal := ((Real.log (total (score q k b h r) r 4096) : ℝ) : EReal)

/-- Attention's output as the flash kernel lays it out: one row per token, 128 lanes per head, zeros in the upper 64. -/
def outArr (q k : Arr 96) (v : Arr 64) : Vec Ideal ⟨2, ![8192, 1024]⟩ .bf16 := fun y =>
  if hd : (y 1).val % 128 < 64 then
    outv q k v ⟨(y 0).val / 4096, by have := (y 0).isLt; dsimp at this; omega⟩ ⟨(y 1).val / 128, by have := (y 1).isLt; dsimp at this; omega⟩
      ((y 0).val % 4096) ⟨(y 1).val % 128, hd⟩
  else (0 : EReal)

/-- The row totals as the flash kernel lays them out: eight equal rows per batch and head. -/
def lseArr (q k : Arr 96) : Vec Ideal ⟨2, ![128, 4096]⟩ .f32 := fun y =>
  lsev q k ⟨(y 0).val / 64, by have := (y 0).isLt; dsimp at this; omega⟩ ⟨(y 0).val / 8 % 8, by omega⟩ (y 1).val

theorem outArr_of (q k : Arr 96) (v : Arr 64) (y : (⟨2, ![8192, 1024]⟩ : Shape).Idx) (b : Fin 2) (s : ℕ) (hs : s < 4096) (h : Fin 8) (d : Fin 128)
    (h0 : (y 0).val = b.val * 4096 + s) (h1 : (y 1).val = h.val * 128 + d.val) :
    outArr q k v y = (if hd : d.val < 64 then outv q k v b h s ⟨d.val, hd⟩ else 0 : EReal) := by
  have e1 : (h.val * 128 + d.val) % 128 = d.val := by omega
  have e2 : (h.val * 128 + d.val) / 128 = h.val := by omega
  have e3 : (b.val * 4096 + s) / 4096 = b.val := by omega
  have e4 : (b.val * 4096 + s) % 4096 = s := by omega
  simp only [outArr, h0, h1, e1, e2, e3, e4]

theorem lseArr_of (q k : Arr 96) (y : (⟨2, ![128, 4096]⟩ : Shape).Idx) (b : Fin 2) (s : ℕ) (h : Fin 8) (e : Fin 8)
    (h0 : (y 0).val = (b.val * 8 + h.val) * 8 + e.val) (h1 : (y 1).val = s) : lseArr q k y = lsev q k b h s := by
  have e3 : ((b.val * 8 + h.val) * 8 + e.val) / 64 = b.val := by omega
  have e4 : ((b.val * 8 + h.val) * 8 + e.val) / 8 % 8 = h.val := by omega
  simp only [lseArr, h0, h1, e3, e4]

end Cert.Rows
-- ==== Proof.FwdOut.lean ====
/-
  The forward kernel's result arrays, from the argument arrays.

  The host pads each head's rows to 128 lanes and scales the query; a grid point reads one query block and its head's keys
  and values, and its two output blocks tile the two results.
-/
module

public import proofs.«01_k».proof.Proof.FwdTile
public import proofs.«01_k».proof.Proof.Rows
public import Idealize.ShloMosaic.Lib.Claim
public import Idealize.ShloMosaic.Lib.Pipeline.ValueKit

@[expose] public section

noncomputable section

open Idealize.ShloMosaic Idealize.ShloMosaic.TcCoe Idealize.SL.Sem

namespace Cert.ForwardIdeal.Out

open Cert.ForwardIdeal Cert.ForwardIdeal.Gen Cert.ForwardIdeal.Body Cert.Softmax Cert.Rows

variable (m : (ℓ : Loc nD τ sig) → Buf (Elt Ideal) ℓ) (c : Dev nD)

/-- The three argument arrays. -/
abbrev q : Arr 96 := m ((c : Thread nD τ).loc main_arg0)
abbrev k : Arr 96 := m ((c : Thread nD τ).loc main_arg1)
abbrev v : Arr 64 := m ((c : Thread nD τ).loc main_arg2)

/-- The query rows the kernel reads. -/
theorem q_at (R : Fin 8192) (C : Fin 1024) :
    V m c main_v5 (ix2 R C) = (if C.val % 128 < 96 then padRow (q m c) ⟨R.val / 4096, by omega⟩ (R.val % 4096) ⟨C.val / 128, by omega⟩ ⟨C.val % 128, by omega⟩ * Ideal.ofBits .f32 1037108716#32 else 0 : EReal) := by
  entry_read
  pointwise
  unfold padRow
  split
  · rw [at4, dif_pos (Nat.mod_lt _ (by norm_num))]
  · rfl

/-- The key rows the kernel reads. -/
theorem k_at (R : Fin 8192) (C : Fin 1024) :
    V m c main_v9 (ix2 R C) = (padRow (k m c) ⟨R.val / 4096, by omega⟩ (R.val % 4096) ⟨C.val / 128, by omega⟩ ⟨C.val % 128, by omega⟩ : EReal) := by
  entry_read
  pointwise
  unfold padRow
  split
  · rw [at4, dif_pos (Nat.mod_lt _ (by norm_num))]
  · rfl

/-- The value rows the kernel reads: the values, a lane of ones, zeros. -/
theorem v_at (R : Fin 8192) (C : Fin 1024) :
    V m c main_v15 (ix2 R C) = (if C.val % 128 < 65 then
      (if hd : C.val % 128 < 64 then at4 (v m c) ⟨R.val / 4096, by omega⟩ (R.val % 4096) ⟨C.val / 128, by omega⟩ ⟨C.val % 128, hd⟩ else 1) else 0 : EReal) := by
  entry_read
  pointwise
  simp only [at4, Nat.mod_lt R.val (show 0 < 4096 by norm_num), dite_true, ← dite_eq_ite]

/-- The windows' blocks, decided over the grid. -/
theorem idx0 : ∀ t : Fin cfg0.N, win0_0.index t = ![t.val / 64 * 8 + t.val % 8, t.val / 8 % 8] := by decide +kernel
theorem idx1 : ∀ t : Fin cfg0.N, win0_1.index t = ![t.val / 64, t.val / 8 % 8] := by decide +kernel
theorem idx2 : ∀ t : Fin cfg0.N, win0_2.index t = ![t.val / 64, t.val / 8 % 8] := by decide +kernel
theorem idx3 : ∀ t : Fin cfg0.N, win0_3.index t = ![t.val / 64 * 8 + t.val % 8, t.val / 8 % 8] := by decide +kernel
theorem idx4 : ∀ t : Fin cfg0.N, win0_4.index t = ![t.val / 8, t.val % 8] := by decide +kernel
theorem coord2 : ∀ t : Fin cfg0.N, (grid0.coords t 2).val = t.val % 8 := by decide +kernel

theorem lt128 (t : Fin cfg0.N) : t.val < 128 := t.isLt

/-- A grid point's batch and head. -/
def bat (t : Fin cfg0.N) : Fin 2 := ⟨t.val / 64, by have := lt128 t; omega⟩
def hd (t : Fin cfg0.N) : Fin 8 := ⟨t.val / 8 % 8, by omega⟩

theorem blk0 (t : Fin cfg0.N) (r : Fin 512) (d : Fin 128) :
    iblk m c 0 t (ix2 r d) = V m c main_v5 (ix2 ⟨(t.val / 64 * 8 + t.val % 8) * 512 + r.val, by have := lt128 t; omega⟩ ⟨t.val / 8 % 8 * 128 + d.val, by omega⟩) := by
  blk_ext [iblk, idx0]

theorem blk1 (t : Fin cfg0.N) (x : Fin 4096) (d : Fin 128) :
    iblk m c 1 t (ix2 x d) = V m c main_v9 (ix2 ⟨t.val / 64 * 4096 + x.val, by have := lt128 t; omega⟩ ⟨t.val / 8 % 8 * 128 + d.val, by omega⟩) := by
  blk_ext [iblk, idx1]

theorem blk2 (t : Fin cfg0.N) (x : Fin 4096) (d : Fin 128) :
    iblk m c 2 t (ix2 x d) = V m c main_v15 (ix2 ⟨t.val / 64 * 4096 + x.val, by have := lt128 t; omega⟩ ⟨t.val / 8 % 8 * 128 + d.val, by omega⟩) := by
  blk_ext [iblk, idx2]

/-- The three blocks a grid point reads. -/
abbrev qb (t : Fin cfg0.N) : Vec Ideal S512x128 .bf16 := iblk m c 0 t
abbrev kb (t : Fin cfg0.N) : Vec Ideal S4096x128 .bf16 := iblk m c 1 t
abbrev vb (t : Fin cfg0.N) : Vec Ideal S4096x128 .bf16 := iblk m c 2 t

/-- A block's query row. -/
theorem q_blk (t : Fin cfg0.N) (r : Fin 512) (d : Fin 128) :
    qb m c t (ix2 r d) = (if d.val < 96 then padRow (q m c) (bat t) (512 * (t.val % 8) + r.val) (hd t) d * Ideal.ofBits .f32 1037108716#32 else 0 : EReal) := by
  have ht := lt128 t
  refine (blk0 m c t r d).trans ((q_at m c _ _).trans ?_)
  have e1 : (t.val / 8 % 8 * 128 + d.val) % 128 = d.val := by omega
  have e2 : (t.val / 8 % 8 * 128 + d.val) / 128 = t.val / 8 % 8 := by omega
  have e3 : ((t.val / 64 * 8 + t.val % 8) * 512 + r.val) / 4096 = t.val / 64 := by omega
  have e4 : ((t.val / 64 * 8 + t.val % 8) * 512 + r.val) % 4096 = 512 * (t.val % 8) + r.val := by omega
  simp only [e1, e2, e3, e4]
  rfl

theorem k_blk (t : Fin cfg0.N) (x : Fin 4096) (d : Fin 128) :
    kb m c t (ix2 x d) = (padRow (k m c) (bat t) x.val (hd t) d : EReal) := by
  have ht := lt128 t
  refine (blk1 m c t x d).trans ((k_at m c _ _).trans ?_)
  have e1 : (t.val / 8 % 8 * 128 + d.val) % 128 = d.val := by omega
  have e2 : (t.val / 8 % 8 * 128 + d.val) / 128 = t.val / 8 % 8 := by omega
  have e3 : (t.val / 64 * 4096 + x.val) / 4096 = t.val / 64 := by omega
  have e4 : (t.val / 64 * 4096 + x.val) % 4096 = x.val := by omega
  simp only [e1, e2, e3, e4]
  rfl

theorem v_blk (t : Fin cfg0.N) (x : Fin 4096) (d : Fin 128) :
    vb m c t (ix2 x d) = (if d.val < 65 then (if hd' : d.val < 64 then at4 (v m c) (bat t) x.val (hd t) ⟨d.val, hd'⟩ else 1) else 0 : EReal) := by
  have ht := lt128 t
  refine (blk2 m c t x d).trans ((v_at m c _ _).trans ?_)
  have e1 : (t.val / 8 % 8 * 128 + d.val) % 128 = d.val := by omega
  have e2 : (t.val / 8 % 8 * 128 + d.val) / 128 = t.val / 8 % 8 := by omega
  have e3 : (t.val / 64 * 4096 + x.val) / 4096 = t.val / 64 := by omega
  have e4 : (t.val / 64 * 4096 + x.val) % 4096 = x.val := by omega
  simp only [e1, e2, e3, e4]
  rfl

section Fin

variable (hq : Reals (q m c)) (hk : Reals (k m c))

include hq hk in
theorem scores (t : Fin cfg0.N) (r : Fin 512) (x : ℕ) (hx : x < 4096) :
    ∑ d : Fin 128, qb m c t (ix2 r d) * kb m c t (ix2 ⟨x, hx⟩ d) = (score (q m c) (k m c) (bat t) (hd t) (512 * (t.val % 8) + r.val) x : EReal) := by
  rw [← score_padded hq hk]
  exact Finset.sum_congr rfl fun d _ => by rw [q_blk, k_blk]

theorem ones (t : Fin cfg0.N) (x : Fin 4096) : vb m c t (ix2 x 64) = (1 : EReal) := by
  rw [v_blk]; rfl

theorem vals (t : Fin cfg0.N) (d : Fin 64) : vcol (vb m c t) ⟨d.val, by omega⟩ = vrow (v m c) (bat t) (hd t) d := by
  funext x
  unfold vcol vrow
  split
  · rw [v_blk, if_pos (by dsimp; omega), dif_pos d.isLt]
  · rw [at4, dif_neg (by assumption)]

include hq hk in
/-- What a grid point leaves in its first output block. -/
theorem o_blk (t : Fin cfg0.N) (r : Fin 512) (l : Fin 128) :
    (outsAt0 m c t).1 (ix2 r l) = (if h : l.val < 64 then outv (q m c) (k m c) (v m c) (bat t) (hd t) (512 * (t.val % 8) + r.val) ⟨l.val, h⟩ else 0 : EReal) := by
  have e : (outsAt0 m c t).1 = k0_pay18 (last (qb m c t) (tile (kb m c t) _ (lt8 (grid0.coords t))) (tile (vb m c t) _ (lt8 (grid0.coords t)))
      (steps (qb m c t) (kb m c t) (vb m c t) (grid0.coords t 2).val (lt8 (grid0.coords t)).le)).2 := by
    simp only [outsAt0]
    exact out_o ..
  rw [e]
  refine (block_o _ _ _ _ (scores m c hq hk t) (ones m c t) _ _ r l).trans ?_
  rw [coord2]
  split
  · rename_i h
    rw [show vcol (vb m c t) l = vrow (v m c) (bat t) (hd t) ⟨l.val, h⟩ from vals m c t ⟨l.val, h⟩]
    rfl
  · rfl

include hq hk in
/-- What a grid point leaves in its second output block. -/
theorem lse_blk (t : Fin cfg0.N) (e : Fin 8) (r : Fin 512) :
    (outsAt0 m c t).2 (ix2 e r) = lsev (q m c) (k m c) (bat t) (hd t) (512 * (t.val % 8) + r.val) := by
  have e' : (outsAt0 m c t).2 = k0_pay19 (last (qb m c t) (tile (kb m c t) _ (lt8 (grid0.coords t))) (tile (vb m c t) _ (lt8 (grid0.coords t)))
      (steps (qb m c t) (kb m c t) (vb m c t) (grid0.coords t 2).val (lt8 (grid0.coords t)).le)).2
      (last (qb m c t) (tile (kb m c t) _ (lt8 (grid0.coords t))) (tile (vb m c t) _ (lt8 (grid0.coords t)))
      (steps (qb m c t) (kb m c t) (vb m c t) (grid0.coords t 2).val (lt8 (grid0.coords t)).le)).1 := by
    simp only [outsAt0]
    exact out_lse ..
  rw [e']
  refine (block_lse _ _ _ _ (scores m c hq hk t) (ones m c t) _ _ e r).trans ?_
  rw [coord2]
  rfl

include hq hk in
/-- The kernel's first result. -/
theorem o_arr : (dats m 0 c).arrAt 3 cfg0.N = outArr (q m c) (k m c) (v m c) := by
  refine (dats m 0 c).arrAt_eq_of_covers 3 _ (by decide +kernel) fun t hf y => ?_
  blk_simp
  rw [after0_3]
  obtain ⟨r, l, rfl⟩ : ∃ (r : Fin 512) (l : Fin 128), y = ix2 r l := ⟨y 0, y 1, by funext a; fin_cases a <;> rfl⟩
  have ht := lt128 t
  refine (o_blk m c hq hk t r l).trans ?_
  refine (outArr_of _ _ _ _ (bat t) (512 * (t.val % 8) + r.val) (by omega) (hd t) l ?_ ?_).symm
  · blk_simp [idx3]
    unfold bat
    dsimp
    omega
  · blk_simp [idx3]
    unfold hd
    dsimp

include hq hk in
/-- The kernel's second result. -/
theorem lse_arr : (dats m 0 c).arrAt 4 cfg0.N = lseArr (q m c) (k m c) := by
  refine (dats m 0 c).arrAt_eq_of_covers 4 _ (by decide +kernel) fun t hf y => ?_
  blk_simp
  rw [after0_4]
  obtain ⟨e, r, rfl⟩ : ∃ (e : Fin 8) (r : Fin 512), y = ix2 e r := ⟨y 0, y 1, by funext a; fin_cases a <;> rfl⟩
  have ht := lt128 t
  refine (lse_blk m c hq hk t e r).trans ?_
  refine (lseArr_of _ _ _ (bat t) (512 * (t.val % 8) + r.val) (hd t) e ?_ ?_).symm
  · blk_simp [idx4]
    unfold bat hd
    dsimp
    omega
  · blk_simp [idx4]
    omega

end Fin

end Cert.ForwardIdeal.Out
-- ==== Proof.FwdRef.lean ====
/-
  The reference's attention, row by row: its masked scores, its row maximum, its weights and their sum, and from these
  its two results as the arrays of `Rows`.
-/
module

public import proofs.«01_k».proof.Proof.Rows
public import proofs.«01_k».proof.Proof.Gen.ForwardReferenceIdeal.Read
public import Idealize.ShloMosaic.Lib.Claim

@[expose] public section

noncomputable section

open Idealize.ShloMosaic Idealize.ShloMosaic.TcCoe Idealize.SL.Sem

namespace Cert.ForwardReferenceIdeal.Row

open Cert.ForwardReferenceIdeal Cert.ForwardReferenceIdeal.Gen Cert.ForwardReferenceIdeal.Read Cert.Softmax Cert.Rows

variable (q k : Arr 96) (v : Arr 64) (hq : Reals q) (hk : Reals k) (b : Fin 2) (h : Fin 8) (r : Fin 4096)

include hq hk in
/-- A masked score. -/
theorem masked_at (x : Fin 4096) : val_main_v9 (F := Ideal) q k (ix4 b h r x) = masked (score q k b h r.val) r.val x.val := by
  pointwise [val_main_v9, val_main_call0_v1, val_main_v2, val_main_call0_v2, val_main_v8, val_main_v0, val_main_v1, val_main_v6, val_main_v7, val_main_v4, val_main_v5, val_main_v3, val_main_cst, val_main_call0_v0, val_main_cst_0]
  rw [causal_bit x.val r.val x.isLt r.isLt]
  have e : (∑ d : Fin 96, q (ix4 b r h d) * k (ix4 b x h d) : EReal) * Ideal.ofBits .f32 1037108716#32 = (score q k b h r.val x.val : EReal) := by
    rw [← score_scaled hq hk]
    congr 1
    exact Finset.sum_congr rfl fun d _ => by rw [at4_of q b r.val r.isLt, at4_of k b x.val x.isLt]
  rw [e]
  unfold masked
  split
  · rfl
  · exact neg_inf

include hq hk in
/-- A row: its maximum is a real, its sum of exponentials the total scaled by it, its quotients the weights over the total. -/
theorem row_at : ∃ M : ℝ,
    val_main_v11 (F := Ideal) q k (ix4 b h r 0) = (M : EReal) ∧
    val_main_v16 (F := Ideal) q k (ix4 b h r 0) = ((Real.exp (-M) : ℝ) : EReal) * (total (score q k b h r.val) r.val 4096 : EReal) ∧
    ∀ x : Fin 4096, val_main_v21 (F := Ideal) q k (ix4 b h r x)
      = ((weight (score q k b h r.val) r.val x.val * (total (score q k b h r.val) r.val 4096)⁻¹ : ℝ) : EReal) := by
  obtain ⟨M, eM, eS, eP⟩ := plain_row (score q k b h r.val) r.val 4096 (by norm_num)
  have hM : val_main_v11 (F := Ideal) q k (ix4 b h r 0) = (M : EReal) := by
    pointwise [val_main_v11, val_main_v10, val_main_cst_1]
    rw [neg_inf]
    rw [show (fun x : Fin 4096 => val_main_v9 (F := Ideal) q k (ix4 b h r x)) = fun x => masked (score q k b h r.val) r.val x.val from
      funext fun x => masked_at q k hq hk b h r x]
    rw [← eM, max_eq_right bot_le]
  have hS : val_main_v16 (F := Ideal) q k (ix4 b h r 0) = ((Real.exp (-M) : ℝ) : EReal) * (total (score q k b h r.val) r.val 4096 : EReal) := by
    rw [← eS]
    pointwise [val_main_v16, val_main_v15, val_main_v14, val_main_v13, val_main_v12, val_main_cst_2]
    exact Finset.sum_congr rfl fun x _ => by rw [masked_at q k hq hk b h r x, hM]
  refine ⟨M, hM, hS, fun x => ?_⟩
  rw [← eP x]
  pointwise [val_main_v21, val_main_v19, val_main_v18, val_main_v17, val_main_v20]
  rw [masked_at q k hq hk b h r x, hM, hS]

include hq hk in
/-- The output's lane. -/
theorem out_at (d : Fin 64) : val_main_v23 (F := Ideal) q k v (ix4 b r h d) = outv q k v b h r.val d := by
  obtain ⟨M, hM, hS, hP⟩ := row_at q k hq hk b h r
  pointwise [val_main_v23, val_main_v22]
  unfold outv wsum vrow
  rw [mul_comm, mul_sum _ _ (inv_nonneg.2 (total_pos _ _ _ (by norm_num)).le), Finset.sum_range (fun x => _)]
  refine Finset.sum_congr rfl fun x _ => ?_
  rw [hP x, at4_of v b x.val x.isLt, EReal.coe_mul]
  ac_rfl

theorem total_at : val_main_v26 (F := Ideal) q k (ix3 b h r) = val_main_v25 (F := Ideal) q k (ix4 b h r 0) := by
  refine (val_main_v26_apply (F := Ideal) q k _).trans (congrArg _ (funext fun a => ?_))
  have := b.isLt; have := h.isLt; have := r.isLt
  fin_cases a <;> refine Fin.ext ?_ <;> simp [ix4, ix3] <;> omega

theorem log_at (x y : EReal) (hx : val_main_v11 (F := Ideal) q k (ix4 b h r 0) = x) (hy : val_main_v16 (F := Ideal) q k (ix4 b h r 0) = y) :
    val_main_v25 (F := Ideal) q k (ix4 b h r 0) = x + Ideal.log y := by
  refine (val_main_v25_apply _ _ _).trans ?_
  rw [val_main_v24_apply, hx, hy, Ideal.hostUnary_log_def, Ideal.addf_def]

include hq hk in
/-- The row's total. -/
theorem lse_at : val_main_v26 (F := Ideal) q k (ix3 b h r) = lsev q k b h r.val := by
  obtain ⟨M, hM, hS, -⟩ := row_at q k hq hk b h r
  rw [total_at, log_at q k b h r _ _ hM hS]
  unfold lsev
  generalize hn : total (score q k b h r.val) r.val 4096 = t
  exact add_log_scaled M t (hn ▸ total_pos _ _ _ (by norm_num))

include hq hk in
/-- The reference's first result. -/
theorem out_arr : val_main_v32 (F := Ideal) q k v = outArr q k v := by
  funext y
  have h0 : (y 0).val < 8192 := (y 0).isLt
  have h1 : (y 1).val < 1024 := (y 1).isLt
  rw [outArr_of q k v y ⟨(y 0).val / 4096, by omega⟩ ((y 0).val % 4096) (by omega) ⟨(y 1).val / 128, by omega⟩ ⟨(y 1).val % 128, by omega⟩
    (by simp; omega) (by simp; omega)]
  have e : val_main_v32 (F := Ideal) q k v y = val_main_v28 (F := Ideal) q k v (ix4 ⟨(y 0).val / 4096, by omega⟩ ⟨(y 0).val % 4096, by omega⟩ ⟨(y 1).val / 128, by omega⟩ ⟨(y 1).val % 128, by omega⟩) := by
    refine (val_main_v31_apply (F := Ideal) q k v y).trans (congrArg _ (funext fun a => ?_))
    fin_cases a <;> refine Fin.ext ?_ <;> simp [ix4] <;> omega
  rw [e]
  pointwise [val_main_v28, val_main_v27, val_main_cst_3]
  split
  · exact out_at q k v hq hk _ _ ⟨(y 0).val % 4096, by omega⟩ _
  · rfl

include hq hk in
/-- The reference's second result. -/
theorem lse_arr : val_main_v33 (F := Ideal) q k = lseArr q k := by
  funext y
  have h0 : (y 0).val < 128 := (y 0).isLt
  have h1 : (y 1).val < 4096 := (y 1).isLt
  rw [lseArr_of q k y ⟨(y 0).val / 64, by omega⟩ (y 1).val ⟨(y 0).val / 8 % 8, by omega⟩ ⟨(y 0).val % 8, by omega⟩ (by simp; omega) rfl]
  have e : val_main_v33 (F := Ideal) q k y = val_main_v30 (F := Ideal) q k (ix4 ⟨(y 0).val / 64, by omega⟩ ⟨(y 0).val / 8 % 8, by omega⟩ ⟨(y 0).val % 8, by omega⟩ ⟨(y 1).val, h1⟩) := by
    refine (val_main_v33_apply (F := Ideal) q k y).trans (congrArg _ (funext fun a => ?_))
    fin_cases a <;> refine Fin.ext ?_ <;> simp [ix4] <;> omega
  rw [e]
  pointwise [val_main_v30, val_main_v29]
  exact lse_at q k hq hk _ _ ⟨(y 1).val, h1⟩

end Cert.ForwardReferenceIdeal.Row
-- ==== Proof.FwdClaim.lean ====
/-
  The forward claim: on finite queries and keys the flash kernel and the reference leave the same two arrays.
-/
module

public import proofs.«01_k».proof.Defs
public import proofs.«01_k».proof.Proof.FwdOut
public import proofs.«01_k».proof.Proof.FwdRef
public import proofs.«01_k».proof.Proof.Gen.ForwardReferenceIdeal.Run

@[expose] public section

noncomputable section

open Idealize.ShloMosaic Idealize.ShloMosaic.TcCoe Idealize.SL.Sem

namespace Cert.ForwardClaim

open Cert.Rows

/-- The side condition of the forward precondition. -/
theorem pre_facts : Cert.Pre_finite_scores.Facts where
  bcast_S_S2x4096x8x96 := by decide

/-- A value whose magnitude is below infinity is a real. -/
theorem real_of_abs {x : EReal} (h : max x (-x) < Ideal.ofBits .f32 0x7F800000#32) : ((x.toReal : ℝ) : EReal) = x := by
  have e : (Ideal.ofBits .f32 0x7F800000#32 : EReal) = ⊤ := by simp [Ideal.ofBits, Ideal.ieee]
  rw [e] at h
  induction x with
  | bot => simp at h
  | coe x => rfl
  | top => simp at h

theorem and_true {a b : Bool} (h : IntOp.andi (BitVec.ofBool a) (BitVec.ofBool b) = 1#1) : a = true ∧ b = true := by
  revert h; revert a b; decide

/-- Finite queries and keys are arrays of reals. -/
theorem reals_of_pre (hf : Cert.Pre_finite_scores.Facts) (q k : Arr 96) (v : Arr 64) (h : Cert.Pre_finite_scores.fn (F := Ideal) q k v = fun _ => 1#1) :
    Reals q ∧ Reals k := by
  have e : ∀ i, Cert.Pre_finite_scores.fn (F := Ideal) q k v i = 1#1 := fun i => congrFun h i
  constructor <;> intro i <;> have := e i
  · pointwise [Cert.Pre_finite_scores.fn] at this
    exact real_of_abs (of_decide_eq_true (and_true this).1)
  · pointwise [Cert.Pre_finite_scores.fn] at this
    exact real_of_abs (of_decide_eq_true (and_true this).2)

variable [hPre : Cert.Pre_finite_scores.Facts]

theorem algebraic : Cert.algebraic_ForwardIdeal_ForwardReferenceIdeal_pre_finite_scores := by
  intro m g m' g' hpre hargs
  have hr : ∀ c, Reals (Cert.ForwardIdeal.Out.q m c) ∧ Reals (Cert.ForwardIdeal.Out.k m c) := fun c => reals_of_pre hPre _ _ (Cert.ForwardIdeal.Out.v m c) (hpre c)
  refine ⟨fun c => outArr (Cert.ForwardIdeal.Out.q m c) (Cert.ForwardIdeal.Out.k m c) (Cert.ForwardIdeal.Out.v m c),
    fun c => lseArr (Cert.ForwardIdeal.Out.q m c) (Cert.ForwardIdeal.Out.k m c), ?_, ?_⟩
  · refine (θ_run Cert.ForwardIdeal.defs _ _).mono (fun r h c => ?_) (Cert.ForwardIdeal.Value.run_blocks m g)
    obtain ⟨h1, h2, h3⟩ := h c
    exact ⟨h1.trans (Cert.ForwardIdeal.Out.o_arr m c (hr c).1 (hr c).2), h2.trans (Cert.ForwardIdeal.Out.lse_arr m c (hr c).1 (hr c).2), h3⟩
  · refine (θ_run Cert.ForwardReferenceIdeal.defs _ _).mono (fun r h c => ?_) (Cert.ForwardReferenceIdeal.Value.run m' g')
    obtain ⟨h1, h2, h3⟩ := h c
    obtain ⟨a0, a1, a2⟩ := hargs c
    refine ⟨h1.trans ?_, h2.trans ?_, h3⟩
    · rw [Cert.ForwardReferenceIdeal.Read.val_main_v32_eq, a0, a1, a2]
      exact Cert.ForwardReferenceIdeal.Row.out_arr _ _ _ (hr c).1 (hr c).2
    · rw [Cert.ForwardReferenceIdeal.Read.val_main_v33_eq, a0, a1]
      exact Cert.ForwardReferenceIdeal.Row.lse_arr _ _ (hr c).1 (hr c).2

end Cert.ForwardClaim
-- ==== Proof.BwdRuns.lean ====
/-
  The backward kernel's grid points: which of them start a sequence, and the memrefs the body is called on.
-/
module

public import proofs.«01_k».proof.Proof.Gen.KernelIdeal.Frame
public import proofs.«01_k».proof.Proof.Gen.KernelIdeal.Loops

@[expose] public section

set_option maxRecDepth 16384

noncomputable section

namespace Cert.KernelIdeal.Back

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The point starts a sequence: its key tile is the first. -/
abbrev cond0_0 (i : grid0.Coords) : Prop := (Scalar.cmpi .ne (Scalar.extui (Scalar.cmpi .eq (BitVec.ofNat 32 (i 2).val) 0#32)) 0#32) = 1#1
/-- Every eighth point does. -/
theorem hcond0_0 : ∀ t : Fin cfg0.N, cond0_0 (grid0.coords t) ↔ t.val % 8 = 0 :=
  (fun t => by
    have ht : t.val < 128 := Nat.lt_of_lt_of_eq t.isLt N_0
    have e0 : (grid0.coords t 0).val = t.val / 64 % 2 := Pipeline.Grid.coords_val t 0 (by decide) rfl
    have e1 : (grid0.coords t 1).val = t.val / 8 % 8 := Pipeline.Grid.coords_val t 1 (by decide) rfl
    have e2 : (grid0.coords t 2).val = t.val / 1 % 8 := Pipeline.Grid.coords_val t 2 (by decide) rfl
    simp only [cond0_0, e0, e1, e2]
    word_cmp
   : ∀ t : Fin grid0.N, cond0_0 (grid0.coords t) ↔ t.val % 8 = 0)

/-! ## The memrefs the body is called on -/

/-- Each window's staging memref at point `t`, and its wholeness. -/
abbrev ms0_0 (t : Fin cfg0.N) : Memref sig .tc .vmem S4096x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x128 .bf16 := win0_8.stage (cfg0.slots t 8)
abbrev hs0_8 (t : Fin cfg0.N) : (ms0_8 t).IsWhole := hstage0_8 ((cfg0.slots t 8).cast nbuf0_8)
/-- The scratch operands. -/
abbrev scM0_0 : Memref sig .tc .vmem S512x128 .f32 := Memref.whole cc0_scratch0
abbrev scM0_1 : Memref sig .tc .vmem S512x128 .f32 := Memref.whole cc0_scratch1
abbrev scM0_2 : Memref sig .tc .vmem S8x4096 .f32 := Memref.whole cc0_scratch2

/-- The region's scratch buffers and generator register, at anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Back

end
-- ==== Proof.BwdRunA.lean ====
/-
  The backward kernel's body at the grid points that start a sequence, run to the list of its stores.
-/
module

public import proofs.«01_k».proof.Proof.BwdRuns

@[expose] public section

set_option maxRecDepth 16384

noncomputable section

namespace Cert.KernelIdeal.Back

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a point that starts a sequence (`kj = 0`): what its stores leave in the three outputs and in the carried rows, as pieces, with the proof that the body runs. -/
noncomputable def runA (c : Dev nD) (i : grid0.Coords) (arg3 : Memref sig .tc .vmem S4096x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S8x4096 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S512x128 .f32) (harg10 : arg10.IsWhole) (arg11 : Memref sig .tc .vmem S512x128 .bf16) (harg11 : arg11.IsWhole) (arg12 : Memref sig .tc .vmem S512x128 .f32) (harg12 : arg12.IsWhole) (arg13 : Memref sig .tc .vmem S512x128 .f32) (harg13 : arg13.IsWhole) (arg14 : Memref sig .tc .vmem S8x4096 .f32) (harg14 : arg14.IsWhole) (hc0 : cond0_0 i)
    (x0 : Vec F S4096x128 .bf16) (x1 : Vec F S512x128 .bf16) (x2 : Vec F S512x128 .bf16) (x3 : Vec F S4096x128 .bf16) (x4 : Vec F S8x4096 .f32) (x5 : Vec F S4096x128 .bf16) :
    Σ' (L6 : List (View.Piece (Elt F) S4096x128 .f32)), Σ' (L7 : List (View.Piece (Elt F) S512x128 .f32)), Σ' (L8 : List (View.Piece (Elt F) S512x128 .bf16)), { LS : List (View.Piece (Elt F) S8x4096 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LS)) -∗ K ⟨⟩))
          ⊢ wp frame (wpE (defs₀ (F := F)) Variants.none c none) E (cc0_l1_b_attn_bwd i arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_l1_b_attn_bwd_eq_skeleton]; unfold cc0_l1_b_attn_bwd_skel
    simp only [k0_part6_eq_skeleton, k0_part1_eq_skeleton, k0_part2_eq_skeleton, k0_part3_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [H8]; · iexists _; iexact H8
    isplitl [HS0]
    · iexists _, _; isplitr; swap; · iexact HS0
      ipureintro; rfl
    isplitl [HS1]
    · iexists _, _; isplitr; swap; · iexact HS1
      ipureintro; rfl
    iexists _; iexact HS2

end Cert.KernelIdeal.Back

end
-- ==== Proof.BwdRunB.lean ====
/-
  The backward kernel's body at the grid points that continue a sequence, run to the list of its stores.
-/
module

public import proofs.«01_k».proof.Proof.BwdRuns

@[expose] public section

set_option maxRecDepth 16384

noncomputable section

namespace Cert.KernelIdeal.Back

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a point that continues a sequence (`kj ≠ 0`): what its stores leave in the three outputs, as pieces, with the proof that the body runs. -/
noncomputable def runB (c : Dev nD) (i : grid0.Coords) (arg3 : Memref sig .tc .vmem S4096x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S8x4096 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S512x128 .f32) (harg10 : arg10.IsWhole) (arg11 : Memref sig .tc .vmem S512x128 .bf16) (harg11 : arg11.IsWhole) (arg12 : Memref sig .tc .vmem S512x128 .f32) (harg12 : arg12.IsWhole) (arg13 : Memref sig .tc .vmem S512x128 .f32) (harg13 : arg13.IsWhole) (arg14 : Memref sig .tc .vmem S8x4096 .f32) (harg14 : arg14.IsWhole) (hc0 : ¬cond0_0 i)
    (x0 : Vec F S4096x128 .bf16) (x1 : Vec F S512x128 .bf16) (x2 : Vec F S512x128 .bf16) (x3 : Vec F S4096x128 .bf16) (x4 : Vec F S8x4096 .f32) (x5 : Vec F S4096x128 .bf16) (x6 : Vec F S4096x128 .f32) (xs : Vec F S8x4096 .f32) :
    Σ' (L6 : List (View.Piece (Elt F) S4096x128 .f32)), Σ' (L7 : List (View.Piece (Elt F) S512x128 .f32)), { L8 : List (View.Piece (Elt F) S512x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg9.view.loc (c : Thread nD τ) ↦[arg9.view.set]{fullShare} arg9.view.writes (Elt F) (harg9.unread x6) L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ d, owns (c : Thread nD τ) arg12 fullShare d) ∗ (∃ d, owns (c : Thread nD τ) arg13 fullShare d) ∗ owns (c : Thread nD τ) arg14 fullShare xs) -∗ K ⟨⟩))
          ⊢ wp frame (wpE (defs₀ (F := F)) Variants.none c none) E (cc0_l1_b_attn_bwd i arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_l1_b_attn_bwd_eq_skeleton]; unfold cc0_l1_b_attn_bwd_skel
    simp only [k0_part6_eq_skeleton, k0_part1_eq_skeleton, k0_part2_eq_skeleton, k0_part3_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg14.eq_unread hfs2
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexact H6
    isplitl [H7]; · iexists _; iexact H7
    isplitl [H8]; · iexists _; iexact H8
    isplitl [HS0]
    · iexists _, _; isplitr; swap; · iexact HS0
      ipureintro; rfl
    isplitl [HS1]
    · iexists _, _; isplitr; swap; · iexact HS1
      ipureintro; rfl
    iexists _; isplitr; · ipureintro; exact harg14.read_unread _
    iexact HS2

end Cert.KernelIdeal.Back

end
-- ==== Proof.BwdBody.lean ====
/-
  What one grid point of the backward kernel leaves, in terms of the block contents it reads.

  The run lists the stores of the body; here they are read back. The state carried over the query tiles is the query
  gradient of the whole sequence and the two tile sums for the key and value gradients: the masked tile on the diagonal
  sets it up and the unmasked tiles after it are a plain recursion.
-/
module

public import proofs.«01_k».proof.Proof.BwdRunA
public import proofs.«01_k».proof.Proof.BwdRunB
public import Idealize.ShloMosaic.Lib.Tactic
public import Idealize.ShloMosaic.Lib.VecWindow
public import Idealize.ShloMosaic.Lib.Pointwise

@[expose] public section

noncomputable section

open Idealize.ShloMosaic Idealize.ShloMosaic.TcCoe Idealize.SL.Sem

namespace Cert.KernelIdeal.Back

open Cert.KernelIdeal Cert.KernelIdeal.Gen

variable {F : FTy → Type} [FloatOps F] [Named F]

theorem hz : (![0, 0] : Fin 2 → Nat) = fun _ => 0 := funext fun a => by fin_cases a <;> rfl

/-- A load of a whole tile buffer reads its contents. -/
theorem readAt_whole {e : EltTy} (a : Memref sig .tc .vmem S512x128 e)
    (inb : ∀ d, (![0, 0] : Fin 2 → Nat) d + S512x128.size d ≤ S512x128.size d) (f : a.view.ty.Contents (Elt F)) :
    View.readAt (Elt F) a.view (Rect.unit (s := S512x128) ![0, 0] S512x128.size inb).toLoadRect f = a.view.read (Elt F) f := by
  rw [View.readAt_eq_ld, View.ld_unit_zero (S := S512x128) hz]

/-- The tile of 512 rows of a sequence that starts at row `512 j`. -/
def tile {e : EltTy} (X : Vec F S4096x128 e) (j : ℕ) (hj : j < 8) : Vec F S512x128 e := fun y =>
  X (ix2 ⟨512 * j + (y 0).val, by have h : (y 0).val < 512 := (y 0).isLt; omega⟩ (y 1))

/-- The first of eight rows, at the 512 columns from `512 j`. -/
def row (X : Vec F S8x4096 .f32) (j : ℕ) (hj : j < 8) : Vec F S1x512 .f32 := fun y =>
  X (ix2 0 ⟨512 * j + (y 1).val, by have h : (y 1).val < 512 := (y 1).isLt; omega⟩)

/-- A sequence with the tile at row `512 j` replaced. -/
def put (X : Vec F S4096x128 .f32) (j : ℕ) (w : Vec F S512x128 .f32) : Vec F S4096x128 .f32 :=
  VecWindow.put X ![512 * j, 0] S512x128.size w

/-- A load of 512 rows at row `512 j` of a sequence reads that tile. -/
theorem readAt_tile {e : EltTy} (a : Memref sig .tc .vmem S4096x128 e) (f : a.view.ty.Contents (Elt F)) (j : ℕ)
    (hj : j < 8) (off : Fin 2 → Nat) (hoff : off = ![512 * j, 0])
    (inb : ∀ d, off d + S512x128.size d ≤ S4096x128.size d) :
    View.readAt (Elt F) a.view (Rect.unit (s := S4096x128) off S512x128.size inb).toLoadRect f = tile (a.view.read (Elt F) f) j hj := by
  subst hoff
  rw [View.readAt_eq_ld]
  funext y
  show (a.view.read (Elt F) f) _ = (a.view.read (Elt F) f) _
  congr 1
  funext d
  apply Fin.ext
  match d with
  | ⟨0, _⟩ => show 512 * j + 1 * (y 0).val = 512 * j + (y 0).val; omega
  | ⟨1, _⟩ => show 0 + 1 * (y 1).val = (y 1).val; omega

/-- A load of one row of 512 at column `512 j` reads that row. -/
theorem readAt_row (a : Memref sig .tc .vmem S8x4096 .f32) (f : a.view.ty.Contents (Elt F)) (j : ℕ)
    (hj : j < 8) (off : Fin 2 → Nat) (hoff : off = ![0, 512 * j])
    (inb : ∀ d, off d + S1x512.size d ≤ S8x4096.size d) :
    View.readAt (Elt F) a.view (Rect.unit (s := S8x4096) off S1x512.size inb).toLoadRect f = row (a.view.read (Elt F) f) j hj := by
  subst hoff
  rw [View.readAt_eq_ld]
  funext y
  show (a.view.read (Elt F) f) _ = (a.view.read (Elt F) f) _
  congr 1
  funext d
  apply Fin.ext
  have h0 : (y 0).val = 0 := by have h : (y 0).val < 1 := (y 0).isLt; omega
  match d with
  | ⟨0, _⟩ => show 0 + 1 * (y 0).val = 0; omega
  | ⟨1, _⟩ => show 512 * j + 1 * (y 1).val = 512 * j + (y 1).val; omega

/-- The state carried over the query tiles: the query gradient of the sequence, and the two sums for the key and value
gradients of the tile. -/
abbrev St (F : FTy → Type) := Vec F S4096x128 .f32 × Vec F S512x128 .f32 × Vec F S512x128 .f32

/-- One unmasked query tile. -/
def step (v4 v6 : Vec F S512x128 .bf16) (q d : Vec F S4096x128 .bf16) (l dl : Vec F S8x4096 .f32) (j : ℕ) (hj : j < 8) (s : St F) : St F :=
  (put s.1 j (k0_pay39 v4 (k0_pay16 v4 v6 (tile q j hj) (tile d j hj) (row l j hj) (row dl j hj)) (k0_pay19 (tile s.1 j hj))),
   k0_pay18 v4 v6 (tile q j hj) (tile d j hj) (row l j hj) (row dl j hj) s.2.1,
   k0_pay17 v4 (tile q j hj) (tile d j hj) (row l j hj) s.2.2)

/-- The masked query tile on the diagonal, from the query gradient left so far. -/
def first (k v : Vec F S512x128 .bf16) (q d : Vec F S4096x128 .bf16) (l dl : Vec F S8x4096 .f32) (j : ℕ) (hj : j < 8) (s : Vec F S4096x128 .f32) : St F :=
  (put s j (k0_pay38 (k0_pay28 k) (k0_pay29 v) (k0_pay33 (tile d j hj)) (k0_pay34 k (tile q j hj) (row l j hj)) (row dl j hj) (tile s j hj)),
   k0_pay37 (k0_pay29 v) (k0_pay32 (tile q j hj)) (k0_pay33 (tile d j hj)) (k0_pay34 k (tile q j hj) (row l j hj)) (row dl j hj) k0_pay30,
   k0_pay36 (k0_pay33 (tile d j hj)) (k0_pay34 k (tile q j hj) (row l j hj)) k0_pay31)

/-- The state after `n` tiles more than the first. -/
def steps (v4 v6 : Vec F S512x128 .bf16) (q d : Vec F S4096x128 .bf16) (l dl : Vec F S8x4096 .f32) (s : St F) (j : ℕ) : (n : ℕ) → j + n ≤ 7 → St F
  | 0, _ => s
  | n + 1, h => step v4 v6 q d l dl (j + 1 + n) (by omega) (steps v4 v6 q d l dl s j n (by omega))

/-- What a point with key tile `j` leaves, from the query gradient and the row sums it finds. -/
def point (k v : Vec F S512x128 .bf16) (q d : Vec F S4096x128 .bf16) (l dl : Vec F S8x4096 .f32) (j : ℕ) (hj : j < 8) (s : Vec F S4096x128 .f32) : St F :=
  steps (k0_pay28 k) (k0_pay29 v) q d l dl (first k v q d l dl j hj s) j (7 - j) (by omega)

/-- The row sums of the output gradient times the output, on eight equal rows. -/
def delta (o d : Vec F S4096x128 .bf16) : Vec F S8x4096 .f32 := fun y =>
  have h : (y 1).val < 4096 := (y 1).isLt
  k0_pay3 (tile d ((y 1).val / 512) (by omega)) (tile o ((y 1).val / 512) (by omega)) (ix2 (y 0) ⟨(y 1).val % 512, by omega⟩)

section Point

variable (c : Dev nD) (i : grid0.Coords) (arg3 : Memref sig .tc .vmem S4096x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S8x4096 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S512x128 .f32) (harg10 : arg10.IsWhole) (arg11 : Memref sig .tc .vmem S512x128 .bf16) (harg11 : arg11.IsWhole) (arg12 : Memref sig .tc .vmem S512x128 .f32) (harg12 : arg12.IsWhole) (arg13 : Memref sig .tc .vmem S512x128 .f32) (harg13 : arg13.IsWhole) (arg14 : Memref sig .tc .vmem S8x4096 .f32) (harg14 : arg14.IsWhole)

theorem trips1 : (k0_t1_loop i).trips = 7 - (i 2).val := by
  have h : ∀ n : Fin 8, (⟨Scalar.addi (BitVec.ofNat 32 n.val) 1#32, Scalar.addi (Scalar.addi (BitVec.ofNat 32 n.val) 1#32) (Scalar.muli (Scalar.divsi (Scalar.subi 8#32 (Scalar.addi (BitVec.ofNat 32 n.val) 1#32)) 1#32) 1#32), 1#32⟩ : Scf.Loop 32).trips = 7 - n.val := by decide
  exact h (i 2)

theorem trips2 : (k0_t2_loop i).trips = 0 := Nat.le_zero.mp (k0_t2_abs i).2.1

theorem lt8 (i : grid0.Coords) : (i 2).val < 8 := (i 2).isLt

theorem off3 (k : Fin (k0_t1_loop i).trips) : k0_off3 i k = ![512 * ((i 2).val + 1 + k.val), 0] := by
  rw [k0_off3_eq]; congr 1; omega

theorem off4 (k : Fin (k0_t1_loop i).trips) : k0_off4 i k = ![0, 512 * ((i 2).val + 1 + k.val)] := by
  rw [k0_off4_eq, show 512 * (i 2).val + 512 * k.val + 512 = 512 * ((i 2).val + 1 + k.val) by omega]

/-- One trip's stores, read back: the step at its query tile. -/
theorem trip_read (arg2 : BitVec 32) (v4 v6 : FVec F S512x128 .bf16) (v16 : BitVec 32) (v19 v22 : FVec F S512x128 .bf16) (v35 : FVec F S512x512 .bf16) (v64 : BitVec 32)
    (x0 : Vec F S4096x128 .bf16) (x4 : Vec F S8x4096 .f32) (x5 : Vec F S4096x128 .bf16) (X14 : BufTy.Contents (Elt F) arg14.view.ty)
    (k : Fin (k0_t1_loop i).trips) (hk : (i 2).val + 1 + k.val < 8) (f9 : BufTy.Contents (Elt F) arg9.view.ty) (f12 : BufTy.Contents (Elt F) arg12.view.ty) (f13 : BufTy.Contents (Elt F) arg13.view.ty) :
    (∀ g L, arg9.view.read (Elt F) (arg9.view.writes (Elt F) g ((tripL_k0_t1 (F := F) Variants.none c none i arg3 harg3 arg4 harg4 arg5 harg5 arg6 harg6 arg7 harg7 arg8 harg8 arg9 harg9 arg10 harg10 arg11 harg11 arg12 harg12 arg13 harg13 arg14 harg14 arg2 v4 v6 v16 v19 v22 v35 v64 (harg3.unread x0) (harg7.unread x4) (harg8.unread x5) X14 k f9 f12 f13).1 ++ L)) = put (arg9.view.read (Elt F) (arg9.view.writes (Elt F) g L)) ((i 2).val + 1 + k.val) (k0_pay39 v4 (k0_pay16 v4 v6 (tile x0 _ hk) (tile x5 _ hk) (row x4 _ hk) (row (arg14.view.read (Elt F) X14) _ hk)) (k0_pay19 (tile (arg9.view.read (Elt F) f9) _ hk))))
    ∧ (∀ g L, arg12.view.read (Elt F) (arg12.view.writes (Elt F) g ((tripL_k0_t1 (F := F) Variants.none c none i arg3 harg3 arg4 harg4 arg5 harg5 arg6 harg6 arg7 harg7 arg8 harg8 arg9 harg9 arg10 harg10 arg11 harg11 arg12 harg12 arg13 harg13 arg14 harg14 arg2 v4 v6 v16 v19 v22 v35 v64 (harg3.unread x0) (harg7.unread x4) (harg8.unread x5) X14 k f9 f12 f13).2.1 ++ L)) = (step v4 v6 x0 x5 x4 (arg14.view.read (Elt F) X14) ((i 2).val + 1 + k.val) hk (arg9.view.read (Elt F) f9, arg12.view.read (Elt F) f12, arg13.view.read (Elt F) f13)).2.1)
    ∧ (∀ g L, arg13.view.read (Elt F) (arg13.view.writes (Elt F) g ((tripL_k0_t1 (F := F) Variants.none c none i arg3 harg3 arg4 harg4 arg5 harg5 arg6 harg6 arg7 harg7 arg8 harg8 arg9 harg9 arg10 harg10 arg11 harg11 arg12 harg12 arg13 harg13 arg14 harg14 arg2 v4 v6 v16 v19 v22 v35 v64 (harg3.unread x0) (harg7.unread x4) (harg8.unread x5) X14 k f9 f12 f13).2.2 ++ L)) = (step v4 v6 x0 x5 x4 (arg14.view.read (Elt F) X14) ((i 2).val + 1 + k.val) hk (arg9.view.read (Elt F) f9, arg12.view.read (Elt F) f12, arg13.view.read (Elt F) f13)).2.2) := by
  have hq : View.readAt (Elt F) arg3.view (Rect.unit (s := S4096x128) (k0_off3 i k) S512x128.size (k0_off3_inb i k)).toLoadRect (harg3.unread x0) = tile x0 _ hk := by
    rw [readAt_tile arg3 _ _ hk _ (off3 i k), harg3.read_unread]
  have hd : View.readAt (Elt F) arg8.view (Rect.unit (s := S4096x128) (k0_off3 i k) S512x128.size (k0_off3_inb i k)).toLoadRect (harg8.unread x5) = tile x5 _ hk := by
    rw [readAt_tile arg8 _ _ hk _ (off3 i k), harg8.read_unread]
  have hl : View.readAt (Elt F) arg7.view (Rect.unit (s := S8x4096) (k0_off4 i k) S1x512.size (k0_off4_inb i k)).toLoadRect (harg7.unread x4) = row x4 _ hk := by
    rw [readAt_row arg7 _ _ hk _ (off4 i k), harg7.read_unread]
  have he : View.readAt (Elt F) arg14.view (Rect.unit (s := S8x4096) (k0_off4 i k) S1x512.size (k0_off4_inb i k)).toLoadRect X14 = row (arg14.view.read (Elt F) X14) _ hk :=
    readAt_row arg14 _ _ hk _ (off4 i k) _
  have h9 : View.readAt (Elt F) arg9.view (Rect.unit (s := S4096x128) (k0_off3 i k) S512x128.size (k0_off3_inb i k)).toLoadRect f9 = tile (arg9.view.read (Elt F) f9) _ hk :=
    readAt_tile arg9 _ _ hk _ (off3 i k) _
  unfold tripL_k0_t1 trip_k0_t1
  refine ⟨fun g L => ?_, fun g L => ?_, fun g L => ?_⟩
  · dsimp only
    rw [List.singleton_append]
    refine (View.read_writes_cons_put _ _ _ _ _ (off3 i k)).trans ?_
    sl_unfold_run_names
    rw [hq, hd, hl, he, h9]
    rfl
  · dsimp only
    rw [List.singleton_append]
    refine (View.read_writes_full _ _ _ _ _).trans ?_
    unfold step
    sl_unfold_run_names
    rw [hq, hd, hl, he, readAt_whole]
    rfl
  · dsimp only
    rw [List.singleton_append]
    refine (View.read_writes_full _ _ _ _ _).trans ?_
    unfold step
    sl_unfold_run_names
    rw [hq, hd, hl, readAt_whole]
    rfl

/-- The loop's stores read back over any start: the state after `n` trips. -/
theorem loop_read (arg2 : BitVec 32) (v4 v6 : FVec F S512x128 .bf16) (v16 : BitVec 32) (v19 v22 : FVec F S512x128 .bf16) (v35 : FVec F S512x512 .bf16) (v64 : BitVec 32)
    (x0 : Vec F S4096x128 .bf16) (x4 : Vec F S8x4096 .f32) (x5 : Vec F S4096x128 .bf16) (X14 : BufTy.Contents (Elt F) arg14.view.ty)
    (G9 : BufTy.Contents (Elt F) arg9.view.ty) (G12 : BufTy.Contents (Elt F) arg12.view.ty) (G13 : BufTy.Contents (Elt F) arg13.view.ty) (s : St F)
    (h9 : arg9.view.read (Elt F) G9 = s.1) (h12 : arg12.view.read (Elt F) G12 = s.2.1) (h13 : arg13.view.read (Elt F) G13 = s.2.2) :
    ∀ (n : ℕ) (hn : (i 2).val + n ≤ 7),
      (arg9.view.read (Elt F) (arg9.view.writes (Elt F) G9 (pb_k0_t1 (F := F) Variants.none c none i arg3 harg3 arg4 harg4 arg5 harg5 arg6 harg6 arg7 harg7 arg8 harg8 arg9 harg9 arg10 harg10 arg11 harg11 arg12 harg12 arg13 harg13 arg14 harg14 arg2 v4 v6 v16 v19 v22 v35 v64 (harg3.unread x0) (harg7.unread x4) (harg8.unread x5) X14 G9 G12 G13 n).1), arg12.view.read (Elt F) (arg12.view.writes (Elt F) G12 (pb_k0_t1 (F := F) Variants.none c none i arg3 harg3 arg4 harg4 arg5 harg5 arg6 harg6 arg7 harg7 arg8 harg8 arg9 harg9 arg10 harg10 arg11 harg11 arg12 harg12 arg13 harg13 arg14 harg14 arg2 v4 v6 v16 v19 v22 v35 v64 (harg3.unread x0) (harg7.unread x4) (harg8.unread x5) X14 G9 G12 G13 n).2.1), arg13.view.read (Elt F) (arg13.view.writes (Elt F) G13 (pb_k0_t1 (F := F) Variants.none c none i arg3 harg3 arg4 harg4 arg5 harg5 arg6 harg6 arg7 harg7 arg8 harg8 arg9 harg9 arg10 harg10 arg11 harg11 arg12 harg12 arg13 harg13 arg14 harg14 arg2 v4 v6 v16 v19 v22 v35 v64 (harg3.unread x0) (harg7.unread x4) (harg8.unread x5) X14 G9 G12 G13 n).2.2))
        = steps v4 v6 x0 x5 x4 (arg14.view.read (Elt F) X14) s (i 2).val n hn
  | 0, _ => by
    rw [pb_k0_t1.eq_1]
    show (arg9.view.read (Elt F) G9, arg12.view.read (Elt F) G12, arg13.view.read (Elt F) G13) = s
    rw [h9, h12, h13]
  | n + 1, hn => by
    have ih := loop_read arg2 v4 v6 v16 v19 v22 v35 v64 x0 x4 x5 X14 G9 G12 G13 s h9 h12 h13 n (by omega)
    have hk : n < (k0_t1_loop i).trips := by rw [trips1]; omega
    have hs := pb_k0_t1_succ (F := F) Variants.none c none i arg3 harg3 arg4 harg4 arg5 harg5 arg6 harg6 arg7 harg7 arg8 harg8 arg9 harg9 arg10 harg10 arg11 harg11 arg12 harg12 arg13 harg13 arg14 harg14 arg2 v4 v6 v16 v19 v22 v35 v64 (harg3.unread x0) (harg7.unread x4) (harg8.unread x5) X14 G9 G12 G13 ⟨n, hk⟩
    have hr := trip_read c i arg3 harg3 arg4 harg4 arg5 harg5 arg6 harg6 arg7 harg7 arg8 harg8 arg9 harg9 arg10 harg10 arg11 harg11 arg12 harg12 arg13 harg13 arg14 harg14 arg2 v4 v6 v16 v19 v22 v35 v64 x0 x4 x5 X14 ⟨n, hk⟩ (by show (i 2).val + 1 + n < 8; omega)
      (arg9.view.writes (Elt F) G9 (pb_k0_t1 (F := F) Variants.none c none i arg3 harg3 arg4 harg4 arg5 harg5 arg6 harg6 arg7 harg7 arg8 harg8 arg9 harg9 arg10 harg10 arg11 harg11 arg12 harg12 arg13 harg13 arg14 harg14 arg2 v4 v6 v16 v19 v22 v35 v64 (harg3.unread x0) (harg7.unread x4) (harg8.unread x5) X14 G9 G12 G13 n).1) (arg12.view.writes (Elt F) G12 (pb_k0_t1 (F := F) Variants.none c none i arg3 harg3 arg4 harg4 arg5 harg5 arg6 harg6 arg7 harg7 arg8 harg8 arg9 harg9 arg10 harg10 arg11 harg11 arg12 harg12 arg13 harg13 arg14 harg14 arg2 v4 v6 v16 v19 v22 v35 v64 (harg3.unread x0) (harg7.unread x4) (harg8.unread x5) X14 G9 G12 G13 n).2.1) (arg13.view.writes (Elt F) G13 (pb_k0_t1 (F := F) Variants.none c none i arg3 harg3 arg4 harg4 arg5 harg5 arg6 harg6 arg7 harg7 arg8 harg8 arg9 harg9 arg10 harg10 arg11 harg11 arg12 harg12 arg13 harg13 arg14 harg14 arg2 v4 v6 v16 v19 v22 v35 v64 (harg3.unread x0) (harg7.unread x4) (harg8.unread x5) X14 G9 G12 G13 n).2.2)
    have hr' := hr
    rw [ih] at hr'
    refine Prod.ext ?_ (Prod.ext ?_ ?_)
    · refine (congrArg (fun z => arg9.view.read (Elt F) (arg9.view.writes (Elt F) G9 z.1)) hs).trans ((hr.1 _ _).trans ?_)
      exact congrArg (fun z => (step v4 v6 x0 x5 x4 (arg14.view.read (Elt F) X14) ((i 2).val + 1 + n) (by omega) z).1) ih
    · exact (congrArg (fun z => arg12.view.read (Elt F) (arg12.view.writes (Elt F) G12 z.2.1)) hs).trans (hr'.2.1 _ _)
    · exact (congrArg (fun z => arg13.view.read (Elt F) (arg13.view.writes (Elt F) G13 z.2.2)) hs).trans (hr'.2.2 _ _)

/-- The second loop (what is left after whole strides of the first) makes no trip, so stores nothing. -/
theorem loop2_none (arg2 : BitVec 32) (v4 v6 : FVec F S512x128 .bf16) (v16 : BitVec 32) (v19 v22 : FVec F S512x128 .bf16) (v35 : FVec F S512x512 .bf16) (v69 : BitVec 32)
    (X3 : BufTy.Contents (Elt F) arg3.view.ty) (X7 : BufTy.Contents (Elt F) arg7.view.ty) (X8 : BufTy.Contents (Elt F) arg8.view.ty) (X14 : BufTy.Contents (Elt F) arg14.view.ty)
    (G9 : BufTy.Contents (Elt F) arg9.view.ty) (G12 : BufTy.Contents (Elt F) arg12.view.ty) (G13 : BufTy.Contents (Elt F) arg13.view.ty) :
    pb_k0_t2 (F := F) Variants.none c none i arg3 harg3 arg4 harg4 arg5 harg5 arg6 harg6 arg7 harg7 arg8 harg8 arg9 harg9 arg10 harg10 arg11 harg11 arg12 harg12 arg13 harg13 arg14 harg14 arg2 v4 v6 v16 v19 v22 v35 v69 X3 X7 X8 X14 G9 G12 G13
      (Scf.trips (k0_t2_loop i).lb (k0_t2_loop i).ub (k0_t2_loop i).st) = ([], [], []) := by
  rw [show Scf.trips (k0_t2_loop i).lb (k0_t2_loop i).ub (k0_t2_loop i).st = 0 from trips2 i]
  exact pb_k0_t2.eq_1 ..

/-- A load of a whole tile buffer after a store to the whole of it reads what was stored. -/
theorem readCov_cons (a : Memref sig .tc .vmem S512x128 .f32)
    (inb : ∀ d, (![0, 0] : Fin 2 → Nat) d + S512x128.size d ≤ S512x128.size d) (w : Vec F S512x128 .f32) (L : List (View.Piece (Elt F) S512x128 .f32)) :
    a.view.readCov (⟨Rect.unit (s := S512x128) ![0, 0] S512x128.size inb, w⟩ :: L) (Rect.unit (s := S512x128) ![0, 0] S512x128.size inb).toLoadRect = w := by
  unfold View.readCov
  rw [readAt_whole]
  exact View.read_writes_full _ _ _ _ _

/-- The state the two loops leave, read back over any start. -/
theorem ends (arg2 : BitVec 32) (v4 v6 : FVec F S512x128 .bf16) (v16 : BitVec 32) (v19 v22 : FVec F S512x128 .bf16) (v35 : FVec F S512x512 .bf16) (v64 : BitVec 32)
    (x0 : Vec F S4096x128 .bf16) (x4 : Vec F S8x4096 .f32) (x5 : Vec F S4096x128 .bf16) (X14 : BufTy.Contents (Elt F) arg14.view.ty) (v69 : BitVec 32)
    (G9 : BufTy.Contents (Elt F) arg9.view.ty) (G12 : BufTy.Contents (Elt F) arg12.view.ty) (G13 : BufTy.Contents (Elt F) arg13.view.ty) (Y9 : BufTy.Contents (Elt F) arg9.view.ty) (Y12 : BufTy.Contents (Elt F) arg12.view.ty) (Y13 : BufTy.Contents (Elt F) arg13.view.ty) (s : St F)
    (h9 : arg9.view.read (Elt F) G9 = s.1) (h12 : arg12.view.read (Elt F) G12 = s.2.1) (h13 : arg13.view.read (Elt F) G13 = s.2.2) :
    (arg9.view.read (Elt F) (arg9.view.writes (Elt F) G9 ((pb_k0_t2 (F := F) Variants.none c none i arg3 harg3 arg4 harg4 arg5 harg5 arg6 harg6 arg7 harg7 arg8 harg8 arg9 harg9 arg10 harg10 arg11 harg11 arg12 harg12 arg13 harg13 arg14 harg14 arg2 v4 v6 v16 v19 v22 v35 v69 (harg3.unread x0) (harg7.unread x4) (harg8.unread x5) X14 Y9 Y12 Y13 (Scf.trips (k0_t2_loop i).lb (k0_t2_loop i).ub (k0_t2_loop i).st)).1 ++ (pb_k0_t1 (F := F) Variants.none c none i arg3 harg3 arg4 harg4 arg5 harg5 arg6 harg6 arg7 harg7 arg8 harg8 arg9 harg9 arg10 harg10 arg11 harg11 arg12 harg12 arg13 harg13 arg14 harg14 arg2 v4 v6 v16 v19 v22 v35 v64 (harg3.unread x0) (harg7.unread x4) (harg8.unread x5) X14 G9 G12 G13 (Scf.trips (k0_t1_loop i).lb (k0_t1_loop i).ub (k0_t1_loop i).st)).1)),
     arg12.view.read (Elt F) (arg12.view.writes (Elt F) G12 ((pb_k0_t2 (F := F) Variants.none c none i arg3 harg3 arg4 harg4 arg5 harg5 arg6 harg6 arg7 harg7 arg8 harg8 arg9 harg9 arg10 harg10 arg11 harg11 arg12 harg12 arg13 harg13 arg14 harg14 arg2 v4 v6 v16 v19 v22 v35 v69 (harg3.unread x0) (harg7.unread x4) (harg8.unread x5) X14 Y9 Y12 Y13 (Scf.trips (k0_t2_loop i).lb (k0_t2_loop i).ub (k0_t2_loop i).st)).2.1 ++ (pb_k0_t1 (F := F) Variants.none c none i arg3 harg3 arg4 harg4 arg5 harg5 arg6 harg6 arg7 harg7 arg8 harg8 arg9 harg9 arg10 harg10 arg11 harg11 arg12 harg12 arg13 harg13 arg14 harg14 arg2 v4 v6 v16 v19 v22 v35 v64 (harg3.unread x0) (harg7.unread x4) (harg8.unread x5) X14 G9 G12 G13 (Scf.trips (k0_t1_loop i).lb (k0_t1_loop i).ub (k0_t1_loop i).st)).2.1)),
     arg13.view.read (Elt F) (arg13.view.writes (Elt F) G13 ((pb_k0_t2 (F := F) Variants.none c none i arg3 harg3 arg4 harg4 arg5 harg5 arg6 harg6 arg7 harg7 arg8 harg8 arg9 harg9 arg10 harg10 arg11 harg11 arg12 harg12 arg13 harg13 arg14 harg14 arg2 v4 v6 v16 v19 v22 v35 v69 (harg3.unread x0) (harg7.unread x4) (harg8.unread x5) X14 Y9 Y12 Y13 (Scf.trips (k0_t2_loop i).lb (k0_t2_loop i).ub (k0_t2_loop i).st)).2.2 ++ (pb_k0_t1 (F := F) Variants.none c none i arg3 harg3 arg4 harg4 arg5 harg5 arg6 harg6 arg7 harg7 arg8 harg8 arg9 harg9 arg10 harg10 arg11 harg11 arg12 harg12 arg13 harg13 arg14 harg14 arg2 v4 v6 v16 v19 v22 v35 v64 (harg3.unread x0) (harg7.unread x4) (harg8.unread x5) X14 G9 G12 G13 (Scf.trips (k0_t1_loop i).lb (k0_t1_loop i).ub (k0_t1_loop i).st)).2.2)))
        = steps v4 v6 x0 x5 x4 (arg14.view.read (Elt F) X14) s (i 2).val (7 - (i 2).val) (by have := lt8 i; omega) := by
  rw [loop2_none]
  rw [show Scf.trips (k0_t1_loop i).lb (k0_t1_loop i).ub (k0_t1_loop i).st = 7 - (i 2).val from trips1 i]
  exact loop_read c i arg3 harg3 arg4 harg4 arg5 harg5 arg6 harg6 arg7 harg7 arg8 harg8 arg9 harg9 arg10 harg10 arg11 harg11 arg12 harg12 arg13 harg13 arg14 harg14 arg2 v4 v6 v16 v19 v22 v35 v64 x0 x4 x5 X14 G9 G12 G13 s h9 h12 h13 (7 - (i 2).val) _

end Point

end Cert.KernelIdeal.Back
-- ==== Proof.BwdOut.lean ====
/-
  What one grid point of the backward kernel leaves in its three outputs and in the carried row sums, as functions of
  the block contents it reads.
-/
module

public import proofs.«01_k».proof.Proof.BwdBody

@[expose] public section

noncomputable section

open Idealize.ShloMosaic Idealize.ShloMosaic.TcCoe Idealize.ShloMosaic.Tactic Idealize.SL.Sem

namespace Cert.KernelIdeal.Back

open Cert.KernelIdeal Cert.KernelIdeal.Gen

variable {F : FTy → Type} [FloatOps F] [Named F]

section Point

variable (c : Dev nD) (i : grid0.Coords) (arg3 : Memref sig .tc .vmem S4096x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S8x4096 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S512x128 .f32) (harg10 : arg10.IsWhole) (arg11 : Memref sig .tc .vmem S512x128 .bf16) (harg11 : arg11.IsWhole) (arg12 : Memref sig .tc .vmem S512x128 .f32) (harg12 : arg12.IsWhole) (arg13 : Memref sig .tc .vmem S512x128 .f32) (harg13 : arg13.IsWhole) (arg14 : Memref sig .tc .vmem S8x4096 .f32) (harg14 : arg14.IsWhole)

/-- The query gradient a point that continues a sequence leaves. -/
theorem dq_B (hc0 : ¬cond0_0 i) (x0 : Vec F S4096x128 .bf16) (x1 x2 : Vec F S512x128 .bf16) (x3 : Vec F S4096x128 .bf16) (x4 : Vec F S8x4096 .f32) (x5 : Vec F S4096x128 .bf16) (x6 : Vec F S4096x128 .f32) (xs : Vec F S8x4096 .f32) :
    arg9.view.read (Elt F) (arg9.view.writes (Elt F) (harg9.unread x6) (runB c i arg3 harg3 arg4 harg4 arg5 harg5 arg6 harg6 arg7 harg7 arg8 harg8 arg9 harg9 arg10 harg10 arg11 harg11 arg12 harg12 arg13 harg13 arg14 harg14 hc0 x0 x1 x2 x3 x4 x5 x6 xs).1) = (point x1 x2 x0 x5 x4 xs (i 2).val (lt8 i) x6).1 := by
  have hk : View.readAt (Elt F) arg4.view (Rect.unit (s := S512x128) ![0, 0] S512x128.size inb_S512x128_S512x128_0_0).toLoadRect (harg4.unread x1) = x1 := by
    rw [readAt_whole, harg4.read_unread]
  have hv : View.readAt (Elt F) arg5.view (Rect.unit (s := S512x128) ![0, 0] S512x128.size inb_S512x128_S512x128_0_0).toLoadRect (harg5.unread x2) = x2 := by
    rw [readAt_whole, harg5.read_unread]
  have hq : View.readAt (Elt F) arg3.view (Rect.unit (s := S4096x128) (k0_off1 i) S512x128.size (k0_off1_inb i)).toLoadRect (harg3.unread x0) = tile x0 _ (lt8 i) := by
    rw [readAt_tile arg3 _ _ (lt8 i) _ (k0_off1_eq i), harg3.read_unread]
  have hd : View.readAt (Elt F) arg8.view (Rect.unit (s := S4096x128) (k0_off1 i) S512x128.size (k0_off1_inb i)).toLoadRect (harg8.unread x5) = tile x5 _ (lt8 i) := by
    rw [readAt_tile arg8 _ _ (lt8 i) _ (k0_off1_eq i), harg8.read_unread]
  have hl : View.readAt (Elt F) arg7.view (Rect.unit (s := S8x4096) (k0_off2 i) S1x512.size (k0_off2_inb i)).toLoadRect (harg7.unread x4) = row x4 _ (lt8 i) := by
    rw [readAt_row arg7 _ _ (lt8 i) _ (k0_off2_eq i), harg7.read_unread]
  have he : View.readAt (Elt F) arg14.view (Rect.unit (s := S8x4096) (k0_off2 i) S1x512.size (k0_off2_inb i)).toLoadRect (harg14.unread xs) = row xs _ (lt8 i) := by
    rw [readAt_row arg14 _ _ (lt8 i) _ (k0_off2_eq i), harg14.read_unread]
  have h6 : View.readAt (Elt F) arg9.view (Rect.unit (s := S4096x128) (k0_off1 i) S512x128.size (k0_off1_inb i)).toLoadRect (harg9.unread x6) = tile x6 _ (lt8 i) := by
    rw [readAt_tile arg9 _ _ (lt8 i) _ (k0_off1_eq i), harg9.read_unread]
  skip
  unfold runB
  dsimp only
  rw [← List.append_assoc, View.writes_append]
  refine (congrArg Prod.fst (ends c i arg3 harg3 arg4 harg4 arg5 harg5 arg6 harg6 arg7 harg7 arg8 harg8 arg9 harg9 arg10 harg10 arg11 harg11 arg12 harg12 arg13 harg13 arg14 harg14 _ _ _ _ _ _ _ _ x0 x4 x5 _ _ _ _ _ _ _ _ (s := first x1 x2 x0 x5 x4 xs _ (lt8 i) x6) ?_ ?_ ?_)).trans ?_
  · sl_unfold_run_names
    refine (View.read_writes_cons_put _ _ _ _ _ (k0_off1_eq i)).trans ?_
    rw [View.writes_nil, harg9.read_unread, h6, hk, hv, hd, hl, hq, he]
    rfl
  · sl_unfold_run_names
    refine (View.read_writes_full _ _ _ _ _).trans ?_
    rw [readCov_cons, hk, hv, hd, hl, hq, he]
    rfl
  · sl_unfold_run_names
    refine (View.read_writes_full _ _ _ _ _).trans ?_
    rw [readCov_cons, hk, hd, hl, hq]
    rfl
  ·
    sl_unfold_run_names
    rw [hk, hv, harg14.read_unread]
    rfl

/-- The key gradient tile such a point leaves. -/
theorem dk_B (hc0 : ¬cond0_0 i) (x0 : Vec F S4096x128 .bf16) (x1 x2 : Vec F S512x128 .bf16) (x3 : Vec F S4096x128 .bf16) (x4 : Vec F S8x4096 .f32) (x5 : Vec F S4096x128 .bf16) (x6 : Vec F S4096x128 .f32) (xs : Vec F S8x4096 .f32) (f : BufTy.Contents (Elt F) arg10.view.ty) :
    arg10.view.read (Elt F) (arg10.view.writes (Elt F) f (runB c i arg3 harg3 arg4 harg4 arg5 harg5 arg6 harg6 arg7 harg7 arg8 harg8 arg9 harg9 arg10 harg10 arg11 harg11 arg12 harg12 arg13 harg13 arg14 harg14 hc0 x0 x1 x2 x3 x4 x5 x6 xs).2.1) = (point x1 x2 x0 x5 x4 xs (i 2).val (lt8 i) x6).2.1 := by
  have hk : View.readAt (Elt F) arg4.view (Rect.unit (s := S512x128) ![0, 0] S512x128.size inb_S512x128_S512x128_0_0).toLoadRect (harg4.unread x1) = x1 := by
    rw [readAt_whole, harg4.read_unread]
  have hv : View.readAt (Elt F) arg5.view (Rect.unit (s := S512x128) ![0, 0] S512x128.size inb_S512x128_S512x128_0_0).toLoadRect (harg5.unread x2) = x2 := by
    rw [readAt_whole, harg5.read_unread]
  have hq : View.readAt (Elt F) arg3.view (Rect.unit (s := S4096x128) (k0_off1 i) S512x128.size (k0_off1_inb i)).toLoadRect (harg3.unread x0) = tile x0 _ (lt8 i) := by
    rw [readAt_tile arg3 _ _ (lt8 i) _ (k0_off1_eq i), harg3.read_unread]
  have hd : View.readAt (Elt F) arg8.view (Rect.unit (s := S4096x128) (k0_off1 i) S512x128.size (k0_off1_inb i)).toLoadRect (harg8.unread x5) = tile x5 _ (lt8 i) := by
    rw [readAt_tile arg8 _ _ (lt8 i) _ (k0_off1_eq i), harg8.read_unread]
  have hl : View.readAt (Elt F) arg7.view (Rect.unit (s := S8x4096) (k0_off2 i) S1x512.size (k0_off2_inb i)).toLoadRect (harg7.unread x4) = row x4 _ (lt8 i) := by
    rw [readAt_row arg7 _ _ (lt8 i) _ (k0_off2_eq i), harg7.read_unread]
  have he : View.readAt (Elt F) arg14.view (Rect.unit (s := S8x4096) (k0_off2 i) S1x512.size (k0_off2_inb i)).toLoadRect (harg14.unread xs) = row xs _ (lt8 i) := by
    rw [readAt_row arg14 _ _ (lt8 i) _ (k0_off2_eq i), harg14.read_unread]
  have h6 : View.readAt (Elt F) arg9.view (Rect.unit (s := S4096x128) (k0_off1 i) S512x128.size (k0_off1_inb i)).toLoadRect (harg9.unread x6) = tile x6 _ (lt8 i) := by
    rw [readAt_tile arg9 _ _ (lt8 i) _ (k0_off1_eq i), harg9.read_unread]
  unfold runB
  dsimp only
  refine (View.read_writes_full _ _ _ _ _).trans ?_
  unfold runB.sl.v70 View.readCov
  rw [readAt_whole, ← List.append_assoc, View.writes_append]
  refine (congrArg (fun z => z.2.1) (ends c i arg3 harg3 arg4 harg4 arg5 harg5 arg6 harg6 arg7 harg7 arg8 harg8 arg9 harg9 arg10 harg10 arg11 harg11 arg12 harg12 arg13 harg13 arg14 harg14 _ _ _ _ _ _ _ _ x0 x4 x5 _ _ _ _ _ _ _ _ (s := first x1 x2 x0 x5 x4 xs _ (lt8 i) x6) ?_ ?_ ?_)).trans ?_
  · sl_unfold_run_names
    refine (View.read_writes_cons_put _ _ _ _ _ (k0_off1_eq i)).trans ?_
    rw [View.writes_nil, harg9.read_unread, h6, hk, hv, hd, hl, hq, he]
    rfl
  · sl_unfold_run_names
    refine (View.read_writes_full _ _ _ _ _).trans ?_
    rw [readCov_cons, hk, hv, hd, hl, hq, he]
    rfl
  · sl_unfold_run_names
    refine (View.read_writes_full _ _ _ _ _).trans ?_
    rw [readCov_cons, hk, hd, hl, hq]
    rfl
  ·
    sl_unfold_run_names
    rw [hk, hv, harg14.read_unread]
    rfl

/-- The value gradient tile such a point leaves. -/
theorem dv_B (hc0 : ¬cond0_0 i) (x0 : Vec F S4096x128 .bf16) (x1 x2 : Vec F S512x128 .bf16) (x3 : Vec F S4096x128 .bf16) (x4 : Vec F S8x4096 .f32) (x5 : Vec F S4096x128 .bf16) (x6 : Vec F S4096x128 .f32) (xs : Vec F S8x4096 .f32) (f : BufTy.Contents (Elt F) arg11.view.ty) :
    arg11.view.read (Elt F) (arg11.view.writes (Elt F) f (runB c i arg3 harg3 arg4 harg4 arg5 harg5 arg6 harg6 arg7 harg7 arg8 harg8 arg9 harg9 arg10 harg10 arg11 harg11 arg12 harg12 arg13 harg13 arg14 harg14 hc0 x0 x1 x2 x3 x4 x5 x6 xs).2.2.1) = k0_pay1 (point x1 x2 x0 x5 x4 xs (i 2).val (lt8 i) x6).2.2 := by
  have hk : View.readAt (Elt F) arg4.view (Rect.unit (s := S512x128) ![0, 0] S512x128.size inb_S512x128_S512x128_0_0).toLoadRect (harg4.unread x1) = x1 := by
    rw [readAt_whole, harg4.read_unread]
  have hv : View.readAt (Elt F) arg5.view (Rect.unit (s := S512x128) ![0, 0] S512x128.size inb_S512x128_S512x128_0_0).toLoadRect (harg5.unread x2) = x2 := by
    rw [readAt_whole, harg5.read_unread]
  have hq : View.readAt (Elt F) arg3.view (Rect.unit (s := S4096x128) (k0_off1 i) S512x128.size (k0_off1_inb i)).toLoadRect (harg3.unread x0) = tile x0 _ (lt8 i) := by
    rw [readAt_tile arg3 _ _ (lt8 i) _ (k0_off1_eq i), harg3.read_unread]
  have hd : View.readAt (Elt F) arg8.view (Rect.unit (s := S4096x128) (k0_off1 i) S512x128.size (k0_off1_inb i)).toLoadRect (harg8.unread x5) = tile x5 _ (lt8 i) := by
    rw [readAt_tile arg8 _ _ (lt8 i) _ (k0_off1_eq i), harg8.read_unread]
  have hl : View.readAt (Elt F) arg7.view (Rect.unit (s := S8x4096) (k0_off2 i) S1x512.size (k0_off2_inb i)).toLoadRect (harg7.unread x4) = row x4 _ (lt8 i) := by
    rw [readAt_row arg7 _ _ (lt8 i) _ (k0_off2_eq i), harg7.read_unread]
  have he : View.readAt (Elt F) arg14.view (Rect.unit (s := S8x4096) (k0_off2 i) S1x512.size (k0_off2_inb i)).toLoadRect (harg14.unread xs) = row xs _ (lt8 i) := by
    rw [readAt_row arg14 _ _ (lt8 i) _ (k0_off2_eq i), harg14.read_unread]
  have h6 : View.readAt (Elt F) arg9.view (Rect.unit (s := S4096x128) (k0_off1 i) S512x128.size (k0_off1_inb i)).toLoadRect (harg9.unread x6) = tile x6 _ (lt8 i) := by
    rw [readAt_tile arg9 _ _ (lt8 i) _ (k0_off1_eq i), harg9.read_unread]
  unfold runB
  dsimp only
  refine (View.read_writes_full _ _ _ _ _).trans ?_
  unfold runB.sl.v72 View.readCov
  rw [readAt_whole, ← List.append_assoc, View.writes_append]
  refine congrArg k0_pay1 ((congrArg (fun z => z.2.2) (ends c i arg3 harg3 arg4 harg4 arg5 harg5 arg6 harg6 arg7 harg7 arg8 harg8 arg9 harg9 arg10 harg10 arg11 harg11 arg12 harg12 arg13 harg13 arg14 harg14 _ _ _ _ _ _ _ _ x0 x4 x5 _ _ _ _ _ _ _ _ (s := first x1 x2 x0 x5 x4 xs _ (lt8 i) x6) ?_ ?_ ?_)).trans ?_)
  · sl_unfold_run_names
    refine (View.read_writes_cons_put _ _ _ _ _ (k0_off1_eq i)).trans ?_
    rw [View.writes_nil, harg9.read_unread, h6, hk, hv, hd, hl, hq, he]
    rfl
  · sl_unfold_run_names
    refine (View.read_writes_full _ _ _ _ _).trans ?_
    rw [readCov_cons, hk, hv, hd, hl, hq, he]
    rfl
  · sl_unfold_run_names
    refine (View.read_writes_full _ _ _ _ _).trans ?_
    rw [readCov_cons, hk, hd, hl, hq]
    rfl
  ·
    sl_unfold_run_names
    rw [hk, hv, harg14.read_unread]
    rfl

/-- Where the first stores of a sequence left the row sums. -/
theorem rows_read (x3 x5 : Vec F S4096x128 .bf16) :
    arg14.view.read (Elt F) (arg14.view.writes (Elt F) arg14.view.junk (runA.sl.HS2_8 (F := F) c arg6 harg6 arg8 harg8 x3 x5)) = delta x3 x5 := by
  have h8_0 : View.readAt (Elt F) arg8.view (Rect.unit (s := S4096x128) ![0, 0] S512x128.size inb_S4096x128_S512x128_0_0).toLoadRect (harg8.unread x5) = tile x5 0 (by decide) := by
    rw [readAt_tile arg8 _ 0 (by decide) _ rfl, harg8.read_unread]
  have h6_0 : View.readAt (Elt F) arg6.view (Rect.unit (s := S4096x128) ![0, 0] S512x128.size inb_S4096x128_S512x128_0_0).toLoadRect (harg6.unread x3) = tile x3 0 (by decide) := by
    rw [readAt_tile arg6 _ 0 (by decide) _ rfl, harg6.read_unread]
  have h8_1 : View.readAt (Elt F) arg8.view (Rect.unit (s := S4096x128) ![512, 0] S512x128.size inb_S4096x128_S512x128_512_0).toLoadRect (harg8.unread x5) = tile x5 1 (by decide) := by
    rw [readAt_tile arg8 _ 1 (by decide) _ rfl, harg8.read_unread]
  have h6_1 : View.readAt (Elt F) arg6.view (Rect.unit (s := S4096x128) ![512, 0] S512x128.size inb_S4096x128_S512x128_512_0).toLoadRect (harg6.unread x3) = tile x3 1 (by decide) := by
    rw [readAt_tile arg6 _ 1 (by decide) _ rfl, harg6.read_unread]
  have h8_2 : View.readAt (Elt F) arg8.view (Rect.unit (s := S4096x128) ![1024, 0] S512x128.size inb_S4096x128_S512x128_1024_0).toLoadRect (harg8.unread x5) = tile x5 2 (by decide) := by
    rw [readAt_tile arg8 _ 2 (by decide) _ rfl, harg8.read_unread]
  have h6_2 : View.readAt (Elt F) arg6.view (Rect.unit (s := S4096x128) ![1024, 0] S512x128.size inb_S4096x128_S512x128_1024_0).toLoadRect (harg6.unread x3) = tile x3 2 (by decide) := by
    rw [readAt_tile arg6 _ 2 (by decide) _ rfl, harg6.read_unread]
  have h8_3 : View.readAt (Elt F) arg8.view (Rect.unit (s := S4096x128) ![1536, 0] S512x128.size inb_S4096x128_S512x128_1536_0).toLoadRect (harg8.unread x5) = tile x5 3 (by decide) := by
    rw [readAt_tile arg8 _ 3 (by decide) _ rfl, harg8.read_unread]
  have h6_3 : View.readAt (Elt F) arg6.view (Rect.unit (s := S4096x128) ![1536, 0] S512x128.size inb_S4096x128_S512x128_1536_0).toLoadRect (harg6.unread x3) = tile x3 3 (by decide) := by
    rw [readAt_tile arg6 _ 3 (by decide) _ rfl, harg6.read_unread]
  have h8_4 : View.readAt (Elt F) arg8.view (Rect.unit (s := S4096x128) ![2048, 0] S512x128.size inb_S4096x128_S512x128_2048_0).toLoadRect (harg8.unread x5) = tile x5 4 (by decide) := by
    rw [readAt_tile arg8 _ 4 (by decide) _ rfl, harg8.read_unread]
  have h6_4 : View.readAt (Elt F) arg6.view (Rect.unit (s := S4096x128) ![2048, 0] S512x128.size inb_S4096x128_S512x128_2048_0).toLoadRect (harg6.unread x3) = tile x3 4 (by decide) := by
    rw [readAt_tile arg6 _ 4 (by decide) _ rfl, harg6.read_unread]
  have h8_5 : View.readAt (Elt F) arg8.view (Rect.unit (s := S4096x128) ![2560, 0] S512x128.size inb_S4096x128_S512x128_2560_0).toLoadRect (harg8.unread x5) = tile x5 5 (by decide) := by
    rw [readAt_tile arg8 _ 5 (by decide) _ rfl, harg8.read_unread]
  have h6_5 : View.readAt (Elt F) arg6.view (Rect.unit (s := S4096x128) ![2560, 0] S512x128.size inb_S4096x128_S512x128_2560_0).toLoadRect (harg6.unread x3) = tile x3 5 (by decide) := by
    rw [readAt_tile arg6 _ 5 (by decide) _ rfl, harg6.read_unread]
  have h8_6 : View.readAt (Elt F) arg8.view (Rect.unit (s := S4096x128) ![3072, 0] S512x128.size inb_S4096x128_S512x128_3072_0).toLoadRect (harg8.unread x5) = tile x5 6 (by decide) := by
    rw [readAt_tile arg8 _ 6 (by decide) _ rfl, harg8.read_unread]
  have h6_6 : View.readAt (Elt F) arg6.view (Rect.unit (s := S4096x128) ![3072, 0] S512x128.size inb_S4096x128_S512x128_3072_0).toLoadRect (harg6.unread x3) = tile x3 6 (by decide) := by
    rw [readAt_tile arg6 _ 6 (by decide) _ rfl, harg6.read_unread]
  have h8_7 : View.readAt (Elt F) arg8.view (Rect.unit (s := S4096x128) ![3584, 0] S512x128.size inb_S4096x128_S512x128_3584_0).toLoadRect (harg8.unread x5) = tile x5 7 (by decide) := by
    rw [readAt_tile arg8 _ 7 (by decide) _ rfl, harg8.read_unread]
  have h6_7 : View.readAt (Elt F) arg6.view (Rect.unit (s := S4096x128) ![3584, 0] S512x128.size inb_S4096x128_S512x128_3584_0).toLoadRect (harg6.unread x3) = tile x3 7 (by decide) := by
    rw [readAt_tile arg6 _ 7 (by decide) _ rfl, harg6.read_unread]
  funext y
  have hy : (y 1).val < 4096 := (y 1).isLt
  have hy0 : (y 0).val < 8 := (y 0).isLt
  have key : ∀ (j : ℕ) (hj : j < 8) (w : Vec F S8x512 .f32) (hw : w = k0_pay3 (tile x5 j hj) (tile x3 j hj)) (z : S8x512.Idx),
      (y 0).val = (z 0).val → (y 1).val = 512 * j + (z 1).val → w z = delta x3 x5 y := by
    intro j hj w hw z h0 h1
    have hz : (z 1).val < 512 := (z 1).isLt
    subst hw
    have e1 : (y 1).val / 512 = j := by omega
    unfold delta
    subst e1
    refine congrArg _ (funext fun a => Fin.ext ?_)
    match a with
    | ⟨0, _⟩ => exact h0.symm
    | ⟨1, _⟩ => show (z 1).val = (y 1).val % 512; omega
  unfold runA.sl.HS2_8
  by_cases c7 : 3584 ≤ (y 1).val
  · refine (View.read_writes_cons_unit_of_mem _ _ _ _ _ y (ix2 (y 0) ⟨(y 1).val - 3584, by omega⟩) rfl fun a => by
      match a with
      | ⟨0, _⟩ => show (y 0).val = 0 + (y 0).val; omega
      | ⟨1, _⟩ => show (y 1).val = 3584 + ((y 1).val - 3584); omega).trans ?_
    refine key 7 (by decide) _ ?_ _ rfl (by show (y 1).val = 512 * 7 + ((y 1).val - 3584); omega)
    sl_unfold_run_names
    rw [h8_7, h6_7]
    rfl
  refine (View.read_writes_cons_unit_of_not_mem _ _ _ _ _ y rfl 1 (Or.inl (by show (y 1).val < 3584; omega))).trans ?_
  by_cases c6 : 3072 ≤ (y 1).val
  · refine (View.read_writes_cons_unit_of_mem _ _ _ _ _ y (ix2 (y 0) ⟨(y 1).val - 3072, by omega⟩) rfl fun a => by
      match a with
      | ⟨0, _⟩ => show (y 0).val = 0 + (y 0).val; omega
      | ⟨1, _⟩ => show (y 1).val = 3072 + ((y 1).val - 3072); omega).trans ?_
    refine key 6 (by decide) _ ?_ _ rfl (by show (y 1).val = 512 * 6 + ((y 1).val - 3072); omega)
    sl_unfold_run_names
    rw [h8_6, h6_6]
    rfl
  refine (View.read_writes_cons_unit_of_not_mem _ _ _ _ _ y rfl 1 (Or.inl (by show (y 1).val < 3072; omega))).trans ?_
  by_cases c5 : 2560 ≤ (y 1).val
  · refine (View.read_writes_cons_unit_of_mem _ _ _ _ _ y (ix2 (y 0) ⟨(y 1).val - 2560, by omega⟩) rfl fun a => by
      match a with
      | ⟨0, _⟩ => show (y 0).val = 0 + (y 0).val; omega
      | ⟨1, _⟩ => show (y 1).val = 2560 + ((y 1).val - 2560); omega).trans ?_
    refine key 5 (by decide) _ ?_ _ rfl (by show (y 1).val = 512 * 5 + ((y 1).val - 2560); omega)
    sl_unfold_run_names
    rw [h8_5, h6_5]
    rfl
  refine (View.read_writes_cons_unit_of_not_mem _ _ _ _ _ y rfl 1 (Or.inl (by show (y 1).val < 2560; omega))).trans ?_
  by_cases c4 : 2048 ≤ (y 1).val
  · refine (View.read_writes_cons_unit_of_mem _ _ _ _ _ y (ix2 (y 0) ⟨(y 1).val - 2048, by omega⟩) rfl fun a => by
      match a with
      | ⟨0, _⟩ => show (y 0).val = 0 + (y 0).val; omega
      | ⟨1, _⟩ => show (y 1).val = 2048 + ((y 1).val - 2048); omega).trans ?_
    refine key 4 (by decide) _ ?_ _ rfl (by show (y 1).val = 512 * 4 + ((y 1).val - 2048); omega)
    sl_unfold_run_names
    rw [h8_4, h6_4]
    rfl
  refine (View.read_writes_cons_unit_of_not_mem _ _ _ _ _ y rfl 1 (Or.inl (by show (y 1).val < 2048; omega))).trans ?_
  by_cases c3 : 1536 ≤ (y 1).val
  · refine (View.read_writes_cons_unit_of_mem _ _ _ _ _ y (ix2 (y 0) ⟨(y 1).val - 1536, by omega⟩) rfl fun a => by
      match a with
      | ⟨0, _⟩ => show (y 0).val = 0 + (y 0).val; omega
      | ⟨1, _⟩ => show (y 1).val = 1536 + ((y 1).val - 1536); omega).trans ?_
    refine key 3 (by decide) _ ?_ _ rfl (by show (y 1).val = 512 * 3 + ((y 1).val - 1536); omega)
    sl_unfold_run_names
    rw [h8_3, h6_3]
    rfl
  refine (View.read_writes_cons_unit_of_not_mem _ _ _ _ _ y rfl 1 (Or.inl (by show (y 1).val < 1536; omega))).trans ?_
  by_cases c2 : 1024 ≤ (y 1).val
  · refine (View.read_writes_cons_unit_of_mem _ _ _ _ _ y (ix2 (y 0) ⟨(y 1).val - 1024, by omega⟩) rfl fun a => by
      match a with
      | ⟨0, _⟩ => show (y 0).val = 0 + (y 0).val; omega
      | ⟨1, _⟩ => show (y 1).val = 1024 + ((y 1).val - 1024); omega).trans ?_
    refine key 2 (by decide) _ ?_ _ rfl (by show (y 1).val = 512 * 2 + ((y 1).val - 1024); omega)
    sl_unfold_run_names
    rw [h8_2, h6_2]
    rfl
  refine (View.read_writes_cons_unit_of_not_mem _ _ _ _ _ y rfl 1 (Or.inl (by show (y 1).val < 1024; omega))).trans ?_
  by_cases c1 : 512 ≤ (y 1).val
  · refine (View.read_writes_cons_unit_of_mem _ _ _ _ _ y (ix2 (y 0) ⟨(y 1).val - 512, by omega⟩) rfl fun a => by
      match a with
      | ⟨0, _⟩ => show (y 0).val = 0 + (y 0).val; omega
      | ⟨1, _⟩ => show (y 1).val = 512 + ((y 1).val - 512); omega).trans ?_
    refine key 1 (by decide) _ ?_ _ rfl (by show (y 1).val = 512 * 1 + ((y 1).val - 512); omega)
    sl_unfold_run_names
    rw [h8_1, h6_1]
    rfl
  refine (View.read_writes_cons_unit_of_not_mem _ _ _ _ _ y rfl 1 (Or.inl (by show (y 1).val < 512; omega))).trans ?_
  refine (View.read_writes_cons_unit_of_mem _ _ _ _ _ y (ix2 (y 0) ⟨(y 1).val, by omega⟩) rfl fun a => by
      match a with
      | ⟨0, _⟩ => show (y 0).val = 0 + (y 0).val; omega
      | ⟨1, _⟩ => show (y 1).val = 0 + (y 1).val; omega).trans ?_
  refine key 0 (by decide) _ ?_ _ rfl (by show (y 1).val = 512 * 0 + (y 1).val; omega)
  sl_unfold_run_names
  rw [h8_0, h6_0]
  rfl

/-- The stores of a point that starts a sequence cover the query gradient. -/
theorem runA_cover6 (hc0 : cond0_0 i) (x0 : Vec F S4096x128 .bf16) (x1 x2 : Vec F S512x128 .bf16) (x3 : Vec F S4096x128 .bf16) (x4 : Vec F S8x4096 .f32) (x5 : Vec F S4096x128 .bf16) : ∀ y, ∃ p ∈ (runA c i arg3 harg3 arg4 harg4 arg5 harg5 arg6 harg6 arg7 harg7 arg8 harg8 arg9 harg9 arg10 harg10 arg11 harg11 arg12 harg12 arg13 harg13 arg14 harg14 hc0 x0 x1 x2 x3 x4 x5).1, y ∈ p.1.set := by
  intro y
  unfold runA
  dsimp only
  refine ⟨_, List.mem_append_right _ (List.mem_append_right _ (List.mem_cons_of_mem _ (List.mem_singleton.2 rfl))), ?_⟩
  have full : ∀ inb, y ∈ (Rect.unit (s := S4096x128) ![0, 0] S4096x128.size inb).set := by
    intro inb
    rw [Rect.mem_set_unit]
    intro a
    match a with
    | ⟨0, _⟩ => exact ⟨Nat.zero_le _, by have := (y 0).isLt; show (y 0).val < 0 + 4096; simpa using this⟩
    | ⟨1, _⟩ => exact ⟨Nat.zero_le _, by have := (y 1).isLt; show (y 1).val < 0 + 128; simpa using this⟩
  exact full (by decide)

/-- The row sums a point that starts a sequence leaves for the ones that continue it. -/
theorem rows_A (hc0 : cond0_0 i) (x0 : Vec F S4096x128 .bf16) (x1 x2 : Vec F S512x128 .bf16) (x3 : Vec F S4096x128 .bf16) (x4 : Vec F S8x4096 .f32) (x5 : Vec F S4096x128 .bf16) (f : BufTy.Contents (Elt F) arg14.view.ty) :
    arg14.view.read (Elt F) (arg14.view.writes (Elt F) f (runA c i arg3 harg3 arg4 harg4 arg5 harg5 arg6 harg6 arg7 harg7 arg8 harg8 arg9 harg9 arg10 harg10 arg11 harg11 arg12 harg12 arg13 harg13 arg14 harg14 hc0 x0 x1 x2 x3 x4 x5).2.2.2.1) = delta x3 x5 := by
  unfold runA
  dsimp only
  rw [View.read_writes_of_cover arg14.view f arg14.view arg14.view.junk _ (View.cover_of_tiledL _ S8x512.size (by unfold runA.sl.HS2_8; sl_kernel_rfl))]
  exact rows_read c arg6 harg6 arg8 harg8 arg14 x3 x5
/-- The query gradient a point that starts a sequence leaves. -/
theorem dq_A (hc0 : cond0_0 i) (x0 : Vec F S4096x128 .bf16) (x1 x2 : Vec F S512x128 .bf16) (x3 : Vec F S4096x128 .bf16) (x4 : Vec F S8x4096 .f32) (x5 : Vec F S4096x128 .bf16) (f : BufTy.Contents (Elt F) arg9.view.ty) :
    arg9.view.read (Elt F) (arg9.view.writes (Elt F) f (runA c i arg3 harg3 arg4 harg4 arg5 harg5 arg6 harg6 arg7 harg7 arg8 harg8 arg9 harg9 arg10 harg10 arg11 harg11 arg12 harg12 arg13 harg13 arg14 harg14 hc0 x0 x1 x2 x3 x4 x5).1) = (point x1 x2 x0 x5 x4 (delta x3 x5) (i 2).val (lt8 i) k0_pay2).1 := by
  have hk : View.readAt (Elt F) arg4.view (Rect.unit (s := S512x128) ![0, 0] S512x128.size inb_S512x128_S512x128_0_0).toLoadRect (harg4.unread x1) = x1 := by
    rw [readAt_whole, harg4.read_unread]
  have hv : View.readAt (Elt F) arg5.view (Rect.unit (s := S512x128) ![0, 0] S512x128.size inb_S512x128_S512x128_0_0).toLoadRect (harg5.unread x2) = x2 := by
    rw [readAt_whole, harg5.read_unread]
  have hq : View.readAt (Elt F) arg3.view (Rect.unit (s := S4096x128) (k0_off1 i) S512x128.size (k0_off1_inb i)).toLoadRect (harg3.unread x0) = tile x0 _ (lt8 i) := by
    rw [readAt_tile arg3 _ _ (lt8 i) _ (k0_off1_eq i), harg3.read_unread]
  have hd : View.readAt (Elt F) arg8.view (Rect.unit (s := S4096x128) (k0_off1 i) S512x128.size (k0_off1_inb i)).toLoadRect (harg8.unread x5) = tile x5 _ (lt8 i) := by
    rw [readAt_tile arg8 _ _ (lt8 i) _ (k0_off1_eq i), harg8.read_unread]
  have hl : View.readAt (Elt F) arg7.view (Rect.unit (s := S8x4096) (k0_off2 i) S1x512.size (k0_off2_inb i)).toLoadRect (harg7.unread x4) = row x4 _ (lt8 i) := by
    rw [readAt_row arg7 _ _ (lt8 i) _ (k0_off2_eq i), harg7.read_unread]
  have hx := rows_read (F := F) c arg6 harg6 arg8 harg8 arg14 x3 x5
  have he : View.readAt (Elt F) arg14.view (Rect.unit (s := S8x4096) (k0_off2 i) S1x512.size (k0_off2_inb i)).toLoadRect (arg14.view.writes (Elt F) arg14.view.junk (runA.sl.HS2_8 (F := F) c arg6 harg6 arg8 harg8 x3 x5)) = row (delta x3 x5) _ (lt8 i) := by
    rw [readAt_row arg14 _ _ (lt8 i) _ (k0_off2_eq i), hx]
  have h0 : arg9.view.read (Elt F) (arg9.view.writes (Elt F) arg9.view.junk (runA.sl.H6_1 (F := F))) = k0_pay2 := View.read_writes_full _ _ _ _ _
  have h6 : View.readAt (Elt F) arg9.view (Rect.unit (s := S4096x128) (k0_off1 i) S512x128.size (k0_off1_inb i)).toLoadRect (arg9.view.writes (Elt F) arg9.view.junk (runA.sl.H6_1 (F := F))) = tile k0_pay2 _ (lt8 i) := by
    rw [readAt_tile arg9 _ _ (lt8 i) _ (k0_off1_eq i), h0]
  rw [View.read_writes_of_cover arg9.view f arg9.view arg9.view.junk _ (runA_cover6 c i arg3 harg3 arg4 harg4 arg5 harg5 arg6 harg6 arg7 harg7 arg8 harg8 arg9 harg9 arg10 harg10 arg11 harg11 arg12 harg12 arg13 harg13 arg14 harg14 hc0 x0 x1 x2 x3 x4 x5)]
  unfold runA
  dsimp only
  rw [← List.append_assoc, View.writes_append]
  refine (congrArg Prod.fst (ends c i arg3 harg3 arg4 harg4 arg5 harg5 arg6 harg6 arg7 harg7 arg8 harg8 arg9 harg9 arg10 harg10 arg11 harg11 arg12 harg12 arg13 harg13 arg14 harg14 _ _ _ _ _ _ _ _ x0 x4 x5 _ _ _ _ _ _ _ _ (s := first x1 x2 x0 x5 x4 (delta x3 x5) _ (lt8 i) k0_pay2) ?_ ?_ ?_)).trans ?_
  · refine (View.read_writes_cons_put _ _ _ _ _ (k0_off1_eq i)).trans ?_
    rw [h0, h6]
    unfold runA.sl.v38
    rw [he]
    sl_unfold_run_names
    rw [hk, hv, hd, hl, hq]
    rfl
  · unfold runA.sl.HS0_2 runA.sl.v38
    refine (View.read_writes_full _ _ _ _ _).trans ?_
    rw [he]
    sl_unfold_run_names
    rw [readCov_cons, hk, hv, hd, hl, hq]
    rfl
  · sl_unfold_run_names
    refine (View.read_writes_full _ _ _ _ _).trans ?_
    rw [readCov_cons, hk, hd, hl, hq]
    rfl
  ·
    rw [hx]
    sl_unfold_run_names
    rw [hk, hv]
    rfl

/-- The key gradient tile such a point leaves. -/
theorem dk_A (hc0 : cond0_0 i) (x0 : Vec F S4096x128 .bf16) (x1 x2 : Vec F S512x128 .bf16) (x3 : Vec F S4096x128 .bf16) (x4 : Vec F S8x4096 .f32) (x5 : Vec F S4096x128 .bf16) (f : BufTy.Contents (Elt F) arg10.view.ty) :
    arg10.view.read (Elt F) (arg10.view.writes (Elt F) f (runA c i arg3 harg3 arg4 harg4 arg5 harg5 arg6 harg6 arg7 harg7 arg8 harg8 arg9 harg9 arg10 harg10 arg11 harg11 arg12 harg12 arg13 harg13 arg14 harg14 hc0 x0 x1 x2 x3 x4 x5).2.1) = (point x1 x2 x0 x5 x4 (delta x3 x5) (i 2).val (lt8 i) k0_pay2).2.1 := by
  have hk : View.readAt (Elt F) arg4.view (Rect.unit (s := S512x128) ![0, 0] S512x128.size inb_S512x128_S512x128_0_0).toLoadRect (harg4.unread x1) = x1 := by
    rw [readAt_whole, harg4.read_unread]
  have hv : View.readAt (Elt F) arg5.view (Rect.unit (s := S512x128) ![0, 0] S512x128.size inb_S512x128_S512x128_0_0).toLoadRect (harg5.unread x2) = x2 := by
    rw [readAt_whole, harg5.read_unread]
  have hq : View.readAt (Elt F) arg3.view (Rect.unit (s := S4096x128) (k0_off1 i) S512x128.size (k0_off1_inb i)).toLoadRect (harg3.unread x0) = tile x0 _ (lt8 i) := by
    rw [readAt_tile arg3 _ _ (lt8 i) _ (k0_off1_eq i), harg3.read_unread]
  have hd : View.readAt (Elt F) arg8.view (Rect.unit (s := S4096x128) (k0_off1 i) S512x128.size (k0_off1_inb i)).toLoadRect (harg8.unread x5) = tile x5 _ (lt8 i) := by
    rw [readAt_tile arg8 _ _ (lt8 i) _ (k0_off1_eq i), harg8.read_unread]
  have hl : View.readAt (Elt F) arg7.view (Rect.unit (s := S8x4096) (k0_off2 i) S1x512.size (k0_off2_inb i)).toLoadRect (harg7.unread x4) = row x4 _ (lt8 i) := by
    rw [readAt_row arg7 _ _ (lt8 i) _ (k0_off2_eq i), harg7.read_unread]
  have hx := rows_read (F := F) c arg6 harg6 arg8 harg8 arg14 x3 x5
  have he : View.readAt (Elt F) arg14.view (Rect.unit (s := S8x4096) (k0_off2 i) S1x512.size (k0_off2_inb i)).toLoadRect (arg14.view.writes (Elt F) arg14.view.junk (runA.sl.HS2_8 (F := F) c arg6 harg6 arg8 harg8 x3 x5)) = row (delta x3 x5) _ (lt8 i) := by
    rw [readAt_row arg14 _ _ (lt8 i) _ (k0_off2_eq i), hx]
  have h0 : arg9.view.read (Elt F) (arg9.view.writes (Elt F) arg9.view.junk (runA.sl.H6_1 (F := F))) = k0_pay2 := View.read_writes_full _ _ _ _ _
  have h6 : View.readAt (Elt F) arg9.view (Rect.unit (s := S4096x128) (k0_off1 i) S512x128.size (k0_off1_inb i)).toLoadRect (arg9.view.writes (Elt F) arg9.view.junk (runA.sl.H6_1 (F := F))) = tile k0_pay2 _ (lt8 i) := by
    rw [readAt_tile arg9 _ _ (lt8 i) _ (k0_off1_eq i), h0]
  unfold runA
  dsimp only
  refine (View.read_writes_full _ _ _ _ _).trans ?_
  unfold runA.sl.v70 View.readCov
  rw [readAt_whole, ← List.append_assoc, View.writes_append]
  refine (congrArg (fun z => z.2.1) (ends c i arg3 harg3 arg4 harg4 arg5 harg5 arg6 harg6 arg7 harg7 arg8 harg8 arg9 harg9 arg10 harg10 arg11 harg11 arg12 harg12 arg13 harg13 arg14 harg14 _ _ _ _ _ _ _ _ x0 x4 x5 _ _ _ _ _ _ _ _ (s := first x1 x2 x0 x5 x4 (delta x3 x5) _ (lt8 i) k0_pay2) ?_ ?_ ?_)).trans ?_
  · refine (View.read_writes_cons_put _ _ _ _ _ (k0_off1_eq i)).trans ?_
    rw [h0, h6]
    unfold runA.sl.v38
    rw [he]
    sl_unfold_run_names
    rw [hk, hv, hd, hl, hq]
    rfl
  · unfold runA.sl.HS0_2 runA.sl.v38
    refine (View.read_writes_full _ _ _ _ _).trans ?_
    rw [he]
    sl_unfold_run_names
    rw [readCov_cons, hk, hv, hd, hl, hq]
    rfl
  · sl_unfold_run_names
    refine (View.read_writes_full _ _ _ _ _).trans ?_
    rw [readCov_cons, hk, hd, hl, hq]
    rfl
  ·
    rw [hx]
    sl_unfold_run_names
    rw [hk, hv]
    rfl

/-- The value gradient tile such a point leaves. -/
theorem dv_A (hc0 : cond0_0 i) (x0 : Vec F S4096x128 .bf16) (x1 x2 : Vec F S512x128 .bf16) (x3 : Vec F S4096x128 .bf16) (x4 : Vec F S8x4096 .f32) (x5 : Vec F S4096x128 .bf16) (f : BufTy.Contents (Elt F) arg11.view.ty) :
    arg11.view.read (Elt F) (arg11.view.writes (Elt F) f (runA c i arg3 harg3 arg4 harg4 arg5 harg5 arg6 harg6 arg7 harg7 arg8 harg8 arg9 harg9 arg10 harg10 arg11 harg11 arg12 harg12 arg13 harg13 arg14 harg14 hc0 x0 x1 x2 x3 x4 x5).2.2.1) = k0_pay1 (point x1 x2 x0 x5 x4 (delta x3 x5) (i 2).val (lt8 i) k0_pay2).2.2 := by
  have hk : View.readAt (Elt F) arg4.view (Rect.unit (s := S512x128) ![0, 0] S512x128.size inb_S512x128_S512x128_0_0).toLoadRect (harg4.unread x1) = x1 := by
    rw [readAt_whole, harg4.read_unread]
  have hv : View.readAt (Elt F) arg5.view (Rect.unit (s := S512x128) ![0, 0] S512x128.size inb_S512x128_S512x128_0_0).toLoadRect (harg5.unread x2) = x2 := by
    rw [readAt_whole, harg5.read_unread]
  have hq : View.readAt (Elt F) arg3.view (Rect.unit (s := S4096x128) (k0_off1 i) S512x128.size (k0_off1_inb i)).toLoadRect (harg3.unread x0) = tile x0 _ (lt8 i) := by
    rw [readAt_tile arg3 _ _ (lt8 i) _ (k0_off1_eq i), harg3.read_unread]
  have hd : View.readAt (Elt F) arg8.view (Rect.unit (s := S4096x128) (k0_off1 i) S512x128.size (k0_off1_inb i)).toLoadRect (harg8.unread x5) = tile x5 _ (lt8 i) := by
    rw [readAt_tile arg8 _ _ (lt8 i) _ (k0_off1_eq i), harg8.read_unread]
  have hl : View.readAt (Elt F) arg7.view (Rect.unit (s := S8x4096) (k0_off2 i) S1x512.size (k0_off2_inb i)).toLoadRect (harg7.unread x4) = row x4 _ (lt8 i) := by
    rw [readAt_row arg7 _ _ (lt8 i) _ (k0_off2_eq i), harg7.read_unread]
  have hx := rows_read (F := F) c arg6 harg6 arg8 harg8 arg14 x3 x5
  have he : View.readAt (Elt F) arg14.view (Rect.unit (s := S8x4096) (k0_off2 i) S1x512.size (k0_off2_inb i)).toLoadRect (arg14.view.writes (Elt F) arg14.view.junk (runA.sl.HS2_8 (F := F) c arg6 harg6 arg8 harg8 x3 x5)) = row (delta x3 x5) _ (lt8 i) := by
    rw [readAt_row arg14 _ _ (lt8 i) _ (k0_off2_eq i), hx]
  have h0 : arg9.view.read (Elt F) (arg9.view.writes (Elt F) arg9.view.junk (runA.sl.H6_1 (F := F))) = k0_pay2 := View.read_writes_full _ _ _ _ _
  have h6 : View.readAt (Elt F) arg9.view (Rect.unit (s := S4096x128) (k0_off1 i) S512x128.size (k0_off1_inb i)).toLoadRect (arg9.view.writes (Elt F) arg9.view.junk (runA.sl.H6_1 (F := F))) = tile k0_pay2 _ (lt8 i) := by
    rw [readAt_tile arg9 _ _ (lt8 i) _ (k0_off1_eq i), h0]
  unfold runA
  dsimp only
  refine (View.read_writes_full _ _ _ _ _).trans ?_
  unfold runA.sl.v72 View.readCov
  rw [readAt_whole, ← List.append_assoc, View.writes_append]
  refine congrArg k0_pay1 ((congrArg (fun z => z.2.2) (ends c i arg3 harg3 arg4 harg4 arg5 harg5 arg6 harg6 arg7 harg7 arg8 harg8 arg9 harg9 arg10 harg10 arg11 harg11 arg12 harg12 arg13 harg13 arg14 harg14 _ _ _ _ _ _ _ _ x0 x4 x5 _ _ _ _ _ _ _ _ (s := first x1 x2 x0 x5 x4 (delta x3 x5) _ (lt8 i) k0_pay2) ?_ ?_ ?_)).trans ?_)
  · refine (View.read_writes_cons_put _ _ _ _ _ (k0_off1_eq i)).trans ?_
    rw [h0, h6]
    unfold runA.sl.v38
    rw [he]
    sl_unfold_run_names
    rw [hk, hv, hd, hl, hq]
    rfl
  · unfold runA.sl.HS0_2 runA.sl.v38
    refine (View.read_writes_full _ _ _ _ _).trans ?_
    rw [he]
    sl_unfold_run_names
    rw [readCov_cons, hk, hv, hd, hl, hq]
    rfl
  · sl_unfold_run_names
    refine (View.read_writes_full _ _ _ _ _).trans ?_
    rw [readCov_cons, hk, hd, hl, hq]
    rfl
  ·
    rw [hx]
    sl_unfold_run_names
    rw [hk, hv]
    rfl

end Point

end Cert.KernelIdeal.Back
-- ==== Proof.BwdFrame.lean ====
/-
  The backward call as a whole: what its buffers hold at every grid point, that its body does that, and the frame claim.

  The query gradient of a sequence and its row sums are carried from key tile to key tile: the first key tile of a
  sequence sets them up and the others continue from what the point before left.
-/
module

public import proofs.«01_k».proof.Proof.BwdOut
public import proofs.«01_k».proof.Proof.Gen.KernelIdeal.Frame
public import Idealize.ShloMosaic.Lib.Claim

@[expose] public section

set_option maxRecDepth 16384

noncomputable section

namespace Cert.KernelIdeal.Back

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What is carried and left at each point: the row sums of the sequence, its query gradient so far, and the tile sums
for the key and value gradients. -/
def outsAt0 (c : Dev nD) : (n : ℕ) → n < cfg0.N → Vec F S8x4096 .f32 × St F
  | 0, hn => (delta (iblk m c 3 ⟨0, hn⟩) (iblk m c 5 ⟨0, hn⟩), point (iblk m c 1 ⟨0, hn⟩) (iblk m c 2 ⟨0, hn⟩) (iblk m c 0 ⟨0, hn⟩) (iblk m c 5 ⟨0, hn⟩) (iblk m c 4 ⟨0, hn⟩) (delta (iblk m c 3 ⟨0, hn⟩) (iblk m c 5 ⟨0, hn⟩)) (grid0.coords ⟨0, hn⟩ 2).val (lt8 (grid0.coords ⟨0, hn⟩)) k0_pay2)
  | n + 1, hn =>
    if (n + 1) % 8 = 0 then (delta (iblk m c 3 ⟨n + 1, hn⟩) (iblk m c 5 ⟨n + 1, hn⟩), point (iblk m c 1 ⟨n + 1, hn⟩) (iblk m c 2 ⟨n + 1, hn⟩) (iblk m c 0 ⟨n + 1, hn⟩) (iblk m c 5 ⟨n + 1, hn⟩) (iblk m c 4 ⟨n + 1, hn⟩) (delta (iblk m c 3 ⟨n + 1, hn⟩) (iblk m c 5 ⟨n + 1, hn⟩)) (grid0.coords ⟨n + 1, hn⟩ 2).val (lt8 (grid0.coords ⟨n + 1, hn⟩)) k0_pay2)
    else ((outsAt0 c n (Nat.lt_of_succ_lt hn)).1, point (iblk m c 1 ⟨n + 1, hn⟩) (iblk m c 2 ⟨n + 1, hn⟩) (iblk m c 0 ⟨n + 1, hn⟩) (iblk m c 5 ⟨n + 1, hn⟩) (iblk m c 4 ⟨n + 1, hn⟩) (outsAt0 c n (Nat.lt_of_succ_lt hn)).1 (grid0.coords ⟨n + 1, hn⟩ 2).val (lt8 (grid0.coords ⟨n + 1, hn⟩)) (outsAt0 c n (Nat.lt_of_succ_lt hn)).2.1)

theorem outsAt0_A (c : Dev nD) (t : Fin cfg0.N) (h0 : t.val % 8 = 0) :
    outsAt0 m c t.val t.isLt = (delta (iblk m c 3 t) (iblk m c 5 t), point (iblk m c 1 t) (iblk m c 2 t) (iblk m c 0 t) (iblk m c 5 t) (iblk m c 4 t) (delta (iblk m c 3 t) (iblk m c 5 t)) (grid0.coords t 2).val (lt8 (grid0.coords t)) k0_pay2) := by
  obtain ⟨n, hn⟩ := t
  cases n with
  | zero => exact rfl
  | succ n => exact (if_pos h0).trans rfl

theorem outsAt0_B (c : Dev nD) (t : Fin cfg0.N) (h0 : ¬t.val % 8 = 0) :
    outsAt0 m c t.val t.isLt = ((outsAt0 m c (t.val - 1) (Nat.lt_of_le_of_lt (Nat.sub_le _ _) t.isLt)).1, point (iblk m c 1 t) (iblk m c 2 t) (iblk m c 0 t) (iblk m c 5 t) (iblk m c 4 t) (outsAt0 m c (t.val - 1) (Nat.lt_of_le_of_lt (Nat.sub_le _ _) t.isLt)).1 (grid0.coords t 2).val (lt8 (grid0.coords t)) (outsAt0 m c (t.val - 1) (Nat.lt_of_le_of_lt (Nat.sub_le _ _) t.isLt)).2.1) := by
  obtain ⟨n, hn⟩ := t
  cases n with
  | zero => exact absurd (Nat.zero_mod _) h0
  | succ n => exact (if_neg h0).trans rfl

/-- The region's invariant before position `n`: the carried row sums at what the point before left, the other scratch at
anything. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare (outsAt0 m c n hn).1) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ owns (c : Thread nD τ) scM0_2 fullShare (outsAt0 m c n hn).1) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare (outsAt0 m c (n - 1) (by omega)).1) ∗ (∃ r, prngReg c r)) := by
  cases n with
  | zero => exact absurd rfl hz
  | succ n => rfl

/-- The contents of every window's buffer after the body, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).2.1
    | ⟨7, _⟩ => (outsAt0 m c t.val t.isLt).2.2.1
    | ⟨8, _⟩ => k0_pay1 (outsAt0 m c t.val t.isLt).2.2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = k0_pay1 (outsAt0 m c t.val t.isLt).2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- A point that continues a sequence finds the query gradient the point before left. -/
theorem before0_6_B (c : Dev nD) (t : Fin cfg0.N) (h0 : ¬t.val % 8 = 0) (d) :
    (dats m 0 c).before 6 t d = (outsAt0 m c (t.val - 1) (Nat.lt_of_le_of_lt (Nat.sub_le _ _) t.isLt)).2.1 := by
  have hN : t.val < 128 := lt_of_lt_of_eq t.isLt (show cfg0.N = 128 from N_0)
  rw [Dat.before_out_kept _ 6 rfl t (by omega) (Bool.eq_false_iff.mpr fun h => by have := (flush0_6 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 128 := lt_of_lt_of_eq t.isLt (show cfg0.N = 128 from N_0)
  by_cases h0 : t.val % 8 = 0
  · by_cases hz : t.val = 0
    · rw [PhiS_castSucc m c t, PhiS_zero m c _ _ hz, PhiA0_eq]
      rw [outsAt0_A m c t h0]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, H5, ⟨%e6, H6⟩, ⟨%e7, H7⟩, ⟨%e8, H8⟩, HS0, HS1, ⟨%es2, HS2⟩⟩
      isplitl [HS0 HS1 HS2 Hg]
      · isplitl [HS0 HS1 HS2]
        · isplitl [HS0]
          · iexact HS0
          isplitl [HS1]
          · iexact HS1
          unfold owns; iexists _; isplitr
          swap; · iexact HS2
          ipureintro; exact rows_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact dq_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) _
      isplitl [H7]
      · unfold owns; iexists _; isplitr
        swap; · iexact H7
        ipureintro; exact dk_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) _
      unfold owns; iexists _; isplitr
      swap; · iexact H8
      ipureintro; exact dv_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) _
    · rw [PhiS_castSucc m c t, PhiS_pos m c _ _ hz]
      rw [outsAt0_A m c t h0]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      isplitl [HS2]; · iexists _; iexact HS2
      iintro ⟨H0, H1, H2, H3, H4, H5, ⟨%e6, H6⟩, ⟨%e7, H7⟩, ⟨%e8, H8⟩, HS0, HS1, ⟨%es2, HS2⟩⟩
      isplitl [HS0 HS1 HS2 Hg]
      · isplitl [HS0 HS1 HS2]
        · isplitl [HS0]
          · iexact HS0
          isplitl [HS1]
          · iexact HS1
          unfold owns; iexists _; isplitr
          swap; · iexact HS2
          ipureintro; exact rows_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact dq_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) _
      isplitl [H7]
      · unfold owns; iexists _; isplitr
        swap; · iexact H7
        ipureintro; exact dk_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) _
      unfold owns; iexists _; isplitr
      swap; · iexact H8
      ipureintro; exact dv_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) _
  · by_cases hz : t.val = 0
    · exfalso; omega
    · rw [PhiS_castSucc m c t, PhiS_pos m c _ _ hz]
      rw [outsAt0_B m c t h0]
      simp only [before0_6_B m c t h0]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, H5, H6, ⟨%e7, H7⟩, ⟨%e8, H8⟩, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact dq_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) _ _
      isplitl [H7]
      · unfold owns; iexists _; isplitr
        swap; · iexact H7
        ipureintro; exact dk_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) _ _ _
      unfold owns; iexists _; isplitr
      swap; · iexact H8
      ipureintro; exact dv_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 128 := N_0; omega)

set_option backward.isDefEq.respectTransparency.types false in
set_option maxHeartbeats 800000 in
/-- The program terminates with the contents above, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged, and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Back

end
-- ==== Proof.BwdTile.lean ====
/-
  The backward kernel's payloads on the extended reals: one tile of keys against one tile of queries.
-/
module

public import proofs.«01_k».proof.Proof.BwdBody
public import proofs.«01_k».proof.Proof.Softmax

@[expose] public section

noncomputable section

open Idealize.ShloMosaic Idealize.ShloMosaic.TcCoe Idealize.SL.Sem

namespace Cert.KernelIdeal.Back

open Cert.KernelIdeal Cert.KernelIdeal.Gen Cert.Softmax

/-- The mask constant is named `⊥`. -/
theorem mask_bot : Named.named (F := Ideal) κ "mask" (φ := .f32) 0xF149F2CA#32 = (⊥ : EReal) :=
  IdealRules.named_const.ideal_named_scalar _ _ _ _ rfl

/-- A key tile's row against a query tile's row. -/
def dotp (k q : Vec Ideal S512x128 .bf16) (c r : Fin 512) : EReal := ∑ e : Fin 128, k (ix2 c e) * q (ix2 r e)

theorem pay28_eq (k : Vec Ideal S512x128 .bf16) (c : Fin 512) (e : Fin 128) : k0_pay28 (F := Ideal) k (ix2 c e) = k (ix2 c e) := by
  pointwise [k0_pay28]

theorem pay29_eq (k : Vec Ideal S512x128 .bf16) (c : Fin 512) (e : Fin 128) : k0_pay29 (F := Ideal) k (ix2 c e) = k (ix2 c e) := by
  pointwise [k0_pay29]

theorem pay1_at (a : Vec Ideal S512x128 .f32) (c : Fin 512) (e : Fin 128) : k0_pay1 (F := Ideal) a (ix2 c e) = a (ix2 c e) := by
  pointwise [k0_pay1]

theorem pay2_at (r : Fin 4096) (e : Fin 128) : k0_pay2 (F := Ideal) (ix2 r e) = 0 := by
  pointwise [k0_pay2]

theorem pay30_at (r : Fin 512) (e : Fin 128) : k0_pay30 (F := Ideal) (ix2 r e) = 0 := by
  pointwise [k0_pay30]

theorem pay31_at (r : Fin 512) (e : Fin 128) : k0_pay31 (F := Ideal) (ix2 r e) = 0 := by
  pointwise [k0_pay31]

theorem pay3_at (d o : Vec Ideal S512x128 .bf16) (a : Fin 8) (r : Fin 512) :
    k0_pay3 (F := Ideal) d o (ix2 a r) = ∑ e : Fin 128, d (ix2 r e) * o (ix2 r e) := by
  pointwise [k0_pay3]

theorem pay15_at (k q : Vec Ideal S512x128 .bf16) (l : Vec Ideal S1x512 .f32) (c r : Fin 512) :
    k0_pay15 (F := Ideal) (k0_pay28 k) q l (ix2 c r) = Ideal.exp (dotp k q c r - l (ix2 0 r)) := by
  pointwise [k0_pay15, k0_pay13, k0_pay28]
  rfl

theorem pay16_at (k v q d : Vec Ideal S512x128 .bf16) (l dl : Vec Ideal S1x512 .f32) (c r : Fin 512) :
    k0_pay16 (F := Ideal) (k0_pay28 k) (k0_pay29 v) q d l dl (ix2 c r)
      = k0_pay15 (k0_pay28 k) q l (ix2 c r) * (dotp v d c r - dl (ix2 0 r)) := by
  pointwise [k0_pay16, k0_pay14, k0_pay29]
  rfl

theorem pay17_at (k q d : Vec Ideal S512x128 .bf16) (l : Vec Ideal S1x512 .f32) (a : Vec Ideal S512x128 .f32) (c : Fin 512) (e : Fin 128) :
    k0_pay17 (F := Ideal) (k0_pay28 k) q d l a (ix2 c e)
      = a (ix2 c e) + ∑ r : Fin 512, k0_pay15 (F := Ideal) (k0_pay28 k) q l (ix2 c r) * d (ix2 r e) := by
  pointwise [k0_pay17, k0_pay14]

theorem pay18_at (k v q d : Vec Ideal S512x128 .bf16) (l dl : Vec Ideal S1x512 .f32) (a : Vec Ideal S512x128 .f32) (c : Fin 512) (e : Fin 128) :
    k0_pay18 (F := Ideal) (k0_pay28 k) (k0_pay29 v) q d l dl a (ix2 c e)
      = a (ix2 c e) + ∑ r : Fin 512, k0_pay16 (F := Ideal) (k0_pay28 k) (k0_pay29 v) q d l dl (ix2 c r) * q (ix2 r e) := by
  pointwise [k0_pay18, k0_pay13]

theorem pay39_at (k : Vec Ideal S512x128 .bf16) (s : Vec Ideal ⟨2, ![512, 512]⟩ .f32) (a : Vec Ideal S512x128 .f32) (r : Fin 512) (e : Fin 128) :
    k0_pay39 (F := Ideal) (k0_pay28 k) s (k0_pay19 a) (ix2 r e) = a (ix2 r e) + ∑ c : Fin 512, s (ix2 c r) * k (ix2 c e) := by
  pointwise [k0_pay39, k0_pay19, k0_pay28]

theorem pay34_at (k q : Vec Ideal S512x128 .bf16) (l : Vec Ideal S1x512 .f32) (c r : Fin 512) :
    k0_pay34 (F := Ideal) k q l (ix2 c r) = Ideal.exp ((if c.val ≤ r.val then dotp k q c r else ⊥) - l (ix2 0 r)) := by
  pointwise [k0_pay34, k0_pay32, k0_pay28]
  have hc : (IntOp.cmpi CmpIPredicate.sge (BitVec.ofNat 32 r.val) (BitVec.ofNat 32 c.val)) = if c.val ≤ r.val then 1#1 else 0#1 := by
    have h1 : (BitVec.ofNat 32 c.val).toInt = c.val := by
      rw [BitVec.toInt_ofNat']; have := c.isLt; simp [Int.bmod]; omega
    have h2 : (BitVec.ofNat 32 r.val).toInt = r.val := by
      rw [BitVec.toInt_ofNat']; have := r.isLt; simp [Int.bmod]; omega
    simp only [IntOp.cmpi, BitVec.sle, h1, h2]
    by_cases h : c.val ≤ r.val <;> simp [h]
  rw [hc, mask_bot]
  unfold dotp
  split <;> rfl

theorem pay35_at (v d : Vec Ideal S512x128 .bf16) (p : Vec Ideal ⟨2, ![512, 512]⟩ .bf16) (dl : Vec Ideal S1x512 .f32) (c r : Fin 512) :
    k0_pay35 (F := Ideal) (k0_pay29 v) (k0_pay33 d) p dl (ix2 c r) = p (ix2 c r) * (dotp v d c r - dl (ix2 0 r)) := by
  pointwise [k0_pay35, k0_pay29, k0_pay33]
  rfl

theorem pay36_at (d : Vec Ideal S512x128 .bf16) (p : Vec Ideal ⟨2, ![512, 512]⟩ .bf16) (a : Vec Ideal S512x128 .f32) (c : Fin 512) (e : Fin 128) :
    k0_pay36 (F := Ideal) (k0_pay33 d) p a (ix2 c e) = a (ix2 c e) + ∑ r : Fin 512, p (ix2 c r) * d (ix2 r e) := by
  pointwise [k0_pay36, k0_pay33]

theorem pay37_at (v q d : Vec Ideal S512x128 .bf16) (p : Vec Ideal ⟨2, ![512, 512]⟩ .bf16) (dl : Vec Ideal S1x512 .f32) (a : Vec Ideal S512x128 .f32) (c : Fin 512) (e : Fin 128) :
    k0_pay37 (F := Ideal) (k0_pay29 v) (k0_pay32 q) (k0_pay33 d) p dl a (ix2 c e)
      = a (ix2 c e) + ∑ r : Fin 512, k0_pay35 (F := Ideal) (k0_pay29 v) (k0_pay33 d) p dl (ix2 c r) * q (ix2 r e) := by
  pointwise [k0_pay37, k0_pay32]

theorem pay38_at (k v d : Vec Ideal S512x128 .bf16) (p : Vec Ideal ⟨2, ![512, 512]⟩ .bf16) (dl : Vec Ideal S1x512 .f32) (a : Vec Ideal S512x128 .f32) (r : Fin 512) (e : Fin 128) :
    k0_pay38 (F := Ideal) (k0_pay28 k) (k0_pay29 v) (k0_pay33 d) p dl a (ix2 r e)
      = a (ix2 r e) + ∑ c : Fin 512, k0_pay35 (F := Ideal) (k0_pay29 v) (k0_pay33 d) p dl (ix2 c r) * k (ix2 c e) := by
  pointwise [k0_pay38, k0_pay28]

end Cert.KernelIdeal.Back

end
-- ==== Proof.BwdPoint.lean ====
/-
  What one grid point of the backward kernel computes where its blocks hold reals: the weights of its key tile against
  every query row of the sequence, and the three sums over them.
-/
module

public import proofs.«01_k».proof.Proof.BwdTile

@[expose] public section

noncomputable section

open Idealize.ShloMosaic Idealize.ShloMosaic.TcCoe Idealize.SL.Sem

namespace Cert.KernelIdeal.Back

open Cert.KernelIdeal Cert.KernelIdeal.Gen Cert.Softmax

/-- The reals a point's blocks hold: a tile of keys and values, and the sequence's queries, output gradients, row totals
and row sums. -/
structure Nums where
  k : Fin 512 → Fin 128 → ℝ
  v : Fin 512 → Fin 128 → ℝ
  q : ℕ → Fin 128 → ℝ
  d : ℕ → Fin 128 → ℝ
  l : ℕ → ℝ
  δ : ℕ → ℝ

/-- The product of two rows. -/
def dotR (a b : Fin 128 → ℝ) : ℝ := ∑ e, a e * b e

/-- Key `c` of tile `j`'s weight in query row `r`. -/
def Nums.p (R : Nums) (j : ℕ) (c : Fin 512) (r : ℕ) : ℝ :=
  if 512 * j + c.val ≤ r then Real.exp (dotR (R.k c) (R.q r) - R.l r) else 0

/-- Its score's gradient. -/
def Nums.ds (R : Nums) (j : ℕ) (c : Fin 512) (r : ℕ) : ℝ := R.p j c r * (dotR (R.v c) (R.d r) - R.δ r)

/-- The blocks hold those reals. -/
structure Nums.Holds (R : Nums) (k v : Vec Ideal S512x128 .bf16) (q d : Vec Ideal S4096x128 .bf16) (l dl : Vec Ideal S8x4096 .f32) : Prop where
  k : ∀ c e, k (ix2 c e) = (R.k c e : EReal)
  v : ∀ c e, v (ix2 c e) = (R.v c e : EReal)
  q : ∀ r (h : r < 4096) e, q (ix2 ⟨r, h⟩ e) = (R.q r e : EReal)
  d : ∀ r (h : r < 4096) e, d (ix2 ⟨r, h⟩ e) = (R.d r e : EReal)
  l : ∀ r (h : r < 4096), l (ix2 0 ⟨r, h⟩) = (R.l r : EReal)
  δ : ∀ r (h : r < 4096), dl (ix2 0 ⟨r, h⟩) = (R.δ r : EReal)

theorem put_at (X : Vec Ideal S4096x128 .f32) (j : ℕ) (w : Vec Ideal S512x128 .f32) (r : ℕ) (hr : r < 4096) (e : Fin 128) :
    put X j w (ix2 ⟨r, hr⟩ e) = if h : 512 * j ≤ r ∧ r < 512 * j + 512 then w (ix2 ⟨r - 512 * j, by omega⟩ e) else X (ix2 ⟨r, hr⟩ e) := by
  unfold put VecWindow.put
  by_cases h : 512 * j ≤ r ∧ r < 512 * j + 512
  · rw [dif_pos h, dif_pos (fun a => by
      match a with
      | ⟨0, _⟩ => exact h
      | ⟨1, _⟩ => exact ⟨Nat.zero_le _, by show e.val < 0 + 128; omega⟩)]
    refine congrArg w (funext fun a => Fin.ext ?_)
    match a with
    | ⟨0, _⟩ => rfl
    | ⟨1, _⟩ => rfl
  · rw [dif_neg h, dif_neg (fun hall => h (hall 0))]

theorem dotp_real (k q : Vec Ideal S512x128 .bf16) (c r : Fin 512) (kR qR : Fin 128 → ℝ) (hk : ∀ e, k (ix2 c e) = (kR e : EReal))
    (hq : ∀ e, q (ix2 r e) = (qR e : EReal)) : dotp k q c r = (dotR kR qR : EReal) := by
  unfold dotp dotR
  rw [coe_sum]
  exact Finset.sum_congr rfl fun e _ => by rw [hk, hq, EReal.coe_mul]

/-- A real plus a sum of products of reals. -/
theorem add_sum_real {K : Type} [Fintype K] (a : EReal) (f g : K → EReal) (aR : ℝ) (fR gR : K → ℝ) (ha : a = (aR : EReal))
    (hf : ∀ x, f x = (fR x : EReal)) (hg : ∀ x, g x = (gR x : EReal)) : a + ∑ x, f x * g x = ((aR + ∑ x, fR x * gR x : ℝ) : EReal) := by
  rw [EReal.coe_add, coe_sum, ha]
  congr 1
  exact Finset.sum_congr rfl fun x _ => by rw [hf, hg, EReal.coe_mul]

theorem sum_tile (f : ℕ → ℝ) (t : ℕ) :
    (∑ r ∈ Finset.range (512 * t), f r) + ∑ r : Fin 512, f (512 * t + r.val) = ∑ r ∈ Finset.range (512 * (t + 1)), f r := by
  rw [show 512 * (t + 1) = 512 * t + 512 by ring, Finset.sum_range_add, Finset.sum_range (fun x => f (512 * t + x))]

section Point

variable {R : Nums} {k v : Vec Ideal S512x128 .bf16} {q d : Vec Ideal S4096x128 .bf16} {l dl : Vec Ideal S8x4096 .f32}
variable (j : ℕ) (sR : ℕ → Fin 128 → ℝ)

/-- The state once the query rows before `n` are done. -/
structure Done (R : Nums) (j : ℕ) (sR : ℕ → Fin 128 → ℝ) (s : St Ideal) (n : ℕ) : Prop where
  q : ∀ r (h : r < 4096) e, s.1 (ix2 ⟨r, h⟩ e) = ((sR r e + if r < n then ∑ c, R.ds j c r * R.k c e else 0 : ℝ) : EReal)
  k : ∀ c e, s.2.1 (ix2 c e) = ((∑ r ∈ Finset.range n, R.ds j c r * R.q r e : ℝ) : EReal)
  v : ∀ c e, s.2.2 (ix2 c e) = ((∑ r ∈ Finset.range n, R.p j c r * R.d r e : ℝ) : EReal)

/-- One query tile more. -/
theorem Done.tile (H : R.Holds k v q d l dl) {s s' : St Ideal} {t : ℕ} (ht : t < 8) (hs : Done R j sR s (512 * t))
    (P : Vec Ideal ⟨2, ![512, 512]⟩ .bf16) (D : Vec Ideal ⟨2, ![512, 512]⟩ .f32) (hP : ∀ c r : Fin 512, P (ix2 c r) = (R.p j c (512 * t + r.val) : EReal))
    (hD : ∀ c r : Fin 512, D (ix2 c r) = P (ix2 c r) * (dotp v (tile d t ht) c r - row dl t ht (ix2 0 r)))
    (w : Vec Ideal S512x128 .f32) (h1 : s'.1 = put s.1 t w)
    (hw : ∀ (r : Fin 512) e, w (ix2 r e) = Back.tile s.1 t ht (ix2 r e) + ∑ c : Fin 512, D (ix2 c r) * k (ix2 c e))
    (h2 : ∀ c e, s'.2.1 (ix2 c e) = s.2.1 (ix2 c e) + ∑ r : Fin 512, D (ix2 c r) * Back.tile q t ht (ix2 r e))
    (h3 : ∀ c e, s'.2.2 (ix2 c e) = s.2.2 (ix2 c e) + ∑ r : Fin 512, P (ix2 c r) * Back.tile d t ht (ix2 r e)) :
    Done R j sR s' (512 * (t + 1)) := by
  have hDR : ∀ c r : Fin 512, D (ix2 c r) = (R.ds j c (512 * t + r.val) : EReal) := fun c r => by
    rw [hD, hP, dotp_real v (Back.tile d t ht) c r (R.v c) (R.d (512 * t + r.val)) (H.v c) (fun e => H.d _ _ e),
      show row dl t ht (ix2 0 r) = (R.δ (512 * t + r.val) : EReal) from H.δ _ _, ← EReal.coe_sub, ← EReal.coe_mul]
    rfl
  refine ⟨fun r hr e => ?_, fun c e => ?_, fun c e => ?_⟩
  · rw [h1, put_at]
    split
    · rename_i h
      rw [hw, add_sum_real _ _ _ (sR r e) (fun c => R.ds j c r) (fun c => R.k c e) ?_ (fun c => ?_) (fun c => H.k c e), if_pos (by omega)]
      · show s.1 (ix2 ⟨512 * t + (r - 512 * t), _⟩ e) = _
        have e1 : (⟨512 * t + (r - 512 * t), by omega⟩ : Fin 4096) = ⟨r, hr⟩ := Fin.ext (by dsimp; omega)
        rw [e1, hs.q, if_neg (by omega), add_zero]
      · rw [hDR]
        have e1 : 512 * t + (r - 512 * t) = r := by omega
        dsimp only
        rw [e1]
    · rename_i h
      rw [hs.q]
      by_cases h' : r < 512 * t
      · rw [if_pos h', if_pos (by omega)]
      · rw [if_neg h', if_neg (by omega)]
  · rw [h2, ← sum_tile (fun r => R.ds j c r * R.q r e)]
    exact add_sum_real _ _ _ _ (fun r : Fin 512 => R.ds j c (512 * t + r.val)) (fun r : Fin 512 => R.q (512 * t + r.val) e) (hs.k c e)
      (fun r => hDR c r) (fun r => H.q _ _ e)
  · rw [h3, ← sum_tile (fun r => R.p j c r * R.d r e)]
    exact add_sum_real _ _ _ _ (fun r : Fin 512 => R.p j c (512 * t + r.val)) (fun r : Fin 512 => R.d (512 * t + r.val) e) (hs.v c e)
      (fun r => hP c r) (fun r => H.d _ _ e)

theorem p_below (R : Nums) (j : ℕ) (c : Fin 512) (r : ℕ) (h : r < 512 * j) : R.p j c r = 0 := if_neg (by omega)

theorem ds_below (R : Nums) (j : ℕ) (c : Fin 512) (r : ℕ) (h : r < 512 * j) : R.ds j c r = 0 := by
  rw [Nums.ds, p_below R j c r h, zero_mul]

/-- After the masked tile on the diagonal. -/
theorem first_done (H : R.Holds k v q d l dl) (hj : j < 8) (s : Vec Ideal S4096x128 .f32) (hs : ∀ r (h : r < 4096) e, s (ix2 ⟨r, h⟩ e) = (sR r e : EReal)) :
    Done R j sR (first k v q d l dl j hj s) (512 * (j + 1)) := by
  have h0 : Done R j sR (s, k0_pay30 (F := Ideal), k0_pay31 (F := Ideal)) (512 * j) := by
    refine ⟨fun r hr e => ?_, fun c e => ?_, fun c e => ?_⟩
    · show s (ix2 ⟨r, hr⟩ e) = _
      rw [hs]
      by_cases h : r < 512 * j
      · rw [if_pos h, Finset.sum_eq_zero (fun c _ => by rw [ds_below R j c r h, zero_mul]), add_zero]
      · rw [if_neg h, add_zero]
    · rw [Finset.sum_eq_zero (fun r hr => by rw [ds_below R j c r (Finset.mem_range.1 hr), zero_mul])]
      exact pay30_at c e
    · rw [Finset.sum_eq_zero (fun r hr => by rw [p_below R j c r (Finset.mem_range.1 hr), zero_mul])]
      exact pay31_at c e
  refine h0.tile j sR H hj (k0_pay34 k (tile q j hj) (row l j hj))
    (k0_pay35 (k0_pay29 v) (k0_pay33 (tile d j hj)) (k0_pay34 k (tile q j hj) (row l j hj)) (row dl j hj))
    (fun c r => ?_) (fun c r => pay35_at v _ _ _ c r) _ rfl (fun r e => pay38_at k v _ _ _ _ r e) (fun c e => pay37_at v _ _ _ _ _ c e)
    (fun c e => pay36_at _ _ _ c e)
  rw [pay34_at, show row l j hj (ix2 0 r) = (R.l (512 * j + r.val) : EReal) from H.l _ _]
  by_cases h : c.val ≤ r.val
  · rw [if_pos h, dotp_real k (tile q j hj) c r (R.k c) (R.q (512 * j + r.val)) (H.k c) (fun e => H.q _ _ e), Nums.p, if_pos (by omega), ← EReal.coe_sub]
    rfl
  · rw [if_neg h, Nums.p, if_neg (by omega), EReal.bot_sub]
    rfl

/-- After `n` tiles more. -/
theorem steps_done (H : R.Holds k v q d l dl) (s : St Ideal) (hs : Done R j sR s (512 * (j + 1))) :
    ∀ (n : ℕ) (hn : j + n ≤ 7), Done R j sR (steps (k0_pay28 k) (k0_pay29 v) q d l dl s j n hn) (512 * (j + 1 + n))
  | 0, _ => hs
  | n + 1, hn => by
    have ih := steps_done H s hs n (by omega)
    have ht : j + 1 + n < 8 := by omega
    refine Done.tile (t := j + 1 + n) j sR H ht ih (k0_pay15 (k0_pay28 k) (tile q _ ht) (row l _ ht))
      (k0_pay16 (k0_pay28 k) (k0_pay29 v) (tile q _ ht) (tile d _ ht) (row l _ ht) (row dl _ ht))
      (fun c r => ?_) (fun c r => pay16_at k v _ _ _ _ c r) _ rfl (fun r e => pay39_at k _ _ r e) (fun c e => pay18_at k v _ _ _ _ _ c e)
      (fun c e => pay17_at k _ _ _ _ c e)
    have hle : 512 * j + c.val ≤ 512 * (j + 1 + n) + r.val := by have := c.isLt; omega
    rw [pay15_at, show row l _ ht (ix2 0 r) = (R.l (512 * (j + 1 + n) + r.val) : EReal) from H.l _ _,
      dotp_real k (tile q _ ht) c r (R.k c) (R.q (512 * (j + 1 + n) + r.val)) (H.k c) (fun e => H.q _ _ e), Nums.p, if_pos hle, ← EReal.coe_sub]
    rfl

/-- What a point leaves. -/
theorem point_done (H : R.Holds k v q d l dl) (hj : j < 8) (s : Vec Ideal S4096x128 .f32) (hs : ∀ r (h : r < 4096) e, s (ix2 ⟨r, h⟩ e) = (sR r e : EReal)) :
    Done R j sR (point k v q d l dl j hj s) 4096 := by
  have h := steps_done j sR H _ (first_done j sR H hj s hs) (7 - j) (by omega)
  rw [show 512 * (j + 1 + (7 - j)) = 4096 by omega] at h
  exact h

end Point

end Cert.KernelIdeal.Back

end
-- ==== Proof.BwdHost.lean ====
/-
  What the backward kernel's host lines pass to the kernel: the padded rows, and plain attention's output and row totals.
-/
module

public import proofs.«01_k».proof.Proof.Gen.KernelIdeal.Frame
public import proofs.«01_k».proof.Proof.Gen.ForwardReferenceIdeal.Read
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem

namespace Cert.KernelIdeal.Back

open Cert.KernelIdeal Cert.KernelIdeal.Gen

section Host

variable {F : FTy → Type} [FloatOps F] [Named F] (m : (ℓ : Loc nD τ sig) → Buf (Elt F) ℓ) (c : Dev nD)

/-- The attention output the host computes is the reference's. -/
theorem out_host : V m c main_v46 = Cert.ForwardReferenceIdeal.Read.val_main_v32 (F := F) (m ((c : Thread nD τ).loc main_arg0)) (m ((c : Thread nD τ).loc main_arg1)) (m ((c : Thread nD τ).loc main_arg2)) := by
  have e1 : StableHlo.upto [hostOps0, hostOps0_1, hostOps0_2].flatten (fun b => m (c, b)) 57 (Proc.tc.devRef main_v39)
      = Cert.ForwardReferenceIdeal.Read.val_main_v23 (F := F) (m ((c : Thread nD τ).loc main_arg0)) (m ((c : Thread nD τ).loc main_arg1)) (m ((c : Thread nD τ).loc main_arg2)) := by
    after_reads_simp
    simp -implicitDefEqProofs only [StableHlo.TRef.toBuf, StableHlo.TRef.ofBuf, cast_cast, cast_eq, id]
    rfl
  have e2 : StableHlo.upto [hostOps0, hostOps0_1, hostOps0_2].flatten (fun b => m (c, b)) 57 (Proc.tc.devRef main_v43)
      = Cert.ForwardReferenceIdeal.Read.val_main_v27 (F := F) := by
    after_reads_simp
    rfl
  after_reads_simp
  rw [e1, e2]
  rfl

/-- The row totals the host computes are the reference's. -/
theorem lse_host : V m c main_v49 = Cert.ForwardReferenceIdeal.Read.val_main_v33 (F := F) (m ((c : Thread nD τ).loc main_arg0)) (m ((c : Thread nD τ).loc main_arg1)) := by
  after_reads_simp
  simp -implicitDefEqProofs only [StableHlo.TRef.toBuf, StableHlo.TRef.ofBuf, cast_cast, cast_eq, id]
  rfl

/-- The query rows as the host prepares them: scaled, padded with zeros to 128 lanes, one row per token. -/
def hostQ (x : (⟨S2x4096x8x96, .f32⟩ : BufTy).Contents (Elt F)) : (⟨S8192x1024, .bf16⟩ : BufTy).Contents (Elt F) :=
  truncf .bf16 (shapeCast S8192x1024 (concatenate S2x4096x8x128 3 [⟨S2x4096x8x96, mulf x (broadcastInDim S2x4096x8x96 ![] bcast_S_S2x4096x8x96 (constant S_ .f32 0x3DD105EC#32))⟩,
    ⟨S2x4096x8x32, broadcastInDim S2x4096x8x32 ![] bcast_S_S2x4096x8x32 (constant S_ .f32 0x00000000#32)⟩] concatenates_S2x4096x8x96_S2x4096x8x32_S2x4096x8x128_d3) shapeCasts_S2x4096x8x128_S8192x1024) bitsLt_bf16_f32

/-- The key rows, likewise, unscaled. -/
def hostK (x : (⟨S2x4096x8x96, .f32⟩ : BufTy).Contents (Elt F)) : (⟨S8192x1024, .bf16⟩ : BufTy).Contents (Elt F) :=
  truncf .bf16 (shapeCast S8192x1024 (concatenate S2x4096x8x128 3 [⟨S2x4096x8x96, x⟩,
    ⟨S2x4096x8x32, broadcastInDim S2x4096x8x32 ![] bcast_S_S2x4096x8x32 (constant S_ .f32 0x00000000#32)⟩] concatenates_S2x4096x8x96_S2x4096x8x32_S2x4096x8x128_d3) shapeCasts_S2x4096x8x128_S8192x1024) bitsLt_bf16_f32

/-- The values with a lane of ones behind them. -/
def hostV1 (x : (⟨S2x4096x8x64, .f32⟩ : BufTy).Contents (Elt F)) : (⟨S2x4096x8x65, .f32⟩ : BufTy).Contents (Elt F) :=
  concatenate S2x4096x8x65 3 [⟨S2x4096x8x64, x⟩, ⟨S2x4096x8x1, broadcastInDim S2x4096x8x1 ![] bcast_S_S2x4096x8x1 (constant S_ .f32 0x3F800000#32)⟩]
    concatenates_S2x4096x8x64_S2x4096x8x1_S2x4096x8x65_d3

/-- The value rows. -/
def hostV (x : (⟨S2x4096x8x64, .f32⟩ : BufTy).Contents (Elt F)) : (⟨S8192x1024, .bf16⟩ : BufTy).Contents (Elt F) :=
  truncf .bf16 (shapeCast S8192x1024 (concatenate S2x4096x8x128 3 [⟨S2x4096x8x65, hostV1 x⟩,
    ⟨S2x4096x8x63, broadcastInDim S2x4096x8x63 ![] bcast_S_S2x4096x8x63 (constant S_ .f32 0x00000000#32)⟩] concatenates_S2x4096x8x65_S2x4096x8x63_S2x4096x8x128_d3) shapeCasts_S2x4096x8x128_S8192x1024) bitsLt_bf16_f32

/-- The output gradient's rows, padded with zeros to 128 lanes. -/
def hostD1 (x : (⟨S2x4096x8x64, .f32⟩ : BufTy).Contents (Elt F)) : (⟨S8192x1024, .f32⟩ : BufTy).Contents (Elt F) :=
  shapeCast S8192x1024 (concatenate S2x4096x8x128 3 [⟨S2x4096x8x64, x⟩,
    ⟨S2x4096x8x64, broadcastInDim S2x4096x8x64 ![] bcast_S_S2x4096x8x64 (constant S_ .f32 0x00000000#32)⟩] concatenates_S2x4096x8x64_S2x4096x8x64_S2x4096x8x128_d3) shapeCasts_S2x4096x8x128_S8192x1024

/-- The same behind 1536 columns of zeros. -/
def hostD (x : (⟨S2x4096x8x64, .f32⟩ : BufTy).Contents (Elt F)) : (⟨S8192x2560, .bf16⟩ : BufTy).Contents (Elt F) :=
  truncf .bf16 (concatenate S8192x2560 1 [⟨S8192x1536, broadcastInDim S8192x1536 ![] bcast_S_S8192x1536 (constant S_ .f32 0x00000000#32)⟩, ⟨S8192x1024, hostD1 x⟩]
    concatenates_S8192x1536_S8192x1024_S8192x2560_d1) bitsLt_bf16_f32

theorem q_host : V m c main_v5 = hostQ (F := F) (m ((c : Thread nD τ).loc main_arg0)) := by
  after_reads_simp
  rfl

theorem k_host : V m c main_v9 = hostK (F := F) (m ((c : Thread nD τ).loc main_arg1)) := by
  after_reads_simp
  rfl

theorem v_host : V m c main_v15 = hostV (F := F) (m ((c : Thread nD τ).loc main_arg2)) := by
  after_reads_simp
  rfl

theorem d_host : V m c main_v55 = hostD (F := F) (m ((c : Thread nD τ).loc main_arg3)) := by
  after_reads_simp
  rfl

end Host

end Cert.KernelIdeal.Back

end
-- ==== Proof.BwdGrad.lean ====
/-
  The gradients of causal attention as functions of the argument arrays, away from any program.

  A row's weights are its exponentials over their sum. The score's gradient is the weight times the value product less
  the row sum of the output gradient times the output; the three gradients are sums over it and over the weights.
-/
module

public import proofs.«01_k».proof.Proof.Rows

@[expose] public section

noncomputable section

open Idealize.ShloMosaic

namespace Cert.Grads

open Cert.Softmax Cert.Rows

/-- A head's row on 128 lanes: the entries in the first `n`, zeros behind. -/
def lanes {n : ℕ} (X : Arr n) (b : Fin 2) (h : Fin 8) (s : ℕ) (e : Fin 128) : ℝ := if he : e.val < n then re X b s h ⟨e.val, he⟩ else 0

/-- A value row on 128 lanes: a one behind the entries, then zeros. -/
def vlanes (v : Arr 64) (b : Fin 2) (h : Fin 8) (s : ℕ) (e : Fin 128) : ℝ :=
  if he : e.val < 64 then re v b s h ⟨e.val, he⟩ else if e.val < 65 then 1 else 0

theorem lanes_pad {n : ℕ} {X : Arr n} (hX : Reals X) (b : Fin 2) (h : Fin 8) (s : ℕ) (e : Fin 128) : padRow X b s h e = (lanes X b h s e : EReal) := by
  unfold padRow lanes
  split
  · exact (coe_re hX _ _ _ _).symm
  · rfl

/-- A real sum over 128 lanes whose terms vanish from lane `n` on. -/
theorem sum_real (f : Fin 128 → ℝ) (n w : ℕ) (hn : n + w = 128) (hf : ∀ d : Fin 128, n ≤ d.val → f d = 0) :
    ∑ d : Fin 128, f d = ∑ d : Fin n, f ⟨d.val, by omega⟩ := by
  have e : ∑ d : Fin 128, f d = ∑ d : Fin (n + w), f ⟨d.val, by omega⟩ := by
    subst_vars
    exact (Fintype.sum_equiv (finCongr hn) _ _ fun d => rfl).symm
  rw [e, Fin.sum_univ_add]
  rw [show (∑ i : Fin w, f ⟨(Fin.natAdd n i).val, by have := i.isLt; simp; omega⟩) = 0 from Finset.sum_eq_zero fun i _ => hf _ (by simp), add_zero]
  rfl

theorem lanes_of {n : ℕ} (hn : n ≤ 128) (X : Arr n) (b : Fin 2) (h : Fin 8) (s : ℕ) (e : Fin n) : lanes X b h s ⟨e.val, by omega⟩ = re X b s h e := by
  unfold lanes; rw [dif_pos e.isLt]

/-- The score from the padded rows, the query's scaled. -/
theorem score_lanes (q k : Arr 96) (b : Fin 2) (h : Fin 8) (r x : ℕ) :
    ∑ e : Fin 128, lanes k b h x e * (lanes q b h r e * scl) = score q k b h r x := by
  rw [sum_real _ 96 32 rfl fun d hd => by rw [lanes, dif_neg (by omega), zero_mul]]
  unfold score
  rw [Finset.sum_mul]
  refine Finset.sum_congr rfl fun d _ => ?_
  rw [lanes_of (by norm_num) k, lanes_of (by norm_num) q]
  ring

/-- Row `r`'s weight of key `x`. -/
def prob (q k : Arr 96) (b : Fin 2) (h : Fin 8) (r x : ℕ) : ℝ := weight (score q k b h r) r x * (total (score q k b h r) r 4096)⁻¹

/-- A weight from its score less the logarithm of the row's total. -/
theorem prob_log (q k : Arr 96) (b : Fin 2) (h : Fin 8) (r x : ℕ) :
    prob q k b h r x = if x ≤ r then Real.exp (score q k b h r x - Real.log (total (score q k b h r) r 4096)) else 0 := by
  unfold prob weight
  split
  · rw [Real.exp_sub, Real.exp_log (total_pos _ _ _ (by norm_num)), div_eq_mul_inv]
  · rw [zero_mul]

/-- A value row against an output gradient's row. -/
def dprob (v d : Arr 64) (b : Fin 2) (h : Fin 8) (r x : ℕ) : ℝ := ∑ e : Fin 64, re v b x h e * re d b r h e

theorem dprob_lanes (v d : Arr 64) (b : Fin 2) (h : Fin 8) (r x : ℕ) : ∑ e : Fin 128, vlanes v b h x e * lanes d b h r e = dprob v d b h r x := by
  rw [sum_real _ 64 64 rfl fun e he => by rw [lanes, dif_neg (by omega), mul_zero]]
  refine Finset.sum_congr rfl fun e _ => ?_
  rw [lanes_of (by norm_num) d, vlanes, dif_pos e.isLt]

/-- The output, as a real. -/
def out (q k : Arr 96) (v : Arr 64) (b : Fin 2) (h : Fin 8) (r : ℕ) (e : Fin 64) : ℝ := ∑ x ∈ Finset.range 4096, prob q k b h r x * re v b x h e

theorem outv_real (q k : Arr 96) {v : Arr 64} (hv : Reals v) (b : Fin 2) (h : Fin 8) (r : ℕ) (e : Fin 64) :
    outv q k v b h r e = (out q k v b h r e : EReal) := by
  unfold outv out wsum
  rw [mul_comm, mul_sum _ _ (inv_nonneg.2 (total_pos _ _ _ (by norm_num)).le), coe_sum]
  refine Finset.sum_congr rfl fun x _ => ?_
  unfold prob vrow
  rw [EReal.coe_mul, EReal.coe_mul, coe_re hv]
  ac_rfl

/-- A row's sum of the output gradient times the output. -/
def dsum (q k : Arr 96) (v d : Arr 64) (b : Fin 2) (h : Fin 8) (r : ℕ) : ℝ := ∑ e : Fin 64, re d b r h e * out q k v b h r e

/-- It is the row's weighted sum of value products. -/
theorem dsum_prob (q k : Arr 96) (v d : Arr 64) (b : Fin 2) (h : Fin 8) (r : ℕ) :
    dsum q k v d b h r = ∑ x ∈ Finset.range 4096, prob q k b h r x * dprob v d b h r x := by
  unfold dsum out dprob
  simp only [Finset.mul_sum]
  rw [Finset.sum_comm]
  exact Finset.sum_congr rfl fun x _ => Finset.sum_congr rfl fun e _ => by ring

/-- The score's gradient. -/
def dscore (q k : Arr 96) (v d : Arr 64) (b : Fin 2) (h : Fin 8) (r x : ℕ) : ℝ := prob q k b h r x * (dprob v d b h r x - dsum q k v d b h r)

/-- The kernel's query gradient: the sum over the keys, not yet scaled. -/
def rawQ (q k : Arr 96) (v d : Arr 64) (b : Fin 2) (h : Fin 8) (r : ℕ) (e : Fin 128) (n : ℕ) : ℝ := ∑ x ∈ Finset.range n, dscore q k v d b h r x * lanes k b h x e

/-- The kernel's key gradient. -/
def rawK (q k : Arr 96) (v d : Arr 64) (b : Fin 2) (h : Fin 8) (x : ℕ) (e : Fin 128) : ℝ := ∑ r ∈ Finset.range 4096, dscore q k v d b h r x * (lanes q b h r e * scl)

/-- The kernel's value gradient. -/
def rawV (q k : Arr 96) (d : Arr 64) (b : Fin 2) (h : Fin 8) (x : ℕ) (e : Fin 128) : ℝ := ∑ r ∈ Finset.range 4096, prob q k b h r x * lanes d b h r e

/-- A function of batch, head, position and lane, laid out one row per token and 128 lanes per head. -/
def tokens (f : Fin 2 → Fin 8 → ℕ → Fin 128 → ℝ) (y : (⟨2, ![8192, 1024]⟩ : Shape).Idx) : EReal :=
  (f ⟨(y 0).val / 4096, by have := (y 0).isLt; dsimp at this; omega⟩ ⟨(y 1).val / 128, by have := (y 1).isLt; dsimp at this; omega⟩
    ((y 0).val % 4096) ⟨(y 1).val % 128, Nat.mod_lt _ (by norm_num)⟩ : ℝ)

theorem tokens_of (f : Fin 2 → Fin 8 → ℕ → Fin 128 → ℝ) (y : (⟨2, ![8192, 1024]⟩ : Shape).Idx) (b : Fin 2) (s : ℕ) (hs : s < 4096) (h : Fin 8) (e : Fin 128)
    (h0 : (y 0).val = b.val * 4096 + s) (h1 : (y 1).val = h.val * 128 + e.val) : tokens f y = (f b h s e : EReal) := by
  have e1 : (h.val * 128 + e.val) % 128 = e.val := by omega
  have e2 : (h.val * 128 + e.val) / 128 = h.val := by omega
  have e3 : (b.val * 4096 + s) / 4096 = b.val := by omega
  have e4 : (b.val * 4096 + s) % 4096 = s := by omega
  simp only [tokens, h0, h1, e1, e2, e3, e4]

/-- The query gradient. -/
def dq (q k : Arr 96) (v d : Arr 64) : Arr 96 := fun y =>
  ((rawQ q k v d (y 0) (y 2) (y 1).val ⟨(y 3).val, by have := (y 3).isLt; dsimp at this; omega⟩ 4096 * scl : ℝ) : EReal)

/-- The key gradient. -/
def dk (q k : Arr 96) (v d : Arr 64) : Arr 96 := fun y =>
  ((rawK q k v d (y 0) (y 2) (y 1).val ⟨(y 3).val, by have := (y 3).isLt; dsimp at this; omega⟩ : ℝ) : EReal)

/-- The value gradient. -/
def dv (q k : Arr 96) (d : Arr 64) : Vec Ideal ⟨4, ![2, 4096, 8, 64]⟩ .bf16 := fun y =>
  ((rawV q k d (y 0) (y 2) (y 1).val ⟨(y 3).val, by have := (y 3).isLt; dsimp at this; omega⟩ : ℝ) : EReal)

end Cert.Grads

end
-- ==== Proof.BwdArr.lean ====
/-
  The blocks a point of the backward kernel reads, from the argument arrays: rows padded to 128 lanes, the output and the
  row totals as the host writes them, the output gradient in the last 1024 columns of its array.
-/
module

public import proofs.«01_k».proof.Proof.BwdFrame
public import proofs.«01_k».proof.Proof.BwdPoint
public import proofs.«01_k».proof.Proof.BwdHost
public import proofs.«01_k».proof.Proof.BwdGrad
public import proofs.«01_k».proof.Proof.FwdRef
public import Idealize.ShloMosaic.Lib.Claim
public import Idealize.ShloMosaic.Lib.Pipeline.ValueKit

@[expose] public section

noncomputable section

open Idealize.ShloMosaic Idealize.ShloMosaic.TcCoe Idealize.SL.Sem

namespace Cert.KernelIdeal.Back

open Cert.KernelIdeal Cert.KernelIdeal.Gen Cert.Softmax Cert.Rows Cert.Grads

variable (m : (ℓ : Loc nD τ sig) → Buf (Elt Ideal) ℓ) (c : Dev nD)

/-- The four argument arrays. -/
abbrev qA : Arr 96 := m ((c : Thread nD τ).loc main_arg0)
abbrev kA : Arr 96 := m ((c : Thread nD τ).loc main_arg1)
abbrev vA : Arr 64 := m ((c : Thread nD τ).loc main_arg2)
abbrev dA : Arr 64 := m ((c : Thread nD τ).loc main_arg3)

/-- The query rows the kernel reads. -/
theorem q_at (R : Fin 8192) (C : Fin 1024) :
    V m c main_v5 (ix2 R C) = (if C.val % 128 < 96 then padRow (qA m c) ⟨R.val / 4096, by omega⟩ (R.val % 4096) ⟨C.val / 128, by omega⟩ ⟨C.val % 128, by omega⟩ * Ideal.ofBits .f32 1037108716#32 else 0 : EReal) := by
  rw [q_host m c]
  pointwise [hostQ]
  unfold padRow
  split
  · rw [at4, dif_pos (Nat.mod_lt _ (by norm_num))]
  · rfl

/-- The key rows the kernel reads. -/
theorem k_at (R : Fin 8192) (C : Fin 1024) :
    V m c main_v9 (ix2 R C) = (padRow (kA m c) ⟨R.val / 4096, by omega⟩ (R.val % 4096) ⟨C.val / 128, by omega⟩ ⟨C.val % 128, by omega⟩ : EReal) := by
  rw [k_host m c]
  pointwise [hostK]
  unfold padRow
  split
  · rw [at4, dif_pos (Nat.mod_lt _ (by norm_num))]
  · rfl

/-- The value rows the kernel reads: the values, a lane of ones, zeros. -/
theorem v_at (R : Fin 8192) (C : Fin 1024) :
    V m c main_v15 (ix2 R C) = (if C.val % 128 < 65 then
      (if hd : C.val % 128 < 64 then at4 (vA m c) ⟨R.val / 4096, by omega⟩ (R.val % 4096) ⟨C.val / 128, by omega⟩ ⟨C.val % 128, hd⟩ else 1) else 0 : EReal) := by
  rw [v_host m c]
  pointwise [hostV, hostV1]
  simp only [at4, Nat.mod_lt R.val (show 0 < 4096 by norm_num), dite_true, ← dite_eq_ite]

/-- The output gradient's rows the kernel reads: behind 1536 columns, the rows padded to 128 lanes. -/
theorem d_at (R : Fin 8192) (C : Fin 1024) :
    V m c main_v55 (ix2 R ⟨1536 + C.val, by omega⟩) = (padRow (dA m c) ⟨R.val / 4096, by omega⟩ (R.val % 4096) ⟨C.val / 128, by omega⟩ ⟨C.val % 128, by omega⟩ : EReal) := by
  rw [d_host m c]
  pointwise [hostD, hostD1]
  unfold padRow
  simp only [Nat.add_sub_cancel_left]
  split
  · rw [at4, dif_pos (Nat.mod_lt _ (by norm_num))]
  · rfl

/-- The windows' blocks, decided over the grid. -/
theorem idx0 : ∀ t : Fin cfg0.N, win0_0.index t = ![t.val / 64, t.val / 8 % 8] := by decide +kernel
theorem idx1 : ∀ t : Fin cfg0.N, win0_1.index t = ![t.val / 64 * 8 + t.val % 8, t.val / 8 % 8] := by decide +kernel
theorem idx2 : ∀ t : Fin cfg0.N, win0_2.index t = ![t.val / 64 * 8 + t.val % 8, t.val / 8 % 8] := by decide +kernel
theorem idx3 : ∀ t : Fin cfg0.N, win0_3.index t = ![t.val / 64, t.val / 8 % 8] := by decide +kernel
theorem idx4 : ∀ t : Fin cfg0.N, win0_4.index t = ![t.val / 8, 0] := by decide +kernel
theorem idx5 : ∀ t : Fin cfg0.N, win0_5.index t = ![t.val / 64, 12 + t.val / 8 % 8] := by decide +kernel
theorem idx6 : ∀ t : Fin cfg0.N, win0_6.index t = ![t.val / 64, t.val / 8 % 8] := by decide +kernel
theorem idx7 : ∀ t : Fin cfg0.N, win0_7.index t = ![t.val / 64 * 8 + t.val % 8, t.val / 8 % 8] := by decide +kernel
theorem idx8 : ∀ t : Fin cfg0.N, win0_8.index t = ![t.val / 64 * 8 + t.val % 8, t.val / 8 % 8] := by decide +kernel
theorem coord2 : ∀ t : Fin cfg0.N, (grid0.coords t 2).val = t.val % 8 := by decide +kernel

theorem lt128 (t : Fin cfg0.N) : t.val < 128 := t.isLt

/-- A grid point's batch and head. -/
def bat (t : Fin cfg0.N) : Fin 2 := ⟨t.val / 64, by have := lt128 t; omega⟩
def hd (t : Fin cfg0.N) : Fin 8 := ⟨t.val / 8 % 8, by omega⟩

theorem blk0' (X : (⟨S8192x1024, .bf16⟩ : BufTy).Contents (Elt Ideal)) (t : Fin cfg0.N) (x : Fin 4096) (d : Fin 128) :
    ((cfg0.win 0).blk t).view.read (Elt Ideal) X (ix2 x d) = X (ix2 ⟨t.val / 64 * 4096 + x.val, by have := lt128 t; omega⟩ ⟨t.val / 8 % 8 * 128 + d.val, by omega⟩) := by
  blk_ext [idx0]

theorem blk0 (t : Fin cfg0.N) (x : Fin 4096) (d : Fin 128) :
    iblk m c 0 t (ix2 x d) = V m c main_v5 (ix2 ⟨t.val / 64 * 4096 + x.val, by have := lt128 t; omega⟩ ⟨t.val / 8 % 8 * 128 + d.val, by omega⟩) := by
  unfold iblk
  exact blk0' (V m c main_v5) t x d

theorem blk1' (X : (⟨S8192x1024, .bf16⟩ : BufTy).Contents (Elt Ideal)) (t : Fin cfg0.N) (r : Fin 512) (d : Fin 128) :
    ((cfg0.win 1).blk t).view.read (Elt Ideal) X (ix2 r d) = X (ix2 ⟨(t.val / 64 * 8 + t.val % 8) * 512 + r.val, by have := lt128 t; omega⟩ ⟨t.val / 8 % 8 * 128 + d.val, by omega⟩) := by
  blk_ext [idx1]

theorem blk1 (t : Fin cfg0.N) (r : Fin 512) (d : Fin 128) :
    iblk m c 1 t (ix2 r d) = V m c main_v9 (ix2 ⟨(t.val / 64 * 8 + t.val % 8) * 512 + r.val, by have := lt128 t; omega⟩ ⟨t.val / 8 % 8 * 128 + d.val, by omega⟩) := by
  unfold iblk
  exact blk1' (V m c main_v9) t r d

theorem blk2' (X : (⟨S8192x1024, .bf16⟩ : BufTy).Contents (Elt Ideal)) (t : Fin cfg0.N) (r : Fin 512) (d : Fin 128) :
    ((cfg0.win 2).blk t).view.read (Elt Ideal) X (ix2 r d) = X (ix2 ⟨(t.val / 64 * 8 + t.val % 8) * 512 + r.val, by have := lt128 t; omega⟩ ⟨t.val / 8 % 8 * 128 + d.val, by omega⟩) := by
  blk_ext [idx2]

theorem blk2 (t : Fin cfg0.N) (r : Fin 512) (d : Fin 128) :
    iblk m c 2 t (ix2 r d) = V m c main_v15 (ix2 ⟨(t.val / 64 * 8 + t.val % 8) * 512 + r.val, by have := lt128 t; omega⟩ ⟨t.val / 8 % 8 * 128 + d.val, by omega⟩) := by
  unfold iblk
  exact blk2' (V m c main_v15) t r d

theorem blk3' (X : (⟨S8192x1024, .bf16⟩ : BufTy).Contents (Elt Ideal)) (t : Fin cfg0.N) (x : Fin 4096) (d : Fin 128) :
    ((cfg0.win 3).blk t).view.read (Elt Ideal) X (ix2 x d) = X (ix2 ⟨t.val / 64 * 4096 + x.val, by have := lt128 t; omega⟩ ⟨t.val / 8 % 8 * 128 + d.val, by omega⟩) := by
  blk_ext [idx3]

theorem blk3 (t : Fin cfg0.N) (x : Fin 4096) (d : Fin 128) :
    iblk m c 3 t (ix2 x d) = V m c main_v46 (ix2 ⟨t.val / 64 * 4096 + x.val, by have := lt128 t; omega⟩ ⟨t.val / 8 % 8 * 128 + d.val, by omega⟩) := by
  unfold iblk
  exact blk3' (V m c main_v46) t x d

theorem blk4' (X : (⟨S128x4096, .f32⟩ : BufTy).Contents (Elt Ideal)) (t : Fin cfg0.N) (e : Fin 8) (x : Fin 4096) :
    ((cfg0.win 4).blk t).view.read (Elt Ideal) X (ix2 e x) = X (ix2 ⟨t.val / 8 * 8 + e.val, by have := lt128 t; omega⟩ x) := by
  blk_ext [idx4]

theorem blk4 (t : Fin cfg0.N) (e : Fin 8) (x : Fin 4096) :
    iblk m c 4 t (ix2 e x) = V m c main_v49 (ix2 ⟨t.val / 8 * 8 + e.val, by have := lt128 t; omega⟩ x) := by
  unfold iblk
  exact blk4' (V m c main_v49) t e x

theorem blk5' (X : (⟨S8192x2560, .bf16⟩ : BufTy).Contents (Elt Ideal)) (t : Fin cfg0.N) (x : Fin 4096) (d : Fin 128) :
    ((cfg0.win 5).blk t).view.read (Elt Ideal) X (ix2 x d) = X (ix2 ⟨t.val / 64 * 4096 + x.val, by have := lt128 t; omega⟩ ⟨1536 + (t.val / 8 % 8 * 128 + d.val), by omega⟩) := by
  blk_ext [idx5]

theorem blk5 (t : Fin cfg0.N) (x : Fin 4096) (d : Fin 128) :
    iblk m c 5 t (ix2 x d) = V m c main_v55 (ix2 ⟨t.val / 64 * 4096 + x.val, by have := lt128 t; omega⟩ ⟨1536 + (t.val / 8 % 8 * 128 + d.val), by omega⟩) := by
  unfold iblk
  exact blk5' (V m c main_v55) t x d

/-- The blocks a point reads. -/
abbrev qb (t : Fin cfg0.N) : Vec Ideal S4096x128 .bf16 := iblk m c 0 t
abbrev kb (t : Fin cfg0.N) : Vec Ideal S512x128 .bf16 := iblk m c 1 t
abbrev vb (t : Fin cfg0.N) : Vec Ideal S512x128 .bf16 := iblk m c 2 t
abbrev ob (t : Fin cfg0.N) : Vec Ideal S4096x128 .bf16 := iblk m c 3 t
abbrev lb (t : Fin cfg0.N) : Vec Ideal S8x4096 .f32 := iblk m c 4 t
abbrev db (t : Fin cfg0.N) : Vec Ideal S4096x128 .bf16 := iblk m c 5 t

section Fin

variable (hq : Reals (qA m c)) (hk : Reals (kA m c)) (hv : Reals (vA m c)) (hd' : Reals (dA m c))

include hq in
theorem q_blk (t : Fin cfg0.N) (r : ℕ) (hr : r < 4096) (d : Fin 128) :
    qb m c t (ix2 ⟨r, hr⟩ d) = ((lanes (qA m c) (bat t) (hd t) r d * scl : ℝ) : EReal) := by
  have ht := lt128 t
  refine (blk0 m c t ⟨r, hr⟩ d).trans ((q_at m c _ _).trans ?_)
  have e1 : (t.val / 8 % 8 * 128 + d.val) % 128 = d.val := by omega
  have e2 : (t.val / 8 % 8 * 128 + d.val) / 128 = t.val / 8 % 8 := by omega
  have e3 : (t.val / 64 * 4096 + r) / 4096 = t.val / 64 := by omega
  have e4 : (t.val / 64 * 4096 + r) % 4096 = r := by omega
  simp only [e1, e2, e3, e4]
  rw [EReal.coe_mul, ← lanes_pad hq, coe_scl]
  split
  · rfl
  · rename_i h
    rw [padRow, dif_neg h, zero_mul]

include hk in
theorem k_blk (t : Fin cfg0.N) (r : Fin 512) (d : Fin 128) :
    kb m c t (ix2 r d) = (lanes (kA m c) (bat t) (hd t) (512 * (t.val % 8) + r.val) d : EReal) := by
  have ht := lt128 t
  refine (blk1 m c t r d).trans ((k_at m c _ _).trans ?_)
  have e1 : (t.val / 8 % 8 * 128 + d.val) % 128 = d.val := by omega
  have e2 : (t.val / 8 % 8 * 128 + d.val) / 128 = t.val / 8 % 8 := by omega
  have e3 : ((t.val / 64 * 8 + t.val % 8) * 512 + r.val) / 4096 = t.val / 64 := by omega
  have e4 : ((t.val / 64 * 8 + t.val % 8) * 512 + r.val) % 4096 = 512 * (t.val % 8) + r.val := by omega
  simp only [e1, e2, e3, e4]
  exact lanes_pad hk (bat t) (hd t) _ d

include hv in
theorem v_blk (t : Fin cfg0.N) (r : Fin 512) (d : Fin 128) :
    vb m c t (ix2 r d) = (vlanes (vA m c) (bat t) (hd t) (512 * (t.val % 8) + r.val) d : EReal) := by
  have ht := lt128 t
  refine (blk2 m c t r d).trans ((v_at m c _ _).trans ?_)
  have e1 : (t.val / 8 % 8 * 128 + d.val) % 128 = d.val := by omega
  have e2 : (t.val / 8 % 8 * 128 + d.val) / 128 = t.val / 8 % 8 := by omega
  have e3 : ((t.val / 64 * 8 + t.val % 8) * 512 + r.val) / 4096 = t.val / 64 := by omega
  have e4 : ((t.val / 64 * 8 + t.val % 8) * 512 + r.val) % 4096 = 512 * (t.val % 8) + r.val := by omega
  simp only [e1, e2, e3, e4]
  unfold vlanes
  split
  · split
    · exact (coe_re hv (bat t) _ (hd t) _).symm
    · exact EReal.coe_one.symm
  · rw [dif_neg (by omega)]
    exact EReal.coe_zero.symm

include hd' in
theorem d_blk (t : Fin cfg0.N) (r : ℕ) (hr : r < 4096) (d : Fin 128) :
    db m c t (ix2 ⟨r, hr⟩ d) = (lanes (dA m c) (bat t) (hd t) r d : EReal) := by
  have ht := lt128 t
  refine (blk5 m c t ⟨r, hr⟩ d).trans ((d_at m c _ ⟨_, by omega⟩).trans ?_)
  have e1 : (t.val / 8 % 8 * 128 + d.val) % 128 = d.val := by omega
  have e2 : (t.val / 8 % 8 * 128 + d.val) / 128 = t.val / 8 % 8 := by omega
  have e3 : (t.val / 64 * 4096 + r) / 4096 = t.val / 64 := by omega
  have e4 : (t.val / 64 * 4096 + r) % 4096 = r := by omega
  simp only [e1, e2, e3, e4]
  exact lanes_pad hd' (bat t) (hd t) _ d

include hq hk in
theorem o_blk (t : Fin cfg0.N) (r : ℕ) (hr : r < 4096) (d : Fin 128) :
    ob m c t (ix2 ⟨r, hr⟩ d) = (if h : d.val < 64 then outv (qA m c) (kA m c) (vA m c) (bat t) (hd t) r ⟨d.val, h⟩ else 0 : EReal) := by
  refine (blk3 m c t ⟨r, hr⟩ d).trans ?_
  rw [out_host m c, Cert.ForwardReferenceIdeal.Row.out_arr _ _ _ hq hk]
  exact outArr_of _ _ _ _ (bat t) r hr (hd t) d rfl rfl

include hq hk in
theorem l_blk (t : Fin cfg0.N) (r : ℕ) (hr : r < 4096) :
    lb m c t (ix2 0 ⟨r, hr⟩) = lsev (qA m c) (kA m c) (bat t) (hd t) r := by
  have ht := lt128 t
  refine (blk4 m c t 0 ⟨r, hr⟩).trans ?_
  rw [lse_host m c, Cert.ForwardReferenceIdeal.Row.lse_arr _ _ hq hk]
  refine lseArr_of _ _ _ (bat t) r (hd t) 0 ?_ rfl
  show t.val / 8 * 8 + 0 = (t.val / 64 * 8 + t.val / 8 % 8) * 8 + 0
  omega

end Fin

end Cert.KernelIdeal.Back

end
-- ==== Proof.BwdSum.lean ====
/-
  The backward kernel's three result arrays, from the argument arrays: along a sequence's key tiles the query gradient
  grows by one tile's sum at every grid point, and the key and value gradients of a tile are whole after its point.
-/
module

public import proofs.«01_k».proof.Proof.BwdArr

@[expose] public section

noncomputable section

open Idealize.ShloMosaic Idealize.ShloMosaic.TcCoe Idealize.SL.Sem

namespace Cert.KernelIdeal.Back

open Cert.KernelIdeal Cert.KernelIdeal.Gen Cert.Softmax Cert.Rows Cert.Grads

variable (m : (ℓ : Loc nD τ sig) → Buf (Elt Ideal) ℓ) (c : Dev nD)

/-- The reals a grid point's blocks hold. -/
def nums (t : Fin cfg0.N) : Nums where
  k x e := lanes (kA m c) (bat t) (hd t) (512 * (t.val % 8) + x.val) e
  v x e := vlanes (vA m c) (bat t) (hd t) (512 * (t.val % 8) + x.val) e
  q r e := lanes (qA m c) (bat t) (hd t) r e * scl
  d r e := lanes (dA m c) (bat t) (hd t) r e
  l r := Real.log (total (score (qA m c) (kA m c) (bat t) (hd t) r) r 4096)
  δ r := dsum (qA m c) (kA m c) (vA m c) (dA m c) (bat t) (hd t) r

theorem nums_p (t : Fin cfg0.N) (x : Fin 512) (r : ℕ) : (nums m c t).p (t.val % 8) x r = prob (qA m c) (kA m c) (bat t) (hd t) r (512 * (t.val % 8) + x.val) := by
  rw [prob_log, ← score_lanes]
  rfl

theorem nums_ds (t : Fin cfg0.N) (x : Fin 512) (r : ℕ) :
    (nums m c t).ds (t.val % 8) x r = dscore (qA m c) (kA m c) (vA m c) (dA m c) (bat t) (hd t) r (512 * (t.val % 8) + x.val) := by
  unfold Nums.ds
  rw [nums_p, dscore, ← dprob_lanes]
  rfl

/-- The query gradient's sum over one key tile more. -/
theorem q_step (t : Fin cfg0.N) (r : ℕ) (e : Fin 128) :
    rawQ (qA m c) (kA m c) (vA m c) (dA m c) (bat t) (hd t) r e (512 * (t.val % 8)) + ∑ x, (nums m c t).ds (t.val % 8) x r * (nums m c t).k x e
      = rawQ (qA m c) (kA m c) (vA m c) (dA m c) (bat t) (hd t) r e (512 * (t.val % 8 + 1)) := by
  unfold rawQ
  rw [← sum_tile]
  congr 1
  exact Finset.sum_congr rfl fun x _ => by rw [nums_ds]; rfl

section Fin

variable (hq : Reals (qA m c)) (hk : Reals (kA m c)) (hv : Reals (vA m c)) (hd' : Reals (dA m c))

include hq hk hv hd' in
/-- The row sums a sequence's first point computes. -/
theorem delta_at (t : Fin cfg0.N) (a : Fin 8) (r : ℕ) (hr : r < 4096) :
    delta (ob m c t) (db m c t) (ix2 a ⟨r, hr⟩) = (dsum (qA m c) (kA m c) (vA m c) (dA m c) (bat t) (hd t) r : EReal) := by
  have er : 512 * (r / 512) + r % 512 = r := by omega
  refine (pay3_at (tile (db m c t) (r / 512) (by omega)) (tile (ob m c t) (r / 512) (by omega)) a ⟨r % 512, by omega⟩).trans ?_
  have e : ∀ e : Fin 128, tile (db m c t) (r / 512) (by omega) (ix2 ⟨r % 512, by omega⟩ e) * tile (ob m c t) (r / 512) (by omega) (ix2 ⟨r % 512, by omega⟩ e)
      = ((lanes (dA m c) (bat t) (hd t) r e * (if h : e.val < 64 then out (qA m c) (kA m c) (vA m c) (bat t) (hd t) r ⟨e.val, h⟩ else 0) : ℝ) : EReal) := fun e => by
    rw [show tile (db m c t) (r / 512) (by omega) (ix2 ⟨r % 512, by omega⟩ e) = db m c t (ix2 ⟨512 * (r / 512) + r % 512, by omega⟩ e) from rfl,
      show tile (ob m c t) (r / 512) (by omega) (ix2 ⟨r % 512, by omega⟩ e) = ob m c t (ix2 ⟨512 * (r / 512) + r % 512, by omega⟩ e) from rfl,
      d_blk m c hd' t _ _ e, o_blk m c hq hk t _ _ e, er, EReal.coe_mul]
    congr 1
    split
    · exact outv_real _ _ hv _ _ _ _
    · rfl
  rw [Finset.sum_congr rfl fun x _ => e x, ← coe_sum, sum_real _ 64 64 rfl fun x hx => by rw [dif_neg (by omega), mul_zero]]
  unfold dsum
  congr 1

include hq hk hv hd' in
/-- A point's blocks hold its reals. -/
theorem holds (t : Fin cfg0.N) (dl : Vec Ideal S8x4096 .f32)
    (hdl : ∀ r (hr : r < 4096), dl (ix2 0 ⟨r, hr⟩) = (dsum (qA m c) (kA m c) (vA m c) (dA m c) (bat t) (hd t) r : EReal)) :
    (nums m c t).Holds (kb m c t) (vb m c t) (qb m c t) (db m c t) (lb m c t) dl where
  k x e := k_blk m c hk t x e
  v x e := v_blk m c hv t x e
  q r hr e := q_blk m c hq t r hr e
  d r hr e := d_blk m c hd' t r hr e
  l r hr := l_blk m c hq hk t r hr
  δ := hdl

/-- What a point leaves: the row sums, its key tile's two gradients, and the query gradient up to its tile. -/
structure Left (t : Fin cfg0.N) (s : Vec Ideal S8x4096 .f32 × St Ideal) : Prop where
  δ : ∀ r (hr : r < 4096), s.1 (ix2 0 ⟨r, hr⟩) = (dsum (qA m c) (kA m c) (vA m c) (dA m c) (bat t) (hd t) r : EReal)
  q : ∀ r (hr : r < 4096) e, s.2.1 (ix2 ⟨r, hr⟩ e) = (rawQ (qA m c) (kA m c) (vA m c) (dA m c) (bat t) (hd t) r e (512 * (t.val % 8 + 1)) : EReal)
  k : ∀ x e, s.2.2.1 (ix2 x e) = (rawK (qA m c) (kA m c) (vA m c) (dA m c) (bat t) (hd t) (512 * (t.val % 8) + x.val) e : EReal)
  v : ∀ x e, s.2.2.2 (ix2 x e) = (rawV (qA m c) (kA m c) (dA m c) (bat t) (hd t) (512 * (t.val % 8) + x.val) e : EReal)

include hq hk hv hd' in
theorem left_of (t : Fin cfg0.N) (dl : Vec Ideal S8x4096 .f32) (s : Vec Ideal S4096x128 .f32) (hj : (grid0.coords t 2).val < 8)
    (hdl : ∀ r (hr : r < 4096), dl (ix2 0 ⟨r, hr⟩) = (dsum (qA m c) (kA m c) (vA m c) (dA m c) (bat t) (hd t) r : EReal))
    (hs : ∀ r (hr : r < 4096) e, s (ix2 ⟨r, hr⟩ e) = (rawQ (qA m c) (kA m c) (vA m c) (dA m c) (bat t) (hd t) r e (512 * (t.val % 8)) : EReal)) :
    Left m c t (dl, point (kb m c t) (vb m c t) (qb m c t) (db m c t) (lb m c t) dl (grid0.coords t 2).val hj s) := by
  have key : ∀ (j : ℕ) (hj : j < 8), j = t.val % 8 → Left m c t (dl, point (kb m c t) (vb m c t) (qb m c t) (db m c t) (lb m c t) dl j hj s) := by
    rintro j hj rfl
    have D := point_done (t.val % 8) (fun r e => rawQ (qA m c) (kA m c) (vA m c) (dA m c) (bat t) (hd t) r e (512 * (t.val % 8)))
      (holds m c hq hk hv hd' t dl hdl) hj s hs
    refine ⟨hdl, fun r hr e => ?_, fun x e => ?_, fun x e => ?_⟩
    · refine (D.q r hr e).trans ?_
      rw [if_pos hr, q_step]
    · refine (D.k x e).trans ?_
      unfold rawK
      congr 1
      exact Finset.sum_congr rfl fun r _ => by rw [nums_ds]; rfl
    · refine (D.v x e).trans ?_
      unfold rawV
      congr 1
      exact Finset.sum_congr rfl fun r _ => by rw [nums_p]; rfl
  exact key _ hj (coord2 t)

include hq hk hv hd' in
/-- Every point, along its sequence's key tiles. -/
theorem left_at : ∀ (n : ℕ) (hn : n < cfg0.N), Left m c ⟨n, hn⟩ (outsAt0 m c n hn)
  | n, hn => by
    by_cases h0 : n % 8 = 0
    · rw [outsAt0_A m c ⟨n, hn⟩ h0]
      refine left_of m c hq hk hv hd' ⟨n, hn⟩ _ _ _ (fun r hr => delta_at m c hq hk hv hd' ⟨n, hn⟩ 0 r hr) fun r hr e => ?_
      rw [show (⟨n, hn⟩ : Fin cfg0.N).val % 8 = 0 from h0]
      unfold rawQ
      rw [Nat.mul_zero, Finset.range_zero, Finset.sum_empty]
      exact pay2_at _ _
    · rw [outsAt0_B m c ⟨n, hn⟩ h0]
      have h1 : n < 128 := hn
      have P := left_at (n - 1) (Nat.lt_of_le_of_lt (Nat.sub_le _ _) hn)
      have eb : bat ⟨n - 1, Nat.lt_of_le_of_lt (Nat.sub_le _ _) hn⟩ = bat ⟨n, hn⟩ := Fin.ext (by show (n - 1) / 64 = n / 64; omega)
      have eh : hd ⟨n - 1, Nat.lt_of_le_of_lt (Nat.sub_le _ _) hn⟩ = hd ⟨n, hn⟩ := Fin.ext (by show (n - 1) / 8 % 8 = n / 8 % 8; omega)
      have hδ := P.δ
      have hQ := P.q
      rw [eb, eh] at hδ hQ
      rw [show (⟨n - 1, Nat.lt_of_le_of_lt (Nat.sub_le _ _) hn⟩ : Fin cfg0.N).val % 8 + 1 = (⟨n, hn⟩ : Fin cfg0.N).val % 8 from by show (n - 1) % 8 + 1 = n % 8; omega] at hQ
      exact left_of m c hq hk hv hd' ⟨n, hn⟩ _ _ _ hδ hQ
  termination_by n => n
  decreasing_by omega

theorem flush6 : ∀ t : Fin cfg0.N, (cfg0.win 6).flush t = true → t.val % 8 = 7 := by decide +kernel

include hq hk hv hd' in
/-- The kernel's query gradient. -/
theorem q_arr : (dats m 0 c).arrAt 6 cfg0.N = tokens fun b h r e => rawQ (qA m c) (kA m c) (vA m c) (dA m c) b h r e 4096 := by
  refine (dats m 0 c).arrAt_eq_of_covers 6 _ (by decide +kernel) fun t hf y => ?_
  have h7 := flush6 t hf
  blk_simp
  rw [after0_6]
  obtain ⟨r, l, rfl⟩ : ∃ (r : Fin 4096) (l : Fin 128), y = ix2 r l := ⟨y 0, y 1, by funext a; fin_cases a <;> rfl⟩
  refine ((left_at m c hq hk hv hd' t.val t.isLt).q r.val r.isLt l).trans ?_
  rw [h7]
  refine (tokens_of (fun b h r e => rawQ (qA m c) (kA m c) (vA m c) (dA m c) b h r e 4096) _ (bat t) r.val r.isLt (hd t) l ?_ ?_).symm
  · blk_simp [idx6]
    unfold bat
    dsimp
  · blk_simp [idx6]
    unfold hd
    dsimp

include hq hk hv hd' in
/-- The kernel's key gradient. -/
theorem k_arr : (dats m 0 c).arrAt 7 cfg0.N = tokens (rawK (qA m c) (kA m c) (vA m c) (dA m c)) := by
  refine (dats m 0 c).arrAt_eq_of_covers 7 _ (by decide +kernel) fun t hf y => ?_
  blk_simp
  rw [after0_7]
  obtain ⟨r, l, rfl⟩ : ∃ (r : Fin 512) (l : Fin 128), y = ix2 r l := ⟨y 0, y 1, by funext a; fin_cases a <;> rfl⟩
  have ht := lt128 t
  refine ((left_at m c hq hk hv hd' t.val t.isLt).k r l).trans ?_
  refine (tokens_of _ _ (bat t) (512 * (t.val % 8) + r.val) (by omega) (hd t) l ?_ ?_).symm
  · blk_simp [idx7]
    unfold bat
    dsimp
    omega
  · blk_simp [idx7]
    unfold hd
    dsimp

include hq hk hv hd' in
/-- The kernel's value gradient. -/
theorem v_arr : (dats m 0 c).arrAt 8 cfg0.N = tokens (rawV (qA m c) (kA m c) (dA m c)) := by
  refine (dats m 0 c).arrAt_eq_of_covers 8 _ (by decide +kernel) fun t hf y => ?_
  blk_simp
  rw [after0_8]
  obtain ⟨r, l, rfl⟩ : ∃ (r : Fin 512) (l : Fin 128), y = ix2 r l := ⟨y 0, y 1, by funext a; fin_cases a <;> rfl⟩
  have ht := lt128 t
  refine (pay1_at _ r l).trans (((left_at m c hq hk hv hd' t.val t.isLt).v r l).trans ?_)
  refine (tokens_of _ _ (bat t) (512 * (t.val % 8) + r.val) (by omega) (hd t) l ?_ ?_).symm
  · blk_simp [idx8]
    unfold bat
    dsimp
    omega
  · blk_simp [idx8]
    unfold hd
    dsimp

end Fin

end Cert.KernelIdeal.Back

end
-- ==== Proof.BwdTail.lean ====
/-
  What the host does after the backward kernel: it cuts the three gradients out of the padded rows and scales the query gradient.
-/
module

public import proofs.«01_k».proof.Proof.BwdSum
public import Idealize.ShloMosaic.Lib.StableHlo.ReadAt

@[expose] public section

set_option maxRecDepth 16384

noncomputable section

open Idealize.ShloMosaic Idealize.ShloMosaic.TcCoe Idealize.SL.Sem

namespace Cert.KernelIdeal.Back

open Cert.KernelIdeal Cert.KernelIdeal.Gen Cert.Softmax Cert.Rows Cert.Grads

section Host

variable {F : FTy → Type} [FloatOps F] [Named F]

/-- Padded rows, cut to a head's lanes. -/
def cutQ (X : Vec F S8192x1024 .f32) : Vec F S2x4096x8x96 .f32 :=
  extractStridedSlice S2x4096x8x96 ![0, 0, 0, 0] (shapeCast S2x4096x8x128 X shapeCasts_S8192x1024_S2x4096x8x128) slices_S2x4096x8x128_S2x4096x8x96_0_0_0_0

def cutV (X : Vec F S8192x1024 .bf16) : Vec F S2x4096x8x64 .bf16 :=
  extractStridedSlice S2x4096x8x64 ![0, 0, 0, 0] (shapeCast S2x4096x8x128 X shapeCasts_S8192x1024_S2x4096x8x128) slices_S2x4096x8x128_S2x4096x8x64_0_0_0_0

def scaled (X : Vec F S2x4096x8x96 .f32) : Vec F S2x4096x8x96 .f32 :=
  mulf X (broadcastInDim S2x4096x8x96 ![] bcast_S_S2x4096x8x96 (constant S_ .f32 0x3DD105EC#32))

variable (W : Valuation τ sig (Elt F))

theorem tail_q : StableHlo.after ([hostOps1] : List (List (HloOp τ sig (Elt F)))).flatten W (Proc.devRef .tc main_v60) = scaled (cutQ (F := F) (W (Proc.devRef .tc main_v56_0))) := by
  after_reads_simp
  rfl

theorem tail_k : StableHlo.after ([hostOps1] : List (List (HloOp τ sig (Elt F)))).flatten W (Proc.devRef .tc main_v62) = cutQ (F := F) (W (Proc.devRef .tc main_v56_1)) := by
  after_reads_simp
  rfl

theorem tail_v : StableHlo.after ([hostOps1] : List (List (HloOp τ sig (Elt F)))).flatten W (Proc.devRef .tc main_v64) = cutV (F := F) (W (Proc.devRef .tc main_v56_2)) := by
  after_reads_simp
  rfl

end Host

theorem cutQ_at (f : Fin 2 → Fin 8 → ℕ → Fin 128 → ℝ) (y : S2x4096x8x96.Idx) :
    cutQ (F := Ideal) (tokens f) y = (f (y 0) (y 2) (y 1).val ⟨(y 3).val, by have := (y 3).isLt; dsimp at this; omega⟩ : EReal) := by
  have h0 := (y 0).isLt
  have h1 := (y 1).isLt
  have h2 := (y 2).isLt
  have h3 := (y 3).isLt
  dsimp at h0 h1 h2 h3
  obtain ⟨a, b, c, d, rfl⟩ : ∃ (a : Fin 2) (b : Fin 4096) (c : Fin 8) (d : Fin 96), y = ix4 a b c d := ⟨y 0, y 1, y 2, y 3, by funext i; fin_cases i <;> rfl⟩
  pointwise [cutQ]
  exact tokens_of f _ a b.val b.isLt c ⟨d.val, by omega⟩ rfl rfl

theorem cutV_at (f : Fin 2 → Fin 8 → ℕ → Fin 128 → ℝ) (y : S2x4096x8x64.Idx) :
    cutV (F := Ideal) (tokens f) y = (f (y 0) (y 2) (y 1).val ⟨(y 3).val, by have := (y 3).isLt; dsimp at this; omega⟩ : EReal) := by
  obtain ⟨a, b, c, d, rfl⟩ : ∃ (a : Fin 2) (b : Fin 4096) (c : Fin 8) (d : Fin 64), y = ix4 a b c d := ⟨y 0, y 1, y 2, y 3, by funext i; fin_cases i <;> rfl⟩
  have h3 := d.isLt
  pointwise [cutV]
  exact tokens_of f _ a b.val b.isLt c ⟨d.val, by omega⟩ rfl rfl

theorem scaled_at (X : Vec Ideal S2x4096x8x96 .f32) (y : S2x4096x8x96.Idx) : scaled (F := Ideal) X y = (X y * (scl : EReal) : EReal) := by
  rw [coe_scl]
  pointwise [scaled]

variable (m : (ℓ : Loc nD τ sig) → Buf (Elt Ideal) ℓ) (ρ : Dev nD → PrngReg)

theorem arrays_inj : Function.Injective (Pipeline.arrRef spec0) := by decide

/-- The three results, on finite arguments. -/
theorem results (hq : ∀ c, Reals (qA m c)) (hk : ∀ c, Reals (kA m c)) (hv : ∀ c, Reals (vA m c)) (hd' : ∀ c, Reals (dA m c)) :
    θ_run (defs (F := Ideal)) (onTc (τ := τ) (main (F := Ideal))) ⟨m, fun _ => 0, ρ⟩ (fun r => ∀ c : Dev nD,
      r.2.mem ((c.tc : Thread nD τ).loc main_v60) = dq (qA m c) (kA m c) (vA m c) (dA m c)
      ∧ r.2.mem ((c.tc : Thread nD τ).loc main_v62) = dk (qA m c) (kA m c) (vA m c) (dA m c)
      ∧ r.2.mem ((c.tc : Thread nD τ).loc main_v64) = dv (qA m c) (kA m c) (dA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, ?_, ?_,
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩) (run_main m ρ)
  · refine ((h c).2 main_v60 (Pipeline.mem_restRefs_of main_v60 (by decide) (by decide))).trans ((tail_q _).trans ?_)
    rw [show Pipeline.withArrays (cfgs 0).spec c (V0 m c) (fun w => (dats m 0 c).arrAt w (cfgs 0).N) (Proc.devRef .tc main_v56_0) = (dats m 0 c).arrAt 6 cfg0.N
      from Pipeline.withArrays_arr spec0 arrays_inj c (V0 m c) (fun w => (dats m 0 c).arrAt w cfg0.N) 6, q_arr m c (hq c) (hk c) (hv c) (hd' c)]
    funext y
    rw [scaled_at, cutQ_at, dq, EReal.coe_mul]
  · refine ((h c).2 main_v62 (Pipeline.mem_restRefs_of main_v62 (by decide) (by decide))).trans ((tail_k _).trans ?_)
    rw [show Pipeline.withArrays (cfgs 0).spec c (V0 m c) (fun w => (dats m 0 c).arrAt w (cfgs 0).N) (Proc.devRef .tc main_v56_1) = (dats m 0 c).arrAt 7 cfg0.N
      from Pipeline.withArrays_arr spec0 arrays_inj c (V0 m c) (fun w => (dats m 0 c).arrAt w cfg0.N) 7, k_arr m c (hq c) (hk c) (hv c) (hd' c)]
    funext y
    rw [cutQ_at, dk]
  · refine ((h c).2 main_v64 (Pipeline.mem_restRefs_of main_v64 (by decide) (by decide))).trans ((tail_v _).trans ?_)
    rw [show Pipeline.withArrays (cfgs 0).spec c (V0 m c) (fun w => (dats m 0 c).arrAt w (cfgs 0).N) (Proc.devRef .tc main_v56_2) = (dats m 0 c).arrAt 8 cfg0.N
      from Pipeline.withArrays_arr spec0 arrays_inj c (V0 m c) (fun w => (dats m 0 c).arrAt w cfg0.N) 8, v_arr m c (hq c) (hk c) (hv c) (hd' c)]
    funext y
    rw [cutV_at, dv]

end Cert.KernelIdeal.Back

end
-- ==== Proof.BwdRef.lean ====
/-
  The reference's gradients: the derivative of the softmax quotient, row by row, in the terms of `BwdGrad`.
-/
module

public import proofs.«01_k».proof.Proof.BwdGrad
public import proofs.«01_k».proof.Proof.FwdRef
public import proofs.«01_k».proof.Proof.Gen.ReferenceIdeal.Read
public import Idealize.ShloMosaic.Lib.Claim

@[expose] public section

noncomputable section

open Idealize.ShloMosaic Idealize.ShloMosaic.TcCoe Idealize.SL.Sem

namespace Cert.ReferenceIdeal.Row

open Cert.ReferenceIdeal Cert.ReferenceIdeal.Gen Cert.ReferenceIdeal.Read Cert.Softmax Cert.Rows Cert.Grads

variable (q k : Arr 96) (v d : Arr 64) (hq : Reals q) (hk : Reals k) (hv : Reals v) (hd : Reals d) (b : Fin 2) (h : Fin 8) (r : Fin 4096)

include hq hk in
/-- A masked score. -/
theorem masked_at (x : Fin 4096) : val_main_v9_0 (F := Ideal) q k (ix4 b h r x) = masked (score q k b h r.val) r.val x.val := by
  pointwise [val_main_v9_0, val_main_v9_1, val_main_v2, val_main_call0_v2, val_main_v8, val_main_v0, val_main_v1, val_main_v6, val_main_v7, val_main_v4, val_main_v5, val_main_v3, val_main_cst, val_main_call0_v0, val_main_cst_0]
  rw [causal_bit x.val r.val x.isLt r.isLt]
  have e : (∑ d : Fin 96, q (ix4 b r h d) * k (ix4 b x h d) : EReal) * Ideal.ofBits .f32 1037108716#32 = (score q k b h r.val x.val : EReal) := by
    rw [← score_scaled hq hk]
    congr 1
    exact Finset.sum_congr rfl fun d _ => by rw [at4_of q b r.val r.isLt, at4_of k b x.val x.isLt]
  rw [e]
  unfold masked
  split
  · rfl
  · exact neg_inf

/-- The row maxima before the floor at −∞ are those of `FwdRef`. -/
theorem maxima {F : FTy → Type} [FloatOps F] (x0 x1 : (⟨S2x4096x8x96, .f32⟩ : BufTy).Contents (Elt F)) :
    val_main_v10 (F := F) x0 x1 = Cert.ForwardReferenceIdeal.Read.val_main_v10 (F := F) x0 x1 := rfl

theorem max_fwd : val_main_v10 (F := Ideal) q k (ix3 b h r) = Cert.ForwardReferenceIdeal.Read.val_main_v11 (F := Ideal) q k (ix4 b h r 0) := by
  rw [maxima, Cert.ForwardReferenceIdeal.Read.val_main_v11_apply]
  refine congrArg _ (funext fun a => ?_)
  fin_cases a <;> rfl

theorem floor_at (M : ℝ) (hM : val_main_v10 (F := Ideal) q k (ix3 b h r) = (M : EReal)) : val_main_v17 (F := Ideal) q k (ix3 b h r) = (M : EReal) := by
  rw [val_main_v17_apply, val_main_v16_apply, val_main_cst_3_apply, hM]
  show max (Ideal.ofBits .f32 0xFF800000#32 : EReal) (M : EReal) = (M : EReal)
  rw [neg_inf]
  exact max_eq_right bot_le

include hq hk in
/-- A row's maximum is a real. -/
theorem max_at : ∃ M : ℝ, val_main_v17 (F := Ideal) q k (ix3 b h r) = (M : EReal) := by
  obtain ⟨M, hM, -, -⟩ := Cert.ForwardReferenceIdeal.Row.row_at q k hq hk b h r
  exact ⟨M, floor_at q k b h r M ((max_fwd q k b h r).trans hM)⟩

include hq hk in
/-- An exponential. -/
theorem exp_at (M : ℝ) (hM : val_main_v17 (F := Ideal) q k (ix3 b h r) = (M : EReal)) (x : Fin 4096) :
    val_main_v30 (F := Ideal) q k (ix4 b h r x) = Ideal.exp (masked (score q k b h r.val) r.val x.val - (M : EReal)) := by
  pointwise [val_main_v30, val_main_v29, val_main_v28, val_main_v27]
  rw [masked_at q k hq hk b h r x, hM]

theorem sum_at : val_main_v32 (F := Ideal) q k (ix4 b h r 0) = ∑ x : Fin 4096, val_main_v30 (F := Ideal) q k (ix4 b h r x) := by
  pointwise [val_main_v32, val_main_v31, val_main_cst_9]

include hq hk in
/-- A row: its exponentials and their sum are reals, scaled alike. -/
theorem row_at : ∃ s : ℝ, 0 < s ∧
    val_main_v32 (F := Ideal) q k (ix4 b h r 0) = ((s * total (score q k b h r.val) r.val 4096 : ℝ) : EReal) ∧
    ∀ x : Fin 4096, val_main_v30 (F := Ideal) q k (ix4 b h r x) = ((s * weight (score q k b h r.val) r.val x.val : ℝ) : EReal) := by
  obtain ⟨M, hM⟩ := max_at q k hq hk b h r
  have hE : ∀ x : Fin 4096, val_main_v30 (F := Ideal) q k (ix4 b h r x) = ((Real.exp (-M) * weight (score q k b h r.val) r.val x.val : ℝ) : EReal) := fun x => by
    rw [exp_at q k hq hk b h r M hM x, exp_sub _ _ (masked_ne_top _ _ _), exp_masked, EReal.coe_mul]
  refine ⟨Real.exp (-M), Real.exp_pos _, ?_, hE⟩
  rw [sum_at, total, Finset.mul_sum, Finset.sum_range (fun x => _), coe_sum]
  exact Finset.sum_congr rfl fun x _ => hE x

include hv hd in
/-- The output gradient against a value row. -/
theorem dprob_at (x : Fin 4096) : val_main_v41 (F := Ideal) v d (ix4 b h r x) = (dprob v d b h r.val x.val : EReal) := by
  pointwise [val_main_v41, val_main_v40]
  unfold dprob
  rw [coe_sum]
  refine Finset.sum_congr rfl fun e _ => ?_
  rw [EReal.coe_mul, coe_re hv, coe_re hd, at4_of v b x.val x.isLt, at4_of d b r.val r.isLt, mul_comm]

theorem div_real (x y : ℝ) (hy : y ≠ 0) : Ideal.div (x : EReal) (y : EReal) = ((x * y⁻¹ : ℝ) : EReal) := by
  unfold Ideal.div
  rw [if_neg (by exact_mod_cast hy), EReal.coe_mul, EReal.coe_inv]

include hq hk in
/-- A weight. -/
theorem prob_at (x : Fin 4096) : val_main_v34 (F := Ideal) q k (ix4 b h r x) = (prob q k b h r.val x.val : EReal) := by
  obtain ⟨s, hs, hL, hE⟩ := row_at q k hq hk b h r
  have ht := total_pos (score q k b h r.val) r.val 4096 (by norm_num)
  pointwise [val_main_v34, val_main_v33]
  rw [hE x, hL, div_real _ _ (by positivity)]
  unfold prob
  congr 1
  field_simp

include hq hk hv hd in
/-- A term of a row's sum of the output gradient times the output. -/
theorem term_at (s : ℝ) (hs : 0 < s) (hL : val_main_v32 (F := Ideal) q k (ix4 b h r 0) = ((s * total (score q k b h r.val) r.val 4096 : ℝ) : EReal))
    (hE : ∀ x : Fin 4096, val_main_v30 (F := Ideal) q k (ix4 b h r x) = ((s * weight (score q k b h r.val) r.val x.val : ℝ) : EReal)) (x : Fin 4096) :
    val_main_v46 (F := Ideal) q k v d (ix4 b h r x)
      = ((prob q k b h r.val x.val * dprob v d b h r.val x.val * (s * total (score q k b h r.val) r.val 4096)⁻¹ : ℝ) : EReal) := by
  have ht := total_pos (score q k b h r.val) r.val 4096 (by norm_num)
  pointwise [val_main_v46, val_main_v45, val_main_v44, val_main_v37, val_main_v36, val_main_v35, val_main_cst_10]
  rw [dprob_at v d hv hd, hL, hE x, ← EReal.coe_mul, ← EReal.coe_one, div_real _ _ (by positivity), ← EReal.coe_mul, ← EReal.coe_mul]
  congr 1
  unfold prob
  field_simp

include hq hk hv hd in
/-- The row's sum, over the reference's row total. -/
theorem row_sum_at (s : ℝ) (hs : 0 < s) (hL : val_main_v32 (F := Ideal) q k (ix4 b h r 0) = ((s * total (score q k b h r.val) r.val 4096 : ℝ) : EReal))
    (hE : ∀ x : Fin 4096, val_main_v30 (F := Ideal) q k (ix4 b h r x) = ((s * weight (score q k b h r.val) r.val x.val : ℝ) : EReal)) :
    val_main_v47 (F := Ideal) q k v d (ix3 b h r) = ((dsum q k v d b h r.val * (s * total (score q k b h r.val) r.val 4096)⁻¹ : ℝ) : EReal) := by
  rw [dsum_prob, Finset.sum_mul, Finset.sum_range (fun x => _), coe_sum]
  pointwise [val_main_v47, val_main_cst_11]
  exact Finset.sum_congr rfl fun x _ => term_at q k v d hq hk hv hd b h r s hs hL hE x

theorem column_at : val_main_v48 (F := Ideal) q k v d (ix4 b h r 0) = val_main_v47 (F := Ideal) q k v d (ix3 b h r) := by
  refine (val_main_v48_apply (F := Ideal) q k v d _).trans (congrArg _ (funext fun a => ?_))
  have := b.isLt; have := h.isLt; have := r.isLt
  fin_cases a <;> refine Fin.ext ?_ <;> simp [ix4, ix3] <;> omega

theorem neg_at (y : ℝ) (hy : val_main_v47 (F := Ideal) q k v d (ix3 b h r) = (y : EReal)) : val_main_v52 (F := Ideal) q k v d (ix3 b h r) = ((-y : ℝ) : EReal) := by
  have e : val_main_v49 (F := Ideal) q k v d (ix4 b h r 0) = ((-y : ℝ) : EReal) := by
    rw [val_main_v49_apply, column_at, hy]
    exact (EReal.coe_neg y).symm
  rw [← e]
  pointwise [val_main_v52, val_main_cst_12]
  exact Fin.sum_univ_one _

theorem causal_at (x : Fin 4096) : val_main_v9_1 (F := Ideal) (ix4 b h r x) = if x.val ≤ r.val then 1#1 else 0#1 := by
  pointwise [val_main_v9_1, val_main_v8, val_main_v6, val_main_v7, val_main_v4, val_main_v5, val_main_v3]
  rw [causal_bit x.val r.val x.isLt r.isLt]

include hq hk hv hd in
/-- The score's gradient times the scale. -/
theorem dscore_at (x : Fin 4096) : val_main_v58 (F := Ideal) q k v d (ix4 b h r x) = ((dscore q k v d b h r.val x.val * scl : ℝ) : EReal) := by
  obtain ⟨s, hs, hL, hE⟩ := row_at q k hq hk b h r
  have ht := total_pos (score q k b h r.val) r.val 4096 (by norm_num)
  have hN := neg_at q k v d b h r _ (row_sum_at q k v d hq hk hv hd b h r s hs hL hE)
  have h55 : val_main_v55 (F := Ideal) q k v d (ix4 b h r x) = (dscore q k v d b h r.val x.val : EReal) := by
    pointwise [val_main_v55, val_main_v54, val_main_v51, val_main_v53, val_main_v50]
    rw [dprob_at v d hv hd, hL, hE x, hN, div_real _ _ (by positivity), ← EReal.coe_add, ← EReal.coe_mul]
    congr 1
    unfold dscore prob
    field_simp
    ring
  have h56 : val_main_v56 (F := Ideal) q k v d (ix4 b h r x) = (dscore q k v d b h r.val x.val : EReal) := by
    pointwise [val_main_v56, val_main_call1_v0, val_main_call1_cst]
    rw [causal_at, h55]
    split
    · rfl
    · rename_i hx
      unfold dscore prob weight
      rw [if_neg hx, zero_mul, zero_mul]
      rfl
  pointwise [val_main_v58, val_main_v57, val_main_cst_13]
  rw [h56, EReal.coe_mul, coe_scl]

include hq hk hv hd in
/-- The reference's query gradient. -/
theorem dq_arr : val_main_v62 (F := Ideal) q k v d = dq q k v d := by
  funext y
  obtain ⟨b, r, h, e, rfl⟩ : ∃ (b : Fin 2) (r : Fin 4096) (h : Fin 8) (e : Fin 96), y = ix4 b r h e := ⟨y 0, y 1, y 2, y 3, by funext a; fin_cases a <;> rfl⟩
  pointwise [val_main_v62, val_main_v61]
  unfold dq rawQ
  rw [Finset.sum_mul, Finset.sum_range (fun x => _), coe_sum]
  refine Finset.sum_congr rfl fun x _ => ?_
  rw [dscore_at q k v d hq hk hv hd b h r x]
  rw [← at4_of k b x.val x.isLt, ← coe_re hk, ← EReal.coe_mul, ← lanes_of (by norm_num) k]
  exact congrArg _ (mul_right_comm _ _ _)

include hq hk hv hd in
/-- The reference's key gradient. -/
theorem dk_arr : val_main_v60 (F := Ideal) q k v d = dk q k v d := by
  funext y
  obtain ⟨b, x, h, e, rfl⟩ : ∃ (b : Fin 2) (r : Fin 4096) (h : Fin 8) (e : Fin 96), y = ix4 b r h e := ⟨y 0, y 1, y 2, y 3, by funext a; fin_cases a <;> rfl⟩
  pointwise [val_main_v60, val_main_v59]
  unfold dk rawK
  rw [Finset.sum_range (fun x => _), coe_sum]
  refine Finset.sum_congr rfl fun r _ => ?_
  rw [dscore_at q k v d hq hk hv hd b h r x]
  rw [← at4_of q b r.val r.isLt, ← coe_re hq, ← EReal.coe_mul, ← lanes_of (by norm_num) q]
  exact congrArg _ ((mul_assoc _ _ _).trans (congrArg _ (mul_comm _ _)))

include hq hk hd in
/-- The reference's value gradient. -/
theorem dv_arr : val_main_v63 (F := Ideal) q k d = dv q k d := by
  funext y
  obtain ⟨b, x, h, e, rfl⟩ : ∃ (b : Fin 2) (r : Fin 4096) (h : Fin 8) (e : Fin 64), y = ix4 b r h e := ⟨y 0, y 1, y 2, y 3, by funext a; fin_cases a <;> rfl⟩
  pointwise [val_main_v63, val_main_v43, val_main_v42, val_main_v40]
  unfold dv rawV
  rw [Finset.sum_range (fun x => _), coe_sum]
  refine Finset.sum_congr rfl fun r _ => ?_
  rw [prob_at q k hq hk b h r x]
  rw [← at4_of d b r.val r.isLt, ← coe_re hd, ← EReal.coe_mul, ← lanes_of (by norm_num) d]
  exact congrArg _ (mul_comm _ _)

end Cert.ReferenceIdeal.Row

end
-- ==== Proof.BwdClaim.lean ====
/-
  The backward claim: on finite arguments the flash kernel's gradients are the reference's.
-/
module

public import proofs.«01_k».proof.Defs
public import proofs.«01_k».proof.Proof.BwdTail
public import proofs.«01_k».proof.Proof.BwdRef
public import proofs.«01_k».proof.Proof.FwdClaim
public import proofs.«01_k».proof.Proof.Gen.ReferenceIdeal.Run

@[expose] public section

noncomputable section

open Idealize.ShloMosaic Idealize.ShloMosaic.TcCoe Idealize.SL.Sem

namespace Cert.BackClaim

open Cert.Rows Cert.Grads Cert.ForwardClaim

/-- The side conditions of the backward precondition. -/
theorem pre_facts : Cert.Pre_finite.Facts where
  concatenates_S2x4096x8x96_S2x4096x8x96_S2x4096x8x64_S2x4096x8x64_S2x4096x8x320_d3 := by decide
  bcast_S_S2x4096x8x320 := by decide

theorem ofBool_true (a : Bool) : BitVec.ofBool a = 1#1 ↔ a = true := by
  revert a; decide

/-- Finite arguments are arrays of reals. -/
theorem reals_of_pre (hf : Cert.Pre_finite.Facts) (q k : Arr 96) (v d : Arr 64) (h : Cert.Pre_finite.fn (F := Ideal) q k v d = fun _ => 1#1) :
    Reals q ∧ Reals k ∧ Reals v ∧ Reals d := by
  have e : ∀ (b : Fin 2) (s : Fin 4096) (h : Fin 8) (x : Fin 320), Cert.Pre_finite.fn (F := Ideal) q k v d (ix4 b s h x) = 1#1 := fun b s h' x => congrFun h _
  refine ⟨fun i => ?_, fun i => ?_, fun i => ?_, fun i => ?_⟩
  · have h3 := (i 3).isLt
    dsimp at h3
    have := e (i 0) (i 1) (i 2) ⟨(i 3).val, by omega⟩
    pointwise [Cert.Pre_finite.fn] at this
    exact real_of_abs (of_decide_eq_true ((ofBool_true _).1 this))
  · have h3 := (i 3).isLt
    dsimp at h3
    have := e (i 0) (i 1) (i 2) ⟨96 + (i 3).val, by omega⟩
    pointwise [Cert.Pre_finite.fn] at this
    exact real_of_abs (of_decide_eq_true ((ofBool_true _).1 this))
  · have h3 := (i 3).isLt
    dsimp at h3
    have := e (i 0) (i 1) (i 2) ⟨192 + (i 3).val, by omega⟩
    pointwise [Cert.Pre_finite.fn] at this
    rw [dif_neg (by omega), dif_neg (by omega), dif_pos (by omega)] at this
    have ei : (ix4 (i 0) (i 1) (i 2) ⟨192 + (i 3).val - 96 - 96, by omega⟩ : (⟨4, ![2, 4096, 8, 64]⟩ : Shape).Idx) = i := by funext a; fin_cases a <;> refine Fin.ext ?_ <;> simp [ix4] <;> omega
    rw [ei] at this
    exact real_of_abs (of_decide_eq_true ((ofBool_true _).1 this))
  · have h3 := (i 3).isLt
    dsimp at h3
    have := e (i 0) (i 1) (i 2) ⟨256 + (i 3).val, by omega⟩
    pointwise [Cert.Pre_finite.fn] at this
    rw [dif_neg (by omega), dif_neg (by omega), dif_neg (by omega)] at this
    have ei : (ix4 (i 0) (i 1) (i 2) ⟨256 + (i 3).val - 96 - 96 - 64, by omega⟩ : (⟨4, ![2, 4096, 8, 64]⟩ : Shape).Idx) = i := by funext a; fin_cases a <;> refine Fin.ext ?_ <;> simp [ix4] <;> omega
    rw [ei] at this
    exact real_of_abs (of_decide_eq_true ((ofBool_true _).1 this))

variable [hPre : Cert.Pre_finite.Facts]

theorem algebraic : Cert.algebraic_KernelIdeal_ReferenceIdeal_pre_finite := by
  intro m g m' g' hpre hargs
  have hr : ∀ c, Reals (Cert.KernelIdeal.Back.qA m c) ∧ Reals (Cert.KernelIdeal.Back.kA m c) ∧ Reals (Cert.KernelIdeal.Back.vA m c) ∧ Reals (Cert.KernelIdeal.Back.dA m c) :=
    fun c => reals_of_pre hPre _ _ _ _ (hpre c)
  refine ⟨fun c => dq (Cert.KernelIdeal.Back.qA m c) (Cert.KernelIdeal.Back.kA m c) (Cert.KernelIdeal.Back.vA m c) (Cert.KernelIdeal.Back.dA m c),
    fun c => dk (Cert.KernelIdeal.Back.qA m c) (Cert.KernelIdeal.Back.kA m c) (Cert.KernelIdeal.Back.vA m c) (Cert.KernelIdeal.Back.dA m c),
    fun c => dv (Cert.KernelIdeal.Back.qA m c) (Cert.KernelIdeal.Back.kA m c) (Cert.KernelIdeal.Back.dA m c),
    Cert.KernelIdeal.Back.results m g (fun c => (hr c).1) (fun c => (hr c).2.1) (fun c => (hr c).2.2.1) (fun c => (hr c).2.2.2), ?_⟩
  refine (θ_run Cert.ReferenceIdeal.defs _ _).mono (fun r h c => ?_) (Cert.ReferenceIdeal.Value.run m' g')
  obtain ⟨h1, h2, h3, h4⟩ := h c
  obtain ⟨a0, a1, a2, a3⟩ := hargs c
  obtain ⟨hq, hk, hv, hd⟩ := hr c
  refine ⟨h1.trans ?_, h2.trans ?_, h3.trans ?_, h4⟩
  · rw [Cert.ReferenceIdeal.Read.val_main_v62_eq, a0, a1, a2, a3]
    exact Cert.ReferenceIdeal.Row.dq_arr _ _ _ _ hq hk hv hd
  · rw [Cert.ReferenceIdeal.Read.val_main_v60_eq, a0, a1, a2, a3]
    exact Cert.ReferenceIdeal.Row.dk_arr _ _ _ _ hq hk hv hd
  · rw [Cert.ReferenceIdeal.Read.val_main_v63_eq, a0, a1, a3]
    exact Cert.ReferenceIdeal.Row.dv_arr _ _ _ hq hk hd

end Cert.BackClaim

end
-- ==== Proof.Prod.lean ====
/-
  Sums over the tiles of a product's inner axis, over the extended reals.
-/
module

public import Idealize.ShloMosaic.PureOps.Ideal
public import Idealize.ShloMosaic.Lib.ValueIdx
public import proofs.«01_k».proof.Proof.Rows

@[expose] public section

noncomputable section

open Idealize.ShloMosaic

namespace Cert.Prod

theorem hz : (![0, 0] : Fin 2 → Nat) = fun _ => 0 := funext fun a => by fin_cases a <;> rfl

/-- An array of extended reals with two axes. -/
abbrev Mat (r c : ℕ) : Type := (⟨2, ![r, c]⟩ : Shape).Idx → EReal

/-- An entry, by plain numbers (zero outside the array). -/
def cell {r c : ℕ} (X : Mat r c) (i j : ℕ) : EReal := if h : i < r ∧ j < c then X (ix2 ⟨i, h.1⟩ ⟨j, h.2⟩) else 0

theorem cell_of {r c : ℕ} (X : Mat r c) (i : Fin r) (j : Fin c) : X (ix2 i j) = cell X i.val j.val := by
  rw [cell, dif_pos ⟨i.isLt, j.isLt⟩]

/-- A sum over the first numbers, one tile further. -/
theorem sum_step (f : ℕ → EReal) (n T : ℕ) : ∑ x ∈ Finset.range n, f x + ∑ x : Fin T, f (n + x.val) = ∑ x ∈ Finset.range (n + T), f x := by
  rw [Finset.sum_range_add, Finset.sum_range (fun x => f (n + x))]

/-- `Aᵀ B`, of the first `n` rows of both. -/
def tdot {k r c : ℕ} (A : Mat k r) (B : Mat k c) (i j n : ℕ) : EReal := ∑ x ∈ Finset.range n, cell A x i * cell B x j

theorem tdot_step {k r c : ℕ} (A : Mat k r) (B : Mat k c) (i j n T : ℕ) :
    tdot A B i j n + ∑ x : Fin T, cell A (n + x.val) i * cell B (n + x.val) j = tdot A B i j (n + T) :=
  sum_step (fun x => cell A x i * cell B x j) n T

theorem tdot_zero {k r c : ℕ} (A : Mat k r) (B : Mat k c) (i j : ℕ) : tdot A B i j 0 = 0 := by
  rw [tdot, Finset.range_zero, Finset.sum_empty]

/-- The product `Aᵀ B`. -/
def tprod {k r c : ℕ} (A : Mat k r) (B : Mat k c) : Mat r c := fun y => ∑ x : Fin k, A (ix2 x (y 0)) * B (ix2 x (y 1))

theorem tprod_of {k r c : ℕ} (A : Mat k r) (B : Mat k c) (y : (⟨2, ![r, c]⟩ : Shape).Idx) (i j : ℕ) (h0 : (y 0).val = i) (h1 : (y 1).val = j) :
    tprod A B y = tdot A B i j k := by
  subst h0 h1
  rw [tprod, tdot, Finset.sum_range]
  exact Finset.sum_congr rfl fun x _ => congrArg₂ (fun u v : EReal => u * v) (cell_of A x (y 0)) (cell_of B x (y 1))

/-- The product `A Bᵀ`. -/
def rprod {k r c : ℕ} (A : Mat r k) (B : Mat c k) : Mat r c := fun y => ∑ x : Fin k, A (ix2 (y 0) x) * B (ix2 (y 1) x)

theorem rprod_of {k r c : ℕ} (A : Mat r k) (B : Mat c k) (y : (⟨2, ![r, c]⟩ : Shape).Idx) (i : Fin r) (j : Fin c) (h0 : (y 0).val = i.val) (h1 : (y 1).val = j.val) :
    rprod A B y = ∑ x : Fin k, A (ix2 i x) * B (ix2 j x) := by
  obtain rfl : y = ix2 i j := by funext a; fin_cases a <;> [exact Fin.ext h0; exact Fin.ext h1]
  rfl

/-- The product `A Bᵀ`, its inner axis in two halves. -/
theorem rprod_halves {r c : ℕ} (n : ℕ) (A : Mat r (n + n)) (B : Mat c (n + n)) (y : (⟨2, ![r, c]⟩ : Shape).Idx) (i : Fin r) (j : Fin c) (h0 : (y 0).val = i.val) (h1 : (y 1).val = j.val) :
    rprod A B y = ∑ x : Fin n, A (ix2 i (Fin.castAdd n x)) * B (ix2 j (Fin.castAdd n x)) + ∑ x : Fin n, A (ix2 i (Fin.natAdd n x)) * B (ix2 j (Fin.natAdd n x)) := by
  rw [rprod_of A B y i j h0 h1, Fin.sum_univ_add]

/-- The product `A B`. -/
def prod {k r c : ℕ} (A : Mat r k) (B : Mat k c) : Mat r c := fun y => ∑ x : Fin k, A (ix2 (y 0) x) * B (ix2 x (y 1))

theorem prod_of {k r c : ℕ} (A : Mat r k) (B : Mat k c) (y : (⟨2, ![r, c]⟩ : Shape).Idx) (i : Fin r) (j : Fin c) (h0 : (y 0).val = i.val) (h1 : (y 1).val = j.val) :
    prod A B y = ∑ x : Fin k, A (ix2 i x) * B (ix2 x j) := by
  obtain rfl : y = ix2 i j := by funext a; fin_cases a <;> [exact Fin.ext h0; exact Fin.ext h1]
  rfl

/-- A product and an array added. -/
def plus {r c : ℕ} (P X : Mat r c) : Mat r c := fun y => P y + X y

theorem plus_of {r c : ℕ} (P X : Mat r c) (y : (⟨2, ![r, c]⟩ : Shape).Idx) (i : Fin r) (j : Fin c) (h0 : (y 0).val = i.val) (h1 : (y 1).val = j.val) (v : EReal) (hP : P y = v) :
    plus P X y = v + X (ix2 i j) := by
  obtain rfl : y = ix2 i j := by funext a; fin_cases a <;> [exact Fin.ext h0; exact Fin.ext h1]
  rw [plus, hP]

/-- Sums over tiles, grid point after grid point: what a block's points before its last leave, if the first of its eight points leaves
    its own tile's sum and each later one adds its tile's. -/
theorem tiles {N : ℕ} (outs part : (n : ℕ) → n < N → EReal) (f : ℕ → ℕ → EReal)
    (hp : ∀ n h, part n h = ∑ x : Fin 1024, f (n / 8) (1024 * (n % 8) + x.val))
    (h0 : ∀ n h, n % 8 = 0 → outs n h = part n h)
    (hs : ∀ n h, n % 8 ≠ 0 → n % 8 ≠ 7 → outs n h = outs (n - 1) (Nat.lt_of_le_of_lt (Nat.sub_le _ _) h) + part n h) :
    ∀ n h, n % 8 ≠ 7 → outs n h = ∑ x ∈ Finset.range (1024 * (n % 8) + 1024), f (n / 8) x
  | n, h, h7 => by
    rw [← sum_step]
    by_cases hz : n % 8 = 0
    · rw [h0 n h hz, hp, hz, Nat.mul_zero, Finset.range_zero, Finset.sum_empty, zero_add]
    · rw [hs n h hz h7, hp, tiles outs part f hp h0 hs (n - 1) _ (by omega), show (n - 1) / 8 = n / 8 by omega,
        show 1024 * ((n - 1) % 8) + 1024 = 1024 * (n % 8) by omega]
  termination_by n => n
  decreasing_by omega

end Cert.Prod

end
-- ==== Proof.DwUpValue.lean ====
/-
  The gradient of half of `ffn_w_up`: the kernel's sum over the tiles of tokens is the product.
-/
module

public import proofs.«01_k».proof.Proof.Gen.DwUpIdeal.Value
public import proofs.«01_k».proof.Proof.Gen.DwUpReferenceIdeal.Run
public import proofs.«01_k».proof.Proof.Gen.DwUpReferenceIdeal.Read
public import proofs.«01_k».proof.Proof.Prod
public import proofs.«01_k».proof.Defs
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.ShloMosaic.Tactic Idealize.SL.Sem

namespace Cert.DwUpIdeal.Val

open Cert.DwUpIdeal Cert.DwUpIdeal.Gen Cert.Prod

section Body

variable {F : FTy → Type} [FloatOps F] [Named F]
variable (c : Dev nD) (i : grid0.Coords) (a3 : Memref sig .tc .vmem S1024x1024 .bf16) (h3 : a3.IsWhole) (a4 : Memref sig .tc .vmem S1024x1408 .bf16) (h4 : a4.IsWhole)
  (a5 : Memref sig .tc .vmem S1024x1408 .f32) (h5 : a5.IsWhole) (a6 : Memref sig .tc .vmem S1024x1408 .f32) (h6 : a6.IsWhole)
  (x0 : Vec F S1024x1024 .bf16) (x1 : Vec F S1024x1408 .bf16) (xs : Vec F S1024x1408 .f32)

/-- The first tile's product. -/
theorem first (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  unfold k0_pay2
  simp only [View.readAt_eq_ld, h3.read_unread, h4.read_unread, View.ld_unit_zero (S := S1024x1024) hz, View.ld_unit_zero (S := S1024x1408) hz, shapeCast_self]

/-- A later tile's product, added. -/
theorem next (hc0 : ¬cond0_0 i) (hc1 : cond0_1 i) (hc2 : ¬cond0_2 i) : sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  unfold k0_pay3
  simp only [View.readAt_eq_ld, h3.read_unread, h4.read_unread, h6.read_unread, View.ld_unit_zero (S := S1024x1024) hz, View.ld_unit_zero (S := S1024x1408) hz, shapeCast_self]

/-- The last tile's, left in the output. -/
theorem last (hc0 : ¬cond0_0 i) (hc1 : cond0_1 i) (hc2 : cond0_2 i) : out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  rw [View.canon_unit_zero hz]
  sl_unfold_words
  rw [View.readCov_unit_zero (S := S1024x1408) _ hz]
  unfold k0_pay3
  simp only [View.readAt_eq_ld, h3.read_unread, h4.read_unread, h6.read_unread, View.ld_unit_zero (S := S1024x1024) hz, View.ld_unit_zero (S := S1024x1408) hz, shapeCast_self]

end Body

theorem pay_at (x0 : Vec Ideal S1024x1024 .bf16) (x1 : Vec Ideal S1024x1408 .bf16) (a : Fin 1024) (b : Fin 1408) :
    k0_pay1 (F := Ideal) x0 x1 (ix2 a b) = ∑ x : Fin 1024, (x0 (ix2 x a) * x1 (ix2 x b) : EReal) := by
  pointwise [k0_pay1]

section Host

variable {F : FTy → Type} [FloatOps F] [Named F] (m : (ℓ : Loc nD τ sig) → Buf (Elt F) ℓ) (c : Dev nD)

theorem host0 : V m c main_v0 = truncf (F := F) .bf16 (m ((c : Thread nD τ).loc main_arg0)) bitsLt_bf16_f32 := by
  after_reads_simp

theorem host1 : V m c main_v1 = truncf (F := F) .bf16 (m ((c : Thread nD τ).loc main_arg1)) bitsLt_bf16_f32 := by
  after_reads_simp

end Host

variable (m : (ℓ : Loc nD τ sig) → Buf (Elt Ideal) ℓ) (ρ : Dev nD → PrngReg) (c : Dev nD)

abbrev A : Mat 8192 1024 := m ((c : Thread nD τ).loc main_arg0)
abbrev B : Mat 8192 2816 := m ((c : Thread nD τ).loc main_arg1)

theorem idx0 : ∀ t : Fin cfg0.N, win0_0.index t = ![t.val % 8, 0] := by decide +kernel
theorem idx1 : ∀ t : Fin cfg0.N, win0_1.index t = ![t.val % 8, t.val / 8] := by decide +kernel
theorem idx2 : ∀ t : Fin cfg0.N, win0_2.index t = ![0, t.val / 8] := by decide +kernel
theorem lt16 (t : Fin cfg0.N) : t.val < 16 := t.isLt

theorem blk0' (X : (⟨S8192x1024, .bf16⟩ : BufTy).Contents (Elt Ideal)) (t : Fin cfg0.N) (x : Fin 1024) (a : Fin 1024) :
    ((cfg0.win 0).blk t).view.read (Elt Ideal) X (ix2 x a) = X (ix2 ⟨t.val % 8 * 1024 + x.val, by omega⟩ a) := by
  blk_ext [idx0]

theorem blk1' (X : (⟨S8192x2816, .bf16⟩ : BufTy).Contents (Elt Ideal)) (t : Fin cfg0.N) (x : Fin 1024) (b : Fin 1408) :
    ((cfg0.win 1).blk t).view.read (Elt Ideal) X (ix2 x b) = X (ix2 ⟨t.val % 8 * 1024 + x.val, by omega⟩ ⟨t.val / 8 * 1408 + b.val, by have := lt16 t; omega⟩) := by
  blk_ext [idx1]

theorem blk0 (t : Fin cfg0.N) (x : Fin 1024) (a : Fin 1024) : (iblk m c 0 t (ix2 x a) : EReal) = cell (A m c) (1024 * (t.val % 8) + x.val) a.val := by
  unfold iblk
  refine (blk0' (V m c main_v0) t x a).trans ?_
  rw [host0]
  pointwise
  rw [mul_comm 1024]
  exact cell_of (A m c) ⟨t.val % 8 * 1024 + x.val, by omega⟩ a

theorem blk1 (t : Fin cfg0.N) (x : Fin 1024) (b : Fin 1408) : (iblk m c 1 t (ix2 x b) : EReal) = cell (B m c) (1024 * (t.val % 8) + x.val) (1408 * (t.val / 8) + b.val) := by
  unfold iblk
  refine (blk1' (V m c main_v1) t x b).trans ?_
  rw [host1]
  pointwise
  rw [mul_comm 1024, mul_comm 1408]
  exact cell_of (B m c) ⟨t.val % 8 * 1024 + x.val, by omega⟩ ⟨t.val / 8 * 1408 + b.val, by have := lt16 t; omega⟩

/-- One tile's product of a point's blocks. -/
theorem part (t : Fin cfg0.N) (a : Fin 1024) (b : Fin 1408) :
    (k0_pay1 (F := Ideal) (iblk m c 0 t) (iblk m c 1 t) (ix2 a b) : EReal)
      = ∑ x : Fin 1024, cell (A m c) (1024 * (t.val % 8) + x.val) a.val * cell (B m c) (1024 * (t.val % 8) + x.val) (1408 * (t.val / 8) + b.val) :=
  (pay_at _ _ a b).trans (Finset.sum_congr rfl fun x _ => by rw [blk0, blk1])

/-- The scratch after a point, unless it is a block's last. -/
theorem kept (n : ℕ) (hn : n < cfg0.N) (h7 : n % 8 ≠ 7) (a : Fin 1024) (b : Fin 1408) :
    ((outsAt0 m c n hn).2 (ix2 a b) : EReal) = tdot (A m c) (B m c) a.val (1408 * (n / 8) + b.val) (1024 * (n % 8) + 1024) := by
  refine tiles (fun n h => (outsAt0 m c n h).2 (ix2 a b)) (fun n h => k0_pay1 (F := Ideal) (iblk m c 0 ⟨n, h⟩) (iblk m c 1 ⟨n, h⟩) (ix2 a b))
    (fun q x => cell (A m c) x a.val * cell (B m c) x (1408 * q + b.val)) (fun n h => part m c ⟨n, h⟩ a b) (fun n h h0 => ?_) (fun n h h0 h7 => ?_) n hn h7
  · rw [outsAt0_A m c ⟨n, h⟩ h0 (by simp [h0]) (by simp [h0])]
    dsimp only
    rw [first]
  · rw [outsAt0_B m c ⟨n, h⟩ h0 (by simp; omega) h7]
    dsimp only
    rw [next]
    rfl

theorem flush : ∀ t : Fin cfg0.N, (cfg0.win 2).flush t = true → t.val % 8 = 7 := by decide +kernel

/-- The kernel's result. -/
theorem result : (dats m 0 c).arrAt 2 cfg0.N = tprod (A m c) (B m c) := by
  refine (dats m 0 c).arrAt_eq_of_covers 2 _ (by decide +kernel) fun t hf y => ?_
  have h7 := flush t hf
  blk_simp
  rw [after0_2]
  obtain ⟨a, b, rfl⟩ : ∃ (a : Fin 1024) (b : Fin 1408), y = ix2 a b := ⟨y 0, y 1, by funext i; fin_cases i <;> rfl⟩
  rw [outsAt0_C m c t (by omega) (by omega) h7]
  dsimp only
  rw [last]
  have P := kept m c (t.val - 1) (Nat.lt_of_le_of_lt (Nat.sub_le _ _) t.isLt) (by omega) a b
  pointwise
  rw [P, part, show (t.val - 1) / 8 = t.val / 8 by omega, show 1024 * ((t.val - 1) % 8) + 1024 = 1024 * (t.val % 8) by omega, tdot_step, h7]
  refine (tprod_of (A m c) (B m c) _ _ _ ?_ ?_).symm
  · blk_simp [idx2]
  · blk_simp [idx2]
    omega

/-- The reference's result. -/
theorem reference (a : Mat 8192 1024) (b : Mat 8192 2816) : Cert.DwUpReferenceIdeal.Read.val_main_v3 (F := Ideal) a b = tprod a b := by
  funext y
  rw [Cert.DwUpReferenceIdeal.Read.val_main_v3_apply, Cert.DwUpReferenceIdeal.Read.val_main_v2_apply]
  refine Finset.sum_congr rfl fun x _ => (mul_comm _ _).trans (congrArg₂ (fun u v : EReal => u * v) (congrArg a ?_) (congrArg b ?_)) <;>
    funext i <;> fin_cases i <;> rfl

theorem algebraic : Cert.algebraic_DwUpIdeal_DwUpReferenceIdeal := by
  intro m g m' g' _ hargs
  refine ⟨fun c => tprod (A m c) (B m c), ?_, ?_⟩
  · exact (θ_run Cert.DwUpIdeal.defs _ _).mono (fun r h c => ⟨(Value.post2 m r h c).trans (result m c), Value.kept_main_arg0 m r h c, Value.kept_main_arg1 m r h c⟩) (run_main m g)
  · refine (θ_run Cert.DwUpReferenceIdeal.defs _ _).mono (fun r h c => ?_) (Cert.DwUpReferenceIdeal.Value.run m' g')
    obtain ⟨h1, h2⟩ := h c
    obtain ⟨a0, a1⟩ := hargs c
    refine ⟨h1.trans ?_, h2⟩
    rw [Cert.DwUpReferenceIdeal.Read.val_main_v3_eq, a0, a1]
    exact reference (A m c) (B m c)

end Cert.DwUpIdeal.Val

end
-- ==== Proof.DwDownValue.lean ====
/-
  The gradient of `ffn_w_down`: the kernel's sum over the tiles of tokens is the product.
-/
module

public import proofs.«01_k».proof.Proof.Gen.DwDownIdeal.Value
public import proofs.«01_k».proof.Proof.Gen.DwDownReferenceIdeal.Run
public import proofs.«01_k».proof.Proof.Gen.DwDownReferenceIdeal.Read
public import proofs.«01_k».proof.Proof.Prod
public import proofs.«01_k».proof.Defs
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.ShloMosaic.Tactic Idealize.SL.Sem

namespace Cert.DwDownIdeal.Val

open Cert.DwDownIdeal Cert.DwDownIdeal.Gen Cert.Prod

section Body

variable {F : FTy → Type} [FloatOps F] [Named F]
variable (c : Dev nD) (i : grid0.Coords) (a3 : Memref sig .tc .vmem S1024x1408 .bf16) (h3 : a3.IsWhole) (a4 : Memref sig .tc .vmem S1024x1024 .bf16) (h4 : a4.IsWhole)
  (a5 : Memref sig .tc .vmem S1408x1024 .f32) (h5 : a5.IsWhole) (a6 : Memref sig .tc .vmem S1408x1024 .f32) (h6 : a6.IsWhole)
  (x0 : Vec F S1024x1408 .bf16) (x1 : Vec F S1024x1024 .bf16) (xs : Vec F S1408x1024 .f32)

/-- The first tile's product. -/
theorem first (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  unfold k0_pay2
  simp only [View.readAt_eq_ld, h3.read_unread, h4.read_unread, View.ld_unit_zero (S := S1024x1024) hz, View.ld_unit_zero (S := S1024x1408) hz, View.ld_unit_zero (S := S1408x1024) hz, shapeCast_self]

/-- A later tile's product, added. -/
theorem next (hc0 : ¬cond0_0 i) (hc1 : cond0_1 i) (hc2 : ¬cond0_2 i) : sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  unfold k0_pay3
  simp only [View.readAt_eq_ld, h3.read_unread, h4.read_unread, h6.read_unread, View.ld_unit_zero (S := S1024x1024) hz, View.ld_unit_zero (S := S1024x1408) hz, View.ld_unit_zero (S := S1408x1024) hz, shapeCast_self]

/-- The last tile's, left in the output. -/
theorem last (hc0 : ¬cond0_0 i) (hc1 : cond0_1 i) (hc2 : cond0_2 i) : out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  rw [View.canon_unit_zero hz]
  sl_unfold_words
  rw [View.readCov_unit_zero (S := S1408x1024) _ hz]
  unfold k0_pay3
  simp only [View.readAt_eq_ld, h3.read_unread, h4.read_unread, h6.read_unread, View.ld_unit_zero (S := S1024x1024) hz, View.ld_unit_zero (S := S1024x1408) hz, View.ld_unit_zero (S := S1408x1024) hz, shapeCast_self]

end Body

theorem pay_at (x0 : Vec Ideal S1024x1408 .bf16) (x1 : Vec Ideal S1024x1024 .bf16) (a : Fin 1408) (b : Fin 1024) :
    k0_pay1 (F := Ideal) x0 x1 (ix2 a b) = ∑ x : Fin 1024, (x0 (ix2 x a) * x1 (ix2 x b) : EReal) := by
  pointwise [k0_pay1]

section Host

variable {F : FTy → Type} [FloatOps F] [Named F] (m : (ℓ : Loc nD τ sig) → Buf (Elt F) ℓ) (c : Dev nD)

theorem host0 : V m c main_v0 = truncf (F := F) .bf16 (m ((c : Thread nD τ).loc main_arg0)) bitsLt_bf16_f32 := by
  after_reads_simp

theorem host1 : V m c main_v1 = truncf (F := F) .bf16 (m ((c : Thread nD τ).loc main_arg1)) bitsLt_bf16_f32 := by
  after_reads_simp

end Host

variable (m : (ℓ : Loc nD τ sig) → Buf (Elt Ideal) ℓ) (ρ : Dev nD → PrngReg) (c : Dev nD)

abbrev A : Mat 8192 2816 := m ((c : Thread nD τ).loc main_arg0)
abbrev B : Mat 8192 1024 := m ((c : Thread nD τ).loc main_arg1)

theorem idx0 : ∀ t : Fin cfg0.N, win0_0.index t = ![t.val % 8, t.val / 8] := by decide +kernel
theorem idx1 : ∀ t : Fin cfg0.N, win0_1.index t = ![t.val % 8, 0] := by decide +kernel
theorem idx2 : ∀ t : Fin cfg0.N, win0_2.index t = ![t.val / 8, 0] := by decide +kernel
theorem lt16 (t : Fin cfg0.N) : t.val < 16 := t.isLt

theorem blk0' (X : (⟨S8192x2816, .bf16⟩ : BufTy).Contents (Elt Ideal)) (t : Fin cfg0.N) (x : Fin 1024) (a : Fin 1408) :
    ((cfg0.win 0).blk t).view.read (Elt Ideal) X (ix2 x a) = X (ix2 ⟨t.val % 8 * 1024 + x.val, by omega⟩ ⟨t.val / 8 * 1408 + a.val, by have := lt16 t; omega⟩) := by
  blk_ext [idx0]

theorem blk1' (X : (⟨S8192x1024, .bf16⟩ : BufTy).Contents (Elt Ideal)) (t : Fin cfg0.N) (x : Fin 1024) (b : Fin 1024) :
    ((cfg0.win 1).blk t).view.read (Elt Ideal) X (ix2 x b) = X (ix2 ⟨t.val % 8 * 1024 + x.val, by omega⟩ b) := by
  blk_ext [idx1]

theorem blk0 (t : Fin cfg0.N) (x : Fin 1024) (a : Fin 1408) : (iblk m c 0 t (ix2 x a) : EReal) = cell (A m c) (1024 * (t.val % 8) + x.val) (1408 * (t.val / 8) + a.val) := by
  unfold iblk
  refine (blk0' (V m c main_v0) t x a).trans ?_
  rw [host0]
  pointwise
  rw [mul_comm 1024, mul_comm 1408]
  exact cell_of (A m c) ⟨t.val % 8 * 1024 + x.val, by omega⟩ ⟨t.val / 8 * 1408 + a.val, by have := lt16 t; omega⟩

theorem blk1 (t : Fin cfg0.N) (x : Fin 1024) (b : Fin 1024) : (iblk m c 1 t (ix2 x b) : EReal) = cell (B m c) (1024 * (t.val % 8) + x.val) b.val := by
  unfold iblk
  refine (blk1' (V m c main_v1) t x b).trans ?_
  rw [host1]
  pointwise
  rw [mul_comm 1024]
  exact cell_of (B m c) ⟨t.val % 8 * 1024 + x.val, by omega⟩ b

/-- One tile's product of a point's blocks. -/
theorem part (t : Fin cfg0.N) (a : Fin 1408) (b : Fin 1024) :
    (k0_pay1 (F := Ideal) (iblk m c 0 t) (iblk m c 1 t) (ix2 a b) : EReal)
      = ∑ x : Fin 1024, cell (A m c) (1024 * (t.val % 8) + x.val) (1408 * (t.val / 8) + a.val) * cell (B m c) (1024 * (t.val % 8) + x.val) b.val :=
  (pay_at _ _ a b).trans (Finset.sum_congr rfl fun x _ => by rw [blk0, blk1])

/-- The scratch after a point, unless it is a block's last. -/
theorem kept (n : ℕ) (hn : n < cfg0.N) (h7 : n % 8 ≠ 7) (a : Fin 1408) (b : Fin 1024) :
    ((outsAt0 m c n hn).2 (ix2 a b) : EReal) = tdot (A m c) (B m c) (1408 * (n / 8) + a.val) b.val (1024 * (n % 8) + 1024) := by
  refine tiles (fun n h => (outsAt0 m c n h).2 (ix2 a b)) (fun n h => k0_pay1 (F := Ideal) (iblk m c 0 ⟨n, h⟩) (iblk m c 1 ⟨n, h⟩) (ix2 a b))
    (fun q x => cell (A m c) x (1408 * q + a.val) * cell (B m c) x b.val) (fun n h => part m c ⟨n, h⟩ a b) (fun n h h0 => ?_) (fun n h h0 h7 => ?_) n hn h7
  · rw [outsAt0_A m c ⟨n, h⟩ h0 (by simp [h0]) (by simp [h0])]
    dsimp only
    rw [first]
  · rw [outsAt0_B m c ⟨n, h⟩ h0 (by simp; omega) h7]
    dsimp only
    rw [next]
    rfl

theorem flush : ∀ t : Fin cfg0.N, (cfg0.win 2).flush t = true → t.val % 8 = 7 := by decide +kernel

/-- The kernel's result. -/
theorem result : (dats m 0 c).arrAt 2 cfg0.N = tprod (A m c) (B m c) := by
  refine (dats m 0 c).arrAt_eq_of_covers 2 _ (by decide +kernel) fun t hf y => ?_
  have h7 := flush t hf
  blk_simp
  rw [after0_2]
  obtain ⟨a, b, rfl⟩ : ∃ (a : Fin 1408) (b : Fin 1024), y = ix2 a b := ⟨y 0, y 1, by funext i; fin_cases i <;> rfl⟩
  rw [outsAt0_C m c t (by omega) (by omega) h7]
  dsimp only
  rw [last]
  have P := kept m c (t.val - 1) (Nat.lt_of_le_of_lt (Nat.sub_le _ _) t.isLt) (by omega) a b
  pointwise
  rw [P, part, show (t.val - 1) / 8 = t.val / 8 by omega, show 1024 * ((t.val - 1) % 8) + 1024 = 1024 * (t.val % 8) by omega, tdot_step, h7]
  refine (tprod_of (A m c) (B m c) _ _ _ ?_ ?_).symm
  · blk_simp [idx2]
    omega
  · blk_simp [idx2]

/-- The reference's result. -/
theorem reference (a : Mat 8192 2816) (b : Mat 8192 1024) : Cert.DwDownReferenceIdeal.Read.val_main_v3 (F := Ideal) a b = tprod a b := by
  funext y
  rw [Cert.DwDownReferenceIdeal.Read.val_main_v3_apply, Cert.DwDownReferenceIdeal.Read.val_main_v2_apply]
  refine Finset.sum_congr rfl fun x _ => (mul_comm _ _).trans (congrArg₂ (fun u v : EReal => u * v) (congrArg a ?_) (congrArg b ?_)) <;>
    funext i <;> fin_cases i <;> rfl

theorem algebraic : Cert.algebraic_DwDownIdeal_DwDownReferenceIdeal := by
  intro m g m' g' _ hargs
  refine ⟨fun c => tprod (A m c) (B m c), ?_, ?_⟩
  · exact (θ_run Cert.DwDownIdeal.defs _ _).mono (fun r h c => ⟨(Value.post2 m r h c).trans (result m c), Value.kept_main_arg0 m r h c, Value.kept_main_arg1 m r h c⟩) (run_main m g)
  · refine (θ_run Cert.DwDownReferenceIdeal.defs _ _).mono (fun r h c => ?_) (Cert.DwDownReferenceIdeal.Value.run m' g')
    obtain ⟨h1, h2⟩ := h c
    obtain ⟨a0, a1⟩ := hargs c
    refine ⟨h1.trans ?_, h2⟩
    rw [Cert.DwDownReferenceIdeal.Read.val_main_v3_eq, a0, a1]
    exact reference (A m c) (B m c)

end Cert.DwDownIdeal.Val

end
-- ==== Proof.DactValue.lean ====
/-
  The gradient of the gated activation: every tile of the kernel is a tile of the product.
-/
module

public import proofs.«01_k».proof.Proof.Gen.DactIdeal.Value
public import proofs.«01_k».proof.Proof.Gen.DactReferenceIdeal.Run
public import proofs.«01_k».proof.Proof.Gen.DactReferenceIdeal.Read
public import proofs.«01_k».proof.Proof.Prod
public import proofs.«01_k».proof.Defs
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.ShloMosaic.Tactic Idealize.SL.Sem

namespace Cert.DactIdeal.Val

open Cert.DactIdeal Cert.DactIdeal.Gen Cert.Prod

/-- A tile of the output. -/
theorem out_at (x0 : Vec Ideal S1024x1024 .bf16) (x1 : Vec Ideal S1408x1024 .bf16) (a : Fin 1024) (b : Fin 1408) :
    out0_2 (F := Ideal) x0 x1 (ix2 a b) = ∑ x : Fin 1024, (x0 (ix2 a x) * x1 (ix2 b x) : EReal) := by
  unfold out0_2
  rw [View.canon_unit_zero hz]
  simp only [View.ld_unit_zero (S := S1024x1024) hz, View.ld_unit_zero (S := S1408x1024) hz]
  pointwise [k0_pay1]

section Host

variable {F : FTy → Type} [FloatOps F] [Named F] (m : (ℓ : Loc nD τ sig) → Buf (Elt F) ℓ) (c : Dev nD)

theorem host0 : V m c main_v0 = truncf (F := F) .bf16 (m ((c : Thread nD τ).loc main_arg0)) bitsLt_bf16_f32 := by
  after_reads_simp

theorem host1 : V m c main_v1 = truncf (F := F) .bf16 (m ((c : Thread nD τ).loc main_arg1)) bitsLt_bf16_f32 := by
  after_reads_simp

end Host

variable (m : (ℓ : Loc nD τ sig) → Buf (Elt Ideal) ℓ) (ρ : Dev nD → PrngReg) (c : Dev nD)

abbrev A : Mat 8192 1024 := m ((c : Thread nD τ).loc main_arg0)
abbrev B : Mat 2816 1024 := m ((c : Thread nD τ).loc main_arg1)

theorem idx0 : ∀ t : Fin cfg0.N, win0_0.index t = ![t.val / 2, 0] := by decide +kernel
theorem idx1 : ∀ t : Fin cfg0.N, win0_1.index t = ![t.val % 2, 0] := by decide +kernel
theorem idx2 : ∀ t : Fin cfg0.N, win0_2.index t = ![t.val / 2, t.val % 2] := by decide +kernel
theorem lt16 (t : Fin cfg0.N) : t.val < 16 := t.isLt
theorem row_lt (t : Fin cfg0.N) (a : Fin 1024) : t.val / 2 * 1024 + a.val < 8192 := by have := lt16 t; omega
theorem col_lt (t : Fin cfg0.N) (b : Fin 1408) : t.val % 2 * 1408 + b.val < 2816 := by omega

theorem blk0' (X : (⟨S8192x1024, .bf16⟩ : BufTy).Contents (Elt Ideal)) (t : Fin cfg0.N) (a : Fin 1024) (x : Fin 1024) :
    ((cfg0.win 0).blk t).view.read (Elt Ideal) X (ix2 a x) = X (ix2 ⟨t.val / 2 * 1024 + a.val, row_lt t a⟩ x) := by
  blk_ext [idx0]

theorem blk1' (X : (⟨S2816x1024, .bf16⟩ : BufTy).Contents (Elt Ideal)) (t : Fin cfg0.N) (b : Fin 1408) (x : Fin 1024) :
    ((cfg0.win 1).blk t).view.read (Elt Ideal) X (ix2 b x) = X (ix2 ⟨t.val % 2 * 1408 + b.val, col_lt t b⟩ x) := by
  blk_ext [idx1]

theorem blk0 (t : Fin cfg0.N) (a : Fin 1024) (x : Fin 1024) : (iblk m c 0 t (ix2 a x) : EReal) = A m c (ix2 ⟨t.val / 2 * 1024 + a.val, row_lt t a⟩ x) := by
  unfold iblk
  refine (blk0' (V m c main_v0) t a x).trans ?_
  rw [host0]
  pointwise

theorem blk1 (t : Fin cfg0.N) (b : Fin 1408) (x : Fin 1024) : (iblk m c 1 t (ix2 b x) : EReal) = B m c (ix2 ⟨t.val % 2 * 1408 + b.val, col_lt t b⟩ x) := by
  unfold iblk
  refine (blk1' (V m c main_v1) t b x).trans ?_
  rw [host1]
  pointwise

/-- The kernel's result. -/
theorem result : (dats m 0 c).arrAt 2 cfg0.N = rprod (A m c) (B m c) := by
  refine (dats m 0 c).arrAt_eq_of_covers 2 _ (by decide +kernel) fun t hf y => ?_
  blk_simp
  rw [after0_2]
  obtain ⟨a, b, rfl⟩ : ∃ (a : Fin 1024) (b : Fin 1408), y = ix2 a b := ⟨y 0, y 1, by funext i; fin_cases i <;> rfl⟩
  refine (out_at _ _ a b).trans ?_
  refine (Finset.sum_congr rfl fun x _ => by rw [blk0, blk1]).trans (rprod_of (A m c) (B m c) _ ⟨t.val / 2 * 1024 + a.val, row_lt t a⟩ ⟨t.val % 2 * 1408 + b.val, col_lt t b⟩ ?_ ?_).symm <;>
    blk_simp [idx2]

/-- The reference's result. -/
theorem reference (a : Mat 8192 1024) (b : Mat 2816 1024) : Cert.DactReferenceIdeal.Read.val_main_v2 (F := Ideal) a b = rprod a b := by
  funext y
  rw [Cert.DactReferenceIdeal.Read.val_main_v2_apply]
  refine Finset.sum_congr rfl fun x _ => congrArg₂ (fun u v : EReal => u * v) (congrArg a ?_) (congrArg b ?_) <;>
    funext i <;> fin_cases i <;> rfl

theorem algebraic : Cert.algebraic_DactIdeal_DactReferenceIdeal := by
  intro m g m' g' _ hargs
  refine ⟨fun c => rprod (A m c) (B m c), ?_, ?_⟩
  · exact (θ_run Cert.DactIdeal.defs _ _).mono (fun r h c => ⟨(h c).1.trans (result m c), (h c).2⟩) (Value.run_blocks m g)
  · refine (θ_run Cert.DactReferenceIdeal.defs _ _).mono (fun r h c => ?_) (Cert.DactReferenceIdeal.Value.run m' g')
    obtain ⟨h1, h2⟩ := h c
    obtain ⟨a0, a1⟩ := hargs c
    refine ⟨h1.trans ?_, h2⟩
    rw [Cert.DactReferenceIdeal.Read.val_main_v2_eq, a0, a1]
    exact reference (A m c) (B m c)

end Cert.DactIdeal.Val

end
-- ==== Proof.DhGateValue.lean ====
/-
  The gradient of the normed rows through `ffn_w_up`'s gate half: every tile of the kernel is a tile of the product.
-/
module

public import proofs.«01_k».proof.Proof.Gen.DhGateIdeal.Value
public import proofs.«01_k».proof.Proof.Gen.DhGateReferenceIdeal.Run
public import proofs.«01_k».proof.Proof.Gen.DhGateReferenceIdeal.Read
public import proofs.«01_k».proof.Proof.Prod
public import proofs.«01_k».proof.Defs
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.ShloMosaic.Tactic Idealize.SL.Sem

namespace Cert.DhGateIdeal.Val

open Cert.DhGateIdeal Cert.DhGateIdeal.Gen Cert.Prod

/-- A tile of the output. -/
theorem out_at (x0 : Vec Ideal S1024x2816 .bf16) (x1 : Vec Ideal S1024x2816 .bf16) (a b : Fin 1024) :
    out0_2 (F := Ideal) x0 x1 (ix2 a b) = ∑ x : Fin 2816, (x0 (ix2 a x) * x1 (ix2 b x) : EReal) := by
  unfold out0_2
  rw [View.canon_unit_zero hz]
  simp only [View.ld_unit_zero (S := S1024x2816) hz]
  pointwise [k0_pay1]

section Host

variable {F : FTy → Type} [FloatOps F] [Named F] (m : (ℓ : Loc nD τ sig) → Buf (Elt F) ℓ) (c : Dev nD)

theorem host0 : V m c main_v0 = truncf (F := F) .bf16 (m ((c : Thread nD τ).loc main_arg0)) bitsLt_bf16_f32 := by
  after_reads_simp

theorem host1 : V m c main_v1 = truncf (F := F) .bf16 (m ((c : Thread nD τ).loc main_arg1)) bitsLt_bf16_f32 := by
  after_reads_simp

end Host

variable (m : (ℓ : Loc nD τ sig) → Buf (Elt Ideal) ℓ) (ρ : Dev nD → PrngReg) (c : Dev nD)

abbrev A : Mat 8192 2816 := m ((c : Thread nD τ).loc main_arg0)
abbrev W : Mat 1024 5632 := m ((c : Thread nD τ).loc main_arg1)

/-- The gate half of the weight's columns. -/
def half (w : Mat 1024 5632) : Mat 1024 2816 := fun y => w (ix2 (y 0) ⟨(y 1).val, Nat.lt_of_lt_of_le (y 1).isLt (show 2816 ≤ 5632 by norm_num)⟩)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem lt8 (t : Fin cfg0.N) : t.val < 8 := t.isLt
theorem row_lt (t : Fin cfg0.N) (a : Fin 1024) : t.val * 1024 + a.val < 8192 := by have := lt8 t; omega

theorem blk0' (X : (⟨S8192x2816, .bf16⟩ : BufTy).Contents (Elt Ideal)) (t : Fin cfg0.N) (a : Fin 1024) (x : Fin 2816) :
    ((cfg0.win 0).blk t).view.read (Elt Ideal) X (ix2 a x) = X (ix2 ⟨t.val * 1024 + a.val, row_lt t a⟩ x) := by
  blk_ext [idx0]

theorem blk1' (X : (⟨S1024x5632, .bf16⟩ : BufTy).Contents (Elt Ideal)) (t : Fin cfg0.N) (b : Fin 1024) (x : Fin 2816) :
    ((cfg0.win 1).blk t).view.read (Elt Ideal) X (ix2 b x) = X (ix2 b ⟨x.val, by omega⟩) := by
  blk_ext [idx1]

theorem blk0 (t : Fin cfg0.N) (a : Fin 1024) (x : Fin 2816) : (iblk m c 0 t (ix2 a x) : EReal) = A m c (ix2 ⟨t.val * 1024 + a.val, row_lt t a⟩ x) := by
  unfold iblk
  refine (blk0' (V m c main_v0) t a x).trans ?_
  rw [host0]
  pointwise

theorem blk1 (t : Fin cfg0.N) (b : Fin 1024) (x : Fin 2816) : (iblk m c 1 t (ix2 b x) : EReal) = half (W m c) (ix2 b x) := by
  unfold iblk
  refine (blk1' (V m c main_v1) t b x).trans ?_
  rw [host1]
  pointwise
  rfl

/-- The kernel's result. -/
theorem result : (dats m 0 c).arrAt 2 cfg0.N = rprod (A m c) (half (W m c)) := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨y 0, y 1, by funext i; fin_cases i <;> rfl⟩
  refine (out_at _ _ a b).trans ?_
  refine (Finset.sum_congr rfl fun x _ => by rw [blk0, blk1]).trans (rprod_of (A m c) (half (W m c)) _ ⟨t.val * 1024 + a.val, row_lt t a⟩ b ?_ ?_).symm <;>
    blk_simp [idx2]

/-- The reference's result. -/
theorem reference (a : Mat 8192 2816) (w : Mat 1024 5632) : Cert.DhGateReferenceIdeal.Read.val_main_v3 (F := Ideal) a w = rprod a (half w) := by
  funext y
  rw [Cert.DhGateReferenceIdeal.Read.val_main_v3_apply]
  refine Finset.sum_congr rfl fun x _ => ?_
  rw [Cert.DhGateReferenceIdeal.Read.val_main_v1_apply]
  refine congrArg₂ (fun u v : EReal => u * v) (congrArg a ?_) (congrArg w ?_) <;>
    funext i <;> fin_cases i <;> simp <;> rfl

theorem algebraic : Cert.algebraic_DhGateIdeal_DhGateReferenceIdeal := by
  intro m g m' g' _ hargs
  refine ⟨fun c => rprod (A m c) (half (W m c)), ?_, ?_⟩
  · exact (θ_run Cert.DhGateIdeal.defs _ _).mono (fun r h c => ⟨(h c).1.trans (result m c), (h c).2⟩) (Value.run_blocks m g)
  · refine (θ_run Cert.DhGateReferenceIdeal.defs _ _).mono (fun r h c => ?_) (Cert.DhGateReferenceIdeal.Value.run m' g')
    obtain ⟨h1, h2⟩ := h c
    obtain ⟨a0, a1⟩ := hargs c
    refine ⟨h1.trans ?_, h2⟩
    rw [Cert.DhGateReferenceIdeal.Read.val_main_v3_eq, a0, a1]
    exact reference (A m c) (W m c)

end Cert.DhGateIdeal.Val

end
-- ==== Proof.DhValueValue.lean ====
/-
  The gradient of the normed rows through `ffn_w_up`'s value half, added to the gate half's: every tile of the kernel is a tile of the product.
-/
module

public import proofs.«01_k».proof.Proof.Gen.DhValueIdeal.Value
public import proofs.«01_k».proof.Proof.Gen.DhValueReferenceIdeal.Run
public import proofs.«01_k».proof.Proof.Gen.DhValueReferenceIdeal.Read
public import proofs.«01_k».proof.Proof.Prod
public import proofs.«01_k».proof.Defs
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.ShloMosaic.Tactic Idealize.SL.Sem

namespace Cert.DhValueIdeal.Val

open Cert.DhValueIdeal Cert.DhValueIdeal.Gen Cert.Prod

/-- A tile of the output. -/
theorem out_at (x0 : Vec Ideal S1024x2816 .bf16) (x1 : Vec Ideal S1024x2816 .bf16) (x2 : Vec Ideal S1024x1024 .f32) (a b : Fin 1024) :
    out0_3 (F := Ideal) x0 x1 x2 (ix2 a b) = (∑ x : Fin 2816, (x0 (ix2 a x) * x1 (ix2 b x)) + x2 (ix2 a b) : EReal) := by
  unfold out0_3
  rw [View.canon_unit_zero hz]
  simp only [View.ld_unit_zero (S := S1024x2816) hz, View.ld_unit_zero (S := S1024x1024) hz]
  pointwise [k0_pay1]

section Host

variable {F : FTy → Type} [FloatOps F] [Named F] (m : (ℓ : Loc nD τ sig) → Buf (Elt F) ℓ) (c : Dev nD)

theorem host0 : V m c main_v0 = truncf (F := F) .bf16 (m ((c : Thread nD τ).loc main_arg0)) bitsLt_bf16_f32 := by
  after_reads_simp

theorem host1 : V m c main_v1 = truncf (F := F) .bf16 (m ((c : Thread nD τ).loc main_arg1)) bitsLt_bf16_f32 := by
  after_reads_simp

end Host

variable (m : (ℓ : Loc nD τ sig) → Buf (Elt Ideal) ℓ) (ρ : Dev nD → PrngReg) (c : Dev nD)

abbrev A : Mat 8192 2816 := m ((c : Thread nD τ).loc main_arg0)
abbrev W : Mat 1024 5632 := m ((c : Thread nD τ).loc main_arg1)
abbrev D : Mat 8192 1024 := m ((c : Thread nD τ).loc main_arg2)

/-- The value half of the weight's columns. -/
def half (w : Mat 1024 5632) : Mat 1024 2816 := fun y => w (ix2 (y 0) ⟨2816 + (y 1).val, Nat.add_lt_add_left (y 1).isLt 2816⟩)

theorem idx0 : ∀ t : Fin cfg0.N, win0_0.index t = ![t.val, 0] := by decide +kernel
theorem idx1 : ∀ t : Fin cfg0.N, win0_1.index t = ![0, 1] := by decide +kernel
theorem idx2 : ∀ t : Fin cfg0.N, win0_2.index t = ![t.val, 0] := by decide +kernel
theorem idx3 : ∀ t : Fin cfg0.N, win0_3.index t = ![t.val, 0] := by decide +kernel
theorem lt8 (t : Fin cfg0.N) : t.val < 8 := t.isLt
theorem row_lt (t : Fin cfg0.N) (a : Fin 1024) : t.val * 1024 + a.val < 8192 := by have := lt8 t; omega

theorem blk0' (X : (⟨S8192x2816, .bf16⟩ : BufTy).Contents (Elt Ideal)) (t : Fin cfg0.N) (a : Fin 1024) (x : Fin 2816) :
    ((cfg0.win 0).blk t).view.read (Elt Ideal) X (ix2 a x) = X (ix2 ⟨t.val * 1024 + a.val, row_lt t a⟩ x) := by
  blk_ext [idx0]

theorem blk1' (X : (⟨S1024x5632, .bf16⟩ : BufTy).Contents (Elt Ideal)) (t : Fin cfg0.N) (b : Fin 1024) (x : Fin 2816) :
    ((cfg0.win 1).blk t).view.read (Elt Ideal) X (ix2 b x) = X (ix2 b ⟨2816 + x.val, by omega⟩) := by
  blk_ext [idx1]

theorem blk0 (t : Fin cfg0.N) (a : Fin 1024) (x : Fin 2816) : (iblk m c 0 t (ix2 a x) : EReal) = A m c (ix2 ⟨t.val * 1024 + a.val, row_lt t a⟩ x) := by
  unfold iblk
  refine (blk0' (V m c main_v0) t a x).trans ?_
  rw [host0]
  pointwise

theorem blk1 (t : Fin cfg0.N) (b : Fin 1024) (x : Fin 2816) : (iblk m c 1 t (ix2 b x) : EReal) = half (W m c) (ix2 b x) := by
  unfold iblk
  refine (blk1' (V m c main_v1) t b x).trans ?_
  rw [host1]
  pointwise
  rfl

theorem blk2' (X : (⟨S8192x1024, .f32⟩ : BufTy).Contents (Elt Ideal)) (t : Fin cfg0.N) (a b : Fin 1024) :
    ((cfg0.win 2).blk t).view.read (Elt Ideal) X (ix2 a b) = X (ix2 ⟨t.val * 1024 + a.val, row_lt t a⟩ b) := by
  blk_ext [idx2]

theorem blk2 (t : Fin cfg0.N) (a b : Fin 1024) : (iblk m c 2 t (ix2 a b) : EReal) = D m c (ix2 ⟨t.val * 1024 + a.val, row_lt t a⟩ b) := by
  unfold iblk
  refine (blk2' (V m c main_arg2) t a b).trans ?_
  rw [V_main_arg2]

/-- The kernel's result. -/
theorem result : (dats m 0 c).arrAt 3 cfg0.N = plus (rprod (A m c) (half (W m c))) (D m c) := by
  refine (dats m 0 c).arrAt_eq_of_covers 3 _ (by decide +kernel) fun t hf y => ?_
  blk_simp
  rw [after0_3]
  obtain ⟨a, b, rfl⟩ : ∃ (a : Fin 1024) (b : Fin 1024), y = ix2 a b := ⟨y 0, y 1, by funext i; fin_cases i <;> rfl⟩
  refine (out_at _ _ _ a b).trans ?_
  refine (congrArg₂ (fun u v : EReal => u + v) (Finset.sum_congr rfl fun x _ => by rw [blk0, blk1]) (blk2 m c t a b)).trans ?_
  refine (plus_of _ (D m c) _ ⟨t.val * 1024 + a.val, row_lt t a⟩ b ?_ ?_ _ (rprod_of (A m c) (half (W m c)) _ ⟨t.val * 1024 + a.val, row_lt t a⟩ b ?_ ?_)).symm <;>
    blk_simp [idx3]

/-- The reference's result. -/
theorem reference (a : Mat 8192 2816) (w : Mat 1024 5632) (d : Mat 8192 1024) : Cert.DhValueReferenceIdeal.Read.val_main_v5 (F := Ideal) a w d = plus (rprod a (half w)) d := by
  funext y
  rw [Cert.DhValueReferenceIdeal.Read.val_main_v5_apply, Cert.DhValueReferenceIdeal.Read.val_main_v4_apply, Cert.DhValueReferenceIdeal.Read.val_main_v3_apply]
  refine (add_comm _ _).trans (congrArg (fun u : EReal => u + d y) ?_)
  refine Finset.sum_congr rfl fun x _ => ?_
  rw [Cert.DhValueReferenceIdeal.Read.val_main_v1_apply]
  refine congrArg₂ (fun u v : EReal => u * v) (congrArg a ?_) (congrArg w ?_) <;>
    funext i <;> fin_cases i <;> simp <;> rfl

theorem algebraic : Cert.algebraic_DhValueIdeal_DhValueReferenceIdeal := by
  intro m g m' g' _ hargs
  refine ⟨fun c => plus (rprod (A m c) (half (W m c))) (D m c), ?_, ?_⟩
  · exact (θ_run Cert.DhValueIdeal.defs _ _).mono (fun r h c => ⟨(h c).1.trans (result m c), (h c).2⟩) (Value.run_blocks m g)
  · refine (θ_run Cert.DhValueReferenceIdeal.defs _ _).mono (fun r h c => ?_) (Cert.DhValueReferenceIdeal.Value.run m' g')
    obtain ⟨h1, h2⟩ := h c
    obtain ⟨a0, a1, a2⟩ := hargs c
    refine ⟨h1.trans ?_, h2⟩
    rw [Cert.DhValueReferenceIdeal.Read.val_main_v5_eq, a0, a1, a2]
    exact reference (A m c) (W m c) (D m c)

end Cert.DhValueIdeal.Val

end
-- ==== Proof.DwInValue.lean ====
/-
  The gradient of `w_in`: the kernel's sum over the tiles of tokens is the product.
-/
module

public import proofs.«01_k».proof.Proof.Gen.DwInIdeal.Value
public import proofs.«01_k».proof.Proof.Gen.DwInReferenceIdeal.Run
public import proofs.«01_k».proof.Proof.Gen.DwInReferenceIdeal.Read
public import proofs.«01_k».proof.Proof.Prod
public import proofs.«01_k».proof.Defs
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.ShloMosaic.Tactic Idealize.SL.Sem

namespace Cert.DwInIdeal.Val

open Cert.DwInIdeal Cert.DwInIdeal.Gen Cert.Prod

section Body

variable {F : FTy → Type} [FloatOps F] [Named F]
variable (c : Dev nD) (i : grid0.Coords) (a3 : Memref sig .tc .vmem S1024x1024 .bf16) (h3 : a3.IsWhole) (a4 : Memref sig .tc .vmem S1024x1024 .bf16) (h4 : a4.IsWhole)
  (a5 : Memref sig .tc .vmem S1024x1024 .f32) (h5 : a5.IsWhole) (a6 : Memref sig .tc .vmem S1024x1024 .f32) (h6 : a6.IsWhole)
  (x0 : Vec F S1024x1024 .bf16) (x1 : Vec F S1024x1024 .bf16) (xs : Vec F S1024x1024 .f32)

/-- The first tile's product. -/
theorem first (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  unfold k0_pay2
  simp only [View.readAt_eq_ld, h3.read_unread, h4.read_unread, View.ld_unit_zero (S := S1024x1024) hz, shapeCast_self]

/-- A later tile's product, added. -/
theorem next (hc0 : ¬cond0_0 i) (hc1 : cond0_1 i) (hc2 : ¬cond0_2 i) : sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  unfold k0_pay3
  simp only [View.readAt_eq_ld, h3.read_unread, h4.read_unread, h6.read_unread, View.ld_unit_zero (S := S1024x1024) hz, shapeCast_self]

/-- The last tile's, left in the output. -/
theorem last (hc0 : ¬cond0_0 i) (hc1 : cond0_1 i) (hc2 : cond0_2 i) : out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  rw [View.canon_unit_zero hz]
  sl_unfold_words
  rw [View.readCov_unit_zero (S := S1024x1024) _ hz]
  unfold k0_pay3
  simp only [View.readAt_eq_ld, h3.read_unread, h4.read_unread, h6.read_unread, View.ld_unit_zero (S := S1024x1024) hz, shapeCast_self]

end Body

theorem pay_at (x0 : Vec Ideal S1024x1024 .bf16) (x1 : Vec Ideal S1024x1024 .bf16) (a : Fin 1024) (b : Fin 1024) :
    k0_pay1 (F := Ideal) x0 x1 (ix2 a b) = ∑ x : Fin 1024, (x0 (ix2 x a) * x1 (ix2 x b) : EReal) := by
  pointwise [k0_pay1]

section Host

variable {F : FTy → Type} [FloatOps F] [Named F] (m : (ℓ : Loc nD τ sig) → Buf (Elt F) ℓ) (c : Dev nD)

theorem host0 : V m c main_v0 = truncf (F := F) .bf16 (m ((c : Thread nD τ).loc main_arg0)) bitsLt_bf16_f32 := by
  after_reads_simp

theorem host1 : V m c main_v1 = truncf (F := F) .bf16 (m ((c : Thread nD τ).loc main_arg1)) bitsLt_bf16_f32 := by
  after_reads_simp

end Host

variable (m : (ℓ : Loc nD τ sig) → Buf (Elt Ideal) ℓ) (ρ : Dev nD → PrngReg) (c : Dev nD)

abbrev A : Mat 8192 1024 := m ((c : Thread nD τ).loc main_arg0)
abbrev B : Mat 8192 4096 := m ((c : Thread nD τ).loc main_arg1)

theorem idx0 : ∀ t : Fin cfg0.N, win0_0.index t = ![t.val % 8, 0] := by decide +kernel
theorem idx1 : ∀ t : Fin cfg0.N, win0_1.index t = ![t.val % 8, t.val / 8] := by decide +kernel
theorem idx2 : ∀ t : Fin cfg0.N, win0_2.index t = ![0, t.val / 8] := by decide +kernel
theorem lt32 (t : Fin cfg0.N) : t.val < 32 := t.isLt

theorem blk0' (X : (⟨S8192x1024, .bf16⟩ : BufTy).Contents (Elt Ideal)) (t : Fin cfg0.N) (x : Fin 1024) (a : Fin 1024) :
    ((cfg0.win 0).blk t).view.read (Elt Ideal) X (ix2 x a) = X (ix2 ⟨t.val % 8 * 1024 + x.val, by omega⟩ a) := by
  blk_ext [idx0]

theorem blk1' (X : (⟨S8192x4096, .bf16⟩ : BufTy).Contents (Elt Ideal)) (t : Fin cfg0.N) (x : Fin 1024) (b : Fin 1024) :
    ((cfg0.win 1).blk t).view.read (Elt Ideal) X (ix2 x b) = X (ix2 ⟨t.val % 8 * 1024 + x.val, by omega⟩ ⟨t.val / 8 * 1024 + b.val, by have := lt32 t; omega⟩) := by
  blk_ext [idx1]

theorem blk0 (t : Fin cfg0.N) (x : Fin 1024) (a : Fin 1024) : (iblk m c 0 t (ix2 x a) : EReal) = cell (A m c) (1024 * (t.val % 8) + x.val) a.val := by
  unfold iblk
  refine (blk0' (V m c main_v0) t x a).trans ?_
  rw [host0]
  pointwise
  rw [mul_comm 1024]
  exact cell_of (A m c) ⟨t.val % 8 * 1024 + x.val, by omega⟩ a

theorem blk1 (t : Fin cfg0.N) (x : Fin 1024) (b : Fin 1024) : (iblk m c 1 t (ix2 x b) : EReal) = cell (B m c) (1024 * (t.val % 8) + x.val) (1024 * (t.val / 8) + b.val) := by
  unfold iblk
  refine (blk1' (V m c main_v1) t x b).trans ?_
  rw [host1]
  pointwise
  rw [mul_comm 1024, mul_comm 1024 (t.val / 8)]
  exact cell_of (B m c) ⟨t.val % 8 * 1024 + x.val, by omega⟩ ⟨t.val / 8 * 1024 + b.val, by have := lt32 t; omega⟩

/-- One tile's product of a point's blocks. -/
theorem part (t : Fin cfg0.N) (a : Fin 1024) (b : Fin 1024) :
    (k0_pay1 (F := Ideal) (iblk m c 0 t) (iblk m c 1 t) (ix2 a b) : EReal)
      = ∑ x : Fin 1024, cell (A m c) (1024 * (t.val % 8) + x.val) a.val * cell (B m c) (1024 * (t.val % 8) + x.val) (1024 * (t.val / 8) + b.val) :=
  (pay_at _ _ a b).trans (Finset.sum_congr rfl fun x _ => by rw [blk0, blk1])

/-- The scratch after a point, unless it is a block's last. -/
theorem kept (n : ℕ) (hn : n < cfg0.N) (h7 : n % 8 ≠ 7) (a : Fin 1024) (b : Fin 1024) :
    ((outsAt0 m c n hn).2 (ix2 a b) : EReal) = tdot (A m c) (B m c) a.val (1024 * (n / 8) + b.val) (1024 * (n % 8) + 1024) := by
  refine tiles (fun n h => (outsAt0 m c n h).2 (ix2 a b)) (fun n h => k0_pay1 (F := Ideal) (iblk m c 0 ⟨n, h⟩) (iblk m c 1 ⟨n, h⟩) (ix2 a b))
    (fun q x => cell (A m c) x a.val * cell (B m c) x (1024 * q + b.val)) (fun n h => part m c ⟨n, h⟩ a b) (fun n h h0 => ?_) (fun n h h0 h7 => ?_) n hn h7
  · rw [outsAt0_A m c ⟨n, h⟩ h0 (by simp [h0]) (by simp [h0])]
    dsimp only
    rw [first]
  · rw [outsAt0_B m c ⟨n, h⟩ h0 (by simp; omega) h7]
    dsimp only
    rw [next]
    rfl

theorem flush : ∀ t : Fin cfg0.N, (cfg0.win 2).flush t = true → t.val % 8 = 7 := by decide +kernel

/-- The kernel's result. -/
theorem result : (dats m 0 c).arrAt 2 cfg0.N = tprod (A m c) (B m c) := by
  refine (dats m 0 c).arrAt_eq_of_covers 2 _ (by decide +kernel) fun t hf y => ?_
  have h7 := flush t hf
  blk_simp
  rw [after0_2]
  obtain ⟨a, b, rfl⟩ : ∃ (a : Fin 1024) (b : Fin 1024), y = ix2 a b := ⟨y 0, y 1, by funext i; fin_cases i <;> rfl⟩
  rw [outsAt0_C m c t (by omega) (by omega) h7]
  dsimp only
  rw [last]
  have P := kept m c (t.val - 1) (Nat.lt_of_le_of_lt (Nat.sub_le _ _) t.isLt) (by omega) a b
  pointwise
  rw [P, part, show (t.val - 1) / 8 = t.val / 8 by omega, show 1024 * ((t.val - 1) % 8) + 1024 = 1024 * (t.val % 8) by omega, tdot_step, h7]
  refine (tprod_of (A m c) (B m c) _ _ _ ?_ ?_).symm
  · blk_simp [idx2]
  · blk_simp [idx2]
    omega

/-- The reference's result. -/
theorem reference (a : Mat 8192 1024) (b : Mat 8192 4096) : Cert.DwInReferenceIdeal.Read.val_main_v3 (F := Ideal) a b = tprod a b := by
  funext y
  rw [Cert.DwInReferenceIdeal.Read.val_main_v3_apply, Cert.DwInReferenceIdeal.Read.val_main_v2_apply]
  refine Finset.sum_congr rfl fun x _ => (mul_comm _ _).trans (congrArg₂ (fun u v : EReal => u * v) (congrArg a ?_) (congrArg b ?_)) <;>
    funext i <;> fin_cases i <;> rfl

theorem algebraic : Cert.algebraic_DwInIdeal_DwInReferenceIdeal := by
  intro m g m' g' _ hargs
  refine ⟨fun c => tprod (A m c) (B m c), ?_, ?_⟩
  · exact (θ_run Cert.DwInIdeal.defs _ _).mono (fun r h c => ⟨(Value.post2 m r h c).trans (result m c), Value.kept_main_arg0 m r h c, Value.kept_main_arg1 m r h c⟩) (run_main m g)
  · refine (θ_run Cert.DwInReferenceIdeal.defs _ _).mono (fun r h c => ?_) (Cert.DwInReferenceIdeal.Value.run m' g')
    obtain ⟨h1, h2⟩ := h c
    obtain ⟨a0, a1⟩ := hargs c
    refine ⟨h1.trans ?_, h2⟩
    rw [Cert.DwInReferenceIdeal.Read.val_main_v3_eq, a0, a1]
    exact reference (A m c) (B m c)

end Cert.DwInIdeal.Val

end
-- ==== Proof.DhInValue.lean ====
/-
  The gradient of the normed rows through `w_in`: the two halves of the kernel's inner axis add up to the product.
-/
module

public import proofs.«01_k».proof.Proof.Gen.DhInIdeal.Value
public import proofs.«01_k».proof.Proof.Gen.DhInReferenceIdeal.Run
public import proofs.«01_k».proof.Proof.Gen.DhInReferenceIdeal.Read
public import proofs.«01_k».proof.Proof.Prod
public import proofs.«01_k».proof.Defs
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.ShloMosaic.Tactic Idealize.SL.Sem

namespace Cert.DhInIdeal.Val

open Cert.DhInIdeal Cert.DhInIdeal.Gen Cert.Prod

section Body

variable {F : FTy → Type} [FloatOps F] [Named F]
variable (c : Dev nD) (i : grid0.Coords) (a3 : Memref sig .tc .vmem S1024x2048 .bf16) (h3 : a3.IsWhole) (a4 : Memref sig .tc .vmem S1024x2048 .bf16) (h4 : a4.IsWhole)
  (a5 : Memref sig .tc .vmem S1024x1024 .bf16) (h5 : a5.IsWhole) (a6 : Memref sig .tc .vmem S1024x1024 .f32) (h6 : a6.IsWhole)
  (x0 : Vec F S1024x2048 .bf16) (x1 : Vec F S1024x2048 .bf16) (xs : Vec F S1024x1024 .f32)

/-- The first half's product. -/
theorem first (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  unfold k0_pay2
  simp only [View.readAt_eq_ld, h3.read_unread, h4.read_unread, View.ld_unit_zero (S := S1024x2048) hz, View.ld_unit_zero (S := S1024x1024) hz, shapeCast_self]

/-- The second half's, added and left in the output. -/
theorem last (hc0 : ¬cond0_0 i) (hc1 : cond0_1 i) (hc2 : cond0_2 i) :
    out0_B_2 c i a3 h3 a4 h4 a5 h5 a6 h6 hc0 hc1 hc2 x0 x1 xs = truncf .bf16 (addf xs (k0_pay1 x0 x1)) bitsLt_bf16_f32 := by
  unfold out0_B_2
  rw [View.read_writes_eq_canon _ _ _ (cover0_B_2 c i a3 h3 a4 h4 a5 h5 a6 h6 hc0 hc1 hc2 x0 x1 xs)]
  unfold kernelRun0_B
  dsimp only
  rw [View.canon_unit_zero hz]
  sl_unfold_words
  rw [View.readCov_unit_zero (S := S1024x1024) _ hz]
  unfold k0_pay3 k0_pay4
  simp only [View.readAt_eq_ld, h3.read_unread, h4.read_unread, h6.read_unread, View.ld_unit_zero (S := S1024x2048) hz, View.ld_unit_zero (S := S1024x1024) hz, shapeCast_self]

end Body

theorem pay_at (x0 x1 : Vec Ideal S1024x2048 .bf16) (a b : Fin 1024) :
    k0_pay1 (F := Ideal) x0 x1 (ix2 a b) = ∑ x : Fin 2048, (x0 (ix2 a x) * x1 (ix2 b x) : EReal) := by
  pointwise [k0_pay1]

section Host

variable {F : FTy → Type} [FloatOps F] [Named F] (m : (ℓ : Loc nD τ sig) → Buf (Elt F) ℓ) (c : Dev nD)

theorem host0 : V m c main_v0 = truncf (F := F) .bf16 (m ((c : Thread nD τ).loc main_arg0)) bitsLt_bf16_f32 := by
  after_reads_simp

theorem host1 : V m c main_v1 = truncf (F := F) .bf16 (m ((c : Thread nD τ).loc main_arg1)) bitsLt_bf16_f32 := by
  after_reads_simp

end Host

variable (m : (ℓ : Loc nD τ sig) → Buf (Elt Ideal) ℓ) (ρ : Dev nD → PrngReg) (c : Dev nD)

abbrev A : Mat 8192 (2048 + 2048) := m ((c : Thread nD τ).loc main_arg0)
abbrev B : Mat 1024 (2048 + 2048) := m ((c : Thread nD τ).loc main_arg1)

theorem idx0 : ∀ t : Fin cfg0.N, win0_0.index t = ![t.val / 2, t.val % 2] := by decide +kernel
theorem idx1 : ∀ t : Fin cfg0.N, win0_1.index t = ![0, t.val % 2] := by decide +kernel
theorem idx2 : ∀ t : Fin cfg0.N, win0_2.index t = ![t.val / 2, 0] := by decide +kernel
theorem lt16 (t : Fin cfg0.N) : t.val < 16 := t.isLt
theorem row_lt (t : Fin cfg0.N) (a : Fin 1024) : t.val / 2 * 1024 + a.val < 8192 := by have := lt16 t; omega
theorem col_lt (t : Fin cfg0.N) (x : Fin 2048) : t.val % 2 * 2048 + x.val < 2048 + 2048 := by omega

theorem blk0' (X : (⟨S8192x4096, .bf16⟩ : BufTy).Contents (Elt Ideal)) (t : Fin cfg0.N) (a : Fin 1024) (x : Fin 2048) :
    ((cfg0.win 0).blk t).view.read (Elt Ideal) X (ix2 a x) = X (ix2 ⟨t.val / 2 * 1024 + a.val, row_lt t a⟩ ⟨t.val % 2 * 2048 + x.val, col_lt t x⟩) := by
  blk_ext [idx0]

theorem blk1' (X : (⟨S1024x4096, .bf16⟩ : BufTy).Contents (Elt Ideal)) (t : Fin cfg0.N) (b : Fin 1024) (x : Fin 2048) :
    ((cfg0.win 1).blk t).view.read (Elt Ideal) X (ix2 b x) = X (ix2 b ⟨t.val % 2 * 2048 + x.val, col_lt t x⟩) := by
  blk_ext [idx1]

theorem blk0 (t : Fin cfg0.N) (a : Fin 1024) (x : Fin 2048) :
    (iblk m c 0 t (ix2 a x) : EReal) = A m c (ix2 ⟨t.val / 2 * 1024 + a.val, row_lt t a⟩ ⟨t.val % 2 * 2048 + x.val, col_lt t x⟩) := by
  unfold iblk
  refine (blk0' (V m c main_v0) t a x).trans ?_
  rw [host0]
  pointwise

theorem blk1 (t : Fin cfg0.N) (b : Fin 1024) (x : Fin 2048) : (iblk m c 1 t (ix2 b x) : EReal) = B m c (ix2 b ⟨t.val % 2 * 2048 + x.val, col_lt t x⟩) := by
  unfold iblk
  refine (blk1' (V m c main_v1) t b x).trans ?_
  rw [host1]
  pointwise

/-- One half's product of a point's blocks, the half named by the columns `e`. -/
theorem part (t : Fin cfg0.N) (r : Fin 8192) (a b : Fin 1024) (hr : r.val = t.val / 2 * 1024 + a.val) (e : Fin 2048 → Fin (2048 + 2048)) (he : ∀ x, (e x).val = t.val % 2 * 2048 + x.val) :
    (k0_pay1 (F := Ideal) (iblk m c 0 t) (iblk m c 1 t) (ix2 a b) : EReal) = ∑ x : Fin 2048, A m c (ix2 r (e x)) * B m c (ix2 b (e x)) := by
  refine (pay_at _ _ a b).trans (Finset.sum_congr rfl fun x _ => ?_)
  rw [blk0, blk1, show r = ⟨t.val / 2 * 1024 + a.val, row_lt t a⟩ from Fin.ext hr, show e x = ⟨t.val % 2 * 2048 + x.val, col_lt t x⟩ from Fin.ext (he x)]

theorem flush : ∀ t : Fin cfg0.N, (cfg0.win 2).flush t = true → t.val % 2 = 1 := by decide +kernel

/-- The kernel's result. -/
theorem result : (dats m 0 c).arrAt 2 cfg0.N = rprod (A m c) (B m c) := by
  refine (dats m 0 c).arrAt_eq_of_covers 2 _ (by decide +kernel) fun t hf y => ?_
  have h1 := flush t hf
  have hp : t.val - 1 < cfg0.N := Nat.lt_of_le_of_lt (Nat.sub_le _ _) t.isLt
  blk_simp
  rw [after0_2]
  obtain ⟨a, b, rfl⟩ : ∃ (a : Fin 1024) (b : Fin 1024), y = ix2 a b := ⟨y 0, y 1, by funext i; fin_cases i <;> rfl⟩
  rw [outsAt0_B m c t (by omega) h1 h1]
  dsimp only
  rw [last, outsAt0_A m c ⟨t.val - 1, hp⟩ (by dsimp only; omega) (by dsimp only; omega) (by dsimp only; omega)]
  dsimp only
  rw [first]
  have P := part m c ⟨t.val - 1, hp⟩ ⟨t.val / 2 * 1024 + a.val, row_lt t a⟩ a b (by dsimp only; omega) (Fin.castAdd 2048) (fun x => by simp; omega)
  have Q := part m c t ⟨t.val / 2 * 1024 + a.val, row_lt t a⟩ a b rfl (Fin.natAdd 2048) (fun x => by simp; omega)
  pointwise
  rw [P, Q]
  refine (rprod_halves 2048 (A m c) (B m c) _ ⟨t.val / 2 * 1024 + a.val, row_lt t a⟩ b ?_ ?_).symm <;>
    blk_simp [idx2]

/-- The reference's result. -/
theorem reference (a : Mat 8192 4096) (b : Mat 1024 4096) : Cert.DhInReferenceIdeal.Read.val_main_v3 (F := Ideal) a b = rprod a b := by
  funext y
  rw [Cert.DhInReferenceIdeal.Read.val_main_v3_apply, Cert.DhInReferenceIdeal.Read.val_main_v2_apply]
  refine Finset.sum_congr rfl fun x _ => congrArg₂ (fun u v : EReal => u * v) (congrArg a ?_) (congrArg b ?_) <;>
    funext i <;> fin_cases i <;> rfl

theorem algebraic : Cert.algebraic_DhInIdeal_DhInReferenceIdeal := by
  intro m g m' g' _ hargs
  refine ⟨fun c => rprod (A m c) (B m c), ?_, ?_⟩
  · exact (θ_run Cert.DhInIdeal.defs _ _).mono (fun r h c => ⟨(Value.post2 m r h c).trans (result m c), Value.kept_main_arg0 m r h c, Value.kept_main_arg1 m r h c⟩) (run_main m g)
  · refine (θ_run Cert.DhInReferenceIdeal.defs _ _).mono (fun r h c => ?_) (Cert.DhInReferenceIdeal.Value.run m' g')
    obtain ⟨h1, h2⟩ := h c
    obtain ⟨a0, a1⟩ := hargs c
    refine ⟨h1.trans ?_, h2⟩
    rw [Cert.DhInReferenceIdeal.Read.val_main_v3_eq, a0, a1]
    exact reference (A m c) (B m c)

end Cert.DhInIdeal.Val

end
-- ==== Proof.DwOutValue.lean ====
/-
  The gradient of `w_out`: the kernel's sum over the tiles of tokens is the product.
-/
module

public import proofs.«01_k».proof.Proof.Gen.DwOutIdeal.Value
public import proofs.«01_k».proof.Proof.Gen.DwOutReferenceIdeal.Run
public import proofs.«01_k».proof.Proof.Gen.DwOutReferenceIdeal.Read
public import proofs.«01_k».proof.Proof.Prod
public import proofs.«01_k».proof.Defs
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.ShloMosaic.Tactic Idealize.SL.Sem

namespace Cert.DwOutIdeal.Val

open Cert.DwOutIdeal Cert.DwOutIdeal.Gen Cert.Prod

section Body

variable {F : FTy → Type} [FloatOps F] [Named F]
variable (c : Dev nD) (i : grid0.Coords) (a3 : Memref sig .tc .vmem S1024x1280 .bf16) (h3 : a3.IsWhole) (a4 : Memref sig .tc .vmem S1024x1024 .bf16) (h4 : a4.IsWhole)
  (a5 : Memref sig .tc .vmem S1280x1024 .f32) (h5 : a5.IsWhole) (a6 : Memref sig .tc .vmem S1280x1024 .f32) (h6 : a6.IsWhole)
  (x0 : Vec F S1024x1280 .bf16) (x1 : Vec F S1024x1024 .bf16) (xs : Vec F S1280x1024 .f32)

/-- The first tile's product. -/
theorem first (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  unfold k0_pay2
  simp only [View.readAt_eq_ld, h3.read_unread, h4.read_unread, View.ld_unit_zero (S := S1024x1024) hz, View.ld_unit_zero (S := S1024x1280) hz, View.ld_unit_zero (S := S1280x1024) hz, shapeCast_self]

/-- A later tile's product, added. -/
theorem next (hc0 : ¬cond0_0 i) (hc1 : cond0_1 i) (hc2 : ¬cond0_2 i) : sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  unfold k0_pay3
  simp only [View.readAt_eq_ld, h3.read_unread, h4.read_unread, h6.read_unread, View.ld_unit_zero (S := S1024x1024) hz, View.ld_unit_zero (S := S1024x1280) hz, View.ld_unit_zero (S := S1280x1024) hz, shapeCast_self]

/-- The last tile's, left in the output. -/
theorem last (hc0 : ¬cond0_0 i) (hc1 : cond0_1 i) (hc2 : cond0_2 i) : out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  rw [View.canon_unit_zero hz]
  sl_unfold_words
  rw [View.readCov_unit_zero (S := S1280x1024) _ hz]
  unfold k0_pay3
  simp only [View.readAt_eq_ld, h3.read_unread, h4.read_unread, h6.read_unread, View.ld_unit_zero (S := S1024x1024) hz, View.ld_unit_zero (S := S1024x1280) hz, View.ld_unit_zero (S := S1280x1024) hz, shapeCast_self]

end Body

theorem pay_at (x0 : Vec Ideal S1024x1280 .bf16) (x1 : Vec Ideal S1024x1024 .bf16) (a : Fin 1280) (b : Fin 1024) :
    k0_pay1 (F := Ideal) x0 x1 (ix2 a b) = ∑ x : Fin 1024, (x0 (ix2 x a) * x1 (ix2 x b) : EReal) := by
  pointwise [k0_pay1]

section Host

variable {F : FTy → Type} [FloatOps F] [Named F] (m : (ℓ : Loc nD τ sig) → Buf (Elt F) ℓ) (c : Dev nD)

theorem host0 : V m c main_v0 = truncf (F := F) .bf16 (m ((c : Thread nD τ).loc main_arg0)) bitsLt_bf16_f32 := by
  after_reads_simp

theorem host1 : V m c main_v1 = truncf (F := F) .bf16 (m ((c : Thread nD τ).loc main_arg1)) bitsLt_bf16_f32 := by
  after_reads_simp

end Host

variable (m : (ℓ : Loc nD τ sig) → Buf (Elt Ideal) ℓ) (ρ : Dev nD → PrngReg) (c : Dev nD)

abbrev A : Mat 8192 2560 := m ((c : Thread nD τ).loc main_arg0)
abbrev B : Mat 8192 1024 := m ((c : Thread nD τ).loc main_arg1)

theorem idx0 : ∀ t : Fin cfg0.N, win0_0.index t = ![t.val % 8, t.val / 8] := by decide +kernel
theorem idx1 : ∀ t : Fin cfg0.N, win0_1.index t = ![t.val % 8, 0] := by decide +kernel
theorem idx2 : ∀ t : Fin cfg0.N, win0_2.index t = ![t.val / 8, 0] := by decide +kernel
theorem lt16 (t : Fin cfg0.N) : t.val < 16 := t.isLt

theorem blk0' (X : (⟨S8192x2560, .bf16⟩ : BufTy).Contents (Elt Ideal)) (t : Fin cfg0.N) (x : Fin 1024) (a : Fin 1280) :
    ((cfg0.win 0).blk t).view.read (Elt Ideal) X (ix2 x a) = X (ix2 ⟨t.val % 8 * 1024 + x.val, by omega⟩ ⟨t.val / 8 * 1280 + a.val, by have := lt16 t; omega⟩) := by
  blk_ext [idx0]

theorem blk1' (X : (⟨S8192x1024, .bf16⟩ : BufTy).Contents (Elt Ideal)) (t : Fin cfg0.N) (x : Fin 1024) (b : Fin 1024) :
    ((cfg0.win 1).blk t).view.read (Elt Ideal) X (ix2 x b) = X (ix2 ⟨t.val % 8 * 1024 + x.val, by omega⟩ b) := by
  blk_ext [idx1]

theorem blk0 (t : Fin cfg0.N) (x : Fin 1024) (a : Fin 1280) : (iblk m c 0 t (ix2 x a) : EReal) = cell (A m c) (1024 * (t.val % 8) + x.val) (1280 * (t.val / 8) + a.val) := by
  unfold iblk
  refine (blk0' (V m c main_v0) t x a).trans ?_
  rw [host0]
  pointwise
  rw [mul_comm 1024, mul_comm 1280]
  exact cell_of (A m c) ⟨t.val % 8 * 1024 + x.val, by omega⟩ ⟨t.val / 8 * 1280 + a.val, by have := lt16 t; omega⟩

theorem blk1 (t : Fin cfg0.N) (x : Fin 1024) (b : Fin 1024) : (iblk m c 1 t (ix2 x b) : EReal) = cell (B m c) (1024 * (t.val % 8) + x.val) b.val := by
  unfold iblk
  refine (blk1' (V m c main_v1) t x b).trans ?_
  rw [host1]
  pointwise
  rw [mul_comm 1024]
  exact cell_of (B m c) ⟨t.val % 8 * 1024 + x.val, by omega⟩ b

/-- One tile's product of a point's blocks. -/
theorem part (t : Fin cfg0.N) (a : Fin 1280) (b : Fin 1024) :
    (k0_pay1 (F := Ideal) (iblk m c 0 t) (iblk m c 1 t) (ix2 a b) : EReal)
      = ∑ x : Fin 1024, cell (A m c) (1024 * (t.val % 8) + x.val) (1280 * (t.val / 8) + a.val) * cell (B m c) (1024 * (t.val % 8) + x.val) b.val :=
  (pay_at _ _ a b).trans (Finset.sum_congr rfl fun x _ => by rw [blk0, blk1])

/-- The scratch after a point, unless it is a block's last. -/
theorem kept (n : ℕ) (hn : n < cfg0.N) (h7 : n % 8 ≠ 7) (a : Fin 1280) (b : Fin 1024) :
    ((outsAt0 m c n hn).2 (ix2 a b) : EReal) = tdot (A m c) (B m c) (1280 * (n / 8) + a.val) b.val (1024 * (n % 8) + 1024) := by
  refine tiles (fun n h => (outsAt0 m c n h).2 (ix2 a b)) (fun n h => k0_pay1 (F := Ideal) (iblk m c 0 ⟨n, h⟩) (iblk m c 1 ⟨n, h⟩) (ix2 a b))
    (fun q x => cell (A m c) x (1280 * q + a.val) * cell (B m c) x b.val) (fun n h => part m c ⟨n, h⟩ a b) (fun n h h0 => ?_) (fun n h h0 h7 => ?_) n hn h7
  · rw [outsAt0_A m c ⟨n, h⟩ h0 (by simp [h0]) (by simp [h0])]
    dsimp only
    rw [first]
  · rw [outsAt0_B m c ⟨n, h⟩ h0 (by simp; omega) h7]
    dsimp only
    rw [next]
    rfl

theorem flush : ∀ t : Fin cfg0.N, (cfg0.win 2).flush t = true → t.val % 8 = 7 := by decide +kernel

/-- The kernel's result. -/
theorem result : (dats m 0 c).arrAt 2 cfg0.N = tprod (A m c) (B m c) := by
  refine (dats m 0 c).arrAt_eq_of_covers 2 _ (by decide +kernel) fun t hf y => ?_
  have h7 := flush t hf
  blk_simp
  rw [after0_2]
  obtain ⟨a, b, rfl⟩ : ∃ (a : Fin 1280) (b : Fin 1024), y = ix2 a b := ⟨y 0, y 1, by funext i; fin_cases i <;> rfl⟩
  rw [outsAt0_C m c t (by omega) (by omega) h7]
  dsimp only
  rw [last]
  have P := kept m c (t.val - 1) (Nat.lt_of_le_of_lt (Nat.sub_le _ _) t.isLt) (by omega) a b
  pointwise
  rw [P, part, show (t.val - 1) / 8 = t.val / 8 by omega, show 1024 * ((t.val - 1) % 8) + 1024 = 1024 * (t.val % 8) by omega, tdot_step, h7]
  refine (tprod_of (A m c) (B m c) _ _ _ ?_ ?_).symm
  · blk_simp [idx2]
    omega
  · blk_simp [idx2]

/-- The reference's result. -/
theorem reference (a : Mat 8192 2560) (b : Mat 8192 1024) : Cert.DwOutReferenceIdeal.Read.val_main_v3 (F := Ideal) a b = tprod a b := by
  funext y
  rw [Cert.DwOutReferenceIdeal.Read.val_main_v3_apply, Cert.DwOutReferenceIdeal.Read.val_main_v2_apply]
  refine Finset.sum_congr rfl fun x _ => (mul_comm _ _).trans (congrArg₂ (fun u v : EReal => u * v) (congrArg a ?_) (congrArg b ?_)) <;>
    funext i <;> fin_cases i <;> rfl

theorem algebraic : Cert.algebraic_DwOutIdeal_DwOutReferenceIdeal := by
  intro m g m' g' _ hargs
  refine ⟨fun c => tprod (A m c) (B m c), ?_, ?_⟩
  · exact (θ_run Cert.DwOutIdeal.defs _ _).mono (fun r h c => ⟨(Value.post2 m r h c).trans (result m c), Value.kept_main_arg0 m r h c, Value.kept_main_arg1 m r h c⟩) (run_main m g)
  · refine (θ_run Cert.DwOutReferenceIdeal.defs _ _).mono (fun r h c => ?_) (Cert.DwOutReferenceIdeal.Value.run m' g')
    obtain ⟨h1, h2⟩ := h c
    obtain ⟨a0, a1⟩ := hargs c
    refine ⟨h1.trans ?_, h2⟩
    rw [Cert.DwOutReferenceIdeal.Read.val_main_v3_eq, a0, a1]
    exact reference (A m c) (B m c)

end Cert.DwOutIdeal.Val

end
-- ==== Proof.DycatValue.lean ====
/-
  The gradient of the concatenated mixer outputs: every tile of the kernel is a tile of the product.
-/
module

public import proofs.«01_k».proof.Proof.Gen.DycatIdeal.Value
public import proofs.«01_k».proof.Proof.Gen.DycatReferenceIdeal.Run
public import proofs.«01_k».proof.Proof.Gen.DycatReferenceIdeal.Read
public import proofs.«01_k».proof.Proof.Prod
public import proofs.«01_k».proof.Defs
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.ShloMosaic.Tactic Idealize.SL.Sem

namespace Cert.DycatIdeal.Val

open Cert.DycatIdeal Cert.DycatIdeal.Gen Cert.Prod

/-- A tile of the output. -/
theorem out_at (x0 : Vec Ideal S1024x1024 .bf16) (x1 : Vec Ideal S1280x1024 .bf16) (a : Fin 1024) (b : Fin 1280) :
    out0_2 (F := Ideal) x0 x1 (ix2 a b) = ∑ x : Fin 1024, (x0 (ix2 a x) * x1 (ix2 b x) : EReal) := by
  unfold out0_2
  rw [View.canon_unit_zero hz]
  simp only [View.ld_unit_zero (S := S1024x1024) hz, View.ld_unit_zero (S := S1280x1024) hz]
  pointwise [k0_pay1]

section Host

variable {F : FTy → Type} [FloatOps F] [Named F] (m : (ℓ : Loc nD τ sig) → Buf (Elt F) ℓ) (c : Dev nD)

theorem host0 : V m c main_v0 = truncf (F := F) .bf16 (m ((c : Thread nD τ).loc main_arg0)) bitsLt_bf16_f32 := by
  after_reads_simp

theorem host1 : V m c main_v1 = truncf (F := F) .bf16 (m ((c : Thread nD τ).loc main_arg1)) bitsLt_bf16_f32 := by
  after_reads_simp

end Host

variable (m : (ℓ : Loc nD τ sig) → Buf (Elt Ideal) ℓ) (ρ : Dev nD → PrngReg) (c : Dev nD)

abbrev A : Mat 8192 1024 := m ((c : Thread nD τ).loc main_arg0)
abbrev B : Mat 2560 1024 := m ((c : Thread nD τ).loc main_arg1)

theorem idx0 : ∀ t : Fin cfg0.N, win0_0.index t = ![t.val / 2, 0] := by decide +kernel
theorem idx1 : ∀ t : Fin cfg0.N, win0_1.index t = ![t.val % 2, 0] := by decide +kernel
theorem idx2 : ∀ t : Fin cfg0.N, win0_2.index t = ![t.val / 2, t.val % 2] := by decide +kernel
theorem lt16 (t : Fin cfg0.N) : t.val < 16 := t.isLt
theorem row_lt (t : Fin cfg0.N) (a : Fin 1024) : t.val / 2 * 1024 + a.val < 8192 := by have := lt16 t; omega
theorem col_lt (t : Fin cfg0.N) (b : Fin 1280) : t.val % 2 * 1280 + b.val < 2560 := by omega

theorem blk0' (X : (⟨S8192x1024, .bf16⟩ : BufTy).Contents (Elt Ideal)) (t : Fin cfg0.N) (a : Fin 1024) (x : Fin 1024) :
    ((cfg0.win 0).blk t).view.read (Elt Ideal) X (ix2 a x) = X (ix2 ⟨t.val / 2 * 1024 + a.val, row_lt t a⟩ x) := by
  blk_ext [idx0]

theorem blk1' (X : (⟨S2560x1024, .bf16⟩ : BufTy).Contents (Elt Ideal)) (t : Fin cfg0.N) (b : Fin 1280) (x : Fin 1024) :
    ((cfg0.win 1).blk t).view.read (Elt Ideal) X (ix2 b x) = X (ix2 ⟨t.val % 2 * 1280 + b.val, col_lt t b⟩ x) := by
  blk_ext [idx1]

theorem blk0 (t : Fin cfg0.N) (a : Fin 1024) (x : Fin 1024) : (iblk m c 0 t (ix2 a x) : EReal) = A m c (ix2 ⟨t.val / 2 * 1024 + a.val, row_lt t a⟩ x) := by
  unfold iblk
  refine (blk0' (V m c main_v0) t a x).trans ?_
  rw [host0]
  pointwise

theorem blk1 (t : Fin cfg0.N) (b : Fin 1280) (x : Fin 1024) : (iblk m c 1 t (ix2 b x) : EReal) = B m c (ix2 ⟨t.val % 2 * 1280 + b.val, col_lt t b⟩ x) := by
  unfold iblk
  refine (blk1' (V m c main_v1) t b x).trans ?_
  rw [host1]
  pointwise

/-- The kernel's result. -/
theorem result : (dats m 0 c).arrAt 2 cfg0.N = rprod (A m c) (B m c) := by
  refine (dats m 0 c).arrAt_eq_of_covers 2 _ (by decide +kernel) fun t hf y => ?_
  blk_simp
  rw [after0_2]
  obtain ⟨a, b, rfl⟩ : ∃ (a : Fin 1024) (b : Fin 1280), y = ix2 a b := ⟨y 0, y 1, by funext i; fin_cases i <;> rfl⟩
  refine (out_at _ _ a b).trans ?_
  refine (Finset.sum_congr rfl fun x _ => by rw [blk0, blk1]).trans (rprod_of (A m c) (B m c) _ ⟨t.val / 2 * 1024 + a.val, row_lt t a⟩ ⟨t.val % 2 * 1280 + b.val, col_lt t b⟩ ?_ ?_).symm <;>
    blk_simp [idx2]

/-- The reference's result. -/
theorem reference (a : Mat 8192 1024) (b : Mat 2560 1024) : Cert.DycatReferenceIdeal.Read.val_main_v3 (F := Ideal) a b = rprod a b := by
  funext y
  rw [Cert.DycatReferenceIdeal.Read.val_main_v3_apply, Cert.DycatReferenceIdeal.Read.val_main_v2_apply]
  refine Finset.sum_congr rfl fun x _ => congrArg₂ (fun u v : EReal => u * v) (congrArg a ?_) (congrArg b ?_) <;>
    funext i <;> fin_cases i <;> rfl

theorem algebraic : Cert.algebraic_DycatIdeal_DycatReferenceIdeal := by
  intro m g m' g' _ hargs
  refine ⟨fun c => rprod (A m c) (B m c), ?_, ?_⟩
  · exact (θ_run Cert.DycatIdeal.defs _ _).mono (fun r h c => ⟨(h c).1.trans (result m c), (h c).2⟩) (Value.run_blocks m g)
  · refine (θ_run Cert.DycatReferenceIdeal.defs _ _).mono (fun r h c => ?_) (Cert.DycatReferenceIdeal.Value.run m' g')
    obtain ⟨h1, h2⟩ := h c
    obtain ⟨a0, a1⟩ := hargs c
    refine ⟨h1.trans ?_, h2⟩
    rw [Cert.DycatReferenceIdeal.Read.val_main_v3_eq, a0, a1]
    exact reference (A m c) (B m c)

end Cert.DycatIdeal.Val

end
-- ==== Proof.MulInValue.lean ====
/-
  The normed rows through `w_in`: every tile of the kernel is a tile of the product.
-/
module

public import proofs.«01_k».proof.Proof.Gen.MulInIdeal.Value
public import proofs.«01_k».proof.Proof.Gen.MulInReferenceIdeal.Run
public import proofs.«01_k».proof.Proof.Gen.MulInReferenceIdeal.Read
public import proofs.«01_k».proof.Proof.Prod
public import proofs.«01_k».proof.Defs
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.ShloMosaic.Tactic Idealize.SL.Sem

namespace Cert.MulInIdeal.Val

open Cert.MulInIdeal Cert.MulInIdeal.Gen Cert.Prod

/-- A tile of the output. -/
theorem out_at (x0 : Vec Ideal S1024x1024 .bf16) (x1 : Vec Ideal S1024x1024 .bf16) (a : Fin 1024) (b : Fin 1024) :
    out0_2 (F := Ideal) x0 x1 (ix2 a b) = ∑ x : Fin 1024, (x0 (ix2 a x) * x1 (ix2 x b) : EReal) := by
  unfold out0_2
  rw [View.canon_unit_zero hz]
  simp only [View.ld_unit_zero (S := S1024x1024) hz]
  pointwise [k0_pay1]

section Host

variable {F : FTy → Type} [FloatOps F] [Named F] (m : (ℓ : Loc nD τ sig) → Buf (Elt F) ℓ) (c : Dev nD)

theorem host0 : V m c main_v0 = truncf (F := F) .bf16 (m ((c : Thread nD τ).loc main_arg0)) bitsLt_bf16_f32 := by
  after_reads_simp

theorem host1 : V m c main_v1 = truncf (F := F) .bf16 (m ((c : Thread nD τ).loc main_arg1)) bitsLt_bf16_f32 := by
  after_reads_simp

end Host

variable (m : (ℓ : Loc nD τ sig) → Buf (Elt Ideal) ℓ) (ρ : Dev nD → PrngReg) (c : Dev nD)

abbrev A : Mat 8192 1024 := m ((c : Thread nD τ).loc main_arg0)
abbrev B : Mat 1024 4096 := m ((c : Thread nD τ).loc main_arg1)

theorem idx0 : ∀ t : Fin cfg0.N, win0_0.index t = ![t.val / 4, 0] := by decide +kernel
theorem idx1 : ∀ t : Fin cfg0.N, win0_1.index t = ![0, t.val % 4] := by decide +kernel
theorem idx2 : ∀ t : Fin cfg0.N, win0_2.index t = ![t.val / 4, t.val % 4] := by decide +kernel
theorem lt32 (t : Fin cfg0.N) : t.val < 32 := t.isLt
theorem row_lt (t : Fin cfg0.N) (a : Fin 1024) : t.val / 4 * 1024 + a.val < 8192 := by have := lt32 t; omega
theorem col_lt (t : Fin cfg0.N) (b : Fin 1024) : t.val % 4 * 1024 + b.val < 4096 := by omega

theorem blk0' (X : (⟨S8192x1024, .bf16⟩ : BufTy).Contents (Elt Ideal)) (t : Fin cfg0.N) (a : Fin 1024) (x : Fin 1024) :
    ((cfg0.win 0).blk t).view.read (Elt Ideal) X (ix2 a x) = X (ix2 ⟨t.val / 4 * 1024 + a.val, row_lt t a⟩ x) := by
  blk_ext [idx0]

theorem blk1' (X : (⟨S1024x4096, .bf16⟩ : BufTy).Contents (Elt Ideal)) (t : Fin cfg0.N) (x : Fin 1024) (b : Fin 1024) :
    ((cfg0.win 1).blk t).view.read (Elt Ideal) X (ix2 x b) = X (ix2 x ⟨t.val % 4 * 1024 + b.val, col_lt t b⟩) := by
  blk_ext [idx1]

theorem blk0 (t : Fin cfg0.N) (a : Fin 1024) (x : Fin 1024) : (iblk m c 0 t (ix2 a x) : EReal) = A m c (ix2 ⟨t.val / 4 * 1024 + a.val, row_lt t a⟩ x) := by
  unfold iblk
  refine (blk0' (V m c main_v0) t a x).trans ?_
  rw [host0]
  pointwise

theorem blk1 (t : Fin cfg0.N) (x : Fin 1024) (b : Fin 1024) : (iblk m c 1 t (ix2 x b) : EReal) = B m c (ix2 x ⟨t.val % 4 * 1024 + b.val, col_lt t b⟩) := by
  unfold iblk
  refine (blk1' (V m c main_v1) t x b).trans ?_
  rw [host1]
  pointwise

/-- The kernel's result. -/
theorem result : (dats m 0 c).arrAt 2 cfg0.N = prod (A m c) (B m c) := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨y 0, y 1, by funext i; fin_cases i <;> rfl⟩
  refine (out_at _ _ a b).trans ?_
  refine (Finset.sum_congr rfl fun x _ => by rw [blk0, blk1]).trans (prod_of (A m c) (B m c) _ ⟨t.val / 4 * 1024 + a.val, row_lt t a⟩ ⟨t.val % 4 * 1024 + b.val, col_lt t b⟩ ?_ ?_).symm <;>
    blk_simp [idx2]

/-- The reference's result. -/
theorem reference (a : Mat 8192 1024) (b : Mat 1024 4096) : Cert.MulInReferenceIdeal.Read.val_main_v0 (F := Ideal) a b = prod a b := by
  funext y
  rw [Cert.MulInReferenceIdeal.Read.val_main_v0_apply]
  refine Finset.sum_congr rfl fun x _ => congrArg₂ (fun u v : EReal => u * v) (congrArg a ?_) (congrArg b ?_) <;>
    funext i <;> fin_cases i <;> rfl

theorem algebraic : Cert.algebraic_MulInIdeal_MulInReferenceIdeal := by
  intro m g m' g' _ hargs
  refine ⟨fun c => prod (A m c) (B m c), ?_, ?_⟩
  · exact (θ_run Cert.MulInIdeal.defs _ _).mono (fun r h c => ⟨(h c).1.trans (result m c), (h c).2⟩) (Value.run_blocks m g)
  · refine (θ_run Cert.MulInReferenceIdeal.defs _ _).mono (fun r h c => ?_) (Cert.MulInReferenceIdeal.Value.run m' g')
    obtain ⟨h1, h2⟩ := h c
    obtain ⟨a0, a1⟩ := hargs c
    refine ⟨h1.trans ?_, h2⟩
    rw [Cert.MulInReferenceIdeal.Read.val_main_v0_eq, a0, a1]
    exact reference (A m c) (B m c)

end Cert.MulInIdeal.Val

end
-- ==== Proof.MulOutValue.lean ====
/-
  The concatenated mixer outputs through `w_out`, added to the residual: every tile of the kernel is a tile of the product.
-/
module

public import proofs.«01_k».proof.Proof.Gen.MulOutIdeal.Value
public import proofs.«01_k».proof.Proof.Gen.MulOutReferenceIdeal.Run
public import proofs.«01_k».proof.Proof.Gen.MulOutReferenceIdeal.Read
public import proofs.«01_k».proof.Proof.Prod
public import proofs.«01_k».proof.Defs
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.ShloMosaic.Tactic Idealize.SL.Sem

namespace Cert.MulOutIdeal.Val

open Cert.MulOutIdeal Cert.MulOutIdeal.Gen Cert.Prod

/-- A tile of the output. -/
theorem out_at (x0 : Vec Ideal S1024x2560 .bf16) (x1 : Vec Ideal S2560x1024 .bf16) (x2 : Vec Ideal S1024x1024 .f32) (a b : Fin 1024) :
    out0_3 (F := Ideal) x0 x1 x2 (ix2 a b) = (∑ x : Fin 2560, (x0 (ix2 a x) * x1 (ix2 x b)) + x2 (ix2 a b) : EReal) := by
  unfold out0_3
  rw [View.canon_unit_zero hz]
  simp only [View.ld_unit_zero (S := S1024x2560) hz, View.ld_unit_zero (S := S2560x1024) hz, View.ld_unit_zero (S := S1024x1024) hz]
  pointwise [k0_pay1]

section Host

variable {F : FTy → Type} [FloatOps F] [Named F] (m : (ℓ : Loc nD τ sig) → Buf (Elt F) ℓ) (c : Dev nD)

theorem host0 : V m c main_v0 = truncf (F := F) .bf16 (m ((c : Thread nD τ).loc main_arg0)) bitsLt_bf16_f32 := by
  after_reads_simp

theorem host1 : V m c main_v1 = truncf (F := F) .bf16 (m ((c : Thread nD τ).loc main_arg1)) bitsLt_bf16_f32 := by
  after_reads_simp

end Host

variable (m : (ℓ : Loc nD τ sig) → Buf (Elt Ideal) ℓ) (ρ : Dev nD → PrngReg) (c : Dev nD)

abbrev A : Mat 8192 2560 := m ((c : Thread nD τ).loc main_arg0)
abbrev W : Mat 2560 1024 := m ((c : Thread nD τ).loc main_arg1)
abbrev D : Mat 8192 1024 := m ((c : Thread nD τ).loc main_arg2)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel
theorem lt8 (t : Fin cfg0.N) : t.val < 8 := t.isLt
theorem row_lt (t : Fin cfg0.N) (a : Fin 1024) : t.val * 1024 + a.val < 8192 := by have := lt8 t; omega

theorem blk0' (X : (⟨S8192x2560, .bf16⟩ : BufTy).Contents (Elt Ideal)) (t : Fin cfg0.N) (a : Fin 1024) (x : Fin 2560) :
    ((cfg0.win 0).blk t).view.read (Elt Ideal) X (ix2 a x) = X (ix2 ⟨t.val * 1024 + a.val, row_lt t a⟩ x) := by
  blk_ext [idx0]

theorem blk1' (X : (⟨S2560x1024, .bf16⟩ : BufTy).Contents (Elt Ideal)) (t : Fin cfg0.N) (x : Fin 2560) (b : Fin 1024) :
    ((cfg0.win 1).blk t).view.read (Elt Ideal) X (ix2 x b) = X (ix2 x b) := by
  blk_ext [idx1]

theorem blk0 (t : Fin cfg0.N) (a : Fin 1024) (x : Fin 2560) : (iblk m c 0 t (ix2 a x) : EReal) = A m c (ix2 ⟨t.val * 1024 + a.val, row_lt t a⟩ x) := by
  unfold iblk
  refine (blk0' (V m c main_v0) t a x).trans ?_
  rw [host0]
  pointwise

theorem blk1 (t : Fin cfg0.N) (x : Fin 2560) (b : Fin 1024) : (iblk m c 1 t (ix2 x b) : EReal) = W m c (ix2 x b) := by
  unfold iblk
  refine (blk1' (V m c main_v1) t x b).trans ?_
  rw [host1]
  pointwise

theorem blk2' (X : (⟨S8192x1024, .f32⟩ : BufTy).Contents (Elt Ideal)) (t : Fin cfg0.N) (a b : Fin 1024) :
    ((cfg0.win 2).blk t).view.read (Elt Ideal) X (ix2 a b) = X (ix2 ⟨t.val * 1024 + a.val, row_lt t a⟩ b) := by
  blk_ext [idx2]

theorem blk2 (t : Fin cfg0.N) (a b : Fin 1024) : (iblk m c 2 t (ix2 a b) : EReal) = D m c (ix2 ⟨t.val * 1024 + a.val, row_lt t a⟩ b) := by
  unfold iblk
  refine (blk2' (V m c main_arg2) t a b).trans ?_
  rw [V_main_arg2]

/-- The kernel's result. -/
theorem result : (dats m 0 c).arrAt 3 cfg0.N = plus (prod (A m c) (W m c)) (D m c) := by
  refine (dats m 0 c).arrAt_eq_of_covers 3 _ (by decide +kernel) fun t hf y => ?_
  blk_simp
  rw [after0_3]
  obtain ⟨a, b, rfl⟩ : ∃ (a : Fin 1024) (b : Fin 1024), y = ix2 a b := ⟨y 0, y 1, by funext i; fin_cases i <;> rfl⟩
  refine (out_at _ _ _ a b).trans ?_
  refine (congrArg₂ (fun u v : EReal => u + v) (Finset.sum_congr rfl fun x _ => by rw [blk0, blk1]) (blk2 m c t a b)).trans ?_
  refine (plus_of _ (D m c) _ ⟨t.val * 1024 + a.val, row_lt t a⟩ b ?_ ?_ _ (prod_of (A m c) (W m c) _ ⟨t.val * 1024 + a.val, row_lt t a⟩ b ?_ ?_)).symm <;>
    blk_simp [idx3]

/-- The reference's result. -/
theorem reference (a : Mat 8192 2560) (w : Mat 2560 1024) (d : Mat 8192 1024) : Cert.MulOutReferenceIdeal.Read.val_main_v1 (F := Ideal) a w d = plus (prod a w) d := by
  funext y
  rw [Cert.MulOutReferenceIdeal.Read.val_main_v1_apply, Cert.MulOutReferenceIdeal.Read.val_main_v0_apply]
  refine (add_comm _ _).trans (congrArg (fun u : EReal => u + d y) ?_)
  refine Finset.sum_congr rfl fun x _ => congrArg₂ (fun u v : EReal => u * v) (congrArg a ?_) (congrArg w ?_) <;>
    funext i <;> fin_cases i <;> rfl

theorem algebraic : Cert.algebraic_MulOutIdeal_MulOutReferenceIdeal := by
  intro m g m' g' _ hargs
  refine ⟨fun c => plus (prod (A m c) (W m c)) (D m c), ?_, ?_⟩
  · exact (θ_run Cert.MulOutIdeal.defs _ _).mono (fun r h c => ⟨(h c).1.trans (result m c), (h c).2⟩) (Value.run_blocks m g)
  · refine (θ_run Cert.MulOutReferenceIdeal.defs _ _).mono (fun r h c => ?_) (Cert.MulOutReferenceIdeal.Value.run m' g')
    obtain ⟨h1, h2⟩ := h c
    obtain ⟨a0, a1, a2⟩ := hargs c
    refine ⟨h1.trans ?_, h2⟩
    rw [Cert.MulOutReferenceIdeal.Read.val_main_v1_eq, a0, a1, a2]
    exact reference (A m c) (W m c) (D m c)

end Cert.MulOutIdeal.Val

end
-- ==== Proof.MulUpValue.lean ====
/-
  The normed rows through `ffn_w_up`: every tile of the kernel is a tile of the product.
-/
module

public import proofs.«01_k».proof.Proof.Gen.MulUpIdeal.Value
public import proofs.«01_k».proof.Proof.Gen.MulUpReferenceIdeal.Run
public import proofs.«01_k».proof.Proof.Gen.MulUpReferenceIdeal.Read
public import proofs.«01_k».proof.Proof.Prod
public import proofs.«01_k».proof.Defs
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.ShloMosaic.Tactic Idealize.SL.Sem

namespace Cert.MulUpIdeal.Val

open Cert.MulUpIdeal Cert.MulUpIdeal.Gen Cert.Prod

/-- A tile of the output. -/
theorem out_at (x0 : Vec Ideal S1024x1024 .bf16) (x1 : Vec Ideal S1024x1408 .bf16) (a : Fin 1024) (b : Fin 1408) :
    out0_2 (F := Ideal) x0 x1 (ix2 a b) = ∑ x : Fin 1024, (x0 (ix2 a x) * x1 (ix2 x b) : EReal) := by
  unfold out0_2
  rw [View.canon_unit_zero hz]
  simp only [View.ld_unit_zero (S := S1024x1024) hz, View.ld_unit_zero (S := S1024x1408) hz]
  pointwise [k0_pay1]

section Host

variable {F : FTy → Type} [FloatOps F] [Named F] (m : (ℓ : Loc nD τ sig) → Buf (Elt F) ℓ) (c : Dev nD)

theorem host0 : V m c main_v0 = truncf (F := F) .bf16 (m ((c : Thread nD τ).loc main_arg0)) bitsLt_bf16_f32 := by
  after_reads_simp

theorem host1 : V m c main_v1 = truncf (F := F) .bf16 (m ((c : Thread nD τ).loc main_arg1)) bitsLt_bf16_f32 := by
  after_reads_simp

end Host

variable (m : (ℓ : Loc nD τ sig) → Buf (Elt Ideal) ℓ) (ρ : Dev nD → PrngReg) (c : Dev nD)

abbrev A : Mat 8192 1024 := m ((c : Thread nD τ).loc main_arg0)
abbrev B : Mat 1024 5632 := m ((c : Thread nD τ).loc main_arg1)

theorem idx0 : ∀ t : Fin cfg0.N, win0_0.index t = ![t.val / 4, 0] := by decide +kernel
theorem idx1 : ∀ t : Fin cfg0.N, win0_1.index t = ![0, t.val % 4] := by decide +kernel
theorem idx2 : ∀ t : Fin cfg0.N, win0_2.index t = ![t.val / 4, t.val % 4] := by decide +kernel
theorem lt32 (t : Fin cfg0.N) : t.val < 32 := t.isLt
theorem row_lt (t : Fin cfg0.N) (a : Fin 1024) : t.val / 4 * 1024 + a.val < 8192 := by have := lt32 t; omega
theorem col_lt (t : Fin cfg0.N) (b : Fin 1408) : t.val % 4 * 1408 + b.val < 5632 := by omega

theorem blk0' (X : (⟨S8192x1024, .bf16⟩ : BufTy).Contents (Elt Ideal)) (t : Fin cfg0.N) (a : Fin 1024) (x : Fin 1024) :
    ((cfg0.win 0).blk t).view.read (Elt Ideal) X (ix2 a x) = X (ix2 ⟨t.val / 4 * 1024 + a.val, row_lt t a⟩ x) := by
  blk_ext [idx0]

theorem blk1' (X : (⟨S1024x5632, .bf16⟩ : BufTy).Contents (Elt Ideal)) (t : Fin cfg0.N) (x : Fin 1024) (b : Fin 1408) :
    ((cfg0.win 1).blk t).view.read (Elt Ideal) X (ix2 x b) = X (ix2 x ⟨t.val % 4 * 1408 + b.val, col_lt t b⟩) := by
  blk_ext [idx1]

theorem blk0 (t : Fin cfg0.N) (a : Fin 1024) (x : Fin 1024) : (iblk m c 0 t (ix2 a x) : EReal) = A m c (ix2 ⟨t.val / 4 * 1024 + a.val, row_lt t a⟩ x) := by
  unfold iblk
  refine (blk0' (V m c main_v0) t a x).trans ?_
  rw [host0]
  pointwise

theorem blk1 (t : Fin cfg0.N) (x : Fin 1024) (b : Fin 1408) : (iblk m c 1 t (ix2 x b) : EReal) = B m c (ix2 x ⟨t.val % 4 * 1408 + b.val, col_lt t b⟩) := by
  unfold iblk
  refine (blk1' (V m c main_v1) t x b).trans ?_
  rw [host1]
  pointwise

/-- The kernel's result. -/
theorem result : (dats m 0 c).arrAt 2 cfg0.N = prod (A m c) (B m c) := by
  refine (dats m 0 c).arrAt_eq_of_covers 2 _ (by decide +kernel) fun t hf y => ?_
  blk_simp
  rw [after0_2]
  obtain ⟨a, b, rfl⟩ : ∃ (a : Fin 1024) (b : Fin 1408), y = ix2 a b := ⟨y 0, y 1, by funext i; fin_cases i <;> rfl⟩
  refine (out_at _ _ a b).trans ?_
  refine (Finset.sum_congr rfl fun x _ => by rw [blk0, blk1]).trans (prod_of (A m c) (B m c) _ ⟨t.val / 4 * 1024 + a.val, row_lt t a⟩ ⟨t.val % 4 * 1408 + b.val, col_lt t b⟩ ?_ ?_).symm <;>
    blk_simp [idx2]

/-- The reference's result. -/
theorem reference (a : Mat 8192 1024) (b : Mat 1024 5632) : Cert.MulUpReferenceIdeal.Read.val_main_v0 (F := Ideal) a b = prod a b := by
  funext y
  rw [Cert.MulUpReferenceIdeal.Read.val_main_v0_apply]
  refine Finset.sum_congr rfl fun x _ => congrArg₂ (fun u v : EReal => u * v) (congrArg a ?_) (congrArg b ?_) <;>
    funext i <;> fin_cases i <;> rfl

theorem algebraic : Cert.algebraic_MulUpIdeal_MulUpReferenceIdeal := by
  intro m g m' g' _ hargs
  refine ⟨fun c => prod (A m c) (B m c), ?_, ?_⟩
  · exact (θ_run Cert.MulUpIdeal.defs _ _).mono (fun r h c => ⟨(h c).1.trans (result m c), (h c).2⟩) (Value.run_blocks m g)
  · refine (θ_run Cert.MulUpReferenceIdeal.defs _ _).mono (fun r h c => ?_) (Cert.MulUpReferenceIdeal.Value.run m' g')
    obtain ⟨h1, h2⟩ := h c
    obtain ⟨a0, a1⟩ := hargs c
    refine ⟨h1.trans ?_, h2⟩
    rw [Cert.MulUpReferenceIdeal.Read.val_main_v0_eq, a0, a1]
    exact reference (A m c) (B m c)

end Cert.MulUpIdeal.Val

end
-- ==== Proof.MulDownValue.lean ====
/-
  The gated activation through `ffn_w_down`, added to the residual: every tile of the kernel is a tile of the product.
-/
module

public import proofs.«01_k».proof.Proof.Gen.MulDownIdeal.Value
public import proofs.«01_k».proof.Proof.Gen.MulDownReferenceIdeal.Run
public import proofs.«01_k».proof.Proof.Gen.MulDownReferenceIdeal.Read
public import proofs.«01_k».proof.Proof.Prod
public import proofs.«01_k».proof.Defs
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.ShloMosaic.Tactic Idealize.SL.Sem

namespace Cert.MulDownIdeal.Val

open Cert.MulDownIdeal Cert.MulDownIdeal.Gen Cert.Prod

/-- A tile of the output. -/
theorem out_at (x0 : Vec Ideal S1024x2816 .bf16) (x1 : Vec Ideal S2816x1024 .bf16) (x2 : Vec Ideal S1024x1024 .f32) (a b : Fin 1024) :
    out0_3 (F := Ideal) x0 x1 x2 (ix2 a b) = (∑ x : Fin 2816, (x0 (ix2 a x) * x1 (ix2 x b)) + x2 (ix2 a b) : EReal) := by
  unfold out0_3
  rw [View.canon_unit_zero hz]
  simp only [View.ld_unit_zero (S := S1024x2816) hz, View.ld_unit_zero (S := S2816x1024) hz, View.ld_unit_zero (S := S1024x1024) hz]
  pointwise [k0_pay1]

section Host

variable {F : FTy → Type} [FloatOps F] [Named F] (m : (ℓ : Loc nD τ sig) → Buf (Elt F) ℓ) (c : Dev nD)

theorem host0 : V m c main_v0 = truncf (F := F) .bf16 (m ((c : Thread nD τ).loc main_arg0)) bitsLt_bf16_f32 := by
  after_reads_simp

theorem host1 : V m c main_v1 = truncf (F := F) .bf16 (m ((c : Thread nD τ).loc main_arg1)) bitsLt_bf16_f32 := by
  after_reads_simp

end Host

variable (m : (ℓ : Loc nD τ sig) → Buf (Elt Ideal) ℓ) (ρ : Dev nD → PrngReg) (c : Dev nD)

abbrev A : Mat 8192 2816 := m ((c : Thread nD τ).loc main_arg0)
abbrev W : Mat 2816 1024 := m ((c : Thread nD τ).loc main_arg1)
abbrev D : Mat 8192 1024 := m ((c : Thread nD τ).loc main_arg2)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel
theorem lt8 (t : Fin cfg0.N) : t.val < 8 := t.isLt
theorem row_lt (t : Fin cfg0.N) (a : Fin 1024) : t.val * 1024 + a.val < 8192 := by have := lt8 t; omega

theorem blk0' (X : (⟨S8192x2816, .bf16⟩ : BufTy).Contents (Elt Ideal)) (t : Fin cfg0.N) (a : Fin 1024) (x : Fin 2816) :
    ((cfg0.win 0).blk t).view.read (Elt Ideal) X (ix2 a x) = X (ix2 ⟨t.val * 1024 + a.val, row_lt t a⟩ x) := by
  blk_ext [idx0]

theorem blk1' (X : (⟨S2816x1024, .bf16⟩ : BufTy).Contents (Elt Ideal)) (t : Fin cfg0.N) (x : Fin 2816) (b : Fin 1024) :
    ((cfg0.win 1).blk t).view.read (Elt Ideal) X (ix2 x b) = X (ix2 x b) := by
  blk_ext [idx1]

theorem blk0 (t : Fin cfg0.N) (a : Fin 1024) (x : Fin 2816) : (iblk m c 0 t (ix2 a x) : EReal) = A m c (ix2 ⟨t.val * 1024 + a.val, row_lt t a⟩ x) := by
  unfold iblk
  refine (blk0' (V m c main_v0) t a x).trans ?_
  rw [host0]
  pointwise

theorem blk1 (t : Fin cfg0.N) (x : Fin 2816) (b : Fin 1024) : (iblk m c 1 t (ix2 x b) : EReal) = W m c (ix2 x b) := by
  unfold iblk
  refine (blk1' (V m c main_v1) t x b).trans ?_
  rw [host1]
  pointwise

theorem blk2' (X : (⟨S8192x1024, .f32⟩ : BufTy).Contents (Elt Ideal)) (t : Fin cfg0.N) (a b : Fin 1024) :
    ((cfg0.win 2).blk t).view.read (Elt Ideal) X (ix2 a b) = X (ix2 ⟨t.val * 1024 + a.val, row_lt t a⟩ b) := by
  blk_ext [idx2]

theorem blk2 (t : Fin cfg0.N) (a b : Fin 1024) : (iblk m c 2 t (ix2 a b) : EReal) = D m c (ix2 ⟨t.val * 1024 + a.val, row_lt t a⟩ b) := by
  unfold iblk
  refine (blk2' (V m c main_arg2) t a b).trans ?_
  rw [V_main_arg2]

/-- The kernel's result. -/
theorem result : (dats m 0 c).arrAt 3 cfg0.N = plus (prod (A m c) (W m c)) (D m c) := by
  refine (dats m 0 c).arrAt_eq_of_covers 3 _ (by decide +kernel) fun t hf y => ?_
  blk_simp
  rw [after0_3]
  obtain ⟨a, b, rfl⟩ : ∃ (a : Fin 1024) (b : Fin 1024), y = ix2 a b := ⟨y 0, y 1, by funext i; fin_cases i <;> rfl⟩
  refine (out_at _ _ _ a b).trans ?_
  refine (congrArg₂ (fun u v : EReal => u + v) (Finset.sum_congr rfl fun x _ => by rw [blk0, blk1]) (blk2 m c t a b)).trans ?_
  refine (plus_of _ (D m c) _ ⟨t.val * 1024 + a.val, row_lt t a⟩ b ?_ ?_ _ (prod_of (A m c) (W m c) _ ⟨t.val * 1024 + a.val, row_lt t a⟩ b ?_ ?_)).symm <;>
    blk_simp [idx3]

/-- The reference's result. -/
theorem reference (a : Mat 8192 2816) (w : Mat 2816 1024) (d : Mat 8192 1024) : Cert.MulDownReferenceIdeal.Read.val_main_v1 (F := Ideal) a w d = plus (prod a w) d := by
  funext y
  rw [Cert.MulDownReferenceIdeal.Read.val_main_v1_apply, Cert.MulDownReferenceIdeal.Read.val_main_v0_apply]
  refine (add_comm _ _).trans (congrArg (fun u : EReal => u + d y) ?_)
  refine Finset.sum_congr rfl fun x _ => congrArg₂ (fun u v : EReal => u * v) (congrArg a ?_) (congrArg w ?_) <;>
    funext i <;> fin_cases i <;> rfl

theorem algebraic : Cert.algebraic_MulDownIdeal_MulDownReferenceIdeal := by
  intro m g m' g' _ hargs
  refine ⟨fun c => plus (prod (A m c) (W m c)) (D m c), ?_, ?_⟩
  · exact (θ_run Cert.MulDownIdeal.defs _ _).mono (fun r h c => ⟨(h c).1.trans (result m c), (h c).2⟩) (Value.run_blocks m g)
  · refine (θ_run Cert.MulDownReferenceIdeal.defs _ _).mono (fun r h c => ?_) (Cert.MulDownReferenceIdeal.Value.run m' g')
    obtain ⟨h1, h2⟩ := h c
    obtain ⟨a0, a1, a2⟩ := hargs c
    refine ⟨h1.trans ?_, h2⟩
    rw [Cert.MulDownReferenceIdeal.Read.val_main_v1_eq, a0, a1, a2]
    exact reference (A m c) (W m c) (D m c)

end Cert.MulDownIdeal.Val

end
-- ==== Proof.MulUqValue.lean ====
/-
  The normed query rows through `mla_w_uq`: every tile of the kernel is a tile of the product.
-/
module

public import proofs.«01_k».proof.Proof.Gen.MulUqIdeal.Value
public import proofs.«01_k».proof.Proof.Gen.MulUqReferenceIdeal.Run
public import proofs.«01_k».proof.Proof.Gen.MulUqReferenceIdeal.Read
public import proofs.«01_k».proof.Proof.Prod
public import proofs.«01_k».proof.Defs
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.ShloMosaic.Tactic Idealize.SL.Sem

namespace Cert.MulUqIdeal.Val

open Cert.MulUqIdeal Cert.MulUqIdeal.Gen Cert.Prod

/-- A tile of the output. -/
theorem out_at (x0 : Vec Ideal S1024x384 .bf16) (x1 : Vec Ideal S384x1024 .bf16) (a : Fin 1024) (b : Fin 1024) :
    out0_2 (F := Ideal) x0 x1 (ix2 a b) = ∑ x : Fin 384, (x0 (ix2 a x) * x1 (ix2 x b) : EReal) := by
  unfold out0_2
  rw [View.canon_unit_zero hz]
  simp only [View.ld_unit_zero (S := S1024x384) hz, View.ld_unit_zero (S := S384x1024) hz]
  pointwise [k0_pay1]

section Host

variable {F : FTy → Type} [FloatOps F] [Named F] (m : (ℓ : Loc nD τ sig) → Buf (Elt F) ℓ) (c : Dev nD)

theorem host0 : V m c main_v0 = truncf (F := F) .bf16 (m ((c : Thread nD τ).loc main_arg0)) bitsLt_bf16_f32 := by
  after_reads_simp

theorem host1 : V m c main_v1 = truncf (F := F) .bf16 (m ((c : Thread nD τ).loc main_arg1)) bitsLt_bf16_f32 := by
  after_reads_simp

end Host

variable (m : (ℓ : Loc nD τ sig) → Buf (Elt Ideal) ℓ) (ρ : Dev nD → PrngReg) (c : Dev nD)

abbrev A : Mat 8192 384 := m ((c : Thread nD τ).loc main_arg0)
abbrev B : Mat 384 1024 := m ((c : Thread nD τ).loc main_arg1)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem lt8 (t : Fin cfg0.N) : t.val < 8 := t.isLt
theorem row_lt (t : Fin cfg0.N) (a : Fin 1024) : t.val * 1024 + a.val < 8192 := by have := lt8 t; omega

theorem blk0' (X : (⟨S8192x384, .bf16⟩ : BufTy).Contents (Elt Ideal)) (t : Fin cfg0.N) (a : Fin 1024) (x : Fin 384) :
    ((cfg0.win 0).blk t).view.read (Elt Ideal) X (ix2 a x) = X (ix2 ⟨t.val * 1024 + a.val, row_lt t a⟩ x) := by
  blk_ext [idx0]

theorem blk1' (X : (⟨S384x1024, .bf16⟩ : BufTy).Contents (Elt Ideal)) (t : Fin cfg0.N) (x : Fin 384) (b : Fin 1024) :
    ((cfg0.win 1).blk t).view.read (Elt Ideal) X (ix2 x b) = X (ix2 x b) := by
  blk_ext [idx1]

theorem blk0 (t : Fin cfg0.N) (a : Fin 1024) (x : Fin 384) : (iblk m c 0 t (ix2 a x) : EReal) = A m c (ix2 ⟨t.val * 1024 + a.val, row_lt t a⟩ x) := by
  unfold iblk
  refine (blk0' (V m c main_v0) t a x).trans ?_
  rw [host0]
  pointwise

theorem blk1 (t : Fin cfg0.N) (x : Fin 384) (b : Fin 1024) : (iblk m c 1 t (ix2 x b) : EReal) = B m c (ix2 x b) := by
  unfold iblk
  refine (blk1' (V m c main_v1) t x b).trans ?_
  rw [host1]
  pointwise

/-- The kernel's result. -/
theorem result : (dats m 0 c).arrAt 2 cfg0.N = prod (A m c) (B m c) := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨y 0, y 1, by funext i; fin_cases i <;> rfl⟩
  refine (out_at _ _ a b).trans ?_
  refine (Finset.sum_congr rfl fun x _ => by rw [blk0, blk1]).trans (prod_of (A m c) (B m c) _ ⟨t.val * 1024 + a.val, row_lt t a⟩ b ?_ ?_).symm <;>
    blk_simp [idx2]

/-- The reference's result. -/
theorem reference (a : Mat 8192 384) (b : Mat 384 1024) : Cert.MulUqReferenceIdeal.Read.val_main_v1 (F := Ideal) a b = prod a b := by
  funext y
  rw [Cert.MulUqReferenceIdeal.Read.val_main_v1_apply, Cert.MulUqReferenceIdeal.Read.val_main_v0_apply]
  refine Finset.sum_congr rfl fun x _ => congrArg₂ (fun u v : EReal => u * v) (congrArg a ?_) (congrArg b ?_) <;>
    funext i <;> fin_cases i <;> rfl

theorem algebraic : Cert.algebraic_MulUqIdeal_MulUqReferenceIdeal := by
  intro m g m' g' _ hargs
  refine ⟨fun c => prod (A m c) (B m c), ?_, ?_⟩
  · exact (θ_run Cert.MulUqIdeal.defs _ _).mono (fun r h c => ⟨(h c).1.trans (result m c), (h c).2⟩) (Value.run_blocks m g)
  · refine (θ_run Cert.MulUqReferenceIdeal.defs _ _).mono (fun r h c => ?_) (Cert.MulUqReferenceIdeal.Value.run m' g')
    obtain ⟨h1, h2⟩ := h c
    obtain ⟨a0, a1⟩ := hargs c
    refine ⟨h1.trans ?_, h2⟩
    rw [Cert.MulUqReferenceIdeal.Read.val_main_v1_eq, a0, a1]
    exact reference (A m c) (B m c)

end Cert.MulUqIdeal.Val

end
-- ==== Proof.MulUkvValue.lean ====
/-
  The normed key and value rows through `mla_w_ukv`: every tile of the kernel is a tile of the product.
-/
module

public import proofs.«01_k».proof.Proof.Gen.MulUkvIdeal.Value
public import proofs.«01_k».proof.Proof.Gen.MulUkvReferenceIdeal.Run
public import proofs.«01_k».proof.Proof.Gen.MulUkvReferenceIdeal.Read
public import proofs.«01_k».proof.Proof.Prod
public import proofs.«01_k».proof.Defs
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.ShloMosaic.Tactic Idealize.SL.Sem

namespace Cert.MulUkvIdeal.Val

open Cert.MulUkvIdeal Cert.MulUkvIdeal.Gen Cert.Prod

/-- A tile of the output. -/
theorem out_at (x0 : Vec Ideal S1024x256 .bf16) (x1 : Vec Ideal S256x1024 .bf16) (a : Fin 1024) (b : Fin 1024) :
    out0_2 (F := Ideal) x0 x1 (ix2 a b) = ∑ x : Fin 256, (x0 (ix2 a x) * x1 (ix2 x b) : EReal) := by
  unfold out0_2
  rw [View.canon_unit_zero hz]
  simp only [View.ld_unit_zero (S := S1024x256) hz, View.ld_unit_zero (S := S256x1024) hz]
  pointwise [k0_pay1]

section Host

variable {F : FTy → Type} [FloatOps F] [Named F] (m : (ℓ : Loc nD τ sig) → Buf (Elt F) ℓ) (c : Dev nD)

theorem host0 : V m c main_v0 = truncf (F := F) .bf16 (m ((c : Thread nD τ).loc main_arg0)) bitsLt_bf16_f32 := by
  after_reads_simp

theorem host1 : V m c main_v1 = truncf (F := F) .bf16 (m ((c : Thread nD τ).loc main_arg1)) bitsLt_bf16_f32 := by
  after_reads_simp

end Host

variable (m : (ℓ : Loc nD τ sig) → Buf (Elt Ideal) ℓ) (ρ : Dev nD → PrngReg) (c : Dev nD)

abbrev A : Mat 8192 256 := m ((c : Thread nD τ).loc main_arg0)
abbrev B : Mat 256 2048 := m ((c : Thread nD τ).loc main_arg1)

theorem idx0 : ∀ t : Fin cfg0.N, win0_0.index t = ![t.val / 2, 0] := by decide +kernel
theorem idx1 : ∀ t : Fin cfg0.N, win0_1.index t = ![0, t.val % 2] := by decide +kernel
theorem idx2 : ∀ t : Fin cfg0.N, win0_2.index t = ![t.val / 2, t.val % 2] := by decide +kernel
theorem lt16 (t : Fin cfg0.N) : t.val < 16 := t.isLt
theorem row_lt (t : Fin cfg0.N) (a : Fin 1024) : t.val / 2 * 1024 + a.val < 8192 := by have := lt16 t; omega
theorem col_lt (t : Fin cfg0.N) (b : Fin 1024) : t.val % 2 * 1024 + b.val < 2048 := by omega

theorem blk0' (X : (⟨S8192x256, .bf16⟩ : BufTy).Contents (Elt Ideal)) (t : Fin cfg0.N) (a : Fin 1024) (x : Fin 256) :
    ((cfg0.win 0).blk t).view.read (Elt Ideal) X (ix2 a x) = X (ix2 ⟨t.val / 2 * 1024 + a.val, row_lt t a⟩ x) := by
  blk_ext [idx0]

theorem blk1' (X : (⟨S256x2048, .bf16⟩ : BufTy).Contents (Elt Ideal)) (t : Fin cfg0.N) (x : Fin 256) (b : Fin 1024) :
    ((cfg0.win 1).blk t).view.read (Elt Ideal) X (ix2 x b) = X (ix2 x ⟨t.val % 2 * 1024 + b.val, col_lt t b⟩) := by
  blk_ext [idx1]

theorem blk0 (t : Fin cfg0.N) (a : Fin 1024) (x : Fin 256) : (iblk m c 0 t (ix2 a x) : EReal) = A m c (ix2 ⟨t.val / 2 * 1024 + a.val, row_lt t a⟩ x) := by
  unfold iblk
  refine (blk0' (V m c main_v0) t a x).trans ?_
  rw [host0]
  pointwise

theorem blk1 (t : Fin cfg0.N) (x : Fin 256) (b : Fin 1024) : (iblk m c 1 t (ix2 x b) : EReal) = B m c (ix2 x ⟨t.val % 2 * 1024 + b.val, col_lt t b⟩) := by
  unfold iblk
  refine (blk1' (V m c main_v1) t x b).trans ?_
  rw [host1]
  pointwise

/-- The kernel's result. -/
theorem result : (dats m 0 c).arrAt 2 cfg0.N = prod (A m c) (B m c) := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨y 0, y 1, by funext i; fin_cases i <;> rfl⟩
  refine (out_at _ _ a b).trans ?_
  refine (Finset.sum_congr rfl fun x _ => by rw [blk0, blk1]).trans (prod_of (A m c) (B m c) _ ⟨t.val / 2 * 1024 + a.val, row_lt t a⟩ ⟨t.val % 2 * 1024 + b.val, col_lt t b⟩ ?_ ?_).symm <;>
    blk_simp [idx2]

/-- The reference's result. -/
theorem reference (a : Mat 8192 256) (b : Mat 256 2048) : Cert.MulUkvReferenceIdeal.Read.val_main_v1 (F := Ideal) a b = prod a b := by
  funext y
  rw [Cert.MulUkvReferenceIdeal.Read.val_main_v1_apply, Cert.MulUkvReferenceIdeal.Read.val_main_v0_apply]
  refine Finset.sum_congr rfl fun x _ => congrArg₂ (fun u v : EReal => u * v) (congrArg a ?_) (congrArg b ?_) <;>
    funext i <;> fin_cases i <;> rfl

theorem algebraic : Cert.algebraic_MulUkvIdeal_MulUkvReferenceIdeal := by
  intro m g m' g' _ hargs
  refine ⟨fun c => prod (A m c) (B m c), ?_, ?_⟩
  · exact (θ_run Cert.MulUkvIdeal.defs _ _).mono (fun r h c => ⟨(h c).1.trans (result m c), (h c).2⟩) (Value.run_blocks m g)
  · refine (θ_run Cert.MulUkvReferenceIdeal.defs _ _).mono (fun r h c => ?_) (Cert.MulUkvReferenceIdeal.Value.run m' g')
    obtain ⟨h1, h2⟩ := h c
    obtain ⟨a0, a1⟩ := hargs c
    refine ⟨h1.trans ?_, h2⟩
    rw [Cert.MulUkvReferenceIdeal.Read.val_main_v1_eq, a0, a1]
    exact reference (A m c) (B m c)

end Cert.MulUkvIdeal.Val

end
-- ==== Proof.DwUkValue.lean ====
/-
  The gradient of one half of `mla_w_ukv`: the kernel's sum over the tiles of tokens is the product.
-/
module

public import proofs.«01_k».proof.Proof.Gen.DwUkIdeal.Value
public import proofs.«01_k».proof.Proof.Gen.DwUkReferenceIdeal.Run
public import proofs.«01_k».proof.Proof.Gen.DwUkReferenceIdeal.Read
public import proofs.«01_k».proof.Proof.Prod
public import proofs.«01_k».proof.Defs
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.ShloMosaic.Tactic Idealize.SL.Sem

namespace Cert.DwUkIdeal.Val

open Cert.DwUkIdeal Cert.DwUkIdeal.Gen Cert.Prod

section Body

variable {F : FTy → Type} [FloatOps F] [Named F]
variable (c : Dev nD) (i : grid0.Coords) (a3 : Memref sig .tc .vmem S1024x256 .bf16) (h3 : a3.IsWhole) (a4 : Memref sig .tc .vmem S1024x1024 .bf16) (h4 : a4.IsWhole)
  (a5 : Memref sig .tc .vmem S256x1024 .f32) (h5 : a5.IsWhole) (a6 : Memref sig .tc .vmem S256x1024 .f32) (h6 : a6.IsWhole)
  (x0 : Vec F S1024x256 .bf16) (x1 : Vec F S1024x1024 .bf16) (xs : Vec F S256x1024 .f32)

/-- The first tile's product. -/
theorem first (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  unfold k0_pay2
  simp only [View.readAt_eq_ld, h3.read_unread, h4.read_unread, View.ld_unit_zero (S := S1024x1024) hz, View.ld_unit_zero (S := S1024x256) hz, View.ld_unit_zero (S := S256x1024) hz, shapeCast_self]

/-- A later tile's product, added. -/
theorem next (hc0 : ¬cond0_0 i) (hc1 : cond0_1 i) (hc2 : ¬cond0_2 i) : sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  unfold k0_pay3
  simp only [View.readAt_eq_ld, h3.read_unread, h4.read_unread, h6.read_unread, View.ld_unit_zero (S := S1024x1024) hz, View.ld_unit_zero (S := S1024x256) hz, View.ld_unit_zero (S := S256x1024) hz, shapeCast_self]

/-- The last tile's, left in the output. -/
theorem last (hc0 : ¬cond0_0 i) (hc1 : cond0_1 i) (hc2 : cond0_2 i) : out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  rw [View.canon_unit_zero hz]
  sl_unfold_words
  rw [View.readCov_unit_zero (S := S256x1024) _ hz]
  unfold k0_pay3
  simp only [View.readAt_eq_ld, h3.read_unread, h4.read_unread, h6.read_unread, View.ld_unit_zero (S := S1024x1024) hz, View.ld_unit_zero (S := S1024x256) hz, View.ld_unit_zero (S := S256x1024) hz, shapeCast_self]

end Body

theorem pay_at (x0 : Vec Ideal S1024x256 .bf16) (x1 : Vec Ideal S1024x1024 .bf16) (a : Fin 256) (b : Fin 1024) :
    k0_pay1 (F := Ideal) x0 x1 (ix2 a b) = ∑ x : Fin 1024, (x0 (ix2 x a) * x1 (ix2 x b) : EReal) := by
  pointwise [k0_pay1]

section Host

variable {F : FTy → Type} [FloatOps F] [Named F] (m : (ℓ : Loc nD τ sig) → Buf (Elt F) ℓ) (c : Dev nD)

theorem host0 : V m c main_v0 = truncf (F := F) .bf16 (m ((c : Thread nD τ).loc main_arg0)) bitsLt_bf16_f32 := by
  after_reads_simp

theorem host1 : V m c main_v1 = truncf (F := F) .bf16 (m ((c : Thread nD τ).loc main_arg1)) bitsLt_bf16_f32 := by
  after_reads_simp

end Host

variable (m : (ℓ : Loc nD τ sig) → Buf (Elt Ideal) ℓ) (ρ : Dev nD → PrngReg) (c : Dev nD)

abbrev A : Mat 8192 256 := m ((c : Thread nD τ).loc main_arg0)
abbrev B : Mat 8192 1024 := m ((c : Thread nD τ).loc main_arg1)

theorem idx0 : ∀ t : Fin cfg0.N, win0_0.index t = ![t.val % 8, t.val / 8] := by decide +kernel
theorem idx1 : ∀ t : Fin cfg0.N, win0_1.index t = ![t.val % 8, 0] := by decide +kernel
theorem idx2 : ∀ t : Fin cfg0.N, win0_2.index t = ![t.val / 8, 0] := by decide +kernel
theorem lt8 (t : Fin cfg0.N) : t.val < 8 := t.isLt

theorem blk0' (X : (⟨S8192x256, .bf16⟩ : BufTy).Contents (Elt Ideal)) (t : Fin cfg0.N) (x : Fin 1024) (a : Fin 256) :
    ((cfg0.win 0).blk t).view.read (Elt Ideal) X (ix2 x a) = X (ix2 ⟨t.val % 8 * 1024 + x.val, by omega⟩ ⟨t.val / 8 * 256 + a.val, by have := lt8 t; omega⟩) := by
  blk_ext [idx0]

theorem blk1' (X : (⟨S8192x1024, .bf16⟩ : BufTy).Contents (Elt Ideal)) (t : Fin cfg0.N) (x : Fin 1024) (b : Fin 1024) :
    ((cfg0.win 1).blk t).view.read (Elt Ideal) X (ix2 x b) = X (ix2 ⟨t.val % 8 * 1024 + x.val, by omega⟩ b) := by
  blk_ext [idx1]

theorem blk0 (t : Fin cfg0.N) (x : Fin 1024) (a : Fin 256) : (iblk m c 0 t (ix2 x a) : EReal) = cell (A m c) (1024 * (t.val % 8) + x.val) (256 * (t.val / 8) + a.val) := by
  unfold iblk
  refine (blk0' (V m c main_v0) t x a).trans ?_
  rw [host0]
  pointwise
  rw [mul_comm 1024, mul_comm 256]
  exact cell_of (A m c) ⟨t.val % 8 * 1024 + x.val, by omega⟩ ⟨t.val / 8 * 256 + a.val, by have := lt8 t; omega⟩

theorem blk1 (t : Fin cfg0.N) (x : Fin 1024) (b : Fin 1024) : (iblk m c 1 t (ix2 x b) : EReal) = cell (B m c) (1024 * (t.val % 8) + x.val) b.val := by
  unfold iblk
  refine (blk1' (V m c main_v1) t x b).trans ?_
  rw [host1]
  pointwise
  rw [mul_comm 1024]
  exact cell_of (B m c) ⟨t.val % 8 * 1024 + x.val, by omega⟩ b

/-- One tile's product of a point's blocks. -/
theorem part (t : Fin cfg0.N) (a : Fin 256) (b : Fin 1024) :
    (k0_pay1 (F := Ideal) (iblk m c 0 t) (iblk m c 1 t) (ix2 a b) : EReal)
      = ∑ x : Fin 1024, cell (A m c) (1024 * (t.val % 8) + x.val) (256 * (t.val / 8) + a.val) * cell (B m c) (1024 * (t.val % 8) + x.val) b.val :=
  (pay_at _ _ a b).trans (Finset.sum_congr rfl fun x _ => by rw [blk0, blk1])

/-- The scratch after a point, unless it is a block's last. -/
theorem kept (n : ℕ) (hn : n < cfg0.N) (h7 : n % 8 ≠ 7) (a : Fin 256) (b : Fin 1024) :
    ((outsAt0 m c n hn).2 (ix2 a b) : EReal) = tdot (A m c) (B m c) (256 * (n / 8) + a.val) b.val (1024 * (n % 8) + 1024) := by
  refine tiles (fun n h => (outsAt0 m c n h).2 (ix2 a b)) (fun n h => k0_pay1 (F := Ideal) (iblk m c 0 ⟨n, h⟩) (iblk m c 1 ⟨n, h⟩) (ix2 a b))
    (fun q x => cell (A m c) x (256 * q + a.val) * cell (B m c) x b.val) (fun n h => part m c ⟨n, h⟩ a b) (fun n h h0 => ?_) (fun n h h0 h7 => ?_) n hn h7
  · rw [outsAt0_A m c ⟨n, h⟩ h0 (by have : n < 8 := h; dsimp only; omega) (by simp [h0])]
    dsimp only
    rw [first]
  · rw [outsAt0_B m c ⟨n, h⟩ h0 (by simp; omega) h7]
    dsimp only
    rw [next]
    rfl

theorem flush : ∀ t : Fin cfg0.N, (cfg0.win 2).flush t = true → t.val % 8 = 7 := by decide +kernel

/-- The kernel's result. -/
theorem result : (dats m 0 c).arrAt 2 cfg0.N = tprod (A m c) (B m c) := by
  refine (dats m 0 c).arrAt_eq_of_covers 2 _ (by decide +kernel) fun t hf y => ?_
  have h7 := flush t hf
  blk_simp
  rw [after0_2]
  obtain ⟨a, b, rfl⟩ : ∃ (a : Fin 256) (b : Fin 1024), y = ix2 a b := ⟨y 0, y 1, by funext i; fin_cases i <;> rfl⟩
  rw [outsAt0_C m c t (by omega) (by omega) h7]
  dsimp only
  rw [last]
  have P := kept m c (t.val - 1) (Nat.lt_of_le_of_lt (Nat.sub_le _ _) t.isLt) (by omega) a b
  pointwise
  rw [P, part, show (t.val - 1) / 8 = t.val / 8 by omega, show 1024 * ((t.val - 1) % 8) + 1024 = 1024 * (t.val % 8) by omega, tdot_step, h7]
  refine (tprod_of (A m c) (B m c) _ _ _ ?_ ?_).symm
  · blk_simp [idx2]
    omega
  · blk_simp [idx2]

/-- The reference's result. -/
theorem reference (a : Mat 8192 256) (b : Mat 8192 1024) : Cert.DwUkReferenceIdeal.Read.val_main_v3 (F := Ideal) a b = tprod a b := by
  funext y
  rw [Cert.DwUkReferenceIdeal.Read.val_main_v3_apply, Cert.DwUkReferenceIdeal.Read.val_main_v2_apply]
  refine Finset.sum_congr rfl fun x _ => (mul_comm _ _).trans (congrArg₂ (fun u v : EReal => u * v) (congrArg a ?_) (congrArg b ?_)) <;>
    funext i <;> fin_cases i <;> rfl

theorem algebraic : Cert.algebraic_DwUkIdeal_DwUkReferenceIdeal := by
  intro m g m' g' _ hargs
  refine ⟨fun c => tprod (A m c) (B m c), ?_, ?_⟩
  · exact (θ_run Cert.DwUkIdeal.defs _ _).mono (fun r h c => ⟨(Value.post2 m r h c).trans (result m c), Value.kept_main_arg0 m r h c, Value.kept_main_arg1 m r h c⟩) (run_main m g)
  · refine (θ_run Cert.DwUkReferenceIdeal.defs _ _).mono (fun r h c => ?_) (Cert.DwUkReferenceIdeal.Value.run m' g')
    obtain ⟨h1, h2⟩ := h c
    obtain ⟨a0, a1⟩ := hargs c
    refine ⟨h1.trans ?_, h2⟩
    rw [Cert.DwUkReferenceIdeal.Read.val_main_v3_eq, a0, a1]
    exact reference (A m c) (B m c)

end Cert.DwUkIdeal.Val

end
-- ==== Proof.DkvnKeyValue.lean ====
/-
  The gradient of the normed key and value rows through `mla_w_ukv`'s key half: every tile of the kernel is a tile of the product.
-/
module

public import proofs.«01_k».proof.Proof.Gen.DkvnKeyIdeal.Value
public import proofs.«01_k».proof.Proof.Gen.DkvnKeyReferenceIdeal.Run
public import proofs.«01_k».proof.Proof.Gen.DkvnKeyReferenceIdeal.Read
public import proofs.«01_k».proof.Proof.Prod
public import proofs.«01_k».proof.Defs
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.ShloMosaic.Tactic Idealize.SL.Sem

namespace Cert.DkvnKeyIdeal.Val

open Cert.DkvnKeyIdeal Cert.DkvnKeyIdeal.Gen Cert.Prod

/-- A tile of the output. -/
theorem out_at (x0 : Vec Ideal S1024x1024 .bf16) (x1 : Vec Ideal S256x1024 .bf16) (a : Fin 1024) (b : Fin 256) :
    out0_2 (F := Ideal) x0 x1 (ix2 a b) = ∑ x : Fin 1024, (x0 (ix2 a x) * x1 (ix2 b x) : EReal) := by
  unfold out0_2
  rw [View.canon_unit_zero hz]
  simp only [View.ld_unit_zero (S := S1024x1024) hz, View.ld_unit_zero (S := S256x1024) hz]
  pointwise [k0_pay1]

section Host

variable {F : FTy → Type} [FloatOps F] [Named F] (m : (ℓ : Loc nD τ sig) → Buf (Elt F) ℓ) (c : Dev nD)

theorem host0 : V m c main_v0 = truncf (F := F) .bf16 (m ((c : Thread nD τ).loc main_arg0)) bitsLt_bf16_f32 := by
  after_reads_simp

theorem host1 : V m c main_v1 = truncf (F := F) .bf16 (m ((c : Thread nD τ).loc main_arg1)) bitsLt_bf16_f32 := by
  after_reads_simp

end Host

variable (m : (ℓ : Loc nD τ sig) → Buf (Elt Ideal) ℓ) (ρ : Dev nD → PrngReg) (c : Dev nD)

abbrev A : Mat 8192 1024 := m ((c : Thread nD τ).loc main_arg0)
abbrev W : Mat 256 2048 := m ((c : Thread nD τ).loc main_arg1)

/-- The key half of the weight's columns. -/
def half (w : Mat 256 2048) : Mat 256 1024 := fun y => w (ix2 (y 0) ⟨(y 1).val, Nat.lt_of_lt_of_le (y 1).isLt (show 1024 ≤ 2048 by norm_num)⟩)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem lt8 (t : Fin cfg0.N) : t.val < 8 := t.isLt
theorem row_lt (t : Fin cfg0.N) (a : Fin 1024) : t.val * 1024 + a.val < 8192 := by have := lt8 t; omega

theorem blk0' (X : (⟨S8192x1024, .bf16⟩ : BufTy).Contents (Elt Ideal)) (t : Fin cfg0.N) (a : Fin 1024) (x : Fin 1024) :
    ((cfg0.win 0).blk t).view.read (Elt Ideal) X (ix2 a x) = X (ix2 ⟨t.val * 1024 + a.val, row_lt t a⟩ x) := by
  blk_ext [idx0]

theorem blk1' (X : (⟨S256x2048, .bf16⟩ : BufTy).Contents (Elt Ideal)) (t : Fin cfg0.N) (b : Fin 256) (x : Fin 1024) :
    ((cfg0.win 1).blk t).view.read (Elt Ideal) X (ix2 b x) = X (ix2 b ⟨x.val, by omega⟩) := by
  blk_ext [idx1]

theorem blk0 (t : Fin cfg0.N) (a : Fin 1024) (x : Fin 1024) : (iblk m c 0 t (ix2 a x) : EReal) = A m c (ix2 ⟨t.val * 1024 + a.val, row_lt t a⟩ x) := by
  unfold iblk
  refine (blk0' (V m c main_v0) t a x).trans ?_
  rw [host0]
  pointwise

theorem blk1 (t : Fin cfg0.N) (b : Fin 256) (x : Fin 1024) : (iblk m c 1 t (ix2 b x) : EReal) = half (W m c) (ix2 b x) := by
  unfold iblk
  refine (blk1' (V m c main_v1) t b x).trans ?_
  rw [host1]
  pointwise
  rfl

/-- The kernel's result. -/
theorem result : (dats m 0 c).arrAt 2 cfg0.N = rprod (A m c) (half (W m c)) := by
  refine (dats m 0 c).arrAt_eq_of_covers 2 _ (by decide +kernel) fun t hf y => ?_
  blk_simp
  rw [after0_2]
  obtain ⟨a, b, rfl⟩ : ∃ (a : Fin 1024) (b : Fin 256), y = ix2 a b := ⟨y 0, y 1, by funext i; fin_cases i <;> rfl⟩
  refine (out_at _ _ a b).trans ?_
  refine (Finset.sum_congr rfl fun x _ => by rw [blk0, blk1]).trans (rprod_of (A m c) (half (W m c)) _ ⟨t.val * 1024 + a.val, row_lt t a⟩ b ?_ ?_).symm <;>
    blk_simp [idx2]

/-- The reference's result. -/
theorem reference (a : Mat 8192 1024) (w : Mat 256 2048) : Cert.DkvnKeyReferenceIdeal.Read.val_main_v3 (F := Ideal) a w = rprod a (half w) := by
  funext y
  rw [Cert.DkvnKeyReferenceIdeal.Read.val_main_v3_apply]
  refine Finset.sum_congr rfl fun x _ => ?_
  rw [Cert.DkvnKeyReferenceIdeal.Read.val_main_v1_apply]
  refine congrArg₂ (fun u v : EReal => u * v) (congrArg a ?_) (congrArg w ?_) <;>
    funext i <;> fin_cases i <;> simp <;> rfl

theorem algebraic : Cert.algebraic_DkvnKeyIdeal_DkvnKeyReferenceIdeal := by
  intro m g m' g' _ hargs
  refine ⟨fun c => rprod (A m c) (half (W m c)), ?_, ?_⟩
  · exact (θ_run Cert.DkvnKeyIdeal.defs _ _).mono (fun r h c => ⟨(h c).1.trans (result m c), (h c).2⟩) (Value.run_blocks m g)
  · refine (θ_run Cert.DkvnKeyReferenceIdeal.defs _ _).mono (fun r h c => ?_) (Cert.DkvnKeyReferenceIdeal.Value.run m' g')
    obtain ⟨h1, h2⟩ := h c
    obtain ⟨a0, a1⟩ := hargs c
    refine ⟨h1.trans ?_, h2⟩
    rw [Cert.DkvnKeyReferenceIdeal.Read.val_main_v3_eq, a0, a1]
    exact reference (A m c) (W m c)

end Cert.DkvnKeyIdeal.Val

end
-- ==== Proof.DkvnValueValue.lean ====
/-
  The gradient of the normed key and value rows through `mla_w_ukv`'s value half, added to the key half's: every tile of the kernel is a tile of the product.
-/
module

public import proofs.«01_k».proof.Proof.Gen.DkvnValueIdeal.Value
public import proofs.«01_k».proof.Proof.Gen.DkvnValueReferenceIdeal.Run
public import proofs.«01_k».proof.Proof.Gen.DkvnValueReferenceIdeal.Read
public import proofs.«01_k».proof.Proof.Prod
public import proofs.«01_k».proof.Defs
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.ShloMosaic.Tactic Idealize.SL.Sem

namespace Cert.DkvnValueIdeal.Val

open Cert.DkvnValueIdeal Cert.DkvnValueIdeal.Gen Cert.Prod

/-- A tile of the output. -/
theorem out_at (x0 : Vec Ideal S1024x1024 .bf16) (x1 : Vec Ideal S256x1024 .bf16) (x2 : Vec Ideal S1024x256 .f32) (a : Fin 1024) (b : Fin 256) :
    out0_3 (F := Ideal) x0 x1 x2 (ix2 a b) = (∑ x : Fin 1024, (x0 (ix2 a x) * x1 (ix2 b x)) + x2 (ix2 a b) : EReal) := by
  unfold out0_3
  rw [View.canon_unit_zero hz]
  simp only [View.ld_unit_zero (S := S1024x1024) hz, View.ld_unit_zero (S := S256x1024) hz, View.ld_unit_zero (S := S1024x256) hz]
  pointwise [k0_pay1]

section Host

variable {F : FTy → Type} [FloatOps F] [Named F] (m : (ℓ : Loc nD τ sig) → Buf (Elt F) ℓ) (c : Dev nD)

theorem host0 : V m c main_v0 = truncf (F := F) .bf16 (m ((c : Thread nD τ).loc main_arg0)) bitsLt_bf16_f32 := by
  after_reads_simp

theorem host1 : V m c main_v1 = truncf (F := F) .bf16 (m ((c : Thread nD τ).loc main_arg1)) bitsLt_bf16_f32 := by
  after_reads_simp

end Host

variable (m : (ℓ : Loc nD τ sig) → Buf (Elt Ideal) ℓ) (ρ : Dev nD → PrngReg) (c : Dev nD)

abbrev A : Mat 8192 1024 := m ((c : Thread nD τ).loc main_arg0)
abbrev W : Mat 256 2048 := m ((c : Thread nD τ).loc main_arg1)
abbrev D : Mat 8192 256 := m ((c : Thread nD τ).loc main_arg2)

/-- The value half of the weight's columns. -/
def half (w : Mat 256 2048) : Mat 256 1024 := fun y => w (ix2 (y 0) ⟨1024 + (y 1).val, Nat.add_lt_add_left (y 1).isLt 1024⟩)

theorem idx0 : ∀ t : Fin cfg0.N, win0_0.index t = ![t.val, 0] := by decide +kernel
theorem idx1 : ∀ t : Fin cfg0.N, win0_1.index t = ![0, 1] := by decide +kernel
theorem idx2 : ∀ t : Fin cfg0.N, win0_2.index t = ![t.val, 0] := by decide +kernel
theorem idx3 : ∀ t : Fin cfg0.N, win0_3.index t = ![t.val, 0] := by decide +kernel
theorem lt8 (t : Fin cfg0.N) : t.val < 8 := t.isLt
theorem row_lt (t : Fin cfg0.N) (a : Fin 1024) : t.val * 1024 + a.val < 8192 := by have := lt8 t; omega

theorem blk0' (X : (⟨S8192x1024, .bf16⟩ : BufTy).Contents (Elt Ideal)) (t : Fin cfg0.N) (a : Fin 1024) (x : Fin 1024) :
    ((cfg0.win 0).blk t).view.read (Elt Ideal) X (ix2 a x) = X (ix2 ⟨t.val * 1024 + a.val, row_lt t a⟩ x) := by
  blk_ext [idx0]

theorem blk1' (X : (⟨S256x2048, .bf16⟩ : BufTy).Contents (Elt Ideal)) (t : Fin cfg0.N) (b : Fin 256) (x : Fin 1024) :
    ((cfg0.win 1).blk t).view.read (Elt Ideal) X (ix2 b x) = X (ix2 b ⟨1024 + x.val, by omega⟩) := by
  blk_ext [idx1]

theorem blk0 (t : Fin cfg0.N) (a : Fin 1024) (x : Fin 1024) : (iblk m c 0 t (ix2 a x) : EReal) = A m c (ix2 ⟨t.val * 1024 + a.val, row_lt t a⟩ x) := by
  unfold iblk
  refine (blk0' (V m c main_v0) t a x).trans ?_
  rw [host0]
  pointwise

theorem blk1 (t : Fin cfg0.N) (b : Fin 256) (x : Fin 1024) : (iblk m c 1 t (ix2 b x) : EReal) = half (W m c) (ix2 b x) := by
  unfold iblk
  refine (blk1' (V m c main_v1) t b x).trans ?_
  rw [host1]
  pointwise
  rfl

theorem blk2' (X : (⟨S8192x256, .f32⟩ : BufTy).Contents (Elt Ideal)) (t : Fin cfg0.N) (a : Fin 1024) (b : Fin 256) :
    ((cfg0.win 2).blk t).view.read (Elt Ideal) X (ix2 a b) = X (ix2 ⟨t.val * 1024 + a.val, row_lt t a⟩ b) := by
  blk_ext [idx2]

theorem blk2 (t : Fin cfg0.N) (a : Fin 1024) (b : Fin 256) : (iblk m c 2 t (ix2 a b) : EReal) = D m c (ix2 ⟨t.val * 1024 + a.val, row_lt t a⟩ b) := by
  unfold iblk
  refine (blk2' (V m c main_arg2) t a b).trans ?_
  rw [V_main_arg2]

/-- The kernel's result. -/
theorem result : (dats m 0 c).arrAt 3 cfg0.N = plus (rprod (A m c) (half (W m c))) (D m c) := by
  refine (dats m 0 c).arrAt_eq_of_covers 3 _ (by decide +kernel) fun t hf y => ?_
  blk_simp
  rw [after0_3]
  obtain ⟨a, b, rfl⟩ : ∃ (a : Fin 1024) (b : Fin 256), y = ix2 a b := ⟨y 0, y 1, by funext i; fin_cases i <;> rfl⟩
  refine (out_at _ _ _ a b).trans ?_
  refine (congrArg₂ (fun u v : EReal => u + v) (Finset.sum_congr rfl fun x _ => by rw [blk0, blk1]) (blk2 m c t a b)).trans ?_
  refine (plus_of _ (D m c) _ ⟨t.val * 1024 + a.val, row_lt t a⟩ b ?_ ?_ _ (rprod_of (A m c) (half (W m c)) _ ⟨t.val * 1024 + a.val, row_lt t a⟩ b ?_ ?_)).symm <;>
    blk_simp [idx3]

/-- The reference's result. -/
theorem reference (a : Mat 8192 1024) (w : Mat 256 2048) (d : Mat 8192 256) : Cert.DkvnValueReferenceIdeal.Read.val_main_v4 (F := Ideal) a w d = plus (rprod a (half w)) d := by
  funext y
  rw [Cert.DkvnValueReferenceIdeal.Read.val_main_v4_apply, Cert.DkvnValueReferenceIdeal.Read.val_main_v3_apply]
  refine (add_comm _ _).trans (congrArg (fun u : EReal => u + d y) ?_)
  refine Finset.sum_congr rfl fun x _ => ?_
  rw [Cert.DkvnValueReferenceIdeal.Read.val_main_v1_apply]
  refine congrArg₂ (fun u v : EReal => u * v) (congrArg a ?_) (congrArg w ?_) <;>
    funext i <;> fin_cases i <;> simp <;> rfl

theorem algebraic : Cert.algebraic_DkvnValueIdeal_DkvnValueReferenceIdeal := by
  intro m g m' g' _ hargs
  refine ⟨fun c => plus (rprod (A m c) (half (W m c))) (D m c), ?_, ?_⟩
  · exact (θ_run Cert.DkvnValueIdeal.defs _ _).mono (fun r h c => ⟨(h c).1.trans (result m c), (h c).2⟩) (Value.run_blocks m g)
  · refine (θ_run Cert.DkvnValueReferenceIdeal.defs _ _).mono (fun r h c => ?_) (Cert.DkvnValueReferenceIdeal.Value.run m' g')
    obtain ⟨h1, h2⟩ := h c
    obtain ⟨a0, a1, a2⟩ := hargs c
    refine ⟨h1.trans ?_, h2⟩
    rw [Cert.DkvnValueReferenceIdeal.Read.val_main_v4_eq, a0, a1, a2]
    exact reference (A m c) (W m c) (D m c)

end Cert.DkvnValueIdeal.Val

end
-- ==== Proof.DwUqValue.lean ====
/-
  The gradient of `mla_w_uq`: the kernel's sum over the tiles of tokens is the product.
-/
module

public import proofs.«01_k».proof.Proof.Gen.DwUqIdeal.Value
public import proofs.«01_k».proof.Proof.Gen.DwUqReferenceIdeal.Run
public import proofs.«01_k».proof.Proof.Gen.DwUqReferenceIdeal.Read
public import proofs.«01_k».proof.Proof.Prod
public import proofs.«01_k».proof.Defs
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.ShloMosaic.Tactic Idealize.SL.Sem

namespace Cert.DwUqIdeal.Val

open Cert.DwUqIdeal Cert.DwUqIdeal.Gen Cert.Prod

section Body

variable {F : FTy → Type} [FloatOps F] [Named F]
variable (c : Dev nD) (i : grid0.Coords) (a3 : Memref sig .tc .vmem S1024x384 .bf16) (h3 : a3.IsWhole) (a4 : Memref sig .tc .vmem S1024x1024 .bf16) (h4 : a4.IsWhole)
  (a5 : Memref sig .tc .vmem S384x1024 .f32) (h5 : a5.IsWhole) (a6 : Memref sig .tc .vmem S384x1024 .f32) (h6 : a6.IsWhole)
  (x0 : Vec F S1024x384 .bf16) (x1 : Vec F S1024x1024 .bf16) (xs : Vec F S384x1024 .f32)

/-- The first tile's product. -/
theorem first (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  unfold k0_pay2
  simp only [View.readAt_eq_ld, h3.read_unread, h4.read_unread, View.ld_unit_zero (S := S1024x1024) hz, View.ld_unit_zero (S := S1024x384) hz, View.ld_unit_zero (S := S384x1024) hz, shapeCast_self]

/-- A later tile's product, added. -/
theorem next (hc0 : ¬cond0_0 i) (hc1 : cond0_1 i) (hc2 : ¬cond0_2 i) : sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  unfold k0_pay3
  simp only [View.readAt_eq_ld, h3.read_unread, h4.read_unread, h6.read_unread, View.ld_unit_zero (S := S1024x1024) hz, View.ld_unit_zero (S := S1024x384) hz, View.ld_unit_zero (S := S384x1024) hz, shapeCast_self]

/-- The last tile's, left in the output. -/
theorem last (hc0 : ¬cond0_0 i) (hc1 : cond0_1 i) (hc2 : cond0_2 i) : out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  rw [View.canon_unit_zero hz]
  sl_unfold_words
  rw [View.readCov_unit_zero (S := S384x1024) _ hz]
  unfold k0_pay3
  simp only [View.readAt_eq_ld, h3.read_unread, h4.read_unread, h6.read_unread, View.ld_unit_zero (S := S1024x1024) hz, View.ld_unit_zero (S := S1024x384) hz, View.ld_unit_zero (S := S384x1024) hz, shapeCast_self]

end Body

theorem pay_at (x0 : Vec Ideal S1024x384 .bf16) (x1 : Vec Ideal S1024x1024 .bf16) (a : Fin 384) (b : Fin 1024) :
    k0_pay1 (F := Ideal) x0 x1 (ix2 a b) = ∑ x : Fin 1024, (x0 (ix2 x a) * x1 (ix2 x b) : EReal) := by
  pointwise [k0_pay1]

section Host

variable {F : FTy → Type} [FloatOps F] [Named F] (m : (ℓ : Loc nD τ sig) → Buf (Elt F) ℓ) (c : Dev nD)

theorem host0 : V m c main_v0 = truncf (F := F) .bf16 (m ((c : Thread nD τ).loc main_arg0)) bitsLt_bf16_f32 := by
  after_reads_simp

theorem host1 : V m c main_v1 = truncf (F := F) .bf16 (m ((c : Thread nD τ).loc main_arg1)) bitsLt_bf16_f32 := by
  after_reads_simp

end Host

variable (m : (ℓ : Loc nD τ sig) → Buf (Elt Ideal) ℓ) (ρ : Dev nD → PrngReg) (c : Dev nD)

abbrev A : Mat 8192 384 := m ((c : Thread nD τ).loc main_arg0)
abbrev B : Mat 8192 1024 := m ((c : Thread nD τ).loc main_arg1)

theorem idx0 : ∀ t : Fin cfg0.N, win0_0.index t = ![t.val % 8, t.val / 8] := by decide +kernel
theorem idx1 : ∀ t : Fin cfg0.N, win0_1.index t = ![t.val % 8, 0] := by decide +kernel
theorem idx2 : ∀ t : Fin cfg0.N, win0_2.index t = ![t.val / 8, 0] := by decide +kernel
theorem lt8 (t : Fin cfg0.N) : t.val < 8 := t.isLt

theorem blk0' (X : (⟨S8192x384, .bf16⟩ : BufTy).Contents (Elt Ideal)) (t : Fin cfg0.N) (x : Fin 1024) (a : Fin 384) :
    ((cfg0.win 0).blk t).view.read (Elt Ideal) X (ix2 x a) = X (ix2 ⟨t.val % 8 * 1024 + x.val, by omega⟩ ⟨t.val / 8 * 384 + a.val, by have := lt8 t; omega⟩) := by
  blk_ext [idx0]

theorem blk1' (X : (⟨S8192x1024, .bf16⟩ : BufTy).Contents (Elt Ideal)) (t : Fin cfg0.N) (x : Fin 1024) (b : Fin 1024) :
    ((cfg0.win 1).blk t).view.read (Elt Ideal) X (ix2 x b) = X (ix2 ⟨t.val % 8 * 1024 + x.val, by omega⟩ b) := by
  blk_ext [idx1]

theorem blk0 (t : Fin cfg0.N) (x : Fin 1024) (a : Fin 384) : (iblk m c 0 t (ix2 x a) : EReal) = cell (A m c) (1024 * (t.val % 8) + x.val) (384 * (t.val / 8) + a.val) := by
  unfold iblk
  refine (blk0' (V m c main_v0) t x a).trans ?_
  rw [host0]
  pointwise
  rw [mul_comm 1024, mul_comm 384]
  exact cell_of (A m c) ⟨t.val % 8 * 1024 + x.val, by omega⟩ ⟨t.val / 8 * 384 + a.val, by have := lt8 t; omega⟩

theorem blk1 (t : Fin cfg0.N) (x : Fin 1024) (b : Fin 1024) : (iblk m c 1 t (ix2 x b) : EReal) = cell (B m c) (1024 * (t.val % 8) + x.val) b.val := by
  unfold iblk
  refine (blk1' (V m c main_v1) t x b).trans ?_
  rw [host1]
  pointwise
  rw [mul_comm 1024]
  exact cell_of (B m c) ⟨t.val % 8 * 1024 + x.val, by omega⟩ b

/-- One tile's product of a point's blocks. -/
theorem part (t : Fin cfg0.N) (a : Fin 384) (b : Fin 1024) :
    (k0_pay1 (F := Ideal) (iblk m c 0 t) (iblk m c 1 t) (ix2 a b) : EReal)
      = ∑ x : Fin 1024, cell (A m c) (1024 * (t.val % 8) + x.val) (384 * (t.val / 8) + a.val) * cell (B m c) (1024 * (t.val % 8) + x.val) b.val :=
  (pay_at _ _ a b).trans (Finset.sum_congr rfl fun x _ => by rw [blk0, blk1])

/-- The scratch after a point, unless it is a block's last. -/
theorem kept (n : ℕ) (hn : n < cfg0.N) (h7 : n % 8 ≠ 7) (a : Fin 384) (b : Fin 1024) :
    ((outsAt0 m c n hn).2 (ix2 a b) : EReal) = tdot (A m c) (B m c) (384 * (n / 8) + a.val) b.val (1024 * (n % 8) + 1024) := by
  refine tiles (fun n h => (outsAt0 m c n h).2 (ix2 a b)) (fun n h => k0_pay1 (F := Ideal) (iblk m c 0 ⟨n, h⟩) (iblk m c 1 ⟨n, h⟩) (ix2 a b))
    (fun q x => cell (A m c) x (384 * q + a.val) * cell (B m c) x b.val) (fun n h => part m c ⟨n, h⟩ a b) (fun n h h0 => ?_) (fun n h h0 h7 => ?_) n hn h7
  · rw [outsAt0_A m c ⟨n, h⟩ h0 (by have : n < 8 := h; dsimp only; omega) (by simp [h0])]
    dsimp only
    rw [first]
  · rw [outsAt0_B m c ⟨n, h⟩ h0 (by simp; omega) h7]
    dsimp only
    rw [next]
    rfl

theorem flush : ∀ t : Fin cfg0.N, (cfg0.win 2).flush t = true → t.val % 8 = 7 := by decide +kernel

/-- The kernel's result. -/
theorem result : (dats m 0 c).arrAt 2 cfg0.N = tprod (A m c) (B m c) := by
  refine (dats m 0 c).arrAt_eq_of_covers 2 _ (by decide +kernel) fun t hf y => ?_
  have h7 := flush t hf
  blk_simp
  rw [after0_2]
  obtain ⟨a, b, rfl⟩ : ∃ (a : Fin 384) (b : Fin 1024), y = ix2 a b := ⟨y 0, y 1, by funext i; fin_cases i <;> rfl⟩
  rw [outsAt0_C m c t (by omega) (by omega) h7]
  dsimp only
  rw [last]
  have P := kept m c (t.val - 1) (Nat.lt_of_le_of_lt (Nat.sub_le _ _) t.isLt) (by omega) a b
  pointwise
  rw [P, part, show (t.val - 1) / 8 = t.val / 8 by omega, show 1024 * ((t.val - 1) % 8) + 1024 = 1024 * (t.val % 8) by omega, tdot_step, h7]
  refine (tprod_of (A m c) (B m c) _ _ _ ?_ ?_).symm
  · blk_simp [idx2]
    omega
  · blk_simp [idx2]

/-- The reference's result. -/
theorem reference (a : Mat 8192 384) (b : Mat 8192 1024) : Cert.DwUqReferenceIdeal.Read.val_main_v3 (F := Ideal) a b = tprod a b := by
  funext y
  rw [Cert.DwUqReferenceIdeal.Read.val_main_v3_apply, Cert.DwUqReferenceIdeal.Read.val_main_v2_apply]
  refine Finset.sum_congr rfl fun x _ => (mul_comm _ _).trans (congrArg₂ (fun u v : EReal => u * v) (congrArg a ?_) (congrArg b ?_)) <;>
    funext i <;> fin_cases i <;> rfl

theorem algebraic : Cert.algebraic_DwUqIdeal_DwUqReferenceIdeal := by
  intro m g m' g' _ hargs
  refine ⟨fun c => tprod (A m c) (B m c), ?_, ?_⟩
  · exact (θ_run Cert.DwUqIdeal.defs _ _).mono (fun r h c => ⟨(Value.post2 m r h c).trans (result m c), Value.kept_main_arg0 m r h c, Value.kept_main_arg1 m r h c⟩) (run_main m g)
  · refine (θ_run Cert.DwUqReferenceIdeal.defs _ _).mono (fun r h c => ?_) (Cert.DwUqReferenceIdeal.Value.run m' g')
    obtain ⟨h1, h2⟩ := h c
    obtain ⟨a0, a1⟩ := hargs c
    refine ⟨h1.trans ?_, h2⟩
    rw [Cert.DwUqReferenceIdeal.Read.val_main_v3_eq, a0, a1]
    exact reference (A m c) (B m c)

end Cert.DwUqIdeal.Val

end
-- ==== Proof.DqnValue.lean ====
/-
  The gradient of the normed query rows: every tile of the kernel is a tile of the product.
-/
module

public import proofs.«01_k».proof.Proof.Gen.DqnIdeal.Value
public import proofs.«01_k».proof.Proof.Gen.DqnReferenceIdeal.Run
public import proofs.«01_k».proof.Proof.Gen.DqnReferenceIdeal.Read
public import proofs.«01_k».proof.Proof.Prod
public import proofs.«01_k».proof.Defs
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.ShloMosaic.Tactic Idealize.SL.Sem

namespace Cert.DqnIdeal.Val

open Cert.DqnIdeal Cert.DqnIdeal.Gen Cert.Prod

/-- A tile of the output. -/
theorem out_at (x0 : Vec Ideal S1024x1024 .bf16) (x1 : Vec Ideal S384x1024 .bf16) (a : Fin 1024) (b : Fin 384) :
    out0_2 (F := Ideal) x0 x1 (ix2 a b) = ∑ x : Fin 1024, (x0 (ix2 a x) * x1 (ix2 b x) : EReal) := by
  unfold out0_2
  rw [View.canon_unit_zero hz]
  simp only [View.ld_unit_zero (S := S1024x1024) hz, View.ld_unit_zero (S := S384x1024) hz]
  pointwise [k0_pay1]

section Host

variable {F : FTy → Type} [FloatOps F] [Named F] (m : (ℓ : Loc nD τ sig) → Buf (Elt F) ℓ) (c : Dev nD)

theorem host0 : V m c main_v0 = truncf (F := F) .bf16 (m ((c : Thread nD τ).loc main_arg0)) bitsLt_bf16_f32 := by
  after_reads_simp

theorem host1 : V m c main_v1 = truncf (F := F) .bf16 (m ((c : Thread nD τ).loc main_arg1)) bitsLt_bf16_f32 := by
  after_reads_simp

end Host

variable (m : (ℓ : Loc nD τ sig) → Buf (Elt Ideal) ℓ) (ρ : Dev nD → PrngReg) (c : Dev nD)

abbrev A : Mat 8192 1024 := m ((c : Thread nD τ).loc main_arg0)
abbrev B : Mat 384 1024 := m ((c : Thread nD τ).loc main_arg1)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem lt8 (t : Fin cfg0.N) : t.val < 8 := t.isLt
theorem row_lt (t : Fin cfg0.N) (a : Fin 1024) : t.val * 1024 + a.val < 8192 := by have := lt8 t; omega

theorem blk0' (X : (⟨S8192x1024, .bf16⟩ : BufTy).Contents (Elt Ideal)) (t : Fin cfg0.N) (a : Fin 1024) (x : Fin 1024) :
    ((cfg0.win 0).blk t).view.read (Elt Ideal) X (ix2 a x) = X (ix2 ⟨t.val * 1024 + a.val, row_lt t a⟩ x) := by
  blk_ext [idx0]

theorem blk1' (X : (⟨S384x1024, .bf16⟩ : BufTy).Contents (Elt Ideal)) (t : Fin cfg0.N) (b : Fin 384) (x : Fin 1024) :
    ((cfg0.win 1).blk t).view.read (Elt Ideal) X (ix2 b x) = X (ix2 b x) := by
  blk_ext [idx1]

theorem blk0 (t : Fin cfg0.N) (a : Fin 1024) (x : Fin 1024) : (iblk m c 0 t (ix2 a x) : EReal) = A m c (ix2 ⟨t.val * 1024 + a.val, row_lt t a⟩ x) := by
  unfold iblk
  refine (blk0' (V m c main_v0) t a x).trans ?_
  rw [host0]
  pointwise

theorem blk1 (t : Fin cfg0.N) (b : Fin 384) (x : Fin 1024) : (iblk m c 1 t (ix2 b x) : EReal) = B m c (ix2 b x) := by
  unfold iblk
  refine (blk1' (V m c main_v1) t b x).trans ?_
  rw [host1]
  pointwise

/-- The kernel's result. -/
theorem result : (dats m 0 c).arrAt 2 cfg0.N = rprod (A m c) (B m c) := by
  refine (dats m 0 c).arrAt_eq_of_covers 2 _ (by decide +kernel) fun t hf y => ?_
  blk_simp
  rw [after0_2]
  obtain ⟨a, b, rfl⟩ : ∃ (a : Fin 1024) (b : Fin 384), y = ix2 a b := ⟨y 0, y 1, by funext i; fin_cases i <;> rfl⟩
  refine (out_at _ _ a b).trans ?_
  refine (Finset.sum_congr rfl fun x _ => by rw [blk0, blk1]).trans (rprod_of (A m c) (B m c) _ ⟨t.val * 1024 + a.val, row_lt t a⟩ b ?_ ?_).symm <;>
    blk_simp [idx2]

/-- The reference's result. -/
theorem reference (a : Mat 8192 1024) (b : Mat 384 1024) : Cert.DqnReferenceIdeal.Read.val_main_v2 (F := Ideal) a b = rprod a b := by
  funext y
  rw [Cert.DqnReferenceIdeal.Read.val_main_v2_apply]
  refine Finset.sum_congr rfl fun x _ => congrArg₂ (fun u v : EReal => u * v) (congrArg a ?_) (congrArg b ?_) <;>
    funext i <;> fin_cases i <;> rfl

theorem algebraic : Cert.algebraic_DqnIdeal_DqnReferenceIdeal := by
  intro m g m' g' _ hargs
  refine ⟨fun c => rprod (A m c) (B m c), ?_, ?_⟩
  · exact (θ_run Cert.DqnIdeal.defs _ _).mono (fun r h c => ⟨(h c).1.trans (result m c), (h c).2⟩) (Value.run_blocks m g)
  · refine (θ_run Cert.DqnReferenceIdeal.defs _ _).mono (fun r h c => ?_) (Cert.DqnReferenceIdeal.Value.run m' g')
    obtain ⟨h1, h2⟩ := h c
    obtain ⟨a0, a1⟩ := hargs c
    refine ⟨h1.trans ?_, h2⟩
    rw [Cert.DqnReferenceIdeal.Read.val_main_v2_eq, a0, a1]
    exact reference (A m c) (B m c)

end Cert.DqnIdeal.Val

end
-- ==== Proof.NormRow.lean ====
/-
  The RMS norm and its gradient, row by row and over arrays, over the extended reals.
-/
module

public import Idealize.ShloMosaic.PureOps.Ideal
public import Idealize.ShloMosaic.PureOps.Ideal.Laws
public import proofs.«01_k».proof.Proof.Softmax
public import proofs.«01_k».proof.Proof.Prod

@[expose] public section

noncomputable section

open Idealize.ShloMosaic Cert.Prod

namespace Cert.Norm

/-- A row's length. -/
def len (n : ℕ) : EReal := ((n : ℝ) : EReal)

/-- What is added to the mean square. -/
def eps : EReal := Ideal.ofBits .f32 0x358637BD#32

/-- The factor in the derivative of the inverse square root. -/
def half : EReal := Ideal.ofBits .f32 0xBF000000#32

theorem len_1024 : len 1024 = Ideal.ofBits .f32 0x44800000#32 := by
  simp [len, Ideal.ofBits, Ideal.ieee]
  rw [← EReal.coe_mul]
  norm_num

theorem len_384 : len 384 = Ideal.ofBits .f32 0x43C00000#32 := by
  simp [len, Ideal.ofBits, Ideal.ieee]
  rw [← EReal.coe_mul]
  norm_num

theorem len_256 : len 256 = Ideal.ofBits .f32 0x43800000#32 := by
  simp [len, Ideal.ofBits, Ideal.ieee]
  rw [← EReal.coe_mul]
  norm_num

theorem zero_eq : (Ideal.ofBits .f32 0x00000000#32 : EReal) = 0 := by
  simp [Ideal.ofBits, Ideal.ieee]

theorem half_eq : half = ((-1 / 2 : ℝ) : EReal) := by
  simp [half, Ideal.ofBits, Ideal.ieee]
  rw [← EReal.coe_mul, ← EReal.coe_neg]
  norm_num

theorem eps_eq : ∃ e : ℝ, 0 < e ∧ eps = (e : EReal) :=
  ⟨8796093 * (2 ^ 43)⁻¹, by positivity, by simp [eps, Ideal.ofBits, Ideal.ieee]⟩

variable {n : ℕ}

theorem div_len [NeZero n] (z : EReal) : Ideal.div z (len n) = z * ((1 / (n : ℝ) : ℝ) : EReal) :=
  Ideal.div_coe (Nat.cast_ne_zero.2 (NeZero.ne n)) z

/-- The mean square of a row and `eps`. -/
def mean (x : Fin n → EReal) : EReal := Ideal.div (∑ j, x j * x j) (len n) + eps

/-- Its inverse square root. -/
def rr (x : Fin n → EReal) : EReal := Ideal.rsqrt (mean x)

theorem square_nonneg (a : EReal) : 0 ≤ a * a := by
  rcases le_total 0 a with h | h
  · exact EReal.mul_nonneg h h
  · exact EReal.mul_nonneg_iff.2 (Or.inr ⟨h, h⟩)

/-- Either a row's mean square is infinite, or the row is real. -/
theorem mean_cases [NeZero n] (x : Fin n → EReal) : mean x = ⊤ ∨ ∃ (X : Fin n → ℝ) (s : ℝ), 0 < s ∧ (∀ j, x j = (X j : EReal)) ∧ mean x = (s : EReal) := by
  obtain ⟨e, he, hee⟩ := eps_eq
  by_cases h : ∀ j, x j ≠ ⊤ ∧ x j ≠ ⊥
  · right
    have hX : ∀ j, x j = ((x j).toReal : EReal) := fun j => (EReal.coe_toReal (h j).1 (h j).2).symm
    refine ⟨fun j => (x j).toReal, (∑ j, (x j).toReal * (x j).toReal) * (1 / (n : ℝ)) + e, ?_, hX, ?_⟩
    · have : 0 ≤ ∑ j, (x j).toReal * (x j).toReal := Finset.sum_nonneg fun j _ => mul_self_nonneg _
      positivity
    · rw [mean, div_len, hee, EReal.coe_add, EReal.coe_mul, Cert.Softmax.coe_sum]
      congr 2
      exact Finset.sum_congr rfl fun j _ => by rw [EReal.coe_mul, ← hX]
  · left
    push Not at h
    obtain ⟨j, hj⟩ := h
    have hs : x j * x j = ⊤ := by
      by_cases ht : x j = ⊤
      · rw [ht]; rfl
      · rw [hj ht]; rfl
    have hT : ∑ j, x j * x j = ⊤ :=
      top_le_iff.1 (hs ▸ Finset.single_le_sum (f := fun j => x j * x j) (fun j _ => square_nonneg (x j)) (Finset.mem_univ j))
    rw [mean, hT, div_len, hee, EReal.top_mul_coe_of_pos (one_div_pos.2 (Nat.cast_pos.2 (NeZero.pos n))), EReal.top_add_coe]

theorem double (z : EReal) : z + z = ((2 : ℝ) : EReal) * z := by
  have h := EReal.right_distrib_of_nonneg (a := ((1 : ℝ) : EReal)) (b := ((1 : ℝ) : EReal)) (c := z) (by norm_num) (by norm_num)
  rw [← EReal.coe_add, EReal.coe_one, one_mul] at h
  rw [← h]
  norm_num

/-- An entry of the gradient, as the kernel computes it. -/
def grad (x a : Fin n → EReal) (j : Fin n) : EReal :=
  rr x * (a j - x j * rr x * Ideal.div (∑ k, a k * (x k * rr x)) (len n))

/-- The gradient of the mean square, shared by a row. -/
def shared (x a : Fin n → EReal) : EReal := Ideal.div ((∑ k, x k * a k) * (half * Ideal.div (rr x) (mean x))) (len n)

/-- The chain rule's form of the entry is the kernel's. -/
theorem chain [NeZero n] (x a : Fin n → EReal) (j : Fin n) : a j * rr x + x j * shared x a + shared x a * x j = grad x a j := by
  rcases mean_cases x with h | ⟨X, s, hs, hX, h⟩
  · have hr : rr x = 0 := by rw [rr, h]; rfl
    have hc : shared x a = 0 := by
      rw [shared, hr, h, div_len, Ideal.div, if_neg (by simp)]
      simp
    rw [grad, hr, hc]
    simp
  · have hq : 0 < Real.sqrt s := Real.sqrt_pos.2 hs
    have hr : rr x = (((Real.sqrt s)⁻¹ : ℝ) : EReal) := by
      rw [rr, h, Ideal.rsqrt_coe, if_neg hs.not_gt, if_neg hs.ne']
    have hss : (Real.sqrt s)⁻¹ * (Real.sqrt s)⁻¹ = 1 / s := by rw [← mul_inv, Real.mul_self_sqrt hs.le, one_div]
    have hr0 : 0 ≤ (Real.sqrt s)⁻¹ := (inv_pos.2 hq).le
    revert hr hss hr0
    generalize (Real.sqrt s)⁻¹ = r
    intro hr hss hr0
    have hsum : ∑ k, a k * (x k * rr x) = (r : EReal) * ∑ k, x k * a k := by
      rw [Cert.Softmax.mul_sum _ r hr0]
      exact Finset.sum_congr rfl fun k _ => by rw [hr]; ac_rfl
    rw [grad, shared, hsum, div_len, div_len, hr, h, Ideal.div_coe hs.ne', half_eq, hX j]
    generalize ∑ k, x k * a k = S
    generalize X j = y
    rw [sub_eq_add_neg, EReal.left_distrib_of_nonneg_of_ne_top (EReal.coe_nonneg.2 hr0) (EReal.coe_ne_top r), add_assoc, mul_comm (a j)]
    congr 1
    have e1 : (y : EReal) * (S * (((-1 / 2 : ℝ) : EReal) * ((r : EReal) * ((1 / s : ℝ) : EReal))) * ((1 / (n : ℝ) : ℝ) : EReal))
        = ((y * (-1 / 2) * r * (1 / s) * (1 / (n : ℝ)) : ℝ) : EReal) * S := by
      simp only [EReal.coe_mul]
      ac_rfl
    rw [mul_comm _ (y : EReal), e1, double, ← mul_assoc, ← EReal.coe_mul, mul_neg, ← neg_mul]
    have e2 : -(r : EReal) * ((y : EReal) * (r : EReal) * ((r : EReal) * S * ((1 / (n : ℝ) : ℝ) : EReal)))
        = ((-r * y * r * r * (1 / (n : ℝ)) : ℝ) : EReal) * S := by
      simp only [EReal.coe_mul, EReal.coe_neg]
      ac_rfl
    rw [e2]
    congr 2
    rw [← hss]
    ring

/-- The gradient of a row with an infinite mean square is zero, and that of a real row is real. -/
theorem grad_real [NeZero n] (x a : Fin n → EReal) (A : Fin n → ℝ) (ha : ∀ j, a j = (A j : EReal)) (j : Fin n) : ∃ c : ℝ, grad x a j = (c : EReal) := by
  rcases mean_cases x with h | ⟨X, s, hs, hX, h⟩
  · exact ⟨0, by rw [grad, show rr x = 0 by rw [rr, h]; rfl, zero_mul, EReal.coe_zero]⟩
  · have hr : rr x = (((Real.sqrt s)⁻¹ : ℝ) : EReal) := by
      rw [rr, h, Ideal.rsqrt_coe, if_neg hs.not_gt, if_neg hs.ne']
    refine ⟨(Real.sqrt s)⁻¹ * (A j - X j * (Real.sqrt s)⁻¹ * ((∑ k, A k * (X k * (Real.sqrt s)⁻¹)) * (1 / (n : ℝ)))), ?_⟩
    rw [grad, hr, div_len, hX j, ha j]
    have e : ∑ k, a k * (x k * (((Real.sqrt s)⁻¹ : ℝ) : EReal)) = ((∑ k, A k * (X k * (Real.sqrt s)⁻¹) : ℝ) : EReal) := by
      rw [Cert.Softmax.coe_sum]
      exact Finset.sum_congr rfl fun k _ => by rw [ha, hX, ← EReal.coe_mul, ← EReal.coe_mul]
    rw [e]
    simp only [← EReal.coe_mul, ← EReal.coe_sub]

/-- The derivative of the gate `z ↦ z · logistic z`, with its two terms apart. -/
theorem gate (c : ℝ) (z : EReal) :
    (c : EReal) * Ideal.logistic z + z * (c : EReal) * (Ideal.logistic z * (1 - Ideal.logistic z))
      = (c : EReal) * (Ideal.logistic z + z * Ideal.logistic z * (1 - Ideal.logistic z)) := by
  induction z with
  | bot => simp
  | top =>
    have h : (1 : EReal) - 1 = 0 := by rw [← EReal.coe_one, ← EReal.coe_sub, sub_self, EReal.coe_zero]
    simp [h]
  | coe z =>
    rw [Ideal.logistic_coe, ← EReal.coe_one]
    simp only [← EReal.coe_mul, ← EReal.coe_sub, ← EReal.coe_add]
    congr 1
    ring

/-- A product with an infinity that is real has a zero. -/
theorem eq_zero_of_infinite {w p : EReal} {r : ℝ} (hw : w = ⊤ ∨ w = ⊥) (h : w * p = (r : EReal)) : p = 0 := by
  rcases lt_trichotomy p 0 with hp | hp | hp
  · rcases hw with rfl | rfl
    · rw [EReal.top_mul_of_neg hp] at h
      exact absurd h (EReal.bot_ne_coe r)
    · rw [EReal.bot_mul_of_neg hp] at h
      exact absurd h (EReal.top_ne_coe r)
  · exact hp
  · rcases hw with rfl | rfl
    · rw [EReal.top_mul_of_pos hp] at h
      exact absurd h (EReal.top_ne_coe r)
    · rw [EReal.bot_mul_of_pos hp] at h
      exact absurd h (EReal.bot_ne_coe r)

/-- The same for the gradient of a row times the gated entry: where the entry is infinite, the gate is flat or the row's gradient is zero. -/
theorem gate_row [NeZero n] (x a : Fin n → EReal) (A : Fin n → ℝ) (ha : ∀ j, a j = (A j : EReal)) (j : Fin n) (w z : EReal) (hx : x j = w * (z * Ideal.logistic z)) :
    w * grad x a j * Ideal.logistic z + z * (w * grad x a j) * (Ideal.logistic z * (1 - Ideal.logistic z))
      = w * grad x a j * (Ideal.logistic z + z * Ideal.logistic z * (1 - Ideal.logistic z)) := by
  have flat : w = ⊤ ∨ w = ⊥ → w * grad x a j * Ideal.logistic z + z * (w * grad x a j) * (Ideal.logistic z * (1 - Ideal.logistic z))
      = w * grad x a j * (Ideal.logistic z + z * Ideal.logistic z * (1 - Ideal.logistic z)) := fun hw => by
    rcases mean_cases x with h | ⟨X, s, hs, hX, h⟩
    · rw [grad, show rr x = 0 by rw [rr, h]; rfl]
      simp
    · rcases mul_eq_zero.1 (eq_zero_of_infinite hw (hx.symm.trans (hX j))) with hz | hz
      · rw [hz]
        simp
      · rw [hz]
        simp
  induction w with
  | bot => exact flat (Or.inr rfl)
  | top => exact flat (Or.inl rfl)
  | coe s =>
    obtain ⟨u, hu⟩ := grad_real x a A ha j
    rw [hu, ← EReal.coe_mul]
    exact gate (s * u) z

theorem one_eq : (Ideal.ofBits .f32 0x3F800000#32 : EReal) = 1 := by
  simp [Ideal.ofBits, Ideal.ieee]
  rw [← EReal.coe_mul]
  norm_num

/-- Some columns of an array, from `c0` on. -/
def cols {r c : ℕ} (c0 : ℕ) (h : c0 + n ≤ c) (A : Mat r c) : Mat r n := fun y => A (ix2 (y 0) ⟨c0 + (y 1).val, by have h1 : (y 1).val < n := (y 1).isLt; omega⟩)

section Arrays

variable {r : ℕ} (x d : Mat r n) (g : Mat 1 n)

/-- A row of an array. -/
abbrev row (x : Mat r n) (i : Fin r) : Fin n → EReal := fun j => x (ix2 i j)

/-- A row of the output's gradient times the weight. -/
abbrev scaled (d : Mat r n) (g : Mat 1 n) (i : Fin r) : Fin n → EReal := fun j => d (ix2 i j) * g (ix2 0 j)

/-- The gradient of the weight. -/
def dg : Mat 1 n := fun y => ∑ i : Fin r, d (ix2 i (y 1)) * (x (ix2 i (y 1)) * rr (row x i))

theorem dg_of (y : (⟨2, ![1, n]⟩ : Shape).Idx) (b : Fin n) (h : (y 1).val = b.val) : dg x d y = ∑ i : Fin r, d (ix2 i b) * (x (ix2 i b) * rr (row x i)) := by
  rw [dg, show y 1 = b from Fin.ext h]

/-- A row's part of the weight's gradient. -/
def part (b : ℕ) (i : ℕ) : EReal := cell d i b * (cell x i b * rr (fun j : Fin n => cell x i j.val))

theorem part_of (b : Fin n) (i : Fin r) : d (ix2 i b) * (x (ix2 i b) * rr (row x i)) = part x d b.val i.val := by
  unfold part row
  simp only [cell_of]

theorem dg_sum (y : (⟨2, ![1, n]⟩ : Shape).Idx) (b : Fin n) (h : (y 1).val = b.val) : ∑ i ∈ Finset.range r, part x d b.val i = dg x d y := by
  rw [Finset.sum_range, dg_of x d y b h]
  exact Finset.sum_congr rfl fun i _ => (part_of x d b i).symm

end Arrays

end Cert.Norm

end
-- ==== Proof.NormValue.lean ====
/-
  The gradient of the RMS norm: every tile of the kernel is a tile of the chain rule's gradient, and the weight's gradient is the sum over the tiles.
-/
module

public import proofs.«01_k».proof.Proof.Gen.NormIdeal.Value
public import proofs.«01_k».proof.Proof.Gen.NormReferenceIdeal.Run
public import proofs.«01_k».proof.Proof.Gen.NormReferenceIdeal.Read
public import proofs.«01_k».proof.Proof.Prod
public import proofs.«01_k».proof.Proof.NormRow
public import proofs.«01_k».proof.Defs
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.ShloMosaic.Tactic Idealize.SL.Sem

namespace Cert.NormIdeal.Val

open Cert.NormIdeal Cert.NormIdeal.Gen Cert.Prod Cert.Norm

section Body

variable {F : FTy → Type} [FloatOps F] [Named F]
variable (c : Dev nD) (i : grid0.Coords) (a1 : Memref sig .tc .vmem S512x1024 .f32) (h1 : a1.IsWhole) (a2 : Memref sig .tc .vmem S1x1024 .f32) (h2 : a2.IsWhole)
  (a3 : Memref sig .tc .vmem S512x1024 .bf16) (h3 : a3.IsWhole) (a4 : Memref sig .tc .vmem S512x1024 .f32) (h4 : a4.IsWhole) (a5 : Memref sig .tc .vmem S512x1024 .f32) (h5 : a5.IsWhole)
  (a6 : Memref sig .tc .vmem S512x1024 .bf16) (h6 : a6.IsWhole) (a7 : Memref sig .tc .vmem S1x1024 .f32) (h7 : a7.IsWhole)
  (x0 : Vec F S512x1024 .f32) (x1 : Vec F S1x1024 .f32) (x2 : Vec F S512x1024 .bf16) (x3 : Vec F S512x1024 .f32) (xs : Vec F S1x1024 .f32)

/-- The rows' gradient, at the first point. -/
theorem rows_first (hc : cond0_0 i) : out0_A_4 c i a1 h1 a2 h2 a3 h3 a4 h4 a5 h5 a6 h6 a7 h7 hc x0 x1 x2 x3 = k0_pay5 x0 x2 x1 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  rw [View.canon_unit_zero hz]
  simp only [View.readAt_eq_ld, h1.read_unread, h2.read_unread, h3.read_unread, h4.read_unread, View.ld_unit_zero (S := S512x1024) hz, View.ld_unit_zero (S := S1x1024) hz]

/-- And at a later one. -/
theorem rows_next (hc : ¬cond0_0 i) : out0_B_4 c i a1 h1 a2 h2 a3 h3 a4 h4 a5 h5 a6 h6 a7 h7 hc x0 x1 x2 x3 xs = k0_pay5 x0 x2 x1 x3 := by
  unfold out0_B_4
  rw [View.read_writes_eq_canon _ _ _ (cover0_B_4 c i a1 h1 a2 h2 a3 h3 a4 h4 a5 h5 a6 h6 a7 h7 hc x0 x1 x2 x3 xs)]
  unfold kernelRun0_B
  dsimp only
  rw [View.canon_unit_zero hz]
  simp only [View.readAt_eq_ld, h1.read_unread, h2.read_unread, h3.read_unread, h4.read_unread, View.ld_unit_zero (S := S512x1024) hz, View.ld_unit_zero (S := S1x1024) hz]

/-- The copy of the rows' gradient, at the first point. -/
theorem copy_first (hc : cond0_0 i) : out0_A_5 c i a1 h1 a2 h2 a3 h3 a4 h4 a5 h5 a6 h6 a7 h7 hc x0 x1 x2 x3 = k0_pay6 x0 x2 x1 x3 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  rw [View.canon_unit_zero hz]
  simp only [View.readAt_eq_ld, h1.read_unread, h2.read_unread, h3.read_unread, h4.read_unread, View.ld_unit_zero (S := S512x1024) hz, View.ld_unit_zero (S := S1x1024) hz]

/-- And at a later one. -/
theorem copy_next (hc : ¬cond0_0 i) : out0_B_5 c i a1 h1 a2 h2 a3 h3 a4 h4 a5 h5 a6 h6 a7 h7 hc x0 x1 x2 x3 xs = k0_pay6 x0 x2 x1 x3 := by
  unfold out0_B_5
  rw [View.read_writes_eq_canon _ _ _ (cover0_B_5 c i a1 h1 a2 h2 a3 h3 a4 h4 a5 h5 a6 h6 a7 h7 hc x0 x1 x2 x3 xs)]
  unfold kernelRun0_B
  dsimp only
  rw [View.canon_unit_zero hz]
  simp only [View.readAt_eq_ld, h1.read_unread, h2.read_unread, h3.read_unread, h4.read_unread, View.ld_unit_zero (S := S512x1024) hz, View.ld_unit_zero (S := S1x1024) hz]

/-- The weight's gradient, started from zero at the first point. -/
theorem weight_first (hc : cond0_0 i) : out0_A_6 c i a1 h1 a2 h2 a3 h3 a4 h4 a5 h5 a6 h6 a7 h7 hc x0 x1 x2 x3 = k0_pay1 (k0_pay3 x0) (k0_pay4 x2) k0_pay7 := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  refine (View.canon_cons_unit_zero (S := S1x1024) hz inb_S1x1024_S1x1024_0_0 _ _).trans ?_
  sl_unfold_words
  rw [View.readCov_unit_zero (S := S1x1024) _ hz]
  simp only [View.readAt_eq_ld, h1.read_unread, h2.read_unread, h3.read_unread, h4.read_unread, View.ld_unit_zero (S := S512x1024) hz, View.ld_unit_zero (S := S1x1024) hz]

/-- And a later tile's sum, added. -/
theorem weight_next (hc : ¬cond0_0 i) : out0_B_6 c i a1 h1 a2 h2 a3 h3 a4 h4 a5 h5 a6 h6 a7 h7 hc x0 x1 x2 x3 xs = k0_pay1 (k0_pay3 x0) (k0_pay4 x2) xs := by
  unfold out0_B_6
  rw [View.read_writes_eq_canon _ _ _ (cover0_B_6 c i a1 h1 a2 h2 a3 h3 a4 h4 a5 h5 a6 h6 a7 h7 hc x0 x1 x2 x3 xs)]
  unfold kernelRun0_B
  dsimp only
  rw [View.canon_unit_zero hz]
  sl_unfold_words
  simp only [View.readAt_eq_ld, h1.read_unread, h2.read_unread, h3.read_unread, h4.read_unread, h7.read_unread, View.ld_unit_zero (S := S512x1024) hz, View.ld_unit_zero (S := S1x1024) hz]

end Body

/-- A tile's inverse square roots. -/
theorem rr_at (x0 : Vec Ideal S512x1024 .f32) (a : Fin 512) : k0_pay2 (F := Ideal) x0 (ix2 a 0) = rr (fun j : Fin 1024 => (x0 (ix2 a j) : EReal)) := by
  unfold rr mean eps
  rw [len_1024]
  pointwise [k0_pay2]

theorem normed_at (x0 : Vec Ideal S512x1024 .f32) (a : Fin 512) (b : Fin 1024) :
    k0_pay3 (F := Ideal) x0 (ix2 a b) = x0 (ix2 a b) * rr (fun j : Fin 1024 => (x0 (ix2 a j) : EReal)) := by
  rw [← rr_at]
  pointwise [k0_pay3]

/-- A tile of the rows' gradient. -/
theorem rows_at (x0 : Vec Ideal S512x1024 .f32) (x2 : Vec Ideal S512x1024 .bf16) (x1 : Vec Ideal S1x1024 .f32) (x3 : Vec Ideal S512x1024 .f32) (a : Fin 512) (b : Fin 1024) :
    k0_pay5 (F := Ideal) x0 x2 x1 x3 (ix2 a b)
      = grad (fun j : Fin 1024 => (x0 (ix2 a j) : EReal)) (fun j : Fin 1024 => x2 (ix2 a j) * x1 (ix2 0 j)) b + x3 (ix2 a b) := by
  unfold grad
  rw [len_1024]
  pointwise [k0_pay5, k0_pay4]
  simp only [normed_at, rr_at]

/-- A tile's part of the weight's gradient. -/
theorem weight_at (x0 : Vec Ideal S512x1024 .f32) (x2 : Vec Ideal S512x1024 .bf16) (xs : Vec Ideal S1x1024 .f32) (b : Fin 1024) :
    k0_pay1 (F := Ideal) (k0_pay3 x0) (k0_pay4 x2) xs (ix2 0 b)
      = xs (ix2 0 b) + ∑ a : Fin 512, x2 (ix2 a b) * (x0 (ix2 a b) * rr (fun j : Fin 1024 => (x0 (ix2 a j) : EReal))) := by
  pointwise [k0_pay1, k0_pay4]
  simp only [normed_at]

section Host

variable {F : FTy → Type} [FloatOps F] [Named F] (m : (ℓ : Loc nD τ sig) → Buf (Elt F) ℓ) (c : Dev nD)

theorem host0 : V m c main_v0 = truncf (F := F) .bf16 (m ((c : Thread nD τ).loc main_arg2)) bitsLt_bf16_f32 := by
  after_reads_simp

end Host

variable (m : (ℓ : Loc nD τ sig) → Buf (Elt Ideal) ℓ) (ρ : Dev nD → PrngReg) (c : Dev nD)

abbrev X : Mat 8192 1024 := m ((c : Thread nD τ).loc main_arg0)
abbrev G : Mat 1 1024 := m ((c : Thread nD τ).loc main_arg1)
abbrev D : Mat 8192 1024 := m ((c : Thread nD τ).loc main_arg2)
abbrev R : Mat 8192 1024 := m ((c : Thread nD τ).loc main_arg3)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![0, 0] := by decide +kernel
theorem lt16 (t : Fin cfg0.N) : t.val < 16 := t.isLt
theorem row_lt (t : Fin cfg0.N) (a : Fin 512) : t.val * 512 + a.val < 8192 := by have := lt16 t; omega

theorem blk0' (A : (⟨S8192x1024, .f32⟩ : BufTy).Contents (Elt Ideal)) (t : Fin cfg0.N) (a : Fin 512) (b : Fin 1024) :
    ((cfg0.win 0).blk t).view.read (Elt Ideal) A (ix2 a b) = A (ix2 ⟨t.val * 512 + a.val, row_lt t a⟩ b) := by
  blk_ext [idx0]

theorem blk1' (A : (⟨S1x1024, .f32⟩ : BufTy).Contents (Elt Ideal)) (t : Fin cfg0.N) (b : Fin 1024) :
    ((cfg0.win 1).blk t).view.read (Elt Ideal) A (ix2 0 b) = A (ix2 0 b) := by
  blk_ext [idx1]

theorem blk2' (A : (⟨S8192x1024, .bf16⟩ : BufTy).Contents (Elt Ideal)) (t : Fin cfg0.N) (a : Fin 512) (b : Fin 1024) :
    ((cfg0.win 2).blk t).view.read (Elt Ideal) A (ix2 a b) = A (ix2 ⟨t.val * 512 + a.val, row_lt t a⟩ b) := by
  blk_ext [idx2]

theorem blk3' (A : (⟨S8192x1024, .f32⟩ : BufTy).Contents (Elt Ideal)) (t : Fin cfg0.N) (a : Fin 512) (b : Fin 1024) :
    ((cfg0.win 3).blk t).view.read (Elt Ideal) A (ix2 a b) = A (ix2 ⟨t.val * 512 + a.val, row_lt t a⟩ b) := by
  blk_ext [idx3]

theorem blk0 (t : Fin cfg0.N) (a : Fin 512) (b : Fin 1024) : (iblk m c 0 t (ix2 a b) : EReal) = X m c (ix2 ⟨t.val * 512 + a.val, row_lt t a⟩ b) := by
  unfold iblk
  refine (blk0' (V m c main_arg0) t a b).trans ?_
  rw [V_main_arg0]

theorem blk1 (t : Fin cfg0.N) (b : Fin 1024) : (iblk m c 1 t (ix2 0 b) : EReal) = G m c (ix2 0 b) := by
  unfold iblk
  refine (blk1' (V m c main_arg1) t b).trans ?_
  rw [V_main_arg1]

theorem blk2 (t : Fin cfg0.N) (a : Fin 512) (b : Fin 1024) : (iblk m c 2 t (ix2 a b) : EReal) = D m c (ix2 ⟨t.val * 512 + a.val, row_lt t a⟩ b) := by
  unfold iblk
  refine (blk2' (V m c main_v0) t a b).trans ?_
  rw [host0]
  pointwise

theorem blk3 (t : Fin cfg0.N) (a : Fin 512) (b : Fin 1024) : (iblk m c 3 t (ix2 a b) : EReal) = R m c (ix2 ⟨t.val * 512 + a.val, row_lt t a⟩ b) := by
  unfold iblk
  refine (blk3' (V m c main_arg3) t a b).trans ?_
  rw [V_main_arg3]

/-- The rows' gradient, the residual's added. -/
def dx (x : Mat 8192 1024) (g : Mat 1 1024) (d r : Mat 8192 1024) : Mat 8192 1024 := fun y =>
  grad (fun j : Fin 1024 => x (ix2 (y 0) j)) (fun j : Fin 1024 => d (ix2 (y 0) j) * g (ix2 0 j)) (y 1) + r y

theorem dx_of (x : Mat 8192 1024) (g : Mat 1 1024) (d r : Mat 8192 1024) (y : (⟨2, ![8192, 1024]⟩ : Shape).Idx) (i : Fin 8192) (j : Fin 1024)
    (h0 : (y 0).val = i.val) (h1 : (y 1).val = j.val) :
    dx x g d r y = grad (fun k : Fin 1024 => x (ix2 i k)) (fun k : Fin 1024 => d (ix2 i k) * g (ix2 0 k)) j + r (ix2 i j) := by
  obtain rfl : y = ix2 i j := by funext a; fin_cases a <;> [exact Fin.ext h0; exact Fin.ext h1]
  rfl

/-- A tile of the rows' gradient, of a point's blocks. -/
theorem tile (t : Fin cfg0.N) (a : Fin 512) (b : Fin 1024) (y : (⟨2, ![8192, 1024]⟩ : Shape).Idx) (h0 : (y 0).val = t.val * 512 + a.val) (h1 : (y 1).val = b.val) :
    (k0_pay5 (F := Ideal) (iblk m c 0 t) (iblk m c 2 t) (iblk m c 1 t) (iblk m c 3 t) (ix2 a b) : EReal) = dx (X m c) (G m c) (D m c) (R m c) y := by
  rw [dx_of _ _ _ _ y ⟨t.val * 512 + a.val, row_lt t a⟩ b h0 h1]
  refine (rows_at _ _ _ _ a b).trans ?_
  simp only [blk0, blk1, blk2, blk3]

theorem rows_out (t : Fin cfg0.N) : (outsAt0 m c t.val t.isLt).1 = k0_pay5 (iblk m c 0 t) (iblk m c 2 t) (iblk m c 1 t) (iblk m c 3 t) := by
  by_cases h : t.val % 16 = 0
  · rw [outsAt0_A m c t h]
    dsimp only
    rw [rows_first]
  · rw [outsAt0_B m c t h]
    dsimp only
    rw [rows_next]

theorem copy_out (t : Fin cfg0.N) : (outsAt0 m c t.val t.isLt).2.1 = k0_pay6 (iblk m c 0 t) (iblk m c 2 t) (iblk m c 1 t) (iblk m c 3 t) := by
  by_cases h : t.val % 16 = 0
  · rw [outsAt0_A m c t h]
    dsimp only
    rw [copy_first]
  · rw [outsAt0_B m c t h]
    dsimp only
    rw [copy_next]

/-- The kernel's rows. -/
theorem rows : (dats m 0 c).arrAt 4 cfg0.N = dx (X m c) (G m c) (D m c) (R m c) := by
  refine (dats m 0 c).arrAt_eq_of_covers 4 _ (by decide +kernel) fun t hf y => ?_
  blk_simp
  rw [after0_4]
  obtain ⟨a, b, rfl⟩ : ∃ (a : Fin 512) (b : Fin 1024), y = ix2 a b := ⟨y 0, y 1, by funext i; fin_cases i <;> rfl⟩
  rw [rows_out]
  refine tile m c t a b _ ?_ ?_ <;>
    blk_simp [idx4]

/-- And their copy. -/
theorem copy : (dats m 0 c).arrAt 5 cfg0.N = dx (X m c) (G m c) (D m c) (R m c) := by
  refine (dats m 0 c).arrAt_eq_of_covers 5 _ (by decide +kernel) fun t hf y => ?_
  blk_simp
  rw [after0_5]
  obtain ⟨a, b, rfl⟩ : ∃ (a : Fin 512) (b : Fin 1024), y = ix2 a b := ⟨y 0, y 1, by funext i; fin_cases i <;> rfl⟩
  rw [copy_out]
  refine tile m c t a b _ ?_ ?_ <;>
    blk_simp [idx5]

theorem part_tile (t : Fin cfg0.N) (xs : Vec Ideal S1x1024 .f32) (b : Fin 1024) :
    (k0_pay1 (F := Ideal) (k0_pay3 (iblk m c 0 t)) (k0_pay4 (iblk m c 2 t)) xs (ix2 0 b) : EReal)
      = xs (ix2 0 b) + ∑ a : Fin 512, part (X m c) (D m c) b.val (512 * t.val + a.val) := by
  refine (weight_at _ _ xs b).trans (congrArg (fun z : EReal => xs (ix2 0 b) + z) (Finset.sum_congr rfl fun a _ => ?_))
  simp only [blk0, blk2]
  rw [mul_comm 512]
  exact part_of (X m c) (D m c) b ⟨t.val * 512 + a.val, row_lt t a⟩

/-- The weight's gradient after a point. -/
theorem kept (b : Fin 1024) : ∀ (n : ℕ) (hn : n < cfg0.N),
    ((outsAt0 m c n hn).2.2 (ix2 0 b) : EReal) = ∑ x ∈ Finset.range (512 * n + 512), part (X m c) (D m c) b.val x
  | 0, hn => by
    rw [outsAt0_A m c ⟨0, hn⟩ rfl]
    dsimp only
    rw [weight_first, part_tile, ← sum_step, Nat.mul_zero, Finset.range_zero, Finset.sum_empty]
    congr 1
    pointwise [k0_pay7]
  | n + 1, hn => by
    have hl : n + 1 < 16 := hn
    rw [outsAt0_B m c ⟨n + 1, hn⟩ (by dsimp only; omega)]
    dsimp only
    rw [weight_next, part_tile, ← sum_step]
    congr 1
    exact kept b n (Nat.lt_of_succ_lt hn)

theorem flush : ∀ t : Fin cfg0.N, (cfg0.win 6).flush t = true → t.val = 15 := by decide +kernel

/-- The kernel's gradient of the weight. -/
theorem weight : (dats m 0 c).arrAt 6 cfg0.N = dg (X m c) (D m c) := by
  refine (dats m 0 c).arrAt_eq_of_covers 6 _ (by decide +kernel) fun t hf y => ?_
  have h15 := flush t hf
  blk_simp
  rw [after0_6]
  obtain ⟨b, rfl⟩ : ∃ b : Fin 1024, y = ix2 0 b := ⟨y 1, by funext i; fin_cases i <;> [exact Subsingleton.elim (α := Fin 1) _ _; rfl]⟩
  refine (kept m c b t.val t.isLt).trans ?_
  rw [h15]
  refine dg_sum (X m c) (D m c) _ b ?_
  blk_simp [idx6]

section Reference

open Cert.NormReferenceIdeal.Read

variable (x : Mat 8192 1024) (g : Mat 1 1024) (d r : Mat 8192 1024)

theorem mean_ref (i : Fin 8192) : val_main_v6 (F := Ideal) x (ix2 i 0) = mean (fun j : Fin 1024 => x (ix2 i j)) := by
  rw [val_main_v6_apply, val_main_v4_apply, val_main_v2_apply, val_main_v1_apply, val_main_v3_apply, val_main_v5_apply]
  show Ideal.div (Ideal.ofBits .f32 0x00000000#32 + ∑ k : Fin 1024, (x (idx_main_v1 (idx_main_v2 (ix2 i 0)) k) * x (idx_main_v1 (idx_main_v2 (ix2 i 0)) k) : EReal)) (Ideal.ofBits .f32 0x44800000#32) + eps = _
  rw [zero_eq, zero_add, mean, len_1024]
  have e : ∀ k : Fin 1024, idx_main_v1 (idx_main_v2 (ix2 i 0)) k = ix2 i k := fun k => by funext a; fin_cases a <;> rfl
  simp only [e]

theorem rr_ref (i : Fin 8192) : val_main_v7 (F := Ideal) x (ix2 i 0) = rr (fun j : Fin 1024 => x (ix2 i j)) := by
  rw [val_main_v7_apply, mean_ref]
  rfl

theorem normed_ref (i : Fin 8192) (j : Fin 1024) : val_main_v12 (F := Ideal) x (ix2 i j) = x (ix2 i j) * rr (fun j : Fin 1024 => x (ix2 i j)) := by
  rw [val_main_v12_apply, val_main_v11_apply, show idx_main_v11 (ix2 i j) = ix2 i 0 by funext a; fin_cases a <;> rfl, rr_ref]
  rfl

theorem scaled_ref (i : Fin 8192) (j : Fin 1024) : val_main_v19 (F := Ideal) g d (ix2 i j) = d (ix2 i j) * g (ix2 0 j) := by
  rw [val_main_v19_apply, val_main_v18_apply, show idx_main_v18 (ix2 i j) = ix2 0 j by funext a; fin_cases a <;> rfl]
  rfl

theorem shared_ref (i : Fin 8192) : val_main_v27 (F := Ideal) x g d (ix2 i 0) = shared (fun j : Fin 1024 => x (ix2 i j)) (fun j : Fin 1024 => d (ix2 i j) * g (ix2 0 j)) := by
  rw [val_main_v27_apply, val_main_v25_apply, val_main_v22_apply, val_main_v21_apply, val_main_v10_apply, val_main_v8_apply, rr_ref, mean_ref, val_main_v9_apply, val_main_v26_apply]
  have e : ∀ k : Fin 1024, idx_main_v21 (idx_main_v22 (ix2 i 0)) k = ix2 i k := fun k => by funext a; fin_cases a <;> [exact Fin.ext (by simp [idx_main_v21, idx_main_v22, ix2]); rfl]
  simp only [e, val_main_v20_apply, scaled_ref]
  show Ideal.div ((Ideal.ofBits .f32 0x00000000#32 + ∑ k : Fin 1024, (x (ix2 i k) * (d (ix2 i k) * g (ix2 0 k)) : EReal)) * (half * Ideal.div _ _)) (Ideal.ofBits .f32 0x44800000#32) = _
  rw [zero_eq, zero_add, ← len_1024]
  rfl

theorem row_ref (i : Fin 8192) (j : Fin 1024) : val_main_v29 (F := Ideal) x g d (ix2 i j) = shared (fun j : Fin 1024 => x (ix2 i j)) (fun j : Fin 1024 => d (ix2 i j) * g (ix2 0 j)) := by
  rw [val_main_v29_apply, val_main_v28_apply]
  show Ideal.ofBits .f32 0x00000000#32 + ∑ k : Fin 1, (val_main_v27 (F := Ideal) x g d (idx_main_v28 (idx_main_v29 (ix2 i j)) k) : EReal) = _
  rw [zero_eq, zero_add, Fin.sum_univ_one, show idx_main_v28 (idx_main_v29 (ix2 i j)) 0 = ix2 i 0 by funext a; fin_cases a <;> rfl, shared_ref]

theorem grad_ref (i : Fin 8192) (j : Fin 1024) : val_main_v33 (F := Ideal) x g d (ix2 i j) = grad (fun j : Fin 1024 => x (ix2 i j)) (fun j : Fin 1024 => d (ix2 i j) * g (ix2 0 j)) j := by
  rw [val_main_v33_apply, val_main_v31_apply, val_main_v24_apply, val_main_v30_apply, val_main_v32_apply, row_ref, scaled_ref, val_main_v23_apply,
    show idx_main_v23 (ix2 i j) = ix2 i 0 by funext a; fin_cases a <;> rfl, rr_ref]
  exact chain (fun j : Fin 1024 => x (ix2 i j)) (fun j : Fin 1024 => d (ix2 i j) * g (ix2 0 j)) j

/-- The reference's rows. -/
theorem rows_ref : val_main_v34 (F := Ideal) x g d r = dx x g d r := by
  funext y
  obtain ⟨i, j, rfl⟩ : ∃ (i : Fin 8192) (j : Fin 1024), y = ix2 i j := ⟨y 0, y 1, by funext a; fin_cases a <;> rfl⟩
  rw [val_main_v34_apply, grad_ref]
  exact add_comm _ _

/-- And their copy. -/
theorem copy_ref : val_main_v36 (F := Ideal) x g d r = dx x g d r := by
  rw [← rows_ref]
  rfl

/-- The reference's gradient of the weight. -/
theorem weight_ref : val_main_v17 (F := Ideal) x d = dg x d := by
  funext y
  obtain ⟨b, rfl⟩ : ∃ b : Fin 1024, y = ix2 0 b := ⟨y 1, by funext i; fin_cases i <;> [exact Subsingleton.elim (α := Fin 1) _ _; rfl]⟩
  rw [val_main_v17_apply, val_main_v16_apply, dg_of x d _ b rfl]
  have e : ∀ k : Fin 8192, idx_main_v16 (idx_main_v17 (ix2 0 b)) k = ix2 k b := fun k => by funext a; fin_cases a <;> [rfl; exact Fin.ext (by simp [idx_main_v16, idx_main_v17, ix2])]
  simp only [e, val_main_v15_apply, normed_ref]
  show Ideal.ofBits .f32 0x00000000#32 + _ = _
  rw [zero_eq, zero_add]
  exact Finset.sum_congr rfl fun k _ => mul_comm _ _

end Reference

theorem algebraic : Cert.algebraic_NormIdeal_NormReferenceIdeal := by
  intro m g m' g' _ hargs
  refine ⟨fun c => dx (X m c) (G m c) (D m c) (R m c), fun c => dx (X m c) (G m c) (D m c) (R m c), fun c => dg (X m c) (D m c), ?_, ?_⟩
  · refine (θ_run Cert.NormIdeal.defs _ _).mono (fun r h c => ?_) (Value.run_blocks m g)
    obtain ⟨h1, h2, h3, h4⟩ := h c
    exact ⟨h1.trans (rows m c), h2.trans (copy m c), h3.trans (weight m c), h4⟩
  · refine (θ_run Cert.NormReferenceIdeal.defs _ _).mono (fun r h c => ?_) (Cert.NormReferenceIdeal.Value.run m' g')
    obtain ⟨h1, h2, h3, h4⟩ := h c
    obtain ⟨a0, a1, a2, a3⟩ := hargs c
    refine ⟨h1.trans ?_, h2.trans ?_, h3.trans ?_, h4⟩
    · rw [Cert.NormReferenceIdeal.Read.val_main_v34_eq, a0, a1, a2, a3]
      exact rows_ref (X m c) (G m c) (D m c) (R m c)
    · rw [Cert.NormReferenceIdeal.Read.val_main_v36_eq, a0, a1, a2, a3]
      exact copy_ref (X m c) (G m c) (D m c) (R m c)
    · rw [Cert.NormReferenceIdeal.Read.val_main_v17_eq, a0, a2]
      exact weight_ref (X m c) (D m c)

end Cert.NormIdeal.Val

end
-- ==== Proof.DgateValue.lean ====
/-
  The gradient of the gated RMS norm: every tile of the kernel is a tile of the chain rule's gradients, and the weight's gradient is the sum over the tiles.
-/
module

public import proofs.«01_k».proof.Proof.Gen.DgateIdeal.Value
public import proofs.«01_k».proof.Proof.Gen.DgateReferenceIdeal.Run
public import proofs.«01_k».proof.Proof.Gen.DgateReferenceIdeal.Read
public import proofs.«01_k».proof.Proof.Prod
public import proofs.«01_k».proof.Proof.NormRow
public import proofs.«01_k».proof.Proof.FwdClaim
public import proofs.«01_k».proof.Defs
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.ShloMosaic.Tactic Idealize.SL.Sem

namespace Cert.DgateIdeal.Val

open Cert.DgateIdeal Cert.DgateIdeal.Gen Cert.Prod Cert.Norm

section Body

variable {F : FTy → Type} [FloatOps F] [Named F]
variable (c : Dev nD) (i : grid0.Coords) (a1 : Memref sig .tc .vmem S512x1024 .f32) (h1 : a1.IsWhole) (a2 : Memref sig .tc .vmem S512x1024 .f32) (h2 : a2.IsWhole)
  (a3 : Memref sig .tc .vmem S1x1024 .f32) (h3 : a3.IsWhole) (a4 : Memref sig .tc .vmem S512x1024 .bf16) (h4 : a4.IsWhole) (a5 : Memref sig .tc .vmem S512x1024 .f32) (h5 : a5.IsWhole)
  (a6 : Memref sig .tc .vmem S512x1024 .bf16) (h6 : a6.IsWhole) (a7 : Memref sig .tc .vmem S1x1024 .f32) (h7 : a7.IsWhole)
  (x0 : Vec F S512x1024 .f32) (x1 : Vec F S512x1024 .f32) (x2 : Vec F S1x1024 .f32) (x3 : Vec F S512x1024 .bf16) (xs : Vec F S1x1024 .f32)

/-- The scan's gradient, at the first point. -/
theorem scan_first (hc : cond0_0 i) : out0_A_4 c i a1 h1 a2 h2 a3 h3 a4 h4 a5 h5 a6 h6 a7 h7 hc x0 x1 x2 x3 = k0_pay10 x0 x1 x3 x2 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  rw [View.canon_unit_zero hz]
  simp only [View.readAt_eq_ld, h1.read_unread, h2.read_unread, h3.read_unread, h4.read_unread, View.ld_unit_zero (S := S512x1024) hz, View.ld_unit_zero (S := S1x1024) hz]

/-- And at a later one. -/
theorem scan_next (hc : ¬cond0_0 i) : out0_B_4 c i a1 h1 a2 h2 a3 h3 a4 h4 a5 h5 a6 h6 a7 h7 hc x0 x1 x2 x3 xs = k0_pay10 x0 x1 x3 x2 := by
  unfold out0_B_4
  rw [View.read_writes_eq_canon _ _ _ (cover0_B_4 c i a1 h1 a2 h2 a3 h3 a4 h4 a5 h5 a6 h6 a7 h7 hc x0 x1 x2 x3 xs)]
  unfold kernelRun0_B
  dsimp only
  rw [View.canon_unit_zero hz]
  simp only [View.readAt_eq_ld, h1.read_unread, h2.read_unread, h3.read_unread, h4.read_unread, View.ld_unit_zero (S := S512x1024) hz, View.ld_unit_zero (S := S1x1024) hz]

/-- The gate's gradient, at the first point. -/
theorem gate_first (hc : cond0_0 i) : out0_A_5 c i a1 h1 a2 h2 a3 h3 a4 h4 a5 h5 a6 h6 a7 h7 hc x0 x1 x2 x3 = k0_pay11 x0 x1 x3 x2 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  rw [View.canon_unit_zero hz]
  sl_unfold_words
  simp only [View.readAt_eq_ld, h1.read_unread, h2.read_unread, h3.read_unread, h4.read_unread, View.ld_unit_zero (S := S512x1024) hz, View.ld_unit_zero (S := S1x1024) hz]

/-- And at a later one. -/
theorem gate_next (hc : ¬cond0_0 i) : out0_B_5 c i a1 h1 a2 h2 a3 h3 a4 h4 a5 h5 a6 h6 a7 h7 hc x0 x1 x2 x3 xs = k0_pay11 x0 x1 x3 x2 := by
  unfold out0_B_5
  rw [View.read_writes_eq_canon _ _ _ (cover0_B_5 c i a1 h1 a2 h2 a3 h3 a4 h4 a5 h5 a6 h6 a7 h7 hc x0 x1 x2 x3 xs)]
  unfold kernelRun0_B
  dsimp only
  rw [View.canon_unit_zero hz]
  sl_unfold_words
  simp only [View.readAt_eq_ld, h1.read_unread, h2.read_unread, h3.read_unread, h4.read_unread, View.ld_unit_zero (S := S512x1024) hz, View.ld_unit_zero (S := S1x1024) hz]

/-- The weight's gradient, started from zero at the first point. -/
theorem weight_first (hc : cond0_0 i) : out0_A_6 c i a1 h1 a2 h2 a3 h3 a4 h4 a5 h5 a6 h6 a7 h7 hc x0 x1 x2 x3 = k0_pay2 (k0_pay7 x0 x1) (k0_pay8 x3) k0_pay1 := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  refine (View.canon_cons_unit_zero (S := S1x1024) hz inb_S1x1024_S1x1024_0_0 _ _).trans ?_
  sl_unfold_words
  rw [View.readCov_unit_zero (S := S1x1024) _ hz]
  simp only [View.readAt_eq_ld, h1.read_unread, h2.read_unread, h3.read_unread, h4.read_unread, View.ld_unit_zero (S := S512x1024) hz, View.ld_unit_zero (S := S1x1024) hz]

/-- And a later tile's sum, added. -/
theorem weight_next (hc : ¬cond0_0 i) : out0_B_6 c i a1 h1 a2 h2 a3 h3 a4 h4 a5 h5 a6 h6 a7 h7 hc x0 x1 x2 x3 xs = k0_pay2 (k0_pay7 x0 x1) (k0_pay8 x3) xs := by
  unfold out0_B_6
  rw [View.read_writes_eq_canon _ _ _ (cover0_B_6 c i a1 h1 a2 h2 a3 h3 a4 h4 a5 h5 a6 h6 a7 h7 hc x0 x1 x2 x3 xs)]
  unfold kernelRun0_B
  dsimp only
  rw [View.canon_unit_zero hz]
  sl_unfold_words
  simp only [View.readAt_eq_ld, h1.read_unread, h2.read_unread, h3.read_unread, h4.read_unread, h7.read_unread, View.ld_unit_zero (S := S512x1024) hz, View.ld_unit_zero (S := S1x1024) hz]

end Body

section Tile

variable (x0 x1 : Vec Ideal S512x1024 .f32) (x2 : Vec Ideal S1x1024 .f32) (x3 : Vec Ideal S512x1024 .bf16) (xs : Vec Ideal S1x1024 .f32) (a : Fin 512) (b : Fin 1024)

/-- A tile of the gated rows. -/
theorem gated_at : k0_pay5 (F := Ideal) x0 x1 (ix2 a b) = x0 (ix2 a b) * (x1 (ix2 a b) * Ideal.logistic (x1 (ix2 a b))) := by
  pointwise [k0_pay5, k0_pay4, k0_pay3]

/-- Its inverse square roots. -/
theorem rr_at : k0_pay6 (F := Ideal) x0 x1 (ix2 a 0) = rr (fun j : Fin 1024 => (k0_pay5 (F := Ideal) x0 x1 (ix2 a j) : EReal)) := by
  unfold rr mean eps
  rw [len_1024]
  pointwise [k0_pay6]

theorem normed_at : k0_pay7 (F := Ideal) x0 x1 (ix2 a b) = k0_pay5 (F := Ideal) x0 x1 (ix2 a b) * rr (fun j : Fin 1024 => (k0_pay5 (F := Ideal) x0 x1 (ix2 a j) : EReal)) := by
  rw [← rr_at]
  pointwise [k0_pay7]

/-- A tile of the gated rows' gradient. -/
theorem grad_at : k0_pay9 (F := Ideal) x0 x1 x3 x2 (ix2 a b)
    = grad (fun j : Fin 1024 => (k0_pay5 (F := Ideal) x0 x1 (ix2 a j) : EReal)) (fun j : Fin 1024 => x3 (ix2 a j) * x2 (ix2 0 j)) b := by
  unfold grad
  rw [len_1024]
  pointwise [k0_pay9, k0_pay8]
  simp only [normed_at, rr_at]

theorem scan_at : k0_pay10 (F := Ideal) x0 x1 x3 x2 (ix2 a b) = k0_pay9 (F := Ideal) x0 x1 x3 x2 (ix2 a b) * (x1 (ix2 a b) * Ideal.logistic (x1 (ix2 a b))) := by
  pointwise [k0_pay10, k0_pay4, k0_pay3]

theorem gate_at : k0_pay11 (F := Ideal) x0 x1 x3 x2 (ix2 a b)
    = k0_pay9 (F := Ideal) x0 x1 x3 x2 (ix2 a b) * x0 (ix2 a b)
      * (Ideal.logistic (x1 (ix2 a b)) + x1 (ix2 a b) * Ideal.logistic (x1 (ix2 a b)) * (1 - Ideal.logistic (x1 (ix2 a b)))) := by
  rw [← one_eq]
  pointwise [k0_pay11, k0_pay4, k0_pay3]

/-- A tile's part of the weight's gradient. -/
theorem weight_at : k0_pay2 (F := Ideal) (k0_pay7 x0 x1) (k0_pay8 x3) xs (ix2 0 b)
    = xs (ix2 0 b) + ∑ a : Fin 512, x3 (ix2 a b) * (k0_pay5 (F := Ideal) x0 x1 (ix2 a b) * rr (fun j : Fin 1024 => (k0_pay5 (F := Ideal) x0 x1 (ix2 a j) : EReal))) := by
  pointwise [k0_pay2, k0_pay8]
  simp only [normed_at]

end Tile

section Host

variable {F : FTy → Type} [FloatOps F] [Named F] (m : (ℓ : Loc nD τ sig) → Buf (Elt F) ℓ) (c : Dev nD)

theorem host0 : V m c main_v0 = truncf (F := F) .bf16 (m ((c : Thread nD τ).loc main_arg3)) bitsLt_bf16_f32 := by
  after_reads_simp

end Host

variable (m : (ℓ : Loc nD τ sig) → Buf (Elt Ideal) ℓ) (ρ : Dev nD → PrngReg) (c : Dev nD)

abbrev Y : Mat 8192 1024 := m ((c : Thread nD τ).loc main_arg0)
abbrev P : Mat 8192 4096 := m ((c : Thread nD τ).loc main_arg1)
abbrev G : Mat 1 1024 := m ((c : Thread nD τ).loc main_arg2)
abbrev E : Mat 8192 2560 := m ((c : Thread nD τ).loc main_arg3)

/-- The gate's columns of the projection. -/
abbrev Z : Mat 8192 1024 := cols 0 (by norm_num) (P m c)

/-- The columns of the gradient that belong to the gated norm. -/
abbrev D : Mat 8192 1024 := cols 0 (by norm_num) (E m c)

/-- The gated rows. -/
def gated (y z : Mat 8192 1024) : Mat 8192 1024 := fun i => y i * (z i * Ideal.logistic (z i))

/-- The gradient of the gated rows. -/
def dv (y z : Mat 8192 1024) (g : Mat 1 1024) (d : Mat 8192 1024) (i : Fin 8192) (j : Fin 1024) : EReal := grad (row (gated y z) i) (scaled d g i) j

/-- The gradient of the scan's rows. -/
def dy (y z : Mat 8192 1024) (g : Mat 1 1024) (d : Mat 8192 1024) : Mat 8192 1024 := fun i => dv y z g d (i 0) (i 1) * (z i * Ideal.logistic (z i))

/-- The gradient of the gate's rows. -/
def dz (y z : Mat 8192 1024) (g : Mat 1 1024) (d : Mat 8192 1024) : Mat 8192 1024 := fun i =>
  dv y z g d (i 0) (i 1) * y i * (Ideal.logistic (z i) + z i * Ideal.logistic (z i) * (1 - Ideal.logistic (z i)))

theorem eq_ix {r c : ℕ} (i : (⟨2, ![r, c]⟩ : Shape).Idx) (a : Fin r) (b : Fin c) (h0 : (i 0).val = a.val) (h1 : (i 1).val = b.val) : i = ix2 a b := by
  funext k
  fin_cases k <;> [exact Fin.ext h0; exact Fin.ext h1]

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![0, 0] := by decide +kernel
theorem lt16 (t : Fin cfg0.N) : t.val < 16 := t.isLt
theorem row_lt (t : Fin cfg0.N) (a : Fin 512) : t.val * 512 + a.val < 8192 := by have := lt16 t; omega

theorem blk0' (A : (⟨S8192x1024, .f32⟩ : BufTy).Contents (Elt Ideal)) (t : Fin cfg0.N) (a : Fin 512) (b : Fin 1024) :
    ((cfg0.win 0).blk t).view.read (Elt Ideal) A (ix2 a b) = A (ix2 ⟨t.val * 512 + a.val, row_lt t a⟩ b) := by
  blk_ext [idx0]

theorem blk1' (A : (⟨S8192x4096, .f32⟩ : BufTy).Contents (Elt Ideal)) (t : Fin cfg0.N) (a : Fin 512) (b : Fin 1024) :
    ((cfg0.win 1).blk t).view.read (Elt Ideal) A (ix2 a b) = A (ix2 ⟨t.val * 512 + a.val, row_lt t a⟩ ⟨0 + b.val, by omega⟩) := by
  blk_ext [idx1]

theorem blk2' (A : (⟨S1x1024, .f32⟩ : BufTy).Contents (Elt Ideal)) (t : Fin cfg0.N) (b : Fin 1024) :
    ((cfg0.win 2).blk t).view.read (Elt Ideal) A (ix2 0 b) = A (ix2 0 b) := by
  blk_ext [idx2]

theorem blk3' (A : (⟨S8192x2560, .bf16⟩ : BufTy).Contents (Elt Ideal)) (t : Fin cfg0.N) (a : Fin 512) (b : Fin 1024) (y : ((cfg0.win 3).xblock (cfg0.grid.coords t)).Idx)
    (h0 : (y 0).val = a.val) (h1 : (y 1).val = b.val) :
    ((cfg0.win 3).blk t).view.read (Elt Ideal) A y = A (ix2 ⟨t.val * 512 + a.val, row_lt t a⟩ ⟨0 + b.val, by omega⟩) := by
  show A (((cfg0.win 3).rect t).emb y) = _
  refine congrArg A (funext fun k => Fin.ext ?_)
  rw [(cfg0.win 3).rect_emb_val t y k rfl]
  show win0_3.index t k * _ + _ = _
  rw [idx3]
  fin_cases k
  · show t.val * 512 + (y 0).val = t.val * 512 + a.val
    rw [h0]
  · show 0 * 1024 + (y 1).val = 0 + b.val
    rw [h1]

theorem blk0 (t : Fin cfg0.N) (a : Fin 512) (b : Fin 1024) : (iblk m c 0 t (ix2 a b) : EReal) = Y m c (ix2 ⟨t.val * 512 + a.val, row_lt t a⟩ b) := by
  unfold iblk
  refine (blk0' (V m c main_arg0) t a b).trans ?_
  rw [V_main_arg0]

theorem blk1 (t : Fin cfg0.N) (a : Fin 512) (b : Fin 1024) : (iblk m c 1 t (ix2 a b) : EReal) = Z m c (ix2 ⟨t.val * 512 + a.val, row_lt t a⟩ b) := by
  unfold iblk
  refine (blk1' (V m c main_arg1) t a b).trans ?_
  rw [V_main_arg1]
  rfl

theorem blk2 (t : Fin cfg0.N) (b : Fin 1024) : (iblk m c 2 t (ix2 0 b) : EReal) = G m c (ix2 0 b) := by
  unfold iblk
  refine (blk2' (V m c main_arg2) t b).trans ?_
  rw [V_main_arg2]

theorem blk3 (t : Fin cfg0.N) (a : Fin 512) (b : Fin 1024) : (X0_3 m c t (ix2 a b) : EReal) = D m c (ix2 ⟨t.val * 512 + a.val, row_lt t a⟩ b) := by
  unfold X0_3 Pipeline.Window.fill
  rw [dif_pos (moved0_3 t _)]
  unfold iblk
  refine (blk3' (V m c main_v0) t a b _ rfl rfl).trans ?_
  rw [host0]
  rfl

theorem gated_blk (t : Fin cfg0.N) (a : Fin 512) (b : Fin 1024) :
    (k0_pay5 (F := Ideal) (iblk m c 0 t) (iblk m c 1 t) (ix2 a b) : EReal) = gated (Y m c) (Z m c) (ix2 ⟨t.val * 512 + a.val, row_lt t a⟩ b) := by
  refine (gated_at _ _ a b).trans ?_
  rw [blk0, blk1]
  rfl

theorem grad_blk (t : Fin cfg0.N) (a : Fin 512) (b : Fin 1024) :
    (k0_pay9 (F := Ideal) (iblk m c 0 t) (iblk m c 1 t) (X0_3 m c t) (iblk m c 2 t) (ix2 a b) : EReal) = dv (Y m c) (Z m c) (G m c) (D m c) ⟨t.val * 512 + a.val, row_lt t a⟩ b := by
  refine (grad_at _ _ _ _ a b).trans ?_
  simp only [gated_blk, blk2, blk3]
  rfl

theorem scan_tile (t : Fin cfg0.N) (a : Fin 512) (b : Fin 1024) (y : (⟨2, ![8192, 1024]⟩ : Shape).Idx) (h0 : (y 0).val = t.val * 512 + a.val) (h1 : (y 1).val = b.val) :
    (k0_pay10 (F := Ideal) (iblk m c 0 t) (iblk m c 1 t) (X0_3 m c t) (iblk m c 2 t) (ix2 a b) : EReal) = dy (Y m c) (Z m c) (G m c) (D m c) y := by
  rw [eq_ix y ⟨t.val * 512 + a.val, row_lt t a⟩ b h0 h1]
  refine (scan_at _ _ _ _ a b).trans ?_
  rw [grad_blk, blk1]
  rfl

theorem gate_tile (t : Fin cfg0.N) (a : Fin 512) (b : Fin 1024) (y : (⟨2, ![8192, 1024]⟩ : Shape).Idx) (h0 : (y 0).val = t.val * 512 + a.val) (h1 : (y 1).val = b.val) :
    (k0_pay11 (F := Ideal) (iblk m c 0 t) (iblk m c 1 t) (X0_3 m c t) (iblk m c 2 t) (ix2 a b) : EReal) = dz (Y m c) (Z m c) (G m c) (D m c) y := by
  rw [eq_ix y ⟨t.val * 512 + a.val, row_lt t a⟩ b h0 h1]
  refine (gate_at _ _ _ _ a b).trans ?_
  rw [grad_blk, blk0, blk1]
  rfl

theorem scan_out (t : Fin cfg0.N) : (outsAt0 m c t.val t.isLt).1 = k0_pay10 (iblk m c 0 t) (iblk m c 1 t) (X0_3 m c t) (iblk m c 2 t) := by
  by_cases h : t.val % 16 = 0
  · rw [outsAt0_A m c t h]
    dsimp only
    rw [scan_first]
  · rw [outsAt0_B m c t h]
    dsimp only
    rw [scan_next]

theorem gate_out (t : Fin cfg0.N) : (outsAt0 m c t.val t.isLt).2.1 = k0_pay11 (iblk m c 0 t) (iblk m c 1 t) (X0_3 m c t) (iblk m c 2 t) := by
  by_cases h : t.val % 16 = 0
  · rw [outsAt0_A m c t h]
    dsimp only
    rw [gate_first]
  · rw [outsAt0_B m c t h]
    dsimp only
    rw [gate_next]

/-- The kernel's gradient of the scan's rows. -/
theorem scan_rows : (dats m 0 c).arrAt 4 cfg0.N = dy (Y m c) (Z m c) (G m c) (D m c) := by
  refine (dats m 0 c).arrAt_eq_of_covers 4 _ (by decide +kernel) fun t hf y => ?_
  blk_simp
  rw [after0_4]
  obtain ⟨a, b, rfl⟩ : ∃ (a : Fin 512) (b : Fin 1024), y = ix2 a b := ⟨y 0, y 1, by funext i; fin_cases i <;> rfl⟩
  rw [scan_out]
  refine scan_tile m c t a b _ ?_ ?_ <;>
    blk_simp [idx4]

/-- And of the gate's. -/
theorem gate_rows : (dats m 0 c).arrAt 5 cfg0.N = dz (Y m c) (Z m c) (G m c) (D m c) := by
  refine (dats m 0 c).arrAt_eq_of_covers 5 _ (by decide +kernel) fun t hf y => ?_
  blk_simp
  rw [after0_5]
  obtain ⟨a, b, rfl⟩ : ∃ (a : Fin 512) (b : Fin 1024), y = ix2 a b := ⟨y 0, y 1, by funext i; fin_cases i <;> rfl⟩
  rw [gate_out]
  refine gate_tile m c t a b _ ?_ ?_ <;>
    blk_simp [idx5]

theorem part_tile (t : Fin cfg0.N) (xs : Vec Ideal S1x1024 .f32) (b : Fin 1024) :
    (k0_pay2 (F := Ideal) (k0_pay7 (iblk m c 0 t) (iblk m c 1 t)) (k0_pay8 (X0_3 m c t)) xs (ix2 0 b) : EReal)
      = xs (ix2 0 b) + ∑ a : Fin 512, part (gated (Y m c) (Z m c)) (D m c) b.val (512 * t.val + a.val) := by
  refine (weight_at _ _ _ xs b).trans (congrArg (fun z : EReal => xs (ix2 0 b) + z) (Finset.sum_congr rfl fun a _ => ?_))
  simp only [gated_blk, blk3]
  rw [mul_comm 512]
  exact part_of (gated (Y m c) (Z m c)) (D m c) b ⟨t.val * 512 + a.val, row_lt t a⟩

/-- The weight's gradient after a point. -/
theorem kept (b : Fin 1024) : ∀ (n : ℕ) (hn : n < cfg0.N),
    ((outsAt0 m c n hn).2.2 (ix2 0 b) : EReal) = ∑ x ∈ Finset.range (512 * n + 512), part (gated (Y m c) (Z m c)) (D m c) b.val x
  | 0, hn => by
    rw [outsAt0_A m c ⟨0, hn⟩ rfl]
    dsimp only
    rw [weight_first, part_tile, ← sum_step, Nat.mul_zero, Finset.range_zero, Finset.sum_empty]
    congr 1
    pointwise [k0_pay1]
  | n + 1, hn => by
    have hl : n + 1 < 16 := hn
    rw [outsAt0_B m c ⟨n + 1, hn⟩ (by dsimp only; omega)]
    dsimp only
    rw [weight_next, part_tile, ← sum_step]
    congr 1
    exact kept b n (Nat.lt_of_succ_lt hn)

theorem flush : ∀ t : Fin cfg0.N, (cfg0.win 6).flush t = true → t.val = 15 := by decide +kernel

/-- The kernel's gradient of the weight. -/
theorem weight : (dats m 0 c).arrAt 6 cfg0.N = dg (gated (Y m c) (Z m c)) (D m c) := by
  refine (dats m 0 c).arrAt_eq_of_covers 6 _ (by decide +kernel) fun t hf y => ?_
  have h15 := flush t hf
  blk_simp
  rw [after0_6]
  obtain ⟨b, rfl⟩ : ∃ b : Fin 1024, y = ix2 0 b := ⟨y 1, by funext i; fin_cases i <;> [exact Subsingleton.elim (α := Fin 1) _ _; rfl]⟩
  refine (kept m c b t.val t.isLt).trans ?_
  rw [h15]
  refine dg_sum (gated (Y m c) (Z m c)) (D m c) _ b ?_
  blk_simp [idx6]

section Reference

open Cert.DgateReferenceIdeal.Read

variable (y : Mat 8192 1024) (p : Mat 8192 4096) (g : Mat 1 1024) (e : Mat 8192 2560)

/-- The gate's columns of `p`. -/
abbrev zc : Mat 8192 1024 := cols 0 (by norm_num) p

/-- The used columns of `e`. -/
abbrev dc : Mat 8192 1024 := cols 0 (by norm_num) e

theorem z_ref (i : Fin 8192) (j : Fin 1024) : val_main_v0 (F := Ideal) p (ix2 i j) = zc p (ix2 i j) := by
  rw [val_main_v0_apply]
  refine congrArg p ?_
  funext a
  fin_cases a <;> [rfl; exact Fin.ext (Nat.zero_add _).symm]

theorem d_ref (i : Fin 8192) (j : Fin 1024) : val_main_v18 (F := Ideal) e (ix2 i j) = dc e (ix2 i j) := by
  rw [val_main_v18_apply]
  refine congrArg e ?_
  funext a
  fin_cases a <;> [rfl; exact Fin.ext (Nat.zero_add _).symm]

theorem sig_ref (i : Fin 8192) (j : Fin 1024) : val_main_v1_2 (F := Ideal) p (ix2 i j) = Ideal.logistic (zc p (ix2 i j)) := by
  rw [val_main_v1_2_apply, val_main_call0_v4_apply, val_main_call0_v3_apply, val_main_call0_v2_apply, val_main_call0_v1_apply, val_main_call0_v0_apply, z_ref]
  show Ideal.div (Ideal.ofBits .f32 0x3F800000#32) (Ideal.ofBits .f32 0x3F800000#32 + Ideal.exp (-(zc p (ix2 i j)))) = _
  rw [one_eq]
  rfl

theorem silu_ref (i : Fin 8192) (j : Fin 1024) : val_main_v1_0 (F := Ideal) p (ix2 i j) = zc p (ix2 i j) * Ideal.logistic (zc p (ix2 i j)) := by
  rw [val_main_v1_0_apply, sig_ref, z_ref]
  rfl

theorem dsig_ref (i : Fin 8192) (j : Fin 1024) : val_main_v1_1 (F := Ideal) p (ix2 i j) = Ideal.logistic (zc p (ix2 i j)) * (1 - Ideal.logistic (zc p (ix2 i j))) := by
  rw [val_main_v1_1_apply, val_main_call0_v7_apply, val_main_call0_v6_apply, sig_ref, ← one_eq]
  rfl

theorem gated_ref (i : Fin 8192) (j : Fin 1024) : val_main_v2 (F := Ideal) y p (ix2 i j) = gated y (zc p) (ix2 i j) := by
  rw [val_main_v2_apply, silu_ref]
  rfl

theorem mean_ref (i : Fin 8192) : val_main_v9 (F := Ideal) y p (ix2 i 0) = mean (row (gated y (zc p)) i) := by
  rw [val_main_v9_apply, val_main_v7_apply, val_main_v5_apply, val_main_v4_apply, val_main_v6_apply, val_main_v8_apply]
  have e : ∀ k : Fin 1024, idx_main_v4 (idx_main_v5 (ix2 i 0)) k = ix2 i k := fun k => by funext a; fin_cases a <;> rfl
  simp only [e, val_main_v3_apply, gated_ref]
  show Ideal.div (Ideal.ofBits .f32 0x00000000#32 + ∑ k : Fin 1024, (gated y (zc p) (ix2 i k) * gated y (zc p) (ix2 i k) : EReal)) (Ideal.ofBits .f32 0x44800000#32) + eps = _
  rw [zero_eq, zero_add, mean, len_1024]

theorem rr_ref (i : Fin 8192) : val_main_v10 (F := Ideal) y p (ix2 i 0) = rr (row (gated y (zc p)) i) := by
  rw [val_main_v10_apply, mean_ref]
  rfl

theorem normed_ref (i : Fin 8192) (j : Fin 1024) : val_main_v15 (F := Ideal) y p (ix2 i j) = gated y (zc p) (ix2 i j) * rr (row (gated y (zc p)) i) := by
  rw [val_main_v15_apply, val_main_v14_apply, show idx_main_v14 (ix2 i j) = ix2 i 0 by funext a; fin_cases a <;> rfl, rr_ref, gated_ref]
  rfl

theorem scaled_ref (i : Fin 8192) (j : Fin 1024) : val_main_v23 (F := Ideal) g e (ix2 i j) = scaled (dc e) g i j := by
  rw [val_main_v23_apply, val_main_v22_apply, show idx_main_v22 (ix2 i j) = ix2 0 j by funext a; fin_cases a <;> rfl, d_ref]
  rfl

theorem shared_ref (i : Fin 8192) : val_main_v31 (F := Ideal) y p g e (ix2 i 0) = shared (row (gated y (zc p)) i) (scaled (dc e) g i) := by
  rw [val_main_v31_apply, val_main_v29_apply, val_main_v26_apply, val_main_v25_apply, val_main_v13_apply, val_main_v11_apply, rr_ref, mean_ref, val_main_v12_apply, val_main_v30_apply]
  have h : ∀ k : Fin 1024, idx_main_v25 (idx_main_v26 (ix2 i 0)) k = ix2 i k := fun k => by funext a; fin_cases a <;> [exact Fin.ext (by simp [idx_main_v25, idx_main_v26, ix2]); rfl]
  simp only [h, val_main_v24_apply, scaled_ref, gated_ref]
  show Ideal.div ((Ideal.ofBits .f32 0x00000000#32 + ∑ k : Fin 1024, (gated y (zc p) (ix2 i k) * scaled (dc e) g i k : EReal)) * (half * Ideal.div _ _)) (Ideal.ofBits .f32 0x44800000#32) = _
  rw [zero_eq, zero_add, ← len_1024]
  rfl

theorem row_ref (i : Fin 8192) (j : Fin 1024) : val_main_v33 (F := Ideal) y p g e (ix2 i j) = shared (row (gated y (zc p)) i) (scaled (dc e) g i) := by
  rw [val_main_v33_apply, val_main_v32_apply]
  show Ideal.ofBits .f32 0x00000000#32 + ∑ k : Fin 1, (val_main_v31 (F := Ideal) y p g e (idx_main_v32 (idx_main_v33 (ix2 i j)) k) : EReal) = _
  rw [zero_eq, zero_add, Fin.sum_univ_one, show idx_main_v32 (idx_main_v33 (ix2 i j)) 0 = ix2 i 0 by funext a; fin_cases a <;> rfl, shared_ref]

theorem grad_ref (i : Fin 8192) (j : Fin 1024) : val_main_v37 (F := Ideal) y p g e (ix2 i j) = dv y (zc p) g (dc e) i j := by
  rw [val_main_v37_apply, val_main_v35_apply, val_main_v28_apply, val_main_v34_apply, val_main_v36_apply, row_ref, scaled_ref, gated_ref, val_main_v27_apply,
    show idx_main_v27 (ix2 i j) = ix2 i 0 by funext a; fin_cases a <;> rfl, rr_ref]
  exact chain (row (gated y (zc p)) i) (scaled (dc e) g i) j

/-- The reference's gradient of the scan's rows. -/
theorem scan_ref : val_main_v39 (F := Ideal) y p g e = dy y (zc p) g (dc e) := by
  funext k
  obtain ⟨i, j, rfl⟩ : ∃ (i : Fin 8192) (j : Fin 1024), k = ix2 i j := ⟨k 0, k 1, by funext a; fin_cases a <;> rfl⟩
  rw [val_main_v39_apply, grad_ref, silu_ref]
  rfl

/-- And of the gate's, of a real weight and a real gradient. -/
theorem gate_ref (hg : ∀ j, ∃ s : ℝ, g (ix2 0 j) = (s : EReal)) (hd : ∀ i j, ∃ s : ℝ, dc e (ix2 i j) = (s : EReal)) :
    val_main_v41 (F := Ideal) y p g e = dz y (zc p) g (dc e) := by
  funext k
  obtain ⟨i, j, rfl⟩ : ∃ (i : Fin 8192) (j : Fin 1024), k = ix2 i j := ⟨k 0, k 1, by funext a; fin_cases a <;> rfl⟩
  show val_main_v40 (F := Ideal) y p g e (ix2 i j) = _
  rw [val_main_v40_apply, val_main_call1_v1_apply, val_main_call1_v2_apply, val_main_call1_v0_apply, val_main_v38_apply, grad_ref, sig_ref, dsig_ref, z_ref]
  choose G hG using hg
  choose D hD using hd
  show y (ix2 i j) * dv y (zc p) g (dc e) i j * Ideal.logistic (zc p (ix2 i j)) + zc p (ix2 i j) * (y (ix2 i j) * dv y (zc p) g (dc e) i j) * (Ideal.logistic (zc p (ix2 i j)) * (1 - Ideal.logistic (zc p (ix2 i j))))
    = dv y (zc p) g (dc e) i j * y (ix2 i j) * (Ideal.logistic (zc p (ix2 i j)) + zc p (ix2 i j) * Ideal.logistic (zc p (ix2 i j)) * (1 - Ideal.logistic (zc p (ix2 i j))))
  rw [mul_comm (dv y (zc p) g (dc e) i j)]
  exact gate_row (row (gated y (zc p)) i) (scaled (dc e) g i) (fun j => D i j * G j) (fun j => by show dc e (ix2 i j) * g (ix2 0 j) = _; rw [hG, hD, EReal.coe_mul]) j
    (y (ix2 i j)) (zc p (ix2 i j)) rfl

/-- The reference's gradient of the weight. -/
theorem weight_ref : val_main_v21 (F := Ideal) y p e = dg (gated y (zc p)) (dc e) := by
  funext k
  obtain ⟨b, rfl⟩ : ∃ b : Fin 1024, k = ix2 0 b := ⟨k 1, by funext i; fin_cases i <;> [exact Subsingleton.elim (α := Fin 1) _ _; rfl]⟩
  rw [val_main_v21_apply, val_main_v20_apply, dg_of (gated y (zc p)) (dc e) _ b rfl]
  have h : ∀ k : Fin 8192, idx_main_v20 (idx_main_v21 (ix2 0 b)) k = ix2 k b := fun k => by funext a; fin_cases a <;> [rfl; exact Fin.ext (by simp [idx_main_v20, idx_main_v21, ix2])]
  simp only [h, val_main_v19_apply, normed_ref, d_ref]
  show Ideal.ofBits .f32 0x00000000#32 + _ = _
  rw [zero_eq, zero_add]
  exact Finset.sum_congr rfl fun k _ => mul_comm _ _

end Reference

/-- The side conditions of the precondition. -/
theorem pre_facts : Cert.Pre_finite_gate.Facts where
  bcast_S_S8192x1024 := by decide
  bcast_S_S1x1024 := by decide
  bcast_S1x1024_S8192x1024_0_1 := by decide
  slices_S8192x2560_S8192x1024_0_0 := by decide

variable [hPre : Cert.Pre_finite_gate.Facts]

/-- Under the precondition, the weight and the used columns of the gradient are real. -/
theorem reals (y : Mat 8192 1024) (p : Mat 8192 4096) (g : Mat 1 1024) (e : Mat 8192 2560) (h : Cert.Pre_finite_gate.fn (F := Ideal) y p g e = fun _ => 1#1) (i : Fin 8192) (j : Fin 1024) :
    (∃ s : ℝ, g (ix2 0 j) = (s : EReal)) ∧ ∃ s : ℝ, dc e (ix2 i j) = (s : EReal) := by
  have h := congrFun h (ix2 i j)
  pointwise [Cert.Pre_finite_gate.fn] at h
  have h1 := Cert.ForwardClaim.and_true h
  refine ⟨⟨_, (Cert.ForwardClaim.real_of_abs (of_decide_eq_true h1.1)).symm⟩, _, (Cert.ForwardClaim.real_of_abs (Eq.trans_lt ?_ (of_decide_eq_true h1.2))).symm⟩
  show max (e _) (-(e _)) = max (e _) (-(e _))
  have he : (ix2 i ⟨0 + j.val, by omega⟩ : (⟨2, ![8192, 2560]⟩ : Shape).Idx) = ix2 i ⟨j.val, by omega⟩ := congrArg (ix2 i) (Fin.ext (Nat.zero_add _))
  exact congrArg (fun k => max (e k) (-(e k))) he

theorem algebraic : Cert.algebraic_DgateIdeal_DgateReferenceIdeal_pre_finite_gate := by
  intro m g m' g' hpre hargs
  have hr : ∀ c i j, _ := fun c i j => reals (Y m c) (P m c) (G m c) (E m c) (hpre c) i j
  refine ⟨fun c => dy (Y m c) (Z m c) (G m c) (D m c), fun c => dz (Y m c) (Z m c) (G m c) (D m c), fun c => dg (gated (Y m c) (Z m c)) (D m c), ?_, ?_⟩
  · refine (θ_run Cert.DgateIdeal.defs _ _).mono (fun r h c => ?_) (Value.run_blocks m g)
    obtain ⟨h1, h2, h3, h4⟩ := h c
    exact ⟨h1.trans (scan_rows m c), h2.trans (gate_rows m c), h3.trans (weight m c), h4⟩
  · refine (θ_run Cert.DgateReferenceIdeal.defs _ _).mono (fun r h c => ?_) (Cert.DgateReferenceIdeal.Value.run m' g')
    obtain ⟨h1, h2, h3, h4⟩ := h c
    obtain ⟨a0, a1, a2, a3⟩ := hargs c
    refine ⟨h1.trans ?_, h2.trans ?_, h3.trans ?_, h4⟩
    · rw [Cert.DgateReferenceIdeal.Read.val_main_v39_eq, a0, a1, a2, a3]
      exact scan_ref (Y m c) (P m c) (G m c) (E m c)
    · rw [Cert.DgateReferenceIdeal.Read.val_main_v41_eq, a0, a1, a2, a3]
      exact gate_ref (Y m c) (P m c) (G m c) (E m c) (fun j => (hr c 0 j).1) (fun i j => (hr c i j).2)
    · rw [Cert.DgateReferenceIdeal.Read.val_main_v21_eq, a0, a1, a3]
      exact weight_ref (Y m c) (P m c) (E m c)

end Cert.DgateIdeal.Val

end
-- ==== Proof.DcqValue.lean ====
/-
  The gradient of the RMS norm of the latent queries: the columns of the projection that hold them are a block of it, and every tile of the kernel is a tile of the chain rule's gradient.
-/
module

public import proofs.«01_k».proof.Proof.Gen.DcqIdeal.Value
public import proofs.«01_k».proof.Proof.Gen.DcqReferenceIdeal.Run
public import proofs.«01_k».proof.Proof.Gen.DcqReferenceIdeal.Read
public import proofs.«01_k».proof.Proof.Prod
public import proofs.«01_k».proof.Proof.NormRow
public import proofs.«01_k».proof.Defs
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.ShloMosaic.Tactic Idealize.SL.Sem

namespace Cert.DcqIdeal.Val

open Cert.DcqIdeal Cert.DcqIdeal.Gen Cert.Prod Cert.Norm

section Body

variable {F : FTy → Type} [FloatOps F] [Named F]
variable (c : Dev nD) (i : grid0.Coords) (a1 : Memref sig .tc .vmem S512x384 .f32) (h1 : a1.IsWhole) (a2 : Memref sig .tc .vmem S1x384 .f32) (h2 : a2.IsWhole)
  (a3 : Memref sig .tc .vmem S512x384 .f32) (h3 : a3.IsWhole) (a4 : Memref sig .tc .vmem S512x384 .bf16) (h4 : a4.IsWhole) (a5 : Memref sig .tc .vmem S1x384 .f32) (h5 : a5.IsWhole)
  (x0 : Vec F S512x384 .f32) (x1 : Vec F S1x384 .f32) (x2 : Vec F S512x384 .f32) (xs : Vec F S1x384 .f32)

/-- The rows' gradient, at the first point. -/
theorem rows_first (hc : cond0_0 i) : out0_A_3 c i a1 h1 a2 h2 a3 h3 a4 h4 a5 h5 hc x0 x1 x2 = k0_pay3 x0 x2 x1 := by
  unfold out0_A_3
  rw [View.read_writes_eq_canon _ _ _ (cover0_A_3 c i a1 h1 a2 h2 a3 h3 a4 h4 a5 h5 hc x0 x1 x2)]
  unfold kernelRun0_A
  dsimp only
  rw [View.canon_unit_zero hz]
  simp only [View.readAt_eq_ld, h1.read_unread, h2.read_unread, h3.read_unread, View.ld_unit_zero (S := S512x384) hz, View.ld_unit_zero (S := S1x384) hz]

/-- And at a later one. -/
theorem rows_next (hc : ¬cond0_0 i) : out0_B_3 c i a1 h1 a2 h2 a3 h3 a4 h4 a5 h5 hc x0 x1 x2 xs = k0_pay3 x0 x2 x1 := by
  unfold out0_B_3
  rw [View.read_writes_eq_canon _ _ _ (cover0_B_3 c i a1 h1 a2 h2 a3 h3 a4 h4 a5 h5 hc x0 x1 x2 xs)]
  unfold kernelRun0_B
  dsimp only
  rw [View.canon_unit_zero hz]
  simp only [View.readAt_eq_ld, h1.read_unread, h2.read_unread, h3.read_unread, View.ld_unit_zero (S := S512x384) hz, View.ld_unit_zero (S := S1x384) hz]

/-- The weight's gradient, started from zero at the first point. -/
theorem weight_first (hc : cond0_0 i) : out0_A_4 c i a1 h1 a2 h2 a3 h3 a4 h4 a5 h5 hc x0 x1 x2 = k0_pay5 x0 x2 k0_pay4 := by
  unfold out0_A_4
  rw [View.read_writes_eq_canon _ _ _ (cover0_A_4 c i a1 h1 a2 h2 a3 h3 a4 h4 a5 h5 hc x0 x1 x2)]
  unfold kernelRun0_A
  dsimp only
  refine (View.canon_cons_unit_zero (S := S1x384) hz inb_S1x384_S1x384_0_0 _ _).trans ?_
  sl_unfold_words
  rw [View.readCov_unit_zero (S := S1x384) _ hz]
  simp only [View.readAt_eq_ld, h1.read_unread, h2.read_unread, h3.read_unread, View.ld_unit_zero (S := S512x384) hz, View.ld_unit_zero (S := S1x384) hz]

/-- And a later tile's sum, added. -/
theorem weight_next (hc : ¬cond0_0 i) : out0_B_4 c i a1 h1 a2 h2 a3 h3 a4 h4 a5 h5 hc x0 x1 x2 xs = k0_pay5 x0 x2 xs := by
  unfold out0_B_4
  rw [View.read_writes_eq_canon _ _ _ (cover0_B_4 c i a1 h1 a2 h2 a3 h3 a4 h4 a5 h5 hc x0 x1 x2 xs)]
  unfold kernelRun0_B
  dsimp only
  rw [View.canon_unit_zero hz]
  sl_unfold_words
  simp only [View.readAt_eq_ld, h1.read_unread, h2.read_unread, h3.read_unread, h5.read_unread, View.ld_unit_zero (S := S512x384) hz, View.ld_unit_zero (S := S1x384) hz]

end Body

section Tile

variable (x0 : Vec Ideal S512x384 .f32) (x1 : Vec Ideal S1x384 .f32) (x2 : Vec Ideal S512x384 .f32) (xs : Vec Ideal S1x384 .f32) (a : Fin 512) (b : Fin 384)

/-- A tile's inverse square roots. -/
theorem rr_at : k0_pay1 (F := Ideal) x0 (ix2 a 0) = rr (fun j : Fin 384 => (x0 (ix2 a j) : EReal)) := by
  unfold rr mean eps
  rw [len_384]
  pointwise [k0_pay1]

theorem normed_at : k0_pay2 (F := Ideal) x0 (ix2 a b) = x0 (ix2 a b) * rr (fun j : Fin 384 => (x0 (ix2 a j) : EReal)) := by
  rw [← rr_at]
  pointwise [k0_pay2]

/-- A tile of the rows' gradient. -/
theorem rows_at : k0_pay3 (F := Ideal) x0 x2 x1 (ix2 a b)
    = grad (fun j : Fin 384 => (x0 (ix2 a j) : EReal)) (fun j : Fin 384 => x2 (ix2 a j) * x1 (ix2 0 j)) b := by
  unfold grad
  rw [len_384]
  pointwise [k0_pay3]
  simp only [normed_at, rr_at]

/-- A tile's part of the weight's gradient. -/
theorem weight_at : k0_pay5 (F := Ideal) x0 x2 xs (ix2 0 b)
    = xs (ix2 0 b) + ∑ a : Fin 512, x2 (ix2 a b) * (x0 (ix2 a b) * rr (fun j : Fin 384 => (x0 (ix2 a j) : EReal))) := by
  pointwise [k0_pay5]
  simp only [normed_at]

end Tile

variable (m : (ℓ : Loc nD τ sig) → Buf (Elt Ideal) ℓ) (ρ : Dev nD → PrngReg) (c : Dev nD)

abbrev P : Mat 8192 4096 := m ((c : Thread nD τ).loc main_arg0)
abbrev G : Mat 1 384 := m ((c : Thread nD τ).loc main_arg1)
abbrev D : Mat 8192 384 := m ((c : Thread nD τ).loc main_arg2)

/-- The rows: some columns of the projection. -/
abbrev X : Mat 8192 384 := cols 3072 (by norm_num) (P m c)

/-- Their gradient. -/
def dx (x : Mat 8192 384) (g : Mat 1 384) (d : Mat 8192 384) : Mat 8192 384 := fun i => grad (row x (i 0)) (scaled d g (i 0)) (i 1)

theorem eq_ix {r c : ℕ} (i : (⟨2, ![r, c]⟩ : Shape).Idx) (a : Fin r) (b : Fin c) (h0 : (i 0).val = a.val) (h1 : (i 1).val = b.val) : i = ix2 a b := by
  funext k
  fin_cases k <;> [exact Fin.ext h0; exact Fin.ext h1]

theorem idx0 : ∀ t : Fin cfg0.N, win0_0.index t = ![t.val, 8] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![0, 0] := by decide +kernel
theorem lt16 (t : Fin cfg0.N) : t.val < 16 := t.isLt
theorem row_lt (t : Fin cfg0.N) (a : Fin 512) : t.val * 512 + a.val < 8192 := by have := lt16 t; omega

theorem blk0' (A : (⟨S8192x4096, .f32⟩ : BufTy).Contents (Elt Ideal)) (t : Fin cfg0.N) (a : Fin 512) (b : Fin 384) (y : ((cfg0.win 0).xblock (cfg0.grid.coords t)).Idx)
    (h0 : (y 0).val = a.val) (h1 : (y 1).val = b.val) :
    ((cfg0.win 0).blk t).view.read (Elt Ideal) A y = A (ix2 ⟨t.val * 512 + a.val, row_lt t a⟩ ⟨3072 + b.val, by omega⟩) := by
  show A (((cfg0.win 0).rect t).emb y) = _
  refine congrArg A (funext fun k => Fin.ext ?_)
  rw [(cfg0.win 0).rect_emb_val t y k rfl]
  show win0_0.index t k * _ + _ = _
  rw [idx0]
  fin_cases k
  · show t.val * 512 + (y 0).val = t.val * 512 + a.val
    rw [h0]
  · show 8 * 384 + (y 1).val = 3072 + b.val
    rw [h1]

theorem blk1' (A : (⟨S1x384, .f32⟩ : BufTy).Contents (Elt Ideal)) (t : Fin cfg0.N) (b : Fin 384) :
    ((cfg0.win 1).blk t).view.read (Elt Ideal) A (ix2 0 b) = A (ix2 0 b) := by
  blk_ext [idx1]

theorem blk2' (A : (⟨S8192x384, .f32⟩ : BufTy).Contents (Elt Ideal)) (t : Fin cfg0.N) (a : Fin 512) (b : Fin 384) :
    ((cfg0.win 2).blk t).view.read (Elt Ideal) A (ix2 a b) = A (ix2 ⟨t.val * 512 + a.val, row_lt t a⟩ b) := by
  blk_ext [idx2]

theorem blk0 (t : Fin cfg0.N) (a : Fin 512) (b : Fin 384) : (X0_0 m c t (ix2 a b) : EReal) = X m c (ix2 ⟨t.val * 512 + a.val, row_lt t a⟩ b) := by
  unfold X0_0 Pipeline.Window.fill
  rw [dif_pos (moved0_0 t _)]
  unfold iblk
  refine (blk0' (V m c main_arg0) t a b _ rfl rfl).trans ?_
  rw [V_main_arg0]
  rfl

theorem blk1 (t : Fin cfg0.N) (b : Fin 384) : (iblk m c 1 t (ix2 0 b) : EReal) = G m c (ix2 0 b) := by
  unfold iblk
  refine (blk1' (V m c main_arg1) t b).trans ?_
  rw [V_main_arg1]

theorem blk2 (t : Fin cfg0.N) (a : Fin 512) (b : Fin 384) : (iblk m c 2 t (ix2 a b) : EReal) = D m c (ix2 ⟨t.val * 512 + a.val, row_lt t a⟩ b) := by
  unfold iblk
  refine (blk2' (V m c main_arg2) t a b).trans ?_
  rw [V_main_arg2]

theorem rows_tile (t : Fin cfg0.N) (a : Fin 512) (b : Fin 384) (y : (⟨2, ![8192, 384]⟩ : Shape).Idx) (h0 : (y 0).val = t.val * 512 + a.val) (h1 : (y 1).val = b.val) :
    (k0_pay3 (F := Ideal) (X0_0 m c t) (iblk m c 2 t) (iblk m c 1 t) (ix2 a b) : EReal) = dx (X m c) (G m c) (D m c) y := by
  rw [eq_ix y ⟨t.val * 512 + a.val, row_lt t a⟩ b h0 h1]
  refine (rows_at _ _ _ a b).trans ?_
  simp only [blk0, blk1, blk2]
  rfl

theorem rows_out (t : Fin cfg0.N) : (outsAt0 m c t.val t.isLt).1 = k0_pay3 (X0_0 m c t) (iblk m c 2 t) (iblk m c 1 t) := by
  by_cases h : t.val % 16 = 0
  · rw [outsAt0_A m c t h]
    dsimp only
    rw [rows_first]
  · rw [outsAt0_B m c t h]
    dsimp only
    rw [rows_next]

/-- The kernel's gradient of the rows. -/
theorem rows : (dats m 0 c).arrAt 3 cfg0.N = dx (X m c) (G m c) (D m c) := by
  refine (dats m 0 c).arrAt_eq_of_covers 3 _ (by decide +kernel) fun t hf y => ?_
  blk_simp
  rw [after0_3]
  obtain ⟨a, b, rfl⟩ : ∃ (a : Fin 512) (b : Fin 384), y = ix2 a b := ⟨y 0, y 1, by funext i; fin_cases i <;> rfl⟩
  rw [rows_out]
  refine rows_tile m c t a b _ ?_ ?_ <;>
    blk_simp [idx3]

theorem part_tile (t : Fin cfg0.N) (xs : Vec Ideal S1x384 .f32) (b : Fin 384) :
    (k0_pay5 (F := Ideal) (X0_0 m c t) (iblk m c 2 t) xs (ix2 0 b) : EReal) = xs (ix2 0 b) + ∑ a : Fin 512, part (X m c) (D m c) b.val (512 * t.val + a.val) := by
  refine (weight_at _ _ xs b).trans (congrArg (fun z : EReal => xs (ix2 0 b) + z) (Finset.sum_congr rfl fun a _ => ?_))
  simp only [blk0, blk2]
  rw [mul_comm 512]
  exact part_of (X m c) (D m c) b ⟨t.val * 512 + a.val, row_lt t a⟩

/-- The weight's gradient after a point. -/
theorem kept (b : Fin 384) : ∀ (n : ℕ) (hn : n < cfg0.N),
    ((outsAt0 m c n hn).2 (ix2 0 b) : EReal) = ∑ x ∈ Finset.range (512 * n + 512), part (X m c) (D m c) b.val x
  | 0, hn => by
    rw [outsAt0_A m c ⟨0, hn⟩ rfl]
    dsimp only
    rw [weight_first, part_tile, ← sum_step, Nat.mul_zero, Finset.range_zero, Finset.sum_empty]
    congr 1
    pointwise [k0_pay4]
  | n + 1, hn => by
    have hl : n + 1 < 16 := hn
    rw [outsAt0_B m c ⟨n + 1, hn⟩ (by dsimp only; omega)]
    dsimp only
    rw [weight_next, part_tile, ← sum_step]
    congr 1
    exact kept b n (Nat.lt_of_succ_lt hn)

theorem flush : ∀ t : Fin cfg0.N, (cfg0.win 4).flush t = true → t.val = 15 := by decide +kernel

/-- The kernel's gradient of the weight. -/
theorem weight : (dats m 0 c).arrAt 4 cfg0.N = dg (X m c) (D m c) := by
  refine (dats m 0 c).arrAt_eq_of_covers 4 _ (by decide +kernel) fun t hf y => ?_
  have h15 := flush t hf
  blk_simp
  rw [after0_4]
  obtain ⟨b, rfl⟩ : ∃ b : Fin 384, y = ix2 0 b := ⟨y 1, by funext i; fin_cases i <;> [exact Subsingleton.elim (α := Fin 1) _ _; rfl]⟩
  refine (kept m c b t.val t.isLt).trans ?_
  rw [h15]
  refine dg_sum (X m c) (D m c) _ b ?_
  blk_simp [idx4]

section Reference

open Cert.DcqReferenceIdeal.Read

variable (p : Mat 8192 4096) (g : Mat 1 384) (d : Mat 8192 384)

/-- The rows of the norm. -/
abbrev xc : Mat 8192 384 := cols 3072 (by norm_num) p

theorem x_ref (i : Fin 8192) (j : Fin 384) : val_main_v0 (F := Ideal) p (ix2 i j) = xc p (ix2 i j) := by
  rw [val_main_v0_apply]
  refine congrArg p ?_
  funext a
  fin_cases a <;> [rfl; exact Fin.ext (by simp [idx_main_v0, ix2, Nat.add_comm])]

theorem mean_ref (i : Fin 8192) : val_main_v7 (F := Ideal) p (ix2 i 0) = mean (row (xc p) i) := by
  rw [val_main_v7_apply, val_main_v5_apply, val_main_v3_apply, val_main_v2_apply, val_main_v4_apply, val_main_v6_apply]
  have e : ∀ k : Fin 384, idx_main_v2 (idx_main_v3 (ix2 i 0)) k = ix2 i k := fun k => by funext a; fin_cases a <;> rfl
  simp only [e, val_main_v1_apply, x_ref]
  show Ideal.div (Ideal.ofBits .f32 0x00000000#32 + ∑ k : Fin 384, (xc p (ix2 i k) * xc p (ix2 i k) : EReal)) (Ideal.ofBits .f32 0x43C00000#32) + eps = _
  rw [zero_eq, zero_add, mean, len_384]

theorem rr_ref (i : Fin 8192) : val_main_v8 (F := Ideal) p (ix2 i 0) = rr (row (xc p) i) := by
  rw [val_main_v8_apply, mean_ref]
  rfl

theorem normed_ref (i : Fin 8192) (j : Fin 384) : val_main_v13 (F := Ideal) p (ix2 i j) = xc p (ix2 i j) * rr (row (xc p) i) := by
  rw [val_main_v13_apply, val_main_v12_apply, show idx_main_v12 (ix2 i j) = ix2 i 0 by funext a; fin_cases a <;> rfl, rr_ref, x_ref]
  rfl

theorem scaled_ref (i : Fin 8192) (j : Fin 384) : val_main_v20 (F := Ideal) g d (ix2 i j) = scaled d g i j := by
  rw [val_main_v20_apply, val_main_v19_apply, show idx_main_v19 (ix2 i j) = ix2 0 j by funext a; fin_cases a <;> rfl]
  rfl

theorem shared_ref (i : Fin 8192) : val_main_v28 (F := Ideal) p g d (ix2 i 0) = shared (row (xc p) i) (scaled d g i) := by
  rw [val_main_v28_apply, val_main_v26_apply, val_main_v23_apply, val_main_v22_apply, val_main_v11_apply, val_main_v9_apply, rr_ref, mean_ref, val_main_v10_apply, val_main_v27_apply]
  have h : ∀ k : Fin 384, idx_main_v22 (idx_main_v23 (ix2 i 0)) k = ix2 i k := fun k => by funext a; fin_cases a <;> [exact Fin.ext (by simp [idx_main_v22, idx_main_v23, ix2]); rfl]
  simp only [h, val_main_v21_apply, scaled_ref, x_ref]
  show Ideal.div ((Ideal.ofBits .f32 0x00000000#32 + ∑ k : Fin 384, (xc p (ix2 i k) * scaled d g i k : EReal)) * (half * Ideal.div _ _)) (Ideal.ofBits .f32 0x43C00000#32) = _
  rw [zero_eq, zero_add, ← len_384]
  rfl

theorem row_ref (i : Fin 8192) (j : Fin 384) : val_main_v30 (F := Ideal) p g d (ix2 i j) = shared (row (xc p) i) (scaled d g i) := by
  rw [val_main_v30_apply, val_main_v29_apply]
  show Ideal.ofBits .f32 0x00000000#32 + ∑ k : Fin 1, (val_main_v28 (F := Ideal) p g d (idx_main_v29 (idx_main_v30 (ix2 i j)) k) : EReal) = _
  rw [zero_eq, zero_add, Fin.sum_univ_one, show idx_main_v29 (idx_main_v30 (ix2 i j)) 0 = ix2 i 0 by funext a; fin_cases a <;> rfl, shared_ref]

/-- The reference's gradient of the rows. -/
theorem rows_ref : val_main_v35 (F := Ideal) p g d = dx (xc p) g d := by
  funext k
  obtain ⟨i, j, rfl⟩ : ∃ (i : Fin 8192) (j : Fin 384), k = ix2 i j := ⟨k 0, k 1, by funext a; fin_cases a <;> rfl⟩
  show val_main_v34 (F := Ideal) p g d (ix2 i j) = _
  rw [val_main_v34_apply, val_main_v32_apply, val_main_v25_apply, val_main_v31_apply, val_main_v33_apply, row_ref, scaled_ref, x_ref, val_main_v24_apply,
    show idx_main_v24 (ix2 i j) = ix2 i 0 by funext a; fin_cases a <;> rfl, rr_ref]
  exact chain (row (xc p) i) (scaled d g i) j

/-- The reference's gradient of the weight. -/
theorem weight_ref : val_main_v18 (F := Ideal) p d = dg (xc p) d := by
  funext k
  obtain ⟨b, rfl⟩ : ∃ b : Fin 384, k = ix2 0 b := ⟨k 1, by funext i; fin_cases i <;> [exact Subsingleton.elim (α := Fin 1) _ _; rfl]⟩
  rw [val_main_v18_apply, val_main_v17_apply, dg_of (xc p) d _ b rfl]
  have h : ∀ k : Fin 8192, idx_main_v17 (idx_main_v18 (ix2 0 b)) k = ix2 k b := fun k => by funext a; fin_cases a <;> [rfl; exact Fin.ext (by simp [idx_main_v17, idx_main_v18, ix2])]
  simp only [h, val_main_v16_apply, normed_ref]
  show Ideal.ofBits .f32 0x00000000#32 + _ = _
  rw [zero_eq, zero_add]
  exact Finset.sum_congr rfl fun k _ => mul_comm _ _

end Reference

theorem algebraic : Cert.algebraic_DcqIdeal_DcqReferenceIdeal := by
  intro m g m' g' hpre hargs
  refine ⟨fun c => dx (X m c) (G m c) (D m c), fun c => dg (X m c) (D m c), ?_, ?_⟩
  · refine (θ_run Cert.DcqIdeal.defs _ _).mono (fun r h c => ?_) (Value.run_blocks m g)
    obtain ⟨h1, h2, h3⟩ := h c
    exact ⟨h1.trans (rows m c), h2.trans (weight m c), h3⟩
  · refine (θ_run Cert.DcqReferenceIdeal.defs _ _).mono (fun r h c => ?_) (Cert.DcqReferenceIdeal.Value.run m' g')
    obtain ⟨h1, h2, h3⟩ := h c
    obtain ⟨a0, a1, a2⟩ := hargs c
    refine ⟨h1.trans ?_, h2.trans ?_, h3⟩
    · rw [Cert.DcqReferenceIdeal.Read.val_main_v35_eq, a0, a1, a2]
      exact rows_ref (P m c) (G m c) (D m c)
    · rw [Cert.DcqReferenceIdeal.Read.val_main_v18_eq, a0, a2]
      exact weight_ref (P m c) (D m c)

end Cert.DcqIdeal.Val

end
-- ==== Proof.DckvValue.lean ====
/-
  The gradient of the RMS norm of the latent keys and values: the columns of the projection that hold them are a block of it, and every tile of the kernel is a tile of the chain rule's gradient.
-/
module

public import proofs.«01_k».proof.Proof.Gen.DckvIdeal.Value
public import proofs.«01_k».proof.Proof.Gen.DckvReferenceIdeal.Run
public import proofs.«01_k».proof.Proof.Gen.DckvReferenceIdeal.Read
public import proofs.«01_k».proof.Proof.Prod
public import proofs.«01_k».proof.Proof.NormRow
public import proofs.«01_k».proof.Defs
public import Idealize.ShloMosaic.Lib.Claim
public import Idealize.ShloMosaic.Lib.Pipeline.ValueKit
public import Idealize.ShloMosaic.Lib.StableHlo.ReadAt

@[expose] public section

set_option maxRecDepth 16256

noncomputable section

open Idealize.ShloMosaic Idealize.ShloMosaic.TcCoe Idealize.ShloMosaic.Tactic Idealize.SL.Sem

namespace Cert.DckvIdeal.Val

open Cert.DckvIdeal Cert.DckvIdeal.Gen Cert.Prod Cert.Norm

section Body

variable {F : FTy → Type} [FloatOps F] [Named F]
variable (c : Dev nD) (i : grid0.Coords) (a1 : Memref sig .tc .vmem S512x256 .f32) (h1 : a1.IsWhole) (a2 : Memref sig .tc .vmem S1x256 .f32) (h2 : a2.IsWhole)
  (a3 : Memref sig .tc .vmem S512x256 .f32) (h3 : a3.IsWhole) (a4 : Memref sig .tc .vmem S512x256 .bf16) (h4 : a4.IsWhole) (a5 : Memref sig .tc .vmem S1x256 .f32) (h5 : a5.IsWhole)
  (x0 : Vec F S512x256 .f32) (x1 : Vec F S1x256 .f32) (x2 : Vec F S512x256 .f32) (xs : Vec F S1x256 .f32)

/-- The rows' gradient, at the first point. -/
theorem rows_first (hc : cond0_0 i) : out0_A_3 c i a1 h1 a2 h2 a3 h3 a4 h4 a5 h5 hc x0 x1 x2 = k0_pay3 x0 x2 x1 := by
  unfold out0_A_3
  rw [View.read_writes_eq_canon _ _ _ (cover0_A_3 c i a1 h1 a2 h2 a3 h3 a4 h4 a5 h5 hc x0 x1 x2)]
  unfold kernelRun0_A
  dsimp only
  rw [View.canon_unit_zero hz]
  simp only [View.readAt_eq_ld, h1.read_unread, h2.read_unread, h3.read_unread, View.ld_unit_zero (S := S512x256) hz, View.ld_unit_zero (S := S1x256) hz]

/-- And at a later one. -/
theorem rows_next (hc : ¬cond0_0 i) : out0_B_3 c i a1 h1 a2 h2 a3 h3 a4 h4 a5 h5 hc x0 x1 x2 xs = k0_pay3 x0 x2 x1 := by
  unfold out0_B_3
  rw [View.read_writes_eq_canon _ _ _ (cover0_B_3 c i a1 h1 a2 h2 a3 h3 a4 h4 a5 h5 hc x0 x1 x2 xs)]
  unfold kernelRun0_B
  dsimp only
  rw [View.canon_unit_zero hz]
  simp only [View.readAt_eq_ld, h1.read_unread, h2.read_unread, h3.read_unread, View.ld_unit_zero (S := S512x256) hz, View.ld_unit_zero (S := S1x256) hz]

/-- The weight's gradient, started from zero at the first point. -/
theorem weight_first (hc : cond0_0 i) : out0_A_4 c i a1 h1 a2 h2 a3 h3 a4 h4 a5 h5 hc x0 x1 x2 = k0_pay5 x0 x2 k0_pay4 := by
  unfold out0_A_4
  rw [View.read_writes_eq_canon _ _ _ (cover0_A_4 c i a1 h1 a2 h2 a3 h3 a4 h4 a5 h5 hc x0 x1 x2)]
  unfold kernelRun0_A
  dsimp only
  refine (View.canon_cons_unit_zero (S := S1x256) hz inb_S1x256_S1x256_0_0 _ _).trans ?_
  sl_unfold_words
  rw [View.readCov_unit_zero (S := S1x256) _ hz]
  simp only [View.readAt_eq_ld, h1.read_unread, h2.read_unread, h3.read_unread, View.ld_unit_zero (S := S512x256) hz, View.ld_unit_zero (S := S1x256) hz]

/-- And a later tile's sum, added. -/
theorem weight_next (hc : ¬cond0_0 i) : out0_B_4 c i a1 h1 a2 h2 a3 h3 a4 h4 a5 h5 hc x0 x1 x2 xs = k0_pay5 x0 x2 xs := by
  unfold out0_B_4
  rw [View.read_writes_eq_canon _ _ _ (cover0_B_4 c i a1 h1 a2 h2 a3 h3 a4 h4 a5 h5 hc x0 x1 x2 xs)]
  unfold kernelRun0_B
  dsimp only
  rw [View.canon_unit_zero hz]
  sl_unfold_words
  simp only [View.readAt_eq_ld, h1.read_unread, h2.read_unread, h3.read_unread, h5.read_unread, View.ld_unit_zero (S := S512x256) hz, View.ld_unit_zero (S := S1x256) hz]

end Body

section Tile

variable (x0 : Vec Ideal S512x256 .f32) (x1 : Vec Ideal S1x256 .f32) (x2 : Vec Ideal S512x256 .f32) (xs : Vec Ideal S1x256 .f32) (a : Fin 512) (b : Fin 256)

/-- A tile's inverse square roots. -/
theorem rr_at : k0_pay1 (F := Ideal) x0 (ix2 a 0) = rr (fun j : Fin 256 => (x0 (ix2 a j) : EReal)) := by
  unfold rr mean eps
  rw [len_256]
  pointwise [k0_pay1]

theorem normed_at : k0_pay2 (F := Ideal) x0 (ix2 a b) = x0 (ix2 a b) * rr (fun j : Fin 256 => (x0 (ix2 a j) : EReal)) := by
  rw [← rr_at]
  pointwise [k0_pay2]

/-- A tile of the rows' gradient. -/
theorem rows_at : k0_pay3 (F := Ideal) x0 x2 x1 (ix2 a b)
    = grad (fun j : Fin 256 => (x0 (ix2 a j) : EReal)) (fun j : Fin 256 => x2 (ix2 a j) * x1 (ix2 0 j)) b := by
  unfold grad
  rw [len_256]
  pointwise [k0_pay3]
  simp only [normed_at, rr_at]

/-- A tile's part of the weight's gradient. -/
theorem weight_at : k0_pay5 (F := Ideal) x0 x2 xs (ix2 0 b)
    = xs (ix2 0 b) + ∑ a : Fin 512, x2 (ix2 a b) * (x0 (ix2 a b) * rr (fun j : Fin 256 => (x0 (ix2 a j) : EReal))) := by
  pointwise [k0_pay5]
  simp only [normed_at]

end Tile

variable (m : (ℓ : Loc nD τ sig) → Buf (Elt Ideal) ℓ) (ρ : Dev nD → PrngReg) (c : Dev nD)

abbrev P : Mat 8192 4096 := m ((c : Thread nD τ).loc main_arg0)
abbrev G : Mat 1 256 := m ((c : Thread nD τ).loc main_arg1)
abbrev D : Mat 8192 256 := m ((c : Thread nD τ).loc main_arg2)

/-- The rows: some columns of the projection. -/
abbrev X : Mat 8192 256 := cols 3584 (by norm_num) (P m c)

/-- Their gradient. -/
def dx (x : Mat 8192 256) (g : Mat 1 256) (d : Mat 8192 256) : Mat 8192 256 := fun i => grad (row x (i 0)) (scaled d g (i 0)) (i 1)

theorem eq_ix {r c : ℕ} (i : (⟨2, ![r, c]⟩ : Shape).Idx) (a : Fin r) (b : Fin c) (h0 : (i 0).val = a.val) (h1 : (i 1).val = b.val) : i = ix2 a b := by
  funext k
  fin_cases k <;> [exact Fin.ext h0; exact Fin.ext h1]

theorem idx0 : ∀ t : Fin cfg0.N, win0_0.index t = ![t.val, 14] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![0, 0] := by decide +kernel
theorem lt16 (t : Fin cfg0.N) : t.val < 16 := t.isLt
theorem row_lt (t : Fin cfg0.N) (a : Fin 512) : t.val * 512 + a.val < 8192 := by have := lt16 t; omega

theorem blk0' (A : (⟨S8192x4096, .f32⟩ : BufTy).Contents (Elt Ideal)) (t : Fin cfg0.N) (a : Fin 512) (b : Fin 256) :
    ((cfg0.win 0).blk t).view.read (Elt Ideal) A (ix2 a b) = A (ix2 ⟨t.val * 512 + a.val, row_lt t a⟩ ⟨3584 + b.val, by omega⟩) := by
  blk_ext [idx0]

theorem blk1' (A : (⟨S1x256, .f32⟩ : BufTy).Contents (Elt Ideal)) (t : Fin cfg0.N) (b : Fin 256) :
    ((cfg0.win 1).blk t).view.read (Elt Ideal) A (ix2 0 b) = A (ix2 0 b) := by
  blk_ext [idx1]

theorem blk2' (A : (⟨S8192x256, .f32⟩ : BufTy).Contents (Elt Ideal)) (t : Fin cfg0.N) (a : Fin 512) (b : Fin 256) :
    ((cfg0.win 2).blk t).view.read (Elt Ideal) A (ix2 a b) = A (ix2 ⟨t.val * 512 + a.val, row_lt t a⟩ b) := by
  blk_ext [idx2]

theorem blk0 (t : Fin cfg0.N) (a : Fin 512) (b : Fin 256) : (iblk m c 0 t (ix2 a b) : EReal) = X m c (ix2 ⟨t.val * 512 + a.val, row_lt t a⟩ b) := by
  unfold iblk
  refine (blk0' (V m c main_arg0) t a b).trans ?_
  rw [V_main_arg0]
  rfl

theorem blk1 (t : Fin cfg0.N) (b : Fin 256) : (iblk m c 1 t (ix2 0 b) : EReal) = G m c (ix2 0 b) := by
  unfold iblk
  refine (blk1' (V m c main_arg1) t b).trans ?_
  rw [V_main_arg1]

theorem blk2 (t : Fin cfg0.N) (a : Fin 512) (b : Fin 256) : (iblk m c 2 t (ix2 a b) : EReal) = D m c (ix2 ⟨t.val * 512 + a.val, row_lt t a⟩ b) := by
  unfold iblk
  refine (blk2' (V m c main_arg2) t a b).trans ?_
  rw [V_main_arg2]

theorem rows_tile (t : Fin cfg0.N) (a : Fin 512) (b : Fin 256) (y : (⟨2, ![8192, 256]⟩ : Shape).Idx) (h0 : (y 0).val = t.val * 512 + a.val) (h1 : (y 1).val = b.val) :
    (k0_pay3 (F := Ideal) (iblk m c 0 t) (iblk m c 2 t) (iblk m c 1 t) (ix2 a b) : EReal) = dx (X m c) (G m c) (D m c) y := by
  rw [eq_ix y ⟨t.val * 512 + a.val, row_lt t a⟩ b h0 h1]
  refine (rows_at _ _ _ a b).trans ?_
  simp only [blk0, blk1, blk2]
  rfl

theorem rows_out (t : Fin cfg0.N) : (outsAt0 m c t.val t.isLt).1 = k0_pay3 (iblk m c 0 t) (iblk m c 2 t) (iblk m c 1 t) := by
  by_cases h : t.val % 16 = 0
  · rw [outsAt0_A m c t h]
    dsimp only
    rw [rows_first]
  · rw [outsAt0_B m c t h]
    dsimp only
    rw [rows_next]

/-- The kernel's gradient of the rows. -/
theorem rows : (dats m 0 c).arrAt 3 cfg0.N = dx (X m c) (G m c) (D m c) := by
  refine (dats m 0 c).arrAt_eq_of_covers 3 _ (by decide +kernel) fun t hf y => ?_
  blk_simp
  rw [after0_3]
  obtain ⟨a, b, rfl⟩ : ∃ (a : Fin 512) (b : Fin 256), y = ix2 a b := ⟨y 0, y 1, by funext i; fin_cases i <;> rfl⟩
  rw [rows_out]
  refine rows_tile m c t a b _ ?_ ?_ <;>
    blk_simp [idx3]

theorem part_tile (t : Fin cfg0.N) (xs : Vec Ideal S1x256 .f32) (b : Fin 256) :
    (k0_pay5 (F := Ideal) (iblk m c 0 t) (iblk m c 2 t) xs (ix2 0 b) : EReal) = xs (ix2 0 b) + ∑ a : Fin 512, part (X m c) (D m c) b.val (512 * t.val + a.val) := by
  refine (weight_at _ _ xs b).trans (congrArg (fun z : EReal => xs (ix2 0 b) + z) (Finset.sum_congr rfl fun a _ => ?_))
  simp only [blk0, blk2]
  rw [mul_comm 512]
  exact part_of (X m c) (D m c) b ⟨t.val * 512 + a.val, row_lt t a⟩

/-- The weight's gradient after a point. -/
theorem kept (b : Fin 256) : ∀ (n : ℕ) (hn : n < cfg0.N),
    ((outsAt0 m c n hn).2 (ix2 0 b) : EReal) = ∑ x ∈ Finset.range (512 * n + 512), part (X m c) (D m c) b.val x
  | 0, hn => by
    rw [outsAt0_A m c ⟨0, hn⟩ rfl]
    dsimp only
    rw [weight_first, part_tile, ← sum_step, Nat.mul_zero, Finset.range_zero, Finset.sum_empty]
    congr 1
    pointwise [k0_pay4]
  | n + 1, hn => by
    have hl : n + 1 < 16 := hn
    rw [outsAt0_B m c ⟨n + 1, hn⟩ (by dsimp only; omega)]
    dsimp only
    rw [weight_next, part_tile, ← sum_step]
    congr 1
    exact kept b n (Nat.lt_of_succ_lt hn)

theorem flush : ∀ t : Fin cfg0.N, (cfg0.win 4).flush t = true → t.val = 15 := by decide +kernel

/-- The kernel's gradient of the weight. -/
theorem weight : (dats m 0 c).arrAt 4 cfg0.N = dg (X m c) (D m c) := by
  refine (dats m 0 c).arrAt_eq_of_covers 4 _ (by decide +kernel) fun t hf y => ?_
  have h15 := flush t hf
  blk_simp
  rw [after0_4]
  obtain ⟨b, rfl⟩ : ∃ b : Fin 256, y = ix2 0 b := ⟨y 1, by funext i; fin_cases i <;> [exact Subsingleton.elim (α := Fin 1) _ _; rfl]⟩
  refine (kept m c b t.val t.isLt).trans ?_
  rw [h15]
  refine dg_sum (X m c) (D m c) _ b ?_
  blk_simp [idx4]

section Reference

open Cert.DckvReferenceIdeal.Read

variable (p : Mat 8192 4096) (g : Mat 1 256) (d : Mat 8192 256)

/-- The rows of the norm. -/
abbrev xc : Mat 8192 256 := cols 3584 (by norm_num) p

theorem x_ref (i : Fin 8192) (j : Fin 256) : val_main_v0 (F := Ideal) p (ix2 i j) = xc p (ix2 i j) := by
  rw [val_main_v0_apply]
  refine congrArg p ?_
  funext a
  fin_cases a <;> [rfl; exact Fin.ext (by simp [idx_main_v0, ix2, Nat.add_comm])]

theorem mean_ref (i : Fin 8192) : val_main_v7 (F := Ideal) p (ix2 i 0) = mean (row (xc p) i) := by
  rw [val_main_v7_apply, val_main_v5_apply, val_main_v3_apply, val_main_v2_apply, val_main_v4_apply, val_main_v6_apply]
  have e : ∀ k : Fin 256, idx_main_v2 (idx_main_v3 (ix2 i 0)) k = ix2 i k := fun k => by funext a; fin_cases a <;> rfl
  simp only [e, val_main_v1_apply, x_ref]
  show Ideal.div (Ideal.ofBits .f32 0x00000000#32 + ∑ k : Fin 256, (xc p (ix2 i k) * xc p (ix2 i k) : EReal)) (Ideal.ofBits .f32 0x43800000#32) + eps = _
  rw [zero_eq, zero_add, mean, len_256]

theorem rr_ref (i : Fin 8192) : val_main_v8 (F := Ideal) p (ix2 i 0) = rr (row (xc p) i) := by
  rw [val_main_v8_apply, mean_ref]
  rfl

theorem normed_ref (i : Fin 8192) (j : Fin 256) : val_main_v13 (F := Ideal) p (ix2 i j) = xc p (ix2 i j) * rr (row (xc p) i) := by
  rw [val_main_v13_apply, val_main_v12_apply, show idx_main_v12 (ix2 i j) = ix2 i 0 by funext a; fin_cases a <;> rfl, rr_ref, x_ref]
  rfl

theorem scaled_ref (i : Fin 8192) (j : Fin 256) : val_main_v20 (F := Ideal) g d (ix2 i j) = scaled d g i j := by
  rw [val_main_v20_apply, val_main_v19_apply, show idx_main_v19 (ix2 i j) = ix2 0 j by funext a; fin_cases a <;> rfl]
  rfl

theorem shared_ref (i : Fin 8192) : val_main_v28 (F := Ideal) p g d (ix2 i 0) = shared (row (xc p) i) (scaled d g i) := by
  rw [val_main_v28_apply, val_main_v26_apply, val_main_v23_apply, val_main_v22_apply, val_main_v11_apply, val_main_v9_apply, rr_ref, mean_ref, val_main_v10_apply, val_main_v27_apply]
  have h : ∀ k : Fin 256, idx_main_v22 (idx_main_v23 (ix2 i 0)) k = ix2 i k := fun k => by funext a; fin_cases a <;> [exact Fin.ext (by simp [idx_main_v22, idx_main_v23, ix2]); rfl]
  simp only [h, val_main_v21_apply, scaled_ref, x_ref]
  show Ideal.div ((Ideal.ofBits .f32 0x00000000#32 + ∑ k : Fin 256, (xc p (ix2 i k) * scaled d g i k : EReal)) * (half * Ideal.div _ _)) (Ideal.ofBits .f32 0x43800000#32) = _
  rw [zero_eq, zero_add, ← len_256]
  rfl

theorem row_ref (i : Fin 8192) (j : Fin 256) : val_main_v30 (F := Ideal) p g d (ix2 i j) = shared (row (xc p) i) (scaled d g i) := by
  rw [val_main_v30_apply, val_main_v29_apply]
  show Ideal.ofBits .f32 0x00000000#32 + ∑ k : Fin 1, (val_main_v28 (F := Ideal) p g d (idx_main_v29 (idx_main_v30 (ix2 i j)) k) : EReal) = _
  rw [zero_eq, zero_add, Fin.sum_univ_one, show idx_main_v29 (idx_main_v30 (ix2 i j)) 0 = ix2 i 0 by funext a; fin_cases a <;> rfl, shared_ref]

/-- The reference's gradient of the rows. -/
theorem rows_ref : val_main_v35 (F := Ideal) p g d = dx (xc p) g d := by
  funext k
  obtain ⟨i, j, rfl⟩ : ∃ (i : Fin 8192) (j : Fin 256), k = ix2 i j := ⟨k 0, k 1, by funext a; fin_cases a <;> rfl⟩
  show val_main_v34 (F := Ideal) p g d (ix2 i j) = _
  rw [val_main_v34_apply, val_main_v32_apply, val_main_v25_apply, val_main_v31_apply, val_main_v33_apply, row_ref, scaled_ref, x_ref, val_main_v24_apply,
    show idx_main_v24 (ix2 i j) = ix2 i 0 by funext a; fin_cases a <;> rfl, rr_ref]
  exact chain (row (xc p) i) (scaled d g i) j

/-- The reference's gradient of the weight. -/
theorem weight_ref : val_main_v18 (F := Ideal) p d = dg (xc p) d := by
  funext k
  obtain ⟨b, rfl⟩ : ∃ b : Fin 256, k = ix2 0 b := ⟨k 1, by funext i; fin_cases i <;> [exact Subsingleton.elim (α := Fin 1) _ _; rfl]⟩
  rw [val_main_v18_apply, val_main_v17_apply, dg_of (xc p) d _ b rfl]
  have h : ∀ k : Fin 8192, idx_main_v17 (idx_main_v18 (ix2 0 b)) k = ix2 k b := fun k => by funext a; fin_cases a <;> [rfl; exact Fin.ext (by simp [idx_main_v17, idx_main_v18, ix2])]
  simp only [h, val_main_v16_apply, normed_ref]
  show Ideal.ofBits .f32 0x00000000#32 + _ = _
  rw [zero_eq, zero_add]
  exact Finset.sum_congr rfl fun k _ => mul_comm _ _

end Reference

theorem algebraic : Cert.algebraic_DckvIdeal_DckvReferenceIdeal := by
  intro m g m' g' hpre hargs
  refine ⟨fun c => dx (X m c) (G m c) (D m c), fun c => dg (X m c) (D m c), ?_, ?_⟩
  · refine (θ_run Cert.DckvIdeal.defs _ _).mono (fun r h c => ?_) (Value.run_blocks m g)
    obtain ⟨h1, h2, h3⟩ := h c
    exact ⟨h1.trans (rows m c), h2.trans (weight m c), h3⟩
  · refine (θ_run Cert.DckvReferenceIdeal.defs _ _).mono (fun r h c => ?_) (Cert.DckvReferenceIdeal.Value.run m' g')
    obtain ⟨h1, h2, h3⟩ := h c
    obtain ⟨a0, a1, a2⟩ := hargs c
    refine ⟨h1.trans ?_, h2.trans ?_, h3⟩
    · rw [Cert.DckvReferenceIdeal.Read.val_main_v35_eq, a0, a1, a2]
      exact rows_ref (P m c) (G m c) (D m c)
    · rw [Cert.DckvReferenceIdeal.Read.val_main_v18_eq, a0, a2]
      exact weight_ref (P m c) (D m c)

end Cert.DckvIdeal.Val

end
-- ==== Proof.lean ====
module

public import proofs.«01_k».proof.Defs
public import proofs.«01_k».proof.Proof.Gen.Forward.Frame
public import proofs.«01_k».proof.Proof.Gen.ForwardIdeal.Frame
public import proofs.«01_k».proof.Proof.Gen.ForwardIdeal.Value
public import proofs.«01_k».proof.Proof.Gen.ForwardReferenceIdeal.Run
public import proofs.«01_k».proof.Proof.Gen.ForwardReferenceIdeal.Read
public import proofs.«01_k».proof.Proof.Gen.ReferenceIdeal.Run
public import proofs.«01_k».proof.Proof.FwdClaim
public import proofs.«01_k».proof.Proof.KBwdFrame
public import proofs.«01_k».proof.Proof.BwdFrame
public import proofs.«01_k».proof.Proof.BwdClaim
public import proofs.«01_k».proof.Proof.Gen.DwUp.Frame
public import proofs.«01_k».proof.Proof.DwUpValue
public import proofs.«01_k».proof.Proof.Gen.DwDown.Frame
public import proofs.«01_k».proof.Proof.DwDownValue
public import proofs.«01_k».proof.Proof.Gen.Dact.Frame
public import proofs.«01_k».proof.Proof.DactValue
public import proofs.«01_k».proof.Proof.Gen.DhGate.Frame
public import proofs.«01_k».proof.Proof.DhGateValue
public import proofs.«01_k».proof.Proof.Gen.DhValue.Frame
public import proofs.«01_k».proof.Proof.DhValueValue
public import proofs.«01_k».proof.Proof.Gen.DwIn.Frame
public import proofs.«01_k».proof.Proof.DwInValue
public import proofs.«01_k».proof.Proof.Gen.DhIn.Frame
public import proofs.«01_k».proof.Proof.DhInValue
public import proofs.«01_k».proof.Proof.Gen.DwOut.Frame
public import proofs.«01_k».proof.Proof.DwOutValue
public import proofs.«01_k».proof.Proof.Gen.Dycat.Frame
public import proofs.«01_k».proof.Proof.DycatValue
public import proofs.«01_k».proof.Proof.Gen.MulIn.Frame
public import proofs.«01_k».proof.Proof.MulInValue
public import proofs.«01_k».proof.Proof.Gen.MulOut.Frame
public import proofs.«01_k».proof.Proof.MulOutValue
public import proofs.«01_k».proof.Proof.Gen.MulUp.Frame
public import proofs.«01_k».proof.Proof.MulUpValue
public import proofs.«01_k».proof.Proof.Gen.MulDown.Frame
public import proofs.«01_k».proof.Proof.MulDownValue
public import proofs.«01_k».proof.Proof.Gen.MulUq.Frame
public import proofs.«01_k».proof.Proof.MulUqValue
public import proofs.«01_k».proof.Proof.Gen.MulUkv.Frame
public import proofs.«01_k».proof.Proof.MulUkvValue
public import proofs.«01_k».proof.Proof.Gen.DwUk.Frame
public import proofs.«01_k».proof.Proof.DwUkValue
public import proofs.«01_k».proof.Proof.Gen.DkvnKey.Frame
public import proofs.«01_k».proof.Proof.DkvnKeyValue
public import proofs.«01_k».proof.Proof.Gen.DkvnValue.Frame
public import proofs.«01_k».proof.Proof.DkvnValueValue
public import proofs.«01_k».proof.Proof.Gen.DwUq.Frame
public import proofs.«01_k».proof.Proof.DwUqValue
public import proofs.«01_k».proof.Proof.Gen.Dqn.Frame
public import proofs.«01_k».proof.Proof.DqnValue
public import proofs.«01_k».proof.Proof.Gen.Norm.Frame
public import proofs.«01_k».proof.Proof.NormValue
public import proofs.«01_k».proof.Proof.Gen.Dgate.Frame
public import proofs.«01_k».proof.Proof.DgateValue
public import proofs.«01_k».proof.Proof.Gen.Dcq.Frame
public import proofs.«01_k».proof.Proof.DcqValue
public import proofs.«01_k».proof.Proof.Gen.Dckv.Frame
public import proofs.«01_k».proof.Proof.DckvValue
public import Idealize.ShloMosaic.Adequacy
public import Idealize.ShloMosaic.Init

@[expose] public section

noncomputable section

namespace Cert.Proof

open Idealize.ShloMosaic Idealize.SL.Sem

theorem frame_p : Cert.quiescent_Kernel := fun m ρ _ => Cert.Kernel.Back.frame m ρ

theorem frame_pi : Cert.quiescent_KernelIdeal := fun m ρ _ => Cert.KernelIdeal.Back.frame m ρ

theorem frame_ri : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

theorem frame_p2 : Cert.quiescent_Forward := fun m ρ _ => Cert.Forward.Gen.frame m ρ

theorem frame_pi2 : Cert.quiescent_ForwardIdeal := fun m ρ _ => Cert.ForwardIdeal.Gen.frame m ρ

theorem frame_ri2 : Cert.quiescent_ForwardReferenceIdeal := fun m ρ _ =>
  (θ_run Cert.ForwardReferenceIdeal.defs _ _).mono (fun r h => ⟨fun c => (h c).2.2, Idealize.ShloMosaic.sem_eq_zero_of_no_sems (by decide) r.2⟩)
    (Cert.ForwardReferenceIdeal.Value.run (F := Ideal) m ρ)

theorem frame_DwUp : Cert.quiescent_DwUpReferenceIdeal := fun m ρ _ =>
  (θ_run Cert.DwUpReferenceIdeal.defs _ _).mono (fun r h => ⟨fun c => (h c).2, Idealize.ShloMosaic.sem_eq_zero_of_no_sems (by decide) r.2⟩)
    (Cert.DwUpReferenceIdeal.Value.run (F := Ideal) m ρ)

theorem frame_DwDown : Cert.quiescent_DwDownReferenceIdeal := fun m ρ _ =>
  (θ_run Cert.DwDownReferenceIdeal.defs _ _).mono (fun r h => ⟨fun c => (h c).2, Idealize.ShloMosaic.sem_eq_zero_of_no_sems (by decide) r.2⟩)
    (Cert.DwDownReferenceIdeal.Value.run (F := Ideal) m ρ)

theorem frame_Dact : Cert.quiescent_DactReferenceIdeal := fun m ρ _ =>
  (θ_run Cert.DactReferenceIdeal.defs _ _).mono (fun r h => ⟨fun c => (h c).2, Idealize.ShloMosaic.sem_eq_zero_of_no_sems (by decide) r.2⟩)
    (Cert.DactReferenceIdeal.Value.run (F := Ideal) m ρ)

theorem frame_DhGate : Cert.quiescent_DhGateReferenceIdeal := fun m ρ _ =>
  (θ_run Cert.DhGateReferenceIdeal.defs _ _).mono (fun r h => ⟨fun c => (h c).2, Idealize.ShloMosaic.sem_eq_zero_of_no_sems (by decide) r.2⟩)
    (Cert.DhGateReferenceIdeal.Value.run (F := Ideal) m ρ)

theorem frame_DhValue : Cert.quiescent_DhValueReferenceIdeal := fun m ρ _ =>
  (θ_run Cert.DhValueReferenceIdeal.defs _ _).mono (fun r h => ⟨fun c => (h c).2, Idealize.ShloMosaic.sem_eq_zero_of_no_sems (by decide) r.2⟩)
    (Cert.DhValueReferenceIdeal.Value.run (F := Ideal) m ρ)

theorem frame_DwIn : Cert.quiescent_DwInReferenceIdeal := fun m ρ _ =>
  (θ_run Cert.DwInReferenceIdeal.defs _ _).mono (fun r h => ⟨fun c => (h c).2, Idealize.ShloMosaic.sem_eq_zero_of_no_sems (by decide) r.2⟩)
    (Cert.DwInReferenceIdeal.Value.run (F := Ideal) m ρ)

theorem frame_DhIn : Cert.quiescent_DhInReferenceIdeal := fun m ρ _ =>
  (θ_run Cert.DhInReferenceIdeal.defs _ _).mono (fun r h => ⟨fun c => (h c).2, Idealize.ShloMosaic.sem_eq_zero_of_no_sems (by decide) r.2⟩)
    (Cert.DhInReferenceIdeal.Value.run (F := Ideal) m ρ)

theorem frame_DwOut : Cert.quiescent_DwOutReferenceIdeal := fun m ρ _ =>
  (θ_run Cert.DwOutReferenceIdeal.defs _ _).mono (fun r h => ⟨fun c => (h c).2, Idealize.ShloMosaic.sem_eq_zero_of_no_sems (by decide) r.2⟩)
    (Cert.DwOutReferenceIdeal.Value.run (F := Ideal) m ρ)

theorem frame_Dycat : Cert.quiescent_DycatReferenceIdeal := fun m ρ _ =>
  (θ_run Cert.DycatReferenceIdeal.defs _ _).mono (fun r h => ⟨fun c => (h c).2, Idealize.ShloMosaic.sem_eq_zero_of_no_sems (by decide) r.2⟩)
    (Cert.DycatReferenceIdeal.Value.run (F := Ideal) m ρ)

theorem frame_MulIn : Cert.quiescent_MulInReferenceIdeal := fun m ρ _ =>
  (θ_run Cert.MulInReferenceIdeal.defs _ _).mono (fun r h => ⟨fun c => (h c).2, Idealize.ShloMosaic.sem_eq_zero_of_no_sems (by decide) r.2⟩)
    (Cert.MulInReferenceIdeal.Value.run (F := Ideal) m ρ)

theorem frame_MulOut : Cert.quiescent_MulOutReferenceIdeal := fun m ρ _ =>
  (θ_run Cert.MulOutReferenceIdeal.defs _ _).mono (fun r h => ⟨fun c => (h c).2, Idealize.ShloMosaic.sem_eq_zero_of_no_sems (by decide) r.2⟩)
    (Cert.MulOutReferenceIdeal.Value.run (F := Ideal) m ρ)

theorem frame_MulUp : Cert.quiescent_MulUpReferenceIdeal := fun m ρ _ =>
  (θ_run Cert.MulUpReferenceIdeal.defs _ _).mono (fun r h => ⟨fun c => (h c).2, Idealize.ShloMosaic.sem_eq_zero_of_no_sems (by decide) r.2⟩)
    (Cert.MulUpReferenceIdeal.Value.run (F := Ideal) m ρ)

theorem frame_MulDown : Cert.quiescent_MulDownReferenceIdeal := fun m ρ _ =>
  (θ_run Cert.MulDownReferenceIdeal.defs _ _).mono (fun r h => ⟨fun c => (h c).2, Idealize.ShloMosaic.sem_eq_zero_of_no_sems (by decide) r.2⟩)
    (Cert.MulDownReferenceIdeal.Value.run (F := Ideal) m ρ)

theorem frame_MulUq : Cert.quiescent_MulUqReferenceIdeal := fun m ρ _ =>
  (θ_run Cert.MulUqReferenceIdeal.defs _ _).mono (fun r h => ⟨fun c => (h c).2, Idealize.ShloMosaic.sem_eq_zero_of_no_sems (by decide) r.2⟩)
    (Cert.MulUqReferenceIdeal.Value.run (F := Ideal) m ρ)

theorem frame_MulUkv : Cert.quiescent_MulUkvReferenceIdeal := fun m ρ _ =>
  (θ_run Cert.MulUkvReferenceIdeal.defs _ _).mono (fun r h => ⟨fun c => (h c).2, Idealize.ShloMosaic.sem_eq_zero_of_no_sems (by decide) r.2⟩)
    (Cert.MulUkvReferenceIdeal.Value.run (F := Ideal) m ρ)

theorem frame_DwUk : Cert.quiescent_DwUkReferenceIdeal := fun m ρ _ =>
  (θ_run Cert.DwUkReferenceIdeal.defs _ _).mono (fun r h => ⟨fun c => (h c).2, Idealize.ShloMosaic.sem_eq_zero_of_no_sems (by decide) r.2⟩)
    (Cert.DwUkReferenceIdeal.Value.run (F := Ideal) m ρ)

theorem frame_DkvnKey : Cert.quiescent_DkvnKeyReferenceIdeal := fun m ρ _ =>
  (θ_run Cert.DkvnKeyReferenceIdeal.defs _ _).mono (fun r h => ⟨fun c => (h c).2, Idealize.ShloMosaic.sem_eq_zero_of_no_sems (by decide) r.2⟩)
    (Cert.DkvnKeyReferenceIdeal.Value.run (F := Ideal) m ρ)

theorem frame_DkvnValue : Cert.quiescent_DkvnValueReferenceIdeal := fun m ρ _ =>
  (θ_run Cert.DkvnValueReferenceIdeal.defs _ _).mono (fun r h => ⟨fun c => (h c).2, Idealize.ShloMosaic.sem_eq_zero_of_no_sems (by decide) r.2⟩)
    (Cert.DkvnValueReferenceIdeal.Value.run (F := Ideal) m ρ)

theorem frame_DwUq : Cert.quiescent_DwUqReferenceIdeal := fun m ρ _ =>
  (θ_run Cert.DwUqReferenceIdeal.defs _ _).mono (fun r h => ⟨fun c => (h c).2, Idealize.ShloMosaic.sem_eq_zero_of_no_sems (by decide) r.2⟩)
    (Cert.DwUqReferenceIdeal.Value.run (F := Ideal) m ρ)

theorem frame_Dqn : Cert.quiescent_DqnReferenceIdeal := fun m ρ _ =>
  (θ_run Cert.DqnReferenceIdeal.defs _ _).mono (fun r h => ⟨fun c => (h c).2, Idealize.ShloMosaic.sem_eq_zero_of_no_sems (by decide) r.2⟩)
    (Cert.DqnReferenceIdeal.Value.run (F := Ideal) m ρ)

theorem frame_Norm : Cert.quiescent_NormReferenceIdeal := fun m ρ _ =>
  (θ_run Cert.NormReferenceIdeal.defs _ _).mono (fun r h => ⟨fun c => (h c).2.2.2, Idealize.ShloMosaic.sem_eq_zero_of_no_sems (by decide) r.2⟩)
    (Cert.NormReferenceIdeal.Value.run (F := Ideal) m ρ)

theorem frame_Dgate : Cert.quiescent_DgateReferenceIdeal := fun m ρ _ =>
  (θ_run Cert.DgateReferenceIdeal.defs _ _).mono (fun r h => ⟨fun c => (h c).2.2.2, Idealize.ShloMosaic.sem_eq_zero_of_no_sems (by decide) r.2⟩)
    (Cert.DgateReferenceIdeal.Value.run (F := Ideal) m ρ)

theorem frame_Dcq : Cert.quiescent_DcqReferenceIdeal := fun m ρ _ =>
  (θ_run Cert.DcqReferenceIdeal.defs _ _).mono (fun r h => ⟨fun c => (h c).2.2, Idealize.ShloMosaic.sem_eq_zero_of_no_sems (by decide) r.2⟩)
    (Cert.DcqReferenceIdeal.Value.run (F := Ideal) m ρ)

theorem frame_Dckv : Cert.quiescent_DckvReferenceIdeal := fun m ρ _ =>
  (θ_run Cert.DckvReferenceIdeal.defs _ _).mono (fun r h => ⟨fun c => (h c).2.2, Idealize.ShloMosaic.sem_eq_zero_of_no_sems (by decide) r.2⟩)
    (Cert.DckvReferenceIdeal.Value.run (F := Ideal) m ρ)

theorem claim : Cert.Claim := ⟨Cert.Kernel.Gen.facts, Cert.KernelIdeal.Gen.facts, Cert.ReferenceIdeal.Gen.facts,
  Cert.Forward.Gen.facts, Cert.ForwardIdeal.Gen.facts, Cert.ForwardReferenceIdeal.Gen.facts,
  Cert.DwUp.Gen.facts, Cert.DwUpIdeal.Gen.facts, Cert.DwUpReferenceIdeal.Gen.facts,
  Cert.DwDown.Gen.facts, Cert.DwDownIdeal.Gen.facts, Cert.DwDownReferenceIdeal.Gen.facts,
  Cert.Dact.Gen.facts, Cert.DactIdeal.Gen.facts, Cert.DactReferenceIdeal.Gen.facts,
  Cert.DhGate.Gen.facts, Cert.DhGateIdeal.Gen.facts, Cert.DhGateReferenceIdeal.Gen.facts,
  Cert.DhValue.Gen.facts, Cert.DhValueIdeal.Gen.facts, Cert.DhValueReferenceIdeal.Gen.facts,
  Cert.DwIn.Gen.facts, Cert.DwInIdeal.Gen.facts, Cert.DwInReferenceIdeal.Gen.facts,
  Cert.DhIn.Gen.facts, Cert.DhInIdeal.Gen.facts, Cert.DhInReferenceIdeal.Gen.facts,
  Cert.DwOut.Gen.facts, Cert.DwOutIdeal.Gen.facts, Cert.DwOutReferenceIdeal.Gen.facts,
  Cert.Dycat.Gen.facts, Cert.DycatIdeal.Gen.facts, Cert.DycatReferenceIdeal.Gen.facts,
  Cert.MulIn.Gen.facts, Cert.MulInIdeal.Gen.facts, Cert.MulInReferenceIdeal.Gen.facts,
  Cert.MulOut.Gen.facts, Cert.MulOutIdeal.Gen.facts, Cert.MulOutReferenceIdeal.Gen.facts,
  Cert.MulUp.Gen.facts, Cert.MulUpIdeal.Gen.facts, Cert.MulUpReferenceIdeal.Gen.facts,
  Cert.MulDown.Gen.facts, Cert.MulDownIdeal.Gen.facts, Cert.MulDownReferenceIdeal.Gen.facts,
  Cert.MulUq.Gen.facts, Cert.MulUqIdeal.Gen.facts, Cert.MulUqReferenceIdeal.Gen.facts,
  Cert.MulUkv.Gen.facts, Cert.MulUkvIdeal.Gen.facts, Cert.MulUkvReferenceIdeal.Gen.facts,
  Cert.DwUk.Gen.facts, Cert.DwUkIdeal.Gen.facts, Cert.DwUkReferenceIdeal.Gen.facts,
  Cert.DkvnKey.Gen.facts, Cert.DkvnKeyIdeal.Gen.facts, Cert.DkvnKeyReferenceIdeal.Gen.facts,
  Cert.DkvnValue.Gen.facts, Cert.DkvnValueIdeal.Gen.facts, Cert.DkvnValueReferenceIdeal.Gen.facts,
  Cert.DwUq.Gen.facts, Cert.DwUqIdeal.Gen.facts, Cert.DwUqReferenceIdeal.Gen.facts,
  Cert.Dqn.Gen.facts, Cert.DqnIdeal.Gen.facts, Cert.DqnReferenceIdeal.Gen.facts,
  Cert.Norm.Gen.facts, Cert.NormIdeal.Gen.facts, Cert.NormReferenceIdeal.Gen.facts,
  Cert.Dgate.Gen.facts, Cert.DgateIdeal.Gen.facts, Cert.DgateReferenceIdeal.Gen.facts,
  Cert.Dcq.Gen.facts, Cert.DcqIdeal.Gen.facts, Cert.DcqReferenceIdeal.Gen.facts,
  Cert.Dckv.Gen.facts, Cert.DckvIdeal.Gen.facts, Cert.DckvReferenceIdeal.Gen.facts,
  Cert.BackClaim.pre_facts, Cert.ForwardClaim.pre_facts, Cert.DgateIdeal.Val.pre_facts,
  frame_p, frame_pi, fun m ρ _ => Cert.KernelIdeal.Back.frame m ρ, frame_ri, fun m ρ _ => frame_ri m ρ trivial,
  frame_p2, frame_pi2, fun m ρ _ => Cert.ForwardIdeal.Gen.frame m ρ, frame_ri2, fun m ρ _ => frame_ri2 m ρ trivial,
  fun m ρ _ => Cert.DwUp.Gen.frame m ρ, fun m ρ _ => Cert.DwUpIdeal.Gen.frame m ρ, frame_DwUp,
  fun m ρ _ => Cert.DwDown.Gen.frame m ρ, fun m ρ _ => Cert.DwDownIdeal.Gen.frame m ρ, frame_DwDown,
  fun m ρ _ => Cert.Dact.Gen.frame m ρ, fun m ρ _ => Cert.DactIdeal.Gen.frame m ρ, frame_Dact,
  fun m ρ _ => Cert.DhGate.Gen.frame m ρ, fun m ρ _ => Cert.DhGateIdeal.Gen.frame m ρ, frame_DhGate,
  fun m ρ _ => Cert.DhValue.Gen.frame m ρ, fun m ρ _ => Cert.DhValueIdeal.Gen.frame m ρ, frame_DhValue,
  fun m ρ _ => Cert.DwIn.Gen.frame m ρ, fun m ρ _ => Cert.DwInIdeal.Gen.frame m ρ, frame_DwIn,
  fun m ρ _ => Cert.DhIn.Gen.frame m ρ, fun m ρ _ => Cert.DhInIdeal.Gen.frame m ρ, frame_DhIn,
  fun m ρ _ => Cert.DwOut.Gen.frame m ρ, fun m ρ _ => Cert.DwOutIdeal.Gen.frame m ρ, frame_DwOut,
  fun m ρ _ => Cert.Dycat.Gen.frame m ρ, fun m ρ _ => Cert.DycatIdeal.Gen.frame m ρ, frame_Dycat,
  fun m ρ _ => Cert.MulIn.Gen.frame m ρ, fun m ρ _ => Cert.MulInIdeal.Gen.frame m ρ, frame_MulIn,
  fun m ρ _ => Cert.MulOut.Gen.frame m ρ, fun m ρ _ => Cert.MulOutIdeal.Gen.frame m ρ, frame_MulOut,
  fun m ρ _ => Cert.MulUp.Gen.frame m ρ, fun m ρ _ => Cert.MulUpIdeal.Gen.frame m ρ, frame_MulUp,
  fun m ρ _ => Cert.MulDown.Gen.frame m ρ, fun m ρ _ => Cert.MulDownIdeal.Gen.frame m ρ, frame_MulDown,
  fun m ρ _ => Cert.MulUq.Gen.frame m ρ, fun m ρ _ => Cert.MulUqIdeal.Gen.frame m ρ, frame_MulUq,
  fun m ρ _ => Cert.MulUkv.Gen.frame m ρ, fun m ρ _ => Cert.MulUkvIdeal.Gen.frame m ρ, frame_MulUkv,
  fun m ρ _ => Cert.DwUk.Gen.frame m ρ, fun m ρ _ => Cert.DwUkIdeal.Gen.frame m ρ, frame_DwUk,
  fun m ρ _ => Cert.DkvnKey.Gen.frame m ρ, fun m ρ _ => Cert.DkvnKeyIdeal.Gen.frame m ρ, frame_DkvnKey,
  fun m ρ _ => Cert.DkvnValue.Gen.frame m ρ, fun m ρ _ => Cert.DkvnValueIdeal.Gen.frame m ρ, frame_DkvnValue,
  fun m ρ _ => Cert.DwUq.Gen.frame m ρ, fun m ρ _ => Cert.DwUqIdeal.Gen.frame m ρ, frame_DwUq,
  fun m ρ _ => Cert.Dqn.Gen.frame m ρ, fun m ρ _ => Cert.DqnIdeal.Gen.frame m ρ, frame_Dqn,
  fun m ρ _ => Cert.Norm.Gen.frame m ρ, fun m ρ _ => Cert.NormIdeal.Gen.frame m ρ, frame_Norm,
  fun m ρ _ => Cert.Dgate.Gen.frame m ρ, fun m ρ _ => Cert.DgateIdeal.Gen.frame m ρ, fun m ρ _ => Cert.DgateIdeal.Gen.frame m ρ, frame_Dgate, fun m ρ _ => frame_Dgate m ρ trivial,
  fun m ρ _ => Cert.Dcq.Gen.frame m ρ, fun m ρ _ => Cert.DcqIdeal.Gen.frame m ρ, frame_Dcq,
  fun m ρ _ => Cert.Dckv.Gen.frame m ρ, fun m ρ _ => Cert.DckvIdeal.Gen.frame m ρ, frame_Dckv,
  IdealRules.named_const.statement Cert.KernelIdeal.κ "mask" .f32 0xF149F2CA#32 ⊥ rfl,
  Cert.BackClaim.algebraic (hPre := Cert.BackClaim.pre_facts),
  IdealRules.named_const.statement Cert.ForwardIdeal.κ "mask" .f32 0xF149F2CA#32 ⊥ rfl,
  Cert.ForwardClaim.algebraic (hPre := Cert.ForwardClaim.pre_facts),
  trivial, Cert.DwUpIdeal.Val.algebraic,
  trivial, Cert.DwDownIdeal.Val.algebraic,
  trivial, Cert.DactIdeal.Val.algebraic,
  trivial, Cert.DhGateIdeal.Val.algebraic,
  trivial, Cert.DhValueIdeal.Val.algebraic,
  trivial, Cert.DwInIdeal.Val.algebraic,
  trivial, Cert.DhInIdeal.Val.algebraic,
  trivial, Cert.DwOutIdeal.Val.algebraic,
  trivial, Cert.DycatIdeal.Val.algebraic,
  trivial, Cert.MulInIdeal.Val.algebraic,
  trivial, Cert.MulOutIdeal.Val.algebraic,
  trivial, Cert.MulUpIdeal.Val.algebraic,
  trivial, Cert.MulDownIdeal.Val.algebraic,
  trivial, Cert.MulUqIdeal.Val.algebraic,
  trivial, Cert.MulUkvIdeal.Val.algebraic,
  trivial, Cert.DwUkIdeal.Val.algebraic,
  trivial, Cert.DkvnKeyIdeal.Val.algebraic,
  trivial, Cert.DkvnValueIdeal.Val.algebraic,
  trivial, Cert.DwUqIdeal.Val.algebraic,
  trivial, Cert.DqnIdeal.Val.algebraic,
  trivial, Cert.NormIdeal.Val.algebraic,
  trivial, Cert.DgateIdeal.Val.algebraic (hPre := Cert.DgateIdeal.Val.pre_facts),
  trivial, Cert.DcqIdeal.Val.algebraic,
  trivial, Cert.DckvIdeal.Val.algebraic⟩

end Cert.Proof

end
